-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_all_finite2 [hPre_all_finite2 : Cert.Pre_all_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_all_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_all_finite2 [hPre_all_finite2 : Cert.Pre_all_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_all_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_all_finite8 [hPre_all_finite8 : Cert.Pre_all_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_all_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_all_finite8 [hPre_all_finite8 : Cert.Pre_all_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_all_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_all_finite2 [hKernel2Ideal : Cert.Kernel2Ideal.Facts] [hPre_all_finite2 : Cert.Pre_all_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_all_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_all_finite2 [hReference2Ideal : Cert.Reference2Ideal.Facts] [hPre_all_finite2 : Cert.Pre_all_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_all_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Kernel8Ideal_pre_all_finite8 [hKernel8Ideal : Cert.Kernel8Ideal.Facts] [hPre_all_finite8 : Cert.Pre_all_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_all_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Reference8Ideal_pre_all_finite8 [hReference8Ideal : Cert.Reference8Ideal.Facts] [hPre_all_finite8 : Cert.Pre_all_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_all_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def preserves_Kernel_KernelIdeal : Prop :=
  True

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)) (v2 : (c : Dev Cert.KernelIdeal.nD) → Buf (Elt Ideal) ((c.tc : Thread Cert.KernelIdeal.nD Cert.KernelIdeal.τ).loc Cert.KernelIdeal.main_v15_2)) (v3 : (c : Dev Cert.KernelIdeal.nD) → Buf (Elt Ideal) ((c.tc : Thread Cert.KernelIdeal.nD Cert.KernelIdeal.τ).loc Cert.KernelIdeal.main_v15_3)) (v4 : (c : Dev Cert.KernelIdeal.nD) → Buf (Elt Ideal) ((c.tc : Thread Cert.KernelIdeal.nD Cert.KernelIdeal.τ).loc Cert.KernelIdeal.main_v15_4)) (v5 : (c : Dev Cert.KernelIdeal.nD) → Buf (Elt Ideal) ((c.tc : Thread Cert.KernelIdeal.nD Cert.KernelIdeal.τ).loc Cert.KernelIdeal.main_v15_5)) (v6 : (c : Dev Cert.KernelIdeal.nD) → Buf (Elt Ideal) ((c.tc : Thread Cert.KernelIdeal.nD Cert.KernelIdeal.τ).loc Cert.KernelIdeal.main_v15_6)) (v7 : (c : Dev Cert.KernelIdeal.nD) → Buf (Elt Ideal) ((c.tc : Thread Cert.KernelIdeal.nD Cert.KernelIdeal.τ).loc Cert.KernelIdeal.main_v15_7)) (v8 : (c : Dev Cert.KernelIdeal.nD) → Buf (Elt Ideal) ((c.tc : Thread Cert.KernelIdeal.nD Cert.KernelIdeal.τ).loc Cert.KernelIdeal.main_v15_8)) (v9 : (c : Dev Cert.KernelIdeal.nD) → Buf (Elt Ideal) ((c.tc : Thread Cert.KernelIdeal.nD Cert.KernelIdeal.τ).loc Cert.KernelIdeal.main_v15_9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_v15_2) = v2 c
          ∧ r.2.mem ((c.tc : Thread Cert.KernelIdeal.nD Cert.KernelIdeal.τ).loc Cert.KernelIdeal.main_v15_3) = v3 c
          ∧ r.2.mem ((c.tc : Thread Cert.KernelIdeal.nD Cert.KernelIdeal.τ).loc Cert.KernelIdeal.main_v15_4) = v4 c
          ∧ r.2.mem ((c.tc : Thread Cert.KernelIdeal.nD Cert.KernelIdeal.τ).loc Cert.KernelIdeal.main_v15_5) = v5 c
          ∧ r.2.mem ((c.tc : Thread Cert.KernelIdeal.nD Cert.KernelIdeal.τ).loc Cert.KernelIdeal.main_v15_6) = v6 c
          ∧ r.2.mem ((c.tc : Thread Cert.KernelIdeal.nD Cert.KernelIdeal.τ).loc Cert.KernelIdeal.main_v15_7) = v7 c
          ∧ r.2.mem ((c.tc : Thread Cert.KernelIdeal.nD Cert.KernelIdeal.τ).loc Cert.KernelIdeal.main_v15_8) = v8 c
          ∧ r.2.mem ((c.tc : Thread Cert.KernelIdeal.nD Cert.KernelIdeal.τ).loc Cert.KernelIdeal.main_v15_9) = v9 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_v73) = v2 c
          ∧ r.2.mem ((c.tc : Thread Cert.ReferenceIdeal.nD Cert.ReferenceIdeal.τ).loc Cert.ReferenceIdeal.main_v74) = v3 c
          ∧ r.2.mem ((c.tc : Thread Cert.ReferenceIdeal.nD Cert.ReferenceIdeal.τ).loc Cert.ReferenceIdeal.main_v75) = v4 c
          ∧ r.2.mem ((c.tc : Thread Cert.ReferenceIdeal.nD Cert.ReferenceIdeal.τ).loc Cert.ReferenceIdeal.main_v76) = v5 c
          ∧ r.2.mem ((c.tc : Thread Cert.ReferenceIdeal.nD Cert.ReferenceIdeal.τ).loc Cert.ReferenceIdeal.main_v77) = v6 c
          ∧ r.2.mem ((c.tc : Thread Cert.ReferenceIdeal.nD Cert.ReferenceIdeal.τ).loc Cert.ReferenceIdeal.main_v78) = v7 c
          ∧ r.2.mem ((c.tc : Thread Cert.ReferenceIdeal.nD Cert.ReferenceIdeal.τ).loc Cert.ReferenceIdeal.main_v79) = v8 c
          ∧ r.2.mem ((c.tc : Thread Cert.ReferenceIdeal.nD Cert.ReferenceIdeal.τ).loc Cert.ReferenceIdeal.main_v80) = v9 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal_pre_all_finite2 [hKernel2Ideal : Cert.Kernel2Ideal.Facts] [hReference2Ideal : Cert.Reference2Ideal.Facts] [hPre_all_finite2 : Cert.Pre_all_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_all_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v21_0)) (v1 : (c : Dev Cert.Kernel2Ideal.nD) → Buf (Elt Ideal) ((c.tc : Thread Cert.Kernel2Ideal.nD Cert.Kernel2Ideal.τ).loc Cert.Kernel2Ideal.main_v21_1)) (v2 : (c : Dev Cert.Kernel2Ideal.nD) → Buf (Elt Ideal) ((c.tc : Thread Cert.Kernel2Ideal.nD Cert.Kernel2Ideal.τ).loc Cert.Kernel2Ideal.main_v21_2)) (v3 : (c : Dev Cert.Kernel2Ideal.nD) → Buf (Elt Ideal) ((c.tc : Thread Cert.Kernel2Ideal.nD Cert.Kernel2Ideal.τ).loc Cert.Kernel2Ideal.main_v21_3)) (v4 : (c : Dev Cert.Kernel2Ideal.nD) → Buf (Elt Ideal) ((c.tc : Thread Cert.Kernel2Ideal.nD Cert.Kernel2Ideal.τ).loc Cert.Kernel2Ideal.main_v21_4)) (v5 : (c : Dev Cert.Kernel2Ideal.nD) → Buf (Elt Ideal) ((c.tc : Thread Cert.Kernel2Ideal.nD Cert.Kernel2Ideal.τ).loc Cert.Kernel2Ideal.main_v21_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v21_0) = v0 c
          ∧ r.2.mem ((c.tc : Thread Cert.Kernel2Ideal.nD Cert.Kernel2Ideal.τ).loc Cert.Kernel2Ideal.main_v21_1) = v1 c
          ∧ r.2.mem ((c.tc : Thread Cert.Kernel2Ideal.nD Cert.Kernel2Ideal.τ).loc Cert.Kernel2Ideal.main_v21_2) = v2 c
          ∧ r.2.mem ((c.tc : Thread Cert.Kernel2Ideal.nD Cert.Kernel2Ideal.τ).loc Cert.Kernel2Ideal.main_v21_3) = v3 c
          ∧ r.2.mem ((c.tc : Thread Cert.Kernel2Ideal.nD Cert.Kernel2Ideal.τ).loc Cert.Kernel2Ideal.main_v21_4) = v4 c
          ∧ r.2.mem ((c.tc : Thread Cert.Kernel2Ideal.nD Cert.Kernel2Ideal.τ).loc Cert.Kernel2Ideal.main_v21_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v62) = v0 c
          ∧ r.2.mem ((c.tc : Thread Cert.Reference2Ideal.nD Cert.Reference2Ideal.τ).loc Cert.Reference2Ideal.main_v63) = v1 c
          ∧ r.2.mem ((c.tc : Thread Cert.Reference2Ideal.nD Cert.Reference2Ideal.τ).loc Cert.Reference2Ideal.main_v66) = v2 c
          ∧ r.2.mem ((c.tc : Thread Cert.Reference2Ideal.nD Cert.Reference2Ideal.τ).loc Cert.Reference2Ideal.main_v69) = v3 c
          ∧ r.2.mem ((c.tc : Thread Cert.Reference2Ideal.nD Cert.Reference2Ideal.τ).loc Cert.Reference2Ideal.main_v72) = v4 c
          ∧ r.2.mem ((c.tc : Thread Cert.Reference2Ideal.nD Cert.Reference2Ideal.τ).loc Cert.Reference2Ideal.main_v45) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v3_0)) (v1 : (c : Dev Cert.Kernel4Ideal.nD) → Buf (Elt Ideal) ((c.tc : Thread Cert.Kernel4Ideal.nD Cert.Kernel4Ideal.τ).loc Cert.Kernel4Ideal.main_v3_1)) (v2 : (c : Dev Cert.Kernel4Ideal.nD) → Buf (Elt Ideal) ((c.tc : Thread Cert.Kernel4Ideal.nD Cert.Kernel4Ideal.τ).loc Cert.Kernel4Ideal.main_v3_2)) (v3 : (c : Dev Cert.Kernel4Ideal.nD) → Buf (Elt Ideal) ((c.tc : Thread Cert.Kernel4Ideal.nD Cert.Kernel4Ideal.τ).loc Cert.Kernel4Ideal.main_v3_3)) (v4 : (c : Dev Cert.Kernel4Ideal.nD) → Buf (Elt Ideal) ((c.tc : Thread Cert.Kernel4Ideal.nD Cert.Kernel4Ideal.τ).loc Cert.Kernel4Ideal.main_v3_4)) (v5 : (c : Dev Cert.Kernel4Ideal.nD) → Buf (Elt Ideal) ((c.tc : Thread Cert.Kernel4Ideal.nD Cert.Kernel4Ideal.τ).loc Cert.Kernel4Ideal.main_v3_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3_0) = v0 c
          ∧ r.2.mem ((c.tc : Thread Cert.Kernel4Ideal.nD Cert.Kernel4Ideal.τ).loc Cert.Kernel4Ideal.main_v3_1) = v1 c
          ∧ r.2.mem ((c.tc : Thread Cert.Kernel4Ideal.nD Cert.Kernel4Ideal.τ).loc Cert.Kernel4Ideal.main_v3_2) = v2 c
          ∧ r.2.mem ((c.tc : Thread Cert.Kernel4Ideal.nD Cert.Kernel4Ideal.τ).loc Cert.Kernel4Ideal.main_v3_3) = v3 c
          ∧ r.2.mem ((c.tc : Thread Cert.Kernel4Ideal.nD Cert.Kernel4Ideal.τ).loc Cert.Kernel4Ideal.main_v3_4) = v4 c
          ∧ r.2.mem ((c.tc : Thread Cert.Kernel4Ideal.nD Cert.Kernel4Ideal.τ).loc Cert.Kernel4Ideal.main_v3_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v73) = v0 c
          ∧ r.2.mem ((c.tc : Thread Cert.Reference4Ideal.nD Cert.Reference4Ideal.τ).loc Cert.Reference4Ideal.main_v74) = v1 c
          ∧ r.2.mem ((c.tc : Thread Cert.Reference4Ideal.nD Cert.Reference4Ideal.τ).loc Cert.Reference4Ideal.main_v77) = v2 c
          ∧ r.2.mem ((c.tc : Thread Cert.Reference4Ideal.nD Cert.Reference4Ideal.τ).loc Cert.Reference4Ideal.main_v80) = v3 c
          ∧ r.2.mem ((c.tc : Thread Cert.Reference4Ideal.nD Cert.Reference4Ideal.τ).loc Cert.Reference4Ideal.main_v81) = v4 c
          ∧ r.2.mem ((c.tc : Thread Cert.Reference4Ideal.nD Cert.Reference4Ideal.τ).loc Cert.Reference4Ideal.main_v57) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)) (v2 : (c : Dev Cert.Kernel5Ideal.nD) → Buf (Elt Ideal) ((c.tc : Thread Cert.Kernel5Ideal.nD Cert.Kernel5Ideal.τ).loc Cert.Kernel5Ideal.main_v2_2)) (v3 : (c : Dev Cert.Kernel5Ideal.nD) → Buf (Elt Ideal) ((c.tc : Thread Cert.Kernel5Ideal.nD Cert.Kernel5Ideal.τ).loc Cert.Kernel5Ideal.main_v2_3)) (v4 : (c : Dev Cert.Kernel5Ideal.nD) → Buf (Elt Ideal) ((c.tc : Thread Cert.Kernel5Ideal.nD Cert.Kernel5Ideal.τ).loc Cert.Kernel5Ideal.main_v2_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_v2_2) = v2 c
          ∧ r.2.mem ((c.tc : Thread Cert.Kernel5Ideal.nD Cert.Kernel5Ideal.τ).loc Cert.Kernel5Ideal.main_v2_3) = v3 c
          ∧ r.2.mem ((c.tc : Thread Cert.Kernel5Ideal.nD Cert.Kernel5Ideal.τ).loc Cert.Kernel5Ideal.main_v2_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v17) = v0 c
          ∧ r.2.mem ((c.tc : Thread Cert.Reference5Ideal.nD Cert.Reference5Ideal.τ).loc Cert.Reference5Ideal.main_v13) = v1 c
          ∧ r.2.mem ((c.tc : Thread Cert.Reference5Ideal.nD Cert.Reference5Ideal.τ).loc Cert.Reference5Ideal.main_v14) = v2 c
          ∧ r.2.mem ((c.tc : Thread Cert.Reference5Ideal.nD Cert.Reference5Ideal.τ).loc Cert.Reference5Ideal.main_v18) = v3 c
          ∧ r.2.mem ((c.tc : Thread Cert.Reference5Ideal.nD Cert.Reference5Ideal.τ).loc Cert.Reference5Ideal.main_v16) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal_pre_all_finite8 [hKernel8Ideal : Cert.Kernel8Ideal.Facts] [hReference8Ideal : Cert.Reference8Ideal.Facts] [hPre_all_finite8 : Cert.Pre_all_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_all_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v46) = v0 c
          ∧ r.2.mem ((c.tc : Thread Cert.Reference8Ideal.nD Cert.Reference8Ideal.τ).loc Cert.Reference8Ideal.main_v49) = v1 c
          ∧ r.2.mem ((c.tc : Thread Cert.Reference8Ideal.nD Cert.Reference8Ideal.τ).loc Cert.Reference8Ideal.main_v31) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v19) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v7) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_all_finite : Cert.Pre_all_finite.Facts) (hPre_all_finite2 : Cert.Pre_all_finite2.Facts) (hPre_all_finite8 : Cert.Pre_all_finite8.Facts),
    quiescent_Kernel (hKernel := hKernel)
    ∧ quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ quiescent_Kernel2 (hKernel2 := hKernel2)
    ∧ quiescent_Kernel2Ideal (hKernel2Ideal := hKernel2Ideal)
    ∧ quiescent_Kernel2Ideal_pre_all_finite2 (hKernel2Ideal := hKernel2Ideal) (hPre_all_finite2 := hPre_all_finite2)
    ∧ quiescent_Reference2Ideal (hReference2Ideal := hReference2Ideal)
    ∧ quiescent_Reference2Ideal_pre_all_finite2 (hReference2Ideal := hReference2Ideal) (hPre_all_finite2 := hPre_all_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_all_finite8 (hKernel8Ideal := hKernel8Ideal) (hPre_all_finite8 := hPre_all_finite8)
    ∧ quiescent_Reference8Ideal (hReference8Ideal := hReference8Ideal)
    ∧ quiescent_Reference8Ideal_pre_all_finite8 (hReference8Ideal := hReference8Ideal) (hPre_all_finite8 := hPre_all_finite8)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal_pre_all_finite (hKernelIdeal := hKernelIdeal) (hReferenceIdeal := hReferenceIdeal) (hPre_all_finite := hPre_all_finite)
    ∧ preserves_Kernel2_Kernel2Ideal
    ∧ algebraic_Kernel2Ideal_Reference2Ideal_pre_all_finite2 (hKernel2Ideal := hKernel2Ideal) (hReference2Ideal := hReference2Ideal) (hPre_all_finite2 := hPre_all_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_all_finite8 (hKernel8Ideal := hKernel8Ideal) (hReference8Ideal := hReference8Ideal) (hPre_all_finite8 := hPre_all_finite8)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_all_finite.lean ====
abbrev S8192x512 : Shape := ⟨2, ![8192, 512]⟩
abbrev S128x8x128x128 : Shape := ⟨4, ![128, 8, 128, 128]⟩
abbrev S128x8x64x128 : Shape := ⟨4, ![128, 8, 64, 128]⟩
abbrev S128x8x64x64 : Shape := ⟨4, ![128, 8, 64, 64]⟩
abbrev S128x8 : Shape := ⟨2, ![128, 8]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S128x8x128x128 : S_.BroadcastsInDim S128x8x128x128 (![] : Fin 0 → Fin S128x8x128x128.rank)
  reducesTo_S128x8x128x128_S_d0_1_2_3 : S128x8x128x128.ReducesTo [0, 1, 2, 3] S_
  bcast_S_S128x8x64x128 : S_.BroadcastsInDim S128x8x64x128 (![] : Fin 0 → Fin S128x8x64x128.rank)
  reducesTo_S128x8x64x128_S_d0_1_2_3 : S128x8x64x128.ReducesTo [0, 1, 2, 3] S_
  bcast_S_S128x8x64x64 : S_.BroadcastsInDim S128x8x64x64 (![] : Fin 0 → Fin S128x8x64x64.rank)
  reducesTo_S128x8x64x64_S_d0_1_2_3 : S128x8x64x64.ReducesTo [0, 1, 2, 3] S_
  bcast_S_S128x8 : S_.BroadcastsInDim S128x8 (![] : Fin 0 → Fin S128x8.rank)
  reducesTo_S128x8_S_d0_1 : S128x8.ReducesTo [0, 1] S_

variable [Facts]

def fn_part2 {F : FTy → Type} [FloatOps F] (main_arg7 : FVec F S128x8 .f32) (main_v33 : IVec S_ 1) : IVec S_ 1 :=
  let main_v34 : FVec F S128x8 .f32 := Host.absf main_arg7
  let main_cst_12 : FVec F S_ .f32 := constant S_ .f32 0x7F800000#32
  let main_v35 : FVec F S128x8 .f32 := broadcastInDim S128x8 ![] bcast_S_S128x8 main_cst_12
  let main_v36 : IVec S128x8 1 := cmpf .olt main_v34 main_v35
  let main_c_13 : IVec S_ 1 := constantI S_ 1 1#1
  let main_v37 : IVec S_ 1 := (fun x v => Host.reduce IntOp.andi x v reducesTo_S128x8_S_d0_1 h_S_) main_v36 main_c_13
  let main_v38 : IVec S_ 1 := andi main_v33 main_v37
  main_v38

def fn_part1 {F : FTy → Type} [FloatOps F] (main_arg4 : FVec F S128x8x64x128 .f32) (main_arg5 : FVec F S128x8x64x64 .f32) (main_arg6 : FVec F S128x8x64x128 .f32) (main_arg7 : FVec F S128x8 .f32) (main_v13 : IVec S_ 1) (main_v16 : IVec S128x8x64x128 1) : IVec S_ 1 :=
  let main_c_5 : IVec S_ 1 := constantI S_ 1 1#1
  let main_v17 : IVec S_ 1 := (fun x v => Host.reduce IntOp.andi x v reducesTo_S128x8x64x128_S_d0_1_2_3 h_S_) main_v16 main_c_5
  let main_v18 : IVec S_ 1 := andi main_v13 main_v17
  let main_v19 : FVec F S128x8x64x128 .f32 := Host.absf main_arg4
  let main_cst_6 : FVec F S_ .f32 := constant S_ .f32 0x7F800000#32
  let main_v20 : FVec F S128x8x64x128 .f32 := broadcastInDim S128x8x64x128 ![] bcast_S_S128x8x64x128 main_cst_6
  let main_v21 : IVec S128x8x64x128 1 := cmpf .olt main_v19 main_v20
  let main_c_7 : IVec S_ 1 := constantI S_ 1 1#1
  let main_v22 : IVec S_ 1 := (fun x v => Host.reduce IntOp.andi x v reducesTo_S128x8x64x128_S_d0_1_2_3 h_S_) main_v21 main_c_7
  let main_v23 : IVec S_ 1 := andi main_v18 main_v22
  let main_v24 : FVec F S128x8x64x64 .f32 := Host.absf main_arg5
  let main_cst_8 : FVec F S_ .f32 := constant S_ .f32 0x7F800000#32
  let main_v25 : FVec F S128x8x64x64 .f32 := broadcastInDim S128x8x64x64 ![] bcast_S_S128x8x64x64 main_cst_8
  let main_v26 : IVec S128x8x64x64 1 := cmpf .olt main_v24 main_v25
  let main_c_9 : IVec S_ 1 := constantI S_ 1 1#1
  let main_v27 : IVec S_ 1 := (fun x v => Host.reduce IntOp.andi x v reducesTo_S128x8x64x64_S_d0_1_2_3 h_S_) main_v26 main_c_9
  let main_v28 : IVec S_ 1 := andi main_v23 main_v27
  let main_v29 : FVec F S128x8x64x128 .f32 := Host.absf main_arg6
  let main_cst_10 : FVec F S_ .f32 := constant S_ .f32 0x7F800000#32
  let main_v30 : FVec F S128x8x64x128 .f32 := broadcastInDim S128x8x64x128 ![] bcast_S_S128x8x64x128 main_cst_10
  let main_v31 : IVec S128x8x64x128 1 := cmpf .olt main_v29 main_v30
  let main_c_11 : IVec S_ 1 := constantI S_ 1 1#1
  let main_v32 : IVec S_ 1 := (fun x v => Host.reduce IntOp.andi x v reducesTo_S128x8x64x128_S_d0_1_2_3 h_S_) main_v31 main_c_11
  let main_v33 : IVec S_ 1 := andi main_v28 main_v32
  fn_part2 (F := F) main_arg7 main_v33

def fn {F : FTy → Type} [FloatOps F] (main_arg0 : FVec F S8192x512 .f32) (main_arg1 : FVec F S128x8x128x128 .f32) (main_arg2 : FVec F S128x8x64x128 .f32) (main_arg3 : FVec F S128x8x64x128 .f32) (main_arg4 : FVec F S128x8x64x128 .f32) (main_arg5 : FVec F S128x8x64x64 .f32) (main_arg6 : FVec F S128x8x64x128 .f32) (main_arg7 : FVec F S128x8 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S128x8x128x128 .f32 := Host.absf main_arg1
  let main_cst_0 : FVec F S_ .f32 := constant S_ .f32 0x7F800000#32
  let main_v5 : FVec F S128x8x128x128 .f32 := broadcastInDim S128x8x128x128 ![] bcast_S_S128x8x128x128 main_cst_0
  let main_v6 : IVec S128x8x128x128 1 := cmpf .olt main_v4 main_v5
  let main_c_1 : IVec S_ 1 := constantI S_ 1 1#1
  let main_v7 : IVec S_ 1 := (fun x v => Host.reduce IntOp.andi x v reducesTo_S128x8x128x128_S_d0_1_2_3 h_S_) main_v6 main_c_1
  let main_v8 : IVec S_ 1 := andi main_v3 main_v7
  let main_v9 : FVec F S128x8x64x128 .f32 := Host.absf main_arg2
  let main_cst_2 : FVec F S_ .f32 := constant S_ .f32 0x7F800000#32
  let main_v10 : FVec F S128x8x64x128 .f32 := broadcastInDim S128x8x64x128 ![] bcast_S_S128x8x64x128 main_cst_2
  let main_v11 : IVec S128x8x64x128 1 := cmpf .olt main_v9 main_v10
  let main_c_3 : IVec S_ 1 := constantI S_ 1 1#1
  let main_v12 : IVec S_ 1 := (fun x v => Host.reduce IntOp.andi x v reducesTo_S128x8x64x128_S_d0_1_2_3 h_S_) main_v11 main_c_3
  let main_v13 : IVec S_ 1 := andi main_v8 main_v12
  let main_v14 : FVec F S128x8x64x128 .f32 := Host.absf main_arg3
  let main_cst_4 : FVec F S_ .f32 := constant S_ .f32 0x7F800000#32
  let main_v15 : FVec F S128x8x64x128 .f32 := broadcastInDim S128x8x64x128 ![] bcast_S_S128x8x64x128 main_cst_4
  let main_v16 : IVec S128x8x64x128 1 := cmpf .olt main_v14 main_v15
  fn_part1 (F := F) main_arg4 main_arg5 main_arg6 main_arg7 main_v13 main_v16
-- ==== Pre_all_finite2.lean ====
abbrev S8192x1024 : Shape := ⟨2, ![8192, 1024]⟩
abbrev S1x1024 : Shape := ⟨2, ![1, 1024]⟩
abbrev S4x704x1024 : Shape := ⟨3, ![4, 704, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S4x704x1024 : S_.BroadcastsInDim S4x704x1024 (![] : Fin 0 → Fin S4x704x1024.rank)
  reducesTo_S4x704x1024_S_d0_1_2 : S4x704x1024.ReducesTo [0, 1, 2] S_

variable [Facts]

def fn_part1 {F : FTy → Type} [FloatOps F] (main_arg4 : FVec F S4x704x1024 .f32) (main_arg5 : FVec F S4x704x1024 .f32) (main_v13 : IVec S_ 1) (main_v16 : IVec S4x704x1024 1) : IVec S_ 1 :=
  let main_c_5 : IVec S_ 1 := constantI S_ 1 1#1
  let main_v17 : IVec S_ 1 := (fun x v => Host.reduce IntOp.andi x v reducesTo_S4x704x1024_S_d0_1_2 h_S_) main_v16 main_c_5
  let main_v18 : IVec S_ 1 := andi main_v13 main_v17
  let main_v19 : FVec F S4x704x1024 .f32 := Host.absf main_arg4
  let main_cst_6 : FVec F S_ .f32 := constant S_ .f32 0x7F800000#32
  let main_v20 : FVec F S4x704x1024 .f32 := broadcastInDim S4x704x1024 ![] bcast_S_S4x704x1024 main_cst_6
  let main_v21 : IVec S4x704x1024 1 := cmpf .olt main_v19 main_v20
  let main_c_7 : IVec S_ 1 := constantI S_ 1 1#1
  let main_v22 : IVec S_ 1 := (fun x v => Host.reduce IntOp.andi x v reducesTo_S4x704x1024_S_d0_1_2 h_S_) main_v21 main_c_7
  let main_v23 : IVec S_ 1 := andi main_v18 main_v22
  let main_v24 : FVec F S4x704x1024 .f32 := Host.absf main_arg5
  let main_cst_8 : FVec F S_ .f32 := constant S_ .f32 0x7F800000#32
  let main_v25 : FVec F S4x704x1024 .f32 := broadcastInDim S4x704x1024 ![] bcast_S_S4x704x1024 main_cst_8
  let main_v26 : IVec S4x704x1024 1 := cmpf .olt main_v24 main_v25
  let main_c_9 : IVec S_ 1 := constantI S_ 1 1#1
  let main_v27 : IVec S_ 1 := (fun x v => Host.reduce IntOp.andi x v reducesTo_S4x704x1024_S_d0_1_2 h_S_) main_v26 main_c_9
  let main_v28 : IVec S_ 1 := andi main_v23 main_v27
  main_v28

def fn {F : FTy → Type} [FloatOps F] (main_arg0 : FVec F S8192x1024 .f32) (main_arg1 : FVec F S8192x1024 .f32) (main_arg2 : FVec F S1x1024 .f32) (main_arg3 : FVec F S4x704x1024 .f32) (main_arg4 : FVec F S4x704x1024 .f32) (main_arg5 : FVec F S4x704x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S4x704x1024 .f32 := Host.absf main_arg3
  let main_cst_4 : FVec F S_ .f32 := constant S_ .f32 0x7F800000#32
  let main_v15 : FVec F S4x704x1024 .f32 := broadcastInDim S4x704x1024 ![] bcast_S_S4x704x1024 main_cst_4
  let main_v16 : IVec S4x704x1024 1 := cmpf .olt main_v14 main_v15
  fn_part1 (F := F) main_arg4 main_arg5 main_v13 main_v16
-- ==== Pre_all_finite8.lean ====
abbrev S8192x512 : Shape := ⟨2, ![8192, 512]⟩
abbrev S1x128 : Shape := ⟨2, ![1, 128]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S1x128 : S_.BroadcastsInDim S1x128 (![] : Fin 0 → Fin S1x128.rank)
  reducesTo_S1x128_S_d0_1 : S1x128.ReducesTo [0, 1] S_

variable [Facts]

def fn_part1 {F : FTy → Type} [FloatOps F] (main_arg4 : FVec F S1x128 .f32) (main_v13 : IVec S_ 1) (main_v16 : IVec S8192x512 1) : IVec S_ 1 :=
  let main_c_5 : IVec S_ 1 := constantI S_ 1 1#1
  let main_v17 : IVec S_ 1 := (fun x v => Host.reduce IntOp.andi x v reducesTo_S8192x512_S_d0_1 h_S_) main_v16 main_c_5
  let main_v18 : IVec S_ 1 := andi main_v13 main_v17
  let main_v19 : FVec F S1x128 .f32 := Host.absf main_arg4
  let main_cst_6 : FVec F S_ .f32 := constant S_ .f32 0x7F800000#32
  let main_v20 : FVec F S1x128 .f32 := broadcastInDim S1x128 ![] bcast_S_S1x128 main_cst_6
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v18 main_v22
  main_v23

def fn {F : FTy → Type} [FloatOps F] (main_arg0 : FVec F S8192x512 .f32) (main_arg1 : FVec F S8192x512 .f32) (main_arg2 : FVec F S8192x512 .f32) (main_arg3 : FVec F S8192x512 .f32) (main_arg4 : FVec F S1x128 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S8192x512 .f32 := Host.absf main_arg2
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  let main_v14 : FVec F S8192x512 .f32 := Host.absf main_arg3
  let main_cst_4 : FVec F S_ .f32 := constant S_ .f32 0x7F800000#32
  let main_v15 : FVec F S8192x512 .f32 := broadcastInDim S8192x512 ![] bcast_S_S8192x512 main_cst_4
  let main_v16 : IVec S8192x512 1 := cmpf .olt main_v14 main_v15
  fn_part1 (F := F) main_arg4 main_v13 main_v16
-- ==== Kernel.lean ====
abbrev S8192x512 : Shape := ⟨2, ![8192, 512]⟩
abbrev S128x8x128x128 : Shape := ⟨4, ![128, 8, 128, 128]⟩
abbrev S128x8x64x128 : Shape := ⟨4, ![128, 8, 64, 128]⟩
abbrev S128x8x64x64 : Shape := ⟨4, ![128, 8, 64, 64]⟩
abbrev S128x8 : Shape := ⟨2, ![128, 8]⟩
abbrev S128x8x1 : Shape := ⟨3, ![128, 8, 1]⟩
abbrev S128x8x128 : Shape := ⟨3, ![128, 8, 128]⟩
abbrev S128x4x128x128 : Shape := ⟨4, ![128, 4, 128, 128]⟩
abbrev S128x4x64x128 : Shape := ⟨4, ![128, 4, 64, 128]⟩
abbrev S128x4x128 : Shape := ⟨3, ![128, 4, 128]⟩
abbrev S512x512 : Shape := ⟨2, ![512, 512]⟩
abbrev S8x4x128x128 : Shape := ⟨4, ![8, 4, 128, 128]⟩
abbrev S8x4x64x128 : Shape := ⟨4, ![8, 4, 64, 128]⟩
abbrev S8x4x64x64 : Shape := ⟨4, ![8, 4, 64, 64]⟩
abbrev S8x8x128 : Shape := ⟨3, ![8, 8, 128]⟩
abbrev S8x4x128 : Shape := ⟨3, ![8, 4, 128]⟩
abbrev S8x128x128 : Shape := ⟨3, ![8, 128, 128]⟩
abbrev S1x128x128 : Shape := ⟨3, ![1, 128, 128]⟩
abbrev S128x128 : Shape := ⟨2, ![128, 128]⟩
abbrev S1x1x128x128 : Shape := ⟨4, ![1, 1, 128, 128]⟩
abbrev S64x128 : Shape := ⟨2, ![64, 128]⟩
abbrev S1x1x64x64 : Shape := ⟨4, ![1, 1, 64, 64]⟩
abbrev S64x64 : Shape := ⟨2, ![64, 64]⟩
abbrev S1x1x64x128 : Shape := ⟨4, ![1, 1, 64, 128]⟩
abbrev S1x1x128 : Shape := ⟨3, ![1, 1, 128]⟩
abbrev S1x128 : Shape := ⟨2, ![1, 128]⟩
abbrev S128 : Shape := ⟨1, ![128]⟩
abbrev S128x1 : Shape := ⟨2, ![128, 1]⟩
abbrev S1 : Shape := ⟨1, ![1]⟩
abbrev S1x1 : Shape := ⟨2, ![1, 1]⟩

abbrev nBuf : Space → Nat
  | .hbm => 33
  | .vmem => 53
  | .smem => 0
  | _ => 0

abbrev bufTy : (tb : Table) → Fin (tcTables nBuf tb) → BufTy
  | .hbm, ⟨0, _⟩ => ⟨S8192x512, .f32⟩
  | .hbm, ⟨1, _⟩ => ⟨S128x8x128x128, .f32⟩
  | .hbm, ⟨2, _⟩ => ⟨S128x8x64x128, .f32⟩
  | .hbm, ⟨3, _⟩ => ⟨S128x8x64x128, .f32⟩
  | .hbm, ⟨4, _⟩ => ⟨S128x8x64x128, .f32⟩
  | .hbm, ⟨5, _⟩ => ⟨S128x8x64x64, .f32⟩
  | .hbm, ⟨6, _⟩ => ⟨S128x8x64x128, .f32⟩
  | .hbm, ⟨7, _⟩ => ⟨S128x8, .f32⟩
  | .hbm, ⟨8, _⟩ => ⟨S128x8x128x128, .bf16⟩
  | .hbm, ⟨9, _⟩ => ⟨S128x8x64x128, .bf16⟩
  | .hbm, ⟨10, _⟩ => ⟨S128x8x64x128, .bf16⟩
  | .hbm, ⟨11, _⟩ => ⟨S128x8x64x128, .bf16⟩
  | .hbm, ⟨12, _⟩ => ⟨S128x8x64x64, .bf16⟩
  | .hbm, ⟨13, _⟩ => ⟨S128x8, .f32⟩
  | .hbm, ⟨14, _⟩ => ⟨S128x8x1, .f32⟩
  | .hbm, ⟨15, _⟩ => ⟨S128x8x128, .f32⟩
  | .hbm, ⟨16, _⟩ => ⟨S128x8x64x128, .f32⟩
  | .hbm, ⟨17, _⟩ => ⟨S128x8x64x128, .f32⟩
  | .hbm, ⟨18, _⟩ => ⟨S128x8x64x128, .bf16⟩
  | .hbm, ⟨19, _⟩ => ⟨S128x4x128x128, .bf16⟩
  | .hbm, ⟨20, _⟩ => ⟨S128x4x128x128, .bf16⟩
  | .hbm, ⟨21, _⟩ => ⟨S128x4x64x128, .bf16⟩
  | .hbm, ⟨22, _⟩ => ⟨S128x4x64x128, .bf16⟩
  | .hbm, ⟨23, _⟩ => ⟨S128x4x64x128, .bf16⟩
  | .hbm, ⟨24, _⟩ => ⟨S128x4x64x128, .bf16⟩
  | .hbm, ⟨25, _⟩ => ⟨S128x4x64x128, .bf16⟩
  | .hbm, ⟨26, _⟩ => ⟨S128x4x64x128, .bf16⟩
  | .hbm, ⟨27, _⟩ => ⟨S128x4x64x128, .f32⟩
  | .hbm, ⟨28, _⟩ => ⟨S128x4x64x128, .f32⟩
  | .hbm, ⟨29, _⟩ => ⟨S128x4x64x128, .f32⟩
  | .hbm, ⟨30, _⟩ => ⟨S128x4x64x128, .f32⟩
  | .hbm, ⟨31, _⟩ => ⟨S128x4x128, .f32⟩
  | .hbm, ⟨32, _⟩ => ⟨S128x4x128, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S8x4x128x128, .bf16⟩
  | .local _ .vmem, ⟨5, _⟩ => ⟨S8x4x128x128, .bf16⟩
  | .local _ .vmem, ⟨6, _⟩ => ⟨S8x4x128x128, .bf16⟩
  | .local _ .vmem, ⟨7, _⟩ => ⟨S8x4x128x128, .bf16⟩
  | .local _ .vmem, ⟨8, _⟩ => ⟨S8x4x64x128, .bf16⟩
  | .local _ .vmem, ⟨9, _⟩ => ⟨S8x4x64x128, .bf16⟩
  | .local _ .vmem, ⟨10, _⟩ => ⟨S8x4x64x128, .bf16⟩
  | .local _ .vmem, ⟨11, _⟩ => ⟨S8x4x64x128, .bf16⟩
  | .local _ .vmem, ⟨12, _⟩ => ⟨S8x4x64x128, .bf16⟩
  | .local _ .vmem, ⟨13, _⟩ => ⟨S8x4x64x128, .bf16⟩
  | .local _ .vmem, ⟨14, _⟩ => ⟨S8x4x64x128, .bf16⟩
  | .local _ .vmem, ⟨15, _⟩ => ⟨S8x4x64x128, .bf16⟩
  | .local _ .vmem, ⟨16, _⟩ => ⟨S8x4x64x128, .bf16⟩
  | .local _ .vmem, ⟨17, _⟩ => ⟨S8x4x64x128, .bf16⟩
  | .local _ .vmem, ⟨18, _⟩ => ⟨S8x4x64x128, .bf16⟩
  | .local _ .vmem, ⟨19, _⟩ => ⟨S8x4x64x128, .bf16⟩
  | .local _ .vmem, ⟨20, _⟩ => ⟨S8x4x64x64, .bf16⟩
  | .local _ .vmem, ⟨21, _⟩ => ⟨S8x4x64x64, .bf16⟩
  | .local _ .vmem, ⟨22, _⟩ => ⟨S8x4x64x64, .bf16⟩
  | .local _ .vmem, ⟨23, _⟩ => ⟨S8x4x64x64, .bf16⟩
  | .local _ .vmem, ⟨24, _⟩ => ⟨S8x4x64x128, .bf16⟩
  | .local _ .vmem, ⟨25, _⟩ => ⟨S8x4x64x128, .bf16⟩
  | .local _ .vmem, ⟨26, _⟩ => ⟨S8x4x64x128, .bf16⟩
  | .local _ .vmem, ⟨27, _⟩ => ⟨S8x4x64x128, .bf16⟩
  | .local _ .vmem, ⟨28, _⟩ => ⟨S8x8x128, .f32⟩
  | .local _ .vmem, ⟨29, _⟩ => ⟨S8x8x128, .f32⟩
  | .local _ .vmem, ⟨30, _⟩ => ⟨S8x8x128, .f32⟩
  | .local _ .vmem, ⟨31, _⟩ => ⟨S8x8x128, .f32⟩
  | .local _ .vmem, ⟨32, _⟩ => ⟨S8x4x64x128, .bf16⟩
  | .local _ .vmem, ⟨33, _⟩ => ⟨S8x4x64x128, .bf16⟩
  | .local _ .vmem, ⟨34, _⟩ => ⟨S8x4x64x128, .bf16⟩
  | .local _ .vmem, ⟨35, _⟩ => ⟨S8x4x64x128, .bf16⟩
  | .local _ .vmem, ⟨36, _⟩ => ⟨S8x4x64x128, .bf16⟩
  | .local _ .vmem, ⟨37, _⟩ => ⟨S8x4x64x128, .bf16⟩
  | .local _ .vmem, ⟨38, _⟩ => ⟨S8x4x64x128, .bf16⟩
  | .local _ .vmem, ⟨39, _⟩ => ⟨S8x4x64x128, .bf16⟩
  | .local _ .vmem, ⟨40, _⟩ => ⟨S8x4x64x128, .f32⟩
  | .local _ .vmem, ⟨41, _⟩ => ⟨S8x4x64x128, .f32⟩
  | .local _ .vmem, ⟨42, _⟩ => ⟨S8x4x64x128, .f32⟩
  | .local _ .vmem, ⟨43, _⟩ => ⟨S8x4x64x128, .f32⟩
  | .local _ .vmem, ⟨44, _⟩ => ⟨S8x4x64x128, .f32⟩
  | .local _ .vmem, ⟨45, _⟩ => ⟨S8x4x64x128, .f32⟩
  | .local _ .vmem, ⟨46, _⟩ => ⟨S8x4x64x128, .f32⟩
  | .local _ .vmem, ⟨47, _⟩ => ⟨S8x4x64x128, .f32⟩
  | .local _ .vmem, ⟨48, _⟩ => ⟨S8x4x128, .f32⟩
  | .local _ .vmem, ⟨49, _⟩ => ⟨S8x4x128, .f32⟩
  | .local _ .vmem, ⟨50, _⟩ => ⟨S8x4x128, .f32⟩
  | .local _ .vmem, ⟨51, _⟩ => ⟨S8x4x128, .f32⟩
  | .local _ .vmem, ⟨52, _⟩ => ⟨S8x128x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15_0 : Ref sig .tc := ⟨.hbm, 23, rfl⟩
abbrev main_v15_1 : Ref sig .tc := ⟨.hbm, 24, rfl⟩
abbrev main_v15_2 : Ref sig .tc := ⟨.hbm, 25, rfl⟩
abbrev main_v15_3 : Ref sig .tc := ⟨.hbm, 26, rfl⟩
abbrev main_v15_4 : Ref sig .tc := ⟨.hbm, 27, rfl⟩
abbrev main_v15_5 : Ref sig .tc := ⟨.hbm, 28, rfl⟩
abbrev main_v15_6 : Ref sig .tc := ⟨.hbm, 29, rfl⟩
abbrev main_v15_7 : Ref sig .tc := ⟨.hbm, 30, rfl⟩
abbrev main_v15_8 : Ref sig .tc := ⟨.hbm, 31, rfl⟩
abbrev main_v15_9 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_stg24_0 : Ref sig .tc := ⟨.vmem, 48, rfl⟩
abbrev cc0_stg24_1 : Ref sig .tc := ⟨.vmem, 49, rfl⟩
abbrev cc0_stg25_0 : Ref sig .tc := ⟨.vmem, 50, rfl⟩
abbrev cc0_stg25_1 : Ref sig .tc := ⟨.vmem, 51, rfl⟩
abbrev cc0_scratch0 : Ref sig .tc := ⟨.vmem, 52, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47
abbrev cc0_sem24_0 : DmaSem sig := 48
abbrev cc0_sem24_1 : DmaSem sig := 49
abbrev cc0_sem25_0 : DmaSem sig := 50
abbrev cc0_sem25_1 : DmaSem sig := 51

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_5 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_6 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_7 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_8 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_9 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_10 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_11 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_12 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_14 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![v0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_17 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_18 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_19 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_20 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_21 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_22 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_23 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_24 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![v0.toNat, c0_i32.toNat, c0_i32_0.toNat]

def cc0_transform_25 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x4x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x4x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x4x64x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x4x64x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x4x64x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x4x64x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x4x64x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x4x64x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x4x64x64 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x4x64x64 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x4x64x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x4x64x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x8x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x8x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S8x4x64x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S8x4x64x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S8x4x64x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S8x4x64x128 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S8x4x64x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S8x4x64x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S8x4x64x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S8x4x64x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S8x4x128 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S8x4x128 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]
-- ==== ReferenceIdeal.lean ====
abbrev S8192x512 : Shape := ⟨2, ![8192, 512]⟩
abbrev S128x8x128x128 : Shape := ⟨4, ![128, 8, 128, 128]⟩
abbrev S128x8x64x128 : Shape := ⟨4, ![128, 8, 64, 128]⟩
abbrev S128x8x64x64 : Shape := ⟨4, ![128, 8, 64, 64]⟩
abbrev S128x8 : Shape := ⟨2, ![128, 8]⟩
abbrev S128x64x4x128 : Shape := ⟨4, ![128, 64, 4, 128]⟩
abbrev S128x4x64x128 : Shape := ⟨4, ![128, 4, 64, 128]⟩
abbrev S_ : Shape := ⟨0, ![]⟩
abbrev S8x128x128 : Shape := ⟨3, ![8, 128, 128]⟩
abbrev S128x4x64x64 : Shape := ⟨4, ![128, 4, 64, 64]⟩
abbrev S128x4 : Shape := ⟨2, ![128, 4]⟩
abbrev S128x4x128x128 : Shape := ⟨4, ![128, 4, 128, 128]⟩
abbrev S1x8x128x128 : Shape := ⟨4, ![1, 8, 128, 128]⟩
abbrev S1x8x64x128 : Shape := ⟨4, ![1, 8, 64, 128]⟩
abbrev S8x64x128 : Shape := ⟨3, ![8, 64, 128]⟩
abbrev S1x8x64x64 : Shape := ⟨4, ![1, 8, 64, 64]⟩
abbrev S8x64x64 : Shape := ⟨3, ![8, 64, 64]⟩
abbrev S1x8 : Shape := ⟨2, ![1, 8]⟩
abbrev S8 : Shape := ⟨1, ![8]⟩
abbrev S8x1x1 : Shape := ⟨3, ![8, 1, 1]⟩
abbrev S8x128x64 : Shape := ⟨3, ![8, 128, 64]⟩
abbrev S128x8x1 : Shape := ⟨3, ![128, 8, 1]⟩
abbrev S128x8x128 : Shape := ⟨3, ![128, 8, 128]⟩
abbrev S128x4x128 : Shape := ⟨3, ![128, 4, 128]⟩

abbrev nBuf : Space → Nat
  | .hbm => 224
  | .vmem => 0
  | .smem => 0
  | _ => 0

abbrev hbmTy0_0 (i : Nat) : BufTy := match i % 128 with
  | 0 => ⟨S8192x512, .f32⟩
  | 1 => ⟨S128x8x128x128, .f32⟩
  | 2 => ⟨S128x8x64x128, .f32⟩
  | 3 => ⟨S128x8x64x128, .f32⟩
  | 4 => ⟨S128x8x64x128, .f32⟩
  | 5 => ⟨S128x8x64x64, .f32⟩
  | 6 => ⟨S128x8x64x128, .f32⟩
  | 7 => ⟨S128x8, .f32⟩
  | 8 => ⟨S128x64x4x128, .f32⟩
  | 9 => ⟨S128x4x64x128, .f32⟩
  | 10 => ⟨S128x8x64x128, .f32⟩
  | 11 => ⟨S_, .f32⟩
  | 12 => ⟨S8x128x128, .f32⟩
  | 13 => ⟨S128x4x64x128, .f32⟩
  | 14 => ⟨S128x4x64x128, .f32⟩
  | 15 => ⟨S128x4x64x128, .f32⟩
  | 16 => ⟨S128x8x64x128, .f32⟩
  | 17 => ⟨S128x4x64x128, .f32⟩
  | 18 => ⟨S128x4x64x128, .f32⟩
  | 19 => ⟨S128x4x64x128, .f32⟩
  | 20 => ⟨S128x8x64x128, .f32⟩
  | 21 => ⟨S128x4x64x128, .f32⟩
  | 22 => ⟨S128x4x64x128, .f32⟩
  | 23 => ⟨S128x4x64x128, .f32⟩
  | 24 => ⟨S128x8x64x128, .f32⟩
  | 25 => ⟨S128x4x64x64, .f32⟩
  | 26 => ⟨S128x4x64x64, .f32⟩
  | 27 => ⟨S128x4x64x64, .f32⟩
  | 28 => ⟨S128x8x64x64, .f32⟩
  | 29 => ⟨S128x4x64x128, .f32⟩
  | 30 => ⟨S128x4x64x128, .f32⟩
  | 31 => ⟨S128x4x64x128, .f32⟩
  | 32 => ⟨S128x8x64x128, .f32⟩
  | 33 => ⟨S128x4, .f32⟩
  | 34 => ⟨S128x4, .f32⟩
  | 35 => ⟨S128x4, .f32⟩
  | 36 => ⟨S128x8, .f32⟩
  | 37 => ⟨S128x4x128x128, .f32⟩
  | 38 => ⟨S128x4x128x128, .f32⟩
  | 39 => ⟨S128x4x128x128, .f32⟩
  | 40 => ⟨S128x8x128x128, .f32⟩
  | 41 => ⟨S128x4x64x128, .f32⟩
  | 42 => ⟨S128x4x64x128, .f32⟩
  | 43 => ⟨S128x4x64x128, .f32⟩
  | 44 => ⟨S128x8x64x128, .f32⟩
  | 45 => ⟨S_, .f32⟩
  | 46 => ⟨S128x8x64x128, .f32⟩
  | 47 => ⟨S_, .f32⟩
  | 48 => ⟨S128x8x64x128, .f32⟩
  | 49 => ⟨S_, .f32⟩
  | 50 => ⟨S128x8x64x128, .f32⟩
  | 51 => ⟨S_, .f32⟩
  | 52 => ⟨S128x8x64x64, .f32⟩
  | 53 => ⟨S_, .f32⟩
  | 54 => ⟨S128x8x64x128, .f32⟩
  | 55 => ⟨S_, .f32⟩
  | 56 => ⟨S128x8, .f32⟩
  | 57 => ⟨S_, .i32⟩
  | 58 => ⟨S128x8x128x128, .f32⟩
  | 59 => ⟨S128x8x64x128, .f32⟩
  | 60 => ⟨S128x8x64x128, .f32⟩
  | 61 => ⟨S128x8x64x128, .f32⟩
  | 62 => ⟨S128x8x64x128, .f32⟩
  | 63 => ⟨S128x8x64x64, .f32⟩
  | 64 => ⟨S128x8x64x128, .f32⟩
  | 65 => ⟨S128x8, .f32⟩
  | 66 => ⟨S_, .i32⟩
  | 67 => ⟨S8x128x128, .f32⟩
  | 68 => ⟨S128x8x64x128, .f32⟩
  | 69 => ⟨S128x8x64x128, .f32⟩
  | 70 => ⟨S128x8x64x128, .f32⟩
  | 71 => ⟨S128x8x64x64, .f32⟩
  | 72 => ⟨S128x8x64x128, .f32⟩
  | 73 => ⟨S128x8, .f32⟩
  | 74 => ⟨S_, .i32⟩
  | 75 => ⟨S_, .i1⟩
  | 76 => ⟨S_, .i32⟩
  | 77 => ⟨S_, .i32⟩
  | 78 => ⟨S_, .i32⟩
  | 79 => ⟨S_, .i32⟩
  | 80 => ⟨S_, .i32⟩
  | 81 => ⟨S_, .i32⟩
  | 82 => ⟨S_, .i32⟩
  | 83 => ⟨S1x8x128x128, .f32⟩
  | 84 => ⟨S8x128x128, .f32⟩
  | 85 => ⟨S_, .i32⟩
  | 86 => ⟨S_, .i32⟩
  | 87 => ⟨S_, .i32⟩
  | 88 => ⟨S1x8x64x128, .f32⟩
  | 89 => ⟨S8x64x128, .f32⟩
  | 90 => ⟨S_, .i32⟩
  | 91 => ⟨S_, .i32⟩
  | 92 => ⟨S_, .i32⟩
  | 93 => ⟨S1x8x64x128, .f32⟩
  | 94 => ⟨S8x64x128, .f32⟩
  | 95 => ⟨S_, .i32⟩
  | 96 => ⟨S_, .i32⟩
  | 97 => ⟨S_, .i32⟩
  | 98 => ⟨S1x8x64x128, .f32⟩
  | 99 => ⟨S8x64x128, .f32⟩
  | 100 => ⟨S_, .i32⟩
  | 101 => ⟨S_, .i32⟩
  | 102 => ⟨S_, .i32⟩
  | 103 => ⟨S1x8x64x128, .f32⟩
  | 104 => ⟨S8x64x128, .f32⟩
  | 105 => ⟨S_, .i32⟩
  | 106 => ⟨S_, .i32⟩
  | 107 => ⟨S_, .i32⟩
  | 108 => ⟨S1x8x64x64, .f32⟩
  | 109 => ⟨S8x64x64, .f32⟩
  | 110 => ⟨S_, .i32⟩
  | 111 => ⟨S_, .i32⟩
  | 112 => ⟨S_, .i32⟩
  | 113 => ⟨S1x8x64x128, .f32⟩
  | 114 => ⟨S8x64x128, .f32⟩
  | 115 => ⟨S_, .i32⟩
  | 116 => ⟨S1x8, .f32⟩
  | 117 => ⟨S8, .f32⟩
  | 118 => ⟨S8x64x128, .f32⟩
  | 119 => ⟨S8x64x128, .f32⟩
  | 120 => ⟨S8x64x128, .f32⟩
  | 121 => ⟨S8x64x128, .f32⟩
  | 122 => ⟨S8x64x128, .f32⟩
  | 123 => ⟨S8, .f32⟩
  | 124 => ⟨S8x1x1, .f32⟩
  | 125 => ⟨S8x128x128, .f32⟩
  | 126 => ⟨S8x128x128, .f32⟩
  | 127 => ⟨S8x128x64, .f32⟩
  | _ => ⟨S8192x512, .f32⟩

abbrev hbmTy0_1 (i : Nat) : BufTy := match i % 128 with
  | 0 => ⟨S8x128x128, .f32⟩
  | 1 => ⟨S8x128x128, .f32⟩
  | 2 => ⟨S8x128x64, .f32⟩
  | 3 => ⟨S8x64x128, .f32⟩
  | 4 => ⟨S8x128x64, .f32⟩
  | 5 => ⟨S8x64x128, .f32⟩
  | 6 => ⟨S8x128x128, .f32⟩
  | 7 => ⟨S_, .f32⟩
  | 8 => ⟨S8, .f32⟩
  | 9 => ⟨S8x1x1, .f32⟩
  | 10 => ⟨S8x128x128, .f32⟩
  | 11 => ⟨S8x128x128, .f32⟩
  | 12 => ⟨S_, .f32⟩
  | 13 => ⟨S8, .f32⟩
  | 14 => ⟨S8, .f32⟩
  | 15 => ⟨S8x128x64, .f32⟩
  | 16 => ⟨S8x64x128, .f32⟩
  | 17 => ⟨S8x64x128, .f32⟩
  | 18 => ⟨S8x64x64, .f32⟩
  | 19 => ⟨S8x128x128, .f32⟩
  | 20 => ⟨S8x128x128, .f32⟩
  | 21 => ⟨S8x128x128, .f32⟩
  | 22 => ⟨S8x64x128, .f32⟩
  | 23 => ⟨S8x64x128, .f32⟩
  | 24 => ⟨S8x128x128, .f32⟩
  | 25 => ⟨S8x128x128, .f32⟩
  | 26 => ⟨S8x128x128, .f32⟩
  | 27 => ⟨S8x64x128, .f32⟩
  | 28 => ⟨S1x8x64x128, .f32⟩
  | 29 => ⟨S_, .i32⟩
  | 30 => ⟨S_, .i32⟩
  | 31 => ⟨S_, .i32⟩
  | 32 => ⟨S128x8x64x128, .f32⟩
  | 33 => ⟨S1x8x64x128, .f32⟩
  | 34 => ⟨S_, .i32⟩
  | 35 => ⟨S_, .i32⟩
  | 36 => ⟨S_, .i32⟩
  | 37 => ⟨S128x8x64x128, .f32⟩
  | 38 => ⟨S1x8x64x128, .f32⟩
  | 39 => ⟨S_, .i32⟩
  | 40 => ⟨S_, .i32⟩
  | 41 => ⟨S_, .i32⟩
  | 42 => ⟨S128x8x64x128, .f32⟩
  | 43 => ⟨S1x8x64x64, .f32⟩
  | 44 => ⟨S_, .i32⟩
  | 45 => ⟨S_, .i32⟩
  | 46 => ⟨S_, .i32⟩
  | 47 => ⟨S128x8x64x64, .f32⟩
  | 48 => ⟨S1x8x64x128, .f32⟩
  | 49 => ⟨S_, .i32⟩
  | 50 => ⟨S_, .i32⟩
  | 51 => ⟨S_, .i32⟩
  | 52 => ⟨S128x8x64x128, .f32⟩
  | 53 => ⟨S1x8, .f32⟩
  | 54 => ⟨S_, .i32⟩
  | 55 => ⟨S128x8, .f32⟩
  | 56 => ⟨S_, .i32⟩
  | 57 => ⟨S_, .i32⟩
  | 58 => ⟨S128x4x64x128, .f32⟩
  | 59 => ⟨S128x4x64x128, .f32⟩
  | 60 => ⟨S128x4x64x128, .f32⟩
  | 61 => ⟨S128x8x64x128, .f32⟩
  | 62 => ⟨S128x4x64x128, .f32⟩
  | 63 => ⟨S128x4x64x128, .f32⟩
  | 64 => ⟨S128x4x64x128, .f32⟩
  | 65 => ⟨S128x8x64x128, .f32⟩
  | 66 => ⟨S128x4x64x128, .f32⟩
  | 67 => ⟨S128x4x64x128, .f32⟩
  | 68 => ⟨S128x4x64x128, .f32⟩
  | 69 => ⟨S128x8x64x128, .f32⟩
  | 70 => ⟨S128x4x64x64, .f32⟩
  | 71 => ⟨S128x4x64x64, .f32⟩
  | 72 => ⟨S128x4x64x64, .f32⟩
  | 73 => ⟨S128x8x64x64, .f32⟩
  | 74 => ⟨S128x4x64x128, .f32⟩
  | 75 => ⟨S128x4x64x128, .f32⟩
  | 76 => ⟨S128x4x64x128, .f32⟩
  | 77 => ⟨S128x8x64x128, .f32⟩
  | 78 => ⟨S128x4, .f32⟩
  | 79 => ⟨S128x4, .f32⟩
  | 80 => ⟨S128x4, .f32⟩
  | 81 => ⟨S128x8, .f32⟩
  | 82 => ⟨S128x8x64x128, .bf16⟩
  | 83 => ⟨S128x8x64x128, .bf16⟩
  | 84 => ⟨S128x8x1, .f32⟩
  | 85 => ⟨S128x8x128, .f32⟩
  | 86 => ⟨S128x4x64x128, .bf16⟩
  | 87 => ⟨S128x4x64x128, .bf16⟩
  | 88 => ⟨S128x4x64x128, .bf16⟩
  | 89 => ⟨S128x4x64x128, .bf16⟩
  | 90 => ⟨S128x4x64x128, .f32⟩
  | 91 => ⟨S128x4x64x128, .f32⟩
  | 92 => ⟨S128x4x64x128, .f32⟩
  | 93 => ⟨S128x4x64x128, .f32⟩
  | 94 => ⟨S128x4x128, .f32⟩
  | 95 => ⟨S128x4x128, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_0 : Ref sig .tc := ⟨.hbm, 45, rfl⟩
abbrev main_v36 : Ref sig .tc := ⟨.hbm, 46, rfl⟩
abbrev main_cst_1 : Ref sig .tc := ⟨.hbm, 47, rfl⟩
abbrev main_v37 : Ref sig .tc := ⟨.hbm, 48, rfl⟩
abbrev main_cst_2 : Ref sig .tc := ⟨.hbm, 49, rfl⟩
abbrev main_v38 : Ref sig .tc := ⟨.hbm, 50, rfl⟩
abbrev main_cst_3 : Ref sig .tc := ⟨.hbm, 51, rfl⟩
abbrev main_v39 : Ref sig .tc := ⟨.hbm, 52, rfl⟩
abbrev main_cst_4 : Ref sig .tc := ⟨.hbm, 53, rfl⟩
abbrev main_v40 : Ref sig .tc := ⟨.hbm, 54, rfl⟩
abbrev main_cst_5 : Ref sig .tc := ⟨.hbm, 55, rfl⟩
abbrev main_v41 : Ref sig .tc := ⟨.hbm, 56, rfl⟩
abbrev main_c : Ref sig .tc := ⟨.hbm, 57, rfl⟩
abbrev main_v42_0 : Ref sig .tc := ⟨.hbm, 58, rfl⟩
abbrev main_v42_1 : Ref sig .tc := ⟨.hbm, 59, rfl⟩
abbrev main_v42_2 : Ref sig .tc := ⟨.hbm, 60, rfl⟩
abbrev main_v42_3 : Ref sig .tc := ⟨.hbm, 61, rfl⟩
abbrev main_v42_4 : Ref sig .tc := ⟨.hbm, 62, rfl⟩
abbrev main_v42_5 : Ref sig .tc := ⟨.hbm, 63, rfl⟩
abbrev main_v42_6 : Ref sig .tc := ⟨.hbm, 64, rfl⟩
abbrev main_v42_7 : Ref sig .tc := ⟨.hbm, 65, rfl⟩
abbrev main_v42_8 : Ref sig .tc := ⟨.hbm, 66, rfl⟩
abbrev main_v42_9 : Ref sig .tc := ⟨.hbm, 67, rfl⟩
abbrev main_v42_10 : Ref sig .tc := ⟨.hbm, 68, rfl⟩
abbrev main_v42_11 : Ref sig .tc := ⟨.hbm, 69, rfl⟩
abbrev main_v42_12 : Ref sig .tc := ⟨.hbm, 70, rfl⟩
abbrev main_v42_13 : Ref sig .tc := ⟨.hbm, 71, rfl⟩
abbrev main_v42_14 : Ref sig .tc := ⟨.hbm, 72, rfl⟩
abbrev main_v42_15 : Ref sig .tc := ⟨.hbm, 73, rfl⟩
abbrev main_while0c_c_21 : Ref sig .tc := ⟨.hbm, 74, rfl⟩
abbrev main_while0c_v81 : Ref sig .tc := ⟨.hbm, 75, rfl⟩
abbrev main_while0b_c_21 : Ref sig .tc := ⟨.hbm, 76, rfl⟩
abbrev main_while0b_v81 : Ref sig .tc := ⟨.hbm, 77, rfl⟩
abbrev main_while0b_c_22 : Ref sig .tc := ⟨.hbm, 78, rfl⟩
abbrev main_while0b_v82 : Ref sig .tc := ⟨.hbm, 79, rfl⟩
abbrev main_while0b_call8_c : Ref sig .tc := ⟨.hbm, 80, rfl⟩
abbrev main_while0b_call8_c_0 : Ref sig .tc := ⟨.hbm, 81, rfl⟩
abbrev main_while0b_call8_c_1 : Ref sig .tc := ⟨.hbm, 82, rfl⟩
abbrev main_while0b_call8_v0 : Ref sig .tc := ⟨.hbm, 83, rfl⟩
abbrev main_while0b_v83 : Ref sig .tc := ⟨.hbm, 84, rfl⟩
abbrev main_while0b_call9_c : Ref sig .tc := ⟨.hbm, 85, rfl⟩
abbrev main_while0b_call9_c_0 : Ref sig .tc := ⟨.hbm, 86, rfl⟩
abbrev main_while0b_call9_c_1 : Ref sig .tc := ⟨.hbm, 87, rfl⟩
abbrev main_while0b_call9_v0 : Ref sig .tc := ⟨.hbm, 88, rfl⟩
abbrev main_while0b_v84 : Ref sig .tc := ⟨.hbm, 89, rfl⟩
abbrev main_while0b_call10_c : Ref sig .tc := ⟨.hbm, 90, rfl⟩
abbrev main_while0b_call10_c_0 : Ref sig .tc := ⟨.hbm, 91, rfl⟩
abbrev main_while0b_call10_c_1 : Ref sig .tc := ⟨.hbm, 92, rfl⟩
abbrev main_while0b_call10_v0 : Ref sig .tc := ⟨.hbm, 93, rfl⟩
abbrev main_while0b_v85 : Ref sig .tc := ⟨.hbm, 94, rfl⟩
abbrev main_while0b_call11_c : Ref sig .tc := ⟨.hbm, 95, rfl⟩
abbrev main_while0b_call11_c_0 : Ref sig .tc := ⟨.hbm, 96, rfl⟩
abbrev main_while0b_call11_c_1 : Ref sig .tc := ⟨.hbm, 97, rfl⟩
abbrev main_while0b_call11_v0 : Ref sig .tc := ⟨.hbm, 98, rfl⟩
abbrev main_while0b_v86 : Ref sig .tc := ⟨.hbm, 99, rfl⟩
abbrev main_while0b_call12_c : Ref sig .tc := ⟨.hbm, 100, rfl⟩
abbrev main_while0b_call12_c_0 : Ref sig .tc := ⟨.hbm, 101, rfl⟩
abbrev main_while0b_call12_c_1 : Ref sig .tc := ⟨.hbm, 102, rfl⟩
abbrev main_while0b_call12_v0 : Ref sig .tc := ⟨.hbm, 103, rfl⟩
abbrev main_while0b_v87 : Ref sig .tc := ⟨.hbm, 104, rfl⟩
abbrev main_while0b_call13_c : Ref sig .tc := ⟨.hbm, 105, rfl⟩
abbrev main_while0b_call13_c_0 : Ref sig .tc := ⟨.hbm, 106, rfl⟩
abbrev main_while0b_call13_c_1 : Ref sig .tc := ⟨.hbm, 107, rfl⟩
abbrev main_while0b_call13_v0 : Ref sig .tc := ⟨.hbm, 108, rfl⟩
abbrev main_while0b_v88 : Ref sig .tc := ⟨.hbm, 109, rfl⟩
abbrev main_while0b_call14_c : Ref sig .tc := ⟨.hbm, 110, rfl⟩
abbrev main_while0b_call14_c_0 : Ref sig .tc := ⟨.hbm, 111, rfl⟩
abbrev main_while0b_call14_c_1 : Ref sig .tc := ⟨.hbm, 112, rfl⟩
abbrev main_while0b_call14_v0 : Ref sig .tc := ⟨.hbm, 113, rfl⟩
abbrev main_while0b_v89 : Ref sig .tc := ⟨.hbm, 114, rfl⟩
abbrev main_while0b_call15_c : Ref sig .tc := ⟨.hbm, 115, rfl⟩
abbrev main_while0b_call15_v0 : Ref sig .tc := ⟨.hbm, 116, rfl⟩
abbrev main_while0b_v90 : Ref sig .tc := ⟨.hbm, 117, rfl⟩
abbrev main_while0b_v91 : Ref sig .tc := ⟨.hbm, 118, rfl⟩
abbrev main_while0b_v92 : Ref sig .tc := ⟨.hbm, 119, rfl⟩
abbrev main_while0b_v93 : Ref sig .tc := ⟨.hbm, 120, rfl⟩
abbrev main_while0b_v94 : Ref sig .tc := ⟨.hbm, 121, rfl⟩
abbrev main_while0b_v95 : Ref sig .tc := ⟨.hbm, 122, rfl⟩
abbrev main_while0b_v96 : Ref sig .tc := ⟨.hbm, 123, rfl⟩
abbrev main_while0b_v97 : Ref sig .tc := ⟨.hbm, 124, rfl⟩
abbrev main_while0b_v98 : Ref sig .tc := ⟨.hbm, 125, rfl⟩
abbrev main_while0b_v99 : Ref sig .tc := ⟨.hbm, 126, rfl⟩
abbrev main_while0b_v100 : Ref sig .tc := ⟨.hbm, 127, rfl⟩
abbrev main_while0b_v101 : Ref sig .tc := ⟨.hbm, 128, rfl⟩
abbrev main_while0b_v102 : Ref sig .tc := ⟨.hbm, 129, rfl⟩
abbrev main_while0b_v103 : Ref sig .tc := ⟨.hbm, 130, rfl⟩
abbrev main_while0b_v104 : Ref sig .tc := ⟨.hbm, 131, rfl⟩
abbrev main_while0b_v105 : Ref sig .tc := ⟨.hbm, 132, rfl⟩
abbrev main_while0b_v106 : Ref sig .tc := ⟨.hbm, 133, rfl⟩
abbrev main_while0b_v107 : Ref sig .tc := ⟨.hbm, 134, rfl⟩
abbrev main_while0b_cst_23 : Ref sig .tc := ⟨.hbm, 135, rfl⟩
abbrev main_while0b_v108 : Ref sig .tc := ⟨.hbm, 136, rfl⟩
abbrev main_while0b_v109 : Ref sig .tc := ⟨.hbm, 137, rfl⟩
abbrev main_while0b_v110 : Ref sig .tc := ⟨.hbm, 138, rfl⟩
abbrev main_while0b_v111 : Ref sig .tc := ⟨.hbm, 139, rfl⟩
abbrev main_while0b_cst_24 : Ref sig .tc := ⟨.hbm, 140, rfl⟩
abbrev main_while0b_v112 : Ref sig .tc := ⟨.hbm, 141, rfl⟩
abbrev main_while0b_v113 : Ref sig .tc := ⟨.hbm, 142, rfl⟩
abbrev main_while0b_v114 : Ref sig .tc := ⟨.hbm, 143, rfl⟩
abbrev main_while0b_v115 : Ref sig .tc := ⟨.hbm, 144, rfl⟩
abbrev main_while0b_v116 : Ref sig .tc := ⟨.hbm, 145, rfl⟩
abbrev main_while0b_v117 : Ref sig .tc := ⟨.hbm, 146, rfl⟩
abbrev main_while0b_v118 : Ref sig .tc := ⟨.hbm, 147, rfl⟩
abbrev main_while0b_v119 : Ref sig .tc := ⟨.hbm, 148, rfl⟩
abbrev main_while0b_v120 : Ref sig .tc := ⟨.hbm, 149, rfl⟩
abbrev main_while0b_v121 : Ref sig .tc := ⟨.hbm, 150, rfl⟩
abbrev main_while0b_v122 : Ref sig .tc := ⟨.hbm, 151, rfl⟩
abbrev main_while0b_v123 : Ref sig .tc := ⟨.hbm, 152, rfl⟩
abbrev main_while0b_v124 : Ref sig .tc := ⟨.hbm, 153, rfl⟩
abbrev main_while0b_v125 : Ref sig .tc := ⟨.hbm, 154, rfl⟩
abbrev main_while0b_v126 : Ref sig .tc := ⟨.hbm, 155, rfl⟩
abbrev main_while0b_call16_v0 : Ref sig .tc := ⟨.hbm, 156, rfl⟩
abbrev main_while0b_call16_c : Ref sig .tc := ⟨.hbm, 157, rfl⟩
abbrev main_while0b_call16_c_0 : Ref sig .tc := ⟨.hbm, 158, rfl⟩
abbrev main_while0b_call16_c_1 : Ref sig .tc := ⟨.hbm, 159, rfl⟩
abbrev main_while0b_v127 : Ref sig .tc := ⟨.hbm, 160, rfl⟩
abbrev main_while0b_call17_v0 : Ref sig .tc := ⟨.hbm, 161, rfl⟩
abbrev main_while0b_call17_c : Ref sig .tc := ⟨.hbm, 162, rfl⟩
abbrev main_while0b_call17_c_0 : Ref sig .tc := ⟨.hbm, 163, rfl⟩
abbrev main_while0b_call17_c_1 : Ref sig .tc := ⟨.hbm, 164, rfl⟩
abbrev main_while0b_v128 : Ref sig .tc := ⟨.hbm, 165, rfl⟩
abbrev main_while0b_call18_v0 : Ref sig .tc := ⟨.hbm, 166, rfl⟩
abbrev main_while0b_call18_c : Ref sig .tc := ⟨.hbm, 167, rfl⟩
abbrev main_while0b_call18_c_0 : Ref sig .tc := ⟨.hbm, 168, rfl⟩
abbrev main_while0b_call18_c_1 : Ref sig .tc := ⟨.hbm, 169, rfl⟩
abbrev main_while0b_v129 : Ref sig .tc := ⟨.hbm, 170, rfl⟩
abbrev main_while0b_call19_v0 : Ref sig .tc := ⟨.hbm, 171, rfl⟩
abbrev main_while0b_call19_c : Ref sig .tc := ⟨.hbm, 172, rfl⟩
abbrev main_while0b_call19_c_0 : Ref sig .tc := ⟨.hbm, 173, rfl⟩
abbrev main_while0b_call19_c_1 : Ref sig .tc := ⟨.hbm, 174, rfl⟩
abbrev main_while0b_v130 : Ref sig .tc := ⟨.hbm, 175, rfl⟩
abbrev main_while0b_call20_v0 : Ref sig .tc := ⟨.hbm, 176, rfl⟩
abbrev main_while0b_call20_c : Ref sig .tc := ⟨.hbm, 177, rfl⟩
abbrev main_while0b_call20_c_0 : Ref sig .tc := ⟨.hbm, 178, rfl⟩
abbrev main_while0b_call20_c_1 : Ref sig .tc := ⟨.hbm, 179, rfl⟩
abbrev main_while0b_v131 : Ref sig .tc := ⟨.hbm, 180, rfl⟩
abbrev main_while0b_call21_v0 : Ref sig .tc := ⟨.hbm, 181, rfl⟩
abbrev main_while0b_call21_c : Ref sig .tc := ⟨.hbm, 182, rfl⟩
abbrev main_while0b_v132 : Ref sig .tc := ⟨.hbm, 183, rfl⟩
abbrev main_while0b_c_25 : Ref sig .tc := ⟨.hbm, 184, rfl⟩
abbrev main_while0b_v133 : Ref sig .tc := ⟨.hbm, 185, rfl⟩
abbrev main_v43 : Ref sig .tc := ⟨.hbm, 186, rfl⟩
abbrev main_v44 : Ref sig .tc := ⟨.hbm, 187, rfl⟩
abbrev main_v45 : Ref sig .tc := ⟨.hbm, 188, rfl⟩
abbrev main_v46 : Ref sig .tc := ⟨.hbm, 189, rfl⟩
abbrev main_v47 : Ref sig .tc := ⟨.hbm, 190, rfl⟩
abbrev main_v48 : Ref sig .tc := ⟨.hbm, 191, rfl⟩
abbrev main_v49 : Ref sig .tc := ⟨.hbm, 192, rfl⟩
abbrev main_v50 : Ref sig .tc := ⟨.hbm, 193, rfl⟩
abbrev main_v51 : Ref sig .tc := ⟨.hbm, 194, rfl⟩
abbrev main_v52 : Ref sig .tc := ⟨.hbm, 195, rfl⟩
abbrev main_v53 : Ref sig .tc := ⟨.hbm, 196, rfl⟩
abbrev main_v54 : Ref sig .tc := ⟨.hbm, 197, rfl⟩
abbrev main_v55 : Ref sig .tc := ⟨.hbm, 198, rfl⟩
abbrev main_v56 : Ref sig .tc := ⟨.hbm, 199, rfl⟩
abbrev main_v57 : Ref sig .tc := ⟨.hbm, 200, rfl⟩
abbrev main_v58 : Ref sig .tc := ⟨.hbm, 201, rfl⟩
abbrev main_v59 : Ref sig .tc := ⟨.hbm, 202, rfl⟩
abbrev main_v60 : Ref sig .tc := ⟨.hbm, 203, rfl⟩
abbrev main_v61 : Ref sig .tc := ⟨.hbm, 204, rfl⟩
abbrev main_v62 : Ref sig .tc := ⟨.hbm, 205, rfl⟩
abbrev main_v63 : Ref sig .tc := ⟨.hbm, 206, rfl⟩
abbrev main_v64 : Ref sig .tc := ⟨.hbm, 207, rfl⟩
abbrev main_v65 : Ref sig .tc := ⟨.hbm, 208, rfl⟩
abbrev main_v66 : Ref sig .tc := ⟨.hbm, 209, rfl⟩
abbrev main_v67 : Ref sig .tc := ⟨.hbm, 210, rfl⟩
abbrev main_v68 : Ref sig .tc := ⟨.hbm, 211, rfl⟩
abbrev main_v69 : Ref sig .tc := ⟨.hbm, 212, rfl⟩
abbrev main_v70 : Ref sig .tc := ⟨.hbm, 213, rfl⟩
abbrev main_v71 : Ref sig .tc := ⟨.hbm, 214, rfl⟩
abbrev main_v72 : Ref sig .tc := ⟨.hbm, 215, rfl⟩
abbrev main_v73 : Ref sig .tc := ⟨.hbm, 216, rfl⟩
abbrev main_v74 : Ref sig .tc := ⟨.hbm, 217, rfl⟩
abbrev main_v75 : Ref sig .tc := ⟨.hbm, 218, rfl⟩
abbrev main_v76 : Ref sig .tc := ⟨.hbm, 219, rfl⟩
abbrev main_v77 : Ref sig .tc := ⟨.hbm, 220, rfl⟩
abbrev main_v78 : Ref sig .tc := ⟨.hbm, 221, rfl⟩
abbrev main_v79 : Ref sig .tc := ⟨.hbm, 222, rfl⟩
abbrev main_v80 : Ref sig .tc := ⟨.hbm, 223, rfl⟩

abbrev nD : Nat := 1
abbrev τ : Topo := Topo.v7x

variable {F : FTy → Type} [FloatOps F]

abbrev main_while0_count : Scf.Loop 32 := ⟨0#32, 128#32, 1#32⟩
-- ==== Kernel2.lean ====
abbrev S8192x1024 : Shape := ⟨2, ![8192, 1024]⟩
abbrev S1x1024 : Shape := ⟨2, ![1, 1024]⟩
abbrev S4x704x1024 : Shape := ⟨3, ![4, 704, 1024]⟩
abbrev S_ : Shape := ⟨0, ![]⟩
abbrev S8192 : Shape := ⟨1, ![8192]⟩
abbrev S8192x1 : Shape := ⟨2, ![8192, 1]⟩
abbrev S4x704x8192 : Shape := ⟨3, ![4, 704, 8192]⟩
abbrev S4x8192x704 : Shape := ⟨3, ![4, 8192, 704]⟩
abbrev S256x1024 : Shape := ⟨2, ![256, 1024]⟩
abbrev S4x256x704 : Shape := ⟨3, ![4, 256, 704]⟩
abbrev S1x704x1024 : Shape := ⟨3, ![1, 704, 1024]⟩
abbrev S704x1024 : Shape := ⟨2, ![704, 1024]⟩
abbrev S256x704 : Shape := ⟨2, ![256, 704]⟩
abbrev S1x256x704 : Shape := ⟨3, ![1, 256, 704]⟩
abbrev S256 : Shape := ⟨1, ![256]⟩
abbrev S256x1 : Shape := ⟨2, ![256, 1]⟩
abbrev S1024 : Shape := ⟨1, ![1024]⟩

abbrev nBuf : Space → Nat
  | .hbm => 36
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S4x704x1024, .f32⟩
  | .hbm, ⟨4, _⟩ => ⟨S4x704x1024, .f32⟩
  | .hbm, ⟨5, _⟩ => ⟨S4x704x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S4x704x8192, .f32⟩
  | .hbm, ⟨22, _⟩ => ⟨S4x8192x704, .f32⟩
  | .hbm, ⟨23, _⟩ => ⟨S4x8192x704, .bf16⟩
  | .hbm, ⟨24, _⟩ => ⟨S4x704x8192, .f32⟩
  | .hbm, ⟨25, _⟩ => ⟨S4x8192x704, .f32⟩
  | .hbm, ⟨26, _⟩ => ⟨S4x8192x704, .bf16⟩
  | .hbm, ⟨27, _⟩ => ⟨S4x704x1024, .bf16⟩
  | .hbm, ⟨28, _⟩ => ⟨S4x704x1024, .bf16⟩
  | .hbm, ⟨29, _⟩ => ⟨S4x704x1024, .bf16⟩
  | .hbm, ⟨30, _⟩ => ⟨S8192x1024, .f32⟩
  | .hbm, ⟨31, _⟩ => ⟨S8192x1024, .bf16⟩
  | .hbm, ⟨32, _⟩ => ⟨S4x8192x704, .bf16⟩
  | .hbm, ⟨33, _⟩ => ⟨S4x8192x704, .bf16⟩
  | .hbm, ⟨34, _⟩ => ⟨S4x8192x704, .bf16⟩
  | .hbm, ⟨35, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S4x256x704, .bf16⟩
  | .local _ .vmem, ⟨6, _⟩ => ⟨S4x256x704, .bf16⟩
  | .local _ .vmem, ⟨7, _⟩ => ⟨S4x256x704, .bf16⟩
  | .local _ .vmem, ⟨8, _⟩ => ⟨S4x256x704, .bf16⟩
  | .local _ .vmem, ⟨9, _⟩ => ⟨S4x704x1024, .bf16⟩
  | .local _ .vmem, ⟨10, _⟩ => ⟨S4x704x1024, .bf16⟩
  | .local _ .vmem, ⟨11, _⟩ => ⟨S4x704x1024, .bf16⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | .local _ .vmem, ⟨16, _⟩ => ⟨S4x256x704, .bf16⟩
  | .local _ .vmem, ⟨17, _⟩ => ⟨S4x256x704, .bf16⟩
  | .local _ .vmem, ⟨18, _⟩ => ⟨S4x256x704, .bf16⟩
  | .local _ .vmem, ⟨19, _⟩ => ⟨S4x256x704, .bf16⟩
  | .local _ .vmem, ⟨20, _⟩ => ⟨S4x256x704, .bf16⟩
  | .local _ .vmem, ⟨21, _⟩ => ⟨S4x256x704, .bf16⟩
  | .local _ .vmem, ⟨22, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21_0 : Ref sig .tc := ⟨.hbm, 30, rfl⟩
abbrev main_v21_1 : Ref sig .tc := ⟨.hbm, 31, rfl⟩
abbrev main_v21_2 : Ref sig .tc := ⟨.hbm, 32, rfl⟩
abbrev main_v21_3 : Ref sig .tc := ⟨.hbm, 33, rfl⟩
abbrev main_v21_4 : Ref sig .tc := ⟨.hbm, 34, rfl⟩
abbrev main_v21_5 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x256x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x256x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x704x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x704x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x704x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x256x704 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x256x704 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x256x704 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference2Ideal.lean ====
abbrev S8192x1024 : Shape := ⟨2, ![8192, 1024]⟩
abbrev S1x1024 : Shape := ⟨2, ![1, 1024]⟩
abbrev S4x704x1024 : Shape := ⟨3, ![4, 704, 1024]⟩
abbrev S2816x1024 : Shape := ⟨2, ![2816, 1024]⟩
abbrev S1024x2816 : Shape := ⟨2, ![1024, 2816]⟩
abbrev S_ : Shape := ⟨0, ![]⟩
abbrev S8192x2816 : Shape := ⟨2, ![8192, 2816]⟩
abbrev S8192 : Shape := ⟨1, ![8192]⟩
abbrev S8192x1 : Shape := ⟨2, ![8192, 1]⟩
abbrev S1024 : Shape := ⟨1, ![1024]⟩
abbrev S8192x4x704 : Shape := ⟨3, ![8192, 4, 704]⟩
abbrev S4x8192x704 : Shape := ⟨3, ![4, 8192, 704]⟩

abbrev nBuf : Space → Nat
  | .hbm => 106
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S4x704x1024, .f32⟩
  | .hbm, ⟨4, _⟩ => ⟨S4x704x1024, .f32⟩
  | .hbm, ⟨5, _⟩ => ⟨S4x704x1024, .f32⟩
  | .hbm, ⟨6, _⟩ => ⟨S2816x1024, .f32⟩
  | .hbm, ⟨7, _⟩ => ⟨S1024x2816, .f32⟩
  | .hbm, ⟨8, _⟩ => ⟨S2816x1024, .f32⟩
  | .hbm, ⟨9, _⟩ => ⟨S1024x2816, .f32⟩
  | .hbm, ⟨10, _⟩ => ⟨S2816x1024, .f32⟩
  | .hbm, ⟨11, _⟩ => ⟨S_, .f32⟩
  | .hbm, ⟨12, _⟩ => ⟨S8192x2816, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S_, .f32⟩
  | .hbm, ⟨39, _⟩ => ⟨S8192x2816, .f32⟩
  | .hbm, ⟨40, _⟩ => ⟨S8192x2816, .f32⟩
  | .hbm, ⟨41, _⟩ => ⟨S_, .f32⟩
  | .hbm, ⟨42, _⟩ => ⟨S8192x2816, .f32⟩
  | .hbm, ⟨43, _⟩ => ⟨S8192x2816, .f32⟩
  | .hbm, ⟨44, _⟩ => ⟨S_, .f32⟩
  | .hbm, ⟨45, _⟩ => ⟨S8192x2816, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S8192x2816, .f32⟩
  | .hbm, ⟨50, _⟩ => ⟨S8192x2816, .f32⟩
  | .hbm, ⟨51, _⟩ => ⟨S8192x2816, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S8192x1024, .f32⟩
  | .hbm, ⟨61, _⟩ => ⟨S8192x1024, .f32⟩
  | .hbm, ⟨62, _⟩ => ⟨S8192x2816, .f32⟩
  | .hbm, ⟨63, _⟩ => ⟨S8192x2816, .f32⟩
  | .hbm, ⟨64, _⟩ => ⟨S8192x2816, .f32⟩
  | .hbm, ⟨65, _⟩ => ⟨S8192x1024, .f32⟩
  | .hbm, ⟨66, _⟩ => ⟨S8192x2816, .f32⟩
  | .hbm, ⟨67, _⟩ => ⟨S8192x2816, .f32⟩
  | .hbm, ⟨68, _⟩ => ⟨S8192x2816, .f32⟩
  | .hbm, ⟨69, _⟩ => ⟨S8192x2816, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S_, .f32⟩
  | .hbm, ⟨74, _⟩ => ⟨S1024, .f32⟩
  | .hbm, ⟨75, _⟩ => ⟨S1x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S_, .f32⟩
  | .hbm, ⟨80, _⟩ => ⟨S8192, .f32⟩
  | .hbm, ⟨81, _⟩ => ⟨S8192x1, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S8192x1, .f32⟩
  | .hbm, ⟨86, _⟩ => ⟨S_, .f32⟩
  | .hbm, ⟨87, _⟩ => ⟨S8192x1, .f32⟩
  | .hbm, ⟨88, _⟩ => ⟨S8192x1, .f32⟩
  | .hbm, ⟨89, _⟩ => ⟨S_, .f32⟩
  | .hbm, ⟨90, _⟩ => ⟨S8192, .f32⟩
  | .hbm, ⟨91, _⟩ => ⟨S8192x1024, .f32⟩
  | .hbm, ⟨92, _⟩ => ⟨S8192x1024, .f32⟩
  | .hbm, ⟨93, _⟩ => ⟨S8192x1024, .f32⟩
  | .hbm, ⟨94, _⟩ => ⟨S8192x1024, .f32⟩
  | .hbm, ⟨95, _⟩ => ⟨S8192x1024, .f32⟩
  | .hbm, ⟨96, _⟩ => ⟨S8192x1024, .bf16⟩
  | .hbm, ⟨97, _⟩ => ⟨S8192x4x704, .f32⟩
  | .hbm, ⟨98, _⟩ => ⟨S4x8192x704, .f32⟩
  | .hbm, ⟨99, _⟩ => ⟨S4x8192x704, .bf16⟩
  | .hbm, ⟨100, _⟩ => ⟨S8192x4x704, .f32⟩
  | .hbm, ⟨101, _⟩ => ⟨S4x8192x704, .f32⟩
  | .hbm, ⟨102, _⟩ => ⟨S4x8192x704, .bf16⟩
  | .hbm, ⟨103, _⟩ => ⟨S8192x4x704, .f32⟩
  | .hbm, ⟨104, _⟩ => ⟨S4x8192x704, .f32⟩
  | .hbm, ⟨105, _⟩ => ⟨S4x8192x704, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_v24_2 : Ref sig .tc := ⟨.hbm, 43, rfl⟩
abbrev main_call0_cst_1 : Ref sig .tc := ⟨.hbm, 44, rfl⟩
abbrev main_call0_v6 : Ref sig .tc := ⟨.hbm, 45, rfl⟩
abbrev main_call0_v7 : Ref sig .tc := ⟨.hbm, 46, rfl⟩
abbrev main_v24_1 : Ref sig .tc := ⟨.hbm, 47, rfl⟩
abbrev main_v24_0 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_5 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_6 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_7 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_8 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_9 : Ref sig .tc := ⟨.hbm, 86, rfl⟩
abbrev main_v55 : Ref sig .tc := ⟨.hbm, 87, rfl⟩
abbrev main_v56 : Ref sig .tc := ⟨.hbm, 88, rfl⟩
abbrev main_cst_10 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩

abbrev nD : Nat := 1
abbrev τ : Topo := Topo.v7x

variable {F : FTy → Type} [FloatOps F]
-- ==== Kernel3.lean ====
abbrev S4x8192x704 : Shape := ⟨3, ![4, 8192, 704]⟩
abbrev S8192x1024 : Shape := ⟨2, ![8192, 1024]⟩
abbrev S4x704x1024 : Shape := ⟨3, ![4, 704, 1024]⟩
abbrev S1x4096x704 : Shape := ⟨3, ![1, 4096, 704]⟩
abbrev S4096x1024 : Shape := ⟨2, ![4096, 1024]⟩
abbrev S1x704x1024 : Shape := ⟨3, ![1, 704, 1024]⟩
abbrev S704x1024 : Shape := ⟨2, ![704, 1024]⟩
abbrev S4096x704 : Shape := ⟨2, ![4096, 704]⟩

abbrev nBuf : Space → Nat
  | .hbm => 5
  | .vmem => 7
  | .smem => 0
  | _ => 0

abbrev bufTy : (tb : Table) → Fin (tcTables nBuf tb) → BufTy
  | .hbm, ⟨0, _⟩ => ⟨S4x8192x704, .f32⟩
  | .hbm, ⟨1, _⟩ => ⟨S8192x1024, .f32⟩
  | .hbm, ⟨2, _⟩ => ⟨S4x8192x704, .bf16⟩
  | .hbm, ⟨3, _⟩ => ⟨S8192x1024, .bf16⟩
  | .hbm, ⟨4, _⟩ => ⟨S4x704x1024, .bf16⟩
  | .local _ .vmem, ⟨0, _⟩ => ⟨S1x4096x704, .bf16⟩
  | .local _ .vmem, ⟨1, _⟩ => ⟨S1x4096x704, .bf16⟩
  | .local _ .vmem, ⟨2, _⟩ => ⟨S4096x1024, .bf16⟩
  | .local _ .vmem, ⟨3, _⟩ => ⟨S4096x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S704x1024, .f32⟩
  | _, _ => ⟨S4x8192x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1_i32_13 : BitVec 32 := 1#32
  let v23 : BitVec 1 := Scalar.cmpi .eq v9 c1_i32_13
  let v24 : BitVec 32 := Scalar.extui v23
  let c0_i32_14 : BitVec 32 := 0#32
  let v25 : BitVec 1 := Scalar.cmpi .ne v24 c0_i32_14
  v25

def cc0_transform_0 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_1 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference3Ideal.lean ====
abbrev S4x8192x704 : Shape := ⟨3, ![4, 8192, 704]⟩
abbrev S8192x1024 : Shape := ⟨2, ![8192, 1024]⟩
abbrev S_ : Shape := ⟨0, ![]⟩
abbrev S4x704x1024 : Shape := ⟨3, ![4, 704, 1024]⟩
abbrev S4x704x8192 : Shape := ⟨3, ![4, 704, 8192]⟩

abbrev nBuf : Space → Nat
  | .hbm => 9
  | .vmem => 0
  | .smem => 0
  | _ => 0

abbrev bufTy : (tb : Table) → Fin (tcTables nBuf tb) → BufTy
  | .hbm, ⟨0, _⟩ => ⟨S4x8192x704, .f32⟩
  | .hbm, ⟨1, _⟩ => ⟨S8192x1024, .f32⟩
  | .hbm, ⟨2, _⟩ => ⟨S_, .f32⟩
  | .hbm, ⟨3, _⟩ => ⟨S4x704x1024, .f32⟩
  | .hbm, ⟨4, _⟩ => ⟨S4x704x8192, .f32⟩
  | .hbm, ⟨5, _⟩ => ⟨S4x8192x704, .f32⟩
  | .hbm, ⟨6, _⟩ => ⟨S4x704x8192, .f32⟩
  | .hbm, ⟨7, _⟩ => ⟨S4x704x1024, .f32⟩
  | .hbm, ⟨8, _⟩ => ⟨S4x704x1024, .bf16⟩
  | _, _ => ⟨S4x8192x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S8192x1024 : Shape := ⟨2, ![8192, 1024]⟩
abbrev S1x1024 : Shape := ⟨2, ![1, 1024]⟩
abbrev S4x704x1024 : Shape := ⟨3, ![4, 704, 1024]⟩
abbrev S4x8192x704 : Shape := ⟨3, ![4, 8192, 704]⟩
abbrev S1x128 : Shape := ⟨2, ![1, 128]⟩
abbrev S512x1024 : Shape := ⟨2, ![512, 1024]⟩
abbrev S4x512x704 : Shape := ⟨3, ![4, 512, 704]⟩
abbrev S512 : Shape := ⟨1, ![512]⟩
abbrev S512x1 : Shape := ⟨2, ![512, 1]⟩
abbrev S1x704x1024 : Shape := ⟨3, ![1, 704, 1024]⟩
abbrev S704x1024 : Shape := ⟨2, ![704, 1024]⟩
abbrev S512x704 : Shape := ⟨2, ![512, 704]⟩
abbrev S1x512x704 : Shape := ⟨3, ![1, 512, 704]⟩
abbrev S1 : Shape := ⟨1, ![1]⟩
abbrev S1x1 : Shape := ⟨2, ![1, 1]⟩
abbrev S1024 : Shape := ⟨1, ![1024]⟩

abbrev nBuf : Space → Nat
  | .hbm => 16
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S4x704x1024, .f32⟩
  | .hbm, ⟨3, _⟩ => ⟨S4x704x1024, .f32⟩
  | .hbm, ⟨4, _⟩ => ⟨S4x704x1024, .f32⟩
  | .hbm, ⟨5, _⟩ => ⟨S1x1024, .f32⟩
  | .hbm, ⟨6, _⟩ => ⟨S8192x1024, .f32⟩
  | .hbm, ⟨7, _⟩ => ⟨S4x704x1024, .bf16⟩
  | .hbm, ⟨8, _⟩ => ⟨S4x704x1024, .bf16⟩
  | .hbm, ⟨9, _⟩ => ⟨S4x704x1024, .bf16⟩
  | .hbm, ⟨10, _⟩ => ⟨S8192x1024, .f32⟩
  | .hbm, ⟨11, _⟩ => ⟨S8192x1024, .bf16⟩
  | .hbm, ⟨12, _⟩ => ⟨S4x8192x704, .bf16⟩
  | .hbm, ⟨13, _⟩ => ⟨S4x8192x704, .bf16⟩
  | .hbm, ⟨14, _⟩ => ⟨S1x128, .f32⟩
  | .hbm, ⟨15, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x704x1024, .bf16⟩
  | .local _ .vmem, ⟨4, _⟩ => ⟨S4x704x1024, .bf16⟩
  | .local _ .vmem, ⟨5, _⟩ => ⟨S4x704x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S4x512x704, .bf16⟩
  | .local _ .vmem, ⟨14, _⟩ => ⟨S4x512x704, .bf16⟩
  | .local _ .vmem, ⟨15, _⟩ => ⟨S4x512x704, .bf16⟩
  | .local _ .vmem, ⟨16, _⟩ => ⟨S4x512x704, .bf16⟩
  | .local _ .vmem, ⟨17, _⟩ => ⟨S1x128, .f32⟩
  | .local _ .vmem, ⟨18, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v3_4 : Ref sig .tc := ⟨.hbm, 14, rfl⟩
abbrev main_v3_5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem12_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x704x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x512x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x512x704 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference4Ideal.lean ====
abbrev S8192x1024 : Shape := ⟨2, ![8192, 1024]⟩
abbrev S1x1024 : Shape := ⟨2, ![1, 1024]⟩
abbrev S4x704x1024 : Shape := ⟨3, ![4, 704, 1024]⟩
abbrev S2816x1024 : Shape := ⟨2, ![2816, 1024]⟩
abbrev S1024x2816 : Shape := ⟨2, ![1024, 2816]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩
abbrev S1024 : Shape := ⟨1, ![1024]⟩
abbrev S8192x4x704 : Shape := ⟨3, ![8192, 4, 704]⟩
abbrev S4x8192x704 : Shape := ⟨3, ![4, 8192, 704]⟩
abbrev S1x128 : Shape := ⟨2, ![1, 128]⟩

abbrev nBuf : Space → Nat
  | .hbm => 117
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S4x704x1024, .f32⟩
  | .hbm, ⟨3, _⟩ => ⟨S4x704x1024, .f32⟩
  | .hbm, ⟨4, _⟩ => ⟨S4x704x1024, .f32⟩
  | .hbm, ⟨5, _⟩ => ⟨S1x1024, .f32⟩
  | .hbm, ⟨6, _⟩ => ⟨S8192x1024, .f32⟩
  | .hbm, ⟨7, _⟩ => ⟨S2816x1024, .f32⟩
  | .hbm, ⟨8, _⟩ => ⟨S1024x2816, .f32⟩
  | .hbm, ⟨9, _⟩ => ⟨S2816x1024, .f32⟩
  | .hbm, ⟨10, _⟩ => ⟨S1024x2816, .f32⟩
  | .hbm, ⟨11, _⟩ => ⟨S2816x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S_, .f32⟩
  | .hbm, ⟨32, _⟩ => ⟨S8192x2816, .f32⟩
  | .hbm, ⟨33, _⟩ => ⟨S8192x2816, .f32⟩
  | .hbm, ⟨34, _⟩ => ⟨S_, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S8192x1, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S_, .f32⟩
  | .hbm, ⟨66, _⟩ => ⟨S8192x1024, .f32⟩
  | .hbm, ⟨67, _⟩ => ⟨S8192x1024, .f32⟩
  | .hbm, ⟨68, _⟩ => ⟨S_, .f32⟩
  | .hbm, ⟨69, _⟩ => ⟨S8192, .f32⟩
  | .hbm, ⟨70, _⟩ => ⟨S_, .f32⟩
  | .hbm, ⟨71, _⟩ => ⟨S8192, .f32⟩
  | .hbm, ⟨72, _⟩ => ⟨S8192, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S8192, .f32⟩
  | .hbm, ⟨81, _⟩ => ⟨S_, .f32⟩
  | .hbm, ⟨82, _⟩ => ⟨S8192, .f32⟩
  | .hbm, ⟨83, _⟩ => ⟨S8192, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S_, .f32⟩
  | .hbm, ⟨88, _⟩ => ⟨S1024, .f32⟩
  | .hbm, ⟨89, _⟩ => ⟨S1x1024, .f32⟩
  | .hbm, ⟨90, _⟩ => ⟨S8192x1024, .f32⟩
  | .hbm, ⟨91, _⟩ => ⟨S8192x1024, .f32⟩
  | .hbm, ⟨92, _⟩ => ⟨S8192x1024, .f32⟩
  | .hbm, ⟨93, _⟩ => ⟨S_, .f32⟩
  | .hbm, ⟨94, _⟩ => ⟨S8192, .f32⟩
  | .hbm, ⟨95, _⟩ => ⟨S8192x1, .f32⟩
  | .hbm, ⟨96, _⟩ => ⟨S8192x1024, .f32⟩
  | .hbm, ⟨97, _⟩ => ⟨S8192x1024, .f32⟩
  | .hbm, ⟨98, _⟩ => ⟨S8192x1, .f32⟩
  | .hbm, ⟨99, _⟩ => ⟨S_, .f32⟩
  | .hbm, ⟨100, _⟩ => ⟨S8192x1, .f32⟩
  | .hbm, ⟨101, _⟩ => ⟨S8192x1, .f32⟩
  | .hbm, ⟨102, _⟩ => ⟨S_, .f32⟩
  | .hbm, ⟨103, _⟩ => ⟨S8192, .f32⟩
  | .hbm, ⟨104, _⟩ => ⟨S8192x1024, .f32⟩
  | .hbm, ⟨105, _⟩ => ⟨S8192x1024, .f32⟩
  | .hbm, ⟨106, _⟩ => ⟨S8192x1024, .f32⟩
  | .hbm, ⟨107, _⟩ => ⟨S8192x1024, .f32⟩
  | .hbm, ⟨108, _⟩ => ⟨S8192x1024, .f32⟩
  | .hbm, ⟨109, _⟩ => ⟨S8192x1024, .bf16⟩
  | .hbm, ⟨110, _⟩ => ⟨S8192x4x704, .f32⟩
  | .hbm, ⟨111, _⟩ => ⟨S4x8192x704, .f32⟩
  | .hbm, ⟨112, _⟩ => ⟨S4x8192x704, .bf16⟩
  | .hbm, ⟨113, _⟩ => ⟨S8192x4x704, .f32⟩
  | .hbm, ⟨114, _⟩ => ⟨S4x8192x704, .f32⟩
  | .hbm, ⟨115, _⟩ => ⟨S4x8192x704, .bf16⟩
  | .hbm, ⟨116, _⟩ => ⟨S1x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_2 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_3 : Ref sig .tc := ⟨.hbm, 45, rfl⟩
abbrev main_v26 : Ref sig .tc := ⟨.hbm, 46, rfl⟩
abbrev main_v27 : Ref sig .tc := ⟨.hbm, 47, rfl⟩
abbrev main_cst_4 : Ref sig .tc := ⟨.hbm, 48, rfl⟩
abbrev main_v28 : Ref sig .tc := ⟨.hbm, 49, rfl⟩
abbrev main_v29 : Ref sig .tc := ⟨.hbm, 50, rfl⟩
abbrev main_cst_5 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_6 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_7 : Ref sig .tc := ⟨.hbm, 65, rfl⟩
abbrev main_v42 : Ref sig .tc := ⟨.hbm, 66, rfl⟩
abbrev main_v43 : Ref sig .tc := ⟨.hbm, 67, rfl⟩
abbrev main_cst_8 : Ref sig .tc := ⟨.hbm, 68, rfl⟩
abbrev main_v44 : Ref sig .tc := ⟨.hbm, 69, rfl⟩
abbrev main_cst_9 : Ref sig .tc := ⟨.hbm, 70, rfl⟩
abbrev main_v45 : Ref sig .tc := ⟨.hbm, 71, rfl⟩
abbrev main_v46 : Ref sig .tc := ⟨.hbm, 72, rfl⟩
abbrev main_cst_10 : Ref sig .tc := ⟨.hbm, 73, rfl⟩
abbrev main_v47 : Ref sig .tc := ⟨.hbm, 74, rfl⟩
abbrev main_cst_11 : Ref sig .tc := ⟨.hbm, 75, rfl⟩
abbrev main_v48 : Ref sig .tc := ⟨.hbm, 76, rfl⟩
abbrev main_cst_12 : Ref sig .tc := ⟨.hbm, 77, rfl⟩
abbrev main_cst_13 : Ref sig .tc := ⟨.hbm, 78, rfl⟩
abbrev main_v49 : Ref sig .tc := ⟨.hbm, 79, rfl⟩
abbrev main_v50 : Ref sig .tc := ⟨.hbm, 80, rfl⟩
abbrev main_cst_14 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_15 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_16 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_17 : Ref sig .tc := ⟨.hbm, 99, rfl⟩
abbrev main_v66 : Ref sig .tc := ⟨.hbm, 100, rfl⟩
abbrev main_v67 : Ref sig .tc := ⟨.hbm, 101, rfl⟩
abbrev main_cst_18 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩

abbrev nD : Nat := 1
abbrev τ : Topo := Topo.v7x

variable {F : FTy → Type} [FloatOps F]
-- ==== Kernel5.lean ====
abbrev S8192x1024 : Shape := ⟨2, ![8192, 1024]⟩
abbrev S1x1024 : Shape := ⟨2, ![1, 1024]⟩
abbrev S1024x3600 : Shape := ⟨2, ![1024, 3600]⟩
abbrev S3600x1024 : Shape := ⟨2, ![3600, 1024]⟩
abbrev S8192x1536 : Shape := ⟨2, ![8192, 1536]⟩
abbrev S8192x512 : Shape := ⟨2, ![8192, 512]⟩
abbrev S8192x128 : Shape := ⟨2, ![8192, 128]⟩
abbrev S512x1024 : Shape := ⟨2, ![512, 1024]⟩
abbrev S512x1536 : Shape := ⟨2, ![512, 1536]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S1536x1024 : Shape := ⟨2, ![1536, 1024]⟩
abbrev S128x1024 : Shape := ⟨2, ![128, 1024]⟩

abbrev nBuf : Space → Nat
  | .hbm => 10
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3600, .f32⟩
  | .hbm, ⟨3, _⟩ => ⟨S3600x1024, .f32⟩
  | .hbm, ⟨4, _⟩ => ⟨S3600x1024, .bf16⟩
  | .hbm, ⟨5, _⟩ => ⟨S8192x1024, .bf16⟩
  | .hbm, ⟨6, _⟩ => ⟨S8192x1536, .f32⟩
  | .hbm, ⟨7, _⟩ => ⟨S8192x512, .f32⟩
  | .hbm, ⟨8, _⟩ => ⟨S8192x128, .f32⟩
  | .hbm, ⟨9, _⟩ => ⟨S8192x1536, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S3600x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1536, .f32⟩
  | .local _ .vmem, ⟨7, _⟩ => ⟨S512x1536, .f32⟩
  | .local _ .vmem, ⟨8, _⟩ => ⟨S512x512, .f32⟩
  | .local _ .vmem, ⟨9, _⟩ => ⟨S512x512, .f32⟩
  | .local _ .vmem, ⟨10, _⟩ => ⟨S512x128, .f32⟩
  | .local _ .vmem, ⟨11, _⟩ => ⟨S512x128, .f32⟩
  | .local _ .vmem, ⟨12, _⟩ => ⟨S512x1536, .f32⟩
  | .local _ .vmem, ⟨13, _⟩ => ⟨S512x1536, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3600x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference5Ideal.lean ====
abbrev S8192x1024 : Shape := ⟨2, ![8192, 1024]⟩
abbrev S1x1024 : Shape := ⟨2, ![1, 1024]⟩
abbrev S1024x3600 : Shape := ⟨2, ![1024, 3600]⟩
abbrev S_ : Shape := ⟨0, ![]⟩
abbrev S8192 : Shape := ⟨1, ![8192]⟩
abbrev S8192x1 : Shape := ⟨2, ![8192, 1]⟩
abbrev S8192x3600 : Shape := ⟨2, ![8192, 3600]⟩
abbrev S8192x1536 : Shape := ⟨2, ![8192, 1536]⟩
abbrev S8192x512 : Shape := ⟨2, ![8192, 512]⟩
abbrev S8192x1552 : Shape := ⟨2, ![8192, 1552]⟩
abbrev S8192x128 : Shape := ⟨2, ![8192, 128]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3600, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x3600, .f32⟩
  | .hbm, ⟨19, _⟩ => ⟨S8192x1536, .f32⟩
  | .hbm, ⟨20, _⟩ => ⟨S8192x512, .f32⟩
  | .hbm, ⟨21, _⟩ => ⟨S8192x1552, .f32⟩
  | .hbm, ⟨22, _⟩ => ⟨S8192x1536, .f32⟩
  | .hbm, ⟨23, _⟩ => ⟨S8192x1024, .bf16⟩
  | .hbm, ⟨24, _⟩ => ⟨S8192x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Kernel6.lean ====
abbrev S8192x1536 : Shape := ⟨2, ![8192, 1536]⟩
abbrev S8192x1024 : Shape := ⟨2, ![8192, 1024]⟩
abbrev S1x1536x1024 : Shape := ⟨3, ![1, 1536, 1024]⟩
abbrev S2048x1536 : Shape := ⟨2, ![2048, 1536]⟩
abbrev S2048x1024 : Shape := ⟨2, ![2048, 1024]⟩
abbrev S1536x1024 : Shape := ⟨2, ![1536, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x1536, .f32⟩
  | .hbm, ⟨1, _⟩ => ⟨S8192x1024, .f32⟩
  | .hbm, ⟨2, _⟩ => ⟨S8192x1536, .bf16⟩
  | .hbm, ⟨3, _⟩ => ⟨S8192x1024, .bf16⟩
  | .hbm, ⟨4, _⟩ => ⟨S1x1536x1024, .bf16⟩
  | .local _ .vmem, ⟨0, _⟩ => ⟨S2048x1536, .bf16⟩
  | .local _ .vmem, ⟨1, _⟩ => ⟨S2048x1536, .bf16⟩
  | .local _ .vmem, ⟨2, _⟩ => ⟨S2048x1024, .bf16⟩
  | .local _ .vmem, ⟨3, _⟩ => ⟨S2048x1024, .bf16⟩
  | .local _ .vmem, ⟨4, _⟩ => ⟨S1x1536x1024, .bf16⟩
  | .local _ .vmem, ⟨5, _⟩ => ⟨S1x1536x1024, .bf16⟩
  | .local _ .vmem, ⟨6, _⟩ => ⟨S1536x1024, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c3_i32 : BitVec 32 := 3#32
  let v23 : BitVec 1 := Scalar.cmpi .eq v9 c3_i32
  let v24 : BitVec 32 := Scalar.extui v23
  let c0_i32_12 : BitVec 32 := 0#32
  let v25 : BitVec 1 := Scalar.cmpi .ne v24 c0_i32_12
  v25

def cc0_transform_0 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_1 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S2048x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1536x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S8192x1536 : Shape := ⟨2, ![8192, 1536]⟩
abbrev S8192x1024 : Shape := ⟨2, ![8192, 1024]⟩
abbrev S_ : Shape := ⟨0, ![]⟩
abbrev S1536x1024 : Shape := ⟨2, ![1536, 1024]⟩
abbrev S1024x1536 : Shape := ⟨2, ![1024, 1536]⟩
abbrev S1x1536x1024 : Shape := ⟨3, ![1, 1536, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1536, .f32⟩
  | .hbm, ⟨1, _⟩ => ⟨S8192x1024, .f32⟩
  | .hbm, ⟨2, _⟩ => ⟨S_, .f32⟩
  | .hbm, ⟨3, _⟩ => ⟨S1536x1024, .f32⟩
  | .hbm, ⟨4, _⟩ => ⟨S1024x1536, .f32⟩
  | .hbm, ⟨5, _⟩ => ⟨S8192x1536, .f32⟩
  | .hbm, ⟨6, _⟩ => ⟨S1536x1024, .f32⟩
  | .hbm, ⟨7, _⟩ => ⟨S1024x1536, .f32⟩
  | .hbm, ⟨8, _⟩ => ⟨S1536x1024, .f32⟩
  | .hbm, ⟨9, _⟩ => ⟨S1536x1024, .bf16⟩
  | .hbm, ⟨10, _⟩ => ⟨S1x1536x1024, .bf16⟩
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel7.lean ====
abbrev S8192x512 : Shape := ⟨2, ![8192, 512]⟩
abbrev S8192x1024 : Shape := ⟨2, ![8192, 1024]⟩
abbrev S1x512x1024 : Shape := ⟨3, ![1, 512, 1024]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S8192x512, .bf16⟩
  | .hbm, ⟨3, _⟩ => ⟨S8192x1024, .bf16⟩
  | .hbm, ⟨4, _⟩ => ⟨S1x512x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c3_i32 : BitVec 32 := 3#32
  let v23 : BitVec 1 := Scalar.cmpi .eq v9 c3_i32
  let v24 : BitVec 32 := Scalar.extui v23
  let c0_i32_12 : BitVec 32 := 0#32
  let v25 : BitVec 1 := Scalar.cmpi .ne v24 c0_i32_12
  v25

def cc0_transform_0 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_1 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩
abbrev S1x512x1024 : Shape := ⟨3, ![1, 512, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S_, .f32⟩
  | .hbm, ⟨3, _⟩ => ⟨S512x1024, .f32⟩
  | .hbm, ⟨4, _⟩ => ⟨S8192x1024, .f32⟩
  | .hbm, ⟨5, _⟩ => ⟨S1024x512, .f32⟩
  | .hbm, ⟨6, _⟩ => ⟨S512x1024, .f32⟩
  | .hbm, ⟨7, _⟩ => ⟨S512x1024, .bf16⟩
  | .hbm, ⟨8, _⟩ => ⟨S1x512x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S8192x512 : Shape := ⟨2, ![8192, 512]⟩
abbrev S1x128 : Shape := ⟨2, ![1, 128]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S128 : Shape := ⟨1, ![128]⟩

abbrev nBuf : Space → Nat
  | .hbm => 8
  | .vmem => 14
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S1x128, .f32⟩
  | .hbm, ⟨5, _⟩ => ⟨S8192x512, .f32⟩
  | .hbm, ⟨6, _⟩ => ⟨S8192x512, .bf16⟩
  | .hbm, ⟨7, _⟩ => ⟨S1x128, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S1x128, .f32⟩
  | .local _ .vmem, ⟨9, _⟩ => ⟨S512x512, .f32⟩
  | .local _ .vmem, ⟨10, _⟩ => ⟨S512x512, .f32⟩
  | .local _ .vmem, ⟨11, _⟩ => ⟨S512x512, .bf16⟩
  | .local _ .vmem, ⟨12, _⟩ => ⟨S512x512, .bf16⟩
  | .local _ .vmem, ⟨13, _⟩ => ⟨S1x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference8Ideal.lean ====
abbrev S8192x512 : Shape := ⟨2, ![8192, 512]⟩
abbrev S1x128 : Shape := ⟨2, ![1, 128]⟩
abbrev S8192x4x128 : Shape := ⟨3, ![8192, 4, 128]⟩
abbrev S_ : Shape := ⟨0, ![]⟩
abbrev S8192x4 : Shape := ⟨2, ![8192, 4]⟩
abbrev S8192x4x1 : Shape := ⟨3, ![8192, 4, 1]⟩
abbrev S1x1x128 : Shape := ⟨3, ![1, 1, 128]⟩
abbrev S128 : Shape := ⟨1, ![128]⟩

abbrev nBuf : Space → Nat
  | .hbm => 79
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S1x128, .f32⟩
  | .hbm, ⟨5, _⟩ => ⟨S8192x512, .f32⟩
  | .hbm, ⟨6, _⟩ => ⟨S8192x4x128, .f32⟩
  | .hbm, ⟨7, _⟩ => ⟨S8192x4x128, .f32⟩
  | .hbm, ⟨8, _⟩ => ⟨S8192x4x128, .f32⟩
  | .hbm, ⟨9, _⟩ => ⟨S_, .f32⟩
  | .hbm, ⟨10, _⟩ => ⟨S8192x4x128, .f32⟩
  | .hbm, ⟨11, _⟩ => ⟨S8192x4x128, .f32⟩
  | .hbm, ⟨12, _⟩ => ⟨S_, .f32⟩
  | .hbm, ⟨13, _⟩ => ⟨S8192x4x128, .f32⟩
  | .hbm, ⟨14, _⟩ => ⟨S8192x4x128, .f32⟩
  | .hbm, ⟨15, _⟩ => ⟨S_, .f32⟩
  | .hbm, ⟨16, _⟩ => ⟨S8192x4x128, .f32⟩
  | .hbm, ⟨17, _⟩ => ⟨S8192x4x128, .f32⟩
  | .hbm, ⟨18, _⟩ => ⟨S8192x4x128, .f32⟩
  | .hbm, ⟨19, _⟩ => ⟨S8192x4x128, .f32⟩
  | .hbm, ⟨20, _⟩ => ⟨S8192x4x128, .f32⟩
  | .hbm, ⟨21, _⟩ => ⟨S8192x4x128, .f32⟩
  | .hbm, ⟨22, _⟩ => ⟨S_, .f32⟩
  | .hbm, ⟨23, _⟩ => ⟨S8192x4, .f32⟩
  | .hbm, ⟨24, _⟩ => ⟨S8192x4x1, .f32⟩
  | .hbm, ⟨25, _⟩ => ⟨S_, .f32⟩
  | .hbm, ⟨26, _⟩ => ⟨S8192x4x1, .f32⟩
  | .hbm, ⟨27, _⟩ => ⟨S8192x4x1, .f32⟩
  | .hbm, ⟨28, _⟩ => ⟨S_, .f32⟩
  | .hbm, ⟨29, _⟩ => ⟨S8192x4x1, .f32⟩
  | .hbm, ⟨30, _⟩ => ⟨S8192x4x1, .f32⟩
  | .hbm, ⟨31, _⟩ => ⟨S8192x4x1, .f32⟩
  | .hbm, ⟨32, _⟩ => ⟨S8192x4x1, .f32⟩
  | .hbm, ⟨33, _⟩ => ⟨S_, .f32⟩
  | .hbm, ⟨34, _⟩ => ⟨S8192x4x1, .f32⟩
  | .hbm, ⟨35, _⟩ => ⟨S8192x4x1, .f32⟩
  | .hbm, ⟨36, _⟩ => ⟨S8192x4x128, .f32⟩
  | .hbm, ⟨37, _⟩ => ⟨S8192x4x128, .f32⟩
  | .hbm, ⟨38, _⟩ => ⟨S1x1x128, .f32⟩
  | .hbm, ⟨39, _⟩ => ⟨S8192x4x128, .f32⟩
  | .hbm, ⟨40, _⟩ => ⟨S8192x4x128, .f32⟩
  | .hbm, ⟨41, _⟩ => ⟨S8192x4x128, .f32⟩
  | .hbm, ⟨42, _⟩ => ⟨S8192x512, .f32⟩
  | .hbm, ⟨43, _⟩ => ⟨S8192x4x128, .f32⟩
  | .hbm, ⟨44, _⟩ => ⟨S8192x4x128, .f32⟩
  | .hbm, ⟨45, _⟩ => ⟨S8192x4x128, .f32⟩
  | .hbm, ⟨46, _⟩ => ⟨S8192x4x128, .f32⟩
  | .hbm, ⟨47, _⟩ => ⟨S_, .f32⟩
  | .hbm, ⟨48, _⟩ => ⟨S128, .f32⟩
  | .hbm, ⟨49, _⟩ => ⟨S1x1x128, .f32⟩
  | .hbm, ⟨50, _⟩ => ⟨S8192x4x128, .f32⟩
  | .hbm, ⟨51, _⟩ => ⟨S8192x4x128, .f32⟩
  | .hbm, ⟨52, _⟩ => ⟨S_, .f32⟩
  | .hbm, ⟨53, _⟩ => ⟨S128, .f32⟩
  | .hbm, ⟨54, _⟩ => ⟨S1x128, .f32⟩
  | .hbm, ⟨55, _⟩ => ⟨S8192x4x128, .f32⟩
  | .hbm, ⟨56, _⟩ => ⟨S_, .f32⟩
  | .hbm, ⟨57, _⟩ => ⟨S8192x4, .f32⟩
  | .hbm, ⟨58, _⟩ => ⟨S8192x4x1, .f32⟩
  | .hbm, ⟨59, _⟩ => ⟨S8192x4x128, .f32⟩
  | .hbm, ⟨60, _⟩ => ⟨S8192x4x128, .f32⟩
  | .hbm, ⟨61, _⟩ => ⟨S8192x4x1, .f32⟩
  | .hbm, ⟨62, _⟩ => ⟨S_, .f32⟩
  | .hbm, ⟨63, _⟩ => ⟨S8192x4x1, .f32⟩
  | .hbm, ⟨64, _⟩ => ⟨S8192x4x1, .f32⟩
  | .hbm, ⟨65, _⟩ => ⟨S_, .f32⟩
  | .hbm, ⟨66, _⟩ => ⟨S8192x4, .f32⟩
  | .hbm, ⟨67, _⟩ => ⟨S8192x4x128, .f32⟩
  | .hbm, ⟨68, _⟩ => ⟨S8192x4x128, .f32⟩
  | .hbm, ⟨69, _⟩ => ⟨S8192x4x128, .f32⟩
  | .hbm, ⟨70, _⟩ => ⟨S8192x4x128, .f32⟩
  | .hbm, ⟨71, _⟩ => ⟨S8192x4x128, .f32⟩
  | .hbm, ⟨72, _⟩ => ⟨S8192x512, .f32⟩
  | .hbm, ⟨73, _⟩ => ⟨S8192x4x128, .f32⟩
  | .hbm, ⟨74, _⟩ => ⟨S8192x4x128, .f32⟩
  | .hbm, ⟨75, _⟩ => ⟨S8192x4x128, .f32⟩
  | .hbm, ⟨76, _⟩ => ⟨S8192x4x128, .f32⟩
  | .hbm, ⟨77, _⟩ => ⟨S8192x512, .f32⟩
  | .hbm, ⟨78, _⟩ => ⟨S8192x512, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_cst_1 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_3 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_4 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_5 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_6 : Ref sig .tc := ⟨.hbm, 62, rfl⟩
abbrev main_v38 : Ref sig .tc := ⟨.hbm, 63, rfl⟩
abbrev main_v39 : Ref sig .tc := ⟨.hbm, 64, rfl⟩
abbrev main_cst_7 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_call1_v0 : Ref sig .tc := ⟨.hbm, 73, rfl⟩
abbrev main_call1_v1 : Ref sig .tc := ⟨.hbm, 74, rfl⟩
abbrev main_call1_v2 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩

abbrev nD : Nat := 1
abbrev τ : Topo := Topo.v7x

variable {F : FTy → Type} [FloatOps F]
-- ==== Kernel9.lean ====
abbrev S8192x512 : Shape := ⟨2, ![8192, 512]⟩
abbrev S1x128 : Shape := ⟨2, ![1, 128]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 5
  | .vmem => 9
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S1x128, .f32⟩
  | .hbm, ⟨4, _⟩ => ⟨S8192x512, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x128, .f32⟩
  | .local _ .vmem, ⟨7, _⟩ => ⟨S512x512, .bf16⟩
  | .local _ .vmem, ⟨8, _⟩ => ⟨S512x512, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference9Ideal.lean ====
abbrev S8192x512 : Shape := ⟨2, ![8192, 512]⟩
abbrev S1x128 : Shape := ⟨2, ![1, 128]⟩
abbrev S8192x4x128 : Shape := ⟨3, ![8192, 4, 128]⟩
abbrev S_ : Shape := ⟨0, ![]⟩
abbrev S8192x4 : Shape := ⟨2, ![8192, 4]⟩
abbrev S8192x4x1 : Shape := ⟨3, ![8192, 4, 1]⟩
abbrev S1x1x128 : Shape := ⟨3, ![1, 1, 128]⟩

abbrev nBuf : Space → Nat
  | .hbm => 35
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S1x128, .f32⟩
  | .hbm, ⟨4, _⟩ => ⟨S8192x4x128, .f32⟩
  | .hbm, ⟨5, _⟩ => ⟨S8192x4x128, .f32⟩
  | .hbm, ⟨6, _⟩ => ⟨S8192x4x128, .f32⟩
  | .hbm, ⟨7, _⟩ => ⟨S_, .f32⟩
  | .hbm, ⟨8, _⟩ => ⟨S8192x4x128, .f32⟩
  | .hbm, ⟨9, _⟩ => ⟨S8192x4x128, .f32⟩
  | .hbm, ⟨10, _⟩ => ⟨S_, .f32⟩
  | .hbm, ⟨11, _⟩ => ⟨S8192x4x128, .f32⟩
  | .hbm, ⟨12, _⟩ => ⟨S8192x4x128, .f32⟩
  | .hbm, ⟨13, _⟩ => ⟨S8192x4x128, .f32⟩
  | .hbm, ⟨14, _⟩ => ⟨S8192x512, .f32⟩
  | .hbm, ⟨15, _⟩ => ⟨S8192x4x128, .f32⟩
  | .hbm, ⟨16, _⟩ => ⟨S8192x4x128, .f32⟩
  | .hbm, ⟨17, _⟩ => ⟨S_, .f32⟩
  | .hbm, ⟨18, _⟩ => ⟨S8192x4, .f32⟩
  | .hbm, ⟨19, _⟩ => ⟨S8192x4x1, .f32⟩
  | .hbm, ⟨20, _⟩ => ⟨S_, .f32⟩
  | .hbm, ⟨21, _⟩ => ⟨S8192x4x1, .f32⟩
  | .hbm, ⟨22, _⟩ => ⟨S8192x4x1, .f32⟩
  | .hbm, ⟨23, _⟩ => ⟨S_, .f32⟩
  | .hbm, ⟨24, _⟩ => ⟨S8192x4x1, .f32⟩
  | .hbm, ⟨25, _⟩ => ⟨S8192x4x1, .f32⟩
  | .hbm, ⟨26, _⟩ => ⟨S8192x4x1, .f32⟩
  | .hbm, ⟨27, _⟩ => ⟨S8192x4x128, .f32⟩
  | .hbm, ⟨28, _⟩ => ⟨S8192x4x128, .f32⟩
  | .hbm, ⟨29, _⟩ => ⟨S1x1x128, .f32⟩
  | .hbm, ⟨30, _⟩ => ⟨S8192x4x128, .f32⟩
  | .hbm, ⟨31, _⟩ => ⟨S8192x4x128, .f32⟩
  | .hbm, ⟨32, _⟩ => ⟨S8192x4x128, .f32⟩
  | .hbm, ⟨33, _⟩ => ⟨S8192x512, .f32⟩
  | .hbm, ⟨34, _⟩ => ⟨S8192x512, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩

abbrev nD : Nat := 1
abbrev τ : Topo := Topo.v7x

variable {F : FTy → Type} [FloatOps F]
-- ==== Kernel10.lean ====
abbrev S8192x1024 : Shape := ⟨2, ![8192, 1024]⟩
abbrev S8192x512 : Shape := ⟨2, ![8192, 512]⟩
abbrev S1024x1024 : Shape := ⟨2, ![1024, 1024]⟩
abbrev S512x512 : Shape := ⟨2, ![512, 512]⟩
abbrev S512x1024 : Shape := ⟨2, ![512, 1024]⟩
abbrev S3x512x1024 : Shape := ⟨3, ![3, 512, 1024]⟩
abbrev S3 : Shape := ⟨1, ![3]⟩
abbrev S1 : Shape := ⟨1, ![1]⟩
abbrev S_ : Shape := ⟨0, ![]⟩
abbrev S1x512x1024 : Shape := ⟨3, ![1, 512, 1024]⟩

abbrev nBuf : Space → Nat
  | .hbm => 7
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S1024x1024, .f32⟩
  | .hbm, ⟨4, _⟩ => ⟨S8192x512, .bf16⟩
  | .hbm, ⟨5, _⟩ => ⟨S1024x1024, .bf16⟩
  | .hbm, ⟨6, _⟩ => ⟨S8192x1024, .f32⟩
  | .local _ .vmem, ⟨0, _⟩ => ⟨S512x512, .bf16⟩
  | .local _ .vmem, ⟨1, _⟩ => ⟨S512x512, .bf16⟩
  | .local _ .vmem, ⟨2, _⟩ => ⟨S512x512, .f32⟩
  | .local _ .vmem, ⟨3, _⟩ => ⟨S512x512, .f32⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | .local _ .vmem, ⟨7, _⟩ => ⟨S3x512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c2_i32 : BitVec 32 := 2#32
  let v3 : BitVec 32 := Scalar.addi arg0 c2_i32
  let c16_i32 : BitVec 32 := 16#32
  let v4 : BitVec 1 := Scalar.cmpi .slt v3 c16_i32
  let v5 : BitVec 32 := Scalar.extui v4
  let c0_i32_1 : BitVec 32 := 0#32
  let v6 : BitVec 1 := Scalar.cmpi .ne v5 c0_i32_1
  v6

def k0_mult1 (i : grid0.Coords) : BitVec 32 :=
  let arg0 : BitVec 32 := BitVec.ofNat 32 (i 0).val
  let c2_i32_26 : BitVec 32 := 2#32
  let v50 : BitVec 32 := Scalar.addi arg0 c2_i32_26
  let c512_i32_33 : BitVec 32 := 512#32
  let v61 : BitVec 32 := Scalar.muli v50 c512_i32_33
  v61
def k0_off1 (i : grid0.Coords) : Fin 1 → Nat :=
  let arg0 : BitVec 32 := BitVec.ofNat 32 (i 0).val
  let c2_i32_26 : BitVec 32 := 2#32
  let v50 : BitVec 32 := Scalar.addi arg0 c2_i32_26
  let c3_i32_27 : BitVec 32 := 3#32
  let c0_i32_28 : BitVec 32 := 0#32
  let v51 : BitVec 1 := Scalar.cmpi .eq c3_i32_27 c0_i32_28
  let c1_i32_29 : BitVec 32 := 1#32
  let v52 : BitVec 32 := Scalar.select v51 c1_i32_29 c3_i32_27
  let v53 : BitVec 32 := Scalar.remsi v50 v52
  let c0_i32_31 : BitVec 32 := 0#32
  let v55 : BitVec 1 := Scalar.cmpi .slt v53 c0_i32_31
  let c0_i32_32 : BitVec 32 := 0#32
  let v56 : BitVec 1 := Scalar.cmpi .slt v52 c0_i32_32
  let v57 : BitVec 1 := Scalar.xori v55 v56
  let c0_i32_30 : BitVec 32 := 0#32
  let v54 : BitVec 1 := Scalar.cmpi .ne v53 c0_i32_30
  let v58 : BitVec 1 := Scalar.andi v57 v54
  let v59 : BitVec 32 := Scalar.addi v53 v52
  let v60 : BitVec 32 := Scalar.select v58 v59 v53
  ![v60.toNat]
def k0_off2 (i : grid0.Coords) : Fin 3 → Nat :=
  let arg0 : BitVec 32 := BitVec.ofNat 32 (i 0).val
  let c2_i32_26 : BitVec 32 := 2#32
  let v50 : BitVec 32 := Scalar.addi arg0 c2_i32_26
  let c3_i32_27 : BitVec 32 := 3#32
  let c0_i32_28 : BitVec 32 := 0#32
  let v51 : BitVec 1 := Scalar.cmpi .eq c3_i32_27 c0_i32_28
  let c1_i32_29 : BitVec 32 := 1#32
  let v52 : BitVec 32 := Scalar.select v51 c1_i32_29 c3_i32_27
  let v53 : BitVec 32 := Scalar.remsi v50 v52
  let c0_i32_31 : BitVec 32 := 0#32
  let v55 : BitVec 1 := Scalar.cmpi .slt v53 c0_i32_31
  let c0_i32_32 : BitVec 32 := 0#32
  let v56 : BitVec 1 := Scalar.cmpi .slt v52 c0_i32_32
  let v57 : BitVec 1 := Scalar.xori v55 v56
  let c0_i32_30 : BitVec 32 := 0#32
  let v54 : BitVec 1 := Scalar.cmpi .ne v53 c0_i32_30
  let v58 : BitVec 1 := Scalar.andi v57 v54
  let v59 : BitVec 32 := Scalar.addi v53 v52
  let v60 : BitVec 32 := Scalar.select v58 v59 v53
  let c0_i32_34 : BitVec 32 := 0#32
  let c0_i32_35 : BitVec 32 := 0#32
  ![v60.toNat, 0, 0]
def k0_off3 (i : grid0.Coords) : Fin 2 → Nat :=
  let arg0 : BitVec 32 := BitVec.ofNat 32 (i 0).val
  let c2_i32_26 : BitVec 32 := 2#32
  let v50 : BitVec 32 := Scalar.addi arg0 c2_i32_26
  let c512_i32_33 : BitVec 32 := 512#32
  let v61 : BitVec 32 := Scalar.muli v50 c512_i32_33
  let v62 : BitVec 32 := v61
  let c0_i32_36 : BitVec 32 := 0#32
  ![v62.toNat, 0]
def k0_mult2 (i : grid0.Coords) : BitVec 32 :=
  let arg0 : BitVec 32 := BitVec.ofNat 32 (i 0).val
  let c512_i32 : BitVec 32 := 512#32
  let v17 : BitVec 32 := Scalar.muli arg0 c512_i32
  v17
def k0_off4 (i : grid0.Coords) : Fin 1 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  ![v16.toNat]
def k0_off5 (i : grid0.Coords) : Fin 3 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c0_i32_6 : BitVec 32 := 0#32
  let c0_i32_7 : BitVec 32 := 0#32
  ![v16.toNat, 0, 0]
def k0_off6 (i : grid0.Coords) : Fin 2 → Nat :=
  let arg0 : BitVec 32 := BitVec.ofNat 32 (i 0).val
  let c512_i32 : BitVec 32 := 512#32
  let v17 : BitVec 32 := Scalar.muli arg0 c512_i32
  let v18 : BitVec 32 := v17
  let c0_i32_8 : BitVec 32 := 0#32
  ![v18.toNat, 0]
def k0_off7 (i : grid0.Coords) : Fin 3 → Nat :=
  let arg0 : BitVec 32 := BitVec.ofNat 32 (i 0).val
  let c3_i32_9 : BitVec 32 := 3#32
  let c0_i32_10 : BitVec 32 := 0#32
  let v24 : BitVec 1 := Scalar.cmpi .eq c3_i32_9 c0_i32_10
  let c1_i32_11 : BitVec 32 := 1#32
  let v25 : BitVec 32 := Scalar.select v24 c1_i32_11 c3_i32_9
  let v26 : BitVec 32 := Scalar.remsi arg0 v25
  let c0_i32_13 : BitVec 32 := 0#32
  let v28 : BitVec 1 := Scalar.cmpi .slt v26 c0_i32_13
  let c0_i32_14 : BitVec 32 := 0#32
  let v29 : BitVec 1 := Scalar.cmpi .slt v25 c0_i32_14
  let v30 : BitVec 1 := Scalar.xori v28 v29
  let c0_i32_12 : BitVec 32 := 0#32
  let v27 : BitVec 1 := Scalar.cmpi .ne v26 c0_i32_12
  let v31 : BitVec 1 := Scalar.andi v30 v27
  let v32 : BitVec 32 := Scalar.addi v26 v25
  let v33 : BitVec 32 := Scalar.select v31 v32 v26
  let v34 : Index := Scalar.indexCast v33
  let c0 : Index := 0#32
  let c0_15 : Index := 0#32
  ![v34.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference10Ideal.lean ====
abbrev S8192x1024 : Shape := ⟨2, ![8192, 1024]⟩
abbrev S8192x512 : Shape := ⟨2, ![8192, 512]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Kernel11.lean ====
abbrev S8192x128 : Shape := ⟨2, ![8192, 128]⟩
abbrev S8192x1024 : Shape := ⟨2, ![8192, 1024]⟩
abbrev S1x128x1024 : Shape := ⟨3, ![1, 128, 1024]⟩
abbrev S2048x128 : Shape := ⟨2, ![2048, 128]⟩
abbrev S2048x1024 : Shape := ⟨2, ![2048, 1024]⟩
abbrev S128x1024 : Shape := ⟨2, ![128, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x128, .f32⟩
  | .hbm, ⟨1, _⟩ => ⟨S8192x1024, .f32⟩
  | .hbm, ⟨2, _⟩ => ⟨S8192x128, .bf16⟩
  | .hbm, ⟨3, _⟩ => ⟨S8192x1024, .bf16⟩
  | .hbm, ⟨4, _⟩ => ⟨S1x128x1024, .bf16⟩
  | .local _ .vmem, ⟨0, _⟩ => ⟨S2048x128, .bf16⟩
  | .local _ .vmem, ⟨1, _⟩ => ⟨S2048x128, .bf16⟩
  | .local _ .vmem, ⟨2, _⟩ => ⟨S2048x1024, .bf16⟩
  | .local _ .vmem, ⟨3, _⟩ => ⟨S2048x1024, .bf16⟩
  | .local _ .vmem, ⟨4, _⟩ => ⟨S1x128x1024, .bf16⟩
  | .local _ .vmem, ⟨5, _⟩ => ⟨S1x128x1024, .bf16⟩
  | .local _ .vmem, ⟨6, _⟩ => ⟨S128x1024, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c3_i32 : BitVec 32 := 3#32
  let v23 : BitVec 1 := Scalar.cmpi .eq v9 c3_i32
  let v24 : BitVec 32 := Scalar.extui v23
  let c0_i32_12 : BitVec 32 := 0#32
  let v25 : BitVec 1 := Scalar.cmpi .ne v24 c0_i32_12
  v25

def cc0_transform_0 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_1 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference11Ideal.lean ====
abbrev S8192x128 : Shape := ⟨2, ![8192, 128]⟩
abbrev S8192x1024 : Shape := ⟨2, ![8192, 1024]⟩
abbrev S_ : Shape := ⟨0, ![]⟩
abbrev S128x1024 : Shape := ⟨2, ![128, 1024]⟩
abbrev S1024x128 : Shape := ⟨2, ![1024, 128]⟩
abbrev S1x128x1024 : Shape := ⟨3, ![1, 128, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x1024, .f32⟩
  | .hbm, ⟨2, _⟩ => ⟨S_, .f32⟩
  | .hbm, ⟨3, _⟩ => ⟨S128x1024, .f32⟩
  | .hbm, ⟨4, _⟩ => ⟨S1024x128, .f32⟩
  | .hbm, ⟨5, _⟩ => ⟨S8192x128, .f32⟩
  | .hbm, ⟨6, _⟩ => ⟨S128x1024, .f32⟩
  | .hbm, ⟨7, _⟩ => ⟨S1024x128, .f32⟩
  | .hbm, ⟨8, _⟩ => ⟨S128x1024, .f32⟩
  | .hbm, ⟨9, _⟩ => ⟨S128x1024, .bf16⟩
  | .hbm, ⟨10, _⟩ => ⟨S1x128x1024, .bf16⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Proof.KernelFrame.lean ====
/-
  The frame of the kernel at any arithmetic: every execution ends, the arguments are left as they were, and every
  semaphore ends at zero. What the kernel computes is not stated here, so neither the outputs nor the scratch is named.
-/
module

public import proofs.«01_k».proof.Proof.Gen.Kernel.Frame.RunB
public import Idealize.ShloMosaic.Lib.Claim

@[expose] public section

set_option maxRecDepth 16384

noncomputable section

namespace Cert.Proof.KernelFrame

open Idealize.ShloMosaic Idealize.ShloMosaic.TcCoe Idealize.ShloMosaic.Tactic Cert.Kernel Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output windows, of which nothing is said. -/
def outputs : Fin 26 → Bool := fun w => w.val == 16 || w.val == 17 || w.val == 18 || w.val == 19 || w.val == 20 || w.val == 21 || w.val == 22 || w.val == 23 || w.val == 24 || w.val == 25

/-- The proof data: each input buffer ends a point at its block; the scratch holds something throughout. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, h⟩ => Pipeline.Dat.unnamed (cfg := cfg0) ⟨16, h⟩ t
    | ⟨17, h⟩ => Pipeline.Dat.unnamed (cfg := cfg0) ⟨17, h⟩ t
    | ⟨18, h⟩ => Pipeline.Dat.unnamed (cfg := cfg0) ⟨18, h⟩ t
    | ⟨19, h⟩ => Pipeline.Dat.unnamed (cfg := cfg0) ⟨19, h⟩ t
    | ⟨20, h⟩ => Pipeline.Dat.unnamed (cfg := cfg0) ⟨20, h⟩ t
    | ⟨21, h⟩ => Pipeline.Dat.unnamed (cfg := cfg0) ⟨21, h⟩ t
    | ⟨22, h⟩ => Pipeline.Dat.unnamed (cfg := cfg0) ⟨22, h⟩ t
    | ⟨23, h⟩ => Pipeline.Dat.unnamed (cfg := cfg0) ⟨23, h⟩ t
    | ⟨24, h⟩ => Pipeline.Dat.unnamed (cfg := cfg0) ⟨24, h⟩ t
    | ⟨25, h⟩ => Pipeline.Dat.unnamed (cfg := cfg0) ⟨25, h⟩ t
    | ⟨_ + 26, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem Phi_eq (c : Dev nD) (t : Fin (cfg0.N + 1)) : (dats m 0 c).Φ t = Pipeline.ΦA spec0 c := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d
theorem before_14 (c : Dev nD) (t : Fin cfg0.N) (d) : (dats m 0 c).before 14 t d = iblk m c 14 t :=
  before0_14_of m (dats m 0 c) (A_eq m c 14) (after_14 m c) t d
theorem before_15 (c : Dev nD) (t : Fin cfg0.N) (d) : (dats m 0 c).before 15 t d = iblk m c 15 t :=
  before0_15_of m (dats m 0 c) (A_eq m c 15) (after_15 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d)
    ∗ (∃ d, owns (c : Thread nD τ) (ms0_20 t) fullShare d)
    ∗ (∃ d, owns (c : Thread nD τ) (ms0_21 t) fullShare d)
    ∗ (∃ d, owns (c : Thread nD τ) (ms0_22 t) fullShare d)
    ∗ (∃ d, owns (c : Thread nD τ) (ms0_23 t) fullShare d)
    ∗ (∃ d, owns (c : Thread nD τ) (ms0_24 t) fullShare d)
    ∗ (∃ d, owns (c : Thread nD τ) (ms0_25 t) fullShare d))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d)
    ∗ (∃ d, owns (c : Thread nD τ) (ms0_20 t) fullShare d)
    ∗ (∃ d, owns (c : Thread nD τ) (ms0_21 t) fullShare d)
    ∗ (∃ d, owns (c : Thread nD τ) (ms0_22 t) fullShare d)
    ∗ (∃ d, owns (c : Thread nD τ) (ms0_23 t) fullShare d)
    ∗ (∃ d, owns (c : Thread nD τ) (ms0_24 t) fullShare d)
    ∗ (∃ d, owns (c : Thread nD τ) (ms0_25 t) fullShare d))

set_option maxHeartbeats 8000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15]
  rw [show (dats m 0 c).owesAt () t.succ = (dats m 0 c).owesAt () t.castSucc from rfl, after_0, after_1, after_2, after_3, after_4, after_5, after_6, after_7, after_8, after_9, after_10, after_11, after_12, after_13, after_14, after_15]
  rw [Phi_eq, Phi_eq, PhiA0_eq]
  by_cases h0 : t.val % 16 = 0
  · skip
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
    iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)).2.2.2.2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [HS]; · iexact HS
    iintro ⟨H0, H1, H2, H3, H4, H5, H6, H7, H8, H9, H10, H11, H12, H13, H14, H15, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩, ⟨%e25, H25⟩, ⟨%es, HS⟩⟩
    isplitl [HS Hg]
    · isplitl [HS]
      · unfold owns; iexists _, _; isplitr; swap; · iexact HS
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]
    · unfold owns; iexists _, _; isplitr; swap; · iexact H16
      ipureintro; rfl
    isplitl [H17]
    · unfold owns; iexists _, _; isplitr; swap; · iexact H17
      ipureintro; rfl
    isplitl [H18]
    · unfold owns; iexists _, _; isplitr; swap; · iexact H18
      ipureintro; rfl
    isplitl [H19]
    · unfold owns; iexists _, _; isplitr; swap; · iexact H19
      ipureintro; rfl
    isplitl [H20]
    · unfold owns; iexists _, _; isplitr; swap; · iexact H20
      ipureintro; rfl
    isplitl [H21]
    · unfold owns; iexists _, _; isplitr; swap; · iexact H21
      ipureintro; rfl
    isplitl [H22]
    · unfold owns; iexists _, _; isplitr; swap; · iexact H22
      ipureintro; rfl
    isplitl [H23]
    · unfold owns; iexists _, _; isplitr; swap; · iexact H23
      ipureintro; rfl
    isplitl [H24]
    · unfold owns; iexists _, _; isplitr; swap; · iexact H24
      ipureintro; rfl
    unfold owns; iexists _, _; isplitr; swap; · iexact H25
    ipureintro; rfl
  · skip
    iintro ⟨⟨⟨%ds, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
    iapply ((kernelRun0_B c (grid0.coords t) _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) ds).2.2.2.2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [HS]; · iexact HS
    iintro ⟨H0, H1, H2, H3, H4, H5, H6, H7, H8, H9, H10, H11, H12, H13, H14, H15, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩, ⟨%e25, H25⟩, ⟨%es, HS⟩⟩
    isplitl [HS Hg]
    · isplitl [HS]
      · unfold owns; iexists _, _; isplitr; swap; · iexact HS
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]
    · unfold owns; iexists _, _; isplitr; swap; · iexact H16
      ipureintro; rfl
    isplitl [H17]
    · unfold owns; iexists _, _; isplitr; swap; · iexact H17
      ipureintro; rfl
    isplitl [H18]
    · unfold owns; iexists _, _; isplitr; swap; · iexact H18
      ipureintro; rfl
    isplitl [H19]
    · unfold owns; iexists _, _; isplitr; swap; · iexact H19
      ipureintro; rfl
    isplitl [H20]
    · unfold owns; iexists _, _; isplitr; swap; · iexact H20
      ipureintro; rfl
    isplitl [H21]
    · unfold owns; iexists _, _; isplitr; swap; · iexact H21
      ipureintro; rfl
    isplitl [H22]
    · unfold owns; iexists _, _; isplitr; swap; · iexact H22
      ipureintro; rfl
    isplitl [H23]
    · unfold owns; iexists _, _; isplitr; swap; · iexact H23
      ipureintro; rfl
    isplitl [H24]
    · unfold owns; iexists _, _; isplitr; swap; · iexact H24
      ipureintro; rfl
    unfold owns; iexists _, _; isplitr; swap; · iexact H25
    ipureintro; rfl

theorem defs₀_row (t : Fin cfg0.N) : defs₀ (F := F) .tc cfg0.body (cfg0.bodyArgs t (cfg0.slots t)) = bodyAt0 t := by
  unfold defs₀; rw [Defs.onTc_tc]

set_option maxHeartbeats 4000000 in
theorem body_obligation (c : Dev nD) : BodyObligation (dats (F := F) m 0 c) (defs₀ (F := F)) Variants.none () Set.univ outputs := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [Phi_eq]
  try exact Idealize.SL.BI.Entails.refl _

theorem hout (c : Dev nD) : (dats m 0 c).Φ (Fin.last cfg0.N) ⊢ Pipeline.ΦA spec0 c := by
  rw [Phi_eq]
  try exact Idealize.SL.BI.Entails.refl _

-- the conclusion of the launch lemma is unified with this one up to plain definitions
set_option backward.isDefEq.respectTransparency.types false in
theorem run_quiescent : θ_run defs (onTc (τ := τ) (main (F := F))) (s₀ m ρ)
    (fun r => (Pipeline.RDat.FramePost (cfgs 0) (fun c => (dats m 0 c).toRForget outputs) (V m)) r ∧ r.2.sem = fun _ => 0) :=
  Pipeline.θ_run_frame_track_forget_shared (Q' := _) cfgs (dats m) (0 : Fin 1) launch₀0 defs₀ Variants.none outputs m ρ main
    (hbody := fun c => (body_obligation m c).loose) (hq := fun _ _ _ => rfl)
    (howed := fun _ _ => rfl) (V := V m) (hmain := hmain m Variants.none) (hA := A_eq m) (hin := hin m) (hout := hout m)

/-- The arguments end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(Pipeline.RDat.FramePost.arr_in h.1 c 1 rfl).trans ((A_eq m c 1).trans (V_main_arg0 m c)),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c)⟩)
    (run_quiescent m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_quiescent m ρ))

end Cert.Proof.KernelFrame

end
-- ==== Proof.Tiles.lean ====
/-
  One step of one chain, as the kernel's vector operations write it: the eight blocks a step loads (`Tile`), the five
  blocks it stores and the state's gradient it carries on (`next`), over any float type. `Bufs` holds the eight input
  buffers of one direction, `tile` a step's loads from them, and `eight` lists the stores of a grid point's eight steps
  of four chains, newest first.
-/
module

public import proofs.«01_k».proof.Proof.Gen.KernelIdeal.Skeleton
public import Idealize.ShloMosaic.Lib.WholeRead
public import Idealize.ShloMosaic.Lib.Pipeline.ReadBack

@[expose] public section

set_option maxRecDepth 16384

noncomputable section

namespace Cert.Proof.Tiles

open Idealize.ShloMosaic Idealize.ShloMosaic.TcCoe Cert.KernelIdeal Cert.KernelIdeal.Gen

variable {F : FTy → Type} [FloatOps F]

/-- What one step of one chain loads. -/
structure Tile (F : FTy → Type) where
  dov : Vec F S64x128 .f32
  s : Vec F S1x1x128x128 .bf16
  w : Vec F S1x1x64x128 .bf16
  qg : Vec F S1x1x64x128 .bf16
  kd : Vec F S1x1x64x128 .bf16
  inn : Vec F S1x1x64x64 .bf16
  vn : Vec F S1x1x64x128 .bf16
  egl : Vec F S1x1x128 .f32

def dovb (T : Tile F) : FVec F S64x128 .bf16 := truncf .bf16 T.dov bitsLt_bf16_f32

def sqv (T : Tile F) : FVec F S128x128 .bf16 := shapeCast S128x128 T.s shapeCasts_S1x1x128x128_S128x128

def rowv (T : Tile F) : FVec F S1x128 .f32 := shapeCast S1x128 T.egl shapeCasts_S1x1x128_S1x128

def half (ds : FVec F S128x128 .f32) : FVec F S128x128 .bf16 := truncf .bf16 ds bitsLt_bf16_f32

/-- The corrected values' gradient. -/
def dvn (T : Tile F) (ds : FVec F S128x128 .f32) : FVec F S64x128 .bf16 :=
  truncf .bf16
    (addf
      (matmul dot_S64x64_S64x128_S64x128_0_0_1_1_n_n none (shapeCast S64x64 T.inn shapeCasts_S1x1x64x64_S64x64) (dovb T) (constant S64x128 .f32 0#32))
      (matmul dot_S64x128_S128x128_S64x128_1_0_0_1_n_n none (shapeCast S64x128 T.kd shapeCasts_S1x1x64x128_S64x128) (half ds) (constant S64x128 .f32 0#32)))
    bitsLt_bf16_f32

/-- The state's gradient before the step. -/
def next (T : Tile F) (ds : FVec F S128x128 .f32) : FVec F S128x128 .f32 :=
  subf
    (addf
      (matmul dot_S64x128_S64x128_S128x128_0_0_1_1_n_n none (shapeCast S64x128 T.qg shapeCasts_S1x1x64x128_S64x128) (dovb T) (constant S128x128 .f32 0#32))
      (mulf (broadcastTo S128x128 (rowv T) broadcasts_S1x128_S128x128) ds))
    (matmul dot_S64x128_S64x128_S128x128_0_0_1_1_n_n none (shapeCast S64x128 T.w shapeCasts_S1x1x64x128_S64x128) (dvn T ds) (constant S128x128 .f32 0#32))

def outVn (T : Tile F) (ds : FVec F S128x128 .f32) : FVec F S1x1x64x128 .bf16 :=
  shapeCast S1x1x64x128 (dvn T ds) shapeCasts_S64x128_S1x1x64x128

def outW (T : Tile F) (ds : FVec F S128x128 .f32) : FVec F S1x1x64x128 .bf16 :=
  shapeCast S1x1x64x128
    (truncf .bf16
      (subf (broadcast S64x128 (FloatOps.ofBits .f32 0#32))
        (matmul dot_S64x128_S128x128_S64x128_1_1_0_0_n_n none (dvn T ds) (sqv T) (constant S64x128 .f32 0#32)))
      bitsLt_bf16_f32)
    shapeCasts_S64x128_S1x1x64x128

def outQg (T : Tile F) (_ : FVec F S128x128 .f32) : FVec F S1x1x64x128 .f32 :=
  shapeCast S1x1x64x128
    (matmul dot_S64x128_S128x128_S64x128_1_1_0_0_n_n none (dovb T) (sqv T) (constant S64x128 .f32 0#32))
    shapeCasts_S64x128_S1x1x64x128

def outKd (T : Tile F) (ds : FVec F S128x128 .f32) : FVec F S1x1x64x128 .f32 :=
  shapeCast S1x1x64x128
    (matmul dot_S64x128_S128x128_S64x128_1_1_0_0_n_n none (shapeCast S64x128 T.vn shapeCasts_S1x1x64x128_S64x128) (half ds) (constant S64x128 .f32 0#32))
    shapeCasts_S64x128_S1x1x64x128

def outGl (T : Tile F) (ds : FVec F S128x128 .f32) : FVec F S1x1x128 .f32 :=
  shapeCast S1x1x128
    (mulf (rowv T)
      (broadcastTo S1x128
        (shapeCast S1x1
          (multiReduction .add [0] S1
            (shapeCast S128x1
              (multiReduction .add [1] S128 (mulf (extf .f32 (sqv T) bitsLt_bf16_f32) ds) 0x00000000#32 reduces_S128x128_S128 (.inl rfl) rfl)
              shapeCasts_S128_S128x1)
            0x00000000#32 reduces_S128x1_S1 (.inl rfl) rfl)
          shapeCasts_S1_S1x1)
        broadcasts_S1x1_S1x128))
    shapeCasts_S1x128_S1x1x128

/-- The state's gradient after `n` steps. -/
def state (T : ℕ → Tile F) (ds : FVec F S128x128 .f32) (n : ℕ) : FVec F S128x128 .f32 :=
  Nat.rec (motive := fun _ => FVec F S128x128 .f32) ds (fun j d => next (T j) d) n

/-- The eight input buffers of one direction, held at given contents. -/
structure Bufs (F : FTy → Type) where
  m0 : Memref sig .tc .vmem S512x512 .f32
  h0 : m0.IsWhole
  m1 : Memref sig .tc .vmem S8x4x128x128 .bf16
  h1 : m1.IsWhole
  m2 : Memref sig .tc .vmem S8x4x64x128 .bf16
  h2 : m2.IsWhole
  m3 : Memref sig .tc .vmem S8x4x64x128 .bf16
  h3 : m3.IsWhole
  m4 : Memref sig .tc .vmem S8x4x64x128 .bf16
  h4 : m4.IsWhole
  m5 : Memref sig .tc .vmem S8x4x64x64 .bf16
  h5 : m5.IsWhole
  m6 : Memref sig .tc .vmem S8x4x64x128 .bf16
  h6 : m6.IsWhole
  m7 : Memref sig .tc .vmem S8x8x128 .f32
  h7 : m7.IsWhole
  x0 : Vec F S512x512 .f32
  x1 : Vec F S8x4x128x128 .bf16
  x2 : Vec F S8x4x64x128 .bf16
  x3 : Vec F S8x4x64x128 .bf16
  x4 : Vec F S8x4x64x128 .bf16
  x5 : Vec F S8x4x64x64 .bf16
  x6 : Vec F S8x4x64x128 .bf16
  x7 : Vec F S8x8x128 .f32

theorem inb4 {b c : ℕ} (k h : ℕ) (a : Fin 4) : (![k % 8, h % 4, 0, 0] : Fin 4 → ℕ) a + (![1, 1, b, c] : Fin 4 → ℕ) a ≤ (![8, 4, b, c] : Fin 4 → ℕ) a := by
  match a with
  | ⟨0, _⟩ => show k % 8 + 1 ≤ 8; omega
  | ⟨1, _⟩ => show h % 4 + 1 ≤ 4; omega
  | ⟨2, _⟩ => show 0 + b ≤ b; omega
  | ⟨3, _⟩ => show 0 + c ≤ c; omega

theorem inb3 {b : ℕ} (n : ℕ) (hn : 0 < n) (k g : ℕ) (a : Fin 3) : (![k % 8, g % n, 0] : Fin 3 → ℕ) a + (![1, 1, b] : Fin 3 → ℕ) a ≤ (![8, n, b] : Fin 3 → ℕ) a := by
  have := Nat.mod_lt g hn
  match a with
  | ⟨0, _⟩ => show k % 8 + 1 ≤ 8; omega
  | ⟨1, _⟩ => show g % n + 1 ≤ n; omega
  | ⟨2, _⟩ => show 0 + b ≤ b; omega

theorem inb2 (k h : ℕ) (a : Fin 2) : (![64 * (k % 8), 128 * (h % 4)] : Fin 2 → ℕ) a + (![64, 128] : Fin 2 → ℕ) a ≤ (![512, 512] : Fin 2 → ℕ) a := by
  match a with
  | ⟨0, _⟩ => show 64 * (k % 8) + 64 ≤ 512; omega
  | ⟨1, _⟩ => show 128 * (h % 4) + 128 ≤ 512; omega

theorem inbS (g : ℕ) (a : Fin 3) : (![g % 8, 0, 0] : Fin 3 → ℕ) a + (![1, 128, 128] : Fin 3 → ℕ) a ≤ (![8, 128, 128] : Fin 3 → ℕ) a := by
  match a with
  | ⟨0, _⟩ => show g % 8 + 1 ≤ 8; omega
  | ⟨1, _⟩ => show 0 + 128 ≤ 128; omega
  | ⟨2, _⟩ => show 0 + 128 ≤ 128; omega

/-- The loads of chunk `k` of the block, chain `h`, the decay at row `g`. -/
def tile (B : Bufs F) (k h g : ℕ) : Tile F where
  dov := View.readAt (Elt F) B.m0.view (Rect.unit (s := S512x512) ![64 * (k % 8), 128 * (h % 4)] S64x128.size (inb2 k h)).toLoadRect (B.h0.unread B.x0)
  s := View.readAt (Elt F) B.m1.view (Rect.unit (s := S8x4x128x128) ![k % 8, h % 4, 0, 0] S1x1x128x128.size (inb4 k h)).toLoadRect (B.h1.unread B.x1)
  w := View.readAt (Elt F) B.m2.view (Rect.unit (s := S8x4x64x128) ![k % 8, h % 4, 0, 0] S1x1x64x128.size (inb4 k h)).toLoadRect (B.h2.unread B.x2)
  qg := View.readAt (Elt F) B.m3.view (Rect.unit (s := S8x4x64x128) ![k % 8, h % 4, 0, 0] S1x1x64x128.size (inb4 k h)).toLoadRect (B.h3.unread B.x3)
  kd := View.readAt (Elt F) B.m4.view (Rect.unit (s := S8x4x64x128) ![k % 8, h % 4, 0, 0] S1x1x64x128.size (inb4 k h)).toLoadRect (B.h4.unread B.x4)
  inn := View.readAt (Elt F) B.m5.view (Rect.unit (s := S8x4x64x64) ![k % 8, h % 4, 0, 0] S1x1x64x64.size (inb4 k h)).toLoadRect (B.h5.unread B.x5)
  vn := View.readAt (Elt F) B.m6.view (Rect.unit (s := S8x4x64x128) ![k % 8, h % 4, 0, 0] S1x1x64x128.size (inb4 k h)).toLoadRect (B.h6.unread B.x6)
  egl := View.readAt (Elt F) B.m7.view (Rect.unit (s := S8x8x128) ![k % 8, g % 8, 0] S1x1x128.size (inb3 8 (by decide) k g)).toLoadRect (B.h7.unread B.x7)

/-- A store into one chunk and chain of a four-axis output. -/
def piece4 {e : EltTy} (k h : ℕ) (p : S1x1x64x128.Idx → Elt F e) : View.Piece (Elt F) S8x4x64x128 e :=
  ⟨Rect.unit (s := S8x4x64x128) ![k % 8, h % 4, 0, 0] S1x1x64x128.size (inb4 k h), p⟩

/-- A store into one chunk and chain of a three-axis output. -/
def piece3 (k h : ℕ) (p : S1x1x128.Idx → Elt F .f32) : View.Piece (Elt F) S8x4x128 .f32 :=
  ⟨Rect.unit (s := S8x4x128) ![k % 8, h % 4, 0] S1x1x128.size (inb3 4 (by decide) k h), p⟩

/-- A store of one chain's state. -/
def pieceS (g : ℕ) (p : S1x128x128.Idx → Elt F .f32) : View.Piece (Elt F) S8x128x128 .f32 :=
  ⟨Rect.unit (s := S8x128x128) ![g % 8, 0, 0] S1x128x128.size (inbS g), p⟩

/-- The stores of one step, over the earlier ones. -/
def four {α : Type} (p : ℕ → ℕ → α) (j : ℕ) (L : List α) : List α := p j 3 :: p j 2 :: p j 1 :: p j 0 :: L

/-- The stores of eight steps. -/
def eight {α : Type} (p : ℕ → ℕ → α) : List α :=
  four p 7 (four p 6 (four p 5 (four p 4 (four p 3 (four p 2 (four p 1 (four p 0 [])))))))

/-- The chunk of the block that step `j` meets, in either direction. -/
def kOf (d : Bool) (j : ℕ) : ℕ := bif d then j else 7 - j

/-- The chain's row among the eight chains. -/
def gOf (d : Bool) (h : ℕ) : ℕ := bif d then 4 + h else h

/-- The tile of step `j`. -/
def tileOf (d : Bool) (B : Bufs F) (h j : ℕ) : Tile F := tile B (kOf d j) h (gOf d h)

/-- The state's gradient of chain `h` when step `j` begins, from the eight chains' loaded states. -/
def stOf (d : Bool) (B : Bufs F) (ini : ℕ → Vec F S1x128x128 .f32) (h j : ℕ) : FVec F S128x128 .f32 :=
  state (tileOf d B h) (shapeCast S128x128 (ini (gOf d h)) shapeCasts_S1x128x128_S128x128) j

/-- The stores of one four-axis output over a grid point. -/
def list4 {e : EltTy} (o : Tile F → FVec F S128x128 .f32 → S1x1x64x128.Idx → Elt F e) (d : Bool) (B : Bufs F)
    (ini : ℕ → Vec F S1x128x128 .f32) : List (View.Piece (Elt F) S8x4x64x128 e) :=
  eight fun j h => piece4 (kOf d j) h (o (tileOf d B h j) (stOf d B ini h j))

/-- The stores of one three-axis output over a grid point. -/
def list3 (d : Bool) (B : Bufs F) (ini : ℕ → Vec F S1x128x128 .f32) : List (View.Piece (Elt F) S8x4x128 .f32) :=
  eight fun j h => piece3 (kOf d j) h (outGl (tileOf d B h j) (stOf d B ini h j))

/-- A chain's state after the eight steps, as it is stored. -/
def endOf (d : Bool) (B : Bufs F) (ini : ℕ → Vec F S1x128x128 .f32) (h : ℕ) : View.Piece (Elt F) S8x128x128 .f32 :=
  pieceS (gOf d h) (shapeCast S1x128x128 (stOf d B ini h 8) shapeCasts_S128x128_S1x128x128)

/-- The stores of the eight chains' states, over the earlier ones. -/
def listS (B0 B1 : Bufs F) (ini : ℕ → Vec F S1x128x128 .f32) (L : List (View.Piece (Elt F) S8x128x128 .f32)) :
    List (View.Piece (Elt F) S8x128x128 .f32) :=
  endOf true B1 ini 3 :: endOf true B1 ini 2 :: endOf true B1 ini 1 :: endOf true B1 ini 0 ::
    endOf false B0 ini 3 :: endOf false B0 ini 2 :: endOf false B0 ini 1 :: endOf false B0 ini 0 :: L

/-- What the scratch is filled with at the first grid point. -/
def fill : List (View.Piece (Elt F) S8x128x128 .f32) :=
  [⟨Rect.unit (s := S8x128x128) ![0, 0, 0] S8x128x128.size inb_S8x128x128_S8x128x128_0_0_0, k0_pay7⟩]

/-- The states loaded at the first grid point: from the fill. -/
def iniA (v : Memref sig .tc .vmem S8x128x128 .f32) (g : ℕ) : Vec F S1x128x128 .f32 :=
  v.view.readCov fill (Rect.unit (s := S8x128x128) ![g % 8, 0, 0] S1x128x128.size (inbS g)).toLoadRect

/-- The states loaded at a later grid point: what the point before left. -/
def iniB (v : Memref sig .tc .vmem S8x128x128 .f32) (hv : v.IsWhole) (xs : Vec F S8x128x128 .f32) (g : ℕ) : Vec F S1x128x128 .f32 :=
  View.readAt (Elt F) v.view (Rect.unit (s := S8x128x128) ![g % 8, 0, 0] S1x128x128.size (inbS g)).toLoadRect (hv.unread xs)

end Cert.Proof.Tiles

end
-- ==== Proof.FoundA.lean ====
/-
  The stores the run of the kernel's body finds, case A: they are the lists of `Tiles`, window by window. Both sides are
  the same operations on the same loads, so each equation holds by unfolding.
-/
module

public import proofs.«01_k».proof.Proof.Tiles
public import proofs.«01_k».proof.Proof.Gen.KernelIdeal.Frame.RunA

@[expose] public section

set_option maxRecDepth 16384

noncomputable section

namespace Cert.Proof.Found

open Idealize.ShloMosaic Idealize.ShloMosaic.TcCoe Idealize.ShloMosaic.Tactic Cert.KernelIdeal Cert.KernelIdeal.Gen Cert.Proof.Tiles

variable {F : FTy → Type} [FloatOps F]

/-- The buffers of a grid point: the inputs of each direction, the outputs and the scratch. -/
structure Env (F : FTy → Type) where
  b0 : Bufs F
  b1 : Bufs F
  o0 : Memref sig .tc .vmem S8x4x64x128 .bf16
  w0 : o0.IsWhole
  o1 : Memref sig .tc .vmem S8x4x64x128 .bf16
  w1 : o1.IsWhole
  o2 : Memref sig .tc .vmem S8x4x64x128 .bf16
  w2 : o2.IsWhole
  o3 : Memref sig .tc .vmem S8x4x64x128 .bf16
  w3 : o3.IsWhole
  o4 : Memref sig .tc .vmem S8x4x64x128 .f32
  w4 : o4.IsWhole
  o5 : Memref sig .tc .vmem S8x4x64x128 .f32
  w5 : o5.IsWhole
  o6 : Memref sig .tc .vmem S8x4x64x128 .f32
  w6 : o6.IsWhole
  o7 : Memref sig .tc .vmem S8x4x64x128 .f32
  w7 : o7.IsWhole
  o8 : Memref sig .tc .vmem S8x4x128 .f32
  w8 : o8.IsWhole
  o9 : Memref sig .tc .vmem S8x4x128 .f32
  w9 : o9.IsWhole
  scr : Memref sig .tc .vmem S8x128x128 .f32
  wscr : scr.IsWhole

/-- The run found in case A. -/
abbrev runA (E : Env F) (c : Dev nD) (i : grid0.Coords) (hc : cond0_0 i) :=
  kernelRun0_A c i E.b0.m0 E.b0.h0 E.b1.m0 E.b1.h0 E.b0.m1 E.b0.h1 E.b1.m1 E.b1.h1 E.b0.m2 E.b0.h2 E.b1.m2 E.b1.h2 E.b0.m3 E.b0.h3 E.b1.m3 E.b1.h3 E.b0.m4 E.b0.h4 E.b1.m4 E.b1.h4 E.b0.m5 E.b0.h5 E.b1.m5 E.b1.h5 E.b0.m6 E.b0.h6 E.b1.m6 E.b1.h6 E.b0.m7 E.b0.h7 E.b1.m7 E.b1.h7 E.o0 E.w0 E.o1 E.w1 E.o2 E.w2 E.o3 E.w3 E.o4 E.w4 E.o5 E.w5 E.o6 E.w6 E.o7 E.w7 E.o8 E.w8 E.o9 E.w9 E.scr E.wscr hc E.b0.x0 E.b1.x0 E.b0.x1 E.b1.x1 E.b0.x2 E.b1.x2 E.b0.x3 E.b1.x3 E.b0.x4 E.b1.x4 E.b0.x5 E.b1.x5 E.b0.x6 E.b1.x6 E.b0.x7 E.b1.x7

variable (E : Env F) (c : Dev nD) (i : grid0.Coords) (hc : cond0_0 i)

theorem a0 : (runA E c i hc).1 = list4 outVn false E.b0 (iniA E.scr) := by sl_kernel_rfl

theorem a1 : (runA E c i hc).2.1 = list4 outVn true E.b1 (iniA E.scr) := by sl_kernel_rfl

theorem a2 : (runA E c i hc).2.2.1 = list4 outW false E.b0 (iniA E.scr) := by sl_kernel_rfl

theorem a3 : (runA E c i hc).2.2.2.1 = list4 outW true E.b1 (iniA E.scr) := by sl_kernel_rfl

theorem a4 : (runA E c i hc).2.2.2.2.1 = list4 outQg false E.b0 (iniA E.scr) := by sl_kernel_rfl

theorem a5 : (runA E c i hc).2.2.2.2.2.1 = list4 outQg true E.b1 (iniA E.scr) := by sl_kernel_rfl

theorem a6 : (runA E c i hc).2.2.2.2.2.2.1 = list4 outKd false E.b0 (iniA E.scr) := by sl_kernel_rfl

theorem a7 : (runA E c i hc).2.2.2.2.2.2.2.1 = list4 outKd true E.b1 (iniA E.scr) := by sl_kernel_rfl

theorem a8 : (runA E c i hc).2.2.2.2.2.2.2.2.1 = list3 false E.b0 (iniA E.scr) := by sl_kernel_rfl

theorem a9 : (runA E c i hc).2.2.2.2.2.2.2.2.2.1 = list3 true E.b1 (iniA E.scr) := by sl_kernel_rfl

theorem aS : (runA E c i hc).2.2.2.2.2.2.2.2.2.2.1 = listS E.b0 E.b1 (iniA E.scr) fill := by sl_kernel_rfl

end Cert.Proof.Found

end
-- ==== Proof.FoundB.lean ====
/-
  The stores the run of the kernel's body finds, case B: they are the lists of `Tiles`, window by window. Both sides are
  the same operations on the same loads, so each equation holds by unfolding.
-/
module

public import proofs.«01_k».proof.Proof.FoundA
public import proofs.«01_k».proof.Proof.Gen.KernelIdeal.Frame.RunB

@[expose] public section

set_option maxRecDepth 16384

noncomputable section

namespace Cert.Proof.Found

open Idealize.ShloMosaic Idealize.ShloMosaic.TcCoe Idealize.ShloMosaic.Tactic Cert.KernelIdeal Cert.KernelIdeal.Gen Cert.Proof.Tiles

variable {F : FTy → Type} [FloatOps F]

/-- The run found in case B. -/
abbrev runB (E : Env F) (c : Dev nD) (i : grid0.Coords) (hc : ¬cond0_0 i) (xs : Vec F S8x128x128 .f32) :=
  kernelRun0_B c i E.b0.m0 E.b0.h0 E.b1.m0 E.b1.h0 E.b0.m1 E.b0.h1 E.b1.m1 E.b1.h1 E.b0.m2 E.b0.h2 E.b1.m2 E.b1.h2 E.b0.m3 E.b0.h3 E.b1.m3 E.b1.h3 E.b0.m4 E.b0.h4 E.b1.m4 E.b1.h4 E.b0.m5 E.b0.h5 E.b1.m5 E.b1.h5 E.b0.m6 E.b0.h6 E.b1.m6 E.b1.h6 E.b0.m7 E.b0.h7 E.b1.m7 E.b1.h7 E.o0 E.w0 E.o1 E.w1 E.o2 E.w2 E.o3 E.w3 E.o4 E.w4 E.o5 E.w5 E.o6 E.w6 E.o7 E.w7 E.o8 E.w8 E.o9 E.w9 E.scr E.wscr hc E.b0.x0 E.b1.x0 E.b0.x1 E.b1.x1 E.b0.x2 E.b1.x2 E.b0.x3 E.b1.x3 E.b0.x4 E.b1.x4 E.b0.x5 E.b1.x5 E.b0.x6 E.b1.x6 E.b0.x7 E.b1.x7 xs

variable (E : Env F) (c : Dev nD) (i : grid0.Coords) (hc : ¬cond0_0 i) (xs : Vec F S8x128x128 .f32)

theorem b0 : (runB E c i hc xs).1 = list4 outVn false E.b0 (iniB E.scr E.wscr xs) := by sl_kernel_rfl

theorem b1 : (runB E c i hc xs).2.1 = list4 outVn true E.b1 (iniB E.scr E.wscr xs) := by sl_kernel_rfl

theorem b2 : (runB E c i hc xs).2.2.1 = list4 outW false E.b0 (iniB E.scr E.wscr xs) := by sl_kernel_rfl

theorem b3 : (runB E c i hc xs).2.2.2.1 = list4 outW true E.b1 (iniB E.scr E.wscr xs) := by sl_kernel_rfl

theorem b4 : (runB E c i hc xs).2.2.2.2.1 = list4 outQg false E.b0 (iniB E.scr E.wscr xs) := by sl_kernel_rfl

theorem b5 : (runB E c i hc xs).2.2.2.2.2.1 = list4 outQg true E.b1 (iniB E.scr E.wscr xs) := by sl_kernel_rfl

theorem b6 : (runB E c i hc xs).2.2.2.2.2.2.1 = list4 outKd false E.b0 (iniB E.scr E.wscr xs) := by sl_kernel_rfl

theorem b7 : (runB E c i hc xs).2.2.2.2.2.2.2.1 = list4 outKd true E.b1 (iniB E.scr E.wscr xs) := by sl_kernel_rfl

theorem b8 : (runB E c i hc xs).2.2.2.2.2.2.2.2.1 = list3 false E.b0 (iniB E.scr E.wscr xs) := by sl_kernel_rfl

theorem b9 : (runB E c i hc xs).2.2.2.2.2.2.2.2.2.1 = list3 true E.b1 (iniB E.scr E.wscr xs) := by sl_kernel_rfl

theorem bS : (runB E c i hc xs).2.2.2.2.2.2.2.2.2.2.1 = listS E.b0 E.b1 (iniB E.scr E.wscr xs) [] := by sl_kernel_rfl

end Cert.Proof.Found

end
-- ==== Proof.Spec.lean ====
/-
  The backward scan of one chain, in mathematics (hand-written, program-free). A chain carries `D`, the gradient of its
  128 × 128 state, through the chunks in the reverse of its scan order. At a chunk the tile `T` holds what the chunk's
  step read: the state `S` at its start, the output's gradient `DO`, the corrected values `VN`, the keys `W`, `QG` and
  `KD`, the weights `IN` inside the chunk and the decay `E`. From `D` and the tile come the gradients of the step's
  inputs (`dvn`, `dw`, `dqg`, `dkd`, `dgl`) and the state's gradient before the chunk (`next`). `tileAt` reads the
  tile of a chunk and a chain from the eight arrays, and `gradAt` carries `D` from the last chunk of a chain back.
-/
module

public import Idealize.ShloMosaic.PureOps.Ideal
public import Idealize.ShloMosaic.Lib.Pointwise.Index

@[expose] public section

noncomputable section

namespace Cert.Proof.Spec

open Idealize.ShloMosaic
open scoped BigOperators

/-- A square state. -/
abbrev Sq : Type := Fin 128 → Fin 128 → EReal

/-- What one chunk of one chain read. -/
structure Tile where
  DO : Fin 64 → Fin 128 → EReal
  S : Sq
  VN : Fin 64 → Fin 128 → EReal
  W : Fin 64 → Fin 128 → EReal
  QG : Fin 64 → Fin 128 → EReal
  KD : Fin 64 → Fin 128 → EReal
  IN : Fin 64 → Fin 64 → EReal
  E : Fin 128 → EReal

/-- The corrected values' gradient: through the chunk's own outputs and through the state after it. -/
def dvn (T : Tile) (D : Sq) (i : Fin 64) (e : Fin 128) : EReal :=
  (∑ j, T.IN j i * T.DO j e) + ∑ d, T.KD i d * D d e

/-- The gradient of `W`: the corrected values are `U - W S`. -/
def dw (T : Tile) (D : Sq) (i : Fin 64) (d : Fin 128) : EReal := 0 - ∑ e, dvn T D i e * T.S d e

/-- The gradient of `QG`. -/
def dqg (T : Tile) (i : Fin 64) (d : Fin 128) : EReal := ∑ e, T.DO i e * T.S d e

/-- The gradient of `KD`. -/
def dkd (T : Tile) (D : Sq) (i : Fin 64) (d : Fin 128) : EReal := ∑ e, T.VN i e * D d e

/-- The gradient of the decay's logarithm, on lane `l`. -/
def dgl (T : Tile) (D : Sq) (l : Fin 128) : EReal := T.E l * ∑ d, ∑ e, T.S d e * D d e

/-- The state's gradient before the chunk. -/
def next (T : Tile) (D : Sq) : Sq := fun d e =>
  ((∑ i, T.QG i d * T.DO i e) + T.E e * D d e) - ∑ i, T.W i d * dvn T D i e

/-- The eight arrays the step read: the outputs' gradient, the states, `u`, `w`, `qg`, the weights inside a chunk,
    `kdec` and the decay's logarithm. -/
structure Args where
  a0 : (⟨2, ![8192, 512]⟩ : Shape).Idx → EReal
  a1 : (⟨4, ![128, 8, 128, 128]⟩ : Shape).Idx → EReal
  a2 : (⟨4, ![128, 8, 64, 128]⟩ : Shape).Idx → EReal
  a3 : (⟨4, ![128, 8, 64, 128]⟩ : Shape).Idx → EReal
  a4 : (⟨4, ![128, 8, 64, 128]⟩ : Shape).Idx → EReal
  a5 : (⟨4, ![128, 8, 64, 64]⟩ : Shape).Idx → EReal
  a6 : (⟨4, ![128, 8, 64, 128]⟩ : Shape).Idx → EReal
  a7 : (⟨2, ![128, 8]⟩ : Shape).Idx → EReal

/-- Row `i` of chunk `c`. -/
def rowOf (c : Fin 128) (i : Fin 64) : Fin 8192 := ⟨64 * c.val + i.val, by omega⟩

/-- Column `e` of chain `ch`'s head: chains 0–3 read the heads forwards, chains 4–7 the same heads backwards. -/
def colOf (ch : Fin 8) (e : Fin 128) : Fin 512 := ⟨128 * (ch.val % 4) + e.val, by omega⟩

/-- The tile of chunk `c` and chain `ch`. -/
def tileAt (A : Args) (c : Fin 128) (ch : Fin 8) : Tile where
  DO i e := A.a0 (ix2 (rowOf c i) (colOf ch e))
  S d e := A.a1 (ix4 c ch d e)
  VN i e := A.a2 (ix4 c ch i e) - ∑ d, A.a3 (ix4 c ch i d) * A.a1 (ix4 c ch d e)
  W i d := A.a3 (ix4 c ch i d)
  QG i d := A.a4 (ix4 c ch i d)
  KD i d := A.a6 (ix4 c ch i d)
  IN i j := A.a5 (ix4 c ch i j)
  E _ := Ideal.exp (A.a7 (ix2 c ch))

/-- The chunk chain `ch` meets at step `j` of the reverse scan: the forward chains go down from the last chunk, the
    backward chains up from the first. -/
def chunkOf (ch : Fin 8) (j : ℕ) : Fin 128 :=
  if ch.val < 4 then ⟨(127 - j) % 128, Nat.mod_lt _ (by decide)⟩ else ⟨j % 128, Nat.mod_lt _ (by decide)⟩

/-- The state's gradient of chain `ch` after `j` steps of the reverse scan. -/
def gradAt (A : Args) (ch : Fin 8) : ℕ → Sq
  | 0 => fun _ _ => 0
  | j + 1 => next (tileAt A (chunkOf ch j) ch) (gradAt A ch j)

/-- The step at which chain `ch` meets chunk `c`. -/
def stepOf (ch : Fin 8) (c : Fin 128) : ℕ := if ch.val < 4 then 127 - c.val else c.val

theorem stepOf_lt (ch : Fin 8) (c : Fin 128) : stepOf ch c < 128 := by unfold stepOf; split <;> omega

theorem chunkOf_stepOf (ch : Fin 8) (c : Fin 128) : chunkOf ch (stepOf ch c) = c := by
  unfold chunkOf stepOf
  split <;> (apply Fin.ext; simp only []; omega)

/-- The state's gradient when chain `ch` meets chunk `c`. -/
def gradFor (A : Args) (c : Fin 128) (ch : Fin 8) : Sq := gradAt A ch (stepOf ch c)

end Cert.Proof.Spec

end
-- ==== Proof.Read.lean ====
/-
  The kernel's vector operations, read at an index: a step's blocks and the state it carries are the chain's mathematics
  (`Spec`) of the tile its loads hold.
-/
module

public import proofs.«01_k».proof.Proof.Tiles
public import proofs.«01_k».proof.Proof.Spec
public import Idealize.ShloMosaic.Lib.Pointwise

@[expose] public section

set_option maxRecDepth 16384

noncomputable section

namespace Cert.Proof.Read

open Idealize.ShloMosaic Idealize.ShloMosaic.TcCoe Cert.KernelIdeal Cert.KernelIdeal.Gen Cert.Proof.Tiles
open scoped BigOperators

/-- A step's loads as a tile of the mathematics. -/
def spec (T : Tile Ideal) : Spec.Tile where
  DO i e := T.dov (ix2 i e)
  S d e := T.s (ix4 0 0 d e)
  VN i e := T.vn (ix4 0 0 i e)
  W i e := T.w (ix4 0 0 i e)
  QG i e := T.qg (ix4 0 0 i e)
  KD i e := T.kd (ix4 0 0 i e)
  IN i e := T.inn (ix4 0 0 i e)
  E l := T.egl (ix3 0 0 l)

/-- A state as a function of its row and column. -/
def mat (ds : FVec Ideal S128x128 .f32) : Spec.Sq := fun d e => ds (ix2 d e)

theorem dvn_read (T : Tile Ideal) (ds : FVec Ideal S128x128 .f32) (i : Fin 64) (e : Fin 128) :
    Tiles.dvn T ds (ix2 i e) = Spec.dvn (spec T) (mat ds) i e := by
  pointwise [Tiles.dvn, dovb, half]
  rfl

theorem next_read (T : Tile Ideal) (ds : FVec Ideal S128x128 .f32) : mat (Tiles.next T ds) = Spec.next (spec T) (mat ds) := by
  funext d e
  unfold mat
  pointwise [Tiles.next, dovb, rowv, dvn_read]
  rfl

theorem outVn_read (T : Tile Ideal) (ds : FVec Ideal S128x128 .f32) (i : Fin 64) (e : Fin 128) :
    outVn T ds (ix4 0 0 i e) = Spec.dvn (spec T) (mat ds) i e := by
  pointwise [outVn, dvn_read]

theorem outW_read (T : Tile Ideal) (ds : FVec Ideal S128x128 .f32) (i : Fin 64) (e : Fin 128) :
    outW T ds (ix4 0 0 i e) = Spec.dw (spec T) (mat ds) i e := by
  pointwise [outW, sqv, dvn_read]
  rfl

theorem outQg_read (T : Tile Ideal) (ds : FVec Ideal S128x128 .f32) (i : Fin 64) (e : Fin 128) :
    outQg T ds (ix4 0 0 i e) = Spec.dqg (spec T) i e := by
  pointwise [outQg, sqv, dovb]
  rfl

theorem outKd_read (T : Tile Ideal) (ds : FVec Ideal S128x128 .f32) (i : Fin 64) (e : Fin 128) :
    outKd T ds (ix4 0 0 i e) = Spec.dkd (spec T) (mat ds) i e := by
  pointwise [outKd, half]
  rfl

theorem outGl_read (T : Tile Ideal) (ds : FVec Ideal S128x128 .f32) (l : Fin 128) :
    outGl T ds (ix3 0 0 l) = Spec.dgl (spec T) (mat ds) l := by
  pointwise [outGl, sqv, rowv]
  rfl

end Cert.Proof.Read

end
-- ==== Proof.Block.lean ====
/-
  One grid point of the kernel: if the blocks it loads are the tiles of eight chunks and the eight states it starts from
  are the chains' gradients after `8 t` steps, then every store it makes is a block of the whole gradients, and the
  states it leaves are the gradients after `8 (t + 1)` steps.
-/
module

public import proofs.«01_k».proof.Proof.Read
public import Idealize.ShloMosaic.Lib.Pipeline.CanonAppend
public import Idealize.ShloMosaic.Lib.Pipeline.FrameBody

@[expose] public section

set_option maxRecDepth 16384

noncomputable section

namespace Cert.Proof.Block

open Idealize.ShloMosaic Idealize.ShloMosaic.TcCoe Cert.KernelIdeal Cert.KernelIdeal.Gen Cert.Proof.Tiles Cert.Proof.Read

/-- Head `h` of direction `d`, among the eight chains. -/
def chain (d : Bool) (h : Fin 4) : Fin 8 := ⟨gOf d h.val, by cases d <;> simp only [gOf, cond_true, cond_false] <;> omega⟩

/-- Chunk `k` of the block that grid point `t` loads. -/
def chunk (d : Bool) (t : ℕ) (k : Fin 8) : Fin 128 :=
  ⟨bif d then (8 * t + k.val) % 128 else (8 * ((15 - t) % 16) + k.val) % 128, by cases d <;> exact Nat.mod_lt _ (by decide)⟩

/-- A tile of the blocks: chunk `k`, head `h`, the decay of chain `g`. -/
def blk (B : Bufs Ideal) (k : Fin 8) (h : Fin 4) (g : Fin 8) : Spec.Tile where
  DO i e := B.x0 (ix2 ⟨64 * k.val + i.val, by omega⟩ ⟨128 * h.val + e.val, by omega⟩)
  S a b := B.x1 (ix4 k h a b)
  W i e := B.x2 (ix4 k h i e)
  QG i e := B.x3 (ix4 k h i e)
  KD i e := B.x4 (ix4 k h i e)
  IN i e := B.x5 (ix4 k h i e)
  VN i e := B.x6 (ix4 k h i e)
  E l := B.x7 (ix3 k g l)

/-- Where a four-axis load reads. -/
theorem idx4 {b c : ℕ} (k : Fin 8) (h : Fin 4) (i : Fin b) (e : Fin c) (inb) :
    (Rect.unit (s := ⟨4, ![8, 4, b, c]⟩) ![k.val % 8, h.val % 4, 0, 0] ![1, 1, b, c] inb).emb (ix4 0 0 i e) = ix4 k h i e := by
  funext a
  apply Fin.ext
  match a with
  | ⟨0, _⟩ => show k.val % 8 + 1 * 0 = k.val; omega
  | ⟨1, _⟩ => show h.val % 4 + 1 * 0 = h.val; omega
  | ⟨2, _⟩ => show 0 + 1 * i.val = i.val; omega
  | ⟨3, _⟩ => show 0 + 1 * e.val = e.val; omega

theorem idx3 {n b : ℕ} (k : Fin 8) (g : Fin n) (l : Fin b) (inb) :
    (Rect.unit (s := ⟨3, ![8, n, b]⟩) ![k.val % 8, g.val % n, 0] ![1, 1, b] inb).emb (ix3 0 0 l) = ix3 k g l := by
  funext a
  apply Fin.ext
  match a with
  | ⟨0, _⟩ => show k.val % 8 + 1 * 0 = k.val; omega
  | ⟨1, _⟩ => show g.val % n + 1 * 0 = g.val; rw [Nat.mod_eq_of_lt g.isLt]; omega
  | ⟨2, _⟩ => show 0 + 1 * l.val = l.val; omega

theorem idxS (g : Fin 8) (a b : Fin 128) (inb) :
    (Rect.unit (s := S8x128x128) ![g.val % 8, 0, 0] S1x128x128.size inb).emb (ix3 0 a b) = ix3 g a b := by
  funext x
  apply Fin.ext
  match x with
  | ⟨0, _⟩ => show g.val % 8 + 1 * 0 = g.val; omega
  | ⟨1, _⟩ => show 0 + 1 * a.val = a.val; omega
  | ⟨2, _⟩ => show 0 + 1 * b.val = b.val; omega

theorem idx2 (k : Fin 8) (h : Fin 4) (i : Fin 64) (e : Fin 128) (inb) :
    (Rect.unit (s := S512x512) ![64 * (k.val % 8), 128 * (h.val % 4)] S64x128.size inb).emb (ix2 i e)
      = ix2 ⟨64 * k.val + i.val, by omega⟩ ⟨128 * h.val + e.val, by omega⟩ := by
  funext a
  apply Fin.ext
  match a with
  | ⟨0, _⟩ => show 64 * (k.val % 8) + 1 * i.val = 64 * k.val + i.val; omega
  | ⟨1, _⟩ => show 128 * (h.val % 4) + 1 * e.val = 128 * h.val + e.val; omega

/-- What a step loads, from the blocks. -/
theorem spec_tile (B : Bufs Ideal) (k : Fin 8) (h : Fin 4) (g : Fin 8) : spec (tile B k h g) = blk B k h g := by
  unfold spec blk tile
  congr 1
  · funext i e; exact (B.h0.readAt_unread _ _ _).trans (congrArg B.x0 (idx2 k h i e _))
  · funext i e; exact (B.h1.readAt_unread _ _ _).trans (congrArg B.x1 (idx4 k h i e _))
  · funext i e; exact (B.h6.readAt_unread _ _ _).trans (congrArg B.x6 (idx4 k h i e _))
  · funext i e; exact (B.h2.readAt_unread _ _ _).trans (congrArg B.x2 (idx4 k h i e _))
  · funext i e; exact (B.h3.readAt_unread _ _ _).trans (congrArg B.x3 (idx4 k h i e _))
  · funext i e; exact (B.h4.readAt_unread _ _ _).trans (congrArg B.x4 (idx4 k h i e _))
  · funext i e; exact (B.h5.readAt_unread _ _ _).trans (congrArg B.x5 (idx4 k h i e _))
  · funext l; exact (B.h7.readAt_unread _ _ _).trans (congrArg B.x7 (idx3 k g l _))

variable (A : Spec.Args)

/-- The blocks of grid point `t`, direction `d`, are the tiles of its chunks. -/
def Loaded (d : Bool) (t : ℕ) (B : Bufs Ideal) : Prop :=
  ∀ (k : Fin 8) (h : Fin 4), blk B k h (chain d h) = Spec.tileAt A (chunk d t k) (chain d h)

/-- The loaded states are the chains' gradients after `n` steps. -/
def Begins (ini : ℕ → Vec Ideal S1x128x128 .f32) (n : ℕ) : Prop :=
  ∀ (g : Fin 8) (a b : Fin 128), ini g.val (ix3 0 a b) = Spec.gradAt A g n a b

theorem kOf_lt (d : Bool) (j : ℕ) (hj : j < 8) : kOf d j < 8 := by cases d <;> simp only [kOf, cond_true, cond_false] <;> omega

theorem chunk_step (d : Bool) (t : ℕ) (ht : t < 16) (h : Fin 4) (j : ℕ) (hj : j < 8) :
    chunk d t ⟨kOf d j, kOf_lt d j hj⟩ = Spec.chunkOf (chain d h) (8 * t + j) := by
  apply Fin.ext
  cases d
  · have hc : (chain false h).val < 4 := h.isLt
    unfold chunk Spec.chunkOf
    rw [if_pos hc]
    show (8 * ((15 - t) % 16) + (7 - j)) % 128 = (127 - (8 * t + j)) % 128
    omega
  · have hc : ¬(chain true h).val < 4 := by show ¬(4 + h.val < 4); omega
    unfold chunk Spec.chunkOf
    rw [if_neg hc]
    show (8 * t + j) % 128 = (8 * t + j) % 128
    rfl

theorem stepOf_chunk (d : Bool) (t : ℕ) (ht : t < 16) (h : Fin 4) (j : ℕ) (hj : j < 8) :
    Spec.stepOf (chain d h) (chunk d t ⟨kOf d j, kOf_lt d j hj⟩) = 8 * t + j := by
  cases d
  · have hc : (chain false h).val < 4 := h.isLt
    unfold Spec.stepOf
    rw [if_pos hc]
    show 127 - (8 * ((15 - t) % 16) + (7 - j)) % 128 = 8 * t + j
    omega
  · have hc : ¬(chain true h).val < 4 := by show ¬(4 + h.val < 4); omega
    unfold Spec.stepOf
    rw [if_neg hc]
    show (8 * t + j) % 128 = 8 * t + j
    omega

variable {d : Bool} {t : ℕ} {B : Bufs Ideal} {ini : ℕ → Vec Ideal S1x128x128 .f32}

theorem tile_at (hB : Loaded A d t B) (ht : t < 16) (h : Fin 4) (j : ℕ) (hj : j < 8) :
    spec (tileOf d B h.val j) = Spec.tileAt A (chunk d t ⟨kOf d j, kOf_lt d j hj⟩) (chain d h) :=
  (spec_tile B ⟨kOf d j, kOf_lt d j hj⟩ h (chain d h)).trans (hB _ h)

/-- The state's gradient a chain carries, step by step. -/
theorem st_at (hB : Loaded A d t B) (ht : t < 16) (hI : Begins A ini (8 * t)) (h : Fin 4) (j : ℕ) (hj : j ≤ 8) :
    mat (stOf d B ini h.val j) = Spec.gradAt A (chain d h) (8 * t + j) := by
  induction j with
  | zero =>
    funext a b
    refine Eq.trans ?_ (hI (chain d h) a b)
    show shapeCast S128x128 (ini (chain d h).val) shapeCasts_S1x128x128_S128x128 (ix2 a b) = _
    pointwise
  | succ j ih =>
    have e : mat (stOf d B ini h.val (j + 1)) = Spec.next (spec (tileOf d B h.val j)) (mat (stOf d B ini h.val j)) :=
      next_read _ _
    rw [e, ih (by omega), tile_at A hB ht h j (by omega), chunk_step d t ht h j (by omega)]
    rfl

theorem mem_four {α : Type} {p : ℕ → ℕ → α} {j : ℕ} {L : List α} {x : α} (hx : x ∈ four p j L) : (∃ h : Fin 4, x = p j h.val) ∨ x ∈ L := by
  simp only [four, List.mem_cons] at hx
  rcases hx with hx | hx | hx | hx | hx
  · exact Or.inl ⟨3, hx⟩
  · exact Or.inl ⟨2, hx⟩
  · exact Or.inl ⟨1, hx⟩
  · exact Or.inl ⟨0, hx⟩
  · exact Or.inr hx

theorem mem_eight {α : Type} {p : ℕ → ℕ → α} {x : α} (hx : x ∈ eight p) : ∃ (j : ℕ) (_ : j < 8) (h : Fin 4), x = p j h.val := by
  unfold eight at hx
  rcases mem_four hx with ⟨h, e⟩ | hx
  · exact ⟨7, by decide, h, e⟩
  rcases mem_four hx with ⟨h, e⟩ | hx
  · exact ⟨6, by decide, h, e⟩
  rcases mem_four hx with ⟨h, e⟩ | hx
  · exact ⟨5, by decide, h, e⟩
  rcases mem_four hx with ⟨h, e⟩ | hx
  · exact ⟨4, by decide, h, e⟩
  rcases mem_four hx with ⟨h, e⟩ | hx
  · exact ⟨3, by decide, h, e⟩
  rcases mem_four hx with ⟨h, e⟩ | hx
  · exact ⟨2, by decide, h, e⟩
  rcases mem_four hx with ⟨h, e⟩ | hx
  · exact ⟨1, by decide, h, e⟩
  rcases mem_four hx with ⟨h, e⟩ | hx
  · exact ⟨0, by decide, h, e⟩
  exact absurd hx List.not_mem_nil

/-- A step's block of a four-axis gradient, from its tile and the state's gradient. -/
abbrev Val4 : Type := Spec.Tile → Spec.Sq → Fin 64 → Fin 128 → EReal

/-- A step's block of the decay's gradient. -/
abbrev Val3 : Type := Spec.Tile → Spec.Sq → Fin 128 → EReal

/-- Chunk `k` and head `h` of grid point `t`'s block of a whole gradient. -/
def at4 (G : Val4) (d : Bool) (t : ℕ) (y : S8x4x64x128.Idx) : EReal :=
  G (Spec.tileAt A (chunk d t (y 0)) (chain d (y 1))) (Spec.gradFor A (chunk d t (y 0)) (chain d (y 1))) (y 2) (y 3)

def at3 (G : Val3) (d : Bool) (t : ℕ) (y : S8x4x128.Idx) : EReal :=
  G (Spec.tileAt A (chunk d t (y 0)) (chain d (y 1))) (Spec.gradFor A (chunk d t (y 0)) (chain d (y 1))) (y 2)

theorem unit4 (x : S1x1x64x128.Idx) : x = ix4 (n0 := 1) (n1 := 1) (n2 := 64) (n3 := 128) 0 0 (x 2) (x 3) := by
  funext a
  match a with
  | ⟨0, _⟩ => exact Subsingleton.elim (α := Fin 1) _ _
  | ⟨1, _⟩ => exact Subsingleton.elim (α := Fin 1) _ _
  | ⟨2, _⟩ => rfl
  | ⟨3, _⟩ => rfl

theorem unit3 (x : S1x1x128.Idx) : x = ix3 (n0 := 1) (n1 := 1) (n2 := 128) 0 0 (x 2) := by
  funext a
  match a with
  | ⟨0, _⟩ => exact Subsingleton.elim (α := Fin 1) _ _
  | ⟨1, _⟩ => exact Subsingleton.elim (α := Fin 1) _ _
  | ⟨2, _⟩ => rfl

theorem unitS (x : S1x128x128.Idx) : x = ix3 (n0 := 1) (n1 := 128) (n2 := 128) 0 (x 1) (x 2) := by
  funext a
  match a with
  | ⟨0, _⟩ => exact Subsingleton.elim (α := Fin 1) _ _
  | ⟨1, _⟩ => rfl
  | ⟨2, _⟩ => rfl

/-- Every store of a four-axis output is a block of the gradient. -/
theorem list4_at {e : EltTy} (o : Tile Ideal → FVec Ideal S128x128 .f32 → S1x1x64x128.Idx → Elt Ideal e)
    (G : Val4) (hB : Loaded A d t B) (ht : t < 16) (hI : Begins A ini (8 * t)) (GG : S8x4x64x128.Idx → Elt Ideal e)
    (hG : ∀ y T ds, G (spec T) (mat ds) (y 2) (y 3) = at4 A G d t y → o T ds (ix4 0 0 (y 2) (y 3)) = GG y)
    (p : View.Piece (Elt Ideal) S8x4x64x128 e) (hp : p ∈ list4 o d B ini) (x : p.1.shape.Idx) : p.2 x = GG (p.1.emb x) := by
  obtain ⟨j, hj, h, rfl⟩ := mem_eight hp
  suffices H : ∀ x : S1x1x64x128.Idx, o (tileOf d B h.val j) (stOf d B ini h.val j) x
      = GG ((piece4 (F := Ideal) (kOf d j) h.val (o (tileOf d B h.val j) (stOf d B ini h.val j))).1.emb x) from H x
  intro x
  rw [unit4 x]
  have he : (piece4 (F := Ideal) (kOf d j) h.val (o (tileOf d B h.val j) (stOf d B ini h.val j))).1.emb (ix4 (n0 := 1) (n1 := 1) (n2 := 64) (n3 := 128) 0 0 (x 2) (x 3))
      = ix4 (n0 := 8) (n1 := 4) (n2 := 64) (n3 := 128) ⟨kOf d j, kOf_lt d j hj⟩ h (x 2) (x 3) :=
    idx4 (b := 64) (c := 128) ⟨kOf d j, kOf_lt d j hj⟩ h (x 2) (x 3) (inb4 _ _)
  rw [he]
  refine hG (ix4 (n0 := 8) (n1 := 4) (n2 := 64) (n3 := 128) ⟨kOf d j, kOf_lt d j hj⟩ h (x 2) (x 3)) _ _ ?_
  rw [tile_at A hB ht h j hj, st_at A hB ht hI h j (by omega), ← stepOf_chunk d t ht h j hj]
  rfl

/-- Every store of the decay's gradient is a block of it. -/
theorem list3_at (hB : Loaded A d t B) (ht : t < 16) (hI : Begins A ini (8 * t))
    (p : View.Piece (Elt Ideal) S8x4x128 .f32) (hp : p ∈ list3 d B ini) (x : p.1.shape.Idx) : p.2 x = at3 A Spec.dgl d t (p.1.emb x) := by
  obtain ⟨j, hj, h, rfl⟩ := mem_eight hp
  suffices H : ∀ x : S1x1x128.Idx, outGl (tileOf d B h.val j) (stOf d B ini h.val j) x
      = at3 A Spec.dgl d t ((piece3 (F := Ideal) (kOf d j) h.val (outGl (tileOf d B h.val j) (stOf d B ini h.val j))).1.emb x) from H x
  intro x
  obtain ⟨l, rfl⟩ : ∃ l : Fin 128, x = ix3 (n0 := 1) (n1 := 1) 0 0 l := ⟨x 2, unit3 x⟩
  have he : (piece3 (F := Ideal) (kOf d j) h.val (outGl (tileOf d B h.val j) (stOf d B ini h.val j))).1.emb (ix3 (n0 := 1) (n1 := 1) (n2 := 128) 0 0 l)
      = ix3 (n0 := 8) (n1 := 4) (n2 := 128) ⟨kOf d j, kOf_lt d j hj⟩ h l :=
    idx3 (n := 4) (b := 128) ⟨kOf d j, kOf_lt d j hj⟩ h l (inb3 4 (by decide) _ _)
  rw [he, outGl_read, tile_at A hB ht h j hj, st_at A hB ht hI h j (by omega), ← stepOf_chunk d t ht h j hj]
  rfl

/-- The states of all chains after `n` steps. -/
def allAt (n : ℕ) (y : S8x128x128.Idx) : EReal := Spec.gradAt A (y 0) n (y 1) (y 2)

theorem endOf_at (hB : Loaded A d t B) (ht : t < 16) (hI : Begins A ini (8 * t)) (h : Fin 4) (x : (endOf d B ini h.val).1.shape.Idx) :
    (endOf d B ini h.val).2 x = allAt A (8 * (t + 1)) ((endOf d B ini h.val).1.emb x) := by
  suffices H : ∀ x : S1x128x128.Idx, shapeCast S1x128x128 (stOf d B ini h.val 8) shapeCasts_S128x128_S1x128x128 x
      = allAt A (8 * (t + 1)) ((endOf d B ini h.val).1.emb x) from H x
  intro x
  obtain ⟨a, b, rfl⟩ : ∃ a b : Fin 128, x = ix3 (n0 := 1) 0 a b := ⟨x 1, x 2, unitS x⟩
  have he : (endOf d B ini h.val).1.emb (ix3 (n0 := 1) (n1 := 128) (n2 := 128) 0 a b) = ix3 (n0 := 8) (n1 := 128) (n2 := 128) (chain d h) a b :=
    idxS (chain d h) a b (inbS _)
  rw [he]
  have hs := congrFun (congrFun (st_at A hB ht hI h 8 (le_refl _)) a) b
  refine Eq.trans ?_ hs
  unfold mat
  pointwise

theorem cover_end (h : Fin 4) (y : S8x128x128.Idx) (hy : y 0 = chain d h) : y ∈ (endOf d B ini h.val).1.set := by
  have he : (endOf d B ini h.val).1.emb (ix3 (n0 := 1) (n1 := 128) (n2 := 128) 0 (y 1) (y 2)) = ix3 (n0 := 8) (n1 := 128) (n2 := 128) (chain d h) (y 1) (y 2) :=
    idxS (chain d h) (y 1) (y 2) (inbS _)
  have e : y = (endOf d B ini h.val).1.emb (ix3 (n0 := 1) (n1 := 128) (n2 := 128) 0 (y 1) (y 2)) := by
    rw [he, ← hy]; exact eq_ix3 y
  rw [e]
  exact (endOf d B ini h.val).1.toLoadRect.idx_mem _

variable {B0 B1 : Bufs Ideal}

/-- The eight stores of the states. -/
def ends (B0 B1 : Bufs Ideal) (ini : ℕ → Vec Ideal S1x128x128 .f32) : List (View.Piece (Elt Ideal) S8x128x128 .f32) :=
  [endOf true B1 ini 3, endOf true B1 ini 2, endOf true B1 ini 1, endOf true B1 ini 0,
    endOf false B0 ini 3, endOf false B0 ini 2, endOf false B0 ini 1, endOf false B0 ini 0]

theorem ends_at (h0 : Loaded A false t B0) (h1 : Loaded A true t B1) (ht : t < 16) (hI : Begins A ini (8 * t)) :
    View.PiecesOf (Val := Elt Ideal) (s := S8x128x128) (e := .f32) (allAt A (8 * (t + 1))) (ends B0 B1 ini) :=
  ⟨endOf_at A h1 ht hI 3, endOf_at A h1 ht hI 2, endOf_at A h1 ht hI 1, endOf_at A h1 ht hI 0,
    endOf_at A h0 ht hI 3, endOf_at A h0 ht hI 2, endOf_at A h0 ht hI 1, endOf_at A h0 ht hI 0, trivial⟩

theorem ends_cover (y : S8x128x128.Idx) : ∃ p ∈ ends B0 B1 ini, y ∈ p.1.set := by
  have hy : ∀ g : Fin 8, (∃ h, g = chain true h) ∨ ∃ h, g = chain false h := by decide
  have hm1 : ∀ h : Fin 4, endOf true B1 ini h.val ∈ ends B0 B1 ini := by
    intro h; match h with
    | ⟨0, _⟩ => simp [ends]
    | ⟨1, _⟩ => simp [ends]
    | ⟨2, _⟩ => simp [ends]
    | ⟨3, _⟩ => simp [ends]
  have hm0 : ∀ h : Fin 4, endOf false B0 ini h.val ∈ ends B0 B1 ini := by
    intro h; match h with
    | ⟨0, _⟩ => simp [ends]
    | ⟨1, _⟩ => simp [ends]
    | ⟨2, _⟩ => simp [ends]
    | ⟨3, _⟩ => simp [ends]
  rcases hy (y 0) with ⟨h, e⟩ | ⟨h, e⟩
  · exact ⟨_, hm1 h, cover_end h y e⟩
  · exact ⟨_, hm0 h, cover_end h y e⟩

/-- What the scratch holds after the point, whatever was stored before. -/
theorem listS_at (v : View sig .tc .vmem S8x128x128 .f32) (f : v.ty.Contents (Elt Ideal)) (L : List (View.Piece (Elt Ideal) S8x128x128 .f32))
    (h0 : Loaded A false t B0) (h1 : Loaded A true t B1) (ht : t < 16) (hI : Begins A ini (8 * t)) (y : S8x128x128.Idx) :
    v.read (Elt Ideal) (v.writes (Elt Ideal) f (listS B0 B1 ini L)) y = allAt A (8 * (t + 1)) y := by
  obtain ⟨p, hp, hy⟩ := ends_cover (B0 := B0) (B1 := B1) (ini := ini) y
  have hl : listS B0 B1 ini L = ends B0 B1 ini ++ L := rfl
  rw [View.read_writes_apply_eq_canon v f y _ ⟨p, hl ▸ List.mem_append_left _ hp, hy⟩, hl]
  exact View.canon_append_of_piecesOf _ _ _ (ends_at A h0 h1 ht hI) y ⟨p, hp, hy⟩

/-- The first point begins from nought. -/
theorem beginsA (v : Memref sig .tc .vmem S8x128x128 .f32) : Begins A (iniA v) 0 := by
  intro g a b
  unfold iniA fill
  rw [View.readCov_fill _ _ _ _ _ (by decide)]
  show k0_pay7 (F := Ideal) ((Rect.unit (s := S8x128x128) ![g.val % 8, 0, 0] S1x128x128.size (inbS g.val)).emb (ix3 0 a b)) = 0
  rw [idxS g a b]
  pointwise [k0_pay7]

/-- A later point begins from what the point before left. -/
theorem beginsB (v : Memref sig .tc .vmem S8x128x128 .f32) (hv : v.IsWhole) (xs : Vec Ideal S8x128x128 .f32) (n : ℕ)
    (hx : ∀ y, xs y = allAt A n y) : Begins A (iniB v hv xs) n := by
  intro g a b
  refine (hv.readAt_unread _ _ _).trans ?_
  refine (congrArg xs (idxS g a b _)).trans ?_
  rw [hx]
  rfl

end Cert.Proof.Block

end
-- ==== Proof.Point.lean ====
/-
  One grid point of the kernel as a triple: from buffers holding a point's blocks and the states of the point before, the
  body leaves the blocks of the five gradients and the states the next point begins with.
-/
module

public import proofs.«01_k».proof.Proof.FoundB
public import proofs.«01_k».proof.Proof.Block

@[expose] public section

set_option maxRecDepth 16384

noncomputable section

namespace Cert.Proof.Point

open Idealize.ShloMosaic Idealize.ShloMosaic.TcCoe Idealize.ShloMosaic.Tactic Cert.KernelIdeal Cert.KernelIdeal.Gen
open Cert.Proof.Tiles Cert.Proof.Read Cert.Proof.Block Cert.Proof.Found
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-! ## The stores of a point cover its blocks -/

theorem four_head {α : Type} (p : ℕ → ℕ → α) (j : ℕ) (h : Fin 4) (L : List α) : p j h.val ∈ four p j L := by
  unfold four
  match h with
  | ⟨0, _⟩ => simp
  | ⟨1, _⟩ => simp
  | ⟨2, _⟩ => simp
  | ⟨3, _⟩ => simp

theorem four_tail {α : Type} (p : ℕ → ℕ → α) (j : ℕ) {L : List α} {x : α} (hx : x ∈ L) : x ∈ four p j L := by
  unfold four
  exact List.mem_cons_of_mem _ (List.mem_cons_of_mem _ (List.mem_cons_of_mem _ (List.mem_cons_of_mem _ hx)))

/-- Every step and every head is stored. -/
theorem eight_mem {α : Type} (p : ℕ → ℕ → α) (j : Fin 8) (h : Fin 4) : p j.val h.val ∈ eight p := by
  unfold eight
  match j with
  | ⟨7, _⟩ => exact four_head p 7 h _
  | ⟨6, _⟩ => exact four_tail p 7 (four_head p 6 h _)
  | ⟨5, _⟩ => exact four_tail p 7 (four_tail p 6 (four_head p 5 h _))
  | ⟨4, _⟩ => exact four_tail p 7 (four_tail p 6 (four_tail p 5 (four_head p 4 h _)))
  | ⟨3, _⟩ => exact four_tail p 7 (four_tail p 6 (four_tail p 5 (four_tail p 4 (four_head p 3 h _))))
  | ⟨2, _⟩ => exact four_tail p 7 (four_tail p 6 (four_tail p 5 (four_tail p 4 (four_tail p 3 (four_head p 2 h _)))))
  | ⟨1, _⟩ => exact four_tail p 7 (four_tail p 6 (four_tail p 5 (four_tail p 4 (four_tail p 3 (four_tail p 2 (four_head p 1 h _))))))
  | ⟨0, _⟩ => exact four_tail p 7 (four_tail p 6 (four_tail p 5 (four_tail p 4 (four_tail p 3 (four_tail p 2 (four_tail p 1 (four_head p 0 h _)))))))

/-- The step that meets chunk `k` of a block. -/
theorem kOf_kOf (d : Bool) (k : Fin 8) : kOf d (kOf d k.val) = k.val := by
  have := k.isLt
  cases d
  · show 7 - (7 - k.val) = k.val; omega
  · rfl

theorem mem_of_emb {s : Shape} (r : Rect s) (x : r.shape.Idx) (y : s.Idx) (h : r.emb x = y) : y ∈ r.set :=
  h ▸ r.toLoadRect.idx_mem x

variable (A : Spec.Args) {d : Bool} {t : ℕ} {B : Bufs Ideal} {ini : ℕ → Vec Ideal S1x128x128 .f32}

theorem list4_cover {e : EltTy} (o : Tile Ideal → FVec Ideal S128x128 .f32 → S1x1x64x128.Idx → Elt Ideal e) (y : S8x4x64x128.Idx) :
    ∃ p ∈ list4 o d B ini, y ∈ p.1.set := by
  refine ⟨_, eight_mem _ ⟨kOf d (y 0).val, kOf_lt d _ (y 0).isLt⟩ (y 1), ?_⟩
  have hk := kOf_kOf d (y 0)
  have he : (piece4 (F := Ideal) (kOf d (kOf d (y 0).val)) (y 1).val (o (tileOf d B (y 1).val (kOf d (y 0).val)) (stOf d B ini (y 1).val (kOf d (y 0).val)))).1.emb
      (ix4 (n0 := 1) (n1 := 1) (n2 := 64) (n3 := 128) 0 0 (y 2) (y 3)) = ix4 (n0 := 8) (n1 := 4) (n2 := 64) (n3 := 128) (y 0) (y 1) (y 2) (y 3) := by
    rw [hk]; exact idx4 (b := 64) (c := 128) (y 0) (y 1) (y 2) (y 3) (inb4 _ _)
  exact mem_of_emb _ _ y (he.trans (eq_ix4 y).symm)

theorem list3_cover (y : S8x4x128.Idx) : ∃ p ∈ list3 d B ini, y ∈ p.1.set := by
  refine ⟨_, eight_mem _ ⟨kOf d (y 0).val, kOf_lt d _ (y 0).isLt⟩ (y 1), ?_⟩
  have hk := kOf_kOf d (y 0)
  have he : (piece3 (F := Ideal) (kOf d (kOf d (y 0).val)) (y 1).val (outGl (tileOf d B (y 1).val (kOf d (y 0).val)) (stOf d B ini (y 1).val (kOf d (y 0).val)))).1.emb
      (ix3 (n0 := 1) (n1 := 1) (n2 := 128) 0 0 (y 2)) = ix3 (n0 := 8) (n1 := 4) (n2 := 128) (y 0) (y 1) (y 2) := by
    rw [hk]; exact idx3 (n := 4) (b := 128) (y 0) (y 1) (y 2) (inb3 4 (by decide) _ _)
  exact mem_of_emb _ _ y (he.trans (eq_ix3 y).symm)

/-! ## What each output's buffer holds after the point -/

theorem wrote4 {e : EltTy} (o : Tile Ideal → FVec Ideal S128x128 .f32 → S1x1x64x128.Idx → Elt Ideal e) (G : Val4)
    (hB : Loaded A d t B) (ht : t < 16) (hI : Begins A ini (8 * t)) (GG : S8x4x64x128.Idx → Elt Ideal e)
    (hG : ∀ y T ds, G (spec T) (mat ds) (y 2) (y 3) = at4 A G d t y → o T ds (ix4 0 0 (y 2) (y 3)) = GG y)
    (v : View sig .tc .vmem S8x4x64x128 e) (f : v.ty.Contents (Elt Ideal)) :
    v.read (Elt Ideal) (v.writes (Elt Ideal) f (list4 o d B ini)) = GG :=
  funext fun y => View.read_writes_apply_of_pieces _ _ GG _ (list4_at A o G hB ht hI GG hG) y (list4_cover o y)

theorem vn_at (hB : Loaded A d t B) (ht : t < 16) (hI : Begins A ini (8 * t)) (v : View sig .tc .vmem S8x4x64x128 .bf16) (f : v.ty.Contents (Elt Ideal)) :
    v.read (Elt Ideal) (v.writes (Elt Ideal) f (list4 outVn d B ini)) = at4 A Spec.dvn d t := by
  refine wrote4 (e := .bf16) A outVn Spec.dvn hB ht hI (at4 A Spec.dvn d t) ?_ v f
  intro y T ds h
  exact (outVn_read T ds (y 2) (y 3)).trans h

theorem w_at (hB : Loaded A d t B) (ht : t < 16) (hI : Begins A ini (8 * t)) (v : View sig .tc .vmem S8x4x64x128 .bf16) (f : v.ty.Contents (Elt Ideal)) :
    v.read (Elt Ideal) (v.writes (Elt Ideal) f (list4 outW d B ini)) = at4 A Spec.dw d t := by
  refine wrote4 (e := .bf16) A outW Spec.dw hB ht hI (at4 A Spec.dw d t) ?_ v f
  intro y T ds h
  exact (outW_read T ds (y 2) (y 3)).trans h

theorem qg_at (hB : Loaded A d t B) (ht : t < 16) (hI : Begins A ini (8 * t)) (v : View sig .tc .vmem S8x4x64x128 .f32) (f : v.ty.Contents (Elt Ideal)) :
    v.read (Elt Ideal) (v.writes (Elt Ideal) f (list4 outQg d B ini)) = at4 A (fun T _ => Spec.dqg T) d t := by
  refine wrote4 (e := .f32) A outQg (fun T _ => Spec.dqg T) hB ht hI (at4 A (fun T _ => Spec.dqg T) d t) ?_ v f
  intro y T ds h
  exact (outQg_read T ds (y 2) (y 3)).trans h

theorem kd_at (hB : Loaded A d t B) (ht : t < 16) (hI : Begins A ini (8 * t)) (v : View sig .tc .vmem S8x4x64x128 .f32) (f : v.ty.Contents (Elt Ideal)) :
    v.read (Elt Ideal) (v.writes (Elt Ideal) f (list4 outKd d B ini)) = at4 A Spec.dkd d t := by
  refine wrote4 (e := .f32) A outKd Spec.dkd hB ht hI (at4 A Spec.dkd d t) ?_ v f
  intro y T ds h
  exact (outKd_read T ds (y 2) (y 3)).trans h

theorem gl_at (hB : Loaded A d t B) (ht : t < 16) (hI : Begins A ini (8 * t)) (v : View sig .tc .vmem S8x4x128 .f32) (f : v.ty.Contents (Elt Ideal)) :
    v.read (Elt Ideal) (v.writes (Elt Ideal) f (list3 d B ini)) = at3 A Spec.dgl d t :=
  funext fun y => View.read_writes_apply_of_pieces _ _ (at3 A Spec.dgl d t) _ (list3_at A hB ht hI) y (list3_cover y)

/-! ## The triples -/

variable (E : Env Ideal) (c : Dev nD) (i : grid0.Coords)

/-- The kernel's body on the point's buffers. -/
abbrev bodyOf : Prog (TpuEff nD τ sig (Elt Ideal) Λ₀ .tc) PUnit :=
  cc0_gdn_scan_bwd i E.b0.m0 E.b0.h0 E.b1.m0 E.b1.h0 E.b0.m1 E.b0.h1 E.b1.m1 E.b1.h1 E.b0.m2 E.b0.h2 E.b1.m2 E.b1.h2 E.b0.m3 E.b0.h3 E.b1.m3 E.b1.h3 E.b0.m4 E.b0.h4 E.b1.m4 E.b1.h4 E.b0.m5 E.b0.h5 E.b1.m5 E.b1.h5 E.b0.m6 E.b0.h6 E.b1.m6 E.b1.h6 E.b0.m7 E.b0.h7 E.b1.m7 E.b1.h7 E.o0 E.w0 E.o1 E.w1 E.o2 E.w2 E.o3 E.w3 E.o4 E.w4 E.o5 E.w5 E.o6 E.w6 E.o7 E.w7 E.o8 E.w8 E.o9 E.w9 E.scr E.wscr

/-- The input buffers at their blocks, beside the rest. -/
def insOf (R : sProp 𝕄) : sProp 𝕄 :=
  iprop(owns (c : Thread nD τ) E.b0.m0 fullShare E.b0.x0
    ∗ owns (c : Thread nD τ) E.b1.m0 fullShare E.b1.x0
    ∗ owns (c : Thread nD τ) E.b0.m1 fullShare E.b0.x1
    ∗ owns (c : Thread nD τ) E.b1.m1 fullShare E.b1.x1
    ∗ owns (c : Thread nD τ) E.b0.m2 fullShare E.b0.x2
    ∗ owns (c : Thread nD τ) E.b1.m2 fullShare E.b1.x2
    ∗ owns (c : Thread nD τ) E.b0.m3 fullShare E.b0.x3
    ∗ owns (c : Thread nD τ) E.b1.m3 fullShare E.b1.x3
    ∗ owns (c : Thread nD τ) E.b0.m4 fullShare E.b0.x4
    ∗ owns (c : Thread nD τ) E.b1.m4 fullShare E.b1.x4
    ∗ owns (c : Thread nD τ) E.b0.m5 fullShare E.b0.x5
    ∗ owns (c : Thread nD τ) E.b1.m5 fullShare E.b1.x5
    ∗ owns (c : Thread nD τ) E.b0.m6 fullShare E.b0.x6
    ∗ owns (c : Thread nD τ) E.b1.m6 fullShare E.b1.x6
    ∗ owns (c : Thread nD τ) E.b0.m7 fullShare E.b0.x7
    ∗ owns (c : Thread nD τ) E.b1.m7 fullShare E.b1.x7
    ∗ R)

/-- The output buffers at anything. -/
def outsAny (R : sProp 𝕄) : sProp 𝕄 :=
  iprop((∃ d, owns (c : Thread nD τ) E.o0 fullShare d)
    ∗ (∃ d, owns (c : Thread nD τ) E.o1 fullShare d)
    ∗ (∃ d, owns (c : Thread nD τ) E.o2 fullShare d)
    ∗ (∃ d, owns (c : Thread nD τ) E.o3 fullShare d)
    ∗ (∃ d, owns (c : Thread nD τ) E.o4 fullShare d)
    ∗ (∃ d, owns (c : Thread nD τ) E.o5 fullShare d)
    ∗ (∃ d, owns (c : Thread nD τ) E.o6 fullShare d)
    ∗ (∃ d, owns (c : Thread nD τ) E.o7 fullShare d)
    ∗ (∃ d, owns (c : Thread nD τ) E.o8 fullShare d)
    ∗ (∃ d, owns (c : Thread nD τ) E.o9 fullShare d)
    ∗ R)

/-- The output buffers at the gradients' blocks of point `t`, and the scratch at the states of the next point. -/
def outsAt (t : ℕ) : sProp 𝕄 :=
  iprop(owns (c : Thread nD τ) E.o0 fullShare (at4 A Spec.dvn false t)
    ∗ owns (c : Thread nD τ) E.o1 fullShare (at4 A Spec.dvn true t)
    ∗ owns (c : Thread nD τ) E.o2 fullShare (at4 A Spec.dw false t)
    ∗ owns (c : Thread nD τ) E.o3 fullShare (at4 A Spec.dw true t)
    ∗ owns (c : Thread nD τ) E.o4 fullShare (at4 A (fun T _ => Spec.dqg T) false t)
    ∗ owns (c : Thread nD τ) E.o5 fullShare (at4 A (fun T _ => Spec.dqg T) true t)
    ∗ owns (c : Thread nD τ) E.o6 fullShare (at4 A Spec.dkd false t)
    ∗ owns (c : Thread nD τ) E.o7 fullShare (at4 A Spec.dkd true t)
    ∗ owns (c : Thread nD τ) E.o8 fullShare (at3 A Spec.dgl false t)
    ∗ owns (c : Thread nD τ) E.o9 fullShare (at3 A Spec.dgl true t)
    ∗ owns (c : Thread nD τ) E.scr fullShare (allAt A (8 * (t + 1))))

/-- The first point: the scratch held anything. -/
theorem stepA (hc : cond0_0 i) (t : ℕ) (h0 : Loaded A false t E.b0) (h1 : Loaded A true t E.b1) (ht : t < 16) (hz : t = 0) (K : PUnit → sProp 𝕄) :
    insOf E c (outsAny E c (iprop((∃ d, owns (c : Thread nD τ) E.scr fullShare d) ∗ (insOf E c (outsAt A E c t) -∗ K ⟨⟩))))
      ⊢ wp frame (wpE (defs₀ (F := Ideal)) Variants.none c none) Set.univ (bodyOf E i) K := by
  have hI : Begins A (iniA E.scr) (8 * t) := by subst hz; exact beginsA A E.scr
  unfold insOf outsAny
  iintro ⟨H0, H1, H2, H3, H4, H5, H6, H7, H8, H9, H10, H11, H12, H13, H14, H15, H16, H17, H18, H19, H20, H21, H22, H23, H24, H25, HS, Hk⟩
  iapply ((runA E c i hc).2.2.2.2.2.2.2.2.2.2.2 Set.univ K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [HS]; · iexact HS
  iintro ⟨H0, H1, H2, H3, H4, H5, H6, H7, H8, H9, H10, H11, H12, H13, H14, H15, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩, ⟨%e25, H25⟩, ⟨%es, HS⟩⟩
  iapply Hk
  unfold outsAt
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]
  · unfold owns; iexists _; isplitr; swap; · iexact H16
    ipureintro; rw [a0 E c i hc]; exact vn_at A h0 ht hI _ _
  isplitl [H17]
  · unfold owns; iexists _; isplitr; swap; · iexact H17
    ipureintro; rw [a1 E c i hc]; exact vn_at A h1 ht hI _ _
  isplitl [H18]
  · unfold owns; iexists _; isplitr; swap; · iexact H18
    ipureintro; rw [a2 E c i hc]; exact w_at A h0 ht hI _ _
  isplitl [H19]
  · unfold owns; iexists _; isplitr; swap; · iexact H19
    ipureintro; rw [a3 E c i hc]; exact w_at A h1 ht hI _ _
  isplitl [H20]
  · unfold owns; iexists _; isplitr; swap; · iexact H20
    ipureintro; rw [a4 E c i hc]; exact qg_at A h0 ht hI _ _
  isplitl [H21]
  · unfold owns; iexists _; isplitr; swap; · iexact H21
    ipureintro; rw [a5 E c i hc]; exact qg_at A h1 ht hI _ _
  isplitl [H22]
  · unfold owns; iexists _; isplitr; swap; · iexact H22
    ipureintro; rw [a6 E c i hc]; exact kd_at A h0 ht hI _ _
  isplitl [H23]
  · unfold owns; iexists _; isplitr; swap; · iexact H23
    ipureintro; rw [a7 E c i hc]; exact kd_at A h1 ht hI _ _
  isplitl [H24]
  · unfold owns; iexists _; isplitr; swap; · iexact H24
    ipureintro; rw [a8 E c i hc]; exact gl_at A h0 ht hI _ _
  isplitl [H25]
  · unfold owns; iexists _; isplitr; swap; · iexact H25
    ipureintro; rw [a9 E c i hc]; exact gl_at A h1 ht hI _ _
  unfold owns; iexists _; isplitr; swap; · iexact HS
  ipureintro; rw [aS E c i hc]; exact funext (listS_at A _ _ _ h0 h1 ht hI)

/-- A later point: the scratch held the states the point begins with. -/
theorem stepB (hc : ¬cond0_0 i) (t : ℕ) (h0 : Loaded A false t E.b0) (h1 : Loaded A true t E.b1) (ht : t < 16) (xs : Vec Ideal S8x128x128 .f32)
    (hx : xs = allAt A (8 * t)) (K : PUnit → sProp 𝕄) :
    insOf E c (outsAny E c (iprop(owns (c : Thread nD τ) E.scr fullShare xs ∗ (insOf E c (outsAt A E c t) -∗ K ⟨⟩))))
      ⊢ wp frame (wpE (defs₀ (F := Ideal)) Variants.none c none) Set.univ (bodyOf E i) K := by
  have hI : Begins A (iniB E.scr E.wscr xs) (8 * t) := beginsB A E.scr E.wscr xs _ fun y => congrFun hx y
  unfold insOf outsAny
  iintro ⟨H0, H1, H2, H3, H4, H5, H6, H7, H8, H9, H10, H11, H12, H13, H14, H15, H16, H17, H18, H19, H20, H21, H22, H23, H24, H25, HS, Hk⟩
  iapply ((runB E c i hc xs).2.2.2.2.2.2.2.2.2.2.2 Set.univ K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [HS]; · iexact HS
  iintro ⟨H0, H1, H2, H3, H4, H5, H6, H7, H8, H9, H10, H11, H12, H13, H14, H15, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩, ⟨%e25, H25⟩, ⟨%es, HS⟩⟩
  iapply Hk
  unfold outsAt
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]
  · unfold owns; iexists _; isplitr; swap; · iexact H16
    ipureintro; rw [b0 E c i hc xs]; exact vn_at A h0 ht hI _ _
  isplitl [H17]
  · unfold owns; iexists _; isplitr; swap; · iexact H17
    ipureintro; rw [b1 E c i hc xs]; exact vn_at A h1 ht hI _ _
  isplitl [H18]
  · unfold owns; iexists _; isplitr; swap; · iexact H18
    ipureintro; rw [b2 E c i hc xs]; exact w_at A h0 ht hI _ _
  isplitl [H19]
  · unfold owns; iexists _; isplitr; swap; · iexact H19
    ipureintro; rw [b3 E c i hc xs]; exact w_at A h1 ht hI _ _
  isplitl [H20]
  · unfold owns; iexists _; isplitr; swap; · iexact H20
    ipureintro; rw [b4 E c i hc xs]; exact qg_at A h0 ht hI _ _
  isplitl [H21]
  · unfold owns; iexists _; isplitr; swap; · iexact H21
    ipureintro; rw [b5 E c i hc xs]; exact qg_at A h1 ht hI _ _
  isplitl [H22]
  · unfold owns; iexists _; isplitr; swap; · iexact H22
    ipureintro; rw [b6 E c i hc xs]; exact kd_at A h0 ht hI _ _
  isplitl [H23]
  · unfold owns; iexists _; isplitr; swap; · iexact H23
    ipureintro; rw [b7 E c i hc xs]; exact kd_at A h1 ht hI _ _
  isplitl [H24]
  · unfold owns; iexists _; isplitr; swap; · iexact H24
    ipureintro; rw [b8 E c i hc xs]; exact gl_at A h0 ht hI _ _
  isplitl [H25]
  · unfold owns; iexists _; isplitr; swap; · iexact H25
    ipureintro; rw [b9 E c i hc xs]; exact gl_at A h1 ht hI _ _
  unfold owns; iexists _; isplitr; swap; · iexact HS
  ipureintro; rw [bS E c i hc xs]; exact funext (listS_at A _ _ _ h0 h1 ht hI)

end Cert.Proof.Point

end
-- ==== Proof.Loads.lean ====
/-
  The blocks a grid point loads are the tiles of its eight chunks: the arrays the kernel reads, off the arguments, and
  the place of each window's block in its array.
-/
module

public import proofs.«01_k».proof.Proof.Block
public import proofs.«01_k».proof.Proof.Gen.KernelIdeal.Frame.Runs
public import Idealize.ShloMosaic.Lib.Claim
public import Idealize.ShloMosaic.Lib.Pipeline.ValueKit

@[expose] public section

set_option maxRecDepth 16384

noncomputable section

namespace Cert.Proof.Loads

open Idealize.ShloMosaic Idealize.ShloMosaic.TcCoe Idealize.ShloMosaic.Tactic Cert.KernelIdeal Cert.KernelIdeal.Gen
open Cert.Proof.Tiles Cert.Proof.Block
open Idealize.SL.Sem

variable (m : (ℓ : Loc nD τ sig) → Buf (Elt Ideal) ℓ)

/-- The kernel's arguments on device `c`. -/
def argsOf (c : Dev nD) : Spec.Args where
  a0 := m ((c.tc : Thread nD τ).loc main_arg0)
  a1 := m ((c.tc : Thread nD τ).loc main_arg1)
  a2 := m ((c.tc : Thread nD τ).loc main_arg2)
  a3 := m ((c.tc : Thread nD τ).loc main_arg3)
  a4 := m ((c.tc : Thread nD τ).loc main_arg4)
  a5 := m ((c.tc : Thread nD τ).loc main_arg5)
  a6 := m ((c.tc : Thread nD τ).loc main_arg6)
  a7 := m ((c.tc : Thread nD τ).loc main_arg7)

variable (c : Dev nD)

/-! ## The arrays the kernel reads -/

theorem V_w : V m c main_v1 = truncf (F := Ideal) .bf16 (m ((c.tc : Thread nD τ).loc main_arg3)) bitsLt_bf16_f32 := by
  unfold_abbrev_sides
  after_results

theorem V_qg : V m c main_v2 = truncf (F := Ideal) .bf16 (m ((c.tc : Thread nD τ).loc main_arg4)) bitsLt_bf16_f32 := by
  unfold_abbrev_sides
  after_results

theorem V_kd : V m c main_v3 = truncf (F := Ideal) .bf16 (m ((c.tc : Thread nD τ).loc main_arg6)) bitsLt_bf16_f32 := by
  unfold_abbrev_sides
  after_results

theorem V_in : V m c main_v4 = truncf (F := Ideal) .bf16 (m ((c.tc : Thread nD τ).loc main_arg5)) bitsLt_bf16_f32 := by
  unfold_abbrev_sides
  after_results

theorem V_egl (n : Fin 128) (g : Fin 8) (l : Fin 128) : V m c main_v7 (ix3 n g l) = (Spec.tileAt (argsOf m c) n g).E l := by
  have e : V m c main_v7 = broadcastInDim S128x8x128 ![0, 1, 2] bcast_S128x8x1_S128x8x128_0_1_2
      (broadcastInDim S128x8x1 ![0, 1] bcast_S128x8_S128x8x1_0_1 (Host.exp (F := Ideal) (φ := .f32) (m ((c.tc : Thread nD τ).loc main_arg7)))) := by
    unfold_abbrev_sides
    after_results
  rw [e]
  pointwise
  rfl

theorem V_s0 (n : Fin 128) (h : Fin 4) (a b : Fin 128) : V m c main_v11 (ix4 n h a b) = (Spec.tileAt (argsOf m c) n (chain false h)).S a b := by
  have e : V m c main_v11 = extractStridedSlice S128x4x128x128 ![0, 0, 0, 0]
      (truncf (F := Ideal) .bf16 (m ((c.tc : Thread nD τ).loc main_arg1)) bitsLt_bf16_f32) slices_S128x8x128x128_S128x4x128x128_0_0_0_0 := by
    unfold_abbrev_sides
    after_results
  rw [e]
  pointwise
  rfl

theorem V_vn0 (n : Fin 128) (h : Fin 4) (i : Fin 64) (b : Fin 128) : V m c main_v13 (ix4 n h i b) = (Spec.tileAt (argsOf m c) n (chain false h)).VN i b := by
  have e : V m c main_v13 = extractStridedSlice S128x4x64x128 ![0, 0, 0, 0]
      (truncf (F := Ideal) .bf16 (subf (m ((c.tc : Thread nD τ).loc main_arg2))
        (Host.dotGeneral (F := Ideal) dot_S128x8x64x128_S128x8x128x128_S128x8x64x128_3_2_2_3_01_01 none
          (truncf (F := Ideal) .bf16 (m ((c.tc : Thread nD τ).loc main_arg3)) bitsLt_bf16_f32)
          (truncf (F := Ideal) .bf16 (m ((c.tc : Thread nD τ).loc main_arg1)) bitsLt_bf16_f32))) bitsLt_bf16_f32) slices_S128x8x64x128_S128x4x64x128_0_0_0_0 := by
    unfold_abbrev_sides
    after_results
  rw [e]
  pointwise
  rfl

theorem V_s1 (n : Fin 128) (h : Fin 4) (a b : Fin 128) : V m c main_v12 (ix4 n h a b) = (Spec.tileAt (argsOf m c) n (chain true h)).S a b := by
  have e : V m c main_v12 = extractStridedSlice S128x4x128x128 ![0, 4, 0, 0]
      (truncf (F := Ideal) .bf16 (m ((c.tc : Thread nD τ).loc main_arg1)) bitsLt_bf16_f32) slices_S128x8x128x128_S128x4x128x128_0_4_0_0 := by
    unfold_abbrev_sides
    after_results
  rw [e]
  pointwise
  rfl

theorem V_vn1 (n : Fin 128) (h : Fin 4) (i : Fin 64) (b : Fin 128) : V m c main_v14 (ix4 n h i b) = (Spec.tileAt (argsOf m c) n (chain true h)).VN i b := by
  have e : V m c main_v14 = extractStridedSlice S128x4x64x128 ![0, 4, 0, 0]
      (truncf (F := Ideal) .bf16 (subf (m ((c.tc : Thread nD τ).loc main_arg2))
        (Host.dotGeneral (F := Ideal) dot_S128x8x64x128_S128x8x128x128_S128x8x64x128_3_2_2_3_01_01 none
          (truncf (F := Ideal) .bf16 (m ((c.tc : Thread nD τ).loc main_arg3)) bitsLt_bf16_f32)
          (truncf (F := Ideal) .bf16 (m ((c.tc : Thread nD τ).loc main_arg1)) bitsLt_bf16_f32))) bitsLt_bf16_f32) slices_S128x8x64x128_S128x4x64x128_0_4_0_0 := by
    unfold_abbrev_sides
    after_results
  rw [e]
  pointwise
  rfl

/-! ## The windows' blocks -/

theorem do0 (t : Fin cfg0.N) (k : Fin 8) (h : Fin 4) (i : Fin 64) (e : Fin 128) :
    iblk m c 0 t (ix2 (n0 := 512) (n1 := 512) ⟨64 * k.val + i.val, by omega⟩ ⟨128 * h.val + e.val, by omega⟩) = (Spec.tileAt (argsOf m c) (chunk false t.val k) (chain false h)).DO i e := by
  have x : ∀ t : Fin cfg0.N, win0_0.index t = ![15 - t.val, 0] := by decide +kernel
  have ht : t.val < 16 := Nat.lt_of_lt_of_eq t.isLt N_0
  show _ = V m c main_arg0 (ix2 (Spec.rowOf (chunk false t.val k) i) (Spec.colOf (chain false h) e))
  blk_ext [iblk, x t, chunk, chain, gOf, Bool.cond_true, Bool.cond_false, Spec.rowOf, Spec.colOf]

theorem s0 (t : Fin cfg0.N) (k : Fin 8) (h : Fin 4) (a b : Fin 128) :
    iblk m c 2 t (ix4 k h a b) = (Spec.tileAt (argsOf m c) (chunk false t.val k) (chain false h)).S a b := by
  have x : ∀ t : Fin cfg0.N, win0_2.index t = ![15 - t.val, 0, 0, 0] := by decide +kernel
  have ht : t.val < 16 := Nat.lt_of_lt_of_eq t.isLt N_0
  rw [← V_s0]
  blk_ext [iblk, x t, chunk, chain, gOf, Bool.cond_true, Bool.cond_false]

theorem w0 (t : Fin cfg0.N) (k : Fin 8) (h : Fin 4) (i : Fin 64) (e : Fin 128) :
    iblk m c 4 t (ix4 k h i e) = (Spec.tileAt (argsOf m c) (chunk false t.val k) (chain false h)).W i e := by
  have x : ∀ t : Fin cfg0.N, win0_4.index t = ![15 - t.val, 0, 0, 0] := by decide +kernel
  have ht : t.val < 16 := Nat.lt_of_lt_of_eq t.isLt N_0
  have e1 : iblk m c 4 t (ix4 k h i e) = V m c main_v1 (ix4 (chunk false t.val k) (chain false h) i e) := by
    blk_ext [iblk, x t, chunk, chain, gOf, Bool.cond_true, Bool.cond_false]
  rw [e1, V_w]
  rfl

theorem qg0 (t : Fin cfg0.N) (k : Fin 8) (h : Fin 4) (i : Fin 64) (e : Fin 128) :
    iblk m c 6 t (ix4 k h i e) = (Spec.tileAt (argsOf m c) (chunk false t.val k) (chain false h)).QG i e := by
  have x : ∀ t : Fin cfg0.N, win0_6.index t = ![15 - t.val, 0, 0, 0] := by decide +kernel
  have ht : t.val < 16 := Nat.lt_of_lt_of_eq t.isLt N_0
  have e1 : iblk m c 6 t (ix4 k h i e) = V m c main_v2 (ix4 (chunk false t.val k) (chain false h) i e) := by
    blk_ext [iblk, x t, chunk, chain, gOf, Bool.cond_true, Bool.cond_false]
  rw [e1, V_qg]
  rfl

theorem kd0 (t : Fin cfg0.N) (k : Fin 8) (h : Fin 4) (i : Fin 64) (e : Fin 128) :
    iblk m c 8 t (ix4 k h i e) = (Spec.tileAt (argsOf m c) (chunk false t.val k) (chain false h)).KD i e := by
  have x : ∀ t : Fin cfg0.N, win0_8.index t = ![15 - t.val, 0, 0, 0] := by decide +kernel
  have ht : t.val < 16 := Nat.lt_of_lt_of_eq t.isLt N_0
  have e1 : iblk m c 8 t (ix4 k h i e) = V m c main_v3 (ix4 (chunk false t.val k) (chain false h) i e) := by
    blk_ext [iblk, x t, chunk, chain, gOf, Bool.cond_true, Bool.cond_false]
  rw [e1, V_kd]
  rfl

theorem in0 (t : Fin cfg0.N) (k : Fin 8) (h : Fin 4) (i : Fin 64) (e : Fin 64) :
    iblk m c 10 t (ix4 k h i e) = (Spec.tileAt (argsOf m c) (chunk false t.val k) (chain false h)).IN i e := by
  have x : ∀ t : Fin cfg0.N, win0_10.index t = ![15 - t.val, 0, 0, 0] := by decide +kernel
  have ht : t.val < 16 := Nat.lt_of_lt_of_eq t.isLt N_0
  have e1 : iblk m c 10 t (ix4 k h i e) = V m c main_v4 (ix4 (chunk false t.val k) (chain false h) i e) := by
    blk_ext [iblk, x t, chunk, chain, gOf, Bool.cond_true, Bool.cond_false]
  rw [e1, V_in]
  rfl

theorem vn0 (t : Fin cfg0.N) (k : Fin 8) (h : Fin 4) (i : Fin 64) (e : Fin 128) :
    iblk m c 12 t (ix4 k h i e) = (Spec.tileAt (argsOf m c) (chunk false t.val k) (chain false h)).VN i e := by
  have x : ∀ t : Fin cfg0.N, win0_12.index t = ![15 - t.val, 0, 0, 0] := by decide +kernel
  have ht : t.val < 16 := Nat.lt_of_lt_of_eq t.isLt N_0
  rw [← V_vn0]
  blk_ext [iblk, x t, chunk, chain, gOf, Bool.cond_true, Bool.cond_false]

theorem egl0 (t : Fin cfg0.N) (k : Fin 8) (h : Fin 4) (l : Fin 128) :
    iblk m c 14 t (ix3 k (chain false h) l) = (Spec.tileAt (argsOf m c) (chunk false t.val k) (chain false h)).E l := by
  have x : ∀ t : Fin cfg0.N, win0_14.index t = ![15 - t.val, 0, 0] := by decide +kernel
  have ht : t.val < 16 := Nat.lt_of_lt_of_eq t.isLt N_0
  rw [← V_egl]
  blk_ext [iblk, x t, chunk, chain, gOf, Bool.cond_true, Bool.cond_false]

theorem do1 (t : Fin cfg0.N) (k : Fin 8) (h : Fin 4) (i : Fin 64) (e : Fin 128) :
    iblk m c 1 t (ix2 (n0 := 512) (n1 := 512) ⟨64 * k.val + i.val, by omega⟩ ⟨128 * h.val + e.val, by omega⟩) = (Spec.tileAt (argsOf m c) (chunk true t.val k) (chain true h)).DO i e := by
  have x : ∀ t : Fin cfg0.N, win0_1.index t = ![t.val, 0] := by decide +kernel
  have ht : t.val < 16 := Nat.lt_of_lt_of_eq t.isLt N_0
  show _ = V m c main_arg0 (ix2 (Spec.rowOf (chunk true t.val k) i) (Spec.colOf (chain true h) e))
  blk_ext [iblk, x t, chunk, chain, gOf, Bool.cond_true, Bool.cond_false, Spec.rowOf, Spec.colOf]

theorem s1 (t : Fin cfg0.N) (k : Fin 8) (h : Fin 4) (a b : Fin 128) :
    iblk m c 3 t (ix4 k h a b) = (Spec.tileAt (argsOf m c) (chunk true t.val k) (chain true h)).S a b := by
  have x : ∀ t : Fin cfg0.N, win0_3.index t = ![t.val, 0, 0, 0] := by decide +kernel
  have ht : t.val < 16 := Nat.lt_of_lt_of_eq t.isLt N_0
  rw [← V_s1]
  blk_ext [iblk, x t, chunk, chain, gOf, Bool.cond_true, Bool.cond_false]

theorem w1 (t : Fin cfg0.N) (k : Fin 8) (h : Fin 4) (i : Fin 64) (e : Fin 128) :
    iblk m c 5 t (ix4 k h i e) = (Spec.tileAt (argsOf m c) (chunk true t.val k) (chain true h)).W i e := by
  have x : ∀ t : Fin cfg0.N, win0_5.index t = ![t.val, 1, 0, 0] := by decide +kernel
  have ht : t.val < 16 := Nat.lt_of_lt_of_eq t.isLt N_0
  have e1 : iblk m c 5 t (ix4 k h i e) = V m c main_v1 (ix4 (chunk true t.val k) (chain true h) i e) := by
    blk_ext [iblk, x t, chunk, chain, gOf, Bool.cond_true, Bool.cond_false]
  rw [e1, V_w]
  rfl

theorem qg1 (t : Fin cfg0.N) (k : Fin 8) (h : Fin 4) (i : Fin 64) (e : Fin 128) :
    iblk m c 7 t (ix4 k h i e) = (Spec.tileAt (argsOf m c) (chunk true t.val k) (chain true h)).QG i e := by
  have x : ∀ t : Fin cfg0.N, win0_7.index t = ![t.val, 1, 0, 0] := by decide +kernel
  have ht : t.val < 16 := Nat.lt_of_lt_of_eq t.isLt N_0
  have e1 : iblk m c 7 t (ix4 k h i e) = V m c main_v2 (ix4 (chunk true t.val k) (chain true h) i e) := by
    blk_ext [iblk, x t, chunk, chain, gOf, Bool.cond_true, Bool.cond_false]
  rw [e1, V_qg]
  rfl

theorem kd1 (t : Fin cfg0.N) (k : Fin 8) (h : Fin 4) (i : Fin 64) (e : Fin 128) :
    iblk m c 9 t (ix4 k h i e) = (Spec.tileAt (argsOf m c) (chunk true t.val k) (chain true h)).KD i e := by
  have x : ∀ t : Fin cfg0.N, win0_9.index t = ![t.val, 1, 0, 0] := by decide +kernel
  have ht : t.val < 16 := Nat.lt_of_lt_of_eq t.isLt N_0
  have e1 : iblk m c 9 t (ix4 k h i e) = V m c main_v3 (ix4 (chunk true t.val k) (chain true h) i e) := by
    blk_ext [iblk, x t, chunk, chain, gOf, Bool.cond_true, Bool.cond_false]
  rw [e1, V_kd]
  rfl

theorem in1 (t : Fin cfg0.N) (k : Fin 8) (h : Fin 4) (i : Fin 64) (e : Fin 64) :
    iblk m c 11 t (ix4 k h i e) = (Spec.tileAt (argsOf m c) (chunk true t.val k) (chain true h)).IN i e := by
  have x : ∀ t : Fin cfg0.N, win0_11.index t = ![t.val, 1, 0, 0] := by decide +kernel
  have ht : t.val < 16 := Nat.lt_of_lt_of_eq t.isLt N_0
  have e1 : iblk m c 11 t (ix4 k h i e) = V m c main_v4 (ix4 (chunk true t.val k) (chain true h) i e) := by
    blk_ext [iblk, x t, chunk, chain, gOf, Bool.cond_true, Bool.cond_false]
  rw [e1, V_in]
  rfl

theorem vn1 (t : Fin cfg0.N) (k : Fin 8) (h : Fin 4) (i : Fin 64) (e : Fin 128) :
    iblk m c 13 t (ix4 k h i e) = (Spec.tileAt (argsOf m c) (chunk true t.val k) (chain true h)).VN i e := by
  have x : ∀ t : Fin cfg0.N, win0_13.index t = ![t.val, 0, 0, 0] := by decide +kernel
  have ht : t.val < 16 := Nat.lt_of_lt_of_eq t.isLt N_0
  rw [← V_vn1]
  blk_ext [iblk, x t, chunk, chain, gOf, Bool.cond_true, Bool.cond_false]

theorem egl1 (t : Fin cfg0.N) (k : Fin 8) (h : Fin 4) (l : Fin 128) :
    iblk m c 15 t (ix3 k (chain true h) l) = (Spec.tileAt (argsOf m c) (chunk true t.val k) (chain true h)).E l := by
  have x : ∀ t : Fin cfg0.N, win0_15.index t = ![t.val, 0, 0] := by decide +kernel
  have ht : t.val < 16 := Nat.lt_of_lt_of_eq t.isLt N_0
  rw [← V_egl]
  blk_ext [iblk, x t, chunk, chain, gOf, Bool.cond_true, Bool.cond_false]

end Cert.Proof.Loads

end
-- ==== Proof.Run.lean ====
/-
  The run of the kernel at the extended reals: the blocks of every grid point, hence every output array, as the gradients
  of the specification; and that the run leaves its arguments alone and every semaphore at zero.
-/
module

public import proofs.«01_k».proof.Proof.Point
public import proofs.«01_k».proof.Proof.Loads
public import proofs.«01_k».proof.Proof.Gen.KernelIdeal.Frame.RunB
public import Idealize.ShloMosaic.Lib.Claim
public import Idealize.ShloMosaic.Lib.Pipeline.Value

@[expose] public section

set_option maxRecDepth 16384

noncomputable section

namespace Cert.Proof.Run

open Idealize.ShloMosaic Idealize.ShloMosaic.TcCoe Idealize.ShloMosaic.Tactic Cert.KernelIdeal Cert.KernelIdeal.Gen
open Cert.Proof.Tiles Cert.Proof.Block Cert.Proof.Found Cert.Proof.Point Cert.Proof.Loads
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## The buffers of a point -/

/-- The first direction's input buffers at point `t`, at their blocks. -/
abbrev bufs0 (c : Dev nD) (t : Fin cfg0.N) : Bufs Ideal :=
  ⟨ms0_0 t, hs0_0 t, ms0_2 t, hs0_2 t, ms0_4 t, hs0_4 t, ms0_6 t, hs0_6 t, ms0_8 t, hs0_8 t, ms0_10 t, hs0_10 t, ms0_12 t, hs0_12 t, ms0_14 t, hs0_14 t, iblk m c 0 t, iblk m c 2 t, iblk m c 4 t, iblk m c 6 t, iblk m c 8 t, iblk m c 10 t, iblk m c 12 t, iblk m c 14 t⟩

/-- The second direction's input buffers at point `t`, at their blocks. -/
abbrev bufs1 (c : Dev nD) (t : Fin cfg0.N) : Bufs Ideal :=
  ⟨ms0_1 t, hs0_1 t, ms0_3 t, hs0_3 t, ms0_5 t, hs0_5 t, ms0_7 t, hs0_7 t, ms0_9 t, hs0_9 t, ms0_11 t, hs0_11 t, ms0_13 t, hs0_13 t, ms0_15 t, hs0_15 t, iblk m c 1 t, iblk m c 3 t, iblk m c 5 t, iblk m c 7 t, iblk m c 9 t, iblk m c 11 t, iblk m c 13 t, iblk m c 15 t⟩

/-- Every buffer of point `t`. -/
abbrev envAt (c : Dev nD) (t : Fin cfg0.N) : Env Ideal :=
  ⟨bufs0 m c t, bufs1 m c t, ms0_16 t, hs0_16 t, ms0_17 t, hs0_17 t, ms0_18 t, hs0_18 t, ms0_19 t, hs0_19 t, ms0_20 t, hs0_20 t, ms0_21 t, hs0_21 t, ms0_22 t, hs0_22 t, ms0_23 t, hs0_23 t, ms0_24 t, hs0_24 t, ms0_25 t, hs0_25 t, scM0_0, Memref.isWhole_whole _⟩

theorem loaded0 (c : Dev nD) (t : Fin cfg0.N) : Loaded (argsOf m c) false t.val (bufs0 m c t) := by
  intro k h
  have e : ∀ T : Spec.Tile, T = ⟨T.DO, T.S, T.VN, T.W, T.QG, T.KD, T.IN, T.E⟩ := fun _ => rfl
  rw [e (Spec.tileAt (argsOf m c) (chunk false t.val k) (chain false h))]
  unfold blk
  congr 1
  · funext i e; exact do0 m c t k h i e
  · funext a b; exact s0 m c t k h a b
  · funext i e; exact vn0 m c t k h i e
  · funext i e; exact w0 m c t k h i e
  · funext i e; exact qg0 m c t k h i e
  · funext i e; exact kd0 m c t k h i e
  · funext i e; exact in0 m c t k h i e
  · funext l; exact egl0 m c t k h l

theorem loaded1 (c : Dev nD) (t : Fin cfg0.N) : Loaded (argsOf m c) true t.val (bufs1 m c t) := by
  intro k h
  have e : ∀ T : Spec.Tile, T = ⟨T.DO, T.S, T.VN, T.W, T.QG, T.KD, T.IN, T.E⟩ := fun _ => rfl
  rw [e (Spec.tileAt (argsOf m c) (chunk true t.val k) (chain true h))]
  unfold blk
  congr 1
  · funext i e; exact do1 m c t k h i e
  · funext a b; exact s1 m c t k h a b
  · funext i e; exact vn1 m c t k h i e
  · funext i e; exact w1 m c t k h i e
  · funext i e; exact qg1 m c t k h i e
  · funext i e; exact kd1 m c t k h i e
  · funext i e; exact in1 m c t k h i e
  · funext l; exact egl1 m c t k h l

theorem body_eq (c : Dev nD) (t : Fin cfg0.N) : bodyAt0 (F := Ideal) t = bodyOf (envAt m c t) (grid0.coords t) := rfl

/-! ## The invariant and the proof data -/

/-- Before point `n`: the scratch at the eight chains' gradients after `8 n` steps (at anything before the first point). -/
def PhiS (c : Dev nD) : (n : ℕ) → n ≤ cfg0.N → sProp 𝕄
  | 0, _ => Pipeline.ΦA spec0 c
  | n + 1, _ => iprop(owns (c : Thread nD τ) scM0_0 fullShare (allAt (argsOf m c) (8 * (n + 1)) : Vec Ideal S8x128x128 .f32) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(owns (c : Thread nD τ) scM0_0 fullShare (allAt (argsOf m c) (8 * (n + 1)) : Vec Ideal S8x128x128 .f32) ∗ (∃ r, prngReg c r)) := rfl

theorem PhiS_pos (c : Dev nD) (n : ℕ) (h : n ≤ cfg0.N) (hz : n ≠ 0) :
    PhiS m c n h = iprop(owns (c : Thread nD τ) scM0_0 fullShare (allAt (argsOf m c) (8 * n) : Vec Ideal S8x128x128 .f32) ∗ (∃ r, prngReg c r)) := by
  cases n with
  | zero => exact absurd rfl hz
  | succ n => rfl

/-- The proof data: each input buffer ends a point at its block, each output buffer at its block of the gradients. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => at4 (argsOf m c) Spec.dvn false t.val
    | ⟨17, _⟩ => at4 (argsOf m c) Spec.dvn true t.val
    | ⟨18, _⟩ => at4 (argsOf m c) Spec.dw false t.val
    | ⟨19, _⟩ => at4 (argsOf m c) Spec.dw true t.val
    | ⟨20, _⟩ => at4 (argsOf m c) (fun T _ => Spec.dqg T) false t.val
    | ⟨21, _⟩ => at4 (argsOf m c) (fun T _ => Spec.dqg T) true t.val
    | ⟨22, _⟩ => at4 (argsOf m c) Spec.dkd false t.val
    | ⟨23, _⟩ => at4 (argsOf m c) Spec.dkd true t.val
    | ⟨24, _⟩ => at3 (argsOf m c) Spec.dgl false t.val
    | ⟨25, _⟩ => at3 (argsOf m c) Spec.dgl true t.val
    | ⟨_ + 26, h⟩ => absurd h (Nat.not_lt.2 (Nat.le_add_left _ _))
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = at4 (argsOf m c) Spec.dvn false t.val := by dsimp only [dats]
theorem after_17 (c : Dev nD) (t : Fin cfg0.N) : (dats m 0 c).after 17 t = at4 (argsOf m c) Spec.dvn true t.val := by dsimp only [dats]
theorem after_18 (c : Dev nD) (t : Fin cfg0.N) : (dats m 0 c).after 18 t = at4 (argsOf m c) Spec.dw false t.val := by dsimp only [dats]
theorem after_19 (c : Dev nD) (t : Fin cfg0.N) : (dats m 0 c).after 19 t = at4 (argsOf m c) Spec.dw true t.val := by dsimp only [dats]
theorem after_20 (c : Dev nD) (t : Fin cfg0.N) : (dats m 0 c).after 20 t = at4 (argsOf m c) (fun T _ => Spec.dqg T) false t.val := by dsimp only [dats]
theorem after_21 (c : Dev nD) (t : Fin cfg0.N) : (dats m 0 c).after 21 t = at4 (argsOf m c) (fun T _ => Spec.dqg T) true t.val := by dsimp only [dats]
theorem after_22 (c : Dev nD) (t : Fin cfg0.N) : (dats m 0 c).after 22 t = at4 (argsOf m c) Spec.dkd false t.val := by dsimp only [dats]
theorem after_23 (c : Dev nD) (t : Fin cfg0.N) : (dats m 0 c).after 23 t = at4 (argsOf m c) Spec.dkd true t.val := by dsimp only [dats]
theorem after_24 (c : Dev nD) (t : Fin cfg0.N) : (dats m 0 c).after 24 t = at3 (argsOf m c) Spec.dgl false t.val := by dsimp only [dats]
theorem after_25 (c : Dev nD) (t : Fin cfg0.N) : (dats m 0 c).after 25 t = at3 (argsOf m c) Spec.dgl true t.val := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d
theorem before_14 (c : Dev nD) (t : Fin cfg0.N) (d) : (dats m 0 c).before 14 t d = iblk m c 14 t :=
  before0_14_of m (dats m 0 c) (A_eq m c 14) (after_14 m c) t d
theorem before_15 (c : Dev nD) (t : Fin cfg0.N) (d) : (dats m 0 c).before 15 t d = iblk m c 15 t :=
  before0_15_of m (dats m 0 c) (A_eq m c 15) (after_15 m c) t d

/-! ## The body obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t))

set_option maxHeartbeats 4000000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost
  rw [body_eq m c t]
  simp only [before_0, before_1, before_2, before_3, before_4, before_5, before_6, before_7, before_8, before_9, before_10, before_11, before_12, before_13, before_14, before_15]
  rw [show (dats m 0 c).owesAt () t.succ = (dats m 0 c).owesAt () t.castSucc from rfl, after_0, after_1, after_2, after_3, after_4, after_5, after_6, after_7, after_8, after_9, after_10, after_11, after_12, after_13, after_14, after_15, after_16, after_17, after_18, after_19, after_20, after_21, after_22, after_23, after_24, after_25]
  rw [show (dats m 0 c).Φ t.succ = PhiS m c (t.val + 1) t.isLt from rfl, PhiS_succ]
  have hN : t.val < 16 := lt_of_lt_of_eq t.isLt (show cfg0.N = 16 from N_0)
  by_cases hz : t.val = 0
  · have h0 : t.val % 16 = 0 := by omega
    rw [PhiS_castSucc m c t, PhiS_zero m c _ _ hz, PhiA0_eq]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
    iapply (stepA (argsOf m c) (envAt m c t) c (grid0.coords t) ((hcond0_0 t).mpr h0) t.val (loaded0 m c t) (loaded1 m c t) hN hz)
    unfold insOf outsAny outsAt
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [HS]; · iexact HS
    iintro ⟨H0, H1, H2, H3, H4, H5, H6, H7, H8, H9, H10, H11, H12, H13, H14, H15, H16, H17, H18, H19, H20, H21, H22, H23, H24, H25, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    iexact H25
  · have h0 : ¬t.val % 16 = 0 := by omega
    rw [PhiS_castSucc m c t, PhiS_pos m c _ _ hz]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
    iapply (stepB (argsOf m c) (envAt m c t) c (grid0.coords t) (fun h => h0 ((hcond0_0 t).mp h)) t.val (loaded0 m c t) (loaded1 m c t) hN _ rfl)
    unfold insOf outsAny outsAt
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [HS]; · iexact HS
    iintro ⟨H0, H1, H2, H3, H4, H5, H6, H7, H8, H9, H10, H11, H12, H13, H14, H15, H16, H17, H18, H19, H20, H21, H22, H23, H24, H25, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    iexact H25

theorem defs₀_row (t : Fin cfg0.N) : defs₀ (F := Ideal) .tc cfg0.body (cfg0.bodyArgs t (cfg0.slots t)) = bodyAt0 t := by
  unfold defs₀; rw [Defs.onTc_tc]

set_option maxHeartbeats 4000000 in
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have hne : (Fin.last cfg0.N).val ≠ 0 := by rw [Fin.val_last]; have : cfg0.N = 16 := N_0; omega
  rw [show (dats m 0 c).Φ (Fin.last cfg0.N) = PhiS m c (Fin.last cfg0.N).val (Nat.le_of_lt_succ (Fin.last cfg0.N).isLt) from rfl,
    PhiS_pos m c _ _ hne, PhiA0_eq]
  iintro ⟨HS, Hg⟩
  isplitl [HS]
  · iexists _; iexact HS
  iexact Hg

/-! ## The run -/

-- the conclusion of the launch lemma is unified with this one up to plain definitions
set_option backward.isDefEq.respectTransparency.types false in
theorem run_quiescent : θ_run defs (onTc (τ := τ) (main (F := Ideal))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := Ideal))) (s₀ m ρ) (Pipeline.FramePost cfgs (dats m) 0 (V m)) :=
  (θ_run defs _ _).mono (fun _ h => h.1) (run_quiescent m ρ)

end Cert.Proof.Run

end
-- ==== Proof.Arrays.lean ====
/-
  Every output array after the run, as a whole gradient of the specification.
-/
module

public import proofs.«01_k».proof.Proof.Run
public import Idealize.ShloMosaic.Lib.Pipeline.ValueKit

@[expose] public section

set_option maxRecDepth 16384

noncomputable section

namespace Cert.Proof.Arrays

open Idealize.ShloMosaic Idealize.ShloMosaic.TcCoe Idealize.ShloMosaic.Tactic Cert.KernelIdeal Cert.KernelIdeal.Gen
open Cert.Proof.Tiles Cert.Proof.Block Cert.Proof.Loads Cert.Proof.Run
open Idealize.SL.Sem
open Idealize.ShloMosaic.Pipeline (Dat)

variable (m : (ℓ : Loc nD τ sig) → Buf (Elt Ideal) ℓ) (ρ : Dev nD → PrngReg)

/-- A whole gradient of one direction's four heads. -/
def whole4 (A : Spec.Args) (G : Val4) (d : Bool) (y : S128x4x64x128.Idx) : EReal :=
  G (Spec.tileAt A (y 0) (chain d (y 1))) (Spec.gradFor A (y 0) (chain d (y 1))) (y 2) (y 3)

/-- The decay's gradient of one direction's four heads. -/
def whole3 (A : Spec.Args) (G : Val3) (d : Bool) (y : S128x4x128.Idx) : EReal :=
  G (Spec.tileAt A (y 0) (chain d (y 1))) (Spec.gradFor A (y 0) (chain d (y 1))) (y 2)

theorem arr16 (c : Dev nD) : (dats m 0 c).arrAt 16 cfg0.N = whole4 (argsOf m c) Spec.dvn false := by
  refine (dats m 0 c).arrAt_eq_of_covers 16 _ (by decide +kernel) fun t hf y => ?_
  have x : ∀ t : Fin cfg0.N, win0_16.index t = ![15 - t.val, 0, 0, 0] := by decide +kernel
  have ht : t.val < 16 := Nat.lt_of_lt_of_eq t.isLt N_0
  blk_simp
  rw [after_16]
  refine congrArg (whole4 (argsOf m c) Spec.dvn false) (a₁ := ix4 (n0 := 128) (n1 := 4) (n2 := 64) (n3 := 128) (chunk false t.val (y 0)) (y 1) (y 2) (y 3)) ?_
  blk_ext [x t, chunk, Bool.cond_false]

theorem arr17 (c : Dev nD) : (dats m 0 c).arrAt 17 cfg0.N = whole4 (argsOf m c) Spec.dvn true := by
  refine (dats m 0 c).arrAt_eq_of_covers 17 _ (by decide +kernel) fun t hf y => ?_
  have x : ∀ t : Fin cfg0.N, win0_17.index t = ![t.val, 0, 0, 0] := by decide +kernel
  have ht : t.val < 16 := Nat.lt_of_lt_of_eq t.isLt N_0
  blk_simp
  rw [after_17]
  refine congrArg (whole4 (argsOf m c) Spec.dvn true) (a₁ := ix4 (n0 := 128) (n1 := 4) (n2 := 64) (n3 := 128) (chunk true t.val (y 0)) (y 1) (y 2) (y 3)) ?_
  blk_ext [x t, chunk, Bool.cond_true]

theorem arr18 (c : Dev nD) : (dats m 0 c).arrAt 18 cfg0.N = whole4 (argsOf m c) Spec.dw false := by
  refine (dats m 0 c).arrAt_eq_of_covers 18 _ (by decide +kernel) fun t hf y => ?_
  have x : ∀ t : Fin cfg0.N, win0_18.index t = ![15 - t.val, 0, 0, 0] := by decide +kernel
  have ht : t.val < 16 := Nat.lt_of_lt_of_eq t.isLt N_0
  blk_simp
  rw [after_18]
  refine congrArg (whole4 (argsOf m c) Spec.dw false) (a₁ := ix4 (n0 := 128) (n1 := 4) (n2 := 64) (n3 := 128) (chunk false t.val (y 0)) (y 1) (y 2) (y 3)) ?_
  blk_ext [x t, chunk, Bool.cond_false]

theorem arr19 (c : Dev nD) : (dats m 0 c).arrAt 19 cfg0.N = whole4 (argsOf m c) Spec.dw true := by
  refine (dats m 0 c).arrAt_eq_of_covers 19 _ (by decide +kernel) fun t hf y => ?_
  have x : ∀ t : Fin cfg0.N, win0_19.index t = ![t.val, 0, 0, 0] := by decide +kernel
  have ht : t.val < 16 := Nat.lt_of_lt_of_eq t.isLt N_0
  blk_simp
  rw [after_19]
  refine congrArg (whole4 (argsOf m c) Spec.dw true) (a₁ := ix4 (n0 := 128) (n1 := 4) (n2 := 64) (n3 := 128) (chunk true t.val (y 0)) (y 1) (y 2) (y 3)) ?_
  blk_ext [x t, chunk, Bool.cond_true]

theorem arr20 (c : Dev nD) : (dats m 0 c).arrAt 20 cfg0.N = whole4 (argsOf m c) (fun T _ => Spec.dqg T) false := by
  refine (dats m 0 c).arrAt_eq_of_covers 20 _ (by decide +kernel) fun t hf y => ?_
  have x : ∀ t : Fin cfg0.N, win0_20.index t = ![15 - t.val, 0, 0, 0] := by decide +kernel
  have ht : t.val < 16 := Nat.lt_of_lt_of_eq t.isLt N_0
  blk_simp
  rw [after_20]
  refine congrArg (whole4 (argsOf m c) (fun T _ => Spec.dqg T) false) (a₁ := ix4 (n0 := 128) (n1 := 4) (n2 := 64) (n3 := 128) (chunk false t.val (y 0)) (y 1) (y 2) (y 3)) ?_
  blk_ext [x t, chunk, Bool.cond_false]

theorem arr21 (c : Dev nD) : (dats m 0 c).arrAt 21 cfg0.N = whole4 (argsOf m c) (fun T _ => Spec.dqg T) true := by
  refine (dats m 0 c).arrAt_eq_of_covers 21 _ (by decide +kernel) fun t hf y => ?_
  have x : ∀ t : Fin cfg0.N, win0_21.index t = ![t.val, 0, 0, 0] := by decide +kernel
  have ht : t.val < 16 := Nat.lt_of_lt_of_eq t.isLt N_0
  blk_simp
  rw [after_21]
  refine congrArg (whole4 (argsOf m c) (fun T _ => Spec.dqg T) true) (a₁ := ix4 (n0 := 128) (n1 := 4) (n2 := 64) (n3 := 128) (chunk true t.val (y 0)) (y 1) (y 2) (y 3)) ?_
  blk_ext [x t, chunk, Bool.cond_true]

theorem arr22 (c : Dev nD) : (dats m 0 c).arrAt 22 cfg0.N = whole4 (argsOf m c) Spec.dkd false := by
  refine (dats m 0 c).arrAt_eq_of_covers 22 _ (by decide +kernel) fun t hf y => ?_
  have x : ∀ t : Fin cfg0.N, win0_22.index t = ![15 - t.val, 0, 0, 0] := by decide +kernel
  have ht : t.val < 16 := Nat.lt_of_lt_of_eq t.isLt N_0
  blk_simp
  rw [after_22]
  refine congrArg (whole4 (argsOf m c) Spec.dkd false) (a₁ := ix4 (n0 := 128) (n1 := 4) (n2 := 64) (n3 := 128) (chunk false t.val (y 0)) (y 1) (y 2) (y 3)) ?_
  blk_ext [x t, chunk, Bool.cond_false]

theorem arr23 (c : Dev nD) : (dats m 0 c).arrAt 23 cfg0.N = whole4 (argsOf m c) Spec.dkd true := by
  refine (dats m 0 c).arrAt_eq_of_covers 23 _ (by decide +kernel) fun t hf y => ?_
  have x : ∀ t : Fin cfg0.N, win0_23.index t = ![t.val, 0, 0, 0] := by decide +kernel
  have ht : t.val < 16 := Nat.lt_of_lt_of_eq t.isLt N_0
  blk_simp
  rw [after_23]
  refine congrArg (whole4 (argsOf m c) Spec.dkd true) (a₁ := ix4 (n0 := 128) (n1 := 4) (n2 := 64) (n3 := 128) (chunk true t.val (y 0)) (y 1) (y 2) (y 3)) ?_
  blk_ext [x t, chunk, Bool.cond_true]

theorem arr24 (c : Dev nD) : (dats m 0 c).arrAt 24 cfg0.N = whole3 (argsOf m c) Spec.dgl false := by
  refine (dats m 0 c).arrAt_eq_of_covers 24 _ (by decide +kernel) fun t hf y => ?_
  have x : ∀ t : Fin cfg0.N, win0_24.index t = ![15 - t.val, 0, 0] := by decide +kernel
  have ht : t.val < 16 := Nat.lt_of_lt_of_eq t.isLt N_0
  blk_simp
  rw [after_24]
  refine congrArg (whole3 (argsOf m c) Spec.dgl false) (a₁ := ix3 (n0 := 128) (n1 := 4) (n2 := 128) (chunk false t.val (y 0)) (y 1) (y 2)) ?_
  blk_ext [x t, chunk, Bool.cond_false]

theorem arr25 (c : Dev nD) : (dats m 0 c).arrAt 25 cfg0.N = whole3 (argsOf m c) Spec.dgl true := by
  refine (dats m 0 c).arrAt_eq_of_covers 25 _ (by decide +kernel) fun t hf y => ?_
  have x : ∀ t : Fin cfg0.N, win0_25.index t = ![t.val, 0, 0] := by decide +kernel
  have ht : t.val < 16 := Nat.lt_of_lt_of_eq t.isLt N_0
  blk_simp
  rw [after_25]
  refine congrArg (whole3 (argsOf m c) Spec.dgl true) (a₁ := ix3 (n0 := 128) (n1 := 4) (n2 := 128) (chunk true t.val (y 0)) (y 1) (y 2)) ?_
  blk_ext [x t, chunk, Bool.cond_true]

/-- The kernel's results are the specification's gradients, every argument is unchanged, and every semaphore is back at zero. -/
theorem run_values : θ_run (defs (F := Ideal)) (onTc (τ := τ) (main (F := Ideal))) ⟨m, fun _ => 0, ρ⟩ fun r => ∀ c : Dev nD,
      r.2.mem ((c.tc : Thread nD τ).loc main_v15_0) = whole4 (argsOf m c) Spec.dvn false
      ∧ r.2.mem ((c.tc : Thread nD τ).loc main_v15_1) = whole4 (argsOf m c) Spec.dvn true
      ∧ r.2.mem ((c.tc : Thread nD τ).loc main_v15_2) = whole4 (argsOf m c) Spec.dw false
      ∧ r.2.mem ((c.tc : Thread nD τ).loc main_v15_3) = whole4 (argsOf m c) Spec.dw true
      ∧ r.2.mem ((c.tc : Thread nD τ).loc main_v15_4) = whole4 (argsOf m c) (fun T _ => Spec.dqg T) false
      ∧ r.2.mem ((c.tc : Thread nD τ).loc main_v15_5) = whole4 (argsOf m c) (fun T _ => Spec.dqg T) true
      ∧ r.2.mem ((c.tc : Thread nD τ).loc main_v15_6) = whole4 (argsOf m c) Spec.dkd false
      ∧ r.2.mem ((c.tc : Thread nD τ).loc main_v15_7) = whole4 (argsOf m c) Spec.dkd true
      ∧ r.2.mem ((c.tc : Thread nD τ).loc main_v15_8) = whole3 (argsOf m c) Spec.dgl false
      ∧ r.2.mem ((c.tc : Thread nD τ).loc main_v15_9) = whole3 (argsOf m c) Spec.dgl true
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun r h c => ?_) (run_main m ρ)
  refine ⟨((h c).1 16).trans (arr16 m c), ((h c).1 17).trans (arr17 m c), ((h c).1 18).trans (arr18 m c), ((h c).1 19).trans (arr19 m c), ((h c).1 20).trans (arr20 m c), ((h c).1 21).trans (arr21 m c), ((h c).1 22).trans (arr22 m c), ((h c).1 23).trans (arr23 m c), ((h c).1 24).trans (arr24 m c), ((h c).1 25).trans (arr25 m c), ((h c).1 1).trans (((dats m 0 c).arrAt_in 1 rfl _).trans ((A_eq m c 1).trans (V_main_arg0 m c))), ?_, ?_, ?_, ?_, ?_, ?_, ?_⟩
  · exact ((h c).2 main_arg1 (Pipeline.mem_restRefs_of main_arg1 (by decide) (by decide))).trans (V_main_arg1 m c)
  · exact ((h c).2 main_arg2 (Pipeline.mem_restRefs_of main_arg2 (by decide) (by decide))).trans (V_main_arg2 m c)
  · exact ((h c).2 main_arg3 (Pipeline.mem_restRefs_of main_arg3 (by decide) (by decide))).trans (V_main_arg3 m c)
  · exact ((h c).2 main_arg4 (Pipeline.mem_restRefs_of main_arg4 (by decide) (by decide))).trans (V_main_arg4 m c)
  · exact ((h c).2 main_arg5 (Pipeline.mem_restRefs_of main_arg5 (by decide) (by decide))).trans (V_main_arg5 m c)
  · exact ((h c).2 main_arg6 (Pipeline.mem_restRefs_of main_arg6 (by decide) (by decide))).trans (V_main_arg6 m c)
  · exact ((h c).2 main_arg7 (Pipeline.mem_restRefs_of main_arg7 (by decide) (by decide))).trans (V_main_arg7 m c)

end Cert.Proof.Arrays

end
-- ==== Proof.RefRun.lean ====
/-
  The run of the reference read as its step function iterated.  A trip's valuation HOLDS a state when the carried buffers are the
  state's fields and the counter is the trip's number.  Every value of one trip is the corresponding value of the step function, so
  one trip keeps holding; the results are then fields of the state after 128 trips.
-/
module

public import proofs.«01_k».proof.Proof.Gen.ReferenceIdeal.Run
public import proofs.«01_k».proof.Proof.Gen.ReferenceIdeal.Step

@[expose] public section

noncomputable section

namespace Cert.Proof.RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_9 : V0 (Proc.devRef .tc main_v42_9) = s.main_v42_9
  f_10 : V0 (Proc.devRef .tc main_v42_10) = s.main_v42_10
  f_11 : V0 (Proc.devRef .tc main_v42_11) = s.main_v42_11
  f_12 : V0 (Proc.devRef .tc main_v42_12) = s.main_v42_12
  f_13 : V0 (Proc.devRef .tc main_v42_13) = s.main_v42_13
  f_14 : V0 (Proc.devRef .tc main_v42_14) = s.main_v42_14
  f_15 : V0 (Proc.devRef .tc main_v42_15) = s.main_v42_15
  f_0 : V0 (Proc.devRef .tc main_v42_0) = s.main_v42_0
  f_1 : V0 (Proc.devRef .tc main_v42_1) = s.main_v42_1
  f_2 : V0 (Proc.devRef .tc main_v42_2) = s.main_v42_2
  f_3 : V0 (Proc.devRef .tc main_v42_3) = s.main_v42_3
  f_4 : V0 (Proc.devRef .tc main_v42_4) = s.main_v42_4
  f_5 : V0 (Proc.devRef .tc main_v42_5) = s.main_v42_5
  f_6 : V0 (Proc.devRef .tc main_v42_6) = s.main_v42_6
  f_7 : V0 (Proc.devRef .tc main_v42_7) = s.main_v42_7
  n_8 : V0 (Proc.devRef .tc main_v42_8) = constantI S_ 32 (BitVec.ofNat 32 j)

variable {V0 s j}

set_option maxRecDepth 8192 in
theorem al_0 (h : Holds V0 s j) : (constantI S_ 32 128#32 : (Proc.devRef .tc main_while0b_c_21 : DevRef τ sig).ty.Contents (Elt F)) = Cert.ReferenceIdeal.Step.b0 j s := by
  unfold Cert.ReferenceIdeal.Step.b0
  rfl
set_option maxRecDepth 8192 in
theorem al_1 (h : Holds V0 s j) : (subi (constantI S_ 32 128#32) (V0 (Proc.devRef .tc main_v42_8)) : (Proc.devRef .tc main_while0b_v81 : DevRef τ sig).ty.Contents (Elt F)) = Cert.ReferenceIdeal.Step.b1 j s := by
  unfold Cert.ReferenceIdeal.Step.b1
  rw [← al_0 h, h.n_8]
  try rfl
set_option maxRecDepth 8192 in
theorem al_2 (h : Holds V0 s j) : (constantI S_ 32 1#32 : (Proc.devRef .tc main_while0b_c_22 : DevRef τ sig).ty.Contents (Elt F)) = Cert.ReferenceIdeal.Step.b2 j s := by
  unfold Cert.ReferenceIdeal.Step.b2
  rfl
set_option maxRecDepth 8192 in
theorem al_3 (h : Holds V0 s j) : (res_main_while0b_v82 V0 : (Proc.devRef .tc main_while0b_v82 : DevRef τ sig).ty.Contents (Elt F)) = Cert.ReferenceIdeal.Step.b3 j s := by
  unfold res_main_while0b_v82 Cert.ReferenceIdeal.Step.b3
  rw [← al_1 h, ← al_2 h]
  try rfl
set_option maxRecDepth 8192 in
theorem al_4 (h : Holds V0 s j) : (constantI S_ 32 0#32 : (Proc.devRef .tc main_while0b_call8_c : DevRef τ sig).ty.Contents (Elt F)) = Cert.ReferenceIdeal.Step.b4 j s := by
  unfold Cert.ReferenceIdeal.Step.b4
  rfl
set_option maxRecDepth 8192 in
theorem al_5 (h : Holds V0 s j) : (constantI S_ 32 0#32 : (Proc.devRef .tc main_while0b_call8_c_0 : DevRef τ sig).ty.Contents (Elt F)) = Cert.ReferenceIdeal.Step.b5 j s := by
  unfold Cert.ReferenceIdeal.Step.b5
  rfl
set_option maxRecDepth 8192 in
theorem al_6 (h : Holds V0 s j) : (constantI S_ 32 0#32 : (Proc.devRef .tc main_while0b_call8_c_1 : DevRef τ sig).ty.Contents (Elt F)) = Cert.ReferenceIdeal.Step.b6 j s := by
  unfold Cert.ReferenceIdeal.Step.b6
  rfl
set_option maxRecDepth 8192 in
theorem al_7 (h : Holds V0 s j) : (Host.dynamicSlice S1x8x128x128 (V0 (Proc.devRef .tc main_v42_0)) (fun k => (((![res_main_while0b_v82 V0, constantI S_ 32 0#32, constantI S_ 32 0#32, constantI S_ 32 0#32] : Fin 4 → (⟨S_, .i32⟩ : BufTy).Contents (Elt F))) k (Shape.Idx.first h_S_)).toInt) sliceFits_S128x8x128x128_S1x8x128x128 : (Proc.devRef .tc main_while0b_call8_v0 : DevRef τ sig).ty.Contents (Elt F)) = Cert.ReferenceIdeal.Step.b7 j s := by
  unfold Cert.ReferenceIdeal.Step.b7
  rw [← al_3 h, ← al_4 h, ← al_5 h, ← al_6 h, h.f_0]
  try rfl
set_option maxRecDepth 8192 in
theorem al_8 (h : Holds V0 s j) : (res_main_while0b_v83 V0 : (Proc.devRef .tc main_while0b_v83 : DevRef τ sig).ty.Contents (Elt F)) = Cert.ReferenceIdeal.Step.b8 j s := by
  unfold res_main_while0b_v83 Cert.ReferenceIdeal.Step.b8
  rw [← al_7 h]
  try rfl
set_option maxRecDepth 8192 in
theorem al_9 (h : Holds V0 s j) : (constantI S_ 32 0#32 : (Proc.devRef .tc main_while0b_call9_c : DevRef τ sig).ty.Contents (Elt F)) = Cert.ReferenceIdeal.Step.b9 j s := by
  unfold Cert.ReferenceIdeal.Step.b9
  rfl
set_option maxRecDepth 8192 in
theorem al_10 (h : Holds V0 s j) : (constantI S_ 32 0#32 : (Proc.devRef .tc main_while0b_call9_c_0 : DevRef τ sig).ty.Contents (Elt F)) = Cert.ReferenceIdeal.Step.b10 j s := by
  unfold Cert.ReferenceIdeal.Step.b10
  rfl
set_option maxRecDepth 8192 in
theorem al_11 (h : Holds V0 s j) : (constantI S_ 32 0#32 : (Proc.devRef .tc main_while0b_call9_c_1 : DevRef τ sig).ty.Contents (Elt F)) = Cert.ReferenceIdeal.Step.b11 j s := by
  unfold Cert.ReferenceIdeal.Step.b11
  rfl
set_option maxRecDepth 8192 in
theorem al_12 (h : Holds V0 s j) : (Host.dynamicSlice S1x8x64x128 (V0 (Proc.devRef .tc main_v42_1)) (fun k => (((![res_main_while0b_v82 V0, constantI S_ 32 0#32, constantI S_ 32 0#32, constantI S_ 32 0#32] : Fin 4 → (⟨S_, .i32⟩ : BufTy).Contents (Elt F))) k (Shape.Idx.first h_S_)).toInt) sliceFits_S128x8x64x128_S1x8x64x128 : (Proc.devRef .tc main_while0b_call9_v0 : DevRef τ sig).ty.Contents (Elt F)) = Cert.ReferenceIdeal.Step.b12 j s := by
  unfold Cert.ReferenceIdeal.Step.b12
  rw [← al_3 h, ← al_9 h, ← al_10 h, ← al_11 h, h.f_1]
  try rfl
set_option maxRecDepth 8192 in
theorem al_13 (h : Holds V0 s j) : (res_main_while0b_v84 V0 : (Proc.devRef .tc main_while0b_v84 : DevRef τ sig).ty.Contents (Elt F)) = Cert.ReferenceIdeal.Step.b13 j s := by
  unfold res_main_while0b_v84 Cert.ReferenceIdeal.Step.b13
  rw [← al_12 h]
  try rfl
set_option maxRecDepth 8192 in
theorem al_14 (h : Holds V0 s j) : (constantI S_ 32 0#32 : (Proc.devRef .tc main_while0b_call10_c : DevRef τ sig).ty.Contents (Elt F)) = Cert.ReferenceIdeal.Step.b14 j s := by
  unfold Cert.ReferenceIdeal.Step.b14
  rfl
set_option maxRecDepth 8192 in
theorem al_15 (h : Holds V0 s j) : (constantI S_ 32 0#32 : (Proc.devRef .tc main_while0b_call10_c_0 : DevRef τ sig).ty.Contents (Elt F)) = Cert.ReferenceIdeal.Step.b15 j s := by
  unfold Cert.ReferenceIdeal.Step.b15
  rfl
set_option maxRecDepth 8192 in
theorem al_16 (h : Holds V0 s j) : (constantI S_ 32 0#32 : (Proc.devRef .tc main_while0b_call10_c_1 : DevRef τ sig).ty.Contents (Elt F)) = Cert.ReferenceIdeal.Step.b16 j s := by
  unfold Cert.ReferenceIdeal.Step.b16
  rfl
set_option maxRecDepth 8192 in
theorem al_17 (h : Holds V0 s j) : (Host.dynamicSlice S1x8x64x128 (V0 (Proc.devRef .tc main_v42_2)) (fun k => (((![res_main_while0b_v82 V0, constantI S_ 32 0#32, constantI S_ 32 0#32, constantI S_ 32 0#32] : Fin 4 → (⟨S_, .i32⟩ : BufTy).Contents (Elt F))) k (Shape.Idx.first h_S_)).toInt) sliceFits_S128x8x64x128_S1x8x64x128 : (Proc.devRef .tc main_while0b_call10_v0 : DevRef τ sig).ty.Contents (Elt F)) = Cert.ReferenceIdeal.Step.b17 j s := by
  unfold Cert.ReferenceIdeal.Step.b17
  rw [← al_3 h, ← al_14 h, ← al_15 h, ← al_16 h, h.f_2]
  try rfl
set_option maxRecDepth 8192 in
theorem al_18 (h : Holds V0 s j) : (shapeCast S8x64x128 (Host.dynamicSlice S1x8x64x128 (V0 (Proc.devRef .tc main_v42_2)) (fun k => (((![res_main_while0b_v82 V0, constantI S_ 32 0#32, constantI S_ 32 0#32, constantI S_ 32 0#32] : Fin 4 → (⟨S_, .i32⟩ : BufTy).Contents (Elt F))) k (Shape.Idx.first h_S_)).toInt) sliceFits_S128x8x64x128_S1x8x64x128) shapeCasts_S1x8x64x128_S8x64x128 : (Proc.devRef .tc main_while0b_v85 : DevRef τ sig).ty.Contents (Elt F)) = Cert.ReferenceIdeal.Step.b18 j s := by
  unfold Cert.ReferenceIdeal.Step.b18
  rw [← al_17 h]
  try rfl
set_option maxRecDepth 8192 in
theorem al_19 (h : Holds V0 s j) : (constantI S_ 32 0#32 : (Proc.devRef .tc main_while0b_call11_c : DevRef τ sig).ty.Contents (Elt F)) = Cert.ReferenceIdeal.Step.b19 j s := by
  unfold Cert.ReferenceIdeal.Step.b19
  rfl
set_option maxRecDepth 8192 in
theorem al_20 (h : Holds V0 s j) : (constantI S_ 32 0#32 : (Proc.devRef .tc main_while0b_call11_c_0 : DevRef τ sig).ty.Contents (Elt F)) = Cert.ReferenceIdeal.Step.b20 j s := by
  unfold Cert.ReferenceIdeal.Step.b20
  rfl
set_option maxRecDepth 8192 in
theorem al_21 (h : Holds V0 s j) : (constantI S_ 32 0#32 : (Proc.devRef .tc main_while0b_call11_c_1 : DevRef τ sig).ty.Contents (Elt F)) = Cert.ReferenceIdeal.Step.b21 j s := by
  unfold Cert.ReferenceIdeal.Step.b21
  rfl
set_option maxRecDepth 8192 in
theorem al_22 (h : Holds V0 s j) : (Host.dynamicSlice S1x8x64x128 (V0 (Proc.devRef .tc main_v42_3)) (fun k => (((![res_main_while0b_v82 V0, constantI S_ 32 0#32, constantI S_ 32 0#32, constantI S_ 32 0#32] : Fin 4 → (⟨S_, .i32⟩ : BufTy).Contents (Elt F))) k (Shape.Idx.first h_S_)).toInt) sliceFits_S128x8x64x128_S1x8x64x128 : (Proc.devRef .tc main_while0b_call11_v0 : DevRef τ sig).ty.Contents (Elt F)) = Cert.ReferenceIdeal.Step.b22 j s := by
  unfold Cert.ReferenceIdeal.Step.b22
  rw [← al_3 h, ← al_19 h, ← al_20 h, ← al_21 h, h.f_3]
  try rfl
set_option maxRecDepth 8192 in
theorem al_23 (h : Holds V0 s j) : (res_main_while0b_v86 V0 : (Proc.devRef .tc main_while0b_v86 : DevRef τ sig).ty.Contents (Elt F)) = Cert.ReferenceIdeal.Step.b23 j s := by
  unfold res_main_while0b_v86 Cert.ReferenceIdeal.Step.b23
  rw [← al_22 h]
  try rfl
set_option maxRecDepth 8192 in
theorem al_24 (h : Holds V0 s j) : (constantI S_ 32 0#32 : (Proc.devRef .tc main_while0b_call12_c : DevRef τ sig).ty.Contents (Elt F)) = Cert.ReferenceIdeal.Step.b24 j s := by
  unfold Cert.ReferenceIdeal.Step.b24
  rfl
set_option maxRecDepth 8192 in
theorem al_25 (h : Holds V0 s j) : (constantI S_ 32 0#32 : (Proc.devRef .tc main_while0b_call12_c_0 : DevRef τ sig).ty.Contents (Elt F)) = Cert.ReferenceIdeal.Step.b25 j s := by
  unfold Cert.ReferenceIdeal.Step.b25
  rfl
set_option maxRecDepth 8192 in
theorem al_26 (h : Holds V0 s j) : (constantI S_ 32 0#32 : (Proc.devRef .tc main_while0b_call12_c_1 : DevRef τ sig).ty.Contents (Elt F)) = Cert.ReferenceIdeal.Step.b26 j s := by
  unfold Cert.ReferenceIdeal.Step.b26
  rfl
set_option maxRecDepth 8192 in
theorem al_27 (h : Holds V0 s j) : (Host.dynamicSlice S1x8x64x128 (V0 (Proc.devRef .tc main_v42_4)) (fun k => (((![res_main_while0b_v82 V0, constantI S_ 32 0#32, constantI S_ 32 0#32, constantI S_ 32 0#32] : Fin 4 → (⟨S_, .i32⟩ : BufTy).Contents (Elt F))) k (Shape.Idx.first h_S_)).toInt) sliceFits_S128x8x64x128_S1x8x64x128 : (Proc.devRef .tc main_while0b_call12_v0 : DevRef τ sig).ty.Contents (Elt F)) = Cert.ReferenceIdeal.Step.b27 j s := by
  unfold Cert.ReferenceIdeal.Step.b27
  rw [← al_3 h, ← al_24 h, ← al_25 h, ← al_26 h, h.f_4]
  try rfl
set_option maxRecDepth 8192 in
theorem al_28 (h : Holds V0 s j) : (res_main_while0b_v87 V0 : (Proc.devRef .tc main_while0b_v87 : DevRef τ sig).ty.Contents (Elt F)) = Cert.ReferenceIdeal.Step.b28 j s := by
  unfold res_main_while0b_v87 Cert.ReferenceIdeal.Step.b28
  rw [← al_27 h]
  try rfl
set_option maxRecDepth 8192 in
theorem al_29 (h : Holds V0 s j) : (constantI S_ 32 0#32 : (Proc.devRef .tc main_while0b_call13_c : DevRef τ sig).ty.Contents (Elt F)) = Cert.ReferenceIdeal.Step.b29 j s := by
  unfold Cert.ReferenceIdeal.Step.b29
  rfl
set_option maxRecDepth 8192 in
theorem al_30 (h : Holds V0 s j) : (constantI S_ 32 0#32 : (Proc.devRef .tc main_while0b_call13_c_0 : DevRef τ sig).ty.Contents (Elt F)) = Cert.ReferenceIdeal.Step.b30 j s := by
  unfold Cert.ReferenceIdeal.Step.b30
  rfl
set_option maxRecDepth 8192 in
theorem al_31 (h : Holds V0 s j) : (constantI S_ 32 0#32 : (Proc.devRef .tc main_while0b_call13_c_1 : DevRef τ sig).ty.Contents (Elt F)) = Cert.ReferenceIdeal.Step.b31 j s := by
  unfold Cert.ReferenceIdeal.Step.b31
  rfl
set_option maxRecDepth 8192 in
theorem al_32 (h : Holds V0 s j) : (Host.dynamicSlice S1x8x64x64 (V0 (Proc.devRef .tc main_v42_5)) (fun k => (((![res_main_while0b_v82 V0, constantI S_ 32 0#32, constantI S_ 32 0#32, constantI S_ 32 0#32] : Fin 4 → (⟨S_, .i32⟩ : BufTy).Contents (Elt F))) k (Shape.Idx.first h_S_)).toInt) sliceFits_S128x8x64x64_S1x8x64x64 : (Proc.devRef .tc main_while0b_call13_v0 : DevRef τ sig).ty.Contents (Elt F)) = Cert.ReferenceIdeal.Step.b32 j s := by
  unfold Cert.ReferenceIdeal.Step.b32
  rw [← al_3 h, ← al_29 h, ← al_30 h, ← al_31 h, h.f_5]
  try rfl
set_option maxRecDepth 8192 in
theorem al_33 (h : Holds V0 s j) : (res_main_while0b_v88 V0 : (Proc.devRef .tc main_while0b_v88 : DevRef τ sig).ty.Contents (Elt F)) = Cert.ReferenceIdeal.Step.b33 j s := by
  unfold res_main_while0b_v88 Cert.ReferenceIdeal.Step.b33
  rw [← al_32 h]
  try rfl
set_option maxRecDepth 8192 in
theorem al_34 (h : Holds V0 s j) : (constantI S_ 32 0#32 : (Proc.devRef .tc main_while0b_call14_c : DevRef τ sig).ty.Contents (Elt F)) = Cert.ReferenceIdeal.Step.b34 j s := by
  unfold Cert.ReferenceIdeal.Step.b34
  rfl
set_option maxRecDepth 8192 in
theorem al_35 (h : Holds V0 s j) : (constantI S_ 32 0#32 : (Proc.devRef .tc main_while0b_call14_c_0 : DevRef τ sig).ty.Contents (Elt F)) = Cert.ReferenceIdeal.Step.b35 j s := by
  unfold Cert.ReferenceIdeal.Step.b35
  rfl
set_option maxRecDepth 8192 in
theorem al_36 (h : Holds V0 s j) : (constantI S_ 32 0#32 : (Proc.devRef .tc main_while0b_call14_c_1 : DevRef τ sig).ty.Contents (Elt F)) = Cert.ReferenceIdeal.Step.b36 j s := by
  unfold Cert.ReferenceIdeal.Step.b36
  rfl
set_option maxRecDepth 8192 in
theorem al_37 (h : Holds V0 s j) : (Host.dynamicSlice S1x8x64x128 (V0 (Proc.devRef .tc main_v42_6)) (fun k => (((![res_main_while0b_v82 V0, constantI S_ 32 0#32, constantI S_ 32 0#32, constantI S_ 32 0#32] : Fin 4 → (⟨S_, .i32⟩ : BufTy).Contents (Elt F))) k (Shape.Idx.first h_S_)).toInt) sliceFits_S128x8x64x128_S1x8x64x128 : (Proc.devRef .tc main_while0b_call14_v0 : DevRef τ sig).ty.Contents (Elt F)) = Cert.ReferenceIdeal.Step.b37 j s := by
  unfold Cert.ReferenceIdeal.Step.b37
  rw [← al_3 h, ← al_34 h, ← al_35 h, ← al_36 h, h.f_6]
  try rfl
set_option maxRecDepth 8192 in
theorem al_38 (h : Holds V0 s j) : (shapeCast S8x64x128 (Host.dynamicSlice S1x8x64x128 (V0 (Proc.devRef .tc main_v42_6)) (fun k => (((![res_main_while0b_v82 V0, constantI S_ 32 0#32, constantI S_ 32 0#32, constantI S_ 32 0#32] : Fin 4 → (⟨S_, .i32⟩ : BufTy).Contents (Elt F))) k (Shape.Idx.first h_S_)).toInt) sliceFits_S128x8x64x128_S1x8x64x128) shapeCasts_S1x8x64x128_S8x64x128 : (Proc.devRef .tc main_while0b_v89 : DevRef τ sig).ty.Contents (Elt F)) = Cert.ReferenceIdeal.Step.b38 j s := by
  unfold Cert.ReferenceIdeal.Step.b38
  rw [← al_37 h]
  try rfl
set_option maxRecDepth 8192 in
theorem al_39 (h : Holds V0 s j) : (constantI S_ 32 0#32 : (Proc.devRef .tc main_while0b_call15_c : DevRef τ sig).ty.Contents (Elt F)) = Cert.ReferenceIdeal.Step.b39 j s := by
  unfold Cert.ReferenceIdeal.Step.b39
  rfl
set_option maxRecDepth 8192 in
theorem al_40 (h : Holds V0 s j) : (Host.dynamicSlice S1x8 (V0 (Proc.devRef .tc main_v42_7)) (fun k => (((![res_main_while0b_v82 V0, constantI S_ 32 0#32] : Fin 2 → (⟨S_, .i32⟩ : BufTy).Contents (Elt F))) k (Shape.Idx.first h_S_)).toInt) sliceFits_S128x8_S1x8 : (Proc.devRef .tc main_while0b_call15_v0 : DevRef τ sig).ty.Contents (Elt F)) = Cert.ReferenceIdeal.Step.b40 j s := by
  unfold Cert.ReferenceIdeal.Step.b40
  rw [← al_3 h, ← al_39 h, h.f_7]
  try rfl
set_option maxRecDepth 8192 in
theorem al_41 (h : Holds V0 s j) : (shapeCast S8 (Host.dynamicSlice S1x8 (V0 (Proc.devRef .tc main_v42_7)) (fun k => (((![res_main_while0b_v82 V0, constantI S_ 32 0#32] : Fin 2 → (⟨S_, .i32⟩ : BufTy).Contents (Elt F))) k (Shape.Idx.first h_S_)).toInt) sliceFits_S128x8_S1x8) shapeCasts_S1x8_S8 : (Proc.devRef .tc main_while0b_v90 : DevRef τ sig).ty.Contents (Elt F)) = Cert.ReferenceIdeal.Step.b41 j s := by
  unfold Cert.ReferenceIdeal.Step.b41
  rw [← al_40 h]
  try rfl
set_option maxRecDepth 8192 in
theorem al_42 (h : Holds V0 s j) : (Host.dotGeneral dot_S8x64x128_S8x128x128_S8x64x128_2_1_1_2_0_0 none (res_main_while0b_v86 V0) (res_main_while0b_v83 V0) : (Proc.devRef .tc main_while0b_v91 : DevRef τ sig).ty.Contents (Elt F)) = Cert.ReferenceIdeal.Step.b42 j s := by
  unfold Cert.ReferenceIdeal.Step.b42
  rw [← al_23 h, ← al_8 h]
  try rfl
set_option maxRecDepth 8192 in
theorem al_43 (h : Holds V0 s j) : (res_main_while0b_v92 V0 : (Proc.devRef .tc main_while0b_v92 : DevRef τ sig).ty.Contents (Elt F)) = Cert.ReferenceIdeal.Step.b43 j s := by
  unfold res_main_while0b_v92 Cert.ReferenceIdeal.Step.b43
  rw [← al_18 h, ← al_42 h]
  try rfl
set_option maxRecDepth 8192 in
theorem al_44 (h : Holds V0 s j) : (Host.dotGeneral dot_S8x64x128_S8x128x128_S8x64x128_2_1_1_2_0_0 none (res_main_while0b_v87 V0) (res_main_while0b_v83 V0) : (Proc.devRef .tc main_while0b_v93 : DevRef τ sig).ty.Contents (Elt F)) = Cert.ReferenceIdeal.Step.b44 j s := by
  unfold Cert.ReferenceIdeal.Step.b44
  rw [← al_28 h, ← al_8 h]
  try rfl
set_option maxRecDepth 8192 in
theorem al_45 (h : Holds V0 s j) : (Host.dotGeneral dot_S8x64x64_S8x64x128_S8x64x128_2_1_1_2_0_0 none (res_main_while0b_v88 V0) (res_main_while0b_v92 V0) : (Proc.devRef .tc main_while0b_v94 : DevRef τ sig).ty.Contents (Elt F)) = Cert.ReferenceIdeal.Step.b45 j s := by
  unfold Cert.ReferenceIdeal.Step.b45
  rw [← al_33 h, ← al_43 h]
  try rfl
set_option maxRecDepth 8192 in
theorem al_46 (h : Holds V0 s j) : (addf (Host.dotGeneral dot_S8x64x128_S8x128x128_S8x64x128_2_1_1_2_0_0 none (res_main_while0b_v87 V0) (res_main_while0b_v83 V0)) (Host.dotGeneral dot_S8x64x64_S8x64x128_S8x64x128_2_1_1_2_0_0 none (res_main_while0b_v88 V0) (res_main_while0b_v92 V0)) : (Proc.devRef .tc main_while0b_v95 : DevRef τ sig).ty.Contents (Elt F)) = Cert.ReferenceIdeal.Step.b46 j s := by
  unfold Cert.ReferenceIdeal.Step.b46
  rw [← al_44 h, ← al_45 h]
  try rfl
set_option maxRecDepth 8192 in
theorem al_47 (h : Holds V0 s j) : (res_main_while0b_v96 V0 : (Proc.devRef .tc main_while0b_v96 : DevRef τ sig).ty.Contents (Elt F)) = Cert.ReferenceIdeal.Step.b47 j s := by
  unfold res_main_while0b_v96 Cert.ReferenceIdeal.Step.b47
  rw [← al_41 h]
  try rfl
set_option maxRecDepth 8192 in
theorem al_48 (h : Holds V0 s j) : (res_main_while0b_v97 V0 : (Proc.devRef .tc main_while0b_v97 : DevRef τ sig).ty.Contents (Elt F)) = Cert.ReferenceIdeal.Step.b48 j s := by
  unfold res_main_while0b_v97 Cert.ReferenceIdeal.Step.b48
  rw [← al_47 h]
  try rfl
set_option maxRecDepth 8192 in
theorem al_49 (h : Holds V0 s j) : (broadcastInDim S8x128x128 ![0, 1, 2] bcast_S8x1x1_S8x128x128_0_1_2 (res_main_while0b_v97 V0) : (Proc.devRef .tc main_while0b_v98 : DevRef τ sig).ty.Contents (Elt F)) = Cert.ReferenceIdeal.Step.b49 j s := by
  unfold Cert.ReferenceIdeal.Step.b49
  rw [← al_48 h]
  try rfl
set_option maxRecDepth 8192 in
theorem al_50 (h : Holds V0 s j) : (mulf (res_main_while0b_v83 V0) (broadcastInDim S8x128x128 ![0, 1, 2] bcast_S8x1x1_S8x128x128_0_1_2 (res_main_while0b_v97 V0)) : (Proc.devRef .tc main_while0b_v99 : DevRef τ sig).ty.Contents (Elt F)) = Cert.ReferenceIdeal.Step.b50 j s := by
  unfold Cert.ReferenceIdeal.Step.b50
  rw [← al_8 h, ← al_49 h]
  try rfl
set_option maxRecDepth 8192 in
theorem al_51 (h : Holds V0 s j) : (res_main_while0b_v100 V0 : (Proc.devRef .tc main_while0b_v100 : DevRef τ sig).ty.Contents (Elt F)) = Cert.ReferenceIdeal.Step.b51 j s := by
  unfold res_main_while0b_v100 Cert.ReferenceIdeal.Step.b51
  rw [← al_38 h]
  try rfl
set_option maxRecDepth 8192 in
theorem al_52 (h : Holds V0 s j) : (Host.dotGeneral dot_S8x128x64_S8x64x128_S8x128x128_2_1_1_2_0_0 none (res_main_while0b_v100 V0) (res_main_while0b_v92 V0) : (Proc.devRef .tc main_while0b_v101 : DevRef τ sig).ty.Contents (Elt F)) = Cert.ReferenceIdeal.Step.b52 j s := by
  unfold Cert.ReferenceIdeal.Step.b52
  rw [← al_51 h, ← al_43 h]
  try rfl
set_option maxRecDepth 8192 in
theorem al_53 (h : Holds V0 s j) : (addf (mulf (res_main_while0b_v83 V0) (broadcastInDim S8x128x128 ![0, 1, 2] bcast_S8x1x1_S8x128x128_0_1_2 (res_main_while0b_v97 V0))) (Host.dotGeneral dot_S8x128x64_S8x64x128_S8x128x128_2_1_1_2_0_0 none (res_main_while0b_v100 V0) (res_main_while0b_v92 V0)) : (Proc.devRef .tc main_while0b_v102 : DevRef τ sig).ty.Contents (Elt F)) = Cert.ReferenceIdeal.Step.b53 j s := by
  unfold Cert.ReferenceIdeal.Step.b53
  rw [← al_50 h, ← al_52 h]
  try rfl
set_option maxRecDepth 8192 in
theorem al_54 (h : Holds V0 s j) : (Host.dotGeneral dot_S8x128x128_S8x128x64_S8x128x64_1_1_2_2_0_0 none (V0 (Proc.devRef .tc main_v42_9)) (res_main_while0b_v100 V0) : (Proc.devRef .tc main_while0b_v103 : DevRef τ sig).ty.Contents (Elt F)) = Cert.ReferenceIdeal.Step.b54 j s := by
  unfold Cert.ReferenceIdeal.Step.b54
  rw [← al_51 h, h.f_9]
  try rfl
set_option maxRecDepth 8192 in
theorem al_55 (h : Holds V0 s j) : (transpose S8x64x128 [0, 2, 1] (Host.dotGeneral dot_S8x128x128_S8x128x64_S8x128x64_1_1_2_2_0_0 none (V0 (Proc.devRef .tc main_v42_9)) (res_main_while0b_v100 V0)) transposes_S8x128x64_S8x64x128_0_2_1 : (Proc.devRef .tc main_while0b_v104 : DevRef τ sig).ty.Contents (Elt F)) = Cert.ReferenceIdeal.Step.b55 j s := by
  unfold Cert.ReferenceIdeal.Step.b55
  rw [← al_54 h]
  try rfl
set_option maxRecDepth 8192 in
theorem al_56 (h : Holds V0 s j) : (Host.dotGeneral dot_S8x128x128_S8x64x128_S8x128x64_2_2_1_1_0_0 none (V0 (Proc.devRef .tc main_v42_9)) (res_main_while0b_v92 V0) : (Proc.devRef .tc main_while0b_v105 : DevRef τ sig).ty.Contents (Elt F)) = Cert.ReferenceIdeal.Step.b56 j s := by
  unfold Cert.ReferenceIdeal.Step.b56
  rw [← al_43 h, h.f_9]
  try rfl
set_option maxRecDepth 8192 in
theorem al_57 (h : Holds V0 s j) : (transpose S8x64x128 [0, 2, 1] (Host.dotGeneral dot_S8x128x128_S8x64x128_S8x128x64_2_2_1_1_0_0 none (V0 (Proc.devRef .tc main_v42_9)) (res_main_while0b_v92 V0)) transposes_S8x128x64_S8x64x128_0_2_1 : (Proc.devRef .tc main_while0b_v106 : DevRef τ sig).ty.Contents (Elt F)) = Cert.ReferenceIdeal.Step.b57 j s := by
  unfold Cert.ReferenceIdeal.Step.b57
  rw [← al_56 h]
  try rfl
set_option maxRecDepth 8192 in
theorem al_58 (h : Holds V0 s j) : (mulf (res_main_while0b_v83 V0) (V0 (Proc.devRef .tc main_v42_9)) : (Proc.devRef .tc main_while0b_v107 : DevRef τ sig).ty.Contents (Elt F)) = Cert.ReferenceIdeal.Step.b58 j s := by
  unfold Cert.ReferenceIdeal.Step.b58
  rw [← al_8 h, h.f_9]
  try rfl
set_option maxRecDepth 8192 in
theorem al_59 (h : Holds V0 s j) : (constant S_ .f32 0x00000000#32 : (Proc.devRef .tc main_while0b_cst_23 : DevRef τ sig).ty.Contents (Elt F)) = Cert.ReferenceIdeal.Step.b59 j s := by
  unfold Cert.ReferenceIdeal.Step.b59
  rfl
set_option maxRecDepth 8192 in
theorem al_60 (h : Holds V0 s j) : (Host.reduceAdd (mulf (res_main_while0b_v83 V0) (V0 (Proc.devRef .tc main_v42_9))) (constant S_ .f32 0x00000000#32) reducesTo_S8x128x128_S8_d1_2 h_S_ : (Proc.devRef .tc main_while0b_v108 : DevRef τ sig).ty.Contents (Elt F)) = Cert.ReferenceIdeal.Step.b60 j s := by
  unfold Cert.ReferenceIdeal.Step.b60
  rw [← al_58 h, ← al_59 h]
  try rfl
set_option maxRecDepth 8192 in
theorem al_61 (h : Holds V0 s j) : (shapeCast S8x1x1 (Host.reduceAdd (mulf (res_main_while0b_v83 V0) (V0 (Proc.devRef .tc main_v42_9))) (constant S_ .f32 0x00000000#32) reducesTo_S8x128x128_S8_d1_2 h_S_) shapeCasts_S8_S8x1x1 : (Proc.devRef .tc main_while0b_v109 : DevRef τ sig).ty.Contents (Elt F)) = Cert.ReferenceIdeal.Step.b61 j s := by
  unfold Cert.ReferenceIdeal.Step.b61
  rw [← al_60 h]
  try rfl
set_option maxRecDepth 8192 in
theorem al_62 (h : Holds V0 s j) : (broadcastInDim S8x128x128 ![0, 1, 2] bcast_S8x1x1_S8x128x128_0_1_2 (res_main_while0b_v97 V0) : (Proc.devRef .tc main_while0b_v110 : DevRef τ sig).ty.Contents (Elt F)) = Cert.ReferenceIdeal.Step.b62 j s := by
  unfold Cert.ReferenceIdeal.Step.b62
  rw [← al_48 h]
  try rfl
set_option maxRecDepth 8192 in
theorem al_63 (h : Holds V0 s j) : (mulf (V0 (Proc.devRef .tc main_v42_9)) (broadcastInDim S8x128x128 ![0, 1, 2] bcast_S8x1x1_S8x128x128_0_1_2 (res_main_while0b_v97 V0)) : (Proc.devRef .tc main_while0b_v111 : DevRef τ sig).ty.Contents (Elt F)) = Cert.ReferenceIdeal.Step.b63 j s := by
  unfold Cert.ReferenceIdeal.Step.b63
  rw [← al_62 h, h.f_9]
  try rfl
set_option maxRecDepth 8192 in
theorem al_64 (h : Holds V0 s j) : (constant S_ .f32 0x00000000#32 : (Proc.devRef .tc main_while0b_cst_24 : DevRef τ sig).ty.Contents (Elt F)) = Cert.ReferenceIdeal.Step.b64 j s := by
  unfold Cert.ReferenceIdeal.Step.b64
  rfl
set_option maxRecDepth 8192 in
theorem al_65 (h : Holds V0 s j) : (Host.reduceAdd (shapeCast S8x1x1 (Host.reduceAdd (mulf (res_main_while0b_v83 V0) (V0 (Proc.devRef .tc main_v42_9))) (constant S_ .f32 0x00000000#32) reducesTo_S8x128x128_S8_d1_2 h_S_) shapeCasts_S8_S8x1x1) (constant S_ .f32 0x00000000#32) reducesTo_S8x1x1_S8_d1_2 h_S_ : (Proc.devRef .tc main_while0b_v112 : DevRef τ sig).ty.Contents (Elt F)) = Cert.ReferenceIdeal.Step.b65 j s := by
  unfold Cert.ReferenceIdeal.Step.b65
  rw [← al_61 h, ← al_64 h]
  try rfl
set_option maxRecDepth 8192 in
theorem al_66 (h : Holds V0 s j) : (mulf (Host.reduceAdd (shapeCast S8x1x1 (Host.reduceAdd (mulf (res_main_while0b_v83 V0) (V0 (Proc.devRef .tc main_v42_9))) (constant S_ .f32 0x00000000#32) reducesTo_S8x128x128_S8_d1_2 h_S_) shapeCasts_S8_S8x1x1) (constant S_ .f32 0x00000000#32) reducesTo_S8x1x1_S8_d1_2 h_S_) (res_main_while0b_v96 V0) : (Proc.devRef .tc main_while0b_v113 : DevRef τ sig).ty.Contents (Elt F)) = Cert.ReferenceIdeal.Step.b66 j s := by
  unfold Cert.ReferenceIdeal.Step.b66
  rw [← al_65 h, ← al_47 h]
  try rfl
set_option maxRecDepth 8192 in
theorem al_67 (h : Holds V0 s j) : (Host.dotGeneral dot_S8x64x128_S8x64x64_S8x128x64_1_1_2_2_0_0 none (res_main_while0b_v84 V0) (res_main_while0b_v88 V0) : (Proc.devRef .tc main_while0b_v114 : DevRef τ sig).ty.Contents (Elt F)) = Cert.ReferenceIdeal.Step.b67 j s := by
  unfold Cert.ReferenceIdeal.Step.b67
  rw [← al_13 h, ← al_33 h]
  try rfl
set_option maxRecDepth 8192 in
theorem al_68 (h : Holds V0 s j) : (transpose S8x64x128 [0, 2, 1] (Host.dotGeneral dot_S8x64x128_S8x64x64_S8x128x64_1_1_2_2_0_0 none (res_main_while0b_v84 V0) (res_main_while0b_v88 V0)) transposes_S8x128x64_S8x64x128_0_2_1 : (Proc.devRef .tc main_while0b_v115 : DevRef τ sig).ty.Contents (Elt F)) = Cert.ReferenceIdeal.Step.b68 j s := by
  unfold Cert.ReferenceIdeal.Step.b68
  rw [← al_67 h]
  try rfl
set_option maxRecDepth 8192 in
theorem al_69 (h : Holds V0 s j) : (res_main_while0b_v116 V0 : (Proc.devRef .tc main_while0b_v116 : DevRef τ sig).ty.Contents (Elt F)) = Cert.ReferenceIdeal.Step.b69 j s := by
  unfold res_main_while0b_v116 Cert.ReferenceIdeal.Step.b69
  rw [← al_55 h, ← al_68 h]
  try rfl
set_option maxRecDepth 8192 in
theorem al_70 (h : Holds V0 s j) : (Host.dotGeneral dot_S8x64x128_S8x64x128_S8x64x64_2_2_1_1_0_0 none (res_main_while0b_v84 V0) (res_main_while0b_v92 V0) : (Proc.devRef .tc main_while0b_v117 : DevRef τ sig).ty.Contents (Elt F)) = Cert.ReferenceIdeal.Step.b70 j s := by
  unfold Cert.ReferenceIdeal.Step.b70
  rw [← al_13 h, ← al_43 h]
  try rfl
set_option maxRecDepth 8192 in
theorem al_71 (h : Holds V0 s j) : (Host.dotGeneral dot_S8x64x128_S8x64x128_S8x128x128_1_1_2_2_0_0 none (res_main_while0b_v84 V0) (res_main_while0b_v87 V0) : (Proc.devRef .tc main_while0b_v118 : DevRef τ sig).ty.Contents (Elt F)) = Cert.ReferenceIdeal.Step.b71 j s := by
  unfold Cert.ReferenceIdeal.Step.b71
  rw [← al_13 h, ← al_28 h]
  try rfl
set_option maxRecDepth 8192 in
theorem al_72 (h : Holds V0 s j) : (transpose S8x128x128 [0, 2, 1] (Host.dotGeneral dot_S8x64x128_S8x64x128_S8x128x128_1_1_2_2_0_0 none (res_main_while0b_v84 V0) (res_main_while0b_v87 V0)) transposes_S8x128x128_S8x128x128_0_2_1 : (Proc.devRef .tc main_while0b_v119 : DevRef τ sig).ty.Contents (Elt F)) = Cert.ReferenceIdeal.Step.b72 j s := by
  unfold Cert.ReferenceIdeal.Step.b72
  rw [← al_71 h]
  try rfl
set_option maxRecDepth 8192 in
theorem al_73 (h : Holds V0 s j) : (addf (mulf (V0 (Proc.devRef .tc main_v42_9)) (broadcastInDim S8x128x128 ![0, 1, 2] bcast_S8x1x1_S8x128x128_0_1_2 (res_main_while0b_v97 V0))) (transpose S8x128x128 [0, 2, 1] (Host.dotGeneral dot_S8x64x128_S8x64x128_S8x128x128_1_1_2_2_0_0 none (res_main_while0b_v84 V0) (res_main_while0b_v87 V0)) transposes_S8x128x128_S8x128x128_0_2_1) : (Proc.devRef .tc main_while0b_v120 : DevRef τ sig).ty.Contents (Elt F)) = Cert.ReferenceIdeal.Step.b73 j s := by
  unfold Cert.ReferenceIdeal.Step.b73
  rw [← al_63 h, ← al_72 h]
  try rfl
set_option maxRecDepth 8192 in
theorem al_74 (h : Holds V0 s j) : (Host.dotGeneral dot_S8x64x128_S8x128x128_S8x64x128_2_2_1_1_0_0 none (res_main_while0b_v84 V0) (res_main_while0b_v83 V0) : (Proc.devRef .tc main_while0b_v121 : DevRef τ sig).ty.Contents (Elt F)) = Cert.ReferenceIdeal.Step.b74 j s := by
  unfold Cert.ReferenceIdeal.Step.b74
  rw [← al_13 h, ← al_8 h]
  try rfl
set_option maxRecDepth 8192 in
theorem al_75 (h : Holds V0 s j) : (res_main_while0b_v122 V0 : (Proc.devRef .tc main_while0b_v122 : DevRef τ sig).ty.Contents (Elt F)) = Cert.ReferenceIdeal.Step.b75 j s := by
  unfold res_main_while0b_v122 Cert.ReferenceIdeal.Step.b75
  rw [← al_69 h]
  try rfl
set_option maxRecDepth 8192 in
theorem al_76 (h : Holds V0 s j) : (Host.dotGeneral dot_S8x64x128_S8x64x128_S8x128x128_1_1_2_2_0_0 none (res_main_while0b_v122 V0) (res_main_while0b_v86 V0) : (Proc.devRef .tc main_while0b_v123 : DevRef τ sig).ty.Contents (Elt F)) = Cert.ReferenceIdeal.Step.b76 j s := by
  unfold Cert.ReferenceIdeal.Step.b76
  rw [← al_75 h, ← al_23 h]
  try rfl
set_option maxRecDepth 8192 in
theorem al_77 (h : Holds V0 s j) : (transpose S8x128x128 [0, 2, 1] (Host.dotGeneral dot_S8x64x128_S8x64x128_S8x128x128_1_1_2_2_0_0 none (res_main_while0b_v122 V0) (res_main_while0b_v86 V0)) transposes_S8x128x128_S8x128x128_0_2_1 : (Proc.devRef .tc main_while0b_v124 : DevRef τ sig).ty.Contents (Elt F)) = Cert.ReferenceIdeal.Step.b77 j s := by
  unfold Cert.ReferenceIdeal.Step.b77
  rw [← al_76 h]
  try rfl
set_option maxRecDepth 8192 in
theorem al_78 (h : Holds V0 s j) : (addf (addf (mulf (V0 (Proc.devRef .tc main_v42_9)) (broadcastInDim S8x128x128 ![0, 1, 2] bcast_S8x1x1_S8x128x128_0_1_2 (res_main_while0b_v97 V0))) (transpose S8x128x128 [0, 2, 1] (Host.dotGeneral dot_S8x64x128_S8x64x128_S8x128x128_1_1_2_2_0_0 none (res_main_while0b_v84 V0) (res_main_while0b_v87 V0)) transposes_S8x128x128_S8x128x128_0_2_1)) (transpose S8x128x128 [0, 2, 1] (Host.dotGeneral dot_S8x64x128_S8x64x128_S8x128x128_1_1_2_2_0_0 none (res_main_while0b_v122 V0) (res_main_while0b_v86 V0)) transposes_S8x128x128_S8x128x128_0_2_1) : (Proc.devRef .tc main_while0b_v125 : DevRef τ sig).ty.Contents (Elt F)) = Cert.ReferenceIdeal.Step.b78 j s := by
  unfold Cert.ReferenceIdeal.Step.b78
  rw [← al_73 h, ← al_77 h]
  try rfl
set_option maxRecDepth 8192 in
theorem al_79 (h : Holds V0 s j) : (Host.dotGeneral dot_S8x64x128_S8x128x128_S8x64x128_2_2_1_1_0_0 none (res_main_while0b_v122 V0) (res_main_while0b_v83 V0) : (Proc.devRef .tc main_while0b_v126 : DevRef τ sig).ty.Contents (Elt F)) = Cert.ReferenceIdeal.Step.b79 j s := by
  unfold Cert.ReferenceIdeal.Step.b79
  rw [← al_75 h, ← al_8 h]
  try rfl
set_option maxRecDepth 8192 in
theorem al_80 (h : Holds V0 s j) : (broadcastInDim S1x8x64x128 ![1, 2, 3] bcast_S8x64x128_S1x8x64x128_1_2_3 (res_main_while0b_v116 V0) : (Proc.devRef .tc main_while0b_call16_v0 : DevRef τ sig).ty.Contents (Elt F)) = Cert.ReferenceIdeal.Step.b80 j s := by
  unfold Cert.ReferenceIdeal.Step.b80
  rw [← al_69 h]
  try rfl
set_option maxRecDepth 8192 in
theorem al_81 (h : Holds V0 s j) : (constantI S_ 32 0#32 : (Proc.devRef .tc main_while0b_call16_c : DevRef τ sig).ty.Contents (Elt F)) = Cert.ReferenceIdeal.Step.b81 j s := by
  unfold Cert.ReferenceIdeal.Step.b81
  rfl
set_option maxRecDepth 8192 in
theorem al_82 (h : Holds V0 s j) : (constantI S_ 32 0#32 : (Proc.devRef .tc main_while0b_call16_c_0 : DevRef τ sig).ty.Contents (Elt F)) = Cert.ReferenceIdeal.Step.b82 j s := by
  unfold Cert.ReferenceIdeal.Step.b82
  rfl
set_option maxRecDepth 8192 in
theorem al_83 (h : Holds V0 s j) : (constantI S_ 32 0#32 : (Proc.devRef .tc main_while0b_call16_c_1 : DevRef τ sig).ty.Contents (Elt F)) = Cert.ReferenceIdeal.Step.b83 j s := by
  unfold Cert.ReferenceIdeal.Step.b83
  rfl
set_option maxRecDepth 8192 in
theorem al_84 (h : Holds V0 s j) : (Host.dynamicUpdateSlice (V0 (Proc.devRef .tc main_v42_10)) (broadcastInDim S1x8x64x128 ![1, 2, 3] bcast_S8x64x128_S1x8x64x128_1_2_3 (res_main_while0b_v116 V0)) (fun k => (((![res_main_while0b_v82 V0, constantI S_ 32 0#32, constantI S_ 32 0#32, constantI S_ 32 0#32] : Fin 4 → (⟨S_, .i32⟩ : BufTy).Contents (Elt F))) k (Shape.Idx.first h_S_)).toInt) updateFits_S128x8x64x128_S1x8x64x128 : (Proc.devRef .tc main_while0b_v127 : DevRef τ sig).ty.Contents (Elt F)) = Cert.ReferenceIdeal.Step.b84 j s := by
  unfold Cert.ReferenceIdeal.Step.b84
  rw [← al_80 h, ← al_3 h, ← al_81 h, ← al_82 h, ← al_83 h, h.f_10]
  try rfl
set_option maxRecDepth 8192 in
theorem al_85 (h : Holds V0 s j) : (broadcastInDim S1x8x64x128 ![1, 2, 3] bcast_S8x64x128_S1x8x64x128_1_2_3 (Host.dotGeneral dot_S8x64x128_S8x128x128_S8x64x128_2_2_1_1_0_0 none (res_main_while0b_v122 V0) (res_main_while0b_v83 V0)) : (Proc.devRef .tc main_while0b_call17_v0 : DevRef τ sig).ty.Contents (Elt F)) = Cert.ReferenceIdeal.Step.b85 j s := by
  unfold Cert.ReferenceIdeal.Step.b85
  rw [← al_79 h]
  try rfl
set_option maxRecDepth 8192 in
theorem al_86 (h : Holds V0 s j) : (constantI S_ 32 0#32 : (Proc.devRef .tc main_while0b_call17_c : DevRef τ sig).ty.Contents (Elt F)) = Cert.ReferenceIdeal.Step.b86 j s := by
  unfold Cert.ReferenceIdeal.Step.b86
  rfl
set_option maxRecDepth 8192 in
theorem al_87 (h : Holds V0 s j) : (constantI S_ 32 0#32 : (Proc.devRef .tc main_while0b_call17_c_0 : DevRef τ sig).ty.Contents (Elt F)) = Cert.ReferenceIdeal.Step.b87 j s := by
  unfold Cert.ReferenceIdeal.Step.b87
  rfl
set_option maxRecDepth 8192 in
theorem al_88 (h : Holds V0 s j) : (constantI S_ 32 0#32 : (Proc.devRef .tc main_while0b_call17_c_1 : DevRef τ sig).ty.Contents (Elt F)) = Cert.ReferenceIdeal.Step.b88 j s := by
  unfold Cert.ReferenceIdeal.Step.b88
  rfl
set_option maxRecDepth 8192 in
theorem al_89 (h : Holds V0 s j) : (Host.dynamicUpdateSlice (V0 (Proc.devRef .tc main_v42_11)) (broadcastInDim S1x8x64x128 ![1, 2, 3] bcast_S8x64x128_S1x8x64x128_1_2_3 (Host.dotGeneral dot_S8x64x128_S8x128x128_S8x64x128_2_2_1_1_0_0 none (res_main_while0b_v122 V0) (res_main_while0b_v83 V0))) (fun k => (((![res_main_while0b_v82 V0, constantI S_ 32 0#32, constantI S_ 32 0#32, constantI S_ 32 0#32] : Fin 4 → (⟨S_, .i32⟩ : BufTy).Contents (Elt F))) k (Shape.Idx.first h_S_)).toInt) updateFits_S128x8x64x128_S1x8x64x128 : (Proc.devRef .tc main_while0b_v128 : DevRef τ sig).ty.Contents (Elt F)) = Cert.ReferenceIdeal.Step.b89 j s := by
  unfold Cert.ReferenceIdeal.Step.b89
  rw [← al_85 h, ← al_3 h, ← al_86 h, ← al_87 h, ← al_88 h, h.f_11]
  try rfl
set_option maxRecDepth 8192 in
theorem al_90 (h : Holds V0 s j) : (broadcastInDim S1x8x64x128 ![1, 2, 3] bcast_S8x64x128_S1x8x64x128_1_2_3 (Host.dotGeneral dot_S8x64x128_S8x128x128_S8x64x128_2_2_1_1_0_0 none (res_main_while0b_v84 V0) (res_main_while0b_v83 V0)) : (Proc.devRef .tc main_while0b_call18_v0 : DevRef τ sig).ty.Contents (Elt F)) = Cert.ReferenceIdeal.Step.b90 j s := by
  unfold Cert.ReferenceIdeal.Step.b90
  rw [← al_74 h]
  try rfl
set_option maxRecDepth 8192 in
theorem al_91 (h : Holds V0 s j) : (constantI S_ 32 0#32 : (Proc.devRef .tc main_while0b_call18_c : DevRef τ sig).ty.Contents (Elt F)) = Cert.ReferenceIdeal.Step.b91 j s := by
  unfold Cert.ReferenceIdeal.Step.b91
  rfl
set_option maxRecDepth 8192 in
theorem al_92 (h : Holds V0 s j) : (constantI S_ 32 0#32 : (Proc.devRef .tc main_while0b_call18_c_0 : DevRef τ sig).ty.Contents (Elt F)) = Cert.ReferenceIdeal.Step.b92 j s := by
  unfold Cert.ReferenceIdeal.Step.b92
  rfl
set_option maxRecDepth 8192 in
theorem al_93 (h : Holds V0 s j) : (constantI S_ 32 0#32 : (Proc.devRef .tc main_while0b_call18_c_1 : DevRef τ sig).ty.Contents (Elt F)) = Cert.ReferenceIdeal.Step.b93 j s := by
  unfold Cert.ReferenceIdeal.Step.b93
  rfl
set_option maxRecDepth 8192 in
theorem al_94 (h : Holds V0 s j) : (Host.dynamicUpdateSlice (V0 (Proc.devRef .tc main_v42_12)) (broadcastInDim S1x8x64x128 ![1, 2, 3] bcast_S8x64x128_S1x8x64x128_1_2_3 (Host.dotGeneral dot_S8x64x128_S8x128x128_S8x64x128_2_2_1_1_0_0 none (res_main_while0b_v84 V0) (res_main_while0b_v83 V0))) (fun k => (((![res_main_while0b_v82 V0, constantI S_ 32 0#32, constantI S_ 32 0#32, constantI S_ 32 0#32] : Fin 4 → (⟨S_, .i32⟩ : BufTy).Contents (Elt F))) k (Shape.Idx.first h_S_)).toInt) updateFits_S128x8x64x128_S1x8x64x128 : (Proc.devRef .tc main_while0b_v129 : DevRef τ sig).ty.Contents (Elt F)) = Cert.ReferenceIdeal.Step.b94 j s := by
  unfold Cert.ReferenceIdeal.Step.b94
  rw [← al_90 h, ← al_3 h, ← al_91 h, ← al_92 h, ← al_93 h, h.f_12]
  try rfl
set_option maxRecDepth 8192 in
theorem al_95 (h : Holds V0 s j) : (broadcastInDim S1x8x64x64 ![1, 2, 3] bcast_S8x64x64_S1x8x64x64_1_2_3 (Host.dotGeneral dot_S8x64x128_S8x64x128_S8x64x64_2_2_1_1_0_0 none (res_main_while0b_v84 V0) (res_main_while0b_v92 V0)) : (Proc.devRef .tc main_while0b_call19_v0 : DevRef τ sig).ty.Contents (Elt F)) = Cert.ReferenceIdeal.Step.b95 j s := by
  unfold Cert.ReferenceIdeal.Step.b95
  rw [← al_70 h]
  try rfl
set_option maxRecDepth 8192 in
theorem al_96 (h : Holds V0 s j) : (constantI S_ 32 0#32 : (Proc.devRef .tc main_while0b_call19_c : DevRef τ sig).ty.Contents (Elt F)) = Cert.ReferenceIdeal.Step.b96 j s := by
  unfold Cert.ReferenceIdeal.Step.b96
  rfl
set_option maxRecDepth 8192 in
theorem al_97 (h : Holds V0 s j) : (constantI S_ 32 0#32 : (Proc.devRef .tc main_while0b_call19_c_0 : DevRef τ sig).ty.Contents (Elt F)) = Cert.ReferenceIdeal.Step.b97 j s := by
  unfold Cert.ReferenceIdeal.Step.b97
  rfl
set_option maxRecDepth 8192 in
theorem al_98 (h : Holds V0 s j) : (constantI S_ 32 0#32 : (Proc.devRef .tc main_while0b_call19_c_1 : DevRef τ sig).ty.Contents (Elt F)) = Cert.ReferenceIdeal.Step.b98 j s := by
  unfold Cert.ReferenceIdeal.Step.b98
  rfl
set_option maxRecDepth 8192 in
theorem al_99 (h : Holds V0 s j) : (Host.dynamicUpdateSlice (V0 (Proc.devRef .tc main_v42_13)) (broadcastInDim S1x8x64x64 ![1, 2, 3] bcast_S8x64x64_S1x8x64x64_1_2_3 (Host.dotGeneral dot_S8x64x128_S8x64x128_S8x64x64_2_2_1_1_0_0 none (res_main_while0b_v84 V0) (res_main_while0b_v92 V0))) (fun k => (((![res_main_while0b_v82 V0, constantI S_ 32 0#32, constantI S_ 32 0#32, constantI S_ 32 0#32] : Fin 4 → (⟨S_, .i32⟩ : BufTy).Contents (Elt F))) k (Shape.Idx.first h_S_)).toInt) updateFits_S128x8x64x64_S1x8x64x64 : (Proc.devRef .tc main_while0b_v130 : DevRef τ sig).ty.Contents (Elt F)) = Cert.ReferenceIdeal.Step.b99 j s := by
  unfold Cert.ReferenceIdeal.Step.b99
  rw [← al_95 h, ← al_3 h, ← al_96 h, ← al_97 h, ← al_98 h, h.f_13]
  try rfl
set_option maxRecDepth 8192 in
theorem al_100 (h : Holds V0 s j) : (broadcastInDim S1x8x64x128 ![1, 2, 3] bcast_S8x64x128_S1x8x64x128_1_2_3 (transpose S8x64x128 [0, 2, 1] (Host.dotGeneral dot_S8x128x128_S8x64x128_S8x128x64_2_2_1_1_0_0 none (V0 (Proc.devRef .tc main_v42_9)) (res_main_while0b_v92 V0)) transposes_S8x128x64_S8x64x128_0_2_1) : (Proc.devRef .tc main_while0b_call20_v0 : DevRef τ sig).ty.Contents (Elt F)) = Cert.ReferenceIdeal.Step.b100 j s := by
  unfold Cert.ReferenceIdeal.Step.b100
  rw [← al_57 h]
  try rfl
set_option maxRecDepth 8192 in
theorem al_101 (h : Holds V0 s j) : (constantI S_ 32 0#32 : (Proc.devRef .tc main_while0b_call20_c : DevRef τ sig).ty.Contents (Elt F)) = Cert.ReferenceIdeal.Step.b101 j s := by
  unfold Cert.ReferenceIdeal.Step.b101
  rfl
set_option maxRecDepth 8192 in
theorem al_102 (h : Holds V0 s j) : (constantI S_ 32 0#32 : (Proc.devRef .tc main_while0b_call20_c_0 : DevRef τ sig).ty.Contents (Elt F)) = Cert.ReferenceIdeal.Step.b102 j s := by
  unfold Cert.ReferenceIdeal.Step.b102
  rfl
set_option maxRecDepth 8192 in
theorem al_103 (h : Holds V0 s j) : (constantI S_ 32 0#32 : (Proc.devRef .tc main_while0b_call20_c_1 : DevRef τ sig).ty.Contents (Elt F)) = Cert.ReferenceIdeal.Step.b103 j s := by
  unfold Cert.ReferenceIdeal.Step.b103
  rfl
set_option maxRecDepth 8192 in
theorem al_104 (h : Holds V0 s j) : (Host.dynamicUpdateSlice (V0 (Proc.devRef .tc main_v42_14)) (broadcastInDim S1x8x64x128 ![1, 2, 3] bcast_S8x64x128_S1x8x64x128_1_2_3 (transpose S8x64x128 [0, 2, 1] (Host.dotGeneral dot_S8x128x128_S8x64x128_S8x128x64_2_2_1_1_0_0 none (V0 (Proc.devRef .tc main_v42_9)) (res_main_while0b_v92 V0)) transposes_S8x128x64_S8x64x128_0_2_1)) (fun k => (((![res_main_while0b_v82 V0, constantI S_ 32 0#32, constantI S_ 32 0#32, constantI S_ 32 0#32] : Fin 4 → (⟨S_, .i32⟩ : BufTy).Contents (Elt F))) k (Shape.Idx.first h_S_)).toInt) updateFits_S128x8x64x128_S1x8x64x128 : (Proc.devRef .tc main_while0b_v131 : DevRef τ sig).ty.Contents (Elt F)) = Cert.ReferenceIdeal.Step.b104 j s := by
  unfold Cert.ReferenceIdeal.Step.b104
  rw [← al_100 h, ← al_3 h, ← al_101 h, ← al_102 h, ← al_103 h, h.f_14]
  try rfl
set_option maxRecDepth 8192 in
theorem al_105 (h : Holds V0 s j) : (broadcastInDim S1x8 ![1] bcast_S8_S1x8_1 (mulf (Host.reduceAdd (shapeCast S8x1x1 (Host.reduceAdd (mulf (res_main_while0b_v83 V0) (V0 (Proc.devRef .tc main_v42_9))) (constant S_ .f32 0x00000000#32) reducesTo_S8x128x128_S8_d1_2 h_S_) shapeCasts_S8_S8x1x1) (constant S_ .f32 0x00000000#32) reducesTo_S8x1x1_S8_d1_2 h_S_) (res_main_while0b_v96 V0)) : (Proc.devRef .tc main_while0b_call21_v0 : DevRef τ sig).ty.Contents (Elt F)) = Cert.ReferenceIdeal.Step.b105 j s := by
  unfold Cert.ReferenceIdeal.Step.b105
  rw [← al_66 h]
  try rfl
set_option maxRecDepth 8192 in
theorem al_106 (h : Holds V0 s j) : (constantI S_ 32 0#32 : (Proc.devRef .tc main_while0b_call21_c : DevRef τ sig).ty.Contents (Elt F)) = Cert.ReferenceIdeal.Step.b106 j s := by
  unfold Cert.ReferenceIdeal.Step.b106
  rfl
set_option maxRecDepth 8192 in
theorem al_107 (h : Holds V0 s j) : (Host.dynamicUpdateSlice (V0 (Proc.devRef .tc main_v42_15)) (broadcastInDim S1x8 ![1] bcast_S8_S1x8_1 (mulf (Host.reduceAdd (shapeCast S8x1x1 (Host.reduceAdd (mulf (res_main_while0b_v83 V0) (V0 (Proc.devRef .tc main_v42_9))) (constant S_ .f32 0x00000000#32) reducesTo_S8x128x128_S8_d1_2 h_S_) shapeCasts_S8_S8x1x1) (constant S_ .f32 0x00000000#32) reducesTo_S8x1x1_S8_d1_2 h_S_) (res_main_while0b_v96 V0))) (fun k => (((![res_main_while0b_v82 V0, constantI S_ 32 0#32] : Fin 2 → (⟨S_, .i32⟩ : BufTy).Contents (Elt F))) k (Shape.Idx.first h_S_)).toInt) updateFits_S128x8_S1x8 : (Proc.devRef .tc main_while0b_v132 : DevRef τ sig).ty.Contents (Elt F)) = Cert.ReferenceIdeal.Step.b107 j s := by
  unfold Cert.ReferenceIdeal.Step.b107
  rw [← al_105 h, ← al_3 h, ← al_106 h, h.f_15]
  try rfl

/-! One trip's step of the carried values is `step`, field by field; a counter steps to the next number. -/

theorem step_9 (h : Holds V0 s j) : step_main_v42_9 V0 = (step j s).main_v42_9 := by
  unfold step_main_v42_9 Cert.ReferenceIdeal.Step.step
  exact al_78 h
theorem step_10 (h : Holds V0 s j) : step_main_v42_10 V0 = (step j s).main_v42_10 := by
  unfold step_main_v42_10 Cert.ReferenceIdeal.Step.step
  exact al_84 h
theorem step_11 (h : Holds V0 s j) : step_main_v42_11 V0 = (step j s).main_v42_11 := by
  unfold step_main_v42_11 Cert.ReferenceIdeal.Step.step
  exact al_89 h
theorem step_12 (h : Holds V0 s j) : step_main_v42_12 V0 = (step j s).main_v42_12 := by
  unfold step_main_v42_12 Cert.ReferenceIdeal.Step.step
  exact al_94 h
theorem step_13 (h : Holds V0 s j) : step_main_v42_13 V0 = (step j s).main_v42_13 := by
  unfold step_main_v42_13 Cert.ReferenceIdeal.Step.step
  exact al_99 h
theorem step_14 (h : Holds V0 s j) : step_main_v42_14 V0 = (step j s).main_v42_14 := by
  unfold step_main_v42_14 Cert.ReferenceIdeal.Step.step
  exact al_104 h
theorem step_15 (h : Holds V0 s j) : step_main_v42_15 V0 = (step j s).main_v42_15 := by
  unfold step_main_v42_15 Cert.ReferenceIdeal.Step.step
  exact al_107 h
theorem step_8 (h : Holds V0 s j) : step_main_v42_8 V0 = constantI S_ 32 (BitVec.ofNat 32 (j + 1)) := by
  unfold step_main_v42_8
  rw [h.n_8]
  funext i
  show BitVec.ofNat 32 j + 1#32 = BitVec.ofNat 32 (j + 1)
  simp only [BitVec.ofNat_add]

set_option maxRecDepth 8192 in
theorem out_main_v71_holds (h : Holds V0 s j) : out_main_v71 V0 = Cert.ReferenceIdeal.Step.R_main_v71 s := by
  unfold out_main_v71 Cert.ReferenceIdeal.Step.R_main_v71
  rw [h.f_10]
  try rfl

set_option maxRecDepth 8192 in
theorem out_main_v72_holds (h : Holds V0 s j) : out_main_v72 V0 = Cert.ReferenceIdeal.Step.R_main_v72 s := by
  unfold out_main_v72 Cert.ReferenceIdeal.Step.R_main_v72
  rw [h.f_10]
  try rfl

set_option maxRecDepth 8192 in
theorem out_main_v73_holds (h : Holds V0 s j) : out_main_v73 V0 = Cert.ReferenceIdeal.Step.R_main_v73 s := by
  unfold out_main_v73 Cert.ReferenceIdeal.Step.R_main_v73
  rw [h.f_11]
  try rfl

set_option maxRecDepth 8192 in
theorem out_main_v74_holds (h : Holds V0 s j) : out_main_v74 V0 = Cert.ReferenceIdeal.Step.R_main_v74 s := by
  unfold out_main_v74 Cert.ReferenceIdeal.Step.R_main_v74
  rw [h.f_11]
  try rfl

set_option maxRecDepth 8192 in
theorem out_main_v75_holds (h : Holds V0 s j) : out_main_v75 V0 = Cert.ReferenceIdeal.Step.R_main_v75 s := by
  unfold out_main_v75 Cert.ReferenceIdeal.Step.R_main_v75
  rw [h.f_12]
  try rfl

set_option maxRecDepth 8192 in
theorem out_main_v76_holds (h : Holds V0 s j) : out_main_v76 V0 = Cert.ReferenceIdeal.Step.R_main_v76 s := by
  unfold out_main_v76 Cert.ReferenceIdeal.Step.R_main_v76
  rw [h.f_12]
  try rfl

set_option maxRecDepth 8192 in
theorem out_main_v77_holds (h : Holds V0 s j) : out_main_v77 V0 = Cert.ReferenceIdeal.Step.R_main_v77 s := by
  unfold out_main_v77 Cert.ReferenceIdeal.Step.R_main_v77
  rw [h.f_14]
  try rfl

set_option maxRecDepth 8192 in
theorem out_main_v78_holds (h : Holds V0 s j) : out_main_v78 V0 = Cert.ReferenceIdeal.Step.R_main_v78 s := by
  unfold out_main_v78 Cert.ReferenceIdeal.Step.R_main_v78
  rw [h.f_14]
  try rfl

set_option maxRecDepth 8192 in
theorem out_main_v79_holds (h : Holds V0 s j) : out_main_v79 V0 = Cert.ReferenceIdeal.Step.R_main_v79 s := by
  unfold out_main_v79 Cert.ReferenceIdeal.Step.R_main_v79
  rw [h.f_15]
  try rfl

set_option maxRecDepth 8192 in
theorem out_main_v80_holds (h : Holds V0 s j) : out_main_v80 V0 = Cert.ReferenceIdeal.Step.R_main_v80 s := by
  unfold out_main_v80 Cert.ReferenceIdeal.Step.R_main_v80
  rw [h.f_15]
  try rfl

/-- One trip keeps the valuation holding: `step` of the state, the same set-up values, the next number. -/
theorem holds_step (h : Holds V0 s j) : Holds (STEP V0) (step j s) (j + 1) where
  f_9 := (STEP_main_v42_9 V0).trans (step_9 h)
  f_10 := (STEP_main_v42_10 V0).trans (step_10 h)
  f_11 := (STEP_main_v42_11 V0).trans (step_11 h)
  f_12 := (STEP_main_v42_12 V0).trans (step_12 h)
  f_13 := (STEP_main_v42_13 V0).trans (step_13 h)
  f_14 := (STEP_main_v42_14 V0).trans (step_14 h)
  f_15 := (STEP_main_v42_15 V0).trans (step_15 h)
  n_8 := (STEP_main_v42_8 V0).trans (step_8 h)
  f_0 := (STEP_main_v42_0 V0).trans h.f_0
  f_1 := (STEP_main_v42_1 V0).trans h.f_1
  f_2 := (STEP_main_v42_2 V0).trans h.f_2
  f_3 := (STEP_main_v42_3 V0).trans h.f_3
  f_4 := (STEP_main_v42_4 V0).trans h.f_4
  f_5 := (STEP_main_v42_5 V0).trans h.f_5
  f_6 := (STEP_main_v42_6 V0).trans h.f_6
  f_7 := (STEP_main_v42_7 V0).trans h.f_7

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

variable (m : (ℓ : Loc nD τ sig) → Buf (Elt F) ℓ) (c : Dev nD)

set_option maxRecDepth 65536 in
set_option maxHeartbeats 800000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 128 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v71) = Cert.ReferenceIdeal.Step.R_main_v71 (it c 128)
      ∧ r.2.mem ((c.tc : Thread nD τ).loc main_v72) = Cert.ReferenceIdeal.Step.R_main_v72 (it c 128)
      ∧ r.2.mem ((c.tc : Thread nD τ).loc main_v73) = Cert.ReferenceIdeal.Step.R_main_v73 (it c 128)
      ∧ r.2.mem ((c.tc : Thread nD τ).loc main_v74) = Cert.ReferenceIdeal.Step.R_main_v74 (it c 128)
      ∧ r.2.mem ((c.tc : Thread nD τ).loc main_v75) = Cert.ReferenceIdeal.Step.R_main_v75 (it c 128)
      ∧ r.2.mem ((c.tc : Thread nD τ).loc main_v76) = Cert.ReferenceIdeal.Step.R_main_v76 (it c 128)
      ∧ r.2.mem ((c.tc : Thread nD τ).loc main_v77) = Cert.ReferenceIdeal.Step.R_main_v77 (it c 128)
      ∧ r.2.mem ((c.tc : Thread nD τ).loc main_v78) = Cert.ReferenceIdeal.Step.R_main_v78 (it c 128)
      ∧ r.2.mem ((c.tc : Thread nD τ).loc main_v79) = Cert.ReferenceIdeal.Step.R_main_v79 (it c 128)
      ∧ r.2.mem ((c.tc : Thread nD τ).loc main_v80) = Cert.ReferenceIdeal.Step.R_main_v80 (it c 128)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    have hk := holds_iter m c (it c) (h0 c) (hs c) 128
    ⟨(h c).1.trans (out_main_v71_holds hk), (h c).2.1.trans (out_main_v72_holds hk), (h c).2.2.1.trans (out_main_v73_holds hk), (h c).2.2.2.1.trans (out_main_v74_holds hk), (h c).2.2.2.2.1.trans (out_main_v75_holds hk), (h c).2.2.2.2.2.1.trans (out_main_v76_holds hk), (h c).2.2.2.2.2.2.1.trans (out_main_v77_holds hk), (h c).2.2.2.2.2.2.2.1.trans (out_main_v78_holds hk), (h c).2.2.2.2.2.2.2.2.1.trans (out_main_v79_holds hk), (h c).2.2.2.2.2.2.2.2.2.1.trans (out_main_v80_holds hk), (h c).2.2.2.2.2.2.2.2.2.2.1, (h c).2.2.2.2.2.2.2.2.2.2.2.1, (h c).2.2.2.2.2.2.2.2.2.2.2.2.1, (h c).2.2.2.2.2.2.2.2.2.2.2.2.2.1, (h c).2.2.2.2.2.2.2.2.2.2.2.2.2.2.1, (h c).2.2.2.2.2.2.2.2.2.2.2.2.2.2.2.1, (h c).2.2.2.2.2.2.2.2.2.2.2.2.2.2.2.2.1, (h c).2.2.2.2.2.2.2.2.2.2.2.2.2.2.2.2.2⟩) (Value.run m ρ)

end Cert.Proof.RefRun

end
-- ==== Proof.Finite.lean ====
/-
  Finite values: what the precondition says of the arguments, and the one law that needs it — a sign moves in and out of
  a sum of products of finite values.
-/
module

public import Idealize.ShloMosaic.PureOps.Ideal
public import Idealize.ShloMosaic.PureOps.Ideal.Laws
public import Idealize.ShloMosaic.Lib.ReduceAll
public import Idealize.ShloMosaic.Lib.KernelVsHost
public import proofs.«01_k».proof.Proof.Spec
public import proofs.«01_k».proof.Proof.Gen.Pre_all_finite

@[expose] public section

set_option maxRecDepth 16384

noncomputable section

namespace Cert.Proof.Finite

open Idealize.ShloMosaic Cert.Proof
open scoped BigOperators

/-- A value that is a real number. -/
def Fin' (x : EReal) : Prop := ∃ r : ℝ, x = (r : EReal)

theorem zero : Fin' 0 := ⟨0, rfl⟩
theorem add {x y : EReal} : Fin' x → Fin' y → Fin' (x + y) := by
  rintro ⟨a, rfl⟩ ⟨b, rfl⟩; exact ⟨a + b, (EReal.coe_add a b).symm⟩
theorem mul {x y : EReal} : Fin' x → Fin' y → Fin' (x * y) := by
  rintro ⟨a, rfl⟩ ⟨b, rfl⟩; exact ⟨a * b, (EReal.coe_mul a b).symm⟩
theorem sub {x y : EReal} : Fin' x → Fin' y → Fin' (x - y) := by
  rintro ⟨a, rfl⟩ ⟨b, rfl⟩; exact ⟨a - b, (EReal.coe_sub a b).symm⟩
theorem exp {x : EReal} : Fin' x → Fin' (Ideal.exp x) := by
  rintro ⟨a, rfl⟩; exact ⟨Real.exp a, rfl⟩
theorem sum {ι : Type} [Fintype ι] {f : ι → EReal} (h : ∀ i, Fin' (f i)) : Fin' (∑ i, f i) := by
  classical
  refine Finset.sum_induction f Fin' (fun _ _ => add) zero fun i _ => h i

/-- The negatives of finitely many finite values sum to the negative of their sum. -/
theorem sum_neg {ι : Type} [Fintype ι] {f : ι → EReal} (h : ∀ i, Fin' (f i)) : ∑ i, -f i = -∑ i, f i := by
  classical
  choose r hr using h
  simp only [hr]
  have e1 : ∀ s : Finset ι, ∑ i ∈ s, (r i : EReal) = ((∑ i ∈ s, r i : ℝ) : EReal) := by
    intro s
    induction s using Finset.induction_on with
    | empty => rfl
    | insert a s ha ih => rw [Finset.sum_insert ha, Finset.sum_insert ha, ih, EReal.coe_add]
  have e2 : ∀ s : Finset ι, ∑ i ∈ s, -(r i : EReal) = ((∑ i ∈ s, -r i : ℝ) : EReal) := by
    intro s
    induction s using Finset.induction_on with
    | empty => rfl
    | insert a s ha ih => rw [Finset.sum_insert ha, Finset.sum_insert ha, ih, EReal.coe_add, EReal.coe_neg]
  rw [e1, e2, Finset.sum_neg_distrib, EReal.coe_neg]

/-- A product of a negative in a sum: the sum's negative. -/
theorem sum_neg_mul {ι : Type} [Fintype ι] {f g : ι → EReal} (hf : ∀ i, Fin' (f i)) (hg : ∀ i, Fin' (g i)) :
    ∑ i, -f i * g i = -∑ i, f i * g i := by
  rw [← sum_neg fun i => mul (hf i) (hg i)]
  exact Finset.sum_congr rfl fun i _ => by rw [EReal.neg_mul]

/-- A tile of finite values. -/
structure Tame (T : Spec.Tile) : Prop where
  DO : ∀ i e, Fin' (T.DO i e)
  S : ∀ d e, Fin' (T.S d e)
  VN : ∀ i e, Fin' (T.VN i e)
  W : ∀ i e, Fin' (T.W i e)
  QG : ∀ i e, Fin' (T.QG i e)
  KD : ∀ i e, Fin' (T.KD i e)
  IN : ∀ i e, Fin' (T.IN i e)
  E : ∀ e, Fin' (T.E e)

theorem tame_dvn {T : Spec.Tile} {D : Spec.Sq} (h : Tame T) (hD : ∀ d e, Fin' (D d e)) (i e) : Fin' (Spec.dvn T D i e) :=
  add (sum fun _ => mul (h.IN _ _) (h.DO _ _)) (sum fun _ => mul (h.KD _ _) (hD _ _))

theorem tame_next {T : Spec.Tile} {D : Spec.Sq} (h : Tame T) (hD : ∀ d e, Fin' (D d e)) (d e) : Fin' (Spec.next T D d e) :=
  sub (add (sum fun _ => mul (h.QG _ _) (h.DO _ _)) (mul (h.E _) (hD _ _)))
    (sum fun _ => mul (h.W _ _) (tame_dvn h hD _ _))

/-- Arguments of finite values. -/
structure TameArgs (A : Spec.Args) : Prop where
  a0 : ∀ i, Fin' (A.a0 i)
  a1 : ∀ i, Fin' (A.a1 i)
  a2 : ∀ i, Fin' (A.a2 i)
  a3 : ∀ i, Fin' (A.a3 i)
  a4 : ∀ i, Fin' (A.a4 i)
  a5 : ∀ i, Fin' (A.a5 i)
  a6 : ∀ i, Fin' (A.a6 i)
  a7 : ∀ i, Fin' (A.a7 i)

theorem tame_tile {A : Spec.Args} (h : TameArgs A) (c ch) : Tame (Spec.tileAt A c ch) where
  DO _ _ := h.a0 _
  S _ _ := h.a1 _
  VN _ _ := sub (h.a2 _) (sum fun _ => mul (h.a3 _) (h.a1 _))
  W _ _ := h.a3 _
  QG _ _ := h.a4 _
  KD _ _ := h.a6 _
  IN _ _ := h.a5 _
  E _ := exp (h.a7 _)

theorem tame_grad {A : Spec.Args} (h : TameArgs A) (ch) : ∀ j d e, Fin' (Spec.gradAt A ch j d e)
  | 0, _, _ => zero
  | j + 1, d, e => tame_next (tame_tile h _ _) (tame_grad h ch j) d e

/-! ## The precondition -/

/-- One value whose magnitude compares below infinity. -/
theorem of_olt (x : Ideal .f32)
    (h : FloatOps.cmpf .olt (FloatOps.hostAbsf x) (FloatOps.ofBits (F := Ideal) .f32 0x7F800000#32) = 1#1) : Fin' x := by
  rw [← Ideal.xori_weird_eq_hostAbsf_olt_inf] at h
  have h' : IntOp.xori (BitVec.ofBool (decide ((x : EReal) = ⊤ ∨ (x : EReal) = ⊥))) 1#1 = 1#1 := h
  have hx : ¬ ((x : EReal) = ⊤ ∨ (x : EReal) = ⊥) := by
    intro hc
    rw [decide_eq_true hc] at h'
    exact absurd h' (by decide)
  exact ⟨EReal.toReal x, (EReal.coe_toReal (fun e => hx (.inl e)) (fun e => hx (.inr e))).symm⟩

section
open Cert.Pre_all_finite

instance : Subsingleton S_.Idx := ⟨fun a b => funext fun i => i.elim0⟩

variable [Cert.Pre_all_finite.Facts]
/-- The precondition gives finite arguments. -/
theorem tameArgs (A : Spec.Args)
    (h : Cert.Pre_all_finite.fn (F := Ideal) A.a0 A.a1 A.a2 A.a3 A.a4 A.a5 A.a6 A.a7 = fun _ => 1#1) : TameArgs A := by
  have h0 := congrFun h (fun i => i.elim0)
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨fun i => of_olt _ (Host.reduce_andi_all _ _ _ _ _ e0 i), fun i => of_olt _ (Host.reduce_andi_all _ _ _ _ _ e1 i),
    fun i => of_olt _ (Host.reduce_andi_all _ _ _ _ _ e2 i), fun i => of_olt _ (Host.reduce_andi_all _ _ _ _ _ e3 i),
    fun i => of_olt _ (Host.reduce_andi_all _ _ _ _ _ e4 i), fun i => of_olt _ (Host.reduce_andi_all _ _ _ _ _ e5 i),
    fun i => of_olt _ (Host.reduce_andi_all _ _ _ _ _ e6 i), fun i => of_olt _ (Host.reduce_andi_all _ _ _ _ _ e7 i)⟩

end

end Cert.Proof.Finite

end
-- ==== Proof.RefSide.lean ====
module
public import proofs.«01_k».proof.Proof.Gen.ReferenceIdeal.Step
public import proofs.«01_k».proof.Proof.Spec
public import proofs.«01_k».proof.Proof.Finite
public import Idealize.ShloMosaic.Lib.Pointwise
public import Idealize.ShloMosaic.Lib.DynamicIndex
public import Idealize.ShloMosaic.Lib.Pipeline.Value

@[expose] public section

set_option maxRecDepth 16384

noncomputable section

namespace Cert.Proof.RefSide

open Idealize.ShloMosaic Cert.ReferenceIdeal Cert.ReferenceIdeal.Gen Cert.ReferenceIdeal.Step
open scoped BigOperators

/-- Trip `j`'s row, as the words compute it. -/
theorem row_word : ∀ k : Fin 128, BitVec.toInt (IntOp.subi (IntOp.subi 128#32 (BitVec.ofNat 32 k.val)) 1#32) = ((127 - k.val : ℕ) : ℤ) := by
  decide +kernel

theorem row_eq (j : ℕ) (hj : j < 128) (s : State Ideal) (i : S_.Idx) : BitVec.toInt (b3 j s i) = ((127 - j : ℕ) : ℤ) :=
  row_word ⟨j, hj⟩

/-- A row read at trip `j`. -/
theorem start4 (j : ℕ) (hj : j < 128) (s : State Ideal) (a : Fin 4) (i : S_.Idx) :
    BitVec.toInt ((![b3 j s, constantI S_ 32 0#32, constantI S_ 32 0#32, constantI S_ 32 0#32] : Fin 4 → (⟨S_, .i32⟩ : BufTy).Contents (Elt Ideal)) a i)
      = (((![127 - j, 0, 0, 0] : Fin 4 → ℕ) a : ℕ) : ℤ) := by
  match a with
  | ⟨0, _⟩ => exact row_eq j hj s i
  | ⟨1, _⟩ => rfl
  | ⟨2, _⟩ => rfl
  | ⟨3, _⟩ => rfl

theorem start2 (j : ℕ) (hj : j < 128) (s : State Ideal) (a : Fin 2) (i : S_.Idx) :
    BitVec.toInt ((![b3 j s, constantI S_ 32 0#32] : Fin 2 → (⟨S_, .i32⟩ : BufTy).Contents (Elt Ideal)) a i)
      = (((![127 - j, 0] : Fin 2 → ℕ) a : ℕ) : ℤ) := by
  match a with
  | ⟨0, _⟩ => exact row_eq j hj s i
  | ⟨1, _⟩ => rfl

/-- The row of the scan-ordered arrays that trip `j` reads and writes. -/
def trow (j : ℕ) : Fin 128 := ⟨(127 - j) % 128, Nat.mod_lt _ (by decide)⟩

theorem read4 {n1 n2 n3 : ℕ} (j : ℕ) (hj : j < 128) (x : (⟨4, ![128, n1, n2, n3]⟩ : Shape).Idx → EReal) (start : Fin 4 → ℤ)
    (h : (⟨4, ![128, n1, n2, n3]⟩ : Shape).Slices (fun _ => 0) ⟨4, ![1, n1, n2, n3]⟩)
    (hs : ∀ a, start a = (((![127 - j, 0, 0, 0] : Fin 4 → ℕ) a : ℕ) : ℤ)) (a : Fin n1) (b : Fin n2) (c : Fin n3) :
    Host.dynamicSlice ⟨4, ![1, n1, n2, n3]⟩ x start h (ix4 0 a b c) = x (ix4 (trow j) a b c) := by
  have hoff : (⟨4, ![128, n1, n2, n3]⟩ : Shape).Slices ![127 - j, 0, 0, 0] ⟨4, ![1, n1, n2, n3]⟩ := by
    refine ⟨rfl, fun a => ?_⟩
    match a with
    | ⟨0, _⟩ => show 127 - j + 1 ≤ 128; omega
    | ⟨1, _⟩ => show 0 + n1 ≤ n1; omega
    | ⟨2, _⟩ => show 0 + n2 ≤ n2; omega
    | ⟨3, _⟩ => show 0 + n3 ≤ n3; omega
  rw [Host.dynamicSlice_eq_extractStridedSlice _ x start ![127 - j, 0, 0, 0] h hoff hs]
  unfold extractStridedSlice
  refine congrArg x (funext fun a => Fin.ext ?_)
  match a with
  | ⟨0, _⟩ => show 127 - j + 0 = (127 - j) % 128; omega
  | ⟨1, _⟩ => exact Nat.zero_add _
  | ⟨2, _⟩ => exact Nat.zero_add _
  | ⟨3, _⟩ => exact Nat.zero_add _

theorem read2 {n1 : ℕ} (j : ℕ) (hj : j < 128) (x : (⟨2, ![128, n1]⟩ : Shape).Idx → EReal) (start : Fin 2 → ℤ)
    (h : (⟨2, ![128, n1]⟩ : Shape).Slices (fun _ => 0) ⟨2, ![1, n1]⟩)
    (hs : ∀ a, start a = (((![127 - j, 0] : Fin 2 → ℕ) a : ℕ) : ℤ)) (a : Fin n1) :
    Host.dynamicSlice ⟨2, ![1, n1]⟩ x start h (ix2 0 a) = x (ix2 (trow j) a) := by
  have hoff : (⟨2, ![128, n1]⟩ : Shape).Slices ![127 - j, 0] ⟨2, ![1, n1]⟩ := by
    refine ⟨rfl, fun a => ?_⟩
    match a with
    | ⟨0, _⟩ => show 127 - j + 1 ≤ 128; omega
    | ⟨1, _⟩ => show 0 + n1 ≤ n1; omega
  rw [Host.dynamicSlice_eq_extractStridedSlice _ x start ![127 - j, 0] h hoff hs]
  unfold extractStridedSlice
  refine congrArg x (funext fun a => Fin.ext ?_)
  match a with
  | ⟨0, _⟩ => show 127 - j + 0 = (127 - j) % 128; omega
  | ⟨1, _⟩ => exact Nat.zero_add _

theorem trow_val (j : ℕ) (hj : j < 128) : (trow j).val = 127 - j := by unfold trow; simp only []; omega

/-- A row written at trip `j`. -/
theorem write4 {n1 n2 n3 : ℕ} (j : ℕ) (hj : j < 128) (x : (⟨4, ![128, n1, n2, n3]⟩ : Shape).Idx → EReal)
    (u : (⟨4, ![1, n1, n2, n3]⟩ : Shape).Idx → EReal) (start : Fin 4 → ℤ)
    (h : (⟨4, ![128, n1, n2, n3]⟩ : Shape).Slices (fun _ => 0) ⟨4, ![1, n1, n2, n3]⟩)
    (hs : ∀ a, start a = (((![127 - j, 0, 0, 0] : Fin 4 → ℕ) a : ℕ) : ℤ)) (r : Fin 128) (a : Fin n1) (b : Fin n2) (c : Fin n3) :
    Host.dynamicUpdateSlice x u start h (ix4 r a b c) = if r = trow j then u (ix4 0 a b c) else x (ix4 r a b c) := by
  have hoff : (⟨4, ![128, n1, n2, n3]⟩ : Shape).Slices ![127 - j, 0, 0, 0] ⟨4, ![1, n1, n2, n3]⟩ := by
    refine ⟨rfl, fun a => ?_⟩
    match a with
    | ⟨0, _⟩ => show 127 - j + 1 ≤ 128; omega
    | ⟨1, _⟩ => show 0 + n1 ≤ n1; omega
    | ⟨2, _⟩ => show 0 + n2 ≤ n2; omega
    | ⟨3, _⟩ => show 0 + n3 ≤ n3; omega
  rw [Host.dynamicUpdateSlice_eq_updateSlice x u start h ![127 - j, 0, 0, 0] (fun a => by
    have := hoff.2 a; rw [hs a]; omega) hoff]
  have ht := trow_val j hj
  unfold updateSlice
  by_cases hr : r = trow j
  · rw [if_pos hr, dif_pos]
    · refine congrArg u (funext fun a => Fin.ext ?_)
      match a with
      | ⟨0, _⟩ => show r.val - (127 - j) = 0; rw [hr, ht]; omega
      | ⟨1, _⟩ => exact Nat.sub_zero _
      | ⟨2, _⟩ => exact Nat.sub_zero _
      | ⟨3, _⟩ => exact Nat.sub_zero _
    · intro ax
      match ax with
      | ⟨0, _⟩ => show 127 - j ≤ r.val ∧ r.val < 127 - j + 1; rw [hr, ht]; omega
      | ⟨1, _⟩ => exact ⟨Nat.zero_le _, by show a.val < 0 + n1; rw [Nat.zero_add]; exact a.isLt⟩
      | ⟨2, _⟩ => exact ⟨Nat.zero_le _, by show _ < 0 + n2; rw [Nat.zero_add]; exact b.isLt⟩
      | ⟨3, _⟩ => exact ⟨Nat.zero_le _, by show _ < 0 + n3; rw [Nat.zero_add]; exact c.isLt⟩
  · rw [if_neg hr, dif_neg]
    intro hall
    have h0 : 127 - j ≤ r.val ∧ r.val < 127 - j + 1 := hall (0 : Fin 4)
    exact hr (Fin.ext (by rw [ht]; omega))

theorem write2 {n1 : ℕ} (j : ℕ) (hj : j < 128) (x : (⟨2, ![128, n1]⟩ : Shape).Idx → EReal)
    (u : (⟨2, ![1, n1]⟩ : Shape).Idx → EReal) (start : Fin 2 → ℤ)
    (h : (⟨2, ![128, n1]⟩ : Shape).Slices (fun _ => 0) ⟨2, ![1, n1]⟩)
    (hs : ∀ a, start a = (((![127 - j, 0] : Fin 2 → ℕ) a : ℕ) : ℤ)) (r : Fin 128) (a : Fin n1) :
    Host.dynamicUpdateSlice x u start h (ix2 r a) = if r = trow j then u (ix2 0 a) else x (ix2 r a) := by
  have hoff : (⟨2, ![128, n1]⟩ : Shape).Slices ![127 - j, 0] ⟨2, ![1, n1]⟩ := by
    refine ⟨rfl, fun a => ?_⟩
    match a with
    | ⟨0, _⟩ => show 127 - j + 1 ≤ 128; omega
    | ⟨1, _⟩ => show 0 + n1 ≤ n1; omega
  rw [Host.dynamicUpdateSlice_eq_updateSlice x u start h ![127 - j, 0] (fun a => by
    have := hoff.2 a; rw [hs a]; omega) hoff]
  have ht := trow_val j hj
  unfold updateSlice
  by_cases hr : r = trow j
  · rw [if_pos hr, dif_pos]
    · refine congrArg u (funext fun a => Fin.ext ?_)
      match a with
      | ⟨0, _⟩ => show r.val - (127 - j) = 0; rw [hr, ht]; omega
      | ⟨1, _⟩ => exact Nat.sub_zero _
    · intro ax
      match ax with
      | ⟨0, _⟩ => show 127 - j ≤ r.val ∧ r.val < 127 - j + 1; rw [hr, ht]; omega
      | ⟨1, _⟩ => exact ⟨Nat.zero_le _, by show a.val < 0 + n1; rw [Nat.zero_add]; exact a.isLt⟩
  · rw [if_neg hr, dif_neg]
    intro hall
    have h0 : 127 - j ≤ r.val ∧ r.val < 127 - j + 1 := hall (0 : Fin 2)
    exact hr (Fin.ext (by rw [ht]; omega))

/-! ## What a trip reads -/

theorem b8_at (j : ℕ) (hj : j < 128) (s : State Ideal) (c : Fin 8) (d : Fin 128) (e : Fin 128) :
    b8 j s (ix3 c d e) = s.main_v42_0 (ix4 (trow j) c d e) := by
  refine Eq.trans ?_ (read4 j hj _ _ sliceFits_S128x8x128x128_S1x8x128x128 (fun a => start4 j hj s a (Shape.Idx.first h_S_)) c d e)
  generalize hq : Host.dynamicSlice _ _ _ _ = q
  have h : b8 j s = shapeCast S8x128x128 q shapeCasts_S1x8x128x128_S8x128x128 := by rw [← hq]; rfl
  rw [h]
  pointwise

theorem b13_at (j : ℕ) (hj : j < 128) (s : State Ideal) (c : Fin 8) (d : Fin 64) (e : Fin 128) :
    b13 j s (ix3 c d e) = s.main_v42_1 (ix4 (trow j) c d e) := by
  refine Eq.trans ?_ (read4 j hj _ _ sliceFits_S128x8x64x128_S1x8x64x128 (fun a => start4 j hj s a (Shape.Idx.first h_S_)) c d e)
  generalize hq : Host.dynamicSlice _ _ _ _ = q
  have h : b13 j s = shapeCast S8x64x128 q shapeCasts_S1x8x64x128_S8x64x128 := by rw [← hq]; rfl
  rw [h]
  pointwise

theorem b18_at (j : ℕ) (hj : j < 128) (s : State Ideal) (c : Fin 8) (d : Fin 64) (e : Fin 128) :
    b18 j s (ix3 c d e) = s.main_v42_2 (ix4 (trow j) c d e) := by
  refine Eq.trans ?_ (read4 j hj _ _ sliceFits_S128x8x64x128_S1x8x64x128 (fun a => start4 j hj s a (Shape.Idx.first h_S_)) c d e)
  generalize hq : Host.dynamicSlice _ _ _ _ = q
  have h : b18 j s = shapeCast S8x64x128 q shapeCasts_S1x8x64x128_S8x64x128 := by rw [← hq]; rfl
  rw [h]
  pointwise

theorem b23_at (j : ℕ) (hj : j < 128) (s : State Ideal) (c : Fin 8) (d : Fin 64) (e : Fin 128) :
    b23 j s (ix3 c d e) = s.main_v42_3 (ix4 (trow j) c d e) := by
  refine Eq.trans ?_ (read4 j hj _ _ sliceFits_S128x8x64x128_S1x8x64x128 (fun a => start4 j hj s a (Shape.Idx.first h_S_)) c d e)
  generalize hq : Host.dynamicSlice _ _ _ _ = q
  have h : b23 j s = shapeCast S8x64x128 q shapeCasts_S1x8x64x128_S8x64x128 := by rw [← hq]; rfl
  rw [h]
  pointwise

theorem b28_at (j : ℕ) (hj : j < 128) (s : State Ideal) (c : Fin 8) (d : Fin 64) (e : Fin 128) :
    b28 j s (ix3 c d e) = s.main_v42_4 (ix4 (trow j) c d e) := by
  refine Eq.trans ?_ (read4 j hj _ _ sliceFits_S128x8x64x128_S1x8x64x128 (fun a => start4 j hj s a (Shape.Idx.first h_S_)) c d e)
  generalize hq : Host.dynamicSlice _ _ _ _ = q
  have h : b28 j s = shapeCast S8x64x128 q shapeCasts_S1x8x64x128_S8x64x128 := by rw [← hq]; rfl
  rw [h]
  pointwise

theorem b33_at (j : ℕ) (hj : j < 128) (s : State Ideal) (c : Fin 8) (d : Fin 64) (e : Fin 64) :
    b33 j s (ix3 c d e) = s.main_v42_5 (ix4 (trow j) c d e) := by
  refine Eq.trans ?_ (read4 j hj _ _ sliceFits_S128x8x64x64_S1x8x64x64 (fun a => start4 j hj s a (Shape.Idx.first h_S_)) c d e)
  generalize hq : Host.dynamicSlice _ _ _ _ = q
  have h : b33 j s = shapeCast S8x64x64 q shapeCasts_S1x8x64x64_S8x64x64 := by rw [← hq]; rfl
  rw [h]
  pointwise

theorem b38_at (j : ℕ) (hj : j < 128) (s : State Ideal) (c : Fin 8) (d : Fin 64) (e : Fin 128) :
    b38 j s (ix3 c d e) = s.main_v42_6 (ix4 (trow j) c d e) := by
  refine Eq.trans ?_ (read4 j hj _ _ sliceFits_S128x8x64x128_S1x8x64x128 (fun a => start4 j hj s a (Shape.Idx.first h_S_)) c d e)
  generalize hq : Host.dynamicSlice _ _ _ _ = q
  have h : b38 j s = shapeCast S8x64x128 q shapeCasts_S1x8x64x128_S8x64x128 := by rw [← hq]; rfl
  rw [h]
  pointwise

theorem b41_at (j : ℕ) (hj : j < 128) (s : State Ideal) (c : Fin 8) :
    b41 j s (ix1 c) = s.main_v42_7 (ix2 (trow j) c) := by
  refine Eq.trans ?_ (read2 j hj _ _ sliceFits_S128x8_S1x8 (fun a => start2 j hj s a (Shape.Idx.first h_S_)) c)
  generalize hq : Host.dynamicSlice _ _ _ _ = q
  have h : b41 j s = shapeCast S8 q shapeCasts_S1x8_S8 := by rw [← hq]; rfl
  rw [h]
  pointwise

/-! ## What a trip computes -/

/-- The tile trip `j` reads for chain `ch`, off the state's arrays. -/
def stile (j : ℕ) (s : State Ideal) (ch : Fin 8) : Spec.Tile where
  DO i e := s.main_v42_1 (ix4 (trow j) ch i e)
  S d e := s.main_v42_0 (ix4 (trow j) ch d e)
  VN i e := s.main_v42_2 (ix4 (trow j) ch i e) - ∑ d, s.main_v42_3 (ix4 (trow j) ch i d) * s.main_v42_0 (ix4 (trow j) ch d e)
  W i d := s.main_v42_3 (ix4 (trow j) ch i d)
  QG i d := s.main_v42_4 (ix4 (trow j) ch i d)
  KD i d := s.main_v42_6 (ix4 (trow j) ch i d)
  IN i k := s.main_v42_5 (ix4 (trow j) ch i k)
  E _ := Ideal.exp (s.main_v42_7 (ix2 (trow j) ch))

/-- The state's gradient a trip is handed, for chain `ch`. -/
def sgrad (s : State Ideal) (ch : Fin 8) : Spec.Sq := fun d e => s.main_v42_9 (ix3 ch d e)

theorem b43_at (j : ℕ) (hj : j < 128) (s : State Ideal) (c : Fin 8) (i : Fin 64) (e : Fin 128) :
    b43 j s (ix3 c i e) = (stile j s c).VN i e := by
  pointwise [b43, b42]
  simp only [b18_at j hj, b23_at j hj, b8_at j hj]
  rfl

theorem b69_at (j : ℕ) (hj : j < 128) (s : State Ideal) (c : Fin 8) (i : Fin 64) (e : Fin 128) :
    b69 j s (ix3 c i e) = Spec.dvn (stile j s c) (sgrad s c) i e := by
  pointwise [b69, b55, b54, b51, b68, b67]
  simp only [b38_at j hj, b13_at j hj, b33_at j hj]
  unfold Spec.dvn
  rw [add_comm]
  refine congrArg₂ (· + ·) (Finset.sum_congr rfl fun k _ => mul_comm _ _) (Finset.sum_congr rfl fun k _ => mul_comm _ _)

theorem b74_at (j : ℕ) (hj : j < 128) (s : State Ideal) (c : Fin 8) (i : Fin 64) (d : Fin 128) :
    b74 j s (ix3 c i d) = Spec.dqg (stile j s c) i d := by
  pointwise [b74]
  simp only [b13_at j hj, b8_at j hj]
  rfl

theorem b57_at (j : ℕ) (hj : j < 128) (s : State Ideal) (c : Fin 8) (i : Fin 64) (d : Fin 128) :
    b57 j s (ix3 c i d) = Spec.dkd (stile j s c) (sgrad s c) i d := by
  pointwise [b57, b56]
  simp only [b43_at j hj]
  exact Finset.sum_congr rfl fun k _ => mul_comm _ _

theorem b66_at (j : ℕ) (hj : j < 128) (s : State Ideal) (c : Fin 8) (l : Fin 128) :
    b66 j s (ix1 c) = Spec.dgl (stile j s c) (sgrad s c) l := by
  pointwise [b66, b65, b64, b61, b60, b59, b58, b47]
  simp only [b8_at j hj, b41_at j hj, Fintype.sum_unique]
  exact mul_comm _ _

theorem b79_at (j : ℕ) (hj : j < 128) (s : State Ideal) (c : Fin 8) (i : Fin 64) (d : Fin 128) :
    b79 j s (ix3 c i d) = ∑ e, (-Spec.dvn (stile j s c) (sgrad s c) i e) * (stile j s c).S d e := by
  pointwise [b79, b75]
  simp only [b8_at j hj, b69_at j hj]
  rfl

theorem b78_at (j : ℕ) (hj : j < 128) (s : State Ideal) (c : Fin 8) (d e : Fin 128) :
    b78 j s (ix3 c d e) = ((∑ i, (stile j s c).QG i d * (stile j s c).DO i e) + (stile j s c).E e * sgrad s c d e)
      + ∑ i, (-Spec.dvn (stile j s c) (sgrad s c) i e) * (stile j s c).W i d := by
  pointwise [b78, b73, b63, b62, b48, b47, b72, b71, b77, b76, b75]
  simp only [b23_at j hj, b28_at j hj, b13_at j hj, b41_at j hj, b69_at j hj]
  refine congrArg₂ (· + ·) ?_ rfl
  rw [add_comm]
  exact congrArg₂ (· + ·) (Finset.sum_congr rfl fun k _ => mul_comm _ _) (mul_comm _ _)

/-! ## The rows written trip by trip -/

/-- An array whose row `trow n` is set at trip `n` and that is otherwise kept holds, after all the trips, each row as
    the trip that set it left it. -/
theorem rows_kept {α : Type} (f : ℕ → Fin 128 → α) (g : ℕ → α)
    (hf : ∀ n, n < 128 → ∀ r, f (n + 1) r = if r = trow n then g n else f n r) (r : Fin 128) : f 128 r = g (127 - r.val) := by
  have key : ∀ n, n ≤ 128 → ∀ r : Fin 128, 128 ≤ r.val + n → f n r = g (127 - r.val) := by
    intro n
    induction n with
    | zero => intro _ r hr; exact absurd r.isLt (by omega)
    | succ n ih =>
      intro hn r hr
      rw [hf n (by omega) r]
      have ht := trow_val n (by omega)
      by_cases h : r = trow n
      · rw [if_pos h]
        refine congrArg g ?_
        rw [h, ht]; omega
      · rw [if_neg h]
        refine ih (by omega) r ?_
        by_contra hc
        exact h (Fin.ext (by rw [ht]; omega))
  exact key 128 (le_refl _) r (by omega)

section Run
variable (A : Spec.Args)

/-- The states of the reference's loop. -/
def iter : ℕ → State Ideal
  | 0 => init (F := Ideal) A.a0 A.a1 A.a2 A.a3 A.a4 A.a5 A.a6 A.a7
  | n + 1 => step n (iter n)

theorem iter_0 (n : ℕ) : (iter A n).main_v42_0 = A_main_v31 (F := Ideal) A.a0 A.a1 A.a2 A.a3 A.a4 A.a5 A.a6 A.a7 := by
  induction n with | zero => rfl | succ n ih => exact ih
theorem iter_1 (n : ℕ) : (iter A n).main_v42_1 = A_main_v35 (F := Ideal) A.a0 A.a1 A.a2 A.a3 A.a4 A.a5 A.a6 A.a7 := by
  induction n with | zero => rfl | succ n ih => exact ih
theorem iter_2 (n : ℕ) : (iter A n).main_v42_2 = A_main_v7 (F := Ideal) A.a0 A.a1 A.a2 A.a3 A.a4 A.a5 A.a6 A.a7 := by
  induction n with | zero => rfl | succ n ih => exact ih
theorem iter_3 (n : ℕ) : (iter A n).main_v42_3 = A_main_v11 (F := Ideal) A.a0 A.a1 A.a2 A.a3 A.a4 A.a5 A.a6 A.a7 := by
  induction n with | zero => rfl | succ n ih => exact ih
theorem iter_4 (n : ℕ) : (iter A n).main_v42_4 = A_main_v15 (F := Ideal) A.a0 A.a1 A.a2 A.a3 A.a4 A.a5 A.a6 A.a7 := by
  induction n with | zero => rfl | succ n ih => exact ih
theorem iter_5 (n : ℕ) : (iter A n).main_v42_5 = A_main_v19 (F := Ideal) A.a0 A.a1 A.a2 A.a3 A.a4 A.a5 A.a6 A.a7 := by
  induction n with | zero => rfl | succ n ih => exact ih
theorem iter_6 (n : ℕ) : (iter A n).main_v42_6 = A_main_v23 (F := Ideal) A.a0 A.a1 A.a2 A.a3 A.a4 A.a5 A.a6 A.a7 := by
  induction n with | zero => rfl | succ n ih => exact ih
theorem iter_7 (n : ℕ) : (iter A n).main_v42_7 = A_main_v27 (F := Ideal) A.a0 A.a1 A.a2 A.a3 A.a4 A.a5 A.a6 A.a7 := by
  induction n with | zero => rfl | succ n ih => exact ih

/-- The row of the scan's arrays in which chain `ch` keeps chunk `c` — and, its own inverse, the chunk of a row. -/
def rowFor (c : Fin 128) (ch : Fin 8) : Fin 128 := if ch.val < 4 then c else c.rev

theorem rowFor_trow (j : ℕ) (hj : j < 128) (ch : Fin 8) : rowFor (trow j) ch = Spec.chunkOf ch j := by
  have ht := trow_val j hj
  unfold rowFor Spec.chunkOf
  split
  · exact Fin.ext (by simp only []; rw [ht]; omega)
  · exact Fin.ext (by rw [Fin.val_rev, ht]; simp only []; omega)

theorem step_rowFor (c : Fin 128) (ch : Fin 8) : 127 - (rowFor c ch).val = Spec.stepOf ch c := by
  unfold rowFor Spec.stepOf
  split
  · rfl
  · rw [Fin.val_rev]; omega

theorem idx4 {s : Fin 4 → ℕ} {α : Type} (x : (⟨4, s⟩ : Shape).Idx → α) {i i' : (⟨4, s⟩ : Shape).Idx} (h : ∀ a, (i a).val = (i' a).val) :
    x i = x i' := congrArg x (funext fun a => Fin.ext (h a))

theorem a31 (r : Fin 128) (ch : Fin 8) (i : Fin 128) (e : Fin 128) :
    A_main_v31 (F := Ideal) A.a0 A.a1 A.a2 A.a3 A.a4 A.a5 A.a6 A.a7 (ix4 r ch i e) = A.a1 (ix4 (rowFor r ch) ch i e) := by
  pointwise [A_main_v31, A_main_v30, A_main_v29, A_main_v28]
  unfold rowFor
  by_cases h : ch.val < 4
  · rw [dif_pos h, if_pos h]
  · rw [dif_neg h, if_neg h]
    refine idx4 A.a1 fun a => ?_
    match a with
    | ⟨0, _⟩ => rfl
    | ⟨1, _⟩ => show 4 + (ch.val - 4) = ch.val; omega
    | ⟨2, _⟩ => rfl
    | ⟨3, _⟩ => rfl

theorem a7 (r : Fin 128) (ch : Fin 8) (i : Fin 64) (e : Fin 128) :
    A_main_v7 (F := Ideal) A.a0 A.a1 A.a2 A.a3 A.a4 A.a5 A.a6 A.a7 (ix4 r ch i e) = A.a2 (ix4 (rowFor r ch) ch i e) := by
  pointwise [A_main_v7, A_main_v6, A_main_v5, A_main_v4]
  unfold rowFor
  by_cases h : ch.val < 4
  · rw [dif_pos h, if_pos h]
  · rw [dif_neg h, if_neg h]
    refine idx4 A.a2 fun a => ?_
    match a with
    | ⟨0, _⟩ => rfl
    | ⟨1, _⟩ => show 4 + (ch.val - 4) = ch.val; omega
    | ⟨2, _⟩ => rfl
    | ⟨3, _⟩ => rfl

theorem a11 (r : Fin 128) (ch : Fin 8) (i : Fin 64) (e : Fin 128) :
    A_main_v11 (F := Ideal) A.a0 A.a1 A.a2 A.a3 A.a4 A.a5 A.a6 A.a7 (ix4 r ch i e) = A.a3 (ix4 (rowFor r ch) ch i e) := by
  pointwise [A_main_v11, A_main_v10, A_main_v9, A_main_v8]
  unfold rowFor
  by_cases h : ch.val < 4
  · rw [dif_pos h, if_pos h]
  · rw [dif_neg h, if_neg h]
    refine idx4 A.a3 fun a => ?_
    match a with
    | ⟨0, _⟩ => rfl
    | ⟨1, _⟩ => show 4 + (ch.val - 4) = ch.val; omega
    | ⟨2, _⟩ => rfl
    | ⟨3, _⟩ => rfl

theorem a15 (r : Fin 128) (ch : Fin 8) (i : Fin 64) (e : Fin 128) :
    A_main_v15 (F := Ideal) A.a0 A.a1 A.a2 A.a3 A.a4 A.a5 A.a6 A.a7 (ix4 r ch i e) = A.a4 (ix4 (rowFor r ch) ch i e) := by
  pointwise [A_main_v15, A_main_v14, A_main_v13, A_main_v12]
  unfold rowFor
  by_cases h : ch.val < 4
  · rw [dif_pos h, if_pos h]
  · rw [dif_neg h, if_neg h]
    refine idx4 A.a4 fun a => ?_
    match a with
    | ⟨0, _⟩ => rfl
    | ⟨1, _⟩ => show 4 + (ch.val - 4) = ch.val; omega
    | ⟨2, _⟩ => rfl
    | ⟨3, _⟩ => rfl

theorem a19 (r : Fin 128) (ch : Fin 8) (i : Fin 64) (e : Fin 64) :
    A_main_v19 (F := Ideal) A.a0 A.a1 A.a2 A.a3 A.a4 A.a5 A.a6 A.a7 (ix4 r ch i e) = A.a5 (ix4 (rowFor r ch) ch i e) := by
  pointwise [A_main_v19, A_main_v18, A_main_v17, A_main_v16]
  unfold rowFor
  by_cases h : ch.val < 4
  · rw [dif_pos h, if_pos h]
  · rw [dif_neg h, if_neg h]
    refine idx4 A.a5 fun a => ?_
    match a with
    | ⟨0, _⟩ => rfl
    | ⟨1, _⟩ => show 4 + (ch.val - 4) = ch.val; omega
    | ⟨2, _⟩ => rfl
    | ⟨3, _⟩ => rfl

theorem a23 (r : Fin 128) (ch : Fin 8) (i : Fin 64) (e : Fin 128) :
    A_main_v23 (F := Ideal) A.a0 A.a1 A.a2 A.a3 A.a4 A.a5 A.a6 A.a7 (ix4 r ch i e) = A.a6 (ix4 (rowFor r ch) ch i e) := by
  pointwise [A_main_v23, A_main_v22, A_main_v21, A_main_v20]
  unfold rowFor
  by_cases h : ch.val < 4
  · rw [dif_pos h, if_pos h]
  · rw [dif_neg h, if_neg h]
    refine idx4 A.a6 fun a => ?_
    match a with
    | ⟨0, _⟩ => rfl
    | ⟨1, _⟩ => show 4 + (ch.val - 4) = ch.val; omega
    | ⟨2, _⟩ => rfl
    | ⟨3, _⟩ => rfl

theorem a27 (r : Fin 128) (ch : Fin 8) : A_main_v27 (F := Ideal) A.a0 A.a1 A.a2 A.a3 A.a4 A.a5 A.a6 A.a7 (ix2 r ch) = A.a7 (ix2 (rowFor r ch) ch) := by
  pointwise [A_main_v27, A_main_v26, A_main_v25, A_main_v24]
  unfold rowFor
  by_cases h : ch.val < 4
  · rw [dif_pos h, if_pos h]
  · rw [dif_neg h, if_neg h]
    refine congrArg A.a7 (funext fun a => Fin.ext ?_)
    match a with
    | ⟨0, _⟩ => rfl
    | ⟨1, _⟩ => show 4 + (ch.val - 4) = ch.val; omega

theorem a35 (r : Fin 128) (ch : Fin 8) (i : Fin 64) (e : Fin 128) :
    A_main_v35 (F := Ideal) A.a0 A.a1 A.a2 A.a3 A.a4 A.a5 A.a6 A.a7 (ix4 r ch i e) = A.a0 (ix2 (Spec.rowOf (rowFor r ch) i) (Spec.colOf ch e)) := by
  have hlt := ch.isLt
  pointwise [A_main_v35, A_main_v34, A_main_v33, A_main_v32, A_main_v2, A_main_v1, A_main_v0]
  unfold rowFor
  by_cases h : ch.val < 4
  · rw [dif_pos h, dif_pos h, if_pos h]
    refine congrArg A.a0 (funext fun a => Fin.ext ?_)
    match a with
    | ⟨0, _⟩ => show r.val * 64 + i.val = 64 * r.val + i.val; omega
    | ⟨1, _⟩ => show ch.val * 128 + e.val = 128 * (ch.val % 4) + e.val; omega
  · rw [dif_neg h, if_neg h]
    refine congrArg A.a0 (funext fun a => Fin.ext ?_)
    match a with
    | ⟨0, _⟩ => show r.rev.val * 64 + i.val = 64 * r.rev.val + i.val; omega
    | ⟨1, _⟩ => show (ch.val - 4) * 128 + e.val = 128 * (ch.val % 4) + e.val; omega

/-- The tile trip `j` reads. -/
theorem stile_eq (j : ℕ) (hj : j < 128) (ch : Fin 8) : stile j (iter A j) ch = Spec.tileAt A (Spec.chunkOf ch j) ch := by
  unfold stile Spec.tileAt
  simp only [iter_0, iter_1, iter_2, iter_3, iter_4, iter_5, iter_6, iter_7, a31, a7, a11, a15, a19, a23, a27, a35,
    rowFor_trow j hj]

variable (hA : Finite.TameArgs A)
include hA

/-- The state's gradient trip `j` is handed. -/
theorem sgrad_eq (ch : Fin 8) : ∀ j, j ≤ 128 → sgrad (iter A j) ch = Spec.gradAt A ch j
  | 0, _ => by
    funext d e
    show K_main_v3 (F := Ideal) (ix3 ch d e) = 0
    pointwise [K_main_v3]
    exact Ideal.ofBits_zero_f32
  | j + 1, hj => by
    have hj' : j < 128 := by omega
    funext d e
    show b78 j (iter A j) (ix3 ch d e) = _
    rw [b78_at j hj', stile_eq A j hj', sgrad_eq ch j (by omega),
      Finite.sum_neg_mul (fun i => Finite.tame_dvn (Finite.tame_tile hA _ _) (Finite.tame_grad hA ch j) _ _)
        (fun i => (Finite.tame_tile hA _ _).W _ _), ← sub_eq_add_neg]
    show _ = Spec.next _ _ d e
    unfold Spec.next
    refine congrArg₂ (· - ·) rfl (Finset.sum_congr rfl fun i _ => mul_comm _ _)

/-! ## The gradients after all the trips, by row -/

theorem kept_du (r : Fin 128) (ch : Fin 8) (i : Fin 64) (e : Fin 128) :
    (iter A 128).main_v42_10 (ix4 r ch i e) = Spec.dvn (Spec.tileAt A (Spec.chunkOf ch (127 - r.val)) ch) (Spec.gradAt A ch (127 - r.val)) i e := by
  refine rows_kept (fun n r => (iter A n).main_v42_10 (ix4 r ch i e))
    (fun n => Spec.dvn (Spec.tileAt A (Spec.chunkOf ch n) ch) (Spec.gradAt A ch n) i e) (fun n hn r => ?_) r
  show b84 n (iter A n) (ix4 r ch i e) = _
  refine (write4 n hn _ _ _ _ (fun a => start4 n hn _ a (Shape.Idx.first h_S_)) r ch i e).trans ?_
  refine if_congr Iff.rfl ?_ rfl
  pointwise [b80]
  rw [b69_at n hn, stile_eq A n hn, sgrad_eq A hA ch n (by omega)]

theorem kept_dw (r : Fin 128) (ch : Fin 8) (i : Fin 64) (e : Fin 128) :
    (iter A 128).main_v42_11 (ix4 r ch i e) = Spec.dw (Spec.tileAt A (Spec.chunkOf ch (127 - r.val)) ch) (Spec.gradAt A ch (127 - r.val)) i e := by
  refine rows_kept (fun n r => (iter A n).main_v42_11 (ix4 r ch i e))
    (fun n => Spec.dw (Spec.tileAt A (Spec.chunkOf ch n) ch) (Spec.gradAt A ch n) i e) (fun n hn r => ?_) r
  show b89 n (iter A n) (ix4 r ch i e) = _
  refine (write4 n hn _ _ _ _ (fun a => start4 n hn _ a (Shape.Idx.first h_S_)) r ch i e).trans ?_
  refine if_congr Iff.rfl ?_ rfl
  pointwise [b85]
  rw [b79_at n hn, stile_eq A n hn, sgrad_eq A hA ch n (by omega)]
  rw [Finite.sum_neg_mul (fun e => Finite.tame_dvn (Finite.tame_tile hA _ _) (Finite.tame_grad hA ch n) _ _)
      (fun e => (Finite.tame_tile hA _ _).S _ _)]
  exact (zero_sub _).symm

theorem kept_dqg (r : Fin 128) (ch : Fin 8) (i : Fin 64) (e : Fin 128) :
    (iter A 128).main_v42_12 (ix4 r ch i e) = Spec.dqg (Spec.tileAt A (Spec.chunkOf ch (127 - r.val)) ch) i e := by
  refine rows_kept (fun n r => (iter A n).main_v42_12 (ix4 r ch i e))
    (fun n => Spec.dqg (Spec.tileAt A (Spec.chunkOf ch n) ch) i e) (fun n hn r => ?_) r
  show b94 n (iter A n) (ix4 r ch i e) = _
  refine (write4 n hn _ _ _ _ (fun a => start4 n hn _ a (Shape.Idx.first h_S_)) r ch i e).trans ?_
  refine if_congr Iff.rfl ?_ rfl
  pointwise [b90]
  rw [b74_at n hn, stile_eq A n hn]

theorem kept_dkd (r : Fin 128) (ch : Fin 8) (i : Fin 64) (e : Fin 128) :
    (iter A 128).main_v42_14 (ix4 r ch i e) = Spec.dkd (Spec.tileAt A (Spec.chunkOf ch (127 - r.val)) ch) (Spec.gradAt A ch (127 - r.val)) i e := by
  refine rows_kept (fun n r => (iter A n).main_v42_14 (ix4 r ch i e))
    (fun n => Spec.dkd (Spec.tileAt A (Spec.chunkOf ch n) ch) (Spec.gradAt A ch n) i e) (fun n hn r => ?_) r
  show b104 n (iter A n) (ix4 r ch i e) = _
  refine (write4 n hn _ _ _ _ (fun a => start4 n hn _ a (Shape.Idx.first h_S_)) r ch i e).trans ?_
  refine if_congr Iff.rfl ?_ rfl
  pointwise [b100]
  rw [b57_at n hn, stile_eq A n hn, sgrad_eq A hA ch n (by omega)]

theorem kept_dgl (r : Fin 128) (ch : Fin 8) (l : Fin 128) :
    (iter A 128).main_v42_15 (ix2 r ch) = Spec.dgl (Spec.tileAt A (Spec.chunkOf ch (127 - r.val)) ch) (Spec.gradAt A ch (127 - r.val)) l := by
  refine rows_kept (fun n r => (iter A n).main_v42_15 (ix2 r ch))
    (fun n => Spec.dgl (Spec.tileAt A (Spec.chunkOf ch n) ch) (Spec.gradAt A ch n) l) (fun n hn r => ?_) r
  show b107 n (iter A n) (ix2 r ch) = _
  refine (write2 n hn _ _ _ _ (fun a => start2 n hn _ a (Shape.Idx.first h_S_)) r ch).trans ?_
  refine if_congr Iff.rfl ?_ rfl
  pointwise [b105]
  rw [b66_at n hn _ _ l, stile_eq A n hn, sgrad_eq A hA ch n (by omega)]

/-! ## The results -/

omit hA in
theorem tile_row (c : Fin 128) (ch : Fin 8) :
    Spec.tileAt A (Spec.chunkOf ch (127 - (rowFor c ch).val)) ch = Spec.tileAt A c ch := by
  rw [step_rowFor, Spec.chunkOf_stepOf]

omit hA in
theorem grad_row (c : Fin 128) (ch : Fin 8) :
    Spec.gradAt A ch (127 - (rowFor c ch).val) = Spec.gradFor A c ch := by
  rw [step_rowFor]; rfl

/-- The chain of head `h` in direction `d`. -/
def chainF (h : Fin 4) : Fin 8 := ⟨h.val, by omega⟩
def chainB (h : Fin 4) : Fin 8 := ⟨4 + h.val, by omega⟩

omit hA in
theorem rowF (c : Fin 128) (h : Fin 4) : rowFor c (chainF h) = c := if_pos h.isLt
omit hA in
theorem rowB (c : Fin 128) (h : Fin 4) : rowFor c (chainB h) = c.rev := if_neg (by show ¬ (4 + h.val < 4); omega)

theorem r71 (c : Fin 128) (h : Fin 4) (i : Fin 64) (e : Fin 128) :
    R_main_v71 (iter A 128) (ix4 c h i e) = Spec.dvn (Spec.tileAt A c (chainF h)) (Spec.gradFor A c (chainF h)) i e := by
  have hk := kept_du A hA (rowFor c (chainF h)) (chainF h) i e
  rw [tile_row, grad_row, rowF] at hk
  rw [← hk]
  pointwise [R_main_v71]
  rfl

theorem r72 (c : Fin 128) (h : Fin 4) (i : Fin 64) (e : Fin 128) :
    R_main_v72 (iter A 128) (ix4 c h i e) = Spec.dvn (Spec.tileAt A c (chainB h)) (Spec.gradFor A c (chainB h)) i e := by
  have hk := kept_du A hA (rowFor c (chainB h)) (chainB h) i e
  rw [tile_row, grad_row, rowB] at hk
  rw [← hk]
  pointwise [R_main_v72]
  rfl

theorem r73 (c : Fin 128) (h : Fin 4) (i : Fin 64) (e : Fin 128) :
    R_main_v73 (iter A 128) (ix4 c h i e) = Spec.dw (Spec.tileAt A c (chainF h)) (Spec.gradFor A c (chainF h)) i e := by
  have hk := kept_dw A hA (rowFor c (chainF h)) (chainF h) i e
  rw [tile_row, grad_row, rowF] at hk
  rw [← hk]
  pointwise [R_main_v73]
  rfl

theorem r74 (c : Fin 128) (h : Fin 4) (i : Fin 64) (e : Fin 128) :
    R_main_v74 (iter A 128) (ix4 c h i e) = Spec.dw (Spec.tileAt A c (chainB h)) (Spec.gradFor A c (chainB h)) i e := by
  have hk := kept_dw A hA (rowFor c (chainB h)) (chainB h) i e
  rw [tile_row, grad_row, rowB] at hk
  rw [← hk]
  pointwise [R_main_v74]
  rfl

theorem r75 (c : Fin 128) (h : Fin 4) (i : Fin 64) (e : Fin 128) :
    R_main_v75 (iter A 128) (ix4 c h i e) = Spec.dqg (Spec.tileAt A c (chainF h)) i e := by
  have hk := kept_dqg A hA (rowFor c (chainF h)) (chainF h) i e
  rw [tile_row, rowF] at hk
  rw [← hk]
  pointwise [R_main_v75]
  rfl

theorem r76 (c : Fin 128) (h : Fin 4) (i : Fin 64) (e : Fin 128) :
    R_main_v76 (iter A 128) (ix4 c h i e) = Spec.dqg (Spec.tileAt A c (chainB h)) i e := by
  have hk := kept_dqg A hA (rowFor c (chainB h)) (chainB h) i e
  rw [tile_row, rowB] at hk
  rw [← hk]
  pointwise [R_main_v76]
  rfl

theorem r77 (c : Fin 128) (h : Fin 4) (i : Fin 64) (e : Fin 128) :
    R_main_v77 (iter A 128) (ix4 c h i e) = Spec.dkd (Spec.tileAt A c (chainF h)) (Spec.gradFor A c (chainF h)) i e := by
  have hk := kept_dkd A hA (rowFor c (chainF h)) (chainF h) i e
  rw [tile_row, grad_row, rowF] at hk
  rw [← hk]
  pointwise [R_main_v77]
  rfl

theorem r78 (c : Fin 128) (h : Fin 4) (i : Fin 64) (e : Fin 128) :
    R_main_v78 (iter A 128) (ix4 c h i e) = Spec.dkd (Spec.tileAt A c (chainB h)) (Spec.gradFor A c (chainB h)) i e := by
  have hk := kept_dkd A hA (rowFor c (chainB h)) (chainB h) i e
  rw [tile_row, grad_row, rowB] at hk
  rw [← hk]
  pointwise [R_main_v78]
  rfl

theorem r79 (c : Fin 128) (h : Fin 4) (l : Fin 128) :
    R_main_v79 (iter A 128) (ix3 c h l) = Spec.dgl (Spec.tileAt A c (chainF h)) (Spec.gradFor A c (chainF h)) l := by
  have hk := kept_dgl A hA (rowFor c (chainF h)) (chainF h) l
  rw [tile_row, grad_row, rowF] at hk
  rw [← hk]
  pointwise [R_main_v79]
  rfl

theorem r80 (c : Fin 128) (h : Fin 4) (l : Fin 128) :
    R_main_v80 (iter A 128) (ix3 c h l) = Spec.dgl (Spec.tileAt A c (chainB h)) (Spec.gradFor A c (chainB h)) l := by
  have hk := kept_dgl A hA (rowFor c (chainB h)) (chainB h) l
  rw [tile_row, grad_row, rowB] at hk
  rw [← hk]
  pointwise [R_main_v80]
  rfl

end Run

end Cert.Proof.RefSide

end
-- ==== Proof.RefArrays.lean ====
/-
  The reference's ten results, as whole gradients of the specification: the counterpart of what the kernel's arrays hold.
-/
module

public import proofs.«01_k».proof.Proof.Arrays
public import proofs.«01_k».proof.Proof.RefRun
public import proofs.«01_k».proof.Proof.RefSide

@[expose] public section

noncomputable section

namespace Cert.Proof.RefArrays

open Idealize.ShloMosaic Idealize.ShloMosaic.TcCoe Idealize.SL.Sem
open Cert.Proof.Arrays Cert.Proof.RefSide
open Cert.ReferenceIdeal
open Cert.ReferenceIdeal.Step (R_main_v71 R_main_v72 R_main_v73 R_main_v74 R_main_v75 R_main_v76 R_main_v77 R_main_v78 R_main_v79 R_main_v80)

variable (A : Spec.Args) (hA : Finite.TameArgs A)

include hA

theorem w71 : R_main_v71 (iter A 128) = whole4 A Spec.dvn false := by
  funext y
  rw [eq_ix4 y]
  exact r71 A hA _ _ _ _

theorem w72 : R_main_v72 (iter A 128) = whole4 A Spec.dvn true := by
  funext y
  rw [eq_ix4 y]
  exact r72 A hA _ _ _ _

theorem w73 : R_main_v73 (iter A 128) = whole4 A Spec.dw false := by
  funext y
  rw [eq_ix4 y]
  exact r73 A hA _ _ _ _

theorem w74 : R_main_v74 (iter A 128) = whole4 A Spec.dw true := by
  funext y
  rw [eq_ix4 y]
  exact r74 A hA _ _ _ _

theorem w75 : R_main_v75 (iter A 128) = whole4 A (fun T _ => Spec.dqg T) false := by
  funext y
  rw [eq_ix4 y]
  exact r75 A hA _ _ _ _

theorem w76 : R_main_v76 (iter A 128) = whole4 A (fun T _ => Spec.dqg T) true := by
  funext y
  rw [eq_ix4 y]
  exact r76 A hA _ _ _ _

theorem w77 : R_main_v77 (iter A 128) = whole4 A Spec.dkd false := by
  funext y
  rw [eq_ix4 y]
  exact r77 A hA _ _ _ _

theorem w78 : R_main_v78 (iter A 128) = whole4 A Spec.dkd true := by
  funext y
  rw [eq_ix4 y]
  exact r78 A hA _ _ _ _

theorem w79 : R_main_v79 (iter A 128) = whole3 A Spec.dgl false := by
  funext y
  rw [eq_ix3 y]
  exact r79 A hA _ _ _

theorem w80 : R_main_v80 (iter A 128) = whole3 A Spec.dgl true := by
  funext y
  rw [eq_ix3 y]
  exact r80 A hA _ _ _

omit hA in
/-- The reference run: if the memory keeps the arrays `A c` as its arguments and these are finite, the results are the
    specification's gradients of them and the arguments are unchanged. -/
theorem run_values (A : Dev nD → Spec.Args) (hA : ∀ c, Finite.TameArgs (A c)) (m : (ℓ : Loc nD τ sig) → Buf (Elt Ideal) ℓ)
    (ρ : Dev nD → PrngReg)
    (hm : ∀ c : Dev nD, m ((c.tc : Thread nD τ).loc main_arg0) = (A c).a0
      ∧ m ((c.tc : Thread nD τ).loc main_arg1) = (A c).a1
      ∧ m ((c.tc : Thread nD τ).loc main_arg2) = (A c).a2
      ∧ m ((c.tc : Thread nD τ).loc main_arg3) = (A c).a3
      ∧ m ((c.tc : Thread nD τ).loc main_arg4) = (A c).a4
      ∧ m ((c.tc : Thread nD τ).loc main_arg5) = (A c).a5
      ∧ m ((c.tc : Thread nD τ).loc main_arg6) = (A c).a6
      ∧ m ((c.tc : Thread nD τ).loc main_arg7) = (A c).a7) :
    θ_run (defs (F := Ideal)) (onTc (τ := τ) (main (F := Ideal))) ⟨m, fun _ => 0, ρ⟩ fun r => ∀ c : Dev nD,
      r.2.mem ((c.tc : Thread nD τ).loc main_v71) = whole4 (A c) Spec.dvn false
      ∧ r.2.mem ((c.tc : Thread nD τ).loc main_v72) = whole4 (A c) Spec.dvn true
      ∧ r.2.mem ((c.tc : Thread nD τ).loc main_v73) = whole4 (A c) Spec.dw false
      ∧ r.2.mem ((c.tc : Thread nD τ).loc main_v74) = whole4 (A c) Spec.dw true
      ∧ r.2.mem ((c.tc : Thread nD τ).loc main_v75) = whole4 (A c) (fun T _ => Spec.dqg T) false
      ∧ r.2.mem ((c.tc : Thread nD τ).loc main_v76) = whole4 (A c) (fun T _ => Spec.dqg T) true
      ∧ r.2.mem ((c.tc : Thread nD τ).loc main_v77) = whole4 (A c) Spec.dkd false
      ∧ r.2.mem ((c.tc : Thread nD τ).loc main_v78) = whole4 (A c) Spec.dkd true
      ∧ r.2.mem ((c.tc : Thread nD τ).loc main_v79) = whole3 (A c) Spec.dgl false
      ∧ r.2.mem ((c.tc : Thread nD τ).loc main_v80) = whole3 (A c) Spec.dgl true
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun r h c => ?_) (Cert.Proof.RefRun.run_iter m ρ (fun c => iter (A c)) (fun c => ?_) (fun _ _ => rfl))
  · obtain ⟨h71, h72, h73, h74, h75, h76, h77, h78, h79, h80, rest⟩ := h c
    exact ⟨h71.trans (w71 (A c) (hA c)), h72.trans (w72 (A c) (hA c)), h73.trans (w73 (A c) (hA c)), h74.trans (w74 (A c) (hA c)), h75.trans (w75 (A c) (hA c)), h76.trans (w76 (A c) (hA c)), h77.trans (w77 (A c) (hA c)), h78.trans (w78 (A c) (hA c)), h79.trans (w79 (A c) (hA c)), h80.trans (w80 (A c) (hA c)), rest⟩
  · obtain ⟨e0, e1, e2, e3, e4, e5, e6, e7⟩ := hm c
    unfold Cert.Proof.RefRun.initState
    rw [e0, e1, e2, e3, e4, e5, e6, e7]
    rfl

end Cert.Proof.RefArrays

end
-- ==== Proof.WeightGrad.lean ====
/-
  The partial gradient of an FFN weight: the kernel's two half sums over the tokens are the whole contraction.
-/
module

public import proofs.«01_k».proof.Proof.Gen.Kernel3Ideal.Value
public import proofs.«01_k».proof.Proof.Gen.Reference3Ideal.Run
public import proofs.«01_k».proof.Proof.Gen.Kernel3.Frame
public import proofs.«01_k».proof.Defs
public import Idealize.ShloMosaic.Adequacy
public import Idealize.ShloMosaic.Init
public import Idealize.ShloMosaic.Lib.Quiescent
public import Idealize.ShloMosaic.Lib.Claim
public import Idealize.ShloMosaic.Lib.Pipeline.ValueKit

@[expose] public section

set_option maxRecDepth 16384

noncomputable section

namespace Cert.Proof.WeightGrad

open Idealize.ShloMosaic Idealize.ShloMosaic.TcCoe Idealize.ShloMosaic.Tactic Cert.Kernel3Ideal Cert.Kernel3Ideal.Gen
open Idealize.SL.Sem
open Idealize.ShloMosaic.Pipeline (Dat)

variable (m : (ℓ : Loc nD τ sig) → Buf (Elt Ideal) ℓ) (ρ : Dev nD → PrngReg) (c : Dev nD)

/-! ## The blocks a point leaves -/

theorem zero2 : (![0, 0] : Fin 2 → ℕ) = fun _ => 0 := by
  funext k
  match k with
  | ⟨0, _⟩ => rfl
  | ⟨1, _⟩ => rfl

theorem zero3 : (![0, 0, 0] : Fin 3 → ℕ) = fun _ => 0 := by
  funext k
  match k with
  | ⟨0, _⟩ => rfl
  | ⟨1, _⟩ => rfl
  | ⟨2, _⟩ => rfl

/-- The half of the tokens met first leaves its sum in the accumulator. -/
theorem first_half (i : grid0.Coords) (arg1 : Memref sig .tc .vmem S1x4096x704 .bf16) (h1 : arg1.IsWhole) (arg2 : Memref sig .tc .vmem S4096x1024 .bf16) (h2 : arg2.IsWhole)
    (arg3 : Memref sig .tc .vmem S1x704x1024 .bf16) (h3 : arg3.IsWhole) (arg4 : Memref sig .tc .vmem S704x1024 .f32) (h4 : arg4.IsWhole) (hc0 : cond0_0 i) (hc1 : ¬cond0_1 i)
    (x0 : Vec Ideal S1x4096x704 .bf16) (x1 : Vec Ideal S4096x1024 .bf16) :
    sout0_A_0 c i arg1 h1 arg2 h2 arg3 h3 arg4 h4 hc0 hc1 x0 x1 = k0_pay2 k0_pay1 x0 x1 := by
  unfold sout0_A_0
  rw [View.read_writes_eq_canon _ _ _ (scover0_A_0 c i arg1 h1 arg2 h2 arg3 h3 arg4 h4 hc0 hc1 x0 x1)]
  unfold kernelRun0_A
  dsimp only
  (sl_unfold_words)
  rw [View.canon_cons_unit_zero zero2]
  simp only [View.readCov_unit_zero (S := S704x1024) _ zero2, View.readAt_eq_ld, h1.read_unread, h2.read_unread, View.ld_unit_zero (S := S1x4096x704) zero3, View.ld_unit_zero (S := S4096x1024) zero2]

/-- The other half adds its own, and the total is written out. -/
theorem second_half (i : grid0.Coords) (arg1 : Memref sig .tc .vmem S1x4096x704 .bf16) (h1 : arg1.IsWhole) (arg2 : Memref sig .tc .vmem S4096x1024 .bf16) (h2 : arg2.IsWhole)
    (arg3 : Memref sig .tc .vmem S1x704x1024 .bf16) (h3 : arg3.IsWhole) (arg4 : Memref sig .tc .vmem S704x1024 .f32) (h4 : arg4.IsWhole) (hc0 : ¬cond0_0 i) (hc1 : cond0_1 i)
    (x0 : Vec Ideal S1x4096x704 .bf16) (x1 : Vec Ideal S4096x1024 .bf16) (s : Vec Ideal S704x1024 .f32) :
    out0_B_2 c i arg1 h1 arg2 h2 arg3 h3 arg4 h4 hc0 hc1 x0 x1 s = k0_pay3 (k0_pay2 s x0 x1) := by
  unfold out0_B_2
  rw [View.read_writes_eq_canon _ _ _ (cover0_B_2 c i arg1 h1 arg2 h2 arg3 h3 arg4 h4 hc0 hc1 x0 x1 s)]
  unfold kernelRun0_B
  dsimp only
  (sl_unfold_words)
  rw [View.canon_unit_zero zero3]
  simp only [View.readCov_unit_zero (S := S704x1024) _ zero2, View.readAt_eq_ld, h1.read_unread, h2.read_unread, h4.read_unread, View.ld_unit_zero (S := S1x4096x704) zero3, View.ld_unit_zero (S := S4096x1024) zero2, View.ld_unit_zero (S := S704x1024) zero2]

theorem pay2_ix (s : Vec Ideal S704x1024 .f32) (x0 : Vec Ideal S1x4096x704 .bf16) (x1 : Vec Ideal S4096x1024 .bf16) (f : Fin 704) (d : Fin 1024) :
    k0_pay2 s x0 x1 (ix2 f d) = s (ix2 f d) + ∑ k : Fin 4096, x0 (ix3 0 k f) * x1 (ix2 k d) := by
  pointwise [k0_pay2]

theorem pay1_ix (f : Fin 704) (d : Fin 1024) : k0_pay1 (F := Ideal) (ix2 f d) = 0 := by
  pointwise [k0_pay1]

theorem pay3_ix (s : Vec Ideal S704x1024 .f32) (f : Fin 704) (d : Fin 1024) : k0_pay3 s (ix3 0 f d) = s (ix2 f d) := by
  pointwise [k0_pay3]

/-! ## The blocks a point reads -/

theorem V_a : V m c main_v0 = truncf (F := Ideal) .bf16 (m ((c.tc : Thread nD τ).loc main_arg0)) bitsLt_bf16_f32 := by
  unfold_abbrev_sides
  after_results

theorem V_b : V m c main_v1 = truncf (F := Ideal) .bf16 (m ((c.tc : Thread nD τ).loc main_arg1)) bitsLt_bf16_f32 := by
  unfold_abbrev_sides
  after_results

/-- The two arguments at the kernel's shapes. -/
abbrev argA : S4x8192x704.Idx → EReal := m ((c.tc : Thread nD τ).loc main_arg0)
abbrev argB : S8192x1024.Idx → EReal := m ((c.tc : Thread nD τ).loc main_arg1)

theorem read_a (t : Fin cfg0.N) (k : Fin 4096) (f : Fin 704) (j : Fin 4) (r : Fin 8192) (hj : j.val = t.val / 2) (hr : r.val = 4096 * (t.val % 2) + k.val) :
    iblk m c 0 t (ix3 0 k f) = argA m c (ix3 j r f) := by
  have x : ∀ t : Fin cfg0.N, win0_0.index t = ![t.val / 2, t.val % 2, 0] := by decide +kernel
  have ht : t.val < 8 := Nat.lt_of_lt_of_eq t.isLt N_0
  have e1 : iblk m c 0 t (ix3 0 k f) = V m c main_v0 (ix3 j r f) := by
    blk_ext [iblk, x t, hj, hr]
  rw [e1, V_a]
  rfl

theorem read_b (t : Fin cfg0.N) (k : Fin 4096) (d : Fin 1024) (r : Fin 8192) (hr : r.val = 4096 * (t.val % 2) + k.val) :
    iblk m c 1 t (ix2 k d) = argB m c (ix2 r d) := by
  have x : ∀ t : Fin cfg0.N, win0_1.index t = ![t.val % 2, 0] := by decide +kernel
  have ht : t.val < 8 := Nat.lt_of_lt_of_eq t.isLt N_0
  have e1 : iblk m c 1 t (ix2 k d) = V m c main_v1 (ix2 r d) := by
    blk_ext [iblk, x t, hr]
  rw [e1, V_b]
  rfl

/-! ## The whole array -/

/-- The gradient: each entry is a sum over all the tokens. -/
def grad (a : S4x8192x704.Idx → EReal) (b : S8192x1024.Idx → EReal) (y : S4x704x1024.Idx) : EReal :=
  ∑ k : Fin 8192, a (ix3 (y 0) k (y 1)) * b (ix2 k (y 2))

/-- A sum over the tokens is the sums of its halves. -/
theorem sum_halves (f : Fin 8192 → EReal) :
    ∑ k : Fin 8192, f k = (0 + ∑ k : Fin 4096, f ⟨k.val, by omega⟩) + ∑ k : Fin 4096, f ⟨4096 + k.val, by omega⟩ := by
  rw [zero_add]
  exact Fin.sum_univ_add (a := 4096) (b := 4096) f

theorem out_at (t : Fin cfg0.N) (h : t.val % 2 = 1) (f : Fin 704) (d : Fin 1024) (j : Fin 4) (hj : j.val = t.val / 2) :
    (outsAt0 m c t.val t.isLt).1 (ix3 0 f d) = grad (argA m c) (argB m c) (ix3 j f d) := by
  have ht : t.val < 8 := Nat.lt_of_lt_of_eq t.isLt N_0
  have hs : t.val - 1 < cfg0.N := Nat.lt_of_le_of_lt (Nat.sub_le _ _) t.isLt
  have e := outsAt0_A m c ⟨t.val - 1, hs⟩ (by show (t.val - 1) % 2 = 0; omega) (by show ¬(t.val - 1) % 2 = 1; omega)
  rw [outsAt0_B m c t (by omega) h]
  dsimp only at e ⊢
  rw [e]
  dsimp only
  rw [second_half, first_half, pay3_ix, pay2_ix, pay2_ix, pay1_ix]
  unfold grad
  rw [sum_halves]
  refine congrArg₂ _ (congrArg₂ _ rfl (Finset.sum_congr rfl fun k _ => ?_)) (Finset.sum_congr rfl fun k _ => ?_)
  · rw [read_a m c ⟨t.val - 1, hs⟩ k f j ⟨k.val, by omega⟩ (by show j.val = (t.val - 1) / 2; omega) (by show k.val = 4096 * ((t.val - 1) % 2) + k.val; omega),
      read_b m c ⟨t.val - 1, hs⟩ k d ⟨k.val, by omega⟩ (by show k.val = 4096 * ((t.val - 1) % 2) + k.val; omega)]
    rfl
  · rw [read_a m c t k f j ⟨4096 + k.val, by omega⟩ hj (by show 4096 + k.val = 4096 * (t.val % 2) + k.val; omega),
      read_b m c t k d ⟨4096 + k.val, by omega⟩ (by show 4096 + k.val = 4096 * (t.val % 2) + k.val; omega)]
    rfl

theorem arr : (dats m 0 c).arrAt 2 cfg0.N = grad (argA m c) (argB m c) := by
  refine (dats m 0 c).arrAt_eq_of_covers 2 _ (by decide +kernel) fun t hf y => ?_
  have x : ∀ t : Fin cfg0.N, win0_2.index t = ![t.val / 2, 0, 0] := by decide +kernel
  have fl : ∀ t : Fin cfg0.N, (cfg0.win 2).flush t = true → t.val % 2 = 1 := by decide +kernel
  have ht : t.val < 8 := Nat.lt_of_lt_of_eq t.isLt N_0
  have hy : y = ix3 (n0 := 1) (n1 := 704) (n2 := 1024) 0 (y 1) (y 2) := by
    refine (eq_ix3 y).trans (congrArg (fun z : Fin 1 => ix3 (n0 := 1) (n1 := 704) (n2 := 1024) z (y 1) (y 2)) ?_)
    exact Subsingleton.elim (α := Fin 1) _ _
  generalize y 1 = f at hy
  generalize y 2 = d at hy
  subst hy
  blk_simp
  rw [after0_2]
  refine (out_at m c t (fl t hf) f d ⟨t.val / 2, by omega⟩ rfl).trans ?_
  refine congrArg (grad (argA m c) (argB m c)) ?_
  blk_ext [x t]

/-! ## The runs -/

theorem run_values : θ_run defs (onTc (τ := τ) (main (F := Ideal))) ⟨m, fun _ => 0, ρ⟩ fun r => ∀ c : Dev nD,
    r.2.mem ((c.tc : Thread nD τ).loc main_v2) = grad (argA m c) (argB m c)
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun _ h c => ⟨(h c).1.trans ((Cert.Kernel3Ideal.Value.final2 m c).symm.trans (arr m c)), (h c).2⟩) (Cert.Kernel3Ideal.Value.run m ρ)

theorem ref_ix (h : Cert.Reference3Ideal.S4x8192x704.Transposes [0, 2, 1] Cert.Reference3Ideal.S4x704x8192)
    (a : FVec Ideal Cert.Reference3Ideal.S4x8192x704 .f32) (b : FVec Ideal Cert.Reference3Ideal.S8192x1024 .f32) :
    truncf (F := Ideal) .bf16 (Host.dotGeneral (F := Ideal) Cert.Reference3Ideal.dot_S4x704x8192_S8192x1024_S4x704x1024_2_0_01_1_n_n none
      (transpose Cert.Reference3Ideal.S4x704x8192 [0, 2, 1] a h) b) bitsLt_bf16_f32
    = grad a b := by
  funext y
  rw [eq_ix3 y]
  pointwise
  rfl

theorem ref_values (m' : (ℓ : Loc Cert.Reference3Ideal.nD Cert.Reference3Ideal.τ Cert.Reference3Ideal.sig) → Buf (Elt Ideal) ℓ) (ρ' : Dev Cert.Reference3Ideal.nD → PrngReg)
    (agree : ∀ c : Dev nD, m' ((c.tc : Thread Cert.Reference3Ideal.nD Cert.Reference3Ideal.τ).loc Cert.Reference3Ideal.main_arg0) = m ((c.tc : Thread nD τ).loc main_arg0)
      ∧ m' ((c.tc : Thread Cert.Reference3Ideal.nD Cert.Reference3Ideal.τ).loc Cert.Reference3Ideal.main_arg1) = m ((c.tc : Thread nD τ).loc main_arg1)) :
    θ_run Cert.Reference3Ideal.defs (onTc (τ := Cert.Reference3Ideal.τ) (Cert.Reference3Ideal.main (F := Ideal))) ⟨m', fun _ => 0, ρ'⟩ fun r => ∀ c : Dev Cert.Reference3Ideal.nD,
      r.2.mem ((c.tc : Thread Cert.Reference3Ideal.nD Cert.Reference3Ideal.τ).loc Cert.Reference3Ideal.main_v5) = grad (argA m c) (argB m c)
      ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1) :=
  (θ_run Cert.Reference3Ideal.defs _ _).mono (fun _ h c => ⟨(h c).1.trans ((ref_ix _ _ _).trans (congrArg₂ grad (agree c).1 (agree c).2)), (h c).2⟩)
    (Cert.Reference3Ideal.Value.run (F := Ideal) m' ρ')

/-! ## The claims -/

/-- The kernel, at the chip's own numbers, runs, leaves its arguments alone and its semaphores at zero. -/
theorem kernel_frame : Cert.quiescent_Kernel3 := fun m ρ _ => Cert.Kernel3.Gen.frame m ρ

/-- The same of the kernel at the ideal numbers. -/
theorem ideal_frame : Cert.quiescent_Kernel3Ideal := fun m ρ _ => Cert.Kernel3Ideal.Gen.frame m ρ

/-- The same of the reference. -/
theorem reference_frame : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The kernel and the reference end with the same gradient. -/
theorem same_gradient : Cert.algebraic_Kernel3Ideal_Reference3Ideal := fun m ρ m' ρ' _ agree =>
  ⟨fun c => grad (argA m c) (argB m c), run_values m ρ, ref_values m m' ρ' agree⟩

end Cert.Proof.WeightGrad

end
-- ==== Proof.HeadPoint.lean ====
/-
  What the two kinds of grid point of the call with the loss leave in the outputs' blocks, as the payloads of the arrays'
  blocks.
-/
module

public import proofs.«01_k».proof.Proof.Gen.Kernel4Ideal.Value
public import Idealize.ShloMosaic.Lib.Pipeline.ValueKit

@[expose] public section

set_option maxRecDepth 16384

noncomputable section

namespace Cert.Proof.HeadPoint

open Idealize.ShloMosaic Idealize.ShloMosaic.TcCoe Idealize.ShloMosaic.Tactic Cert.Kernel4Ideal Cert.Kernel4Ideal.Gen
open Idealize.SL.Sem

theorem zero2 : (![0, 0] : Fin 2 → ℕ) = fun _ => 0 := by
  funext k
  match k with
  | ⟨0, _⟩ => rfl
  | ⟨1, _⟩ => rfl

abbrev Blk1 := Vec Ideal S512x1024 .f32
abbrev Row1 := Vec Ideal S1x1024 .f32
abbrev Wide4 := Vec Ideal S4x512x704 .bf16
abbrev Wts4 := Vec Ideal S4x704x1024 .bf16
abbrev Wide1 := Vec Ideal S1x512x704 .bf16
abbrev Wts1 := Vec Ideal S1x704x1024 .bf16
abbrev Norm1 := FVec Ideal S512x1024 .bf16

/-! ## The four parts -/

/-- Part `j` of a weight, as the body loads it. -/
def wpart (x : Wts4) (j : Fin 4) : Wts1 := fun y => x (ix3 j (y 1) (y 2))

/-- Four parts side by side. -/
def joined (P : Fin 4 → Wide1) : Wide4 := fun y => P (y 0) (ix3 0 (y 1) (y 2))

theorem ld_wpart (x : Wts4) (j : Fin 4) (off : Fin 3 → ℕ) (e : off = ![j.val, 0, 0]) (inb : ∀ a, off a + (![1, 704, 1024] : Fin 3 → ℕ) a ≤ S4x704x1024.size a) :
    (View.ld x (Rect.unit off ![1, 704, 1024] inb) : Wts1) = wpart x j := by
  subst e
  funext y
  refine View.ld_unit_apply_of x _ _ _ y (ix3 j (y 1) (y 2)) fun a => ?_
  match a with
  | ⟨0, _⟩ =>
    have := (y 0).isLt
    show j.val = j.val + (y 0).val
    have h : (y 0).val < 1 := this
    omega
  | ⟨1, _⟩ => exact (Nat.zero_add _).symm
  | ⟨2, _⟩ => exact (Nat.zero_add _).symm

theorem piece_eq (P : Fin 4 → Wide1) (k : Fin 4) (y : S4x512x704.Idx) (x : S1x512x704.Idx) (h0 : (y 0).val = k.val) (h1 : (y 1).val = (x 1).val)
    (h2 : (y 2).val = (x 2).val) : P k x = joined P y := by
  have e0 : y 0 = k := Fin.ext h0
  have e1 : x = ix3 0 (y 1) (y 2) := by
    funext a
    match a with
    | ⟨0, _⟩ => exact Subsingleton.elim (α := Fin 1) _ _
    | ⟨1, _⟩ => exact Fin.ext h1.symm
    | ⟨2, _⟩ => exact Fin.ext h2.symm
  unfold joined
  rw [e0, e1]
  rfl

/-! ## The payloads of a part -/

/-- A projection of the normalized rows, as it is stored. -/
def projP (n : Norm1) (w : Wts1) : Wide1 := k0_pay26 (F := Ideal) n w

/-- The sum of the down projections, part by part. -/
def stepP (acc : Blk1) (n : Norm1) (wg wu wd : Wts1) : Blk1 := k0_pay25 (F := Ideal) n acc wg wu wd

def stepAt (n : Norm1) (x2 x3 x4 : Wts4) (j : Fin 4) (acc : Blk1) : Blk1 := stepP acc n (wpart x2 j) (wpart x3 j) (wpart x4 j)

def accP (n : Norm1) (x2 x3 x4 : Wts4) : Blk1 :=
  stepAt n x2 x3 x4 3 (stepAt n x2 x3 x4 2 (stepAt n x2 x3 x4 1 (stepAt n x2 x3 x4 0 (k0_pay6 (F := Ideal)))))

abbrev half : Ideal .f32 := Scalar.ofBits .f32 0x3F000000#32

def dyP (x0 acc : Blk1) (x5 : Row1) (x6 : Blk1) : Blk1 :=
  k0_pay1 (F := Ideal) (k0_pay29 (F := Ideal) x0 acc half) (k0_pay33 (F := Ideal) x0 acc half) (k0_pay34 (F := Ideal) x0 acc half x5 x6 x5) (k0_pay35 (F := Ideal) x0 acc half x5 x6 x5)
def lossP (x0 acc : Blk1) (x5 : Row1) (x6 : Blk1) (s : Vec Ideal S1x128 .f32) : Vec Ideal S1x128 .f32 :=
  k0_pay31 (F := Ideal) x0 acc half x5 x6 s
def dfwP (x0 acc : Blk1) (x5 : Row1) (x6 : Blk1) (s : Row1) : Row1 :=
  k0_pay2 (F := Ideal) (k0_pay32 (F := Ideal) x0 acc half x5 x6) (k0_pay33 (F := Ideal) x0 acc half) s

theorem step0 (x0 acc : Blk1) (x1 : Row1) (wg wu wd : Wts1) :
    k0_pay10 acc (k0_pay8 x0 x1 wu) (k0_pay9 x0 x1 wg) wd = stepP acc (k0_pay5 x0 x1) wg wu wd := rfl

theorem step12 (acc : Blk1) (n : Norm1) (a b d a' b' d' : Wts1) :
    k0_pay20 n acc (k0_pay15 n a b d) a' b' d' = stepP (stepP acc n a b d) n a' b' d' := rfl

theorem step3 (acc : Blk1) (n : Norm1) (wg wu wd : Wts1) : k0_pay25 n acc wg wu wd = stepP acc n wg wu wd := rfl

/-! ## What a point of kind A leaves -/

theorem out_A_7 (c : Dev nD) (i : grid0.Coords) (arg1 : Memref sig .tc .vmem S512x1024 .f32) (h1 : arg1.IsWhole) (arg2 : Memref sig .tc .vmem S1x1024 .f32) (h2 : arg2.IsWhole) (arg3 : Memref sig .tc .vmem S4x704x1024 .bf16) (h3 : arg3.IsWhole) (arg4 : Memref sig .tc .vmem S4x704x1024 .bf16) (h4 : arg4.IsWhole) (arg5 : Memref sig .tc .vmem S4x704x1024 .bf16) (h5 : arg5.IsWhole) (arg6 : Memref sig .tc .vmem S1x1024 .f32) (h6 : arg6.IsWhole) (arg7 : Memref sig .tc .vmem S512x1024 .f32) (h7 : arg7.IsWhole) (arg8 : Memref sig .tc .vmem S512x1024 .f32) (h8 : arg8.IsWhole) (arg9 : Memref sig .tc .vmem S512x1024 .bf16) (h9 : arg9.IsWhole) (arg10 : Memref sig .tc .vmem S4x512x704 .bf16) (h10 : arg10.IsWhole) (arg11 : Memref sig .tc .vmem S4x512x704 .bf16) (h11 : arg11.IsWhole) (arg12 : Memref sig .tc .vmem S1x128 .f32) (h12 : arg12.IsWhole) (arg13 : Memref sig .tc .vmem S1x1024 .f32) (h13 : arg13.IsWhole) (hc : cond0_0 i) (x0 : Blk1) (x1 : Row1) (x2 x3 x4 : Wts4) (x5 : Row1) (x6 : Blk1) :
    out0_A_7 c i arg1 h1 arg2 h2 arg3 h3 arg4 h4 arg5 h5 arg6 h6 arg7 h7 arg8 h8 arg9 h9 arg10 h10 arg11 h11 arg12 h12 arg13 h13 hc x0 x1 x2 x3 x4 x5 x6 = dyP x0 (accP (k0_pay5 (F := Ideal) x0 x1) x2 x3 x4) x5 x6 := by
  unfold out0_A_7
  rw [View.read_writes_eq_canon _ _ _ (cover0_A_7 c i arg1 h1 arg2 h2 arg3 h3 arg4 h4 arg5 h5 arg6 h6 arg7 h7 arg8 h8 arg9 h9 arg10 h10 arg11 h11 arg12 h12 arg13 h13 hc x0 x1 x2 x3 x4 x5 x6)]
  unfold kernelRun0_A
  dsimp only
  (sl_unfold_words)
  rw [View.canon_unit_zero zero2]
  simp only [View.readAt_eq_ld, h1.read_unread, h2.read_unread, h3.read_unread, h4.read_unread, h5.read_unread, h6.read_unread, h7.read_unread, h12.read_unread, h13.read_unread, View.ld_unit_zero (S := S512x1024) zero2, View.ld_unit_zero (S := S1x1024) zero2, View.ld_unit_zero (S := S1x128) zero2,
    View.readCov_unit_zero (S := S1x1024) _ zero2, View.readCov_unit_zero (S := S1x128) _ zero2, ld_wpart _ 0 ![0, 0, 0] rfl, ld_wpart _ 1 ![1, 0, 0] rfl, ld_wpart _ 2 ![2, 0, 0] rfl, ld_wpart _ 3 ![3, 0, 0] rfl]
  rw [step0, step12, step3]
  rfl

theorem out_A_8 (c : Dev nD) (i : grid0.Coords) (arg1 : Memref sig .tc .vmem S512x1024 .f32) (h1 : arg1.IsWhole) (arg2 : Memref sig .tc .vmem S1x1024 .f32) (h2 : arg2.IsWhole) (arg3 : Memref sig .tc .vmem S4x704x1024 .bf16) (h3 : arg3.IsWhole) (arg4 : Memref sig .tc .vmem S4x704x1024 .bf16) (h4 : arg4.IsWhole) (arg5 : Memref sig .tc .vmem S4x704x1024 .bf16) (h5 : arg5.IsWhole) (arg6 : Memref sig .tc .vmem S1x1024 .f32) (h6 : arg6.IsWhole) (arg7 : Memref sig .tc .vmem S512x1024 .f32) (h7 : arg7.IsWhole) (arg8 : Memref sig .tc .vmem S512x1024 .f32) (h8 : arg8.IsWhole) (arg9 : Memref sig .tc .vmem S512x1024 .bf16) (h9 : arg9.IsWhole) (arg10 : Memref sig .tc .vmem S4x512x704 .bf16) (h10 : arg10.IsWhole) (arg11 : Memref sig .tc .vmem S4x512x704 .bf16) (h11 : arg11.IsWhole) (arg12 : Memref sig .tc .vmem S1x128 .f32) (h12 : arg12.IsWhole) (arg13 : Memref sig .tc .vmem S1x1024 .f32) (h13 : arg13.IsWhole) (hc : cond0_0 i) (x0 : Blk1) (x1 : Row1) (x2 x3 x4 : Wts4) (x5 : Row1) (x6 : Blk1) :
    out0_A_8 c i arg1 h1 arg2 h2 arg3 h3 arg4 h4 arg5 h5 arg6 h6 arg7 h7 arg8 h8 arg9 h9 arg10 h10 arg11 h11 arg12 h12 arg13 h13 hc x0 x1 x2 x3 x4 x5 x6 = k0_pay5 x0 x1 := by
  unfold out0_A_8
  rw [View.read_writes_eq_canon _ _ _ (cover0_A_8 c i arg1 h1 arg2 h2 arg3 h3 arg4 h4 arg5 h5 arg6 h6 arg7 h7 arg8 h8 arg9 h9 arg10 h10 arg11 h11 arg12 h12 arg13 h13 hc x0 x1 x2 x3 x4 x5 x6)]
  unfold kernelRun0_A
  dsimp only
  (sl_unfold_words)
  rw [View.canon_unit_zero zero2]
  simp only [View.readAt_eq_ld, h1.read_unread, h2.read_unread, h3.read_unread, h4.read_unread, h5.read_unread, h6.read_unread, h7.read_unread, h12.read_unread, h13.read_unread, View.ld_unit_zero (S := S512x1024) zero2, View.ld_unit_zero (S := S1x1024) zero2, View.ld_unit_zero (S := S1x128) zero2,
    View.readCov_unit_zero (S := S1x1024) _ zero2, View.readCov_unit_zero (S := S1x128) _ zero2, ld_wpart _ 0 ![0, 0, 0] rfl, ld_wpart _ 1 ![1, 0, 0] rfl, ld_wpart _ 2 ![2, 0, 0] rfl, ld_wpart _ 3 ![3, 0, 0] rfl]

theorem out_A_9 (c : Dev nD) (i : grid0.Coords) (arg1 : Memref sig .tc .vmem S512x1024 .f32) (h1 : arg1.IsWhole) (arg2 : Memref sig .tc .vmem S1x1024 .f32) (h2 : arg2.IsWhole) (arg3 : Memref sig .tc .vmem S4x704x1024 .bf16) (h3 : arg3.IsWhole) (arg4 : Memref sig .tc .vmem S4x704x1024 .bf16) (h4 : arg4.IsWhole) (arg5 : Memref sig .tc .vmem S4x704x1024 .bf16) (h5 : arg5.IsWhole) (arg6 : Memref sig .tc .vmem S1x1024 .f32) (h6 : arg6.IsWhole) (arg7 : Memref sig .tc .vmem S512x1024 .f32) (h7 : arg7.IsWhole) (arg8 : Memref sig .tc .vmem S512x1024 .f32) (h8 : arg8.IsWhole) (arg9 : Memref sig .tc .vmem S512x1024 .bf16) (h9 : arg9.IsWhole) (arg10 : Memref sig .tc .vmem S4x512x704 .bf16) (h10 : arg10.IsWhole) (arg11 : Memref sig .tc .vmem S4x512x704 .bf16) (h11 : arg11.IsWhole) (arg12 : Memref sig .tc .vmem S1x128 .f32) (h12 : arg12.IsWhole) (arg13 : Memref sig .tc .vmem S1x1024 .f32) (h13 : arg13.IsWhole) (hc : cond0_0 i) (x0 : Blk1) (x1 : Row1) (x2 x3 x4 : Wts4) (x5 : Row1) (x6 : Blk1) :
    out0_A_9 c i arg1 h1 arg2 h2 arg3 h3 arg4 h4 arg5 h5 arg6 h6 arg7 h7 arg8 h8 arg9 h9 arg10 h10 arg11 h11 arg12 h12 arg13 h13 hc x0 x1 x2 x3 x4 x5 x6 = joined fun j => projP (k0_pay5 (F := Ideal) x0 x1) (wpart x2 j) := by
  funext y
  unfold out0_A_9
  rw [View.read_writes_eq_canon _ _ _ (cover0_A_9 c i arg1 h1 arg2 h2 arg3 h3 arg4 h4 arg5 h5 arg6 h6 arg7 h7 arg8 h8 arg9 h9 arg10 h10 arg11 h11 arg12 h12 arg13 h13 hc x0 x1 x2 x3 x4 x5 x6)]
  unfold kernelRun0_A
  dsimp only
  (sl_unfold_words)
  simp only [View.readAt_eq_ld, h1.read_unread, h2.read_unread, h3.read_unread, h4.read_unread, h5.read_unread, h6.read_unread, h7.read_unread, h12.read_unread, h13.read_unread, View.ld_unit_zero (S := S512x1024) zero2, View.ld_unit_zero (S := S1x1024) zero2, View.ld_unit_zero (S := S1x128) zero2,
    View.readCov_unit_zero (S := S1x1024) _ zero2, View.readCov_unit_zero (S := S1x128) _ zero2, ld_wpart _ 0 ![0, 0, 0] rfl, ld_wpart _ 1 ![1, 0, 0] rfl, ld_wpart _ 2 ![2, 0, 0] rfl, ld_wpart _ 3 ![3, 0, 0] rfl]
  canon_tiles x h
  · exact piece_eq (fun j => projP (k0_pay5 (F := Ideal) x0 x1) (wpart x2 j)) 3 y x (by omega) (by omega) (by omega)
  · exact piece_eq (fun j => projP (k0_pay5 (F := Ideal) x0 x1) (wpart x2 j)) 2 y x (by omega) (by omega) (by omega)
  · exact piece_eq (fun j => projP (k0_pay5 (F := Ideal) x0 x1) (wpart x2 j)) 1 y x (by omega) (by omega) (by omega)
  · exact piece_eq (fun j => projP (k0_pay5 (F := Ideal) x0 x1) (wpart x2 j)) 0 y x (by omega) (by omega) (by omega)

theorem out_A_10 (c : Dev nD) (i : grid0.Coords) (arg1 : Memref sig .tc .vmem S512x1024 .f32) (h1 : arg1.IsWhole) (arg2 : Memref sig .tc .vmem S1x1024 .f32) (h2 : arg2.IsWhole) (arg3 : Memref sig .tc .vmem S4x704x1024 .bf16) (h3 : arg3.IsWhole) (arg4 : Memref sig .tc .vmem S4x704x1024 .bf16) (h4 : arg4.IsWhole) (arg5 : Memref sig .tc .vmem S4x704x1024 .bf16) (h5 : arg5.IsWhole) (arg6 : Memref sig .tc .vmem S1x1024 .f32) (h6 : arg6.IsWhole) (arg7 : Memref sig .tc .vmem S512x1024 .f32) (h7 : arg7.IsWhole) (arg8 : Memref sig .tc .vmem S512x1024 .f32) (h8 : arg8.IsWhole) (arg9 : Memref sig .tc .vmem S512x1024 .bf16) (h9 : arg9.IsWhole) (arg10 : Memref sig .tc .vmem S4x512x704 .bf16) (h10 : arg10.IsWhole) (arg11 : Memref sig .tc .vmem S4x512x704 .bf16) (h11 : arg11.IsWhole) (arg12 : Memref sig .tc .vmem S1x128 .f32) (h12 : arg12.IsWhole) (arg13 : Memref sig .tc .vmem S1x1024 .f32) (h13 : arg13.IsWhole) (hc : cond0_0 i) (x0 : Blk1) (x1 : Row1) (x2 x3 x4 : Wts4) (x5 : Row1) (x6 : Blk1) :
    out0_A_10 c i arg1 h1 arg2 h2 arg3 h3 arg4 h4 arg5 h5 arg6 h6 arg7 h7 arg8 h8 arg9 h9 arg10 h10 arg11 h11 arg12 h12 arg13 h13 hc x0 x1 x2 x3 x4 x5 x6 = joined fun j => projP (k0_pay5 (F := Ideal) x0 x1) (wpart x3 j) := by
  funext y
  unfold out0_A_10
  rw [View.read_writes_eq_canon _ _ _ (cover0_A_10 c i arg1 h1 arg2 h2 arg3 h3 arg4 h4 arg5 h5 arg6 h6 arg7 h7 arg8 h8 arg9 h9 arg10 h10 arg11 h11 arg12 h12 arg13 h13 hc x0 x1 x2 x3 x4 x5 x6)]
  unfold kernelRun0_A
  dsimp only
  (sl_unfold_words)
  simp only [View.readAt_eq_ld, h1.read_unread, h2.read_unread, h3.read_unread, h4.read_unread, h5.read_unread, h6.read_unread, h7.read_unread, h12.read_unread, h13.read_unread, View.ld_unit_zero (S := S512x1024) zero2, View.ld_unit_zero (S := S1x1024) zero2, View.ld_unit_zero (S := S1x128) zero2,
    View.readCov_unit_zero (S := S1x1024) _ zero2, View.readCov_unit_zero (S := S1x128) _ zero2, ld_wpart _ 0 ![0, 0, 0] rfl, ld_wpart _ 1 ![1, 0, 0] rfl, ld_wpart _ 2 ![2, 0, 0] rfl, ld_wpart _ 3 ![3, 0, 0] rfl]
  canon_tiles x h
  · exact piece_eq (fun j => projP (k0_pay5 (F := Ideal) x0 x1) (wpart x3 j)) 3 y x (by omega) (by omega) (by omega)
  · exact piece_eq (fun j => projP (k0_pay5 (F := Ideal) x0 x1) (wpart x3 j)) 2 y x (by omega) (by omega) (by omega)
  · exact piece_eq (fun j => projP (k0_pay5 (F := Ideal) x0 x1) (wpart x3 j)) 1 y x (by omega) (by omega) (by omega)
  · exact piece_eq (fun j => projP (k0_pay5 (F := Ideal) x0 x1) (wpart x3 j)) 0 y x (by omega) (by omega) (by omega)

theorem out_A_11 (c : Dev nD) (i : grid0.Coords) (arg1 : Memref sig .tc .vmem S512x1024 .f32) (h1 : arg1.IsWhole) (arg2 : Memref sig .tc .vmem S1x1024 .f32) (h2 : arg2.IsWhole) (arg3 : Memref sig .tc .vmem S4x704x1024 .bf16) (h3 : arg3.IsWhole) (arg4 : Memref sig .tc .vmem S4x704x1024 .bf16) (h4 : arg4.IsWhole) (arg5 : Memref sig .tc .vmem S4x704x1024 .bf16) (h5 : arg5.IsWhole) (arg6 : Memref sig .tc .vmem S1x1024 .f32) (h6 : arg6.IsWhole) (arg7 : Memref sig .tc .vmem S512x1024 .f32) (h7 : arg7.IsWhole) (arg8 : Memref sig .tc .vmem S512x1024 .f32) (h8 : arg8.IsWhole) (arg9 : Memref sig .tc .vmem S512x1024 .bf16) (h9 : arg9.IsWhole) (arg10 : Memref sig .tc .vmem S4x512x704 .bf16) (h10 : arg10.IsWhole) (arg11 : Memref sig .tc .vmem S4x512x704 .bf16) (h11 : arg11.IsWhole) (arg12 : Memref sig .tc .vmem S1x128 .f32) (h12 : arg12.IsWhole) (arg13 : Memref sig .tc .vmem S1x1024 .f32) (h13 : arg13.IsWhole) (hc : cond0_0 i) (x0 : Blk1) (x1 : Row1) (x2 x3 x4 : Wts4) (x5 : Row1) (x6 : Blk1) :
    out0_A_11 c i arg1 h1 arg2 h2 arg3 h3 arg4 h4 arg5 h5 arg6 h6 arg7 h7 arg8 h8 arg9 h9 arg10 h10 arg11 h11 arg12 h12 arg13 h13 hc x0 x1 x2 x3 x4 x5 x6 = lossP x0 (accP (k0_pay5 (F := Ideal) x0 x1) x2 x3 x4) x5 x6 (k0_pay3 (F := Ideal)) := by
  unfold out0_A_11
  rw [View.read_writes_eq_canon _ _ _ (cover0_A_11 c i arg1 h1 arg2 h2 arg3 h3 arg4 h4 arg5 h5 arg6 h6 arg7 h7 arg8 h8 arg9 h9 arg10 h10 arg11 h11 arg12 h12 arg13 h13 hc x0 x1 x2 x3 x4 x5 x6)]
  unfold kernelRun0_A
  dsimp only
  (sl_unfold_words)
  rw [View.canon_cons_unit_zero zero2]
  simp only [View.readAt_eq_ld, h1.read_unread, h2.read_unread, h3.read_unread, h4.read_unread, h5.read_unread, h6.read_unread, h7.read_unread, h12.read_unread, h13.read_unread, View.ld_unit_zero (S := S512x1024) zero2, View.ld_unit_zero (S := S1x1024) zero2, View.ld_unit_zero (S := S1x128) zero2,
    View.readCov_unit_zero (S := S1x1024) _ zero2, View.readCov_unit_zero (S := S1x128) _ zero2, ld_wpart _ 0 ![0, 0, 0] rfl, ld_wpart _ 1 ![1, 0, 0] rfl, ld_wpart _ 2 ![2, 0, 0] rfl, ld_wpart _ 3 ![3, 0, 0] rfl]
  rw [step0, step12, step3]
  rfl

theorem out_A_12 (c : Dev nD) (i : grid0.Coords) (arg1 : Memref sig .tc .vmem S512x1024 .f32) (h1 : arg1.IsWhole) (arg2 : Memref sig .tc .vmem S1x1024 .f32) (h2 : arg2.IsWhole) (arg3 : Memref sig .tc .vmem S4x704x1024 .bf16) (h3 : arg3.IsWhole) (arg4 : Memref sig .tc .vmem S4x704x1024 .bf16) (h4 : arg4.IsWhole) (arg5 : Memref sig .tc .vmem S4x704x1024 .bf16) (h5 : arg5.IsWhole) (arg6 : Memref sig .tc .vmem S1x1024 .f32) (h6 : arg6.IsWhole) (arg7 : Memref sig .tc .vmem S512x1024 .f32) (h7 : arg7.IsWhole) (arg8 : Memref sig .tc .vmem S512x1024 .f32) (h8 : arg8.IsWhole) (arg9 : Memref sig .tc .vmem S512x1024 .bf16) (h9 : arg9.IsWhole) (arg10 : Memref sig .tc .vmem S4x512x704 .bf16) (h10 : arg10.IsWhole) (arg11 : Memref sig .tc .vmem S4x512x704 .bf16) (h11 : arg11.IsWhole) (arg12 : Memref sig .tc .vmem S1x128 .f32) (h12 : arg12.IsWhole) (arg13 : Memref sig .tc .vmem S1x1024 .f32) (h13 : arg13.IsWhole) (hc : cond0_0 i) (x0 : Blk1) (x1 : Row1) (x2 x3 x4 : Wts4) (x5 : Row1) (x6 : Blk1) :
    out0_A_12 c i arg1 h1 arg2 h2 arg3 h3 arg4 h4 arg5 h5 arg6 h6 arg7 h7 arg8 h8 arg9 h9 arg10 h10 arg11 h11 arg12 h12 arg13 h13 hc x0 x1 x2 x3 x4 x5 x6 = dfwP x0 (accP (k0_pay5 (F := Ideal) x0 x1) x2 x3 x4) x5 x6 (k0_pay4 (F := Ideal)) := by
  unfold out0_A_12
  rw [View.read_writes_eq_canon _ _ _ (cover0_A_12 c i arg1 h1 arg2 h2 arg3 h3 arg4 h4 arg5 h5 arg6 h6 arg7 h7 arg8 h8 arg9 h9 arg10 h10 arg11 h11 arg12 h12 arg13 h13 hc x0 x1 x2 x3 x4 x5 x6)]
  unfold kernelRun0_A
  dsimp only
  (sl_unfold_words)
  rw [View.canon_cons_unit_zero zero2]
  simp only [View.readAt_eq_ld, h1.read_unread, h2.read_unread, h3.read_unread, h4.read_unread, h5.read_unread, h6.read_unread, h7.read_unread, h12.read_unread, h13.read_unread, View.ld_unit_zero (S := S512x1024) zero2, View.ld_unit_zero (S := S1x1024) zero2, View.ld_unit_zero (S := S1x128) zero2,
    View.readCov_unit_zero (S := S1x1024) _ zero2, View.readCov_unit_zero (S := S1x128) _ zero2, ld_wpart _ 0 ![0, 0, 0] rfl, ld_wpart _ 1 ![1, 0, 0] rfl, ld_wpart _ 2 ![2, 0, 0] rfl, ld_wpart _ 3 ![3, 0, 0] rfl]
  rw [step0, step12, step3]
  rfl

/-! ## What a point of kind B leaves -/

theorem out_B_7 (c : Dev nD) (i : grid0.Coords) (arg1 : Memref sig .tc .vmem S512x1024 .f32) (h1 : arg1.IsWhole) (arg2 : Memref sig .tc .vmem S1x1024 .f32) (h2 : arg2.IsWhole) (arg3 : Memref sig .tc .vmem S4x704x1024 .bf16) (h3 : arg3.IsWhole) (arg4 : Memref sig .tc .vmem S4x704x1024 .bf16) (h4 : arg4.IsWhole) (arg5 : Memref sig .tc .vmem S4x704x1024 .bf16) (h5 : arg5.IsWhole) (arg6 : Memref sig .tc .vmem S1x1024 .f32) (h6 : arg6.IsWhole) (arg7 : Memref sig .tc .vmem S512x1024 .f32) (h7 : arg7.IsWhole) (arg8 : Memref sig .tc .vmem S512x1024 .f32) (h8 : arg8.IsWhole) (arg9 : Memref sig .tc .vmem S512x1024 .bf16) (h9 : arg9.IsWhole) (arg10 : Memref sig .tc .vmem S4x512x704 .bf16) (h10 : arg10.IsWhole) (arg11 : Memref sig .tc .vmem S4x512x704 .bf16) (h11 : arg11.IsWhole) (arg12 : Memref sig .tc .vmem S1x128 .f32) (h12 : arg12.IsWhole) (arg13 : Memref sig .tc .vmem S1x1024 .f32) (h13 : arg13.IsWhole) (hc : ¬cond0_0 i) (x0 : Blk1) (x1 : Row1) (x2 x3 x4 : Wts4) (x5 : Row1) (x6 : Blk1) (s : Vec Ideal S1x128 .f32) (s' : Row1) :
    out0_B_7 c i arg1 h1 arg2 h2 arg3 h3 arg4 h4 arg5 h5 arg6 h6 arg7 h7 arg8 h8 arg9 h9 arg10 h10 arg11 h11 arg12 h12 arg13 h13 hc x0 x1 x2 x3 x4 x5 x6 s s' = dyP x0 (accP (k0_pay5 (F := Ideal) x0 x1) x2 x3 x4) x5 x6 := by
  unfold out0_B_7
  rw [View.read_writes_eq_canon _ _ _ (cover0_B_7 c i arg1 h1 arg2 h2 arg3 h3 arg4 h4 arg5 h5 arg6 h6 arg7 h7 arg8 h8 arg9 h9 arg10 h10 arg11 h11 arg12 h12 arg13 h13 hc x0 x1 x2 x3 x4 x5 x6 s s')]
  unfold kernelRun0_B
  dsimp only
  (sl_unfold_words)
  rw [View.canon_unit_zero zero2]
  simp only [View.readAt_eq_ld, h1.read_unread, h2.read_unread, h3.read_unread, h4.read_unread, h5.read_unread, h6.read_unread, h7.read_unread, h12.read_unread, h13.read_unread, View.ld_unit_zero (S := S512x1024) zero2, View.ld_unit_zero (S := S1x1024) zero2, View.ld_unit_zero (S := S1x128) zero2,
    View.readCov_unit_zero (S := S1x1024) _ zero2, View.readCov_unit_zero (S := S1x128) _ zero2, ld_wpart _ 0 ![0, 0, 0] rfl, ld_wpart _ 1 ![1, 0, 0] rfl, ld_wpart _ 2 ![2, 0, 0] rfl, ld_wpart _ 3 ![3, 0, 0] rfl]
  rw [step0, step12, step3]
  rfl

theorem out_B_8 (c : Dev nD) (i : grid0.Coords) (arg1 : Memref sig .tc .vmem S512x1024 .f32) (h1 : arg1.IsWhole) (arg2 : Memref sig .tc .vmem S1x1024 .f32) (h2 : arg2.IsWhole) (arg3 : Memref sig .tc .vmem S4x704x1024 .bf16) (h3 : arg3.IsWhole) (arg4 : Memref sig .tc .vmem S4x704x1024 .bf16) (h4 : arg4.IsWhole) (arg5 : Memref sig .tc .vmem S4x704x1024 .bf16) (h5 : arg5.IsWhole) (arg6 : Memref sig .tc .vmem S1x1024 .f32) (h6 : arg6.IsWhole) (arg7 : Memref sig .tc .vmem S512x1024 .f32) (h7 : arg7.IsWhole) (arg8 : Memref sig .tc .vmem S512x1024 .f32) (h8 : arg8.IsWhole) (arg9 : Memref sig .tc .vmem S512x1024 .bf16) (h9 : arg9.IsWhole) (arg10 : Memref sig .tc .vmem S4x512x704 .bf16) (h10 : arg10.IsWhole) (arg11 : Memref sig .tc .vmem S4x512x704 .bf16) (h11 : arg11.IsWhole) (arg12 : Memref sig .tc .vmem S1x128 .f32) (h12 : arg12.IsWhole) (arg13 : Memref sig .tc .vmem S1x1024 .f32) (h13 : arg13.IsWhole) (hc : ¬cond0_0 i) (x0 : Blk1) (x1 : Row1) (x2 x3 x4 : Wts4) (x5 : Row1) (x6 : Blk1) (s : Vec Ideal S1x128 .f32) (s' : Row1) :
    out0_B_8 c i arg1 h1 arg2 h2 arg3 h3 arg4 h4 arg5 h5 arg6 h6 arg7 h7 arg8 h8 arg9 h9 arg10 h10 arg11 h11 arg12 h12 arg13 h13 hc x0 x1 x2 x3 x4 x5 x6 s s' = k0_pay5 x0 x1 := by
  unfold out0_B_8
  rw [View.read_writes_eq_canon _ _ _ (cover0_B_8 c i arg1 h1 arg2 h2 arg3 h3 arg4 h4 arg5 h5 arg6 h6 arg7 h7 arg8 h8 arg9 h9 arg10 h10 arg11 h11 arg12 h12 arg13 h13 hc x0 x1 x2 x3 x4 x5 x6 s s')]
  unfold kernelRun0_B
  dsimp only
  (sl_unfold_words)
  rw [View.canon_unit_zero zero2]
  simp only [View.readAt_eq_ld, h1.read_unread, h2.read_unread, h3.read_unread, h4.read_unread, h5.read_unread, h6.read_unread, h7.read_unread, h12.read_unread, h13.read_unread, View.ld_unit_zero (S := S512x1024) zero2, View.ld_unit_zero (S := S1x1024) zero2, View.ld_unit_zero (S := S1x128) zero2,
    View.readCov_unit_zero (S := S1x1024) _ zero2, View.readCov_unit_zero (S := S1x128) _ zero2, ld_wpart _ 0 ![0, 0, 0] rfl, ld_wpart _ 1 ![1, 0, 0] rfl, ld_wpart _ 2 ![2, 0, 0] rfl, ld_wpart _ 3 ![3, 0, 0] rfl]

theorem out_B_9 (c : Dev nD) (i : grid0.Coords) (arg1 : Memref sig .tc .vmem S512x1024 .f32) (h1 : arg1.IsWhole) (arg2 : Memref sig .tc .vmem S1x1024 .f32) (h2 : arg2.IsWhole) (arg3 : Memref sig .tc .vmem S4x704x1024 .bf16) (h3 : arg3.IsWhole) (arg4 : Memref sig .tc .vmem S4x704x1024 .bf16) (h4 : arg4.IsWhole) (arg5 : Memref sig .tc .vmem S4x704x1024 .bf16) (h5 : arg5.IsWhole) (arg6 : Memref sig .tc .vmem S1x1024 .f32) (h6 : arg6.IsWhole) (arg7 : Memref sig .tc .vmem S512x1024 .f32) (h7 : arg7.IsWhole) (arg8 : Memref sig .tc .vmem S512x1024 .f32) (h8 : arg8.IsWhole) (arg9 : Memref sig .tc .vmem S512x1024 .bf16) (h9 : arg9.IsWhole) (arg10 : Memref sig .tc .vmem S4x512x704 .bf16) (h10 : arg10.IsWhole) (arg11 : Memref sig .tc .vmem S4x512x704 .bf16) (h11 : arg11.IsWhole) (arg12 : Memref sig .tc .vmem S1x128 .f32) (h12 : arg12.IsWhole) (arg13 : Memref sig .tc .vmem S1x1024 .f32) (h13 : arg13.IsWhole) (hc : ¬cond0_0 i) (x0 : Blk1) (x1 : Row1) (x2 x3 x4 : Wts4) (x5 : Row1) (x6 : Blk1) (s : Vec Ideal S1x128 .f32) (s' : Row1) :
    out0_B_9 c i arg1 h1 arg2 h2 arg3 h3 arg4 h4 arg5 h5 arg6 h6 arg7 h7 arg8 h8 arg9 h9 arg10 h10 arg11 h11 arg12 h12 arg13 h13 hc x0 x1 x2 x3 x4 x5 x6 s s' = joined fun j => projP (k0_pay5 (F := Ideal) x0 x1) (wpart x2 j) := by
  funext y
  unfold out0_B_9
  rw [View.read_writes_eq_canon _ _ _ (cover0_B_9 c i arg1 h1 arg2 h2 arg3 h3 arg4 h4 arg5 h5 arg6 h6 arg7 h7 arg8 h8 arg9 h9 arg10 h10 arg11 h11 arg12 h12 arg13 h13 hc x0 x1 x2 x3 x4 x5 x6 s s')]
  unfold kernelRun0_B
  dsimp only
  (sl_unfold_words)
  simp only [View.readAt_eq_ld, h1.read_unread, h2.read_unread, h3.read_unread, h4.read_unread, h5.read_unread, h6.read_unread, h7.read_unread, h12.read_unread, h13.read_unread, View.ld_unit_zero (S := S512x1024) zero2, View.ld_unit_zero (S := S1x1024) zero2, View.ld_unit_zero (S := S1x128) zero2,
    View.readCov_unit_zero (S := S1x1024) _ zero2, View.readCov_unit_zero (S := S1x128) _ zero2, ld_wpart _ 0 ![0, 0, 0] rfl, ld_wpart _ 1 ![1, 0, 0] rfl, ld_wpart _ 2 ![2, 0, 0] rfl, ld_wpart _ 3 ![3, 0, 0] rfl]
  canon_tiles x h
  · exact piece_eq (fun j => projP (k0_pay5 (F := Ideal) x0 x1) (wpart x2 j)) 3 y x (by omega) (by omega) (by omega)
  · exact piece_eq (fun j => projP (k0_pay5 (F := Ideal) x0 x1) (wpart x2 j)) 2 y x (by omega) (by omega) (by omega)
  · exact piece_eq (fun j => projP (k0_pay5 (F := Ideal) x0 x1) (wpart x2 j)) 1 y x (by omega) (by omega) (by omega)
  · exact piece_eq (fun j => projP (k0_pay5 (F := Ideal) x0 x1) (wpart x2 j)) 0 y x (by omega) (by omega) (by omega)

theorem out_B_10 (c : Dev nD) (i : grid0.Coords) (arg1 : Memref sig .tc .vmem S512x1024 .f32) (h1 : arg1.IsWhole) (arg2 : Memref sig .tc .vmem S1x1024 .f32) (h2 : arg2.IsWhole) (arg3 : Memref sig .tc .vmem S4x704x1024 .bf16) (h3 : arg3.IsWhole) (arg4 : Memref sig .tc .vmem S4x704x1024 .bf16) (h4 : arg4.IsWhole) (arg5 : Memref sig .tc .vmem S4x704x1024 .bf16) (h5 : arg5.IsWhole) (arg6 : Memref sig .tc .vmem S1x1024 .f32) (h6 : arg6.IsWhole) (arg7 : Memref sig .tc .vmem S512x1024 .f32) (h7 : arg7.IsWhole) (arg8 : Memref sig .tc .vmem S512x1024 .f32) (h8 : arg8.IsWhole) (arg9 : Memref sig .tc .vmem S512x1024 .bf16) (h9 : arg9.IsWhole) (arg10 : Memref sig .tc .vmem S4x512x704 .bf16) (h10 : arg10.IsWhole) (arg11 : Memref sig .tc .vmem S4x512x704 .bf16) (h11 : arg11.IsWhole) (arg12 : Memref sig .tc .vmem S1x128 .f32) (h12 : arg12.IsWhole) (arg13 : Memref sig .tc .vmem S1x1024 .f32) (h13 : arg13.IsWhole) (hc : ¬cond0_0 i) (x0 : Blk1) (x1 : Row1) (x2 x3 x4 : Wts4) (x5 : Row1) (x6 : Blk1) (s : Vec Ideal S1x128 .f32) (s' : Row1) :
    out0_B_10 c i arg1 h1 arg2 h2 arg3 h3 arg4 h4 arg5 h5 arg6 h6 arg7 h7 arg8 h8 arg9 h9 arg10 h10 arg11 h11 arg12 h12 arg13 h13 hc x0 x1 x2 x3 x4 x5 x6 s s' = joined fun j => projP (k0_pay5 (F := Ideal) x0 x1) (wpart x3 j) := by
  funext y
  unfold out0_B_10
  rw [View.read_writes_eq_canon _ _ _ (cover0_B_10 c i arg1 h1 arg2 h2 arg3 h3 arg4 h4 arg5 h5 arg6 h6 arg7 h7 arg8 h8 arg9 h9 arg10 h10 arg11 h11 arg12 h12 arg13 h13 hc x0 x1 x2 x3 x4 x5 x6 s s')]
  unfold kernelRun0_B
  dsimp only
  (sl_unfold_words)
  simp only [View.readAt_eq_ld, h1.read_unread, h2.read_unread, h3.read_unread, h4.read_unread, h5.read_unread, h6.read_unread, h7.read_unread, h12.read_unread, h13.read_unread, View.ld_unit_zero (S := S512x1024) zero2, View.ld_unit_zero (S := S1x1024) zero2, View.ld_unit_zero (S := S1x128) zero2,
    View.readCov_unit_zero (S := S1x1024) _ zero2, View.readCov_unit_zero (S := S1x128) _ zero2, ld_wpart _ 0 ![0, 0, 0] rfl, ld_wpart _ 1 ![1, 0, 0] rfl, ld_wpart _ 2 ![2, 0, 0] rfl, ld_wpart _ 3 ![3, 0, 0] rfl]
  canon_tiles x h
  · exact piece_eq (fun j => projP (k0_pay5 (F := Ideal) x0 x1) (wpart x3 j)) 3 y x (by omega) (by omega) (by omega)
  · exact piece_eq (fun j => projP (k0_pay5 (F := Ideal) x0 x1) (wpart x3 j)) 2 y x (by omega) (by omega) (by omega)
  · exact piece_eq (fun j => projP (k0_pay5 (F := Ideal) x0 x1) (wpart x3 j)) 1 y x (by omega) (by omega) (by omega)
  · exact piece_eq (fun j => projP (k0_pay5 (F := Ideal) x0 x1) (wpart x3 j)) 0 y x (by omega) (by omega) (by omega)

theorem out_B_11 (c : Dev nD) (i : grid0.Coords) (arg1 : Memref sig .tc .vmem S512x1024 .f32) (h1 : arg1.IsWhole) (arg2 : Memref sig .tc .vmem S1x1024 .f32) (h2 : arg2.IsWhole) (arg3 : Memref sig .tc .vmem S4x704x1024 .bf16) (h3 : arg3.IsWhole) (arg4 : Memref sig .tc .vmem S4x704x1024 .bf16) (h4 : arg4.IsWhole) (arg5 : Memref sig .tc .vmem S4x704x1024 .bf16) (h5 : arg5.IsWhole) (arg6 : Memref sig .tc .vmem S1x1024 .f32) (h6 : arg6.IsWhole) (arg7 : Memref sig .tc .vmem S512x1024 .f32) (h7 : arg7.IsWhole) (arg8 : Memref sig .tc .vmem S512x1024 .f32) (h8 : arg8.IsWhole) (arg9 : Memref sig .tc .vmem S512x1024 .bf16) (h9 : arg9.IsWhole) (arg10 : Memref sig .tc .vmem S4x512x704 .bf16) (h10 : arg10.IsWhole) (arg11 : Memref sig .tc .vmem S4x512x704 .bf16) (h11 : arg11.IsWhole) (arg12 : Memref sig .tc .vmem S1x128 .f32) (h12 : arg12.IsWhole) (arg13 : Memref sig .tc .vmem S1x1024 .f32) (h13 : arg13.IsWhole) (hc : ¬cond0_0 i) (x0 : Blk1) (x1 : Row1) (x2 x3 x4 : Wts4) (x5 : Row1) (x6 : Blk1) (s : Vec Ideal S1x128 .f32) (s' : Row1) :
    out0_B_11 c i arg1 h1 arg2 h2 arg3 h3 arg4 h4 arg5 h5 arg6 h6 arg7 h7 arg8 h8 arg9 h9 arg10 h10 arg11 h11 arg12 h12 arg13 h13 hc x0 x1 x2 x3 x4 x5 x6 s s' = lossP x0 (accP (k0_pay5 (F := Ideal) x0 x1) x2 x3 x4) x5 x6 s := by
  unfold out0_B_11
  rw [View.read_writes_eq_canon _ _ _ (cover0_B_11 c i arg1 h1 arg2 h2 arg3 h3 arg4 h4 arg5 h5 arg6 h6 arg7 h7 arg8 h8 arg9 h9 arg10 h10 arg11 h11 arg12 h12 arg13 h13 hc x0 x1 x2 x3 x4 x5 x6 s s')]
  unfold kernelRun0_B
  dsimp only
  (sl_unfold_words)
  rw [View.canon_unit_zero zero2]
  simp only [View.readAt_eq_ld, h1.read_unread, h2.read_unread, h3.read_unread, h4.read_unread, h5.read_unread, h6.read_unread, h7.read_unread, h12.read_unread, h13.read_unread, View.ld_unit_zero (S := S512x1024) zero2, View.ld_unit_zero (S := S1x1024) zero2, View.ld_unit_zero (S := S1x128) zero2,
    View.readCov_unit_zero (S := S1x1024) _ zero2, View.readCov_unit_zero (S := S1x128) _ zero2, ld_wpart _ 0 ![0, 0, 0] rfl, ld_wpart _ 1 ![1, 0, 0] rfl, ld_wpart _ 2 ![2, 0, 0] rfl, ld_wpart _ 3 ![3, 0, 0] rfl]
  rw [step0, step12, step3]
  rfl

theorem out_B_12 (c : Dev nD) (i : grid0.Coords) (arg1 : Memref sig .tc .vmem S512x1024 .f32) (h1 : arg1.IsWhole) (arg2 : Memref sig .tc .vmem S1x1024 .f32) (h2 : arg2.IsWhole) (arg3 : Memref sig .tc .vmem S4x704x1024 .bf16) (h3 : arg3.IsWhole) (arg4 : Memref sig .tc .vmem S4x704x1024 .bf16) (h4 : arg4.IsWhole) (arg5 : Memref sig .tc .vmem S4x704x1024 .bf16) (h5 : arg5.IsWhole) (arg6 : Memref sig .tc .vmem S1x1024 .f32) (h6 : arg6.IsWhole) (arg7 : Memref sig .tc .vmem S512x1024 .f32) (h7 : arg7.IsWhole) (arg8 : Memref sig .tc .vmem S512x1024 .f32) (h8 : arg8.IsWhole) (arg9 : Memref sig .tc .vmem S512x1024 .bf16) (h9 : arg9.IsWhole) (arg10 : Memref sig .tc .vmem S4x512x704 .bf16) (h10 : arg10.IsWhole) (arg11 : Memref sig .tc .vmem S4x512x704 .bf16) (h11 : arg11.IsWhole) (arg12 : Memref sig .tc .vmem S1x128 .f32) (h12 : arg12.IsWhole) (arg13 : Memref sig .tc .vmem S1x1024 .f32) (h13 : arg13.IsWhole) (hc : ¬cond0_0 i) (x0 : Blk1) (x1 : Row1) (x2 x3 x4 : Wts4) (x5 : Row1) (x6 : Blk1) (s : Vec Ideal S1x128 .f32) (s' : Row1) :
    out0_B_12 c i arg1 h1 arg2 h2 arg3 h3 arg4 h4 arg5 h5 arg6 h6 arg7 h7 arg8 h8 arg9 h9 arg10 h10 arg11 h11 arg12 h12 arg13 h13 hc x0 x1 x2 x3 x4 x5 x6 s s' = dfwP x0 (accP (k0_pay5 (F := Ideal) x0 x1) x2 x3 x4) x5 x6 s' := by
  unfold out0_B_12
  rw [View.read_writes_eq_canon _ _ _ (cover0_B_12 c i arg1 h1 arg2 h2 arg3 h3 arg4 h4 arg5 h5 arg6 h6 arg7 h7 arg8 h8 arg9 h9 arg10 h10 arg11 h11 arg12 h12 arg13 h13 hc x0 x1 x2 x3 x4 x5 x6 s s')]
  unfold kernelRun0_B
  dsimp only
  (sl_unfold_words)
  rw [View.canon_unit_zero zero2]
  simp only [View.readAt_eq_ld, h1.read_unread, h2.read_unread, h3.read_unread, h4.read_unread, h5.read_unread, h6.read_unread, h7.read_unread, h12.read_unread, h13.read_unread, View.ld_unit_zero (S := S512x1024) zero2, View.ld_unit_zero (S := S1x1024) zero2, View.ld_unit_zero (S := S1x128) zero2,
    View.readCov_unit_zero (S := S1x1024) _ zero2, View.readCov_unit_zero (S := S1x128) _ zero2, ld_wpart _ 0 ![0, 0, 0] rfl, ld_wpart _ 1 ![1, 0, 0] rfl, ld_wpart _ 2 ![2, 0, 0] rfl, ld_wpart _ 3 ![3, 0, 0] rfl]
  rw [step0, step12, step3]
  rfl

end Cert.Proof.HeadPoint

end
-- ==== Proof.FfnSpec.lean ====
/-
  The gradient of a SwiGLU half-step with respect to its input, over the real numbers: the values of one token's row, and
  the sum over the tokens that is the gradient of the norm's weight.
-/
module

public import Idealize.ShloMosaic.PureOps.Ideal
public import Idealize.ShloMosaic.PureOps.Ideal.Laws
public import Idealize.ShloMosaic.Lib.IdealHost

@[expose] public section

set_option maxRecDepth 16384

noncomputable section

namespace Cert.Proof.FfnSpec

open Idealize.ShloMosaic
open scoped BigOperators

/-- The arguments: the gradient of the half-step's output, its input, the norm's weight, the three weight matrices. -/
structure Args where
  dy : Fin 8192 → Fin 1024 → ℝ
  x : Fin 8192 → Fin 1024 → ℝ
  nw : Fin 1024 → ℝ
  wg : Fin 4 → Fin 704 → Fin 1024 → ℝ
  wu : Fin 4 → Fin 704 → Fin 1024 → ℝ
  wd : Fin 4 → Fin 704 → Fin 1024 → ℝ

/-- The norm's addend, as the 32-bit format has it. -/
def eps : ℝ := 8796093 / 8796093022208

variable (A : Args)

def ms (t : Fin 8192) : ℝ := (∑ d, A.x t d * A.x t d) * (1 / 1024) + eps
def rstd (t : Fin 8192) : ℝ := (Real.sqrt (ms A t))⁻¹
def xhat (t : Fin 8192) (d : Fin 1024) : ℝ := A.x t d * rstd A t
def xn (t : Fin 8192) (d : Fin 1024) : ℝ := xhat A t d * A.nw d
def g (t : Fin 8192) (j : Fin 4) (f : Fin 704) : ℝ := ∑ d, xn A t d * A.wg j f d
def u (t : Fin 8192) (j : Fin 4) (f : Fin 704) : ℝ := ∑ d, xn A t d * A.wu j f d
def sg (t : Fin 8192) (j : Fin 4) (f : Fin 704) : ℝ := (1 + Real.exp (-g A t j f))⁻¹
def si (t : Fin 8192) (j : Fin 4) (f : Fin 704) : ℝ := g A t j f * sg A t j f
def h (t : Fin 8192) (j : Fin 4) (f : Fin 704) : ℝ := si A t j f * u A t j f
def dyh (t : Fin 8192) (d : Fin 1024) : ℝ := 1 / 2 * A.dy t d
def dh (t : Fin 8192) (j : Fin 4) (f : Fin 704) : ℝ := ∑ d, dyh A t d * A.wd j f d
def dg (t : Fin 8192) (j : Fin 4) (f : Fin 704) : ℝ :=
  dh A t j f * u A t j f * (sg A t j f * (1 + g A t j f * (1 - sg A t j f)))
def du (t : Fin 8192) (j : Fin 4) (f : Fin 704) : ℝ := dh A t j f * si A t j f
def dxn (t : Fin 8192) (d : Fin 1024) : ℝ :=
  ∑ j, ((∑ f, dg A t j f * A.wg j f d) + ∑ f, du A t j f * A.wu j f d)
def dxh (t : Fin 8192) (d : Fin 1024) : ℝ := dxn A t d * A.nw d
def dx (t : Fin 8192) (d : Fin 1024) : ℝ :=
  A.dy t d + rstd A t * (dxh A t d - xhat A t d * ((∑ e, dxh A t e * xhat A t e) * (1 / 1024)))
def dnw (d : Fin 1024) : ℝ := ∑ t, dxn A t d * xhat A t d

theorem eps_pos : 0 < eps := by unfold eps; norm_num

theorem ms_pos (t : Fin 8192) : 0 < ms A t := by
  unfold ms
  have := Finset.sum_nonneg fun d (_ : d ∈ Finset.univ) => mul_self_nonneg (A.x t d)
  have := eps_pos
  positivity

theorem rstd_sq (t : Fin 8192) : rstd A t * rstd A t * ms A t = 1 := by
  unfold rstd
  have hp := ms_pos A t
  have hs : Real.sqrt (ms A t) ≠ 0 := (Real.sqrt_pos.2 hp).ne'
  rw [← mul_inv, Real.mul_self_sqrt hp.le, inv_mul_cancel₀ hp.ne']

/-- The quotient the derivative of the reciprocal root takes is its cube. -/
theorem rstd_div (t : Fin 8192) : rstd A t * (1 / ms A t) = rstd A t * rstd A t * rstd A t := by
  have hp := (ms_pos A t).ne'
  have hs := rstd_sq A t
  field_simp
  linear_combination (-rstd A t) * hs

/-- The gradient of the input as the derivative of the norm's own lines gives it. -/
theorem dx_eq (t : Fin 8192) (d : Fin 1024) :
    A.dy t d + dxh A t d * rstd A t + A.x t d * ((∑ e, A.x t e * dxh A t e) * (-1 / 2 * (rstd A t * (1 / ms A t))) * (1 / 1024))
      + (∑ e, A.x t e * dxh A t e) * (-1 / 2 * (rstd A t * (1 / ms A t))) * (1 / 1024) * A.x t d = dx A t d := by
  have e : ∑ e, dxh A t e * xhat A t e = (∑ e, A.x t e * dxh A t e) * rstd A t := by
    rw [Finset.sum_mul]
    exact Finset.sum_congr rfl fun e _ => by unfold xhat; ring
  unfold dx
  rw [e, rstd_div]
  unfold xhat
  ring

/-- The gradient at the gate as the derivative of `g * logistic g` gives it. -/
theorem dg_eq (t : Fin 8192) (j : Fin 4) (f : Fin 704) :
    dh A t j f * u A t j f * sg A t j f + g A t j f * (dh A t j f * u A t j f) * (sg A t j f * (1 - sg A t j f)) = dg A t j f := by
  unfold dg
  ring

/-! ## The columns of the four blocks side by side -/

/-- The block and the place in it of a column. -/
def blk (F : Fin 2816) : Fin 4 := ⟨F.val / 704, by omega⟩
def col (F : Fin 2816) : Fin 704 := ⟨F.val % 704, by omega⟩

theorem sum_blocks (φ : Fin 4 → Fin 704 → ℝ) : ∑ F : Fin 2816, φ (blk F) (col F) = ∑ j, ∑ f, φ j f := by
  rw [← Fintype.sum_prod_type' (f := φ)]
  refine Fintype.sum_equiv (finProdFinEquiv (m := 4) (n := 704)).symm _ _ fun F => ?_
  rfl

theorem dxn_eq (t : Fin 8192) (d : Fin 1024) :
    (∑ F : Fin 2816, du A t (blk F) (col F) * A.wu (blk F) (col F) d) + ∑ F : Fin 2816, dg A t (blk F) (col F) * A.wg (blk F) (col F) d = dxn A t d := by
  rw [sum_blocks fun j f => du A t j f * A.wu j f d, sum_blocks fun j f => dg A t j f * A.wg j f d, ← Finset.sum_add_distrib]
  exact Finset.sum_congr rfl fun j _ => add_comm _ _

/-! ## Real values among the extended reals -/

theorem coe_sum {ι : Type} (s : Finset ι) (f : ι → ℝ) : ∑ i ∈ s, (f i : EReal) = ((∑ i ∈ s, f i : ℝ) : EReal) := by
  classical
  induction s using Finset.induction_on with
  | empty => rfl
  | insert a s ha ih => rw [Finset.sum_insert ha, Finset.sum_insert ha, ih, EReal.coe_add]

theorem lit_1024 : Ideal.ofBits .f32 0x44800000#32 = ((1024 : ℝ) : EReal) := by
  simp [Ideal.ofBits, Ideal.ieee, -EReal.coe_mul]; norm_num
theorem lit_half : Ideal.ofBits .f32 0x3F000000#32 = ((1 / 2 : ℝ) : EReal) := by
  simp [Ideal.ofBits, Ideal.ieee, -EReal.coe_mul]; norm_num
theorem lit_neg_half : Ideal.ofBits .f32 0xBF000000#32 = ((-1 / 2 : ℝ) : EReal) := by
  simp [Ideal.ofBits, Ideal.ieee, -EReal.coe_mul, -EReal.coe_neg]; norm_num
theorem lit_eps : Ideal.ofBits .f32 0x358637BD#32 = (eps : EReal) := by
  unfold eps
  simp [Ideal.ofBits, Ideal.ieee, -EReal.coe_mul]; norm_num

theorem div_real (x y : ℝ) (hy : y ≠ 0) : Ideal.div (x : EReal) (y : EReal) = ((x * (1 / y) : ℝ) : EReal) := by
  rw [Ideal.div_coe hy, ← EReal.coe_mul]

theorem div_1024 (x : ℝ) : Ideal.div (x : EReal) ((1024 : ℝ) : EReal) = ((x * (1 / 1024) : ℝ) : EReal) := div_real x 1024 (by norm_num)

theorem rsqrt_ms (t : Fin 8192) : Ideal.rsqrt (ms A t : EReal) = (rstd A t : EReal) := by
  have hp := ms_pos A t
  rw [Ideal.rsqrt_coe, if_neg (not_lt.2 hp.le), if_neg hp.ne']
  rfl

theorem sig_real (x : ℝ) : Ideal.div 1 (1 + Ideal.exp (-(x : EReal))) = (((1 + Real.exp (-x))⁻¹ : ℝ) : EReal) := by
  exact Ideal.logistic_coe x

end Cert.Proof.FfnSpec

end
-- ==== Proof.HeadSpec.lean ====
/-
  A SwiGLU half-step with the loss of its output, over the extended reals: one token's row, the loss, and the gradients of
  the loss at the half-step's output and at the final norm's weight. Nothing is asked of the arguments: each may be
  infinite.
-/
module

public import proofs.«01_k».proof.Proof.FfnSpec

@[expose] public section

set_option maxRecDepth 16384

noncomputable section

namespace Cert.Proof.HeadSpec

open Idealize.ShloMosaic
open Cert.Proof.FfnSpec (blk col)
open scoped BigOperators

/-- The arguments: the half-step's input, the norm's weight, the three weight matrices, the final norm's weight, the target. -/
structure Args where
  x : Fin 8192 → Fin 1024 → EReal
  nw : Fin 1024 → EReal
  wg : Fin 4 → Fin 704 → Fin 1024 → EReal
  wu : Fin 4 → Fin 704 → Fin 1024 → EReal
  wd : Fin 4 → Fin 704 → Fin 1024 → EReal
  fw : Fin 1024 → EReal
  tg : Fin 8192 → Fin 1024 → EReal

abbrev l1024 : EReal := Ideal.ofBits .f32 0x44800000#32
abbrev lhalf : EReal := Ideal.ofBits .f32 0x3F000000#32
abbrev leps : EReal := Ideal.ofBits .f32 0x358637BD#32
abbrev lstep : EReal := Ideal.ofBits .f32 0x3A800000#32
abbrev ltwo : EReal := Ideal.ofBits .f32 0x40000000#32
abbrev lneg : EReal := Ideal.ofBits .f32 0xBF000000#32

/-- A row's mean square with the norm's addend, and its reciprocal root. -/
def ms (v : Fin 1024 → EReal) : EReal := Ideal.div (∑ d, v d * v d) l1024 + leps
def rstd (v : Fin 1024 → EReal) : EReal := Ideal.rsqrt (ms v)

variable (A : Args)

def xn (t : Fin 8192) (d : Fin 1024) : EReal := A.x t d * rstd (A.x t) * A.nw d
def g (t : Fin 8192) (j : Fin 4) (f : Fin 704) : EReal := ∑ d, xn A t d * A.wg j f d
def u (t : Fin 8192) (j : Fin 4) (f : Fin 704) : EReal := ∑ d, xn A t d * A.wu j f d
def h (t : Fin 8192) (j : Fin 4) (f : Fin 704) : EReal := g A t j f * Ideal.div 1 (1 + Ideal.exp (-g A t j f)) * u A t j f
def y (t : Fin 8192) (d : Fin 1024) : EReal := A.x t d + lhalf * ∑ j, ∑ f, h A t j f * A.wd j f d
def yhat (t : Fin 8192) (d : Fin 1024) : EReal := y A t d * rstd (y A t)
def err (t : Fin 8192) (d : Fin 1024) : EReal := yhat A t d * A.fw d - A.tg t d
def lossAt (t : Fin 8192) : EReal := Ideal.div (∑ d, err A t d * err A t d) l1024
def loss : EReal := lhalf * ∑ t, lossAt A t
def dn (t : Fin 8192) (d : Fin 1024) : EReal := err A t d * lstep
def dnh (t : Fin 8192) (d : Fin 1024) : EReal := dn A t d * A.fw d
def dy (t : Fin 8192) (d : Fin 1024) : EReal :=
  rstd (y A t) * (dnh A t d - yhat A t d * Ideal.div (∑ e, dnh A t e * yhat A t e) l1024)
def dfw (d : Fin 1024) : EReal := ∑ t, dn A t d * yhat A t d

/-! ## Literals -/

theorem lit_step : lstep = ((1 / 1024 : ℝ) : EReal) := by
  simp [Ideal.ofBits, Ideal.ieee, -EReal.coe_mul]; norm_num
theorem lit_two : ltwo = ((2 : ℝ) : EReal) := by
  simp [Ideal.ofBits, Ideal.ieee, -EReal.coe_mul]; norm_num

theorem div_l1024 (x : EReal) : Ideal.div x l1024 = x * ((1 / 1024 : ℝ) : EReal) := by
  rw [show l1024 = _ from FfnSpec.lit_1024, Ideal.div_coe (by norm_num)]

/-! ## Sums -/

theorem sum_blocks (φ : Fin 4 → Fin 704 → EReal) : ∑ F : Fin 2816, φ (blk F) (col F) = ∑ j, ∑ f, φ j f := by
  rw [← Fintype.sum_prod_type' (f := φ)]
  refine Fintype.sum_equiv (finProdFinEquiv (m := 4) (n := 704)).symm _ _ fun F => ?_
  rfl

/-- A real factor that is not negative goes into a sum. -/
theorem mul_sum {ι : Type} (s : Finset ι) (f : ι → EReal) {a : ℝ} (ha : 0 ≤ a) : (a : EReal) * ∑ i ∈ s, f i = ∑ i ∈ s, (a : EReal) * f i := by
  classical
  induction s using Finset.induction_on with
  | empty => rw [Finset.sum_empty, Finset.sum_empty, mul_zero]
  | insert i s hi ih =>
    rw [Finset.sum_insert hi, Finset.sum_insert hi, ← ih, EReal.left_distrib_of_nonneg_of_ne_top (by exact_mod_cast ha) (EReal.coe_ne_top a)]

theorem half_sum {ι : Type} (s : Finset ι) (f : ι → EReal) : lhalf * ∑ i ∈ s, f i = ∑ i ∈ s, lhalf * f i := by
  rw [show lhalf = _ from FfnSpec.lit_half]
  exact mul_sum s f (by norm_num)

theorem twice (w : EReal) : w + w = ((2 : ℝ) : EReal) * w := by
  have e : ((2 : ℝ) : EReal) = 1 + 1 := by
    rw [← EReal.coe_one, ← EReal.coe_add]
    norm_num
  rw [e, EReal.right_distrib_of_nonneg (by norm_num) (by norm_num), one_mul]

/-! ## The gradients as the derivatives of the reference's own lines give them -/

theorem dn_eq (t : Fin 8192) (d : Fin 1024) : Ideal.div (lhalf * 1) l1024 * (ltwo * err A t d) = dn A t d := by
  unfold dn
  rw [div_l1024, show lhalf = _ from FfnSpec.lit_half, lit_two, lit_step, mul_one, ← mul_assoc, ← EReal.coe_mul, ← EReal.coe_mul, mul_comm]
  norm_num

theorem sq_nonneg (x : EReal) : 0 ≤ x * x := by
  rcases le_total 0 x with h | h
  · exact mul_nonneg h h
  · have h' : 0 ≤ -x := by rwa [EReal.neg_nonneg]
    have := mul_nonneg h' h'
    rwa [neg_mul_neg] at this

/-- A row is of real numbers, or its squares add up to infinity. -/
theorem row_cases (v : Fin 1024 → EReal) : (∃ ρ : Fin 1024 → ℝ, ∀ d, v d = (ρ d : EReal)) ∨ ∑ d, v d * v d = ⊤ := by
  by_cases hv : ∃ d, v d * v d = ⊤
  · right
    obtain ⟨d, hd⟩ := hv
    refine top_le_iff.1 (hd ▸ ?_)
    exact Finset.single_le_sum (f := fun d => v d * v d) (fun e _ => sq_nonneg (v e)) (Finset.mem_univ d)
  · left
    refine ⟨fun d => (v d).toReal, fun d => (EReal.coe_toReal ?_ ?_).symm⟩
    · intro hd
      exact hv ⟨d, by rw [hd]; exact EReal.top_mul_top⟩
    · intro hd
      exact hv ⟨d, by rw [hd]; exact EReal.bot_mul_bot⟩

/-- The gradient at a row of the norm's input, from the gradient `z` at the normalized row. -/
theorem norm_grad (v z : Fin 1024 → EReal) (d : Fin 1024) :
    z d * rstd v + v d * Ideal.div ((∑ e, v e * z e) * (lneg * Ideal.div (rstd v) (ms v))) l1024
      + Ideal.div ((∑ e, v e * z e) * (lneg * Ideal.div (rstd v) (ms v))) l1024 * v d
    = rstd v * (z d - v d * rstd v * Ideal.div (∑ e, z e * (v e * rstd v)) l1024) := by
  rcases row_cases v with ⟨ρ, hρ⟩ | hT
  · obtain ⟨m, hm, em⟩ : ∃ m : ℝ, 0 < m ∧ ms v = (m : EReal) := by
      refine ⟨(∑ d, ρ d * ρ d) * (1 / 1024) + FfnSpec.eps, ?_, ?_⟩
      · have := Finset.sum_nonneg fun d (_ : d ∈ Finset.univ) => mul_self_nonneg (ρ d)
        have := FfnSpec.eps_pos
        positivity
      · unfold ms
        rw [div_l1024]
        simp only [hρ, ← EReal.coe_mul, FfnSpec.coe_sum]
        rw [show leps = _ from FfnSpec.lit_eps, ← EReal.coe_add]
    have er : rstd v = (((Real.sqrt m)⁻¹ : ℝ) : EReal) := by
      unfold rstd
      rw [em, Ideal.rsqrt_coe, if_neg (not_lt.2 hm.le), if_neg hm.ne']
    have hr : (Real.sqrt m)⁻¹ * (Real.sqrt m)⁻¹ * m = 1 := by
      have hs : Real.sqrt m ≠ 0 := (Real.sqrt_pos.2 hm).ne'
      rw [← mul_inv, Real.mul_self_sqrt hm.le, inv_mul_cancel₀ hm.ne']
    have hr0 : 0 ≤ (Real.sqrt m)⁻¹ := inv_nonneg.2 (Real.sqrt_nonneg m)
    rw [em, er]
    generalize (Real.sqrt m)⁻¹ = r at hr hr0
    have hq : r * (1 / m) = r * r * r := by
      have := hm.ne'
      field_simp
      linear_combination (-r) * hr
    have es : ∑ e, z e * (v e * (r : EReal)) = (r : EReal) * ∑ e, v e * z e := by
      rw [mul_sum _ _ hr0]
      exact Finset.sum_congr rfl fun e _ => by rw [← mul_assoc, mul_comm (r : EReal), mul_comm (z e)]
    rw [es]
    generalize ∑ e, v e * z e = S
    rw [div_l1024, div_l1024, Ideal.div_coe hm.ne', show lneg = _ from FfnSpec.lit_neg_half, hρ d, ← EReal.coe_mul, hq, ← EReal.coe_mul, ← EReal.coe_mul,
      mul_comm _ ((ρ d : ℝ) : EReal), add_assoc, twice, sub_eq_add_neg,
      EReal.left_distrib_of_nonneg_of_ne_top (by exact_mod_cast hr0) (EReal.coe_ne_top r), mul_comm (z d)]
    refine congrArg (fun w => (r : EReal) * z d + w) ?_
    have e1 : ((2 : ℝ) : EReal) * (((ρ d : ℝ) : EReal) * (S * ((-1 / 2 * (r * r * r) : ℝ) : EReal) * ((1 / 1024 : ℝ) : EReal)))
        = S * ((2 * ρ d * (-1 / 2 * (r * r * r)) * (1 / 1024) : ℝ) : EReal) := by
      simp only [EReal.coe_mul]
      ac_rfl
    have e2 : (r : EReal) * -(((ρ d * r : ℝ) : EReal) * ((r : EReal) * S * ((1 / 1024 : ℝ) : EReal)))
        = S * ((-(r * (ρ d * r) * r * (1 / 1024)) : ℝ) : EReal) := by
      rw [mul_neg, EReal.coe_neg, mul_neg]
      simp only [EReal.coe_mul]
      refine congrArg Neg.neg ?_
      ac_rfl
    rw [e1, e2]
    refine congrArg (fun w : ℝ => S * (w : EReal)) ?_
    ring
  · have em : ms v = ⊤ := by
      unfold ms
      rw [hT, div_l1024, EReal.top_mul_coe_of_pos (by norm_num), show leps = _ from FfnSpec.lit_eps, EReal.top_add_coe]
    have er : rstd v = 0 := by
      unfold rstd
      rw [em, Ideal.rsqrt_top]
    have ed : Ideal.div 0 (⊤ : EReal) = 0 := by
      unfold Ideal.div
      rw [if_neg EReal.top_ne_zero, zero_mul]
    rw [er, em, ed]
    simp only [div_l1024, mul_zero, zero_mul, add_zero]

theorem dy_eq (t : Fin 8192) (d : Fin 1024) :
    dnh A t d * rstd (y A t) + y A t d * Ideal.div ((∑ e, y A t e * dnh A t e) * (lneg * Ideal.div (rstd (y A t)) (ms (y A t)))) l1024
      + Ideal.div ((∑ e, y A t e * dnh A t e) * (lneg * Ideal.div (rstd (y A t)) (ms (y A t)))) l1024 * y A t d = dy A t d :=
  norm_grad (y A t) (dnh A t) d

end Cert.Proof.HeadSpec

end
-- ==== Proof.HeadBlock.lean ====
/-
  A point's payloads at blocks that hold the arguments' values: they hold the specification's.
-/
module

public import proofs.«01_k».proof.Proof.HeadPoint
public import proofs.«01_k».proof.Proof.HeadSpec
public import Idealize.ShloMosaic.Lib.Pointwise

@[expose] public section

set_option maxRecDepth 16384

noncomputable section

namespace Cert.Proof.HeadBlock

open Idealize.ShloMosaic Idealize.ShloMosaic.Tactic Cert.Kernel4Ideal Cert.Kernel4Ideal.Gen
open Cert.Proof.HeadSpec (Args)
open Cert.Proof.HeadPoint
open scoped BigOperators

/-! ## The payloads at an index -/

theorem pay3_ix (k : Fin 128) : k0_pay3 (F := Ideal) (ix2 0 k) = 0 := by
  pointwise [k0_pay3]

theorem pay4_ix (d : Fin 1024) : k0_pay4 (F := Ideal) (ix2 0 d) = 0 := by
  pointwise [k0_pay4]

theorem pay5_ix (x0 : Blk1) (x1 : Row1) (r : Fin 512) (d : Fin 1024) : k0_pay5 (F := Ideal) x0 x1 (ix2 r d)
    = x0 (ix2 r d) * Ideal.rsqrt (Ideal.div (∑ e : Fin 1024, x0 (ix2 r e) * x0 (ix2 r e)) (Ideal.ofBits .f32 0x44800000#32) + Ideal.ofBits .f32 0x358637BD#32) * x1 (ix2 0 d) := by
  pointwise [k0_pay5]

theorem pay6_ix (r : Fin 512) (d : Fin 1024) : k0_pay6 (F := Ideal) (ix2 r d) = 0 := by
  pointwise [k0_pay6]

theorem pay23_ix (n : Norm1) (w : Wts1) (r : Fin 512) (f : Fin 704) : k0_pay23 (F := Ideal) n w (ix2 r f) = ∑ d : Fin 1024, n (ix2 r d) * w (ix3 0 f d) := by
  pointwise [k0_pay23]

theorem pay24_eq (n : Norm1) (w : Wts1) : k0_pay24 (F := Ideal) n w = k0_pay23 (F := Ideal) n w := rfl

theorem projP_ix (n : Norm1) (w : Wts1) (r : Fin 512) (f : Fin 704) : projP n w (ix3 0 r f) = k0_pay23 (F := Ideal) n w (ix2 r f) := by
  pointwise [projP, k0_pay26]

theorem stepP_ix (acc : Blk1) (n : Norm1) (wg wu wd : Wts1) (r : Fin 512) (d : Fin 1024) : stepP acc n wg wu wd (ix2 r d)
    = acc (ix2 r d) + ∑ f : Fin 704, k0_pay23 (F := Ideal) n wg (ix2 r f) * Ideal.div 1 (1 + Ideal.exp (0 - k0_pay23 (F := Ideal) n wg (ix2 r f)))
      * k0_pay24 (F := Ideal) n wu (ix2 r f) * wd (ix3 0 f d) := by
  pointwise [stepP, k0_pay25]

theorem pay28_ix (x0 acc : Blk1) (a : Ideal .f32) (r : Fin 512) (d : Fin 1024) : k0_pay28 (F := Ideal) x0 acc a (ix2 r d) = x0 (ix2 r d) + a * acc (ix2 r d) := by
  pointwise [k0_pay28]

theorem pay29_ix (x0 acc : Blk1) (a : Ideal .f32) (r : Fin 512) (z : Fin 1) : k0_pay29 (F := Ideal) x0 acc a (ix2 r z)
    = Ideal.rsqrt (Ideal.div (∑ d : Fin 1024, k0_pay28 (F := Ideal) x0 acc a (ix2 r d) * k0_pay28 (F := Ideal) x0 acc a (ix2 r d)) (Ideal.ofBits .f32 0x44800000#32) + Ideal.ofBits .f32 0x358637BD#32) := by
  pointwise [k0_pay29]

theorem pay33_ix (x0 acc : Blk1) (a : Ideal .f32) (r : Fin 512) (d : Fin 1024) : k0_pay33 (F := Ideal) x0 acc a (ix2 r d)
    = k0_pay28 (F := Ideal) x0 acc a (ix2 r d) * k0_pay29 (F := Ideal) x0 acc a (ix2 r 0) := by
  pointwise [k0_pay33]

theorem pay30_ix (x0 acc : Blk1) (a : Ideal .f32) (x5 : Row1) (x6 : Blk1) (r : Fin 512) (d : Fin 1024) : k0_pay30 (F := Ideal) x0 acc a x5 x6 (ix2 r d)
    = k0_pay28 (F := Ideal) x0 acc a (ix2 r d) * k0_pay29 (F := Ideal) x0 acc a (ix2 r 0) * x5 (ix2 0 d) - x6 (ix2 r d) := by
  pointwise [k0_pay30]

theorem pay32_ix (x0 acc : Blk1) (a : Ideal .f32) (x5 : Row1) (x6 : Blk1) (r : Fin 512) (d : Fin 1024) : k0_pay32 (F := Ideal) x0 acc a x5 x6 (ix2 r d)
    = k0_pay30 (F := Ideal) x0 acc a x5 x6 (ix2 r d) * Ideal.ofBits .f32 0x3A800000#32 := by
  pointwise [k0_pay32]

theorem pay34_ix (x0 acc : Blk1) (a : Ideal .f32) (x5 : Row1) (x6 : Blk1) (x7 : Row1) (r : Fin 512) (d : Fin 1024) :
    k0_pay34 (F := Ideal) x0 acc a x5 x6 x7 (ix2 r d) = k0_pay32 (F := Ideal) x0 acc a x5 x6 (ix2 r d) * x7 (ix2 0 d) := by
  pointwise [k0_pay34]

theorem pay35_ix (x0 acc : Blk1) (a : Ideal .f32) (x5 : Row1) (x6 : Blk1) (x7 : Row1) (r : Fin 512) (d : Fin 1024) : k0_pay35 (F := Ideal) x0 acc a x5 x6 x7 (ix2 r d)
    = k0_pay34 (F := Ideal) x0 acc a x5 x6 x7 (ix2 r d) * k0_pay33 (F := Ideal) x0 acc a (ix2 r d) := by
  pointwise [k0_pay35]

theorem pay1_ix (s : FVec Ideal S512x1 .f32) (p q v : Blk1) (r : Fin 512) (d : Fin 1024) : k0_pay1 (F := Ideal) s p q v (ix2 r d)
    = s (ix2 r 0) * (q (ix2 r d) - p (ix2 r d) * Ideal.div (∑ e : Fin 1024, v (ix2 r e)) (Ideal.ofBits .f32 0x44800000#32)) := by
  pointwise [k0_pay1]

theorem pay31_ix (x0 acc : Blk1) (a : Ideal .f32) (x5 : Row1) (x6 : Blk1) (s : Vec Ideal S1x128 .f32) (k : Fin 128) : k0_pay31 (F := Ideal) x0 acc a x5 x6 s (ix2 0 k)
    = s (ix2 0 k) + Ideal.ofBits .f32 0x3F000000#32 * ∑ r : Fin 512, Ideal.div (∑ d : Fin 1024, k0_pay30 (F := Ideal) x0 acc a x5 x6 (ix2 r d) * k0_pay30 (F := Ideal) x0 acc a x5 x6 (ix2 r d)) (Ideal.ofBits .f32 0x44800000#32) := by
  pointwise [k0_pay31]

theorem pay2_ix (p q : Blk1) (s : Row1) (d : Fin 1024) : k0_pay2 (F := Ideal) p q s (ix2 0 d) = s (ix2 0 d) + ∑ r : Fin 512, p (ix2 r d) * q (ix2 r d) := by
  pointwise [k0_pay2]

/-! ## Their values -/

/-- Blocks that hold the arguments' values at the tokens `T`. -/
structure Holds (A : Args) (T : Fin 512 → Fin 8192) (x0 : Blk1) (x1 : Row1) (x2 x3 x4 : Wts4) (x5 : Row1) (x6 : Blk1) : Prop where
  x : ∀ r d, x0 (ix2 r d) = A.x (T r) d
  nw : ∀ d, x1 (ix2 0 d) = A.nw d
  wg : ∀ j f d, x2 (ix3 j f d) = A.wg j f d
  wu : ∀ j f d, x3 (ix3 j f d) = A.wu j f d
  wd : ∀ j f d, x4 (ix3 j f d) = A.wd j f d
  fw : ∀ d, x5 (ix2 0 d) = A.fw d
  tg : ∀ r d, x6 (ix2 r d) = A.tg (T r) d

section
variable {A : Args} {T : Fin 512 → Fin 8192} {x0 : Blk1} {x1 : Row1} {x2 x3 x4 : Wts4} {x5 : Row1} {x6 : Blk1} (H : Holds A T x0 x1 x2 x3 x4 x5 x6)
include H

theorem wgpart (j : Fin 4) (f : Fin 704) (d : Fin 1024) : wpart x2 j (ix3 0 f d) = A.wg j f d := H.wg j f d
theorem wupart (j : Fin 4) (f : Fin 704) (d : Fin 1024) : wpart x3 j (ix3 0 f d) = A.wu j f d := H.wu j f d
theorem wdpart (j : Fin 4) (f : Fin 704) (d : Fin 1024) : wpart x4 j (ix3 0 f d) = A.wd j f d := H.wd j f d

theorem xn_val (r : Fin 512) (d : Fin 1024) : k0_pay5 (F := Ideal) x0 x1 (ix2 r d) = HeadSpec.xn A (T r) d := by
  rw [pay5_ix]
  simp only [H.x, H.nw]
  rfl

theorem g_val (j : Fin 4) (r : Fin 512) (f : Fin 704) : k0_pay23 (F := Ideal) (k0_pay5 (F := Ideal) x0 x1) (wpart x2 j) (ix2 r f) = HeadSpec.g A (T r) j f := by
  rw [pay23_ix]
  simp only [xn_val H, wgpart H]
  rfl

theorem u_val (j : Fin 4) (r : Fin 512) (f : Fin 704) : k0_pay23 (F := Ideal) (k0_pay5 (F := Ideal) x0 x1) (wpart x3 j) (ix2 r f) = HeadSpec.u A (T r) j f := by
  rw [pay23_ix]
  simp only [xn_val H, wupart H]
  rfl

theorem gP_val (j : Fin 4) (r : Fin 512) (f : Fin 704) :
    joined (fun j => projP (k0_pay5 (F := Ideal) x0 x1) (wpart x2 j)) (ix3 j r f) = HeadSpec.g A (T r) j f :=
  (projP_ix _ _ r f).trans (g_val H j r f)

theorem uP_val (j : Fin 4) (r : Fin 512) (f : Fin 704) :
    joined (fun j => projP (k0_pay5 (F := Ideal) x0 x1) (wpart x3 j)) (ix3 j r f) = HeadSpec.u A (T r) j f :=
  (projP_ix _ _ r f).trans (u_val H j r f)

theorem step_val (j : Fin 4) (acc : Blk1) (r : Fin 512) (d : Fin 1024) : stepAt (k0_pay5 (F := Ideal) x0 x1) x2 x3 x4 j acc (ix2 r d)
    = acc (ix2 r d) + ∑ f, HeadSpec.h A (T r) j f * A.wd j f d := by
  unfold stepAt
  rw [stepP_ix, pay24_eq]
  simp only [g_val H, u_val H, wdpart H, zero_sub]
  rfl

theorem acc_val (r : Fin 512) (d : Fin 1024) : accP (k0_pay5 (F := Ideal) x0 x1) x2 x3 x4 (ix2 r d) = ∑ j, ∑ f, HeadSpec.h A (T r) j f * A.wd j f d := by
  unfold accP
  rw [step_val H, step_val H, step_val H, step_val H, pay6_ix, zero_add, Fin.sum_univ_four]

theorem y_val (r : Fin 512) (d : Fin 1024) :
    k0_pay28 (F := Ideal) x0 (accP (k0_pay5 (F := Ideal) x0 x1) x2 x3 x4) half (ix2 r d) = HeadSpec.y A (T r) d := by
  rw [pay28_ix, acc_val H, H.x]
  rfl

theorem rstd_val (r : Fin 512) (z : Fin 1) :
    k0_pay29 (F := Ideal) x0 (accP (k0_pay5 (F := Ideal) x0 x1) x2 x3 x4) half (ix2 r z) = HeadSpec.rstd (HeadSpec.y A (T r)) := by
  rw [pay29_ix]
  simp only [y_val H]
  rfl

theorem yhat_val (r : Fin 512) (d : Fin 1024) :
    k0_pay33 (F := Ideal) x0 (accP (k0_pay5 (F := Ideal) x0 x1) x2 x3 x4) half (ix2 r d) = HeadSpec.yhat A (T r) d := by
  rw [pay33_ix, y_val H, rstd_val H]
  rfl

theorem err_val (r : Fin 512) (d : Fin 1024) :
    k0_pay30 (F := Ideal) x0 (accP (k0_pay5 (F := Ideal) x0 x1) x2 x3 x4) half x5 x6 (ix2 r d) = HeadSpec.err A (T r) d := by
  rw [pay30_ix, y_val H, rstd_val H, H.fw, H.tg]
  rfl

theorem dn_val (r : Fin 512) (d : Fin 1024) :
    k0_pay32 (F := Ideal) x0 (accP (k0_pay5 (F := Ideal) x0 x1) x2 x3 x4) half x5 x6 (ix2 r d) = HeadSpec.dn A (T r) d := by
  rw [pay32_ix, err_val H]
  rfl

theorem dnh_val (r : Fin 512) (d : Fin 1024) :
    k0_pay34 (F := Ideal) x0 (accP (k0_pay5 (F := Ideal) x0 x1) x2 x3 x4) half x5 x6 x5 (ix2 r d) = HeadSpec.dnh A (T r) d := by
  rw [pay34_ix, dn_val H, H.fw]
  rfl

theorem dy_val (r : Fin 512) (d : Fin 1024) : dyP x0 (accP (k0_pay5 (F := Ideal) x0 x1) x2 x3 x4) x5 x6 (ix2 r d) = HeadSpec.dy A (T r) d := by
  unfold dyP
  rw [pay1_ix, rstd_val H, dnh_val H, yhat_val H]
  simp only [pay35_ix, dnh_val H, yhat_val H]
  rfl

theorem loss_val (s : Vec Ideal S1x128 .f32) (k : Fin 128) : lossP x0 (accP (k0_pay5 (F := Ideal) x0 x1) x2 x3 x4) x5 x6 s (ix2 0 k)
    = s (ix2 0 k) + HeadSpec.lhalf * ∑ r, HeadSpec.lossAt A (T r) := by
  unfold lossP
  rw [pay31_ix]
  simp only [err_val H]
  rfl

theorem dfw_val (s : Row1) (d : Fin 1024) : dfwP x0 (accP (k0_pay5 (F := Ideal) x0 x1) x2 x3 x4) x5 x6 s (ix2 0 d)
    = s (ix2 0 d) + ∑ r, HeadSpec.dn A (T r) d * HeadSpec.yhat A (T r) d := by
  unfold dfwP
  rw [pay2_ix]
  simp only [dn_val H, yhat_val H]

end

end Cert.Proof.HeadBlock

end
-- ==== Proof.FfnRef.lean ====
/-
  The reference of the half-step's gradient, stage by stage: at real arguments each stage holds the real values of the
  specification.
-/
module

public import proofs.«01_k».proof.Proof.Gen.Reference2Ideal.Run
public import proofs.«01_k».proof.Proof.FfnSpec
public import Idealize.ShloMosaic.Lib.Pointwise
public import Idealize.ShloMosaic.Lib.Pipeline.ValueKit

@[expose] public section

set_option maxRecDepth 16384

noncomputable section

namespace Cert.Proof.FfnRef

open Idealize.ShloMosaic Idealize.ShloMosaic.Tactic Cert.Reference2Ideal Cert.Reference2Ideal.Gen
open Cert.Proof.FfnSpec (Args blk col)
open scoped BigOperators

abbrev Rows := FVec Ideal S8192x1024 .f32
abbrev Wide := FVec Ideal S8192x2816 .f32
abbrev One := FVec Ideal S8192x1 .f32
abbrev Wts := FVec Ideal S4x704x1024 .f32

/-- Arrays that hold the arguments. -/
structure Holds (A : Args) (a0 a1 : Rows) (a2 : FVec Ideal S1x1024 .f32) (a3 a4 a5 : Wts) : Prop where
  dy : ∀ t d, a0 (ix2 t d) = (A.dy t d : EReal)
  x : ∀ t d, a1 (ix2 t d) = (A.x t d : EReal)
  nw : ∀ d, a2 (ix2 0 d) = (A.nw d : EReal)
  wg : ∀ j f d, a3 (ix3 j f d) = (A.wg j f d : EReal)
  wu : ∀ j f d, a4 (ix3 j f d) = (A.wu j f d : EReal)
  wd : ∀ j f d, a5 (ix3 j f d) = (A.wd j f d : EReal)

/-! ## The stages -/

def msV (a1 : Rows) : One :=
  addf (Host.divf (broadcastInDim S8192x1 ![0] bcast_S8192_S8192x1_0 (Host.reduceAdd (mulf a1 a1) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))

def rowsOf (r : One) : Rows := broadcastInDim S8192x1024 ![0, 1] bcast_S8192x1_S8192x1024_0_1 r

def xhatV (a1 : Rows) : Rows := mulf a1 (rowsOf (Host.rsqrt (msV a1)))

def byNw (v : Rows) (a2 : FVec Ideal S1x1024 .f32) : Rows := mulf v (broadcastInDim S8192x1024 ![0, 1] bcast_S1x1024_S8192x1024_0_1 a2)

def flat (w : Wts) : FVec Ideal S2816x1024 .f32 := shapeCast _ w shapeCasts_S4x704x1024_S2816x1024

def turned (w : Wts) : FVec Ideal S1024x2816 .f32 := transpose S1024x2816 [1, 0] (flat w) transposes_S2816x1024_S1024x2816_1_0

def proj (v : Rows) (w : Wts) : Wide :=
  addf (Host.dotGeneral dot_S8192x1024_S1024x2816_S8192x2816_1_0_0_1_n_n none v (turned w)) (broadcastInDim S8192x2816 ![] bcast_S_S8192x2816 (constant S_ .f32 0x00000000#32))

def sgV (g : Wide) : Wide :=
  Host.divf (broadcastInDim S8192x2816 ![] bcast_S_S8192x2816 (constant S_ .f32 0x3F800000#32)) (addf (broadcastInDim S8192x2816 ![] bcast_S_S8192x2816 (constant S_ .f32 0x3F800000#32)) (Host.exp (Host.negf g)))

def slopeV (s : Wide) : Wide := mulf s (subf (broadcastInDim S8192x2816 ![] bcast_S_S8192x2816 (constant S_ .f32 0x3F800000#32)) s)

def halfV (a0 : Rows) : Rows :=
  mulf (broadcastInDim S8192x1024 ![] bcast_S_S8192x1024 (constant S_ .f32 0x3F000000#32)) (shapeCast _ a0 shapeCasts_S8192x1024_S8192x1024)

def dhV (a0 : Rows) (a5 : Wts) : Wide := Host.dotGeneral dot_S8192x1024_S2816x1024_S8192x2816_1_1_0_0_n_n none (halfV a0) (flat a5)

def back (v : Wide) (w : Wts) : Rows := Host.dotGeneral dot_S8192x2816_S1024x2816_S8192x1024_1_1_0_0_n_n none v (turned w)

def parts (v : Wide) : FVec Ideal S4x8192x704 .f32 :=
  transpose S4x8192x704 [1, 0, 2] (shapeCast S8192x4x704 v shapeCasts_S8192x2816_S8192x4x704) transposes_S8192x4x704_S4x8192x704_1_0_2

theorem msV_ix (a1 : Rows) (t : Fin 8192) (z : Fin 1) :
    msV a1 (ix2 t z) = Ideal.div (∑ d : Fin 1024, a1 (ix2 t d) * a1 (ix2 t d)) (Ideal.ofBits .f32 0x44800000#32) + Ideal.ofBits .f32 0x358637BD#32 := by
  pointwise [msV]

theorem rowsOf_ix (r : One) (t : Fin 8192) (d : Fin 1024) : rowsOf r (ix2 t d) = r (ix2 t 0) := by
  pointwise [rowsOf]

theorem xhatV_ix (a1 : Rows) (t : Fin 8192) (d : Fin 1024) : xhatV a1 (ix2 t d) = a1 (ix2 t d) * Ideal.rsqrt (msV a1 (ix2 t 0)) := by
  pointwise [xhatV, rowsOf]

theorem byNw_ix (v : Rows) (a2 : FVec Ideal S1x1024 .f32) (t : Fin 8192) (d : Fin 1024) : byNw v a2 (ix2 t d) = v (ix2 t d) * a2 (ix2 0 d) := by
  pointwise [byNw]

theorem flat_ix (w : Wts) (F : Fin 2816) (d : Fin 1024) : flat w (ix2 F d) = w (ix3 (blk F) (col F) d) := by
  pointwise [flat]
  rfl

theorem turned_ix (w : Wts) (F : Fin 2816) (d : Fin 1024) : turned w (ix2 d F) = w (ix3 (blk F) (col F) d) := by
  refine Eq.trans ?_ (flat_ix w F d)
  pointwise [turned]

theorem proj_ix (v : Rows) (w : Wts) (t : Fin 8192) (F : Fin 2816) : proj v w (ix2 t F) = ∑ d : Fin 1024, v (ix2 t d) * w (ix3 (blk F) (col F) d) := by
  have e : ∀ d, w (ix3 (blk F) (col F) d) = turned w (ix2 d F) := fun d => (turned_ix w F d).symm
  simp only [e]
  pointwise [proj]

theorem sgV_ix (g : Wide) (t : Fin 8192) (F : Fin 2816) : sgV g (ix2 t F) = Ideal.div 1 (1 + Ideal.exp (-g (ix2 t F))) := by
  pointwise [sgV]

theorem slopeV_ix (s : Wide) (t : Fin 8192) (F : Fin 2816) : slopeV s (ix2 t F) = s (ix2 t F) * (1 - s (ix2 t F)) := by
  pointwise [slopeV]

theorem halfV_ix (a0 : Rows) (t : Fin 8192) (d : Fin 1024) : halfV a0 (ix2 t d) = Ideal.ofBits .f32 0x3F000000#32 * a0 (ix2 t d) := by
  pointwise [halfV]

theorem dhV_ix (a0 : Rows) (a5 : Wts) (t : Fin 8192) (F : Fin 2816) : dhV a0 a5 (ix2 t F) = ∑ d : Fin 1024, halfV a0 (ix2 t d) * a5 (ix3 (blk F) (col F) d) := by
  have e : ∀ d, a5 (ix3 (blk F) (col F) d) = flat a5 (ix2 F d) := fun d => (flat_ix a5 F d).symm
  simp only [e]
  pointwise [dhV]

theorem back_ix (v : Wide) (w : Wts) (t : Fin 8192) (d : Fin 1024) : back v w (ix2 t d) = ∑ F : Fin 2816, v (ix2 t F) * w (ix3 (blk F) (col F) d) := by
  have e : ∀ F, w (ix3 (blk F) (col F) d) = turned w (ix2 d F) := fun F => (turned_ix w F d).symm
  simp only [e]
  pointwise [back]

theorem parts_ix (v : Wide) (j : Fin 4) (t : Fin 8192) (f : Fin 704) (F : Fin 2816) (h : F.val = 704 * j.val + f.val) : parts v (ix3 j t f) = v (ix2 t F) := by
  pointwise [parts]
  blk_ext [h]

/-! ## The whole, as the program composes the stages -/

section
variable (a0 a1 : Rows) (a2 : FVec Ideal S1x1024 .f32) (a3 a4 a5 : Wts)

def gV : Wide := proj (byNw (xhatV a1) a2) a3
def siV : Wide := mulf (gV a1 a2 a3) (sgV (gV a1 a2 a3))
def uV : Wide := proj (byNw (xhatV a1) a2) a4
def hV : Wide := mulf (siV a1 a2 a3) (uV a1 a2 a4)
def duV : Wide := mulf (siV a1 a2 a3) (dhV a0 a5)
def dsV : Wide := mulf (dhV a0 a5) (uV a1 a2 a4)
def dgV : Wide :=
  addf (mulf (dsV a0 a1 a2 a4 a5) (sgV (gV a1 a2 a3))) (mulf (mulf (gV a1 a2 a3) (dsV a0 a1 a2 a4 a5)) (slopeV (sgV (gV a1 a2 a3))))
def dxnV : Rows := addf (back (duV a0 a1 a2 a3 a5) a4) (back (dgV a0 a1 a2 a3 a4 a5) a3)
def dxhV : Rows := byNw (dxnV a0 a1 a2 a3 a4 a5) a2
def dnwV : FVec Ideal S1x1024 .f32 :=
  shapeCast _ (Host.reduceAdd (mulf (xhatV a1) (dxnV a0 a1 a2 a3 a4 a5)) (constant S_ .f32 0x00000000#32) reducesTo_S8192x1024_S1024_d0 h_S_) shapeCasts_S1024_S1x1024

/-- The factor the sum of squares brings to a token's row, the derivative of the reciprocal root. -/
def slopeMs (r : One) : One := mulf (broadcastInDim S8192x1 ![] bcast_S_S8192x1 (constant S_ .f32 0xBF000000#32)) (Host.divf (Host.rsqrt r) r)

def dmsV (v : Rows) : One :=
  shapeCast _ (Host.reduceAdd (mulf a1 v) (constant S_ .f32 0x00000000#32) reducesTo_S8192x1024_S8192_d1 h_S_) shapeCasts_S8192_S8192x1

def dsqV (v : Rows) : Rows :=
  broadcastInDim S8192x1024 ![0] bcast_S8192_S8192x1024_0 (Host.reduceAdd (Host.divf (mulf (dmsV a1 v) (slopeMs (msV a1))) (broadcastInDim S8192x1 ![] bcast_S_S8192x1 (constant S_ .f32 0x44800000#32))) (constant S_ .f32 0x00000000#32) reducesTo_S8192x1_S8192_d1 h_S_)

def dxV : Rows :=
  addf (addf (addf a0 (mulf (dxhV a0 a1 a2 a3 a4 a5) (rowsOf (Host.rsqrt (msV a1))))) (mulf a1 (dsqV a1 (dxhV a0 a1 a2 a3 a4 a5)))) (mulf (dsqV a1 (dxhV a0 a1 a2 a3 a4 a5)) a1)

theorem dnwV_ix (z : Fin 1) (d : Fin 1024) : dnwV a0 a1 a2 a3 a4 a5 (ix2 z d) = ∑ t : Fin 8192, xhatV a1 (ix2 t d) * dxnV a0 a1 a2 a3 a4 a5 (ix2 t d) := by
  pointwise [dnwV]

theorem slopeMs_ix (r : One) (t : Fin 8192) : slopeMs r (ix2 t 0) = Ideal.ofBits .f32 0xBF000000#32 * Ideal.div (Ideal.rsqrt (r (ix2 t 0))) (r (ix2 t 0)) := by
  pointwise [slopeMs]

theorem dmsV_ix (v : Rows) (t : Fin 8192) : dmsV a1 v (ix2 t 0) = ∑ e : Fin 1024, a1 (ix2 t e) * v (ix2 t e) := by
  pointwise [dmsV]

theorem dsqV_ix (v : Rows) (t : Fin 8192) (d : Fin 1024) :
    dsqV a1 v (ix2 t d) = Ideal.div (dmsV a1 v (ix2 t 0) * slopeMs (msV a1) (ix2 t 0)) (Ideal.ofBits .f32 0x44800000#32) := by
  pointwise [dsqV]
  exact Fin.sum_univ_one _

end

/-! ## Their values -/

section
variable {A : Args} {a0 a1 : Rows} {a2 : FVec Ideal S1x1024 .f32} {a3 a4 a5 : Wts} (H : Holds A a0 a1 a2 a3 a4 a5)
include H

theorem ms_val (t : Fin 8192) (z : Fin 1) : msV a1 (ix2 t z) = (FfnSpec.ms A t : EReal) := by
  rw [msV_ix]
  simp only [H.x, ← EReal.coe_mul, FfnSpec.coe_sum]
  rw [FfnSpec.lit_1024, FfnSpec.lit_eps, FfnSpec.div_1024, ← EReal.coe_add]
  rfl

theorem xhat_val (t : Fin 8192) (d : Fin 1024) : xhatV a1 (ix2 t d) = (FfnSpec.xhat A t d : EReal) := by
  rw [xhatV_ix, ms_val H, FfnSpec.rsqrt_ms, H.x, ← EReal.coe_mul]
  rfl

theorem xn_val (t : Fin 8192) (d : Fin 1024) : byNw (xhatV a1) a2 (ix2 t d) = (FfnSpec.xn A t d : EReal) := by
  rw [byNw_ix, xhat_val H, H.nw, ← EReal.coe_mul]
  rfl

theorem g_val (t : Fin 8192) (F : Fin 2816) : gV a1 a2 a3 (ix2 t F) = (FfnSpec.g A t (blk F) (col F) : EReal) := by
  unfold gV
  rw [proj_ix]
  simp only [xn_val H, H.wg, ← EReal.coe_mul, FfnSpec.coe_sum]
  rfl

theorem u_val (t : Fin 8192) (F : Fin 2816) : uV a1 a2 a4 (ix2 t F) = (FfnSpec.u A t (blk F) (col F) : EReal) := by
  unfold uV
  rw [proj_ix]
  simp only [xn_val H, H.wu, ← EReal.coe_mul, FfnSpec.coe_sum]
  rfl

theorem sg_val (t : Fin 8192) (F : Fin 2816) : sgV (gV a1 a2 a3) (ix2 t F) = (FfnSpec.sg A t (blk F) (col F) : EReal) := by
  rw [sgV_ix, g_val H, FfnSpec.sig_real]
  rfl

theorem si_val (t : Fin 8192) (F : Fin 2816) : siV a1 a2 a3 (ix2 t F) = (FfnSpec.si A t (blk F) (col F) : EReal) := by
  show gV a1 a2 a3 (ix2 t F) * sgV (gV a1 a2 a3) (ix2 t F) = _
  rw [g_val H, sg_val H, ← EReal.coe_mul]
  rfl

theorem h_val (t : Fin 8192) (F : Fin 2816) : hV a1 a2 a3 a4 (ix2 t F) = (FfnSpec.h A t (blk F) (col F) : EReal) := by
  show siV a1 a2 a3 (ix2 t F) * uV a1 a2 a4 (ix2 t F) = _
  rw [si_val H, u_val H, ← EReal.coe_mul]
  rfl

theorem half_val (t : Fin 8192) (d : Fin 1024) : halfV a0 (ix2 t d) = (FfnSpec.dyh A t d : EReal) := by
  rw [halfV_ix, H.dy, FfnSpec.lit_half, ← EReal.coe_mul]
  rfl

theorem dh_val (t : Fin 8192) (F : Fin 2816) : dhV a0 a5 (ix2 t F) = (FfnSpec.dh A t (blk F) (col F) : EReal) := by
  rw [dhV_ix]
  simp only [half_val H, H.wd, ← EReal.coe_mul, FfnSpec.coe_sum]
  rfl

theorem du_val (t : Fin 8192) (F : Fin 2816) : duV a0 a1 a2 a3 a5 (ix2 t F) = (FfnSpec.du A t (blk F) (col F) : EReal) := by
  show siV a1 a2 a3 (ix2 t F) * dhV a0 a5 (ix2 t F) = _
  rw [si_val H, dh_val H, ← EReal.coe_mul, mul_comm]
  rfl

theorem dg_val (t : Fin 8192) (F : Fin 2816) : dgV a0 a1 a2 a3 a4 a5 (ix2 t F) = (FfnSpec.dg A t (blk F) (col F) : EReal) := by
  have e : dsV a0 a1 a2 a4 a5 (ix2 t F) = ((FfnSpec.dh A t (blk F) (col F) * FfnSpec.u A t (blk F) (col F) : ℝ) : EReal) := by
    show dhV a0 a5 (ix2 t F) * uV a1 a2 a4 (ix2 t F) = _
    rw [dh_val H, u_val H, ← EReal.coe_mul]
  have e' : slopeV (sgV (gV a1 a2 a3)) (ix2 t F) = ((FfnSpec.sg A t (blk F) (col F) * (1 - FfnSpec.sg A t (blk F) (col F)) : ℝ) : EReal) := by
    rw [slopeV_ix, sg_val H, ← EReal.coe_one, ← EReal.coe_sub, ← EReal.coe_mul]
  show dsV a0 a1 a2 a4 a5 (ix2 t F) * sgV (gV a1 a2 a3) (ix2 t F)
    + gV a1 a2 a3 (ix2 t F) * dsV a0 a1 a2 a4 a5 (ix2 t F) * slopeV (sgV (gV a1 a2 a3)) (ix2 t F) = _
  rw [e, e', sg_val H, g_val H]
  simp only [← EReal.coe_mul, ← EReal.coe_add]
  rw [FfnSpec.dg_eq]

theorem dxn_val (t : Fin 8192) (d : Fin 1024) : dxnV a0 a1 a2 a3 a4 a5 (ix2 t d) = (FfnSpec.dxn A t d : EReal) := by
  show back (duV a0 a1 a2 a3 a5) a4 (ix2 t d) + back (dgV a0 a1 a2 a3 a4 a5) a3 (ix2 t d) = _
  rw [back_ix, back_ix]
  simp only [du_val H, dg_val H, H.wu, H.wg, ← EReal.coe_mul, FfnSpec.coe_sum, ← EReal.coe_add]
  rw [FfnSpec.dxn_eq]

theorem dxh_val (t : Fin 8192) (d : Fin 1024) : dxhV a0 a1 a2 a3 a4 a5 (ix2 t d) = (FfnSpec.dxh A t d : EReal) := by
  unfold dxhV
  rw [byNw_ix, dxn_val H, H.nw, ← EReal.coe_mul]
  rfl

theorem dnw_val (z : Fin 1) (d : Fin 1024) : dnwV a0 a1 a2 a3 a4 a5 (ix2 z d) = (FfnSpec.dnw A d : EReal) := by
  rw [dnwV_ix]
  simp only [xhat_val H, dxn_val H, ← EReal.coe_mul, FfnSpec.coe_sum]
  exact congrArg _ (Finset.sum_congr rfl fun t _ => mul_comm _ _)

theorem dsq_val (t : Fin 8192) (d : Fin 1024) : dsqV a1 (dxhV a0 a1 a2 a3 a4 a5) (ix2 t d)
    = (((∑ e, A.x t e * FfnSpec.dxh A t e) * (-1 / 2 * (FfnSpec.rstd A t * (1 / FfnSpec.ms A t))) * (1 / 1024) : ℝ) : EReal) := by
  rw [dsqV_ix, dmsV_ix, slopeMs_ix, ms_val H, FfnSpec.rsqrt_ms, FfnSpec.div_real _ _ (FfnSpec.ms_pos A t).ne', FfnSpec.lit_1024, FfnSpec.lit_neg_half]
  simp only [H.x, dxh_val H, ← EReal.coe_mul, FfnSpec.coe_sum]
  rw [FfnSpec.div_1024]

theorem dx_val (t : Fin 8192) (d : Fin 1024) : dxV a0 a1 a2 a3 a4 a5 (ix2 t d) = (FfnSpec.dx A t d : EReal) := by
  have e : rowsOf (Host.rsqrt (msV a1)) (ix2 t d) = (FfnSpec.rstd A t : EReal) := by
    rw [rowsOf_ix]
    show Ideal.rsqrt (msV a1 (ix2 t 0)) = _
    rw [ms_val H, FfnSpec.rsqrt_ms]
  show a0 (ix2 t d) + dxhV a0 a1 a2 a3 a4 a5 (ix2 t d) * rowsOf (Host.rsqrt (msV a1)) (ix2 t d)
    + a1 (ix2 t d) * dsqV a1 (dxhV a0 a1 a2 a3 a4 a5) (ix2 t d) + dsqV a1 (dxhV a0 a1 a2 a3 a4 a5) (ix2 t d) * a1 (ix2 t d) = _
  rw [dsq_val H, e, dxh_val H, H.dy, H.x]
  simp only [← EReal.coe_mul, ← EReal.coe_add]
  rw [FfnSpec.dx_eq]

end

/-! ## The arrays the program ends with -/

/-- A token's row of an array, and a row of one of the four parts of the wide arrays. -/
def rows (φ : Fin 8192 → Fin 1024 → ℝ) (y : S8192x1024.Idx) : EReal := (φ (y 0) (y 1) : EReal)
def wide (φ : Fin 8192 → Fin 4 → Fin 704 → ℝ) (y : S4x8192x704.Idx) : EReal := (φ (y 1) (y 0) (y 2) : EReal)
def one (φ : Fin 1024 → ℝ) (y : S1x1024.Idx) : EReal := (φ (y 1) : EReal)

theorem rows_eq (v : S8192x1024.Idx → EReal) (φ : Fin 8192 → Fin 1024 → ℝ) (h : ∀ t d, v (ix2 t d) = (φ t d : EReal)) : v = rows φ := by
  funext y
  rw [eq_ix2 y]
  exact h _ _

theorem parts_eq (v : Wide) (φ : Fin 8192 → Fin 4 → Fin 704 → ℝ) (h : ∀ t F, v (ix2 t F) = (φ t (blk F) (col F) : EReal)) :
    truncf (F := Ideal) .bf16 (parts v) bitsLt_bf16_f32 = wide φ := by
  funext y
  rw [eq_ix3 y]
  generalize y 0 = j
  generalize y 1 = t
  generalize y 2 = f
  show parts v (ix3 (n0 := 4) (n1 := 8192) (n2 := 704) j t f) = ((φ t j f : ℝ) : EReal)
  change Fin 8192 at t
  change Fin 4 at j
  change Fin 704 at f
  have hF : 704 * j.val + f.val < 2816 := by omega
  rw [parts_ix v j t f ⟨704 * j.val + f.val, hF⟩ rfl, h]
  have e1 : blk ⟨704 * j.val + f.val, hF⟩ = j := Fin.ext (by show (704 * j.val + f.val) / 704 = j.val; omega)
  have e2 : col ⟨704 * j.val + f.val, hF⟩ = f := Fin.ext (by show (704 * j.val + f.val) % 704 = f.val; omega)
  rw [e1, e2]

theorem one_eq (v : S1x1024.Idx → EReal) (φ : Fin 1024 → ℝ) (h : ∀ z d, v (ix2 z d) = (φ d : EReal)) : v = one φ := by
  funext y
  rw [eq_ix2 y]
  exact h _ _

section
open Cert.Reference2Ideal.Value Idealize.ShloMosaic.TcCoe Idealize.SL.Sem
variable (m : (ℓ : Loc nD τ sig) → Buf (Elt Ideal) ℓ) (c : Dev nD)

/-- The arguments a run starts with. -/
abbrev arg0 : Rows := m ((c.tc : Thread nD τ).loc main_arg0)
abbrev arg1 : Rows := m ((c.tc : Thread nD τ).loc main_arg1)
abbrev arg2 : FVec Ideal S1x1024 .f32 := m ((c.tc : Thread nD τ).loc main_arg2)
abbrev arg3 : Wts := m ((c.tc : Thread nD τ).loc main_arg3)
abbrev arg4 : Wts := m ((c.tc : Thread nD τ).loc main_arg4)
abbrev arg5 : Wts := m ((c.tc : Thread nD τ).loc main_arg5)

theorem res62 : res_main_v62 m c = dxV (arg0 m c) (arg1 m c) (arg2 m c) (arg3 m c) (arg4 m c) (arg5 m c) := rfl

theorem res66 : res_main_v66 m c = truncf (F := Ideal) .bf16 (parts (dgV (arg0 m c) (arg1 m c) (arg2 m c) (arg3 m c) (arg4 m c) (arg5 m c))) bitsLt_bf16_f32 := rfl

theorem res45 : res_main_v45 m c = dnwV (arg0 m c) (arg1 m c) (arg2 m c) (arg3 m c) (arg4 m c) (arg5 m c) := rfl

theorem run_values (ρ : Dev nD → PrngReg) (A : Dev nD → Args)
    (H : ∀ c, Holds (A c) (arg0 m c) (arg1 m c) (arg2 m c) (arg3 m c) (arg4 m c) (arg5 m c)) :
    θ_run defs (onTc (τ := τ) (main (F := Ideal))) ⟨m, fun _ => 0, ρ⟩ fun r => ∀ c : Dev nD,
      r.2.mem ((c.tc : Thread nD τ).loc main_v62) = rows (FfnSpec.dx (A c))
      ∧ r.2.mem ((c.tc : Thread nD τ).loc main_v63) = rows (FfnSpec.dyh (A c))
      ∧ r.2.mem ((c.tc : Thread nD τ).loc main_v66) = wide (FfnSpec.dg (A c))
      ∧ r.2.mem ((c.tc : Thread nD τ).loc main_v69) = wide (FfnSpec.du (A c))
      ∧ r.2.mem ((c.tc : Thread nD τ).loc main_v72) = wide (FfnSpec.h (A c))
      ∧ r.2.mem ((c.tc : Thread nD τ).loc main_v45) = one (FfnSpec.dnw (A c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ?_) (Cert.Reference2Ideal.Value.run (F := Ideal) m ρ)
  obtain ⟨e62, e63, e66, e69, e72, e45, keep⟩ := h c
  refine ⟨?_, ?_, ?_, ?_, ?_, ?_, keep⟩
  · exact e62.trans ((res62 m c).trans (rows_eq _ _ (dx_val (H c))))
  · exact e63.trans (rows_eq _ _ (half_val (H c)))
  · exact e66.trans ((res66 m c).trans (parts_eq _ _ (dg_val (H c))))
  · exact e69.trans (parts_eq (duV (arg0 m c) (arg1 m c) (arg2 m c) (arg3 m c) (arg5 m c)) _ (du_val (H c)))
  · exact e72.trans (parts_eq (hV (arg1 m c) (arg2 m c) (arg3 m c) (arg4 m c)) _ (h_val (H c)))
  · exact e45.trans ((res45 m c).trans (one_eq _ _ (dnw_val (H c))))

end

end Cert.Proof.FfnRef

end
-- ==== Proof.HeadRef.lean ====
/-
  The reference of the half-step with the loss, stage by stage: each stage holds the values of the specification.
-/
module

public import proofs.«01_k».proof.Proof.Gen.Reference4Ideal.Run
public import proofs.«01_k».proof.Proof.HeadSpec
public import proofs.«01_k».proof.Proof.FfnRef

@[expose] public section

set_option maxRecDepth 16384

noncomputable section

namespace Cert.Proof.HeadRef

open Idealize.ShloMosaic Idealize.ShloMosaic.Tactic Cert.Reference4Ideal Cert.Reference4Ideal.Gen
open Cert.Proof.FfnSpec (blk col)
open Cert.Proof.FfnRef (Rows Wide One Wts msV msV_ix rowsOf rowsOf_ix xhatV xhatV_ix byNw byNw_ix flat flat_ix turned turned_ix sgV sgV_ix parts parts_ix dsqV
  dsqV_ix dmsV_ix slopeMs_ix)
open Cert.Proof.HeadSpec (Args)
open scoped BigOperators

abbrev Row1 := FVec Ideal S1x1024 .f32

/-- The arguments as arrays hold them. -/
def argsOf (a0 : Rows) (a1 : Row1) (a2 a3 a4 : Wts) (a5 : Row1) (a6 : Rows) : Args where
  x t d := a0 (ix2 t d)
  nw d := a1 (ix2 0 d)
  wg j f d := a2 (ix3 j f d)
  wu j f d := a3 (ix3 j f d)
  wd j f d := a4 (ix3 j f d)
  fw d := a5 (ix2 0 d)
  tg t d := a6 (ix2 t d)

/-! ## The stages -/

def projV (v : Rows) (w : Wts) : Wide := Host.dotGeneral dot_S8192x1024_S1024x2816_S8192x2816_1_0_0_1_n_n none v (turned w)

def downV (v : Wide) (w : Wts) : Rows := Host.dotGeneral dot_S8192x2816_S2816x1024_S8192x1024_1_0_0_1_n_n none v (flat w)

def lossV (e : Rows) : FVec Ideal S1x128 .f32 :=
  broadcastInDim S1x128 ![] bcast_S_S1x128 (mulf (constant S_ .f32 0x3F000000#32) (Host.reduceAdd (Host.divf (Host.reduceAdd (mulf e e) (constant S_ .f32 0x00000000#32) reducesTo_S8192x1024_S8192_d1 h_S_) (broadcastInDim S8192 ![] bcast_S_S8192 (constant S_ .f32 0x44800000#32))) (constant S_ .f32 0x00000000#32) reducesTo_S8192_S_d0 h_S_))

def dnOf (e : Rows) : Rows :=
  mulf (broadcastInDim S8192x1024 ![0] bcast_S8192_S8192x1024_0 (Host.divf (broadcastInDim S8192 ![] bcast_S_S8192 (mulf (constant S_ .f32 0x3F000000#32) (constant S_ .f32 0x3F800000#32))) (broadcastInDim S8192 ![] bcast_S_S8192 (constant S_ .f32 0x44800000#32)))) (mulf (broadcastInDim S8192x1024 ![] bcast_S_S8192x1024 (constant S_ .f32 0x40000000#32)) e)

def dfwOf (n z : Rows) : Row1 :=
  shapeCast _ (Host.reduceAdd (mulf n z) (constant S_ .f32 0x00000000#32) reducesTo_S8192x1024_S1024_d0 h_S_) shapeCasts_S1024_S1x1024

theorem projV_ix (v : Rows) (w : Wts) (t : Fin 8192) (F : Fin 2816) : projV v w (ix2 t F) = ∑ d : Fin 1024, v (ix2 t d) * w (ix3 (blk F) (col F) d) := by
  have e : ∀ d, w (ix3 (blk F) (col F) d) = turned w (ix2 d F) := fun d => (turned_ix w F d).symm
  simp only [e]
  pointwise [projV]

theorem downV_ix (v : Wide) (w : Wts) (t : Fin 8192) (d : Fin 1024) : downV v w (ix2 t d) = ∑ F : Fin 2816, v (ix2 t F) * w (ix3 (blk F) (col F) d) := by
  have e : ∀ F, w (ix3 (blk F) (col F) d) = flat w (ix2 F d) := fun F => (flat_ix w F d).symm
  simp only [e]
  pointwise [downV]

theorem lossV_ix (e : Rows) (z : Fin 1) (k : Fin 128) : lossV e (ix2 z k)
    = Ideal.ofBits .f32 0x3F000000#32 * ∑ t : Fin 8192, Ideal.div (∑ d : Fin 1024, e (ix2 t d) * e (ix2 t d)) (Ideal.ofBits .f32 0x44800000#32) := by
  pointwise [lossV]

theorem dnOf_ix (e : Rows) (t : Fin 8192) (d : Fin 1024) : dnOf e (ix2 t d)
    = Ideal.div (Ideal.ofBits .f32 0x3F000000#32 * 1) (Ideal.ofBits .f32 0x44800000#32) * (Ideal.ofBits .f32 0x40000000#32 * e (ix2 t d)) := by
  pointwise [dnOf]

theorem dfwOf_ix (n z : Rows) (k : Fin 1) (d : Fin 1024) : dfwOf n z (ix2 k d) = ∑ t : Fin 8192, n (ix2 t d) * z (ix2 t d) := by
  pointwise [dfwOf]

/-! ## The whole, as the program composes the stages, and its values -/

section
variable (a0 : Rows) (a1 : Row1) (a2 a3 a4 : Wts) (a5 : Row1) (a6 : Rows)

def xnV : Rows := byNw (xhatV a0) a1
def gV : Wide := projV (xnV a0 a1) a2
def uV : Wide := projV (xnV a0 a1) a3
def hV : Wide := mulf (mulf (gV a0 a1 a2) (sgV (gV a0 a1 a2))) (uV a0 a1 a3)
def yV : Rows := addf a0 (mulf (broadcastInDim S8192x1024 ![] bcast_S_S8192x1024 (constant S_ .f32 0x3F000000#32)) (downV (hV a0 a1 a2 a3) a4))
def yhatV : Rows := xhatV (yV a0 a1 a2 a3 a4)
def errV : Rows := subf (byNw (yhatV a0 a1 a2 a3 a4) a5) a6
def dnV : Rows := dnOf (errV a0 a1 a2 a3 a4 a5 a6)
def dnhV : Rows := byNw (dnV a0 a1 a2 a3 a4 a5 a6) a5
def dyV : Rows :=
  addf (addf (mulf (dnhV a0 a1 a2 a3 a4 a5 a6) (rowsOf (Host.rsqrt (msV (yV a0 a1 a2 a3 a4)))))
    (mulf (yV a0 a1 a2 a3 a4) (dsqV (yV a0 a1 a2 a3 a4) (dnhV a0 a1 a2 a3 a4 a5 a6))))
    (mulf (dsqV (yV a0 a1 a2 a3 a4) (dnhV a0 a1 a2 a3 a4 a5 a6)) (yV a0 a1 a2 a3 a4))

/-- The specification's arguments. -/
abbrev args : Args := argsOf a0 a1 a2 a3 a4 a5 a6

theorem ms_eq (v : Rows) (t : Fin 8192) (z : Fin 1) : msV v (ix2 t z) = HeadSpec.ms fun d => v (ix2 t d) := by
  rw [msV_ix]
  rfl

theorem xhat_eq (v : Rows) (t : Fin 8192) (d : Fin 1024) : xhatV v (ix2 t d) = v (ix2 t d) * HeadSpec.rstd fun d => v (ix2 t d) := by
  rw [xhatV_ix, ms_eq]
  rfl

theorem xn_val (t : Fin 8192) (d : Fin 1024) : xnV a0 a1 (ix2 t d) = HeadSpec.xn (args a0 a1 a2 a3 a4 a5 a6) t d := by
  unfold xnV
  rw [byNw_ix, xhat_eq]
  rfl

theorem g_val (t : Fin 8192) (F : Fin 2816) : gV a0 a1 a2 (ix2 t F) = HeadSpec.g (args a0 a1 a2 a3 a4 a5 a6) t (blk F) (col F) := by
  unfold gV
  rw [projV_ix]
  simp only [xn_val a0 a1 a2 a3 a4 a5 a6]
  rfl

theorem u_val (t : Fin 8192) (F : Fin 2816) : uV a0 a1 a3 (ix2 t F) = HeadSpec.u (args a0 a1 a2 a3 a4 a5 a6) t (blk F) (col F) := by
  unfold uV
  rw [projV_ix]
  simp only [xn_val a0 a1 a2 a3 a4 a5 a6]
  rfl

theorem h_val (t : Fin 8192) (F : Fin 2816) : hV a0 a1 a2 a3 (ix2 t F) = HeadSpec.h (args a0 a1 a2 a3 a4 a5 a6) t (blk F) (col F) := by
  show gV a0 a1 a2 (ix2 t F) * sgV (gV a0 a1 a2) (ix2 t F) * uV a0 a1 a3 (ix2 t F) = _
  rw [sgV_ix, g_val a0 a1 a2 a3 a4 a5 a6, u_val a0 a1 a2 a3 a4 a5 a6]
  rfl

theorem y_val (t : Fin 8192) (d : Fin 1024) : yV a0 a1 a2 a3 a4 (ix2 t d) = HeadSpec.y (args a0 a1 a2 a3 a4 a5 a6) t d := by
  show a0 (ix2 t d) + Ideal.ofBits .f32 0x3F000000#32 * downV (hV a0 a1 a2 a3) a4 (ix2 t d) = _
  rw [downV_ix]
  simp only [h_val a0 a1 a2 a3 a4 a5 a6]
  rw [HeadSpec.sum_blocks fun j f => HeadSpec.h (args a0 a1 a2 a3 a4 a5 a6) t j f * a4 (ix3 j f d)]
  rfl

theorem ms_val (t : Fin 8192) (z : Fin 1) : msV (yV a0 a1 a2 a3 a4) (ix2 t z) = HeadSpec.ms (HeadSpec.y (args a0 a1 a2 a3 a4 a5 a6) t) := by
  rw [ms_eq]
  exact congrArg HeadSpec.ms (funext fun d => y_val a0 a1 a2 a3 a4 a5 a6 t d)

theorem yhat_val (t : Fin 8192) (d : Fin 1024) : yhatV a0 a1 a2 a3 a4 (ix2 t d) = HeadSpec.yhat (args a0 a1 a2 a3 a4 a5 a6) t d := by
  unfold yhatV
  rw [xhatV_ix, ms_val a0 a1 a2 a3 a4 a5 a6, y_val a0 a1 a2 a3 a4 a5 a6]
  rfl

theorem err_val (t : Fin 8192) (d : Fin 1024) : errV a0 a1 a2 a3 a4 a5 a6 (ix2 t d) = HeadSpec.err (args a0 a1 a2 a3 a4 a5 a6) t d := by
  show byNw (yhatV a0 a1 a2 a3 a4) a5 (ix2 t d) - a6 (ix2 t d) = _
  rw [byNw_ix, yhat_val a0 a1 a2 a3 a4 a5 a6]
  rfl

theorem loss_val (z : Fin 1) (k : Fin 128) : lossV (errV a0 a1 a2 a3 a4 a5 a6) (ix2 z k) = HeadSpec.loss (args a0 a1 a2 a3 a4 a5 a6) := by
  rw [lossV_ix]
  simp only [err_val]
  rfl

theorem dn_val (t : Fin 8192) (d : Fin 1024) : dnV a0 a1 a2 a3 a4 a5 a6 (ix2 t d) = HeadSpec.dn (args a0 a1 a2 a3 a4 a5 a6) t d := by
  unfold dnV
  rw [dnOf_ix, err_val]
  exact HeadSpec.dn_eq _ t d

theorem dnh_val (t : Fin 8192) (d : Fin 1024) : dnhV a0 a1 a2 a3 a4 a5 a6 (ix2 t d) = HeadSpec.dnh (args a0 a1 a2 a3 a4 a5 a6) t d := by
  unfold dnhV
  rw [byNw_ix, dn_val]
  rfl

theorem dfw_val (z : Fin 1) (d : Fin 1024) :
    dfwOf (yhatV a0 a1 a2 a3 a4) (dnV a0 a1 a2 a3 a4 a5 a6) (ix2 z d) = HeadSpec.dfw (args a0 a1 a2 a3 a4 a5 a6) d := by
  rw [dfwOf_ix]
  simp only [yhat_val a0 a1 a2 a3 a4 a5 a6, dn_val]
  exact Finset.sum_congr rfl fun t _ => mul_comm _ _

theorem dsq_val (t : Fin 8192) (d : Fin 1024) : dsqV (yV a0 a1 a2 a3 a4) (dnhV a0 a1 a2 a3 a4 a5 a6) (ix2 t d)
    = Ideal.div ((∑ e, HeadSpec.y (args a0 a1 a2 a3 a4 a5 a6) t e * HeadSpec.dnh (args a0 a1 a2 a3 a4 a5 a6) t e)
      * (HeadSpec.lneg * Ideal.div (HeadSpec.rstd (HeadSpec.y (args a0 a1 a2 a3 a4 a5 a6) t)) (HeadSpec.ms (HeadSpec.y (args a0 a1 a2 a3 a4 a5 a6) t)))) HeadSpec.l1024 := by
  rw [dsqV_ix, dmsV_ix, slopeMs_ix, ms_val a0 a1 a2 a3 a4 a5 a6]
  simp only [y_val a0 a1 a2 a3 a4 a5 a6, dnh_val]
  rfl

theorem dy_val (t : Fin 8192) (d : Fin 1024) : dyV a0 a1 a2 a3 a4 a5 a6 (ix2 t d) = HeadSpec.dy (args a0 a1 a2 a3 a4 a5 a6) t d := by
  have e : rowsOf (Host.rsqrt (msV (yV a0 a1 a2 a3 a4))) (ix2 t d) = HeadSpec.rstd (HeadSpec.y (args a0 a1 a2 a3 a4 a5 a6) t) := by
    rw [rowsOf_ix]
    show Ideal.rsqrt (msV (yV a0 a1 a2 a3 a4) (ix2 t 0)) = _
    rw [ms_val a0 a1 a2 a3 a4 a5 a6]
    rfl
  show dnhV a0 a1 a2 a3 a4 a5 a6 (ix2 t d) * rowsOf (Host.rsqrt (msV (yV a0 a1 a2 a3 a4))) (ix2 t d)
    + yV a0 a1 a2 a3 a4 (ix2 t d) * dsqV (yV a0 a1 a2 a3 a4) (dnhV a0 a1 a2 a3 a4 a5 a6) (ix2 t d)
    + dsqV (yV a0 a1 a2 a3 a4) (dnhV a0 a1 a2 a3 a4 a5 a6) (ix2 t d) * yV a0 a1 a2 a3 a4 (ix2 t d) = _
  rw [dsq_val, e, dnh_val, y_val a0 a1 a2 a3 a4 a5 a6]
  exact HeadSpec.dy_eq _ t d

end

/-! ## The arrays the program ends with -/

/-- A token's row of an array, and a row of one of the four parts of the wide arrays. -/
def rows (φ : Fin 8192 → Fin 1024 → EReal) (y : S8192x1024.Idx) : EReal := φ (y 0) (y 1)
def wide (φ : Fin 8192 → Fin 4 → Fin 704 → EReal) (y : S4x8192x704.Idx) : EReal := φ (y 1) (y 0) (y 2)
def one (φ : Fin 1024 → EReal) (y : S1x1024.Idx) : EReal := φ (y 1)

theorem rows_eq (v : S8192x1024.Idx → EReal) (φ : Fin 8192 → Fin 1024 → EReal) (h : ∀ t d, v (ix2 t d) = φ t d) : v = rows φ := by
  funext y
  rw [eq_ix2 y]
  exact h _ _

theorem parts_eq (v : Wide) (φ : Fin 8192 → Fin 4 → Fin 704 → EReal) (h : ∀ t F, v (ix2 t F) = φ t (blk F) (col F)) :
    truncf (F := Ideal) .bf16 (parts v) bitsLt_bf16_f32 = wide φ := by
  funext y
  rw [eq_ix3 y]
  generalize y 0 = j
  generalize y 1 = t
  generalize y 2 = f
  show parts v (ix3 (n0 := 4) (n1 := 8192) (n2 := 704) j t f) = φ t j f
  change Fin 8192 at t
  change Fin 4 at j
  change Fin 704 at f
  have hF : 704 * j.val + f.val < 2816 := by omega
  rw [parts_ix v j t f ⟨704 * j.val + f.val, hF⟩ rfl, h]
  have e1 : blk ⟨704 * j.val + f.val, hF⟩ = j := Fin.ext (by show (704 * j.val + f.val) / 704 = j.val; omega)
  have e2 : col ⟨704 * j.val + f.val, hF⟩ = f := Fin.ext (by show (704 * j.val + f.val) % 704 = f.val; omega)
  rw [e1, e2]

theorem one_eq (v : S1x1024.Idx → EReal) (φ : Fin 1024 → EReal) (h : ∀ z d, v (ix2 z d) = φ d) : v = one φ := by
  funext y
  rw [eq_ix2 y]
  exact h _ _

theorem all_eq (v : S1x128.Idx → EReal) (a : EReal) (h : ∀ z k, v (ix2 z k) = a) : v = fun _ => a := by
  funext y
  rw [eq_ix2 y]
  exact h _ _

section
open Cert.Reference4Ideal.Value Idealize.ShloMosaic.TcCoe Idealize.SL.Sem
variable (m : (ℓ : Loc nD τ sig) → Buf (Elt Ideal) ℓ) (c : Dev nD)

/-- The arguments a run starts with. -/
abbrev arg0 : Rows := m ((c.tc : Thread nD τ).loc main_arg0)
abbrev arg1 : Row1 := m ((c.tc : Thread nD τ).loc main_arg1)
abbrev arg2 : Wts := m ((c.tc : Thread nD τ).loc main_arg2)
abbrev arg3 : Wts := m ((c.tc : Thread nD τ).loc main_arg3)
abbrev arg4 : Wts := m ((c.tc : Thread nD τ).loc main_arg4)
abbrev arg5 : Row1 := m ((c.tc : Thread nD τ).loc main_arg5)
abbrev arg6 : Rows := m ((c.tc : Thread nD τ).loc main_arg6)
abbrev margs : Args := argsOf (arg0 m c) (arg1 m c) (arg2 m c) (arg3 m c) (arg4 m c) (arg5 m c) (arg6 m c)

theorem res73 : res_main_v73 m c = dyV (arg0 m c) (arg1 m c) (arg2 m c) (arg3 m c) (arg4 m c) (arg5 m c) (arg6 m c) := rfl

theorem res81 : res_main_v81 m c = lossV (errV (arg0 m c) (arg1 m c) (arg2 m c) (arg3 m c) (arg4 m c) (arg5 m c) (arg6 m c)) := rfl

theorem res57 : res_main_v57 m c = dfwOf (yhatV (arg0 m c) (arg1 m c) (arg2 m c) (arg3 m c) (arg4 m c))
    (dnV (arg0 m c) (arg1 m c) (arg2 m c) (arg3 m c) (arg4 m c) (arg5 m c) (arg6 m c)) := rfl

theorem run_values (ρ : Dev nD → PrngReg) :
    θ_run defs (onTc (τ := τ) (main (F := Ideal))) ⟨m, fun _ => 0, ρ⟩ fun r => ∀ c : Dev nD,
      r.2.mem ((c.tc : Thread nD τ).loc main_v73) = rows (HeadSpec.dy (margs m c))
      ∧ r.2.mem ((c.tc : Thread nD τ).loc main_v74) = rows (HeadSpec.xn (margs m c))
      ∧ r.2.mem ((c.tc : Thread nD τ).loc main_v77) = wide (HeadSpec.g (margs m c))
      ∧ r.2.mem ((c.tc : Thread nD τ).loc main_v80) = wide (HeadSpec.u (margs m c))
      ∧ r.2.mem ((c.tc : Thread nD τ).loc main_v81) = (fun _ => HeadSpec.loss (margs m c))
      ∧ r.2.mem ((c.tc : Thread nD τ).loc main_v57) = one (HeadSpec.dfw (margs m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c => ?_) (Cert.Reference4Ideal.Value.run (F := Ideal) m ρ)
  obtain ⟨e73, e74, e77, e80, e81, e57, keep⟩ := h c
  refine ⟨?_, ?_, ?_, ?_, ?_, ?_, keep⟩
  · exact e73.trans ((res73 m c).trans (rows_eq _ _ (dy_val _ _ _ _ _ _ _)))
  · exact e74.trans (rows_eq (xnV (arg0 m c) (arg1 m c)) _ (xn_val _ _ _ _ _ _ _))
  · exact e77.trans (parts_eq (gV (arg0 m c) (arg1 m c) (arg2 m c)) _ (g_val _ _ _ _ _ _ _))
  · exact e80.trans (parts_eq (uV (arg0 m c) (arg1 m c) (arg3 m c)) _ (u_val _ _ _ _ _ _ _))
  · exact e81.trans ((res81 m c).trans (all_eq _ _ (loss_val _ _ _ _ _ _ _)))
  · exact e57.trans ((res57 m c).trans (one_eq _ _ (dfw_val _ _ _ _ _ _ _)))

end

end Cert.Proof.HeadRef

end
-- ==== Proof.HeadRun.lean ====
/-
  The kernel's run at the ideal numbers: the blocks its points read, and what they leave.
-/
module

public import proofs.«01_k».proof.Proof.HeadBlock
public import proofs.«01_k».proof.Proof.HeadRef

@[expose] public section

set_option maxRecDepth 16384

noncomputable section

namespace Cert.Proof.HeadRun

open Idealize.ShloMosaic Idealize.ShloMosaic.TcCoe Idealize.ShloMosaic.Tactic Cert.Kernel4Ideal Cert.Kernel4Ideal.Gen
open Idealize.SL.Sem
open Idealize.ShloMosaic.Pipeline (Dat)
open Cert.Proof.HeadSpec (Args)
open Cert.Proof.HeadPoint
open scoped BigOperators

variable (m : (ℓ : Loc nD τ sig) → Buf (Elt Ideal) ℓ) (ρ : Dev nD → PrngReg) (c : Dev nD)

/-! ## The arrays the host hands the kernel -/

abbrev arg0 : S8192x1024.Idx → EReal := m ((c.tc : Thread nD τ).loc main_arg0)
abbrev arg1 : S1x1024.Idx → EReal := m ((c.tc : Thread nD τ).loc main_arg1)
abbrev arg2 : S4x704x1024.Idx → EReal := m ((c.tc : Thread nD τ).loc main_arg2)
abbrev arg3 : S4x704x1024.Idx → EReal := m ((c.tc : Thread nD τ).loc main_arg3)
abbrev arg4 : S4x704x1024.Idx → EReal := m ((c.tc : Thread nD τ).loc main_arg4)
abbrev arg5 : S1x1024.Idx → EReal := m ((c.tc : Thread nD τ).loc main_arg5)
abbrev arg6 : S8192x1024.Idx → EReal := m ((c.tc : Thread nD τ).loc main_arg6)

/-- The arguments a device's run starts with. -/
abbrev args : Args := HeadRef.argsOf (arg0 m c) (arg1 m c) (arg2 m c) (arg3 m c) (arg4 m c) (arg5 m c) (arg6 m c)

theorem V_arg0 : V m c main_arg0 = arg0 m c := by
  unfold_abbrev_sides
  after_results
theorem V_arg1 : V m c main_arg1 = arg1 m c := by
  unfold_abbrev_sides
  after_results
theorem V_arg5 : V m c main_arg5 = arg5 m c := by
  unfold_abbrev_sides
  after_results
theorem V_arg6 : V m c main_arg6 = arg6 m c := by
  unfold_abbrev_sides
  after_results
theorem V_wg : V m c main_v0 = truncf (F := Ideal) .bf16 (arg2 m c) bitsLt_bf16_f32 := by
  unfold_abbrev_sides
  after_results
theorem V_wu : V m c main_v1 = truncf (F := Ideal) .bf16 (arg3 m c) bitsLt_bf16_f32 := by
  unfold_abbrev_sides
  after_results
theorem V_wd : V m c main_v2 = truncf (F := Ideal) .bf16 (arg4 m c) bitsLt_bf16_f32 := by
  unfold_abbrev_sides
  after_results

/-! ## The blocks a point reads -/

/-- The token at a row of a point's block. -/
def tok (n : ℕ) (r : Fin 512) : Fin 8192 := ⟨(512 * n + r.val) % 8192, Nat.mod_lt _ (by decide)⟩

theorem tok_val (t : Fin cfg0.N) (r : Fin 512) : (tok t.val r).val = 512 * t.val + r.val := by
  have ht : t.val < 16 := Nat.lt_of_lt_of_eq t.isLt N_0
  show (512 * t.val + r.val) % 8192 = _
  omega

theorem read0 (t : Fin cfg0.N) (r : Fin 512) (d : Fin 1024) : iblk m c 0 t (ix2 r d) = V m c main_arg0 (ix2 (tok t.val r) d) := by
  have x : ∀ t : Fin cfg0.N, win0_0.index t = ![t.val, 0] := by decide +kernel
  have h := tok_val t r
  blk_ext [iblk, x t, h]

theorem read6 (t : Fin cfg0.N) (r : Fin 512) (d : Fin 1024) : iblk m c 6 t (ix2 r d) = V m c main_arg6 (ix2 (tok t.val r) d) := by
  have x : ∀ t : Fin cfg0.N, win0_6.index t = ![t.val, 0] := by decide +kernel
  have h := tok_val t r
  blk_ext [iblk, x t, h]

theorem read1 (t : Fin cfg0.N) (d : Fin 1024) : iblk m c 1 t (ix2 0 d) = V m c main_arg1 (ix2 0 d) := by
  have x : ∀ t : Fin cfg0.N, win0_1.index t = ![0, 0] := by decide +kernel
  blk_ext [iblk, x t]

theorem read5 (t : Fin cfg0.N) (d : Fin 1024) : iblk m c 5 t (ix2 0 d) = V m c main_arg5 (ix2 0 d) := by
  have x : ∀ t : Fin cfg0.N, win0_5.index t = ![0, 0] := by decide +kernel
  blk_ext [iblk, x t]

theorem read2 (t : Fin cfg0.N) (j : Fin 4) (f : Fin 704) (d : Fin 1024) : iblk m c 2 t (ix3 j f d) = V m c main_v0 (ix3 j f d) := by
  have x : ∀ t : Fin cfg0.N, win0_2.index t = ![0, 0, 0] := by decide +kernel
  blk_ext [iblk, x t]

theorem read3 (t : Fin cfg0.N) (j : Fin 4) (f : Fin 704) (d : Fin 1024) : iblk m c 3 t (ix3 j f d) = V m c main_v1 (ix3 j f d) := by
  have x : ∀ t : Fin cfg0.N, win0_3.index t = ![0, 0, 0] := by decide +kernel
  blk_ext [iblk, x t]

theorem read4 (t : Fin cfg0.N) (j : Fin 4) (f : Fin 704) (d : Fin 1024) : iblk m c 4 t (ix3 j f d) = V m c main_v2 (ix3 j f d) := by
  have x : ∀ t : Fin cfg0.N, win0_4.index t = ![0, 0, 0] := by decide +kernel
  blk_ext [iblk, x t]

theorem holds (t : Fin cfg0.N) :
    HeadBlock.Holds (args m c) (tok t.val) (iblk m c 0 t) (iblk m c 1 t) (iblk m c 2 t) (iblk m c 3 t) (iblk m c 4 t) (iblk m c 5 t) (iblk m c 6 t) where
  x r d := by rw [read0, V_arg0]; rfl
  nw d := by rw [read1, V_arg1]; rfl
  wg j f d := by rw [read2, V_wg]; rfl
  wu j f d := by rw [read3, V_wu]; rfl
  wd j f d := by rw [read4, V_wd]; rfl
  fw d := by rw [read5, V_arg5]; rfl
  tg r d := by rw [read6, V_arg6]; rfl

/-! ## What the points leave -/

theorem left7 (t : Fin cfg0.N) : (outsAt0 m c t.val t.isLt).1
    = dyP (iblk m c 0 t) (accP (k0_pay5 (F := Ideal) (iblk m c 0 t) (iblk m c 1 t)) (iblk m c 2 t) (iblk m c 3 t) (iblk m c 4 t)) (iblk m c 5 t) (iblk m c 6 t) := by
  by_cases h0 : t.val % 16 = 0
  · rw [outsAt0_A m c t h0]
    dsimp only
    rw [out_A_7]
  · rw [outsAt0_B m c t h0]
    dsimp only
    rw [out_B_7]

theorem left8 (t : Fin cfg0.N) : (outsAt0 m c t.val t.isLt).2.1
    = k0_pay5 (F := Ideal) (iblk m c 0 t) (iblk m c 1 t) := by
  by_cases h0 : t.val % 16 = 0
  · rw [outsAt0_A m c t h0]
    dsimp only
    rw [out_A_8]
  · rw [outsAt0_B m c t h0]
    dsimp only
    rw [out_B_8]

theorem left9 (t : Fin cfg0.N) : (outsAt0 m c t.val t.isLt).2.2.1
    = joined fun j => projP (k0_pay5 (F := Ideal) (iblk m c 0 t) (iblk m c 1 t)) (wpart (iblk m c 2 t) j) := by
  by_cases h0 : t.val % 16 = 0
  · rw [outsAt0_A m c t h0]
    dsimp only
    rw [out_A_9]
  · rw [outsAt0_B m c t h0]
    dsimp only
    rw [out_B_9]

theorem left10 (t : Fin cfg0.N) : (outsAt0 m c t.val t.isLt).2.2.2.1
    = joined fun j => projP (k0_pay5 (F := Ideal) (iblk m c 0 t) (iblk m c 1 t)) (wpart (iblk m c 3 t) j) := by
  by_cases h0 : t.val % 16 = 0
  · rw [outsAt0_A m c t h0]
    dsimp only
    rw [out_A_10]
  · rw [outsAt0_B m c t h0]
    dsimp only
    rw [out_B_10]

theorem left11_first (t : Fin cfg0.N) (h0 : t.val % 16 = 0) : (outsAt0 m c t.val t.isLt).2.2.2.2.1
    = lossP (iblk m c 0 t) (accP (k0_pay5 (F := Ideal) (iblk m c 0 t) (iblk m c 1 t)) (iblk m c 2 t) (iblk m c 3 t) (iblk m c 4 t)) (iblk m c 5 t) (iblk m c 6 t) (k0_pay3 (F := Ideal)) := by
  rw [outsAt0_A m c t h0]
  dsimp only
  rw [out_A_11]

theorem left11_next (t : Fin cfg0.N) (h0 : ¬t.val % 16 = 0) : (outsAt0 m c t.val t.isLt).2.2.2.2.1
    = lossP (iblk m c 0 t) (accP (k0_pay5 (F := Ideal) (iblk m c 0 t) (iblk m c 1 t)) (iblk m c 2 t) (iblk m c 3 t) (iblk m c 4 t)) (iblk m c 5 t) (iblk m c 6 t)
      (outsAt0 m c (t.val - 1) (Nat.lt_of_le_of_lt (Nat.sub_le _ _) t.isLt)).2.2.2.2.1 := by
  rw [outsAt0_B m c t h0]
  dsimp only
  rw [out_B_11]

theorem left12_first (t : Fin cfg0.N) (h0 : t.val % 16 = 0) : (outsAt0 m c t.val t.isLt).2.2.2.2.2
    = dfwP (iblk m c 0 t) (accP (k0_pay5 (F := Ideal) (iblk m c 0 t) (iblk m c 1 t)) (iblk m c 2 t) (iblk m c 3 t) (iblk m c 4 t)) (iblk m c 5 t) (iblk m c 6 t) (k0_pay4 (F := Ideal)) := by
  rw [outsAt0_A m c t h0]
  dsimp only
  rw [out_A_12]

theorem left12_next (t : Fin cfg0.N) (h0 : ¬t.val % 16 = 0) : (outsAt0 m c t.val t.isLt).2.2.2.2.2
    = dfwP (iblk m c 0 t) (accP (k0_pay5 (F := Ideal) (iblk m c 0 t) (iblk m c 1 t)) (iblk m c 2 t) (iblk m c 3 t) (iblk m c 4 t)) (iblk m c 5 t) (iblk m c 6 t)
      (outsAt0 m c (t.val - 1) (Nat.lt_of_le_of_lt (Nat.sub_le _ _) t.isLt)).2.2.2.2.2 := by
  rw [outsAt0_B m c t h0]
  dsimp only
  rw [out_B_12]

end Cert.Proof.HeadRun

end
-- ==== Proof.HeadArrays.lean ====
/-
  The six arrays of the kernel's run, and the claims of the call with the loss.
-/
module

public import proofs.«01_k».proof.Proof.HeadRun
public import proofs.«01_k».proof.Proof.Gen.Kernel4.Frame
public import proofs.«01_k».proof.Proof.Gen.Kernel4Ideal.Value
public import proofs.«01_k».proof.Defs
public import Idealize.ShloMosaic.Adequacy
public import Idealize.ShloMosaic.Init
public import Idealize.ShloMosaic.Lib.Quiescent
public import Idealize.ShloMosaic.Lib.Claim

@[expose] public section

set_option maxRecDepth 16384

noncomputable section

namespace Cert.Proof.HeadArrays

open Idealize.ShloMosaic Idealize.ShloMosaic.TcCoe Idealize.ShloMosaic.Tactic Cert.Kernel4Ideal Cert.Kernel4Ideal.Gen
open Idealize.SL.Sem
open Idealize.ShloMosaic.Pipeline (Dat)
open Cert.Proof.HeadSpec (Args)
open Cert.Proof.HeadPoint Cert.Proof.HeadRun
open Cert.Proof.HeadRef (rows wide one)
open scoped BigOperators

variable (m : (ℓ : Loc nD τ sig) → Buf (Elt Ideal) ℓ) (ρ : Dev nD → PrngReg) (c : Dev nD)

/-! ## The arrays written block by block -/

theorem arr7 : (dats m 0 c).arrAt 7 cfg0.N = rows (HeadSpec.dy (args m c)) := by
  refine (dats m 0 c).arrAt_eq_of_covers 7 _ (by decide +kernel) fun t hf y => ?_
  have x : ∀ t : Fin cfg0.N, win0_7.index t = ![t.val, 0] := by decide +kernel
  have hy : y = ix2 (n0 := 512) (n1 := 1024) (y 0) (y 1) := eq_ix2 y
  generalize y 0 = r at hy
  generalize y 1 = d at hy
  subst hy
  change Fin 512 at r
  change Fin 1024 at d
  have h := tok_val t r
  blk_simp
  rw [after0_7, left7]
  refine (HeadBlock.dy_val (holds m c t) r d).trans ?_
  show rows (HeadSpec.dy (args m c)) (ix2 (tok t.val r) d) = _
  refine congrArg (rows (HeadSpec.dy (args m c))) ?_
  blk_ext [x t, h]

theorem arr8 : (dats m 0 c).arrAt 8 cfg0.N = rows (HeadSpec.xn (args m c)) := by
  refine (dats m 0 c).arrAt_eq_of_covers 8 _ (by decide +kernel) fun t hf y => ?_
  have x : ∀ t : Fin cfg0.N, win0_8.index t = ![t.val, 0] := by decide +kernel
  have hy : y = ix2 (n0 := 512) (n1 := 1024) (y 0) (y 1) := eq_ix2 y
  generalize y 0 = r at hy
  generalize y 1 = d at hy
  subst hy
  change Fin 512 at r
  change Fin 1024 at d
  have h := tok_val t r
  blk_simp
  rw [after0_8, left8]
  refine (HeadBlock.xn_val (holds m c t) r d).trans ?_
  show rows (HeadSpec.xn (args m c)) (ix2 (tok t.val r) d) = _
  refine congrArg (rows (HeadSpec.xn (args m c))) ?_
  blk_ext [x t, h]

theorem arr9 : (dats m 0 c).arrAt 9 cfg0.N = wide (HeadSpec.g (args m c)) := by
  refine (dats m 0 c).arrAt_eq_of_covers 9 _ (by decide +kernel) fun t hf y => ?_
  have x : ∀ t : Fin cfg0.N, win0_9.index t = ![0, t.val, 0] := by decide +kernel
  have hy : y = ix3 (n0 := 4) (n1 := 512) (n2 := 704) (y 0) (y 1) (y 2) := eq_ix3 y
  generalize y 0 = j at hy
  generalize y 1 = r at hy
  generalize y 2 = f at hy
  subst hy
  change Fin 4 at j
  change Fin 512 at r
  change Fin 704 at f
  have h := tok_val t r
  blk_simp
  rw [after0_9, left9]
  refine (HeadBlock.gP_val (holds m c t) j r f).trans ?_
  show wide (HeadSpec.g (args m c)) (ix3 j (tok t.val r) f) = _
  refine congrArg (wide (HeadSpec.g (args m c))) ?_
  blk_ext [x t, h]

theorem arr10 : (dats m 0 c).arrAt 10 cfg0.N = wide (HeadSpec.u (args m c)) := by
  refine (dats m 0 c).arrAt_eq_of_covers 10 _ (by decide +kernel) fun t hf y => ?_
  have x : ∀ t : Fin cfg0.N, win0_10.index t = ![0, t.val, 0] := by decide +kernel
  have hy : y = ix3 (n0 := 4) (n1 := 512) (n2 := 704) (y 0) (y 1) (y 2) := eq_ix3 y
  generalize y 0 = j at hy
  generalize y 1 = r at hy
  generalize y 2 = f at hy
  subst hy
  change Fin 4 at j
  change Fin 512 at r
  change Fin 704 at f
  have h := tok_val t r
  blk_simp
  rw [after0_10, left10]
  refine (HeadBlock.uP_val (holds m c t) j r f).trans ?_
  show wide (HeadSpec.u (args m c)) (ix3 j (tok t.val r) f) = _
  refine congrArg (wide (HeadSpec.u (args m c))) ?_
  blk_ext [x t, h]

/-! ## The arrays accumulated over the points -/

/-- The terms of the first `n` blocks of tokens. -/
def upTo (φ : Fin 8192 → EReal) (n : ℕ) : EReal := ∑ s ∈ Finset.range n, ∑ r : Fin 512, φ (tok s r)

theorem upTo_all (φ : Fin 8192 → EReal) : upTo φ 16 = ∑ t, φ t := by
  unfold upTo
  rw [Finset.sum_range fun s => ∑ r : Fin 512, φ (tok s r), ← Fintype.sum_prod_type' (f := fun (s : Fin 16) (r : Fin 512) => φ (tok s.val r))]
  refine Fintype.sum_equiv (finProdFinEquiv (m := 16) (n := 512)) _ _ fun p => ?_
  refine congrArg φ (Fin.ext ?_)
  show (512 * p.1.val + p.2.val) % 8192 = p.2.val + 512 * p.1.val
  have h1 := p.1.isLt
  have h2 := p.2.isLt
  omega

theorem upTo_one (φ : Fin 8192 → EReal) : upTo φ 1 = ∑ r : Fin 512, φ (tok 0 r) := Finset.sum_range_one _

theorem upTo_succ (φ : Fin 8192 → EReal) (n : ℕ) : upTo φ (n + 1) = upTo φ n + ∑ r : Fin 512, φ (tok n r) := Finset.sum_range_succ _ n

theorem half_add (a b : EReal) : HeadSpec.lhalf * a + HeadSpec.lhalf * b = HeadSpec.lhalf * (a + b) := by
  rw [show HeadSpec.lhalf = _ from FfnSpec.lit_half, EReal.left_distrib_of_nonneg_of_ne_top (by norm_num) (EReal.coe_ne_top _)]

theorem loss_at (k : Fin 128) : ∀ (n : ℕ) (hn : n < cfg0.N),
    (outsAt0 m c n hn).2.2.2.2.1 (ix2 0 k) = HeadSpec.lhalf * upTo (HeadSpec.lossAt (args m c)) (n + 1)
  | 0, hn => by
    have e := left11_first m c ⟨0, hn⟩ rfl
    refine (congrFun e _).trans ((HeadBlock.loss_val (holds m c ⟨0, hn⟩) _ k).trans ?_)
    rw [HeadBlock.pay3_ix, zero_add, upTo_one]
  | n + 1, hn => by
    have hn' : n + 1 < 16 := Nat.lt_of_lt_of_eq hn N_0
    have e := left11_next m c ⟨n + 1, hn⟩ (by show ¬(n + 1) % 16 = 0; omega)
    refine (congrFun e _).trans ((HeadBlock.loss_val (holds m c ⟨n + 1, hn⟩) _ k).trans ?_)
    refine (congrArg (· + _) (loss_at k n (Nat.lt_of_succ_lt hn))).trans ?_
    rw [half_add, upTo_succ _ (n + 1)]

theorem dfw_at (d : Fin 1024) : ∀ (n : ℕ) (hn : n < cfg0.N),
    (outsAt0 m c n hn).2.2.2.2.2 (ix2 0 d) = upTo (fun t => HeadSpec.dn (args m c) t d * HeadSpec.yhat (args m c) t d) (n + 1)
  | 0, hn => by
    have e := left12_first m c ⟨0, hn⟩ rfl
    refine (congrFun e _).trans ((HeadBlock.dfw_val (holds m c ⟨0, hn⟩) _ d).trans ?_)
    rw [HeadBlock.pay4_ix, zero_add, upTo_one]
  | n + 1, hn => by
    have hn' : n + 1 < 16 := Nat.lt_of_lt_of_eq hn N_0
    have e := left12_next m c ⟨n + 1, hn⟩ (by show ¬(n + 1) % 16 = 0; omega)
    refine (congrFun e _).trans ((HeadBlock.dfw_val (holds m c ⟨n + 1, hn⟩) _ d).trans ?_)
    refine (congrArg (· + _) (dfw_at d n (Nat.lt_of_succ_lt hn))).trans ?_
    rw [upTo_succ _ (n + 1)]

theorem arr11 : (dats m 0 c).arrAt 11 cfg0.N = fun _ => HeadSpec.loss (args m c) := by
  refine (dats m 0 c).arrAt_eq_of_covers 11 _ (by decide +kernel) fun t hf y => ?_
  have fl : ∀ t : Fin cfg0.N, (cfg0.win 11).flush t = true → t.val + 1 = 16 := by decide +kernel
  have hy : y = ix2 (n0 := 1) (n1 := 128) 0 (y 1) := by
    refine (eq_ix2 y).trans (congrArg (fun z : Fin 1 => ix2 (n0 := 1) (n1 := 128) z (y 1)) ?_)
    exact Subsingleton.elim (α := Fin 1) _ _
  generalize y 1 = k at hy
  subst hy
  change Fin 128 at k
  blk_simp
  rw [after0_11]
  refine (loss_at m c k t.val t.isLt).trans ?_
  rw [fl t hf, upTo_all]
  rfl

theorem arr12 : (dats m 0 c).arrAt 12 cfg0.N = one (HeadSpec.dfw (args m c)) := by
  refine (dats m 0 c).arrAt_eq_of_covers 12 _ (by decide +kernel) fun t hf y => ?_
  have x : ∀ t : Fin cfg0.N, win0_12.index t = ![0, 0] := by decide +kernel
  have fl : ∀ t : Fin cfg0.N, (cfg0.win 12).flush t = true → t.val + 1 = 16 := by decide +kernel
  have hy : y = ix2 (n0 := 1) (n1 := 1024) 0 (y 1) := by
    refine (eq_ix2 y).trans (congrArg (fun z : Fin 1 => ix2 (n0 := 1) (n1 := 1024) z (y 1)) ?_)
    exact Subsingleton.elim (α := Fin 1) _ _
  generalize y 1 = d at hy
  subst hy
  change Fin 1024 at d
  blk_simp
  rw [after0_12]
  refine (dfw_at m c d t.val t.isLt).trans ?_
  rw [fl t hf, upTo_all]
  show one (HeadSpec.dfw (args m c)) (ix2 0 d) = _
  refine congrArg (one (HeadSpec.dfw (args m c))) ?_
  blk_ext [x t]

/-! ## The run -/

theorem run_values :
    θ_run defs (onTc (τ := τ) (main (F := Ideal))) ⟨m, fun _ => 0, ρ⟩ fun r => ∀ c : Dev nD,
      r.2.mem ((c.tc : Thread nD τ).loc main_v3_0) = rows (HeadSpec.dy (args m c))
      ∧ r.2.mem ((c.tc : Thread nD τ).loc main_v3_1) = rows (HeadSpec.xn (args m c))
      ∧ r.2.mem ((c.tc : Thread nD τ).loc main_v3_2) = wide (HeadSpec.g (args m c))
      ∧ r.2.mem ((c.tc : Thread nD τ).loc main_v3_3) = wide (HeadSpec.u (args m c))
      ∧ r.2.mem ((c.tc : Thread nD τ).loc main_v3_4) = (fun _ => HeadSpec.loss (args m c))
      ∧ r.2.mem ((c.tc : Thread nD τ).loc main_v3_5) = one (HeadSpec.dfw (args m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c => ?_) (Cert.Kernel4Ideal.Value.run_blocks (F := Ideal) m ρ)
  obtain ⟨e7, e8, e9, e10, e11, e12, keep⟩ := h c
  exact ⟨e7.trans (arr7 m c), e8.trans (arr8 m c), e9.trans (arr9 m c), e10.trans (arr10 m c), e11.trans (arr11 m c), e12.trans (arr12 m c), keep⟩

/-! ## The claims -/

/-- The kernel, at the chip's own numbers, runs, leaves its arguments alone and its semaphores at zero. -/
theorem kernel_frame : Cert.quiescent_Kernel4 := fun m ρ _ => Cert.Kernel4.Gen.frame m ρ

/-- The same of the kernel at the ideal numbers. -/
theorem ideal_frame : Cert.quiescent_Kernel4Ideal := fun m ρ _ => Cert.Kernel4Ideal.Gen.frame m ρ

/-- The same of the reference. -/
theorem reference_frame : Cert.quiescent_Reference4Ideal := fun m ρ _ =>
  (θ_run Cert.Reference4Ideal.defs _ _).mono (fun r h => ⟨fun c => (h c).2.2.2.2.2.2, sem_eq_zero_of_no_sems (by decide) r.2⟩)
    (Cert.Reference4Ideal.Value.run (F := Ideal) m ρ)

/-- The kernel and the reference end with the same six results. -/
theorem same_results : Cert.algebraic_Kernel4Ideal_Reference4Ideal := by
  intro m ρ m' ρ' _ agree
  have e : ∀ c, HeadRef.margs m' c = args m c := fun c => by
    obtain ⟨a0, a1, a2, a3, a4, a5, a6⟩ := agree c
    unfold HeadRef.margs HeadRef.arg0 HeadRef.arg1 HeadRef.arg2 HeadRef.arg3 HeadRef.arg4 HeadRef.arg5 HeadRef.arg6
    rw [a0, a1, a2, a3, a4, a5, a6]
  refine ⟨fun c => rows (HeadSpec.dy (args m c)), fun c => rows (HeadSpec.xn (args m c)), fun c => wide (HeadSpec.g (args m c)),
    fun c => wide (HeadSpec.u (args m c)), fun c => fun _ => HeadSpec.loss (args m c), fun c => one (HeadSpec.dfw (args m c)), run_values m ρ, ?_⟩
  refine (θ_run Cert.Reference4Ideal.defs _ _).mono (fun r h c => ?_) (HeadRef.run_values m' ρ')
  have h := h c
  rw [e c] at h
  exact h

end Cert.Proof.HeadArrays

end
-- ==== Proof.MixIn.lean ====
/-
  The combined input projection: the rows normalized, and their products with the four runs of columns the mixer takes.
-/
module

public import proofs.«01_k».proof.Proof.Gen.Kernel5Ideal.Value
public import proofs.«01_k».proof.Proof.Gen.Reference5Ideal.Run
public import proofs.«01_k».proof.Proof.Gen.Kernel5.Frame
public import proofs.«01_k».proof.Proof.FfnRef
public import proofs.«01_k».proof.Proof.HeadSpec
public import proofs.«01_k».proof.Defs
public import Idealize.ShloMosaic.Adequacy
public import Idealize.ShloMosaic.Init
public import Idealize.ShloMosaic.Lib.Quiescent
public import Idealize.ShloMosaic.Lib.Claim
public import Idealize.ShloMosaic.Lib.Pipeline.ValueKit

@[expose] public section

set_option maxRecDepth 16384

noncomputable section

namespace Cert.Proof.MixIn

open Idealize.ShloMosaic Idealize.ShloMosaic.TcCoe Idealize.ShloMosaic.Tactic
open Idealize.SL.Sem
open Idealize.ShloMosaic.Pipeline (Dat)
open Cert.Proof.FfnRef (Rows xhatV xhatV_ix msV_ix byNw byNw_ix)
open scoped BigOperators

/-! ## The projection -/

/-- A column of the weight, counted from the first of a run of them. -/
def colAt (a k : ℕ) : Fin 3600 := ⟨(a + k) % 3600, Nat.mod_lt _ (by decide)⟩

section
open Cert.Reference5Ideal
variable (x : S8192x1024.Idx → EReal) (nw : S1x1024.Idx → EReal) (w : S1024x3600.Idx → EReal)

/-- The normalized rows. -/
def xn (t : Fin 8192) (d : Fin 1024) : EReal := x (ix2 t d) * HeadSpec.rstd (fun e => x (ix2 t e)) * nw (ix2 0 d)

/-- Their projection. -/
def proj (t : Fin 8192) (f : Fin 3600) : EReal := ∑ d : Fin 1024, xn x nw t d * w (ix2 d f)

def normed (y : S8192x1024.Idx) : EReal := xn x nw (y 0) (y 1)
def qkvA (y : S8192x1536.Idx) : EReal := proj x nw w (y 0) (colAt 0 (y 1).val)
def zA (y : S8192x512.Idx) : EReal := proj x nw w (y 0) (colAt 1536 (y 1).val)
def gates (y : S8192x128.Idx) : EReal := proj x nw w (y 0) (colAt 2048 (y 1).val)
def qkvB (y : S8192x1536.Idx) : EReal := proj x nw w (y 0) (colAt 2064 (y 1).val)
end

/-! ## The reference -/

section
open Cert.Reference5Ideal Cert.Reference5Ideal.Gen
variable (x : FVec Ideal S8192x1024 .f32) (nw : FVec Ideal S1x1024 .f32) (w : FVec Ideal S1024x3600 .f32)

def xnV : Rows := byNw (xhatV x) nw
def projV : FVec Ideal S8192x3600 .f32 := Host.dotGeneral dot_S8192x1024_S1024x3600_S8192x3600_1_0_0_1_n_n none (xnV x nw) w

theorem xnV_ix (t : Fin 8192) (d : Fin 1024) : xnV x nw (ix2 t d) = xn x nw t d := by
  unfold xnV
  rw [byNw_ix, xhatV_ix, msV_ix]
  rfl

theorem projV_ix (t : Fin 8192) (f : Fin 3600) : projV x nw w (ix2 t f) = proj x nw w t f := by
  have e : projV x nw w (ix2 t f) = ∑ d : Fin 1024, xnV x nw (ix2 t d) * w (ix2 d f) := by
    pointwise [projV]
  rw [e]
  simp only [xnV_ix]
  rfl

theorem ref_normed : truncf (F := Ideal) .bf16 (xnV x nw) bitsLt_bf16_f32 = normed x nw := by
  funext y
  rw [eq_ix2 y]
  exact xnV_ix x nw (y 0) (y 1)

theorem ref_qkvA : extractStridedSlice S8192x1536 ![0, 0] (projV x nw w) slices_S8192x3600_S8192x1536_0_0 = qkvA x nw w := by
  funext y
  rw [eq_ix2 y]
  refine Eq.trans ?_ (projV_ix x nw w (y 0) (colAt 0 (y 1).val))
  generalize projV x nw w = p
  have hk : (colAt 0 (y 1).val).val = 0 + (y 1).val := Nat.mod_eq_of_lt (by have h : (y 1).val < 1536 := (y 1).isLt; omega)
  pointwise
  blk_ext [hk]

theorem ref_zA : extractStridedSlice S8192x512 ![0, 1536] (projV x nw w) slices_S8192x3600_S8192x512_0_1536 = zA x nw w := by
  funext y
  rw [eq_ix2 y]
  refine Eq.trans ?_ (projV_ix x nw w (y 0) (colAt 1536 (y 1).val))
  generalize projV x nw w = p
  have hk : (colAt 1536 (y 1).val).val = 1536 + (y 1).val := Nat.mod_eq_of_lt (by have h : (y 1).val < 512 := (y 1).isLt; omega)
  pointwise
  blk_ext [hk]

theorem ref_qkvB : extractStridedSlice S8192x1536 ![0, 2064] (projV x nw w) slices_S8192x3600_S8192x1536_0_2064 = qkvB x nw w := by
  funext y
  rw [eq_ix2 y]
  refine Eq.trans ?_ (projV_ix x nw w (y 0) (colAt 2064 (y 1).val))
  generalize projV x nw w = p
  have hk : (colAt 2064 (y 1).val).val = 2064 + (y 1).val := Nat.mod_eq_of_lt (by have h : (y 1).val < 1536 := (y 1).isLt; omega)
  pointwise
  blk_ext [hk]

theorem ref_gates : extractStridedSlice S8192x128 ![0, 0] (extractStridedSlice S8192x1552 ![0, 2048] (projV x nw w) slices_S8192x3600_S8192x1552_0_2048) slices_S8192x1552_S8192x128_0_0
    = gates x nw w := by
  funext y
  rw [eq_ix2 y]
  refine Eq.trans ?_ (projV_ix x nw w (y 0) (colAt 2048 (y 1).val))
  generalize projV x nw w = p
  have hk : (colAt 2048 (y 1).val).val = 2048 + (y 1).val := Nat.mod_eq_of_lt (by have h : (y 1).val < 128 := (y 1).isLt; omega)
  pointwise
  blk_ext [hk]

end

/-! ## What a point computes -/

open Cert.Kernel5Ideal Cert.Kernel5Ideal.Gen

theorem zero2 : (![0, 0] : Fin 2 → ℕ) = fun _ => 0 := by
  funext k
  match k with
  | ⟨0, _⟩ => rfl
  | ⟨1, _⟩ => rfl

section
variable (x0 : Vec Ideal S512x1024 .f32) (x1 : Vec Ideal S1x1024 .f32) (x2 : Vec Ideal S3600x1024 .bf16)

theorem pay2_ix (r : Fin 512) (d : Fin 1024) : k0_pay2 (F := Ideal) x0 x1 (ix2 r d)
    = x0 (ix2 r d) * Ideal.rsqrt (Ideal.div (∑ e : Fin 1024, x0 (ix2 r e) * x0 (ix2 r e)) (Ideal.ofBits .f32 0x44800000#32) + Ideal.ofBits .f32 0x358637BD#32) * x1 (ix2 0 d) := by
  pointwise [k0_pay2]

theorem pay3_ix (v : Vec Ideal S1536x1024 .bf16) (r : Fin 512) (f : Fin 1536) : k0_pay3 (F := Ideal) x0 x1 v (ix2 r f)
    = ∑ d : Fin 1024, k0_pay2 (F := Ideal) x0 x1 (ix2 r d) * v (ix2 f d) := by
  pointwise [k0_pay3]

theorem pay4_ix (v : Vec Ideal S512x1024 .bf16) (r : Fin 512) (f : Fin 512) : k0_pay4 (F := Ideal) x0 x1 v (ix2 r f)
    = ∑ d : Fin 1024, k0_pay2 (F := Ideal) x0 x1 (ix2 r d) * v (ix2 f d) := by
  pointwise [k0_pay4]

theorem pay5_ix (v : Vec Ideal S128x1024 .bf16) (r : Fin 512) (f : Fin 128) : k0_pay5 (F := Ideal) x0 x1 v (ix2 r f)
    = ∑ d : Fin 1024, k0_pay2 (F := Ideal) x0 x1 (ix2 r d) * v (ix2 f d) := by
  pointwise [k0_pay5]

theorem pay1_ix (n : FVec Ideal S512x1024 .bf16) (v : Vec Ideal S1536x1024 .bf16) (r : Fin 512) (f : Fin 1536) : k0_pay1 (F := Ideal) n v (ix2 r f)
    = ∑ d : Fin 1024, n (ix2 r d) * v (ix2 f d) := by
  pointwise [k0_pay1]

/-- A row of the weight, read from the run of rows loaded from `a` on. -/
theorem ld_run (a n : ℕ) (inb) (f : Fin n) (d : Fin 1024) (h : a + n ≤ 3600) :
    View.ld x2 (Rect.unit (s := S3600x1024) ![a, 0] ![n, 1024] inb) (ix2 f d) = x2 (ix2 (colAt a f.val) d) := by
  refine View.ld_unit_apply_of x2 _ _ _ _ (ix2 (colAt a f.val) d) fun b => ?_
  match b with
  | ⟨0, _⟩ => exact Nat.mod_eq_of_lt (by have := f.isLt; omega)
  | ⟨1, _⟩ => exact (Nat.zero_add _).symm

theorem out3_ix (r : Fin 512) (d : Fin 1024) : out0_3 (F := Ideal) x0 x1 x2 (ix2 r d) = k0_pay2 (F := Ideal) x0 x1 (ix2 r d) := by
  unfold out0_3
  rw [View.canon_unit_zero zero2, View.ld_unit_zero (S := S512x1024) zero2, View.ld_unit_zero (S := S1x1024) zero2]

theorem out4_ix (r : Fin 512) (f : Fin 1536) : out0_4 (F := Ideal) x0 x1 x2 (ix2 r f)
    = ∑ d : Fin 1024, k0_pay2 (F := Ideal) x0 x1 (ix2 r d) * x2 (ix2 (colAt 0 f.val) d) := by
  unfold out0_4
  rw [View.canon_unit_zero zero2, View.ld_unit_zero (S := S512x1024) zero2, View.ld_unit_zero (S := S1x1024) zero2, pay3_ix]
  exact Finset.sum_congr rfl fun d _ => congrArg (k0_pay2 (F := Ideal) x0 x1 (ix2 r d) * ·) (ld_run x2 0 1536 _ f d (by decide))

theorem out5_ix (r : Fin 512) (f : Fin 512) : out0_5 (F := Ideal) x0 x1 x2 (ix2 r f)
    = ∑ d : Fin 1024, k0_pay2 (F := Ideal) x0 x1 (ix2 r d) * x2 (ix2 (colAt 1536 f.val) d) := by
  unfold out0_5
  rw [View.canon_unit_zero zero2, View.ld_unit_zero (S := S512x1024) zero2, View.ld_unit_zero (S := S1x1024) zero2, pay4_ix]
  exact Finset.sum_congr rfl fun d _ => congrArg (k0_pay2 (F := Ideal) x0 x1 (ix2 r d) * ·) (ld_run x2 1536 512 _ f d (by decide))

theorem out6_ix (r : Fin 512) (f : Fin 128) : out0_6 (F := Ideal) x0 x1 x2 (ix2 r f)
    = ∑ d : Fin 1024, k0_pay2 (F := Ideal) x0 x1 (ix2 r d) * x2 (ix2 (colAt 2048 f.val) d) := by
  unfold out0_6
  rw [View.canon_unit_zero zero2, View.ld_unit_zero (S := S512x1024) zero2, View.ld_unit_zero (S := S1x1024) zero2, pay5_ix]
  exact Finset.sum_congr rfl fun d _ => congrArg (k0_pay2 (F := Ideal) x0 x1 (ix2 r d) * ·) (ld_run x2 2048 128 _ f d (by decide))

theorem out7_ix (r : Fin 512) (f : Fin 1536) : out0_7 (F := Ideal) x0 x1 x2 (ix2 r f)
    = ∑ d : Fin 1024, k0_pay2 (F := Ideal) x0 x1 (ix2 r d) * x2 (ix2 (colAt 2064 f.val) d) := by
  unfold out0_7
  rw [View.canon_unit_zero zero2, View.ld_unit_zero (S := S512x1024) zero2, View.ld_unit_zero (S := S1x1024) zero2, pay1_ix]
  exact Finset.sum_congr rfl fun d _ => congrArg (k0_pay2 (F := Ideal) x0 x1 (ix2 r d) * ·) (ld_run x2 2064 1536 _ f d (by decide))

end

/-! ## The blocks a point reads -/

variable (m : (ℓ : Loc nD τ sig) → Buf (Elt Ideal) ℓ) (ρ : Dev nD → PrngReg) (c : Dev nD)

abbrev argX : S8192x1024.Idx → EReal := m ((c.tc : Thread nD τ).loc main_arg0)
abbrev argN : S1x1024.Idx → EReal := m ((c.tc : Thread nD τ).loc main_arg1)
abbrev argW : S1024x3600.Idx → EReal := m ((c.tc : Thread nD τ).loc main_arg2)

theorem V_x : V m c main_arg0 = argX m c := by
  unfold_abbrev_sides
  after_results
theorem V_n : V m c main_arg1 = argN m c := by
  unfold_abbrev_sides
  after_results
theorem V_w : V m c main_v1 = truncf (F := Ideal) .bf16 (transpose S3600x1024 [1, 0] (argW m c) transposes_S1024x3600_S3600x1024_1_0) bitsLt_bf16_f32 := by
  unfold_abbrev_sides
  after_results

theorem turned_ix (w : FVec Ideal S1024x3600 .f32) (f : Fin 3600) (d : Fin 1024) :
    truncf (F := Ideal) .bf16 (transpose S3600x1024 [1, 0] w transposes_S1024x3600_S3600x1024_1_0) bitsLt_bf16_f32 (ix2 f d) = w (ix2 d f) := by
  pointwise

/-- The token at a row of a point's block. -/
def tok (n : ℕ) (r : Fin 512) : Fin 8192 := ⟨(512 * n + r.val) % 8192, Nat.mod_lt _ (by decide)⟩

theorem tok_val (t : Fin cfg0.N) (r : Fin 512) : (tok t.val r).val = 512 * t.val + r.val := by
  have ht : t.val < 16 := Nat.lt_of_lt_of_eq t.isLt N_0
  show (512 * t.val + r.val) % 8192 = _
  omega

theorem read_x (t : Fin cfg0.N) (r : Fin 512) (d : Fin 1024) : iblk m c 0 t (ix2 r d) = argX m c (ix2 (tok t.val r) d) := by
  have x : ∀ t : Fin cfg0.N, win0_0.index t = ![t.val, 0] := by decide +kernel
  have h := tok_val t r
  have e : iblk m c 0 t (ix2 r d) = V m c main_arg0 (ix2 (tok t.val r) d) := by
    blk_ext [iblk, x t, h]
  rw [e, V_x]

theorem read_n (t : Fin cfg0.N) (d : Fin 1024) : iblk m c 1 t (ix2 0 d) = argN m c (ix2 0 d) := by
  have x : ∀ t : Fin cfg0.N, win0_1.index t = ![0, 0] := by decide +kernel
  have e : iblk m c 1 t (ix2 0 d) = V m c main_arg1 (ix2 0 d) := by
    blk_ext [iblk, x t]
  rw [e, V_n]

theorem read_w (t : Fin cfg0.N) (f : Fin 3600) (d : Fin 1024) : iblk m c 2 t (ix2 f d) = argW m c (ix2 d f) := by
  have x : ∀ t : Fin cfg0.N, win0_2.index t = ![0, 0] := by decide +kernel
  have e : iblk m c 2 t (ix2 f d) = V m c main_v1 (ix2 f d) := by
    blk_ext [iblk, x t]
  rw [e, V_w]
  exact turned_ix (argW m c) f d

theorem xn_at (t : Fin cfg0.N) (r : Fin 512) (d : Fin 1024) :
    k0_pay2 (F := Ideal) (iblk m c 0 t) (iblk m c 1 t) (ix2 r d) = xn (argX m c) (argN m c) (tok t.val r) d := by
  rw [pay2_ix]
  simp only [read_x, read_n]
  rfl

/-- A product of a normalized row and a column of the weight. -/
theorem proj_at (t : Fin cfg0.N) (r : Fin 512) (f : Fin 3600) :
    ∑ d : Fin 1024, k0_pay2 (F := Ideal) (iblk m c 0 t) (iblk m c 1 t) (ix2 r d) * iblk m c 2 t (ix2 f d)
    = proj (argX m c) (argN m c) (argW m c) (tok t.val r) f :=
  Finset.sum_congr rfl fun d _ => congrArg₂ (· * ·) (xn_at m c t r d) (read_w m c t f d)

/-! ## The arrays -/

theorem arr3 : (dats m 0 c).arrAt 3 cfg0.N = normed (argX m c) (argN m c) := by
  refine (dats m 0 c).arrAt_eq_of_covers 3 _ (by decide +kernel) fun t hf y => ?_
  have x : ∀ t : Fin cfg0.N, win0_3.index t = ![t.val, 0] := by decide +kernel
  have hy : y = ix2 (n0 := 512) (n1 := 1024) (y 0) (y 1) := eq_ix2 y
  generalize y 0 = r at hy
  generalize y 1 = d at hy
  subst hy
  change Fin 512 at r
  change Fin 1024 at d
  have h := tok_val t r
  blk_simp
  rw [after0_3]
  refine (out3_ix _ _ _ r d).trans ((xn_at m c t r d).trans ?_)
  show normed (argX m c) (argN m c) (ix2 (tok t.val r) d) = _
  refine congrArg (normed (argX m c) (argN m c)) ?_
  blk_ext [x t, h]

theorem arr4 : (dats m 0 c).arrAt 4 cfg0.N = qkvA (argX m c) (argN m c) (argW m c) := by
  refine (dats m 0 c).arrAt_eq_of_covers 4 _ (by decide +kernel) fun t hf y => ?_
  have x : ∀ t : Fin cfg0.N, win0_4.index t = ![t.val, 0] := by decide +kernel
  have hy : y = ix2 (n0 := 512) (n1 := 1536) (y 0) (y 1) := eq_ix2 y
  generalize y 0 = r at hy
  generalize y 1 = f at hy
  subst hy
  change Fin 512 at r
  change Fin 1536 at f
  have h := tok_val t r
  blk_simp
  rw [after0_4]
  refine (out4_ix _ _ _ r f).trans ((proj_at m c t r (colAt 0 f.val)).trans ?_)
  show qkvA (argX m c) (argN m c) (argW m c) (ix2 (tok t.val r) f) = _
  refine congrArg (qkvA (argX m c) (argN m c) (argW m c)) ?_
  blk_ext [x t, h]

theorem arr5 : (dats m 0 c).arrAt 5 cfg0.N = zA (argX m c) (argN m c) (argW m c) := by
  refine (dats m 0 c).arrAt_eq_of_covers 5 _ (by decide +kernel) fun t hf y => ?_
  have x : ∀ t : Fin cfg0.N, win0_5.index t = ![t.val, 0] := by decide +kernel
  have hy : y = ix2 (n0 := 512) (n1 := 512) (y 0) (y 1) := eq_ix2 y
  generalize y 0 = r at hy
  generalize y 1 = f at hy
  subst hy
  change Fin 512 at r
  change Fin 512 at f
  have h := tok_val t r
  blk_simp
  rw [after0_5]
  refine (out5_ix _ _ _ r f).trans ((proj_at m c t r (colAt 1536 f.val)).trans ?_)
  show zA (argX m c) (argN m c) (argW m c) (ix2 (tok t.val r) f) = _
  refine congrArg (zA (argX m c) (argN m c) (argW m c)) ?_
  blk_ext [x t, h]

theorem arr6 : (dats m 0 c).arrAt 6 cfg0.N = gates (argX m c) (argN m c) (argW m c) := by
  refine (dats m 0 c).arrAt_eq_of_covers 6 _ (by decide +kernel) fun t hf y => ?_
  have x : ∀ t : Fin cfg0.N, win0_6.index t = ![t.val, 0] := by decide +kernel
  have hy : y = ix2 (n0 := 512) (n1 := 128) (y 0) (y 1) := eq_ix2 y
  generalize y 0 = r at hy
  generalize y 1 = f at hy
  subst hy
  change Fin 512 at r
  change Fin 128 at f
  have h := tok_val t r
  blk_simp
  rw [after0_6]
  refine (out6_ix _ _ _ r f).trans ((proj_at m c t r (colAt 2048 f.val)).trans ?_)
  show gates (argX m c) (argN m c) (argW m c) (ix2 (tok t.val r) f) = _
  refine congrArg (gates (argX m c) (argN m c) (argW m c)) ?_
  blk_ext [x t, h]

theorem arr7 : (dats m 0 c).arrAt 7 cfg0.N = qkvB (argX m c) (argN m c) (argW m c) := by
  refine (dats m 0 c).arrAt_eq_of_covers 7 _ (by decide +kernel) fun t hf y => ?_
  have x : ∀ t : Fin cfg0.N, win0_7.index t = ![t.val, 0] := by decide +kernel
  have hy : y = ix2 (n0 := 512) (n1 := 1536) (y 0) (y 1) := eq_ix2 y
  generalize y 0 = r at hy
  generalize y 1 = f at hy
  subst hy
  change Fin 512 at r
  change Fin 1536 at f
  have h := tok_val t r
  blk_simp
  rw [after0_7]
  refine (out7_ix _ _ _ r f).trans ((proj_at m c t r (colAt 2064 f.val)).trans ?_)
  show qkvB (argX m c) (argN m c) (argW m c) (ix2 (tok t.val r) f) = _
  refine congrArg (qkvB (argX m c) (argN m c) (argW m c)) ?_
  blk_ext [x t, h]

/-! ## The runs -/

theorem run_values :
    θ_run defs (onTc (τ := τ) (main (F := Ideal))) ⟨m, fun _ => 0, ρ⟩ fun r => ∀ c : Dev nD,
      r.2.mem ((c.tc : Thread nD τ).loc main_v2_0) = normed (argX m c) (argN m c)
      ∧ r.2.mem ((c.tc : Thread nD τ).loc main_v2_1) = qkvA (argX m c) (argN m c) (argW m c)
      ∧ r.2.mem ((c.tc : Thread nD τ).loc main_v2_2) = zA (argX m c) (argN m c) (argW m c)
      ∧ r.2.mem ((c.tc : Thread nD τ).loc main_v2_3) = gates (argX m c) (argN m c) (argW m c)
      ∧ r.2.mem ((c.tc : Thread nD τ).loc main_v2_4) = qkvB (argX m c) (argN m c) (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (Cert.Kernel5Ideal.Value.run_blocks (F := Ideal) m ρ)
  obtain ⟨e3, e4, e5, e6, e7, keep⟩ := h c
  exact ⟨e3.trans (arr3 m c), e4.trans (arr4 m c), e5.trans (arr5 m c), e6.trans (arr6 m c), e7.trans (arr7 m c), keep⟩

theorem ref_values (m' : (ℓ : Loc Cert.Reference5Ideal.nD Cert.Reference5Ideal.τ Cert.Reference5Ideal.sig) → Buf (Elt Ideal) ℓ) (ρ' : Dev Cert.Reference5Ideal.nD → PrngReg)
    (agree : ∀ c : Dev nD, m' ((c.tc : Thread Cert.Reference5Ideal.nD Cert.Reference5Ideal.τ).loc Cert.Reference5Ideal.main_arg0) = m ((c.tc : Thread nD τ).loc main_arg0)
      ∧ m' ((c.tc : Thread Cert.Reference5Ideal.nD Cert.Reference5Ideal.τ).loc Cert.Reference5Ideal.main_arg1) = m ((c.tc : Thread nD τ).loc main_arg1)
      ∧ m' ((c.tc : Thread Cert.Reference5Ideal.nD Cert.Reference5Ideal.τ).loc Cert.Reference5Ideal.main_arg2) = m ((c.tc : Thread nD τ).loc main_arg2)) :
    θ_run Cert.Reference5Ideal.defs (onTc (τ := Cert.Reference5Ideal.τ) (Cert.Reference5Ideal.main (F := Ideal))) ⟨m', fun _ => 0, ρ'⟩ fun r => ∀ c : Dev Cert.Reference5Ideal.nD,
      r.2.mem ((c.tc : Thread Cert.Reference5Ideal.nD Cert.Reference5Ideal.τ).loc Cert.Reference5Ideal.main_v17) = normed (argX m c) (argN m c)
      ∧ r.2.mem ((c.tc : Thread Cert.Reference5Ideal.nD Cert.Reference5Ideal.τ).loc Cert.Reference5Ideal.main_v13) = qkvA (argX m c) (argN m c) (argW m c)
      ∧ r.2.mem ((c.tc : Thread Cert.Reference5Ideal.nD Cert.Reference5Ideal.τ).loc Cert.Reference5Ideal.main_v14) = zA (argX m c) (argN m c) (argW m c)
      ∧ r.2.mem ((c.tc : Thread Cert.Reference5Ideal.nD Cert.Reference5Ideal.τ).loc Cert.Reference5Ideal.main_v18) = gates (argX m c) (argN m c) (argW m c)
      ∧ r.2.mem ((c.tc : Thread Cert.Reference5Ideal.nD Cert.Reference5Ideal.τ).loc Cert.Reference5Ideal.main_v16) = qkvB (argX m c) (argN m c) (argW m c)
      ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2) := by
  refine (θ_run Cert.Reference5Ideal.defs _ _).mono (fun r h c => ?_) (Cert.Reference5Ideal.Value.run (F := Ideal) m' ρ')
  obtain ⟨a0, a1, a2⟩ := agree c
  obtain ⟨e17, e13, e14, e18, e16, keep⟩ := h c
  rw [a0, a1] at e17
  rw [a0, a1, a2] at e13 e14 e18 e16
  exact ⟨e17.trans (ref_normed (argX m c) (argN m c)), e13.trans (ref_qkvA (argX m c) (argN m c) (argW m c)),
    e14.trans (ref_zA (argX m c) (argN m c) (argW m c)), e18.trans (ref_gates (argX m c) (argN m c) (argW m c)),
    e16.trans (ref_qkvB (argX m c) (argN m c) (argW m c)), keep⟩

/-! ## The claims -/

/-- The kernel, at the chip's own numbers, runs, leaves its arguments alone and its semaphores at zero. -/
theorem kernel_frame : Cert.quiescent_Kernel5 := fun m ρ _ => Cert.Kernel5.Gen.frame m ρ

/-- The same of the kernel at the ideal numbers. -/
theorem ideal_frame : Cert.quiescent_Kernel5Ideal := fun m ρ _ => Cert.Kernel5Ideal.Gen.frame m ρ

/-- The same of the reference. -/
theorem reference_frame : Cert.quiescent_Reference5Ideal := fun m ρ _ =>
  (θ_run Cert.Reference5Ideal.defs _ _).mono (fun r h => ⟨fun c => (h c).2.2.2.2.2, sem_eq_zero_of_no_sems (by decide) r.2⟩)
    (Cert.Reference5Ideal.Value.run (F := Ideal) m ρ)

/-- The kernel and the reference end with the same five results. -/
theorem same_results : Cert.algebraic_Kernel5Ideal_Reference5Ideal := fun m ρ m' ρ' _ agree =>
  ⟨fun c => normed (argX m c) (argN m c), fun c => qkvA (argX m c) (argN m c) (argW m c), fun c => zA (argX m c) (argN m c) (argW m c),
    fun c => gates (argX m c) (argN m c) (argW m c), fun c => qkvB (argX m c) (argN m c) (argW m c), run_values m ρ, ref_values m m' ρ' agree⟩

end Cert.Proof.MixIn

end
-- ==== Proof.Quarters.lean ====
/-
  Sums over the tokens a quarter at a time.
-/
module

public import Idealize.ShloMosaic.PureOps.Ideal

@[expose] public section

noncomputable section

namespace Cert.Proof.Quarters

open scoped BigOperators

theorem zero2 : (![0, 0] : Fin 2 → ℕ) = fun _ => 0 := by
  funext k
  match k with
  | ⟨0, _⟩ => rfl
  | ⟨1, _⟩ => rfl

theorem zero3 : (![0, 0, 0] : Fin 3 → ℕ) = fun _ => 0 := by
  funext k
  match k with
  | ⟨0, _⟩ => rfl
  | ⟨1, _⟩ => rfl
  | ⟨2, _⟩ => rfl

/-- The token at a row of a quarter. -/
def tok (n : ℕ) (r : Fin 2048) : Fin 8192 := ⟨(2048 * n + r.val) % 8192, Nat.mod_lt _ (by decide)⟩

theorem tok_val (n : ℕ) (hn : n < 4) (r : Fin 2048) : (tok n r).val = 2048 * n + r.val := by
  show (2048 * n + r.val) % 8192 = _
  omega

/-- The terms of the first `n` quarters. -/
def upTo (φ : Fin 8192 → EReal) (n : ℕ) : EReal := ∑ s ∈ Finset.range n, ∑ r : Fin 2048, φ (tok s r)

theorem upTo_one (φ : Fin 8192 → EReal) : upTo φ 1 = ∑ r : Fin 2048, φ (tok 0 r) := Finset.sum_range_one _

theorem upTo_succ (φ : Fin 8192 → EReal) (n : ℕ) : upTo φ (n + 1) = upTo φ n + ∑ r : Fin 2048, φ (tok n r) := Finset.sum_range_succ _ n

theorem upTo_all (φ : Fin 8192 → EReal) : upTo φ 4 = ∑ t, φ t := by
  unfold upTo
  rw [Finset.sum_range fun s => ∑ r : Fin 2048, φ (tok s r), ← Fintype.sum_prod_type' (f := fun (s : Fin 4) (r : Fin 2048) => φ (tok s.val r))]
  refine Fintype.sum_equiv (finProdFinEquiv (m := 4) (n := 2048)) _ _ fun p => ?_
  refine congrArg φ (Fin.ext ?_)
  show (2048 * p.1.val + p.2.val) % 8192 = p.2.val + 2048 * p.1.val
  have h1 := p.1.isLt
  have h2 := p.2.isLt
  omega

end Cert.Proof.Quarters

end
-- ==== Proof.InGrad.lean ====
/-
  The partial gradient of a run of 1536 columns of the combined projection's weight: the kernel's four sums over quarters of the tokens
  are the whole contraction.
-/
module

public import proofs.«01_k».proof.Proof.Gen.Kernel6Ideal.Value
public import proofs.«01_k».proof.Proof.Gen.Reference6Ideal.Run
public import proofs.«01_k».proof.Proof.Gen.Kernel6.Frame
public import proofs.«01_k».proof.Proof.Quarters
public import proofs.«01_k».proof.Defs
public import Idealize.ShloMosaic.Adequacy
public import Idealize.ShloMosaic.Init
public import Idealize.ShloMosaic.Lib.Quiescent
public import Idealize.ShloMosaic.Lib.Claim
public import Idealize.ShloMosaic.Lib.Pipeline.ValueKit

@[expose] public section

set_option maxRecDepth 16384

noncomputable section

namespace Cert.Proof.InGrad

open Idealize.ShloMosaic Idealize.ShloMosaic.TcCoe Idealize.ShloMosaic.Tactic Cert.Kernel6Ideal Cert.Kernel6Ideal.Gen
open Idealize.SL.Sem
open Idealize.ShloMosaic.Pipeline (Dat)
open Cert.Proof.Quarters (zero2 zero3 upTo upTo_one upTo_succ upTo_all)

variable (m : (ℓ : Loc nD τ sig) → Buf (Elt Ideal) ℓ) (ρ : Dev nD → PrngReg) (c : Dev nD)

/-! ## What a point leaves -/

section
variable (i : grid0.Coords) (arg1 : Memref sig .tc .vmem S2048x1536 .bf16) (h1 : arg1.IsWhole) (arg2 : Memref sig .tc .vmem S2048x1024 .bf16) (h2 : arg2.IsWhole)
  (arg3 : Memref sig .tc .vmem S1x1536x1024 .bf16) (h3 : arg3.IsWhole) (arg4 : Memref sig .tc .vmem S1536x1024 .f32) (h4 : arg4.IsWhole)
  (x0 : Vec Ideal S2048x1536 .bf16) (x1 : Vec Ideal S2048x1024 .bf16) (s : Vec Ideal S1536x1024 .f32)

/-- The first point leaves its own sum in the accumulator. -/
theorem first_sum (hc0 : cond0_0 i) (hc1 : ¬cond0_1 i) :
    sout0_A_0 c i arg1 h1 arg2 h2 arg3 h3 arg4 h4 hc0 hc1 x0 x1 = k0_pay2 k0_pay1 x0 x1 := by
  unfold sout0_A_0
  rw [View.read_writes_eq_canon _ _ _ (scover0_A_0 c i arg1 h1 arg2 h2 arg3 h3 arg4 h4 hc0 hc1 x0 x1)]
  unfold kernelRun0_A
  dsimp only
  (sl_unfold_words)
  rw [View.canon_cons_unit_zero zero2]
  simp only [View.readCov_unit_zero (S := S1536x1024) _ zero2, View.readAt_eq_ld, h1.read_unread, h2.read_unread, View.ld_unit_zero (S := S2048x1536) zero2, View.ld_unit_zero (S := S2048x1024) zero2]

/-- A later point adds its own. -/
theorem next_sum (hc0 : ¬cond0_0 i) (hc1 : ¬cond0_1 i) :
    sout0_B_0 c i arg1 h1 arg2 h2 arg3 h3 arg4 h4 hc0 hc1 x0 x1 s = k0_pay2 s x0 x1 := by
  unfold sout0_B_0
  rw [View.read_writes_eq_canon _ _ _ (scover0_B_0 c i arg1 h1 arg2 h2 arg3 h3 arg4 h4 hc0 hc1 x0 x1 s)]
  unfold kernelRun0_B
  dsimp only
  (sl_unfold_words)
  rw [View.canon_unit_zero zero2]
  simp only [View.readAt_eq_ld, h1.read_unread, h2.read_unread, h4.read_unread, View.ld_unit_zero (S := S2048x1536) zero2, View.ld_unit_zero (S := S2048x1024) zero2, View.ld_unit_zero (S := S1536x1024) zero2]

/-- The last point adds its own too, and writes the total out. -/
theorem last_out (hc0 : ¬cond0_0 i) (hc1 : cond0_1 i) :
    out0_C_2 c i arg1 h1 arg2 h2 arg3 h3 arg4 h4 hc0 hc1 x0 x1 s = k0_pay3 (k0_pay2 s x0 x1) := by
  unfold out0_C_2
  rw [View.read_writes_eq_canon _ _ _ (cover0_C_2 c i arg1 h1 arg2 h2 arg3 h3 arg4 h4 hc0 hc1 x0 x1 s)]
  unfold kernelRun0_C
  dsimp only
  (sl_unfold_words)
  rw [View.canon_unit_zero zero3]
  simp only [View.readCov_unit_zero (S := S1536x1024) _ zero2, View.readAt_eq_ld, h1.read_unread, h2.read_unread, h4.read_unread, View.ld_unit_zero (S := S2048x1536) zero2, View.ld_unit_zero (S := S2048x1024) zero2, View.ld_unit_zero (S := S1536x1024) zero2]

theorem pay2_ix (f : Fin 1536) (d : Fin 1024) : k0_pay2 s x0 x1 (ix2 f d) = s (ix2 f d) + ∑ k : Fin 2048, x0 (ix2 k f) * x1 (ix2 k d) := by
  pointwise [k0_pay2]

theorem pay1_ix (f : Fin 1536) (d : Fin 1024) : k0_pay1 (F := Ideal) (ix2 f d) = 0 := by
  pointwise [k0_pay1]

theorem pay3_ix (f : Fin 1536) (d : Fin 1024) : k0_pay3 s (ix3 0 f d) = s (ix2 f d) := by
  pointwise [k0_pay3]

end

/-! ## The blocks a point reads -/

abbrev argA : S8192x1536.Idx → EReal := m ((c.tc : Thread nD τ).loc main_arg0)
abbrev argB : S8192x1024.Idx → EReal := m ((c.tc : Thread nD τ).loc main_arg1)

theorem V_a : V m c main_v0 = truncf (F := Ideal) .bf16 (argA m c) bitsLt_bf16_f32 := by
  unfold_abbrev_sides
  after_results

theorem V_b : V m c main_v1 = truncf (F := Ideal) .bf16 (argB m c) bitsLt_bf16_f32 := by
  unfold_abbrev_sides
  after_results

theorem read_a (t : Fin cfg0.N) (k : Fin 2048) (f : Fin 1536) : iblk m c 0 t (ix2 k f) = argA m c (ix2 (Quarters.tok t.val k) f) := by
  have x : ∀ t : Fin cfg0.N, win0_0.index t = ![t.val % 4, 0] := by decide +kernel
  have ht : t.val < 4 := Nat.lt_of_lt_of_eq t.isLt N_0
  have h := Quarters.tok_val t.val ht k
  have e1 : iblk m c 0 t (ix2 k f) = V m c main_v0 (ix2 (Quarters.tok t.val k) f) := by
    blk_ext [iblk, x t, h]
  rw [e1, V_a]
  rfl

theorem read_b (t : Fin cfg0.N) (k : Fin 2048) (d : Fin 1024) : iblk m c 1 t (ix2 k d) = argB m c (ix2 (Quarters.tok t.val k) d) := by
  have x : ∀ t : Fin cfg0.N, win0_1.index t = ![t.val % 4, 0] := by decide +kernel
  have ht : t.val < 4 := Nat.lt_of_lt_of_eq t.isLt N_0
  have h := Quarters.tok_val t.val ht k
  have e1 : iblk m c 1 t (ix2 k d) = V m c main_v1 (ix2 (Quarters.tok t.val k) d) := by
    blk_ext [iblk, x t, h]
  rw [e1, V_b]
  rfl

/-- The terms of one entry of the gradient, token by token. -/
def term (a : S8192x1536.Idx → EReal) (b : S8192x1024.Idx → EReal) (f : Fin 1536) (d : Fin 1024) (k : Fin 8192) : EReal := a (ix2 k f) * b (ix2 k d)

/-- The gradient: each entry is a sum over all the tokens. -/
def grad (a : S8192x1536.Idx → EReal) (b : S8192x1024.Idx → EReal) (y : S1x1536x1024.Idx) : EReal := ∑ k, term a b (y 1) (y 2) k

theorem pay2_at (t : Fin cfg0.N) (s : Vec Ideal S1536x1024 .f32) (f : Fin 1536) (d : Fin 1024) :
    k0_pay2 s (iblk m c 0 t) (iblk m c 1 t) (ix2 f d) = s (ix2 f d) + ∑ k : Fin 2048, term (argA m c) (argB m c) f d (Quarters.tok t.val k) := by
  rw [pay2_ix]
  simp only [read_a, read_b]
  rfl

/-! ## The whole array -/

theorem sum_at (f : Fin 1536) (d : Fin 1024) : ∀ (n : ℕ) (hn : n < cfg0.N) (_ : n < 3),
    (outsAt0 m c n hn).2 (ix2 f d) = upTo (term (argA m c) (argB m c) f d) (n + 1)
  | 0, hn, _ => by
    have e := outsAt0_A m c ⟨0, hn⟩ rfl (by show ¬0 % 4 = 3; decide)
    rw [e]
    dsimp only
    rw [first_sum]
    refine (pay2_at m c ⟨0, hn⟩ _ f d).trans ?_
    rw [pay1_ix, zero_add, upTo_one]
  | n + 1, hn, h3 => by
    have e := outsAt0_B m c ⟨n + 1, hn⟩ (by show ¬(n + 1) % 4 = 0; omega) (by show ¬(n + 1) % 4 = 3; omega)
    rw [e]
    dsimp only
    rw [next_sum]
    refine (pay2_at m c ⟨n + 1, hn⟩ _ f d).trans ?_
    refine (congrArg (· + _) (sum_at f d n (Nat.lt_of_succ_lt hn) (Nat.lt_of_succ_lt h3))).trans ?_
    rw [upTo_succ _ (n + 1)]

theorem out_at (t : Fin cfg0.N) (h : t.val = 3) (f : Fin 1536) (d : Fin 1024) :
    (outsAt0 m c t.val t.isLt).1 (ix3 0 f d) = ∑ k, term (argA m c) (argB m c) f d k := by
  have e := outsAt0_C m c t (by omega) (by omega)
  rw [e]
  dsimp only
  rw [last_out, pay3_ix]
  refine (pay2_at m c t _ f d).trans ?_
  refine (congrArg (· + _) (sum_at m c f d (t.val - 1) _ (by omega))).trans ?_
  rw [h, ← upTo_all]
  exact (upTo_succ _ 3).symm

theorem arr : (dats m 0 c).arrAt 2 cfg0.N = grad (argA m c) (argB m c) := by
  refine (dats m 0 c).arrAt_eq_of_covers 2 _ (by decide +kernel) fun t hf y => ?_
  have x : ∀ t : Fin cfg0.N, win0_2.index t = ![0, 0, 0] := by decide +kernel
  have fl : ∀ t : Fin cfg0.N, (cfg0.win 2).flush t = true → t.val = 3 := by decide +kernel
  have hy : y = ix3 (n0 := 1) (n1 := 1536) (n2 := 1024) 0 (y 1) (y 2) := by
    refine (eq_ix3 y).trans (congrArg (fun z : Fin 1 => ix3 (n0 := 1) (n1 := 1536) (n2 := 1024) z (y 1) (y 2)) ?_)
    exact Subsingleton.elim (α := Fin 1) _ _
  generalize y 1 = f at hy
  generalize y 2 = d at hy
  subst hy
  change Fin 1536 at f
  change Fin 1024 at d
  blk_simp
  rw [after0_2]
  refine (out_at m c t (fl t hf) f d).trans ?_
  show grad (argA m c) (argB m c) (ix3 0 f d) = _
  refine congrArg (grad (argA m c) (argB m c)) ?_
  blk_ext [x t]

/-! ## The runs -/

theorem run_values : θ_run defs (onTc (τ := τ) (main (F := Ideal))) ⟨m, fun _ => 0, ρ⟩ fun r => ∀ c : Dev nD,
    r.2.mem ((c.tc : Thread nD τ).loc main_v2) = grad (argA m c) (argB m c)
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun _ h c => ⟨(h c).1.trans ((Cert.Kernel6Ideal.Value.final2 m c).symm.trans (arr m c)), (h c).2⟩) (Cert.Kernel6Ideal.Value.run m ρ)

theorem ref_ix (a : FVec Ideal Cert.Reference6Ideal.S8192x1536 .f32) (b : FVec Ideal Cert.Reference6Ideal.S8192x1024 .f32) :
    broadcastInDim Cert.Reference6Ideal.S1x1536x1024 ![1, 2] Cert.Reference6Ideal.Gen.bcast_S1536x1024_S1x1536x1024_1_2 (truncf (F := Ideal) .bf16
      (transpose Cert.Reference6Ideal.S1536x1024 [1, 0] (transpose Cert.Reference6Ideal.S1024x1536 [1, 0]
        (Host.dotGeneral (F := Ideal) Cert.Reference6Ideal.dot_S8192x1536_S8192x1024_S1536x1024_0_0_1_1_n_n none a b)
        Cert.Reference6Ideal.Gen.transposes_S1536x1024_S1024x1536_1_0) Cert.Reference6Ideal.Gen.transposes_S1024x1536_S1536x1024_1_0) Cert.Reference6Ideal.Gen.bitsLt_bf16_f32)
    = grad a b := by
  funext y
  rw [eq_ix3 y]
  pointwise
  rfl

theorem ref_values (m' : (ℓ : Loc Cert.Reference6Ideal.nD Cert.Reference6Ideal.τ Cert.Reference6Ideal.sig) → Buf (Elt Ideal) ℓ) (ρ' : Dev Cert.Reference6Ideal.nD → PrngReg)
    (agree : ∀ c : Dev nD, m' ((c.tc : Thread Cert.Reference6Ideal.nD Cert.Reference6Ideal.τ).loc Cert.Reference6Ideal.main_arg0) = m ((c.tc : Thread nD τ).loc main_arg0)
      ∧ m' ((c.tc : Thread Cert.Reference6Ideal.nD Cert.Reference6Ideal.τ).loc Cert.Reference6Ideal.main_arg1) = m ((c.tc : Thread nD τ).loc main_arg1)) :
    θ_run Cert.Reference6Ideal.defs (onTc (τ := Cert.Reference6Ideal.τ) (Cert.Reference6Ideal.main (F := Ideal))) ⟨m', fun _ => 0, ρ'⟩ fun r => ∀ c : Dev Cert.Reference6Ideal.nD,
      r.2.mem ((c.tc : Thread Cert.Reference6Ideal.nD Cert.Reference6Ideal.τ).loc Cert.Reference6Ideal.main_v7) = grad (argA m c) (argB m c)
      ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1) :=
  (θ_run Cert.Reference6Ideal.defs _ _).mono (fun _ h c => ⟨(h c).1.trans ((ref_ix _ _).trans (congrArg₂ grad (agree c).1 (agree c).2)), (h c).2⟩)
    (Cert.Reference6Ideal.Value.run (F := Ideal) m' ρ')

/-! ## The claims -/

/-- The kernel, at the chip's own numbers, runs, leaves its arguments alone and its semaphores at zero. -/
theorem kernel_frame : Cert.quiescent_Kernel6 := fun m ρ _ => Cert.Kernel6.Gen.frame m ρ

/-- The same of the kernel at the ideal numbers. -/
theorem ideal_frame : Cert.quiescent_Kernel6Ideal := fun m ρ _ => Cert.Kernel6Ideal.Gen.frame m ρ

/-- The same of the reference. -/
theorem reference_frame : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The kernel and the reference end with the same gradient. -/
theorem same_gradient : Cert.algebraic_Kernel6Ideal_Reference6Ideal := fun m ρ m' ρ' _ agree =>
  ⟨fun c => grad (argA m c) (argB m c), run_values m ρ, ref_values m m' ρ' agree⟩

end Cert.Proof.InGrad

end
-- ==== Proof.OutGrad.lean ====
/-
  The partial gradient of half the output projection's weight, 512 of its rows, from four sums over quarters of the tokens.
-/
module

public import proofs.«01_k».proof.Proof.Gen.Kernel7Ideal.Value
public import proofs.«01_k».proof.Proof.Gen.Reference7Ideal.Run
public import proofs.«01_k».proof.Proof.Gen.Kernel7.Frame
public import proofs.«01_k».proof.Proof.Quarters
public import proofs.«01_k».proof.Defs
public import Idealize.ShloMosaic.Adequacy
public import Idealize.ShloMosaic.Init
public import Idealize.ShloMosaic.Lib.Quiescent
public import Idealize.ShloMosaic.Lib.Claim
public import Idealize.ShloMosaic.Lib.Pipeline.ValueKit

@[expose] public section

set_option maxRecDepth 16384

noncomputable section

namespace Cert.Proof.OutGrad

open Idealize.ShloMosaic Idealize.ShloMosaic.TcCoe Idealize.ShloMosaic.Tactic Cert.Kernel7Ideal Cert.Kernel7Ideal.Gen
open Idealize.SL.Sem
open Idealize.ShloMosaic.Pipeline (Dat)
open Cert.Proof.Quarters (zero2 zero3 upTo upTo_one upTo_succ upTo_all)

variable (m : (ℓ : Loc nD τ sig) → Buf (Elt Ideal) ℓ) (ρ : Dev nD → PrngReg) (c : Dev nD)

/-! ## What a point leaves -/

section
variable (i : grid0.Coords) (arg1 : Memref sig .tc .vmem S2048x512 .bf16) (h1 : arg1.IsWhole) (arg2 : Memref sig .tc .vmem S2048x1024 .bf16) (h2 : arg2.IsWhole)
  (arg3 : Memref sig .tc .vmem S1x512x1024 .bf16) (h3 : arg3.IsWhole) (arg4 : Memref sig .tc .vmem S512x1024 .f32) (h4 : arg4.IsWhole)
  (x0 : Vec Ideal S2048x512 .bf16) (x1 : Vec Ideal S2048x1024 .bf16) (s : Vec Ideal S512x1024 .f32)

/-- The first point leaves its own sum in the accumulator. -/
theorem first_sum (hc0 : cond0_0 i) (hc1 : ¬cond0_1 i) :
    sout0_A_0 c i arg1 h1 arg2 h2 arg3 h3 arg4 h4 hc0 hc1 x0 x1 = k0_pay2 k0_pay1 x0 x1 := by
  unfold sout0_A_0
  rw [View.read_writes_eq_canon _ _ _ (scover0_A_0 c i arg1 h1 arg2 h2 arg3 h3 arg4 h4 hc0 hc1 x0 x1)]
  unfold kernelRun0_A
  dsimp only
  (sl_unfold_words)
  rw [View.canon_cons_unit_zero zero2]
  simp only [View.readCov_unit_zero (S := S512x1024) _ zero2, View.readAt_eq_ld, h1.read_unread, h2.read_unread, View.ld_unit_zero (S := S2048x512) zero2, View.ld_unit_zero (S := S2048x1024) zero2]

/-- A later point adds its own. -/
theorem next_sum (hc0 : ¬cond0_0 i) (hc1 : ¬cond0_1 i) :
    sout0_B_0 c i arg1 h1 arg2 h2 arg3 h3 arg4 h4 hc0 hc1 x0 x1 s = k0_pay2 s x0 x1 := by
  unfold sout0_B_0
  rw [View.read_writes_eq_canon _ _ _ (scover0_B_0 c i arg1 h1 arg2 h2 arg3 h3 arg4 h4 hc0 hc1 x0 x1 s)]
  unfold kernelRun0_B
  dsimp only
  (sl_unfold_words)
  rw [View.canon_unit_zero zero2]
  simp only [View.readAt_eq_ld, h1.read_unread, h2.read_unread, h4.read_unread, View.ld_unit_zero (S := S2048x512) zero2, View.ld_unit_zero (S := S2048x1024) zero2, View.ld_unit_zero (S := S512x1024) zero2]

/-- The last point adds its own too, and writes the total out. -/
theorem last_out (hc0 : ¬cond0_0 i) (hc1 : cond0_1 i) :
    out0_C_2 c i arg1 h1 arg2 h2 arg3 h3 arg4 h4 hc0 hc1 x0 x1 s = k0_pay3 (k0_pay2 s x0 x1) := by
  unfold out0_C_2
  rw [View.read_writes_eq_canon _ _ _ (cover0_C_2 c i arg1 h1 arg2 h2 arg3 h3 arg4 h4 hc0 hc1 x0 x1 s)]
  unfold kernelRun0_C
  dsimp only
  (sl_unfold_words)
  rw [View.canon_unit_zero zero3]
  simp only [View.readCov_unit_zero (S := S512x1024) _ zero2, View.readAt_eq_ld, h1.read_unread, h2.read_unread, h4.read_unread, View.ld_unit_zero (S := S2048x512) zero2, View.ld_unit_zero (S := S2048x1024) zero2, View.ld_unit_zero (S := S512x1024) zero2]

theorem pay2_ix (f : Fin 512) (d : Fin 1024) : k0_pay2 s x0 x1 (ix2 f d) = s (ix2 f d) + ∑ k : Fin 2048, x0 (ix2 k f) * x1 (ix2 k d) := by
  pointwise [k0_pay2]

theorem pay1_ix (f : Fin 512) (d : Fin 1024) : k0_pay1 (F := Ideal) (ix2 f d) = 0 := by
  pointwise [k0_pay1]

theorem pay3_ix (f : Fin 512) (d : Fin 1024) : k0_pay3 s (ix3 0 f d) = s (ix2 f d) := by
  pointwise [k0_pay3]

end

/-! ## The blocks a point reads -/

abbrev argA : S8192x512.Idx → EReal := m ((c.tc : Thread nD τ).loc main_arg0)
abbrev argB : S8192x1024.Idx → EReal := m ((c.tc : Thread nD τ).loc main_arg1)

theorem V_a : V m c main_v0 = truncf (F := Ideal) .bf16 (argA m c) bitsLt_bf16_f32 := by
  unfold_abbrev_sides
  after_results

theorem V_b : V m c main_v1 = truncf (F := Ideal) .bf16 (argB m c) bitsLt_bf16_f32 := by
  unfold_abbrev_sides
  after_results

theorem read_a (t : Fin cfg0.N) (k : Fin 2048) (f : Fin 512) : iblk m c 0 t (ix2 k f) = argA m c (ix2 (Quarters.tok t.val k) f) := by
  have x : ∀ t : Fin cfg0.N, win0_0.index t = ![t.val % 4, 0] := by decide +kernel
  have ht : t.val < 4 := Nat.lt_of_lt_of_eq t.isLt N_0
  have h := Quarters.tok_val t.val ht k
  have e1 : iblk m c 0 t (ix2 k f) = V m c main_v0 (ix2 (Quarters.tok t.val k) f) := by
    blk_ext [iblk, x t, h]
  rw [e1, V_a]
  rfl

theorem read_b (t : Fin cfg0.N) (k : Fin 2048) (d : Fin 1024) : iblk m c 1 t (ix2 k d) = argB m c (ix2 (Quarters.tok t.val k) d) := by
  have x : ∀ t : Fin cfg0.N, win0_1.index t = ![t.val % 4, 0] := by decide +kernel
  have ht : t.val < 4 := Nat.lt_of_lt_of_eq t.isLt N_0
  have h := Quarters.tok_val t.val ht k
  have e1 : iblk m c 1 t (ix2 k d) = V m c main_v1 (ix2 (Quarters.tok t.val k) d) := by
    blk_ext [iblk, x t, h]
  rw [e1, V_b]
  rfl

/-- The terms of one entry of the gradient, token by token. -/
def term (a : S8192x512.Idx → EReal) (b : S8192x1024.Idx → EReal) (f : Fin 512) (d : Fin 1024) (k : Fin 8192) : EReal := a (ix2 k f) * b (ix2 k d)

/-- The gradient: each entry is a sum over all the tokens. -/
def grad (a : S8192x512.Idx → EReal) (b : S8192x1024.Idx → EReal) (y : S1x512x1024.Idx) : EReal := ∑ k, term a b (y 1) (y 2) k

theorem pay2_at (t : Fin cfg0.N) (s : Vec Ideal S512x1024 .f32) (f : Fin 512) (d : Fin 1024) :
    k0_pay2 s (iblk m c 0 t) (iblk m c 1 t) (ix2 f d) = s (ix2 f d) + ∑ k : Fin 2048, term (argA m c) (argB m c) f d (Quarters.tok t.val k) := by
  rw [pay2_ix]
  simp only [read_a, read_b]
  rfl

/-! ## The whole array -/

theorem sum_at (f : Fin 512) (d : Fin 1024) : ∀ (n : ℕ) (hn : n < cfg0.N) (_ : n < 3),
    (outsAt0 m c n hn).2 (ix2 f d) = upTo (term (argA m c) (argB m c) f d) (n + 1)
  | 0, hn, _ => by
    have e := outsAt0_A m c ⟨0, hn⟩ rfl (by show ¬0 % 4 = 3; decide)
    rw [e]
    dsimp only
    rw [first_sum]
    refine (pay2_at m c ⟨0, hn⟩ _ f d).trans ?_
    rw [pay1_ix, zero_add, upTo_one]
  | n + 1, hn, h3 => by
    have e := outsAt0_B m c ⟨n + 1, hn⟩ (by show ¬(n + 1) % 4 = 0; omega) (by show ¬(n + 1) % 4 = 3; omega)
    rw [e]
    dsimp only
    rw [next_sum]
    refine (pay2_at m c ⟨n + 1, hn⟩ _ f d).trans ?_
    refine (congrArg (· + _) (sum_at f d n (Nat.lt_of_succ_lt hn) (Nat.lt_of_succ_lt h3))).trans ?_
    rw [upTo_succ _ (n + 1)]

theorem out_at (t : Fin cfg0.N) (h : t.val = 3) (f : Fin 512) (d : Fin 1024) :
    (outsAt0 m c t.val t.isLt).1 (ix3 0 f d) = ∑ k, term (argA m c) (argB m c) f d k := by
  have e := outsAt0_C m c t (by omega) (by omega)
  rw [e]
  dsimp only
  rw [last_out, pay3_ix]
  refine (pay2_at m c t _ f d).trans ?_
  refine (congrArg (· + _) (sum_at m c f d (t.val - 1) _ (by omega))).trans ?_
  rw [h, ← upTo_all]
  exact (upTo_succ _ 3).symm

theorem arr : (dats m 0 c).arrAt 2 cfg0.N = grad (argA m c) (argB m c) := by
  refine (dats m 0 c).arrAt_eq_of_covers 2 _ (by decide +kernel) fun t hf y => ?_
  have x : ∀ t : Fin cfg0.N, win0_2.index t = ![0, 0, 0] := by decide +kernel
  have fl : ∀ t : Fin cfg0.N, (cfg0.win 2).flush t = true → t.val = 3 := by decide +kernel
  have hy : y = ix3 (n0 := 1) (n1 := 512) (n2 := 1024) 0 (y 1) (y 2) := by
    refine (eq_ix3 y).trans (congrArg (fun z : Fin 1 => ix3 (n0 := 1) (n1 := 512) (n2 := 1024) z (y 1) (y 2)) ?_)
    exact Subsingleton.elim (α := Fin 1) _ _
  generalize y 1 = f at hy
  generalize y 2 = d at hy
  subst hy
  change Fin 512 at f
  change Fin 1024 at d
  blk_simp
  rw [after0_2]
  refine (out_at m c t (fl t hf) f d).trans ?_
  show grad (argA m c) (argB m c) (ix3 0 f d) = _
  refine congrArg (grad (argA m c) (argB m c)) ?_
  blk_ext [x t]

/-! ## The runs -/

theorem run_values : θ_run defs (onTc (τ := τ) (main (F := Ideal))) ⟨m, fun _ => 0, ρ⟩ fun r => ∀ c : Dev nD,
    r.2.mem ((c.tc : Thread nD τ).loc main_v2) = grad (argA m c) (argB m c)
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun _ h c => ⟨(h c).1.trans ((Cert.Kernel7Ideal.Value.final2 m c).symm.trans (arr m c)), (h c).2⟩) (Cert.Kernel7Ideal.Value.run m ρ)

/-- The reference multiplies in the other order. -/
theorem ref_ix (a : FVec Ideal Cert.Reference7Ideal.S8192x512 .f32) (b : FVec Ideal Cert.Reference7Ideal.S8192x1024 .f32) :
    broadcastInDim Cert.Reference7Ideal.S1x512x1024 ![1, 2] Cert.Reference7Ideal.Gen.bcast_S512x1024_S1x512x1024_1_2 (truncf (F := Ideal) .bf16
      (transpose Cert.Reference7Ideal.S512x1024 [1, 0]
        (Host.dotGeneral (F := Ideal) Cert.Reference7Ideal.dot_S8192x1024_S8192x512_S1024x512_0_0_1_1_n_n none b a)
        Cert.Reference7Ideal.Gen.transposes_S1024x512_S512x1024_1_0) Cert.Reference7Ideal.Gen.bitsLt_bf16_f32)
    = grad a b := by
  funext y
  rw [eq_ix3 y]
  have e : grad a b (ix3 (y 0) (y 1) (y 2)) = ∑ k : Fin 8192, b (ix2 k (y 2)) * a (ix2 k (y 1)) := Finset.sum_congr rfl fun k _ => mul_comm _ _
  rw [e]
  pointwise

theorem ref_values (m' : (ℓ : Loc Cert.Reference7Ideal.nD Cert.Reference7Ideal.τ Cert.Reference7Ideal.sig) → Buf (Elt Ideal) ℓ) (ρ' : Dev Cert.Reference7Ideal.nD → PrngReg)
    (agree : ∀ c : Dev nD, m' ((c.tc : Thread Cert.Reference7Ideal.nD Cert.Reference7Ideal.τ).loc Cert.Reference7Ideal.main_arg0) = m ((c.tc : Thread nD τ).loc main_arg0)
      ∧ m' ((c.tc : Thread Cert.Reference7Ideal.nD Cert.Reference7Ideal.τ).loc Cert.Reference7Ideal.main_arg1) = m ((c.tc : Thread nD τ).loc main_arg1)) :
    θ_run Cert.Reference7Ideal.defs (onTc (τ := Cert.Reference7Ideal.τ) (Cert.Reference7Ideal.main (F := Ideal))) ⟨m', fun _ => 0, ρ'⟩ fun r => ∀ c : Dev Cert.Reference7Ideal.nD,
      r.2.mem ((c.tc : Thread Cert.Reference7Ideal.nD Cert.Reference7Ideal.τ).loc Cert.Reference7Ideal.main_v5) = grad (argA m c) (argB m c)
      ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1) :=
  (θ_run Cert.Reference7Ideal.defs _ _).mono (fun _ h c => ⟨(h c).1.trans ((ref_ix _ _).trans (congrArg₂ grad (agree c).1 (agree c).2)), (h c).2⟩)
    (Cert.Reference7Ideal.Value.run (F := Ideal) m' ρ')

/-! ## The claims -/

/-- The kernel, at the chip's own numbers, runs, leaves its arguments alone and its semaphores at zero. -/
theorem kernel_frame : Cert.quiescent_Kernel7 := fun m ρ _ => Cert.Kernel7.Gen.frame m ρ

/-- The same of the kernel at the ideal numbers. -/
theorem ideal_frame : Cert.quiescent_Kernel7Ideal := fun m ρ _ => Cert.Kernel7Ideal.Gen.frame m ρ

/-- The same of the reference. -/
theorem reference_frame : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The kernel and the reference end with the same gradient. -/
theorem same_gradient : Cert.algebraic_Kernel7Ideal_Reference7Ideal := fun m ρ m' ρ' _ agree =>
  ⟨fun c => grad (argA m c) (argB m c), run_values m ρ, ref_values m m' ρ' agree⟩

end Cert.Proof.OutGrad

end
-- ==== Proof.GateSpec.lean ====
/-
  The gradient of the mixer's last lines, the norm of each head's row under the gate, over the real numbers: the values of
  one head of one token, and the sum over the tokens and the heads that is the gradient of the norm's weight.
-/
module

public import proofs.«01_k».proof.Proof.FfnSpec

@[expose] public section

set_option maxRecDepth 16384

noncomputable section

namespace Cert.Proof.GateSpec

open Idealize.ShloMosaic
open Cert.Proof.FfnSpec (eps eps_pos)
open scoped BigOperators

/-- The arguments: the gradient of the gated rows, the two scans' rows, the gate, the norm's weight. -/
structure Args where
  dy : Fin 8192 → Fin 4 → Fin 128 → ℝ
  xf : Fin 8192 → Fin 4 → Fin 128 → ℝ
  xb : Fin 8192 → Fin 4 → Fin 128 → ℝ
  z : Fin 8192 → Fin 4 → Fin 128 → ℝ
  w : Fin 128 → ℝ

/-- The head of a column and its place in it; the column of a head's place. -/
def hd (C : Fin 512) : Fin 4 := ⟨C.val / 128, by omega⟩
def lane (C : Fin 512) : Fin 128 := ⟨C.val % 128, by omega⟩
def colOf (h : Fin 4) (d : Fin 128) : Fin 512 := ⟨h.val * 128 + d.val, by omega⟩

theorem hd_colOf (h : Fin 4) (d : Fin 128) : hd (colOf h d) = h := Fin.ext (by show (h.val * 128 + d.val) / 128 = h.val; omega)
theorem lane_colOf (h : Fin 4) (d : Fin 128) : lane (colOf h d) = d := Fin.ext (by show (h.val * 128 + d.val) % 128 = d.val; omega)

variable (A : Args)

def x (t : Fin 8192) (h : Fin 4) (d : Fin 128) : ℝ := A.xf t h d + A.xb t h d
def ms (t : Fin 8192) (h : Fin 4) : ℝ := (∑ d, x A t h d * x A t h d) * (1 / 128) + eps
def rstd (t : Fin 8192) (h : Fin 4) : ℝ := (Real.sqrt (ms A t h))⁻¹
def xhat (t : Fin 8192) (h : Fin 4) (d : Fin 128) : ℝ := x A t h d * rstd A t h
def sg (t : Fin 8192) (h : Fin 4) (d : Fin 128) : ℝ := (1 + Real.exp (-A.z t h d))⁻¹
def dz (t : Fin 8192) (h : Fin 4) (d : Fin 128) : ℝ :=
  A.dy t h d * (xhat A t h d * A.w d) * (sg A t h d * (1 + A.z t h d * (1 - sg A t h d)))
def dn (t : Fin 8192) (h : Fin 4) (d : Fin 128) : ℝ := A.dy t h d * (A.z t h d * sg A t h d)
def dxh (t : Fin 8192) (h : Fin 4) (d : Fin 128) : ℝ := dn A t h d * A.w d
def dx (t : Fin 8192) (h : Fin 4) (d : Fin 128) : ℝ :=
  rstd A t h * (dxh A t h d - xhat A t h d * ((∑ e, dxh A t h e * xhat A t h e) * (1 / 128)))
def dw (d : Fin 128) : ℝ := ∑ t, ∑ h, dn A t h d * xhat A t h d

theorem ms_pos (t : Fin 8192) (h : Fin 4) : 0 < ms A t h := by
  unfold ms
  have := Finset.sum_nonneg fun d (_ : d ∈ Finset.univ) => mul_self_nonneg (x A t h d)
  have := eps_pos
  positivity

theorem rstd_sq (t : Fin 8192) (h : Fin 4) : rstd A t h * rstd A t h * ms A t h = 1 := by
  unfold rstd
  have hp := ms_pos A t h
  rw [← mul_inv, Real.mul_self_sqrt hp.le, inv_mul_cancel₀ hp.ne']

/-- The quotient the derivative of the reciprocal root takes is its cube. -/
theorem rstd_div (t : Fin 8192) (h : Fin 4) : rstd A t h * (1 / ms A t h) = rstd A t h * rstd A t h * rstd A t h := by
  have hp := (ms_pos A t h).ne'
  have hs := rstd_sq A t h
  field_simp
  linear_combination (-rstd A t h) * hs

/-- The gradient of a row as the derivative of the norm's own lines gives it. -/
theorem dx_eq (t : Fin 8192) (h : Fin 4) (d : Fin 128) :
    dxh A t h d * rstd A t h + x A t h d * ((∑ e, x A t h e * dxh A t h e) * (-1 / 2 * (rstd A t h * (1 / ms A t h))) * (1 / 128))
      + (∑ e, x A t h e * dxh A t h e) * (-1 / 2 * (rstd A t h * (1 / ms A t h))) * (1 / 128) * x A t h d = dx A t h d := by
  have e : ∑ e, dxh A t h e * xhat A t h e = (∑ e, x A t h e * dxh A t h e) * rstd A t h := by
    rw [Finset.sum_mul]
    exact Finset.sum_congr rfl fun e _ => by unfold xhat; ring
  unfold dx
  rw [e, rstd_div]
  unfold xhat
  ring

/-- The gradient of the gate as the derivative of `z * logistic z` gives it. -/
theorem dz_eq (t : Fin 8192) (h : Fin 4) (d : Fin 128) :
    xhat A t h d * A.w d * A.dy t h d * sg A t h d
      + A.z t h d * (xhat A t h d * A.w d * A.dy t h d) * (sg A t h d * (1 - sg A t h d)) = dz A t h d := by
  unfold dz
  ring

theorem lit_128 : Ideal.ofBits .f32 0x43000000#32 = ((128 : ℝ) : EReal) := by
  simp [Ideal.ofBits, Ideal.ieee, -EReal.coe_mul]; norm_num

theorem div_128 (a : ℝ) : Ideal.div (a : EReal) ((128 : ℝ) : EReal) = ((a * (1 / 128) : ℝ) : EReal) := FfnSpec.div_real a 128 (by norm_num)

theorem rsqrt_ms (t : Fin 8192) (h : Fin 4) : Ideal.rsqrt (ms A t h : EReal) = (rstd A t h : EReal) := by
  have hp := ms_pos A t h
  rw [Ideal.rsqrt_coe, if_neg (not_lt.2 hp.le), if_neg hp.ne']
  rfl

end Cert.Proof.GateSpec

end
-- ==== Proof.GatePoint.lean ====
/-
  What the two kinds of grid point leave in the outputs' blocks, as the payloads of the arrays' blocks.
-/
module

public import proofs.«01_k».proof.Proof.Gen.Kernel8Ideal.Value
public import proofs.«01_k».proof.Proof.GateSpec
public import Idealize.ShloMosaic.Lib.Pipeline.ValueKit

@[expose] public section

set_option maxRecDepth 16384

noncomputable section

namespace Cert.Proof.GatePoint

open Idealize.ShloMosaic Idealize.ShloMosaic.TcCoe Idealize.ShloMosaic.Tactic Cert.Kernel8Ideal Cert.Kernel8Ideal.Gen
open Idealize.SL.Sem
open Cert.Proof.GateSpec (hd lane colOf)

theorem zero2 : (![0, 0] : Fin 2 → ℕ) = fun _ => 0 := by
  funext k
  match k with
  | ⟨0, _⟩ => rfl
  | ⟨1, _⟩ => rfl

abbrev Blk := Vec Ideal S512x512 .f32
abbrev Wt := Vec Ideal S1x128 .f32
abbrev Head := Vec Ideal S512x128 .f32

/-! ## The four heads -/

/-- The columns of head `j` of a block, as the body loads them. -/
def part (x : Blk) (j : Fin 4) : Head := fun y => x (ix2 (y 0) (colOf j (y 1)))

/-- Four heads side by side. -/
def joined (P : Fin 4 → S512x128.Idx → EReal) : S512x512.Idx → EReal := fun y => P (hd (y 1)) (ix2 (y 0) (lane (y 1)))

theorem ld_part (x : Blk) (j : Fin 4) (off : Fin 2 → ℕ) (e : off = ![0, j.val * 128]) (inb : ∀ a, off a + (![512, 128] : Fin 2 → ℕ) a ≤ S512x512.size a) :
    (View.ld x (Rect.unit off ![512, 128] inb) : Head) = part x j := by
  subst e
  funext y
  refine View.ld_unit_apply_of x _ _ _ y (ix2 (y 0) (colOf j (y 1))) fun a => ?_
  match a with
  | ⟨0, _⟩ => exact (Nat.zero_add _).symm
  | ⟨1, _⟩ => rfl

theorem piece_eq (P : Fin 4 → S512x128.Idx → EReal) (k : Fin 4) (y : S512x512.Idx) (x : S512x128.Idx) (h0 : (y 0).val = (x 0).val)
    (h1 : (y 1).val = k.val * 128 + (x 1).val) : P k x = joined P y := by
  have hx : (x 1).val < 128 := (x 1).isLt
  have e0 : hd (y 1) = k := Fin.ext (by show (y 1).val / 128 = k.val; omega)
  have e1 : x = ix2 (y 0) (lane (y 1)) := by
    funext a
    match a with
    | ⟨0, _⟩ => exact Fin.ext h0.symm
    | ⟨1, _⟩ => exact Fin.ext (by show (x 1).val = (y 1).val % 128; omega)
  unfold joined
  rw [e0]
  exact congrArg (P k) e1

/-! ## The payloads of a head -/

def dzP (a b z d : Head) (w : Wt) : S512x128.Idx → EReal := k0_pay7 (F := Ideal) (k0_pay6 (F := Ideal) a b z d w)
def dxP (a b z d : Head) (w : Wt) : S512x128.Idx → EReal :=
  k0_pay10 (F := Ideal) (k0_pay3 (F := Ideal) a b) z d (k0_pay4 (F := Ideal) a b) (k0_pay5 (F := Ideal) z) w

/-- The sum over the rows, head by head, and what is added to the block at the end. -/
def sumP (s : Wt) (a b z d : Head) : Wt :=
  k0_pay11 (F := Ideal) s (k0_pay3 (F := Ideal) a b) z d (k0_pay4 (F := Ideal) a b) (k0_pay5 (F := Ideal) z)
def lastP (s old : Wt) : Wt := addf (shapeCast S1x128 old shapeCasts_S1x128_S1x128 : FVec Ideal S1x128 .f32) s

def dzAt (x0 x1 x2 x3 : Blk) (x4 : Wt) (j : Fin 4) : S512x128.Idx → EReal := dzP (part x1 j) (part x2 j) (part x3 j) (part x0 j) x4
def dxAt (x0 x1 x2 x3 : Blk) (x4 : Wt) (j : Fin 4) : S512x128.Idx → EReal := dxP (part x1 j) (part x2 j) (part x3 j) (part x0 j) x4
def sumAt (x0 x1 x2 x3 : Blk) (j : Fin 4) (s : Wt) : Wt := sumP s (part x1 j) (part x2 j) (part x3 j) (part x0 j)
def dwP (x0 x1 x2 x3 : Blk) (old : Wt) : Wt :=
  lastP (sumAt x0 x1 x2 x3 3 (sumAt x0 x1 x2 x3 2 (sumAt x0 x1 x2 x3 1 (sumAt x0 x1 x2 x3 0 (k0_pay2 (F := Ideal)))))) old

theorem dz1 (a b z d : Head) (w : Wt) :
    k0_pay15 (F := Ideal) (k0_pay12 a b) z d (k0_pay13 a b) (Scalar.ofBits .f32 0x00000000#32) w = dzP a b z d w := rfl
theorem dz2 (a b z d : Head) (w : Wt) : k0_pay24 (F := Ideal) a b z d w = dzP a b z d w := rfl
theorem dz3 (a b z d : Head) (w : Wt) :
    k0_pay34 (F := Ideal) (k0_pay29 a b) z d (k0_pay30 a b) (k0_pay31 z) k0_pay32 w = dzP a b z d w := rfl

theorem dx1 (a b z d : Head) (w : Wt) :
    k0_pay18 (F := Ideal) (k0_pay12 a b) z d (k0_pay13 a b) (Scalar.ofBits .f32 0x00000000#32) w = dxP a b z d w := rfl
theorem dx2 (a b z d : Head) (w : Wt) : k0_pay27 (F := Ideal) (k0_pay21 a b) z d (k0_pay22 a b) (k0_pay23 z) w = dxP a b z d w := rfl
theorem dx3 (a b z d : Head) (w : Wt) :
    k0_pay37 (F := Ideal) (k0_pay29 a b) z d (k0_pay30 a b) (k0_pay31 z) k0_pay32 w = dxP a b z d w := rfl

theorem sum1 (s : Wt) (a b z d : Head) :
    k0_pay20 (F := Ideal) s (k0_pay19 (k0_pay12 a b) z d (k0_pay13 a b) (Scalar.ofBits .f32 0x00000000#32)) = sumP s a b z d := rfl
theorem sum2 (s : Wt) (a b z d : Head) : k0_pay28 (F := Ideal) s (k0_pay21 a b) z d (k0_pay22 a b) (k0_pay23 z) = sumP s a b z d := rfl
theorem sum3 (s : Wt) (a b z d : Head) (old : Wt) :
    k0_pay38 (F := Ideal) s (k0_pay29 a b) z d (k0_pay30 a b) (k0_pay31 z) k0_pay32 old = lastP (sumP s a b z d) old := rfl

/-! ## What a point of kind A leaves -/

theorem out_A_5 (c : Dev nD) (i : grid0.Coords) (arg1 : Memref sig .tc .vmem S512x512 .f32) (h1 : arg1.IsWhole) (arg2 : Memref sig .tc .vmem S512x512 .f32) (h2 : arg2.IsWhole) (arg3 : Memref sig .tc .vmem S512x512 .f32) (h3 : arg3.IsWhole) (arg4 : Memref sig .tc .vmem S512x512 .f32) (h4 : arg4.IsWhole) (arg5 : Memref sig .tc .vmem S1x128 .f32) (h5 : arg5.IsWhole) (arg6 : Memref sig .tc .vmem S512x512 .f32) (h6 : arg6.IsWhole) (arg7 : Memref sig .tc .vmem S512x512 .bf16) (h7 : arg7.IsWhole) (arg8 : Memref sig .tc .vmem S1x128 .f32) (h8 : arg8.IsWhole) (hc : cond0_0 i) (x0 x1 x2 x3 : Blk) (x4 : Wt) :
    out0_A_5 c i arg1 h1 arg2 h2 arg3 h3 arg4 h4 arg5 h5 arg6 h6 arg7 h7 arg8 h8 hc x0 x1 x2 x3 x4 = joined fun j => dxAt x0 x1 x2 x3 x4 j := by
  funext y
  unfold out0_A_5
  rw [View.read_writes_eq_canon _ _ _ (cover0_A_5 c i arg1 h1 arg2 h2 arg3 h3 arg4 h4 arg5 h5 arg6 h6 arg7 h7 arg8 h8 hc x0 x1 x2 x3 x4)]
  unfold kernelRun0_A
  dsimp only
  (sl_unfold_words)
  simp only [View.readAt_eq_ld, h1.read_unread, h2.read_unread, h3.read_unread, h4.read_unread, h5.read_unread, h8.read_unread, View.ld_unit_zero (S := S1x128) zero2,
    View.readCov_unit_zero (S := S1x128) _ zero2, ld_part _ 0 ![0, 0] rfl, ld_part _ 1 ![0, 128] rfl, ld_part _ 2 ![0, 256] rfl, ld_part _ 3 ![0, 384] rfl]
  canon_tiles x h
  · exact piece_eq (dxAt x0 x1 x2 x3 x4) 3 y x (by omega) (by omega)
  · exact piece_eq (dxAt x0 x1 x2 x3 x4) 2 y x (by omega) (by omega)
  · exact piece_eq (dxAt x0 x1 x2 x3 x4) 1 y x (by omega) (by omega)
  · exact piece_eq (dxAt x0 x1 x2 x3 x4) 0 y x (by omega) (by omega)

theorem out_A_6 (c : Dev nD) (i : grid0.Coords) (arg1 : Memref sig .tc .vmem S512x512 .f32) (h1 : arg1.IsWhole) (arg2 : Memref sig .tc .vmem S512x512 .f32) (h2 : arg2.IsWhole) (arg3 : Memref sig .tc .vmem S512x512 .f32) (h3 : arg3.IsWhole) (arg4 : Memref sig .tc .vmem S512x512 .f32) (h4 : arg4.IsWhole) (arg5 : Memref sig .tc .vmem S1x128 .f32) (h5 : arg5.IsWhole) (arg6 : Memref sig .tc .vmem S512x512 .f32) (h6 : arg6.IsWhole) (arg7 : Memref sig .tc .vmem S512x512 .bf16) (h7 : arg7.IsWhole) (arg8 : Memref sig .tc .vmem S1x128 .f32) (h8 : arg8.IsWhole) (hc : cond0_0 i) (x0 x1 x2 x3 : Blk) (x4 : Wt) :
    out0_A_6 c i arg1 h1 arg2 h2 arg3 h3 arg4 h4 arg5 h5 arg6 h6 arg7 h7 arg8 h8 hc x0 x1 x2 x3 x4 = joined fun j => dzAt x0 x1 x2 x3 x4 j := by
  funext y
  unfold out0_A_6
  rw [View.read_writes_eq_canon _ _ _ (cover0_A_6 c i arg1 h1 arg2 h2 arg3 h3 arg4 h4 arg5 h5 arg6 h6 arg7 h7 arg8 h8 hc x0 x1 x2 x3 x4)]
  unfold kernelRun0_A
  dsimp only
  (sl_unfold_words)
  simp only [View.readAt_eq_ld, h1.read_unread, h2.read_unread, h3.read_unread, h4.read_unread, h5.read_unread, h8.read_unread, View.ld_unit_zero (S := S1x128) zero2,
    View.readCov_unit_zero (S := S1x128) _ zero2, ld_part _ 0 ![0, 0] rfl, ld_part _ 1 ![0, 128] rfl, ld_part _ 2 ![0, 256] rfl, ld_part _ 3 ![0, 384] rfl]
  canon_tiles x h
  · exact piece_eq (dzAt x0 x1 x2 x3 x4) 3 y x (by omega) (by omega)
  · exact piece_eq (dzAt x0 x1 x2 x3 x4) 2 y x (by omega) (by omega)
  · exact piece_eq (dzAt x0 x1 x2 x3 x4) 1 y x (by omega) (by omega)
  · exact piece_eq (dzAt x0 x1 x2 x3 x4) 0 y x (by omega) (by omega)

theorem out_A_7 (c : Dev nD) (i : grid0.Coords) (arg1 : Memref sig .tc .vmem S512x512 .f32) (h1 : arg1.IsWhole) (arg2 : Memref sig .tc .vmem S512x512 .f32) (h2 : arg2.IsWhole) (arg3 : Memref sig .tc .vmem S512x512 .f32) (h3 : arg3.IsWhole) (arg4 : Memref sig .tc .vmem S512x512 .f32) (h4 : arg4.IsWhole) (arg5 : Memref sig .tc .vmem S1x128 .f32) (h5 : arg5.IsWhole) (arg6 : Memref sig .tc .vmem S512x512 .f32) (h6 : arg6.IsWhole) (arg7 : Memref sig .tc .vmem S512x512 .bf16) (h7 : arg7.IsWhole) (arg8 : Memref sig .tc .vmem S1x128 .f32) (h8 : arg8.IsWhole) (hc : cond0_0 i) (x0 x1 x2 x3 : Blk) (x4 : Wt) :
    out0_A_7 c i arg1 h1 arg2 h2 arg3 h3 arg4 h4 arg5 h5 arg6 h6 arg7 h7 arg8 h8 hc x0 x1 x2 x3 x4 = dwP x0 x1 x2 x3 (k0_pay1 (F := Ideal)) := by
  unfold out0_A_7
  rw [View.read_writes_eq_canon _ _ _ (cover0_A_7 c i arg1 h1 arg2 h2 arg3 h3 arg4 h4 arg5 h5 arg6 h6 arg7 h7 arg8 h8 hc x0 x1 x2 x3 x4)]
  unfold kernelRun0_A
  dsimp only
  (sl_unfold_words)
  rw [View.canon_cons_unit_zero zero2]
  simp only [View.readAt_eq_ld, h1.read_unread, h2.read_unread, h3.read_unread, h4.read_unread, h5.read_unread, h8.read_unread, View.ld_unit_zero (S := S1x128) zero2,
    View.readCov_unit_zero (S := S1x128) _ zero2, ld_part _ 0 ![0, 0] rfl, ld_part _ 1 ![0, 128] rfl, ld_part _ 2 ![0, 256] rfl, ld_part _ 3 ![0, 384] rfl]
  rw [sum1, sum2, sum3]
  rfl

/-! ## What a point of kind B leaves -/

theorem out_B_5 (c : Dev nD) (i : grid0.Coords) (arg1 : Memref sig .tc .vmem S512x512 .f32) (h1 : arg1.IsWhole) (arg2 : Memref sig .tc .vmem S512x512 .f32) (h2 : arg2.IsWhole) (arg3 : Memref sig .tc .vmem S512x512 .f32) (h3 : arg3.IsWhole) (arg4 : Memref sig .tc .vmem S512x512 .f32) (h4 : arg4.IsWhole) (arg5 : Memref sig .tc .vmem S1x128 .f32) (h5 : arg5.IsWhole) (arg6 : Memref sig .tc .vmem S512x512 .f32) (h6 : arg6.IsWhole) (arg7 : Memref sig .tc .vmem S512x512 .bf16) (h7 : arg7.IsWhole) (arg8 : Memref sig .tc .vmem S1x128 .f32) (h8 : arg8.IsWhole) (hc : ¬cond0_0 i) (x0 x1 x2 x3 : Blk) (x4 : Wt) (s : Wt) :
    out0_B_5 c i arg1 h1 arg2 h2 arg3 h3 arg4 h4 arg5 h5 arg6 h6 arg7 h7 arg8 h8 hc x0 x1 x2 x3 x4 s = joined fun j => dxAt x0 x1 x2 x3 x4 j := by
  funext y
  unfold out0_B_5
  rw [View.read_writes_eq_canon _ _ _ (cover0_B_5 c i arg1 h1 arg2 h2 arg3 h3 arg4 h4 arg5 h5 arg6 h6 arg7 h7 arg8 h8 hc x0 x1 x2 x3 x4 s)]
  unfold kernelRun0_B
  dsimp only
  (sl_unfold_words)
  simp only [View.readAt_eq_ld, h1.read_unread, h2.read_unread, h3.read_unread, h4.read_unread, h5.read_unread, h8.read_unread, View.ld_unit_zero (S := S1x128) zero2,
    View.readCov_unit_zero (S := S1x128) _ zero2, ld_part _ 0 ![0, 0] rfl, ld_part _ 1 ![0, 128] rfl, ld_part _ 2 ![0, 256] rfl, ld_part _ 3 ![0, 384] rfl]
  canon_tiles x h
  · exact piece_eq (dxAt x0 x1 x2 x3 x4) 3 y x (by omega) (by omega)
  · exact piece_eq (dxAt x0 x1 x2 x3 x4) 2 y x (by omega) (by omega)
  · exact piece_eq (dxAt x0 x1 x2 x3 x4) 1 y x (by omega) (by omega)
  · exact piece_eq (dxAt x0 x1 x2 x3 x4) 0 y x (by omega) (by omega)

theorem out_B_6 (c : Dev nD) (i : grid0.Coords) (arg1 : Memref sig .tc .vmem S512x512 .f32) (h1 : arg1.IsWhole) (arg2 : Memref sig .tc .vmem S512x512 .f32) (h2 : arg2.IsWhole) (arg3 : Memref sig .tc .vmem S512x512 .f32) (h3 : arg3.IsWhole) (arg4 : Memref sig .tc .vmem S512x512 .f32) (h4 : arg4.IsWhole) (arg5 : Memref sig .tc .vmem S1x128 .f32) (h5 : arg5.IsWhole) (arg6 : Memref sig .tc .vmem S512x512 .f32) (h6 : arg6.IsWhole) (arg7 : Memref sig .tc .vmem S512x512 .bf16) (h7 : arg7.IsWhole) (arg8 : Memref sig .tc .vmem S1x128 .f32) (h8 : arg8.IsWhole) (hc : ¬cond0_0 i) (x0 x1 x2 x3 : Blk) (x4 : Wt) (s : Wt) :
    out0_B_6 c i arg1 h1 arg2 h2 arg3 h3 arg4 h4 arg5 h5 arg6 h6 arg7 h7 arg8 h8 hc x0 x1 x2 x3 x4 s = joined fun j => dzAt x0 x1 x2 x3 x4 j := by
  funext y
  unfold out0_B_6
  rw [View.read_writes_eq_canon _ _ _ (cover0_B_6 c i arg1 h1 arg2 h2 arg3 h3 arg4 h4 arg5 h5 arg6 h6 arg7 h7 arg8 h8 hc x0 x1 x2 x3 x4 s)]
  unfold kernelRun0_B
  dsimp only
  (sl_unfold_words)
  simp only [View.readAt_eq_ld, h1.read_unread, h2.read_unread, h3.read_unread, h4.read_unread, h5.read_unread, h8.read_unread, View.ld_unit_zero (S := S1x128) zero2,
    View.readCov_unit_zero (S := S1x128) _ zero2, ld_part _ 0 ![0, 0] rfl, ld_part _ 1 ![0, 128] rfl, ld_part _ 2 ![0, 256] rfl, ld_part _ 3 ![0, 384] rfl]
  canon_tiles x h
  · exact piece_eq (dzAt x0 x1 x2 x3 x4) 3 y x (by omega) (by omega)
  · exact piece_eq (dzAt x0 x1 x2 x3 x4) 2 y x (by omega) (by omega)
  · exact piece_eq (dzAt x0 x1 x2 x3 x4) 1 y x (by omega) (by omega)
  · exact piece_eq (dzAt x0 x1 x2 x3 x4) 0 y x (by omega) (by omega)

theorem out_B_7 (c : Dev nD) (i : grid0.Coords) (arg1 : Memref sig .tc .vmem S512x512 .f32) (h1 : arg1.IsWhole) (arg2 : Memref sig .tc .vmem S512x512 .f32) (h2 : arg2.IsWhole) (arg3 : Memref sig .tc .vmem S512x512 .f32) (h3 : arg3.IsWhole) (arg4 : Memref sig .tc .vmem S512x512 .f32) (h4 : arg4.IsWhole) (arg5 : Memref sig .tc .vmem S1x128 .f32) (h5 : arg5.IsWhole) (arg6 : Memref sig .tc .vmem S512x512 .f32) (h6 : arg6.IsWhole) (arg7 : Memref sig .tc .vmem S512x512 .bf16) (h7 : arg7.IsWhole) (arg8 : Memref sig .tc .vmem S1x128 .f32) (h8 : arg8.IsWhole) (hc : ¬cond0_0 i) (x0 x1 x2 x3 : Blk) (x4 : Wt) (s : Wt) :
    out0_B_7 c i arg1 h1 arg2 h2 arg3 h3 arg4 h4 arg5 h5 arg6 h6 arg7 h7 arg8 h8 hc x0 x1 x2 x3 x4 s = dwP x0 x1 x2 x3 s := by
  unfold out0_B_7
  rw [View.read_writes_eq_canon _ _ _ (cover0_B_7 c i arg1 h1 arg2 h2 arg3 h3 arg4 h4 arg5 h5 arg6 h6 arg7 h7 arg8 h8 hc x0 x1 x2 x3 x4 s)]
  unfold kernelRun0_B
  dsimp only
  (sl_unfold_words)
  rw [View.canon_unit_zero zero2]
  simp only [View.readAt_eq_ld, h1.read_unread, h2.read_unread, h3.read_unread, h4.read_unread, h5.read_unread, h8.read_unread, View.ld_unit_zero (S := S1x128) zero2,
    View.readCov_unit_zero (S := S1x128) _ zero2, ld_part _ 0 ![0, 0] rfl, ld_part _ 1 ![0, 128] rfl, ld_part _ 2 ![0, 256] rfl, ld_part _ 3 ![0, 384] rfl]
  rw [sum1, sum2, sum3]
  rfl

end Cert.Proof.GatePoint

end
-- ==== Proof.GateRef.lean ====
/-
  The reference of the gate's gradient, stage by stage: at real arguments each stage holds the real values of the
  specification.
-/
module

public import proofs.«01_k».proof.Proof.Gen.Reference8Ideal.Run
public import proofs.«01_k».proof.Proof.GateSpec
public import Idealize.ShloMosaic.Lib.Pointwise
public import Idealize.ShloMosaic.Lib.Pipeline.ValueKit

@[expose] public section

set_option maxRecDepth 16384

noncomputable section

namespace Cert.Proof.GateRef

open Idealize.ShloMosaic Idealize.ShloMosaic.Tactic Cert.Reference8Ideal Cert.Reference8Ideal.Gen
open Cert.Proof.GateSpec (Args hd lane colOf hd_colOf lane_colOf)
open scoped BigOperators

abbrev Rows := FVec Ideal S8192x512 .f32
abbrev Heads := FVec Ideal S8192x4x128 .f32
abbrev One := FVec Ideal S8192x4x1 .f32
abbrev Wt := FVec Ideal S1x128 .f32

/-- Arrays that hold the arguments. -/
structure Holds (A : Args) (a0 a1 a2 a3 : Rows) (a4 : Wt) : Prop where
  dy : ∀ t C, a0 (ix2 t C) = (A.dy t (hd C) (lane C) : EReal)
  xf : ∀ t C, a1 (ix2 t C) = (A.xf t (hd C) (lane C) : EReal)
  xb : ∀ t C, a2 (ix2 t C) = (A.xb t (hd C) (lane C) : EReal)
  z : ∀ t C, a3 (ix2 t C) = (A.z t (hd C) (lane C) : EReal)
  w : ∀ d, a4 (ix2 0 d) = (A.w d : EReal)

/-- A sum over the first two axes, read at a place of the third. -/
theorem sum_two {n0 n1 n2 : ℕ} (h : (⟨3, ![n0, n1, n2]⟩ : Shape).ReducesTo [0, 1] ⟨1, ![n2]⟩) (v : (⟨3, ![n0, n1, n2]⟩ : Shape).Idx → EReal)
    (init : EReal) (d : Fin n2) : Ideal.hostReduceAdd h v init (ix1 d) = init + ∑ a : Fin n0, ∑ b : Fin n1, v (ix3 a b d) := by
  have at2 : ∀ i, (h.drop i 0 : ℕ) = i 2 := fun i => Shape.ReducesTo.drop_apply_val h i 0
  unfold Ideal.hostReduceAdd
  refine congrArg (init + ·) ?_
  rw [← Fintype.sum_prod_type' (f := fun (a : Fin n0) (b : Fin n1) => v (ix3 a b d))]
  refine Finset.sum_nbij' (fun i => ((i 0, i 1) : Fin n0 × Fin n1)) (fun p => ix3 p.1 p.2 d) (fun _ _ => Finset.mem_univ _) ?_ ?_ (fun _ _ => rfl) ?_
  · intro p _
    refine Finset.mem_filter.2 ⟨Finset.mem_univ _, funext fun a => ?_⟩
    obtain rfl : a = 0 := Subsingleton.elim (α := Fin 1) _ _
    exact Fin.ext (at2 _)
  · intro i hi
    have e := congrArg Fin.val (congrFun (Finset.mem_filter.1 hi).2 0)
    have e2 : i 2 = d := Fin.ext ((at2 i).symm.trans e)
    rw [← e2]
    exact (eq_ix3 i).symm
  · intro i hi
    have e := congrArg Fin.val (congrFun (Finset.mem_filter.1 hi).2 0)
    have e2 : i 2 = d := Fin.ext ((at2 i).symm.trans e)
    rw [← e2]
    exact congrArg v (eq_ix3 i)

/-! ## The stages -/

def split (a : Rows) : Heads := shapeCast _ a shapeCasts_S8192x512_S8192x4x128
def flat (v : Heads) : Rows := shapeCast _ v shapeCasts_S8192x4x128_S8192x512

def msV (v : Heads) : One :=
  addf (Host.divf (broadcastInDim S8192x4x1 ![0, 1] bcast_S8192x4_S8192x4x1_0_1 (Host.reduceAdd (mulf v v) (constant S_ .f32 0x00000000#32) reducesTo_S8192x4x128_S8192x4_d2 h_S_)) (broadcastInDim S8192x4x1 ![] bcast_S_S8192x4x1 (constant S_ .f32 0x43000000#32))) (broadcastInDim S8192x4x1 ![] bcast_S_S8192x4x1 (constant S_ .f32 0x358637BD#32))

def rowsOf (r : One) : Heads := broadcastInDim S8192x4x128 ![0, 1, 2] bcast_S8192x4x1_S8192x4x128_0_1_2 r

def xhatV (v : Heads) : Heads := mulf v (rowsOf (Host.rsqrt (msV v)))

def byW (v : Heads) (a : Wt) : Heads :=
  mulf v (broadcastInDim S8192x4x128 ![0, 1, 2] bcast_S1x1x128_S8192x4x128_0_1_2 (broadcastInDim S1x1x128 ![1, 2] bcast_S1x128_S1x1x128_1_2 a))

def sgV (g : Heads) : Heads :=
  Host.divf (broadcastInDim S8192x4x128 ![] bcast_S_S8192x4x128 (constant S_ .f32 0x3F800000#32)) (addf (broadcastInDim S8192x4x128 ![] bcast_S_S8192x4x128 (constant S_ .f32 0x3F800000#32)) (Host.exp (Host.negf g)))

def slopeV (s : Heads) : Heads := mulf s (subf (broadcastInDim S8192x4x128 ![] bcast_S_S8192x4x128 (constant S_ .f32 0x3F800000#32)) s)

/-- The factor the sum of squares brings to a head's row, the derivative of the reciprocal root. -/
def slopeMs (r : One) : One := mulf (broadcastInDim S8192x4x1 ![] bcast_S_S8192x4x1 (constant S_ .f32 0xBF000000#32)) (Host.divf (Host.rsqrt r) r)

def dmsV (o v : Heads) : One :=
  shapeCast _ (Host.reduceAdd (mulf o v) (constant S_ .f32 0x00000000#32) reducesTo_S8192x4x128_S8192x4_d2 h_S_) shapeCasts_S8192x4_S8192x4x1

def dsqV (o v : Heads) : Heads :=
  broadcastInDim S8192x4x128 ![0, 1] bcast_S8192x4_S8192x4x128_0_1 (Host.reduceAdd (Host.divf (mulf (dmsV o v) (slopeMs (msV o))) (broadcastInDim S8192x4x1 ![] bcast_S_S8192x4x1 (constant S_ .f32 0x43000000#32))) (constant S_ .f32 0x00000000#32) reducesTo_S8192x4x1_S8192x4_d2 h_S_)

def sumV (v : Heads) : Wt :=
  broadcastInDim S1x128 ![1] bcast_S128_S1x128_1 (Host.reduceAdd (shapeCast S1x1x128 (Host.reduceAdd v (constant S_ .f32 0x00000000#32) reducesTo_S8192x4x128_S128_d0_1 h_S_) shapeCasts_S128_S1x1x128) (constant S_ .f32 0x00000000#32) reducesTo_S1x1x128_S128_d0_1 h_S_)

theorem split_ix (a : Rows) (t : Fin 8192) (h : Fin 4) (d : Fin 128) : split a (ix3 t h d) = a (ix2 t (colOf h d)) := by
  pointwise [split]
  rfl

theorem flat_ix (v : Heads) (t : Fin 8192) (C : Fin 512) : flat v (ix2 t C) = v (ix3 t (hd C) (lane C)) := by
  pointwise [flat]
  rfl

theorem msV_ix (v : Heads) (t : Fin 8192) (h : Fin 4) (k : Fin 1) :
    msV v (ix3 t h k) = Ideal.div (∑ d : Fin 128, v (ix3 t h d) * v (ix3 t h d)) (Ideal.ofBits .f32 0x43000000#32) + Ideal.ofBits .f32 0x358637BD#32 := by
  pointwise [msV]

theorem rowsOf_ix (r : One) (t : Fin 8192) (h : Fin 4) (d : Fin 128) : rowsOf r (ix3 t h d) = r (ix3 t h 0) := by
  pointwise [rowsOf]

theorem byW_ix (v : Heads) (a : Wt) (t : Fin 8192) (h : Fin 4) (d : Fin 128) : byW v a (ix3 t h d) = v (ix3 t h d) * a (ix2 0 d) := by
  pointwise [byW]

theorem sgV_ix (g : Heads) (t : Fin 8192) (h : Fin 4) (d : Fin 128) : sgV g (ix3 t h d) = Ideal.div 1 (1 + Ideal.exp (-g (ix3 t h d))) := by
  pointwise [sgV]

theorem slopeV_ix (s : Heads) (t : Fin 8192) (h : Fin 4) (d : Fin 128) : slopeV s (ix3 t h d) = s (ix3 t h d) * (1 - s (ix3 t h d)) := by
  pointwise [slopeV]

theorem slopeMs_ix (r : One) (t : Fin 8192) (h : Fin 4) :
    slopeMs r (ix3 t h 0) = Ideal.ofBits .f32 0xBF000000#32 * Ideal.div (Ideal.rsqrt (r (ix3 t h 0))) (r (ix3 t h 0)) := by
  pointwise [slopeMs]

theorem dmsV_ix (o v : Heads) (t : Fin 8192) (h : Fin 4) : dmsV o v (ix3 t h 0) = ∑ e : Fin 128, o (ix3 t h e) * v (ix3 t h e) := by
  pointwise [dmsV]

theorem dsqV_ix (o v : Heads) (t : Fin 8192) (h : Fin 4) (d : Fin 128) :
    dsqV o v (ix3 t h d) = Ideal.div (dmsV o v (ix3 t h 0) * slopeMs (msV o) (ix3 t h 0)) (Ideal.ofBits .f32 0x43000000#32) := by
  pointwise [dsqV]
  exact Fin.sum_univ_one _

theorem sumV_ix (v : Heads) (k : Fin 1) (d : Fin 128) : sumV v (ix2 k d) = ∑ t : Fin 8192, ∑ h : Fin 4, v (ix3 t h d) := by
  have e : ∀ u : FVec Ideal S1x1x128 .f32, Ideal.hostReduceAdd reducesTo_S1x1x128_S128_d0_1 u 0 (ix1 d) = u (ix3 0 0 d) := fun u => by
    refine (sum_two _ u 0 d).trans ?_
    rw [zero_add, Fin.sum_univ_one, Fin.sum_univ_one]
  have e' : shapeCast S1x1x128 (Host.reduceAdd v (constant S_ .f32 0x00000000#32) reducesTo_S8192x4x128_S128_d0_1 h_S_) shapeCasts_S128_S1x1x128 (ix3 0 0 d)
      = Host.reduceAdd v (constant S_ .f32 0x00000000#32) reducesTo_S8192x4x128_S128_d0_1 h_S_ (ix1 d) := by
    pointwise
  pointwise [sumV]
  rw [e, e']
  refine (sum_two _ v _ d).trans ?_
  rw [show constant (F := Ideal) S_ .f32 0x00000000#32 (Shape.Idx.first h_S_) = 0 from Ideal.ofBits_zero_f32, zero_add]

/-! ## The whole, as the program composes the stages -/

section
variable (a0 a1 a2 a3 : Rows) (a4 : Wt)

def oV : Heads := split (addf a1 a2)
def onV : Heads := byW (xhatV (oV a1 a2)) a4
def dnV : Heads := mulf (split a0) (mulf (split a3) (sgV (split a3)))
def dxhV : Heads := byW (dnV a0 a3) a4
def dxV : Heads :=
  addf (addf (mulf (dxhV a0 a3 a4) (rowsOf (Host.rsqrt (msV (oV a1 a2))))) (mulf (oV a1 a2) (dsqV (oV a1 a2) (dxhV a0 a3 a4)))) (mulf (dsqV (oV a1 a2) (dxhV a0 a3 a4)) (oV a1 a2))
def dsV : Heads := mulf (onV a1 a2 a4) (split a0)
def dzV : Heads := addf (mulf (dsV a0 a1 a2 a4) (sgV (split a3))) (mulf (mulf (split a3) (dsV a0 a1 a2 a4)) (slopeV (sgV (split a3))))
def dwV : Wt := sumV (mulf (xhatV (oV a1 a2)) (dnV a0 a3))

end

/-! ## Their values -/

section
variable {A : Args} {a0 a1 a2 a3 : Rows} {a4 : Wt} (H : Holds A a0 a1 a2 a3 a4)
include H

theorem dy_val (t : Fin 8192) (h : Fin 4) (d : Fin 128) : split a0 (ix3 t h d) = (A.dy t h d : EReal) := by
  rw [split_ix, H.dy, hd_colOf, lane_colOf]

theorem z_val (t : Fin 8192) (h : Fin 4) (d : Fin 128) : split a3 (ix3 t h d) = (A.z t h d : EReal) := by
  rw [split_ix, H.z, hd_colOf, lane_colOf]

theorem o_val (t : Fin 8192) (h : Fin 4) (d : Fin 128) : oV a1 a2 (ix3 t h d) = (GateSpec.x A t h d : EReal) := by
  unfold oV
  rw [split_ix]
  show a1 (ix2 t (colOf h d)) + a2 (ix2 t (colOf h d)) = _
  rw [H.xf, H.xb, hd_colOf, lane_colOf, ← EReal.coe_add]
  rfl

theorem ms_val (t : Fin 8192) (h : Fin 4) (k : Fin 1) : msV (oV a1 a2) (ix3 t h k) = (GateSpec.ms A t h : EReal) := by
  rw [msV_ix]
  simp only [o_val H, ← EReal.coe_mul, FfnSpec.coe_sum]
  rw [GateSpec.lit_128, FfnSpec.lit_eps, GateSpec.div_128, ← EReal.coe_add]
  rfl

theorem rstd_val (t : Fin 8192) (h : Fin 4) (d : Fin 128) : rowsOf (Host.rsqrt (msV (oV a1 a2))) (ix3 t h d) = (GateSpec.rstd A t h : EReal) := by
  rw [rowsOf_ix]
  show Ideal.rsqrt (msV (oV a1 a2) (ix3 t h 0)) = _
  rw [ms_val H, GateSpec.rsqrt_ms]

theorem xhat_val (t : Fin 8192) (h : Fin 4) (d : Fin 128) : xhatV (oV a1 a2) (ix3 t h d) = (GateSpec.xhat A t h d : EReal) := by
  show oV a1 a2 (ix3 t h d) * rowsOf (Host.rsqrt (msV (oV a1 a2))) (ix3 t h d) = _
  rw [rstd_val H, o_val H, ← EReal.coe_mul]
  rfl

theorem sg_val (t : Fin 8192) (h : Fin 4) (d : Fin 128) : sgV (split a3) (ix3 t h d) = (GateSpec.sg A t h d : EReal) := by
  rw [sgV_ix, z_val H, FfnSpec.sig_real]
  rfl

theorem dn_val (t : Fin 8192) (h : Fin 4) (d : Fin 128) : dnV a0 a3 (ix3 t h d) = (GateSpec.dn A t h d : EReal) := by
  show split a0 (ix3 t h d) * (split a3 (ix3 t h d) * sgV (split a3) (ix3 t h d)) = _
  rw [sg_val H, z_val H, dy_val H]
  simp only [← EReal.coe_mul]
  rfl

theorem dxh_val (t : Fin 8192) (h : Fin 4) (d : Fin 128) : dxhV a0 a3 a4 (ix3 t h d) = (GateSpec.dxh A t h d : EReal) := by
  unfold dxhV
  rw [byW_ix, dn_val H, H.w, ← EReal.coe_mul]
  rfl

theorem dsq_val (t : Fin 8192) (h : Fin 4) (d : Fin 128) : dsqV (oV a1 a2) (dxhV a0 a3 a4) (ix3 t h d)
    = (((∑ e, GateSpec.x A t h e * GateSpec.dxh A t h e) * (-1 / 2 * (GateSpec.rstd A t h * (1 / GateSpec.ms A t h))) * (1 / 128) : ℝ) : EReal) := by
  rw [dsqV_ix, dmsV_ix, slopeMs_ix, ms_val H, GateSpec.rsqrt_ms, FfnSpec.div_real _ _ (GateSpec.ms_pos A t h).ne', GateSpec.lit_128, FfnSpec.lit_neg_half]
  simp only [o_val H, dxh_val H, ← EReal.coe_mul, FfnSpec.coe_sum]
  rw [GateSpec.div_128]

theorem dx_val (t : Fin 8192) (h : Fin 4) (d : Fin 128) : dxV a0 a1 a2 a3 a4 (ix3 t h d) = (GateSpec.dx A t h d : EReal) := by
  show dxhV a0 a3 a4 (ix3 t h d) * rowsOf (Host.rsqrt (msV (oV a1 a2))) (ix3 t h d)
    + oV a1 a2 (ix3 t h d) * dsqV (oV a1 a2) (dxhV a0 a3 a4) (ix3 t h d) + dsqV (oV a1 a2) (dxhV a0 a3 a4) (ix3 t h d) * oV a1 a2 (ix3 t h d) = _
  rw [dsq_val H, rstd_val H, dxh_val H, o_val H]
  simp only [← EReal.coe_mul, ← EReal.coe_add]
  rw [GateSpec.dx_eq]

theorem dz_val (t : Fin 8192) (h : Fin 4) (d : Fin 128) : dzV a0 a1 a2 a3 a4 (ix3 t h d) = (GateSpec.dz A t h d : EReal) := by
  have e : dsV a0 a1 a2 a4 (ix3 t h d) = ((GateSpec.xhat A t h d * A.w d * A.dy t h d : ℝ) : EReal) := by
    show onV a1 a2 a4 (ix3 t h d) * split a0 (ix3 t h d) = _
    unfold onV
    rw [byW_ix, xhat_val H, dy_val H, H.w]
    simp only [← EReal.coe_mul]
  have e' : slopeV (sgV (split a3)) (ix3 t h d) = ((GateSpec.sg A t h d * (1 - GateSpec.sg A t h d) : ℝ) : EReal) := by
    rw [slopeV_ix, sg_val H, ← EReal.coe_one, ← EReal.coe_sub, ← EReal.coe_mul]
  show dsV a0 a1 a2 a4 (ix3 t h d) * sgV (split a3) (ix3 t h d)
    + split a3 (ix3 t h d) * dsV a0 a1 a2 a4 (ix3 t h d) * slopeV (sgV (split a3)) (ix3 t h d) = _
  rw [e, e', sg_val H, z_val H]
  simp only [← EReal.coe_mul, ← EReal.coe_add]
  rw [GateSpec.dz_eq]

theorem dw_val (k : Fin 1) (d : Fin 128) : dwV a0 a1 a2 a3 (ix2 k d) = (GateSpec.dw A d : EReal) := by
  unfold dwV GateSpec.dw
  rw [sumV_ix]
  show ∑ t, ∑ h, xhatV (oV a1 a2) (ix3 t h d) * dnV a0 a3 (ix3 t h d) = _
  simp only [xhat_val H, dn_val H, ← EReal.coe_mul, FfnSpec.coe_sum]
  exact congrArg _ (Finset.sum_congr rfl fun t _ => Finset.sum_congr rfl fun h _ => mul_comm _ _)

end

/-! ## The arrays the program ends with -/

/-- The heads of a token side by side, and a row of the weight's length. -/
def rows (φ : Fin 8192 → Fin 4 → Fin 128 → ℝ) (y : S8192x512.Idx) : EReal := (φ (y 0) (hd (y 1)) (lane (y 1)) : EReal)
def one (φ : Fin 128 → ℝ) (y : S1x128.Idx) : EReal := (φ (y 1) : EReal)

theorem rows_eq (v : Heads) (φ : Fin 8192 → Fin 4 → Fin 128 → ℝ) (e : ∀ t h d, v (ix3 t h d) = (φ t h d : EReal)) : flat v = rows φ := by
  funext y
  rw [eq_ix2 y]
  exact (flat_ix v _ _).trans (e _ _ _)

theorem one_eq (v : S1x128.Idx → EReal) (φ : Fin 128 → ℝ) (e : ∀ k d, v (ix2 k d) = (φ d : EReal)) : v = one φ := by
  funext y
  rw [eq_ix2 y]
  exact e _ _

section
open Cert.Reference8Ideal.Value Idealize.ShloMosaic.TcCoe Idealize.SL.Sem
variable (m : (ℓ : Loc nD τ sig) → Buf (Elt Ideal) ℓ) (c : Dev nD)

/-- The arguments a run starts with. -/
abbrev arg0 : Rows := m ((c.tc : Thread nD τ).loc main_arg0)
abbrev arg1 : Rows := m ((c.tc : Thread nD τ).loc main_arg1)
abbrev arg2 : Rows := m ((c.tc : Thread nD τ).loc main_arg2)
abbrev arg3 : Rows := m ((c.tc : Thread nD τ).loc main_arg3)
abbrev arg4 : Wt := m ((c.tc : Thread nD τ).loc main_arg4)

theorem res46 : res_main_v46 m c = flat (dxV (arg0 m c) (arg1 m c) (arg2 m c) (arg3 m c) (arg4 m c)) := rfl

theorem run_values (ρ : Dev nD → PrngReg) (A : Dev nD → Args) (H : ∀ c, Holds (A c) (arg0 m c) (arg1 m c) (arg2 m c) (arg3 m c) (arg4 m c)) :
    θ_run defs (onTc (τ := τ) (main (F := Ideal))) ⟨m, fun _ => 0, ρ⟩ fun r => ∀ c : Dev nD,
      r.2.mem ((c.tc : Thread nD τ).loc main_v46) = rows (GateSpec.dx (A c))
      ∧ r.2.mem ((c.tc : Thread nD τ).loc main_v49) = rows (GateSpec.dz (A c))
      ∧ r.2.mem ((c.tc : Thread nD τ).loc main_v31) = one (GateSpec.dw (A c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Cert.Reference8Ideal.Value.run (F := Ideal) m ρ)
  obtain ⟨e46, e49, e31, keep⟩ := h c
  refine ⟨?_, ?_, ?_, keep⟩
  · exact e46.trans ((res46 m c).trans (rows_eq _ _ (dx_val (H c))))
  · exact e49.trans (rows_eq (dzV (arg0 m c) (arg1 m c) (arg2 m c) (arg3 m c) (arg4 m c)) _ (dz_val (H c)))
  · exact e31.trans (one_eq (dwV (arg0 m c) (arg1 m c) (arg2 m c) (arg3 m c)) _ (dw_val (H c)))

end

end Cert.Proof.GateRef

end
-- ==== Proof.FfnPoint.lean ====
/-
  What the two kinds of grid point leave in the outputs' blocks, as the payloads of the arrays' blocks.
-/
module

public import proofs.«01_k».proof.Proof.Gen.Kernel2Ideal.Value
public import Idealize.ShloMosaic.Lib.Pipeline.ValueKit

@[expose] public section

set_option maxRecDepth 16384

noncomputable section

namespace Cert.Proof.FfnPoint

open Idealize.ShloMosaic Idealize.ShloMosaic.TcCoe Idealize.ShloMosaic.Tactic Cert.Kernel2Ideal Cert.Kernel2Ideal.Gen
open Idealize.SL.Sem

theorem zero2 : (![0, 0] : Fin 2 → ℕ) = fun _ => 0 := by
  funext k
  match k with
  | ⟨0, _⟩ => rfl
  | ⟨1, _⟩ => rfl

abbrev Blk1 := Vec Ideal S256x1024 .f32
abbrev Wide4 := Vec Ideal S4x256x704 .bf16
abbrev Wts4 := Vec Ideal S4x704x1024 .bf16
abbrev Wide1 := Vec Ideal S1x256x704 .bf16
abbrev Wts1 := Vec Ideal S1x704x1024 .bf16

/-! ## The four parts -/

/-- Part `j` of a wide block and of a weight, as the body loads it. -/
def part (x : Wide4) (j : Fin 4) : Wide1 := fun y => x (ix3 j (y 1) (y 2))
def wpart (x : Wts4) (j : Fin 4) : Wts1 := fun y => x (ix3 j (y 1) (y 2))

/-- Four parts side by side. -/
def joined (P : Fin 4 → Wide1) : Wide4 := fun y => P (y 0) (ix3 0 (y 1) (y 2))

theorem ld_part (x : Wide4) (j : Fin 4) (off : Fin 3 → ℕ) (e : off = ![j.val, 0, 0]) (inb : ∀ a, off a + (![1, 256, 704] : Fin 3 → ℕ) a ≤ S4x256x704.size a) :
    (View.ld x (Rect.unit off ![1, 256, 704] inb) : Wide1) = part x j := by
  subst e
  funext y
  refine View.ld_unit_apply_of x _ _ _ y (ix3 j (y 1) (y 2)) fun a => ?_
  match a with
  | ⟨0, _⟩ =>
    have := (y 0).isLt
    show j.val = j.val + (y 0).val
    have h : (y 0).val < 1 := this
    omega
  | ⟨1, _⟩ => exact (Nat.zero_add _).symm
  | ⟨2, _⟩ => exact (Nat.zero_add _).symm

theorem ld_wpart (x : Wts4) (j : Fin 4) (off : Fin 3 → ℕ) (e : off = ![j.val, 0, 0]) (inb : ∀ a, off a + (![1, 704, 1024] : Fin 3 → ℕ) a ≤ S4x704x1024.size a) :
    (View.ld x (Rect.unit off ![1, 704, 1024] inb) : Wts1) = wpart x j := by
  subst e
  funext y
  refine View.ld_unit_apply_of x _ _ _ y (ix3 j (y 1) (y 2)) fun a => ?_
  match a with
  | ⟨0, _⟩ =>
    have := (y 0).isLt
    show j.val = j.val + (y 0).val
    have h : (y 0).val < 1 := this
    omega
  | ⟨1, _⟩ => exact (Nat.zero_add _).symm
  | ⟨2, _⟩ => exact (Nat.zero_add _).symm

theorem piece_eq (P : Fin 4 → Wide1) (k : Fin 4) (y : S4x256x704.Idx) (x : S1x256x704.Idx) (h0 : (y 0).val = k.val) (h1 : (y 1).val = (x 1).val)
    (h2 : (y 2).val = (x 2).val) : P k x = joined P y := by
  have e0 : y 0 = k := Fin.ext h0
  have e1 : x = ix3 0 (y 1) (y 2) := by
    funext a
    match a with
    | ⟨0, _⟩ => exact Subsingleton.elim (α := Fin 1) _ _
    | ⟨1, _⟩ => exact Fin.ext h1.symm
    | ⟨2, _⟩ => exact Fin.ext h2.symm
  unfold joined
  rw [e0, e1]
  rfl

/-! ## The payloads of a part -/

def dgP (x0 : Blk1) (w : Wts1) (g u : Wide1) : Wide1 := k0_pay18 (F := Ideal) (k0_pay13 (F := Ideal) x0 w g u)
def duP (x0 : Blk1) (w : Wts1) (g : Wide1) : Wide1 := k0_pay19 (F := Ideal) (k0_pay8 (F := Ideal) x0 w) (k0_pay12 (F := Ideal) g)
def hP (g u : Wide1) : Wide1 := k0_pay17 (F := Ideal) (k0_pay10 (F := Ideal) u) (k0_pay12 (F := Ideal) g)

/-- The gradient at the normalized row, part by part. -/
def stepP (acc x0 : Blk1) (w : Wts1) (g u : Wide1) (wg wu : Wts1) : Blk1 :=
  k0_pay20 (F := Ideal) acc (k0_pay8 (F := Ideal) x0 w) (k0_pay12 (F := Ideal) g) (k0_pay13 (F := Ideal) x0 w g u) wg wu

def stepAt (x0 : Blk1) (x3 x4 : Wide4) (x5 x6 x7 : Wts4) (j : Fin 4) (acc : Blk1) : Blk1 :=
  stepP acc x0 (wpart x7 j) (part x3 j) (part x4 j) (wpart x5 j) (wpart x6 j)

def accP (x0 : Blk1) (x3 x4 : Wide4) (x5 x6 x7 : Wts4) : Blk1 :=
  stepAt x0 x3 x4 x5 x6 x7 3 (stepAt x0 x3 x4 x5 x6 x7 2 (stepAt x0 x3 x4 x5 x6 x7 1 (stepAt x0 x3 x4 x5 x6 x7 0 (k0_pay7 (F := Ideal)))))

def dxP (x0 x1 : Blk1) (x2 : Vec Ideal S1x1024 .f32) (acc : Blk1) : Blk1 :=
  k0_pay3 (F := Ideal) x0 acc x1 (k0_pay58 (F := Ideal) x1) (k0_pay59 (F := Ideal)) x2
def dnwP (x1 acc : Blk1) (s : Vec Ideal S1x1024 .f32) : Vec Ideal S1x1024 .f32 :=
  k0_pay4 (F := Ideal) acc x1 (k0_pay58 (F := Ideal) x1) (k0_pay59 (F := Ideal)) s

theorem step1 (acc x0 : Blk1) (w : Wts1) (g u : Wide1) (wg wu : Wts1) :
    k0_pay33 acc (k0_pay26 (k0_pay16 (k0_pay6 x0) w) (k0_pay21 g) (k0_pay22 u)) (k0_pay27 (k0_pay16 (k0_pay6 x0) w) (k0_pay21 g)) (k0_pay32 wg) wu
    = stepP acc x0 w g u wg wu := rfl

theorem step2 (acc x0 : Blk1) (w : Wts1) (g u : Wide1) (wg wu : Wts1) :
    k0_pay45 acc (k0_pay38 (k0_pay28 (k0_pay6 x0) w) g u) (k0_pay39 (k0_pay28 (k0_pay6 x0) w) g) wg wu = stepP acc x0 w g u wg wu := rfl

theorem step3 (acc x0 : Blk1) (w : Wts1) (g u : Wide1) (wg wu : Wts1) :
    k0_pay57 (k0_pay40 (k0_pay6 x0) w) acc (k0_pay46 g) (k0_pay48 g) (k0_pay49 g) (k0_pay50 (k0_pay40 (k0_pay6 x0) w) u) (k0_pay51 g) wg wu
    = stepP acc x0 w g u wg wu := rfl

theorem step0 (acc x0 : Blk1) (w : Wts1) (g u : Wide1) (wg wu : Wts1) :
    k0_pay20 acc (k0_pay8 x0 w) (k0_pay12 g) (k0_pay13 x0 w g u) wg wu = stepP acc x0 w g u wg wu := rfl

/-! ## What a point of kind A leaves -/

theorem out_A_8 (c : Dev nD) (i : grid0.Coords) (arg1 : Memref sig .tc .vmem S256x1024 .f32) (h1 : arg1.IsWhole) (arg2 : Memref sig .tc .vmem S256x1024 .f32) (h2 : arg2.IsWhole) (arg3 : Memref sig .tc .vmem S1x1024 .f32) (h3 : arg3.IsWhole) (arg4 : Memref sig .tc .vmem S4x256x704 .bf16) (h4 : arg4.IsWhole) (arg5 : Memref sig .tc .vmem S4x256x704 .bf16) (h5 : arg5.IsWhole) (arg6 : Memref sig .tc .vmem S4x704x1024 .bf16) (h6 : arg6.IsWhole) (arg7 : Memref sig .tc .vmem S4x704x1024 .bf16) (h7 : arg7.IsWhole) (arg8 : Memref sig .tc .vmem S4x704x1024 .bf16) (h8 : arg8.IsWhole) (arg9 : Memref sig .tc .vmem S256x1024 .f32) (h9 : arg9.IsWhole) (arg10 : Memref sig .tc .vmem S256x1024 .bf16) (h10 : arg10.IsWhole) (arg11 : Memref sig .tc .vmem S4x256x704 .bf16) (h11 : arg11.IsWhole) (arg12 : Memref sig .tc .vmem S4x256x704 .bf16) (h12 : arg12.IsWhole) (arg13 : Memref sig .tc .vmem S4x256x704 .bf16) (h13 : arg13.IsWhole) (arg14 : Memref sig .tc .vmem S1x1024 .f32) (h14 : arg14.IsWhole) (hc : cond0_0 i) (x0 x1 : Vec Ideal S256x1024 .f32) (x2 : Vec Ideal S1x1024 .f32) (x3 x4 : Vec Ideal S4x256x704 .bf16) (x5 x6 x7 : Vec Ideal S4x704x1024 .bf16) :
    out0_A_8 c i arg1 h1 arg2 h2 arg3 h3 arg4 h4 arg5 h5 arg6 h6 arg7 h7 arg8 h8 arg9 h9 arg10 h10 arg11 h11 arg12 h12 arg13 h13 arg14 h14 hc x0 x1 x2 x3 x4 x5 x6 x7 = dxP x0 x1 x2 (accP x0 x3 x4 x5 x6 x7) := by
  unfold out0_A_8
  rw [View.read_writes_eq_canon _ _ _ (cover0_A_8 c i arg1 h1 arg2 h2 arg3 h3 arg4 h4 arg5 h5 arg6 h6 arg7 h7 arg8 h8 arg9 h9 arg10 h10 arg11 h11 arg12 h12 arg13 h13 arg14 h14 hc x0 x1 x2 x3 x4 x5 x6 x7)]
  unfold kernelRun0_A
  dsimp only
  (sl_unfold_words)
  rw [View.canon_unit_zero zero2]
  simp only [View.readAt_eq_ld, h1.read_unread, h2.read_unread, h3.read_unread, h4.read_unread, h5.read_unread, h6.read_unread, h7.read_unread, h8.read_unread, h14.read_unread, View.ld_unit_zero (S := S256x1024) zero2, View.ld_unit_zero (S := S1x1024) zero2,
    View.readCov_unit_zero (S := S1x1024) _ zero2, ld_part _ 0 ![0, 0, 0] rfl, ld_part _ 1 ![1, 0, 0] rfl, ld_part _ 2 ![2, 0, 0] rfl, ld_part _ 3 ![3, 0, 0] rfl, ld_wpart _ 0 ![0, 0, 0] rfl, ld_wpart _ 1 ![1, 0, 0] rfl, ld_wpart _ 2 ![2, 0, 0] rfl, ld_wpart _ 3 ![3, 0, 0] rfl]
  rw [step0, step1, step2, step3]
  rfl

theorem out_A_9 (c : Dev nD) (i : grid0.Coords) (arg1 : Memref sig .tc .vmem S256x1024 .f32) (h1 : arg1.IsWhole) (arg2 : Memref sig .tc .vmem S256x1024 .f32) (h2 : arg2.IsWhole) (arg3 : Memref sig .tc .vmem S1x1024 .f32) (h3 : arg3.IsWhole) (arg4 : Memref sig .tc .vmem S4x256x704 .bf16) (h4 : arg4.IsWhole) (arg5 : Memref sig .tc .vmem S4x256x704 .bf16) (h5 : arg5.IsWhole) (arg6 : Memref sig .tc .vmem S4x704x1024 .bf16) (h6 : arg6.IsWhole) (arg7 : Memref sig .tc .vmem S4x704x1024 .bf16) (h7 : arg7.IsWhole) (arg8 : Memref sig .tc .vmem S4x704x1024 .bf16) (h8 : arg8.IsWhole) (arg9 : Memref sig .tc .vmem S256x1024 .f32) (h9 : arg9.IsWhole) (arg10 : Memref sig .tc .vmem S256x1024 .bf16) (h10 : arg10.IsWhole) (arg11 : Memref sig .tc .vmem S4x256x704 .bf16) (h11 : arg11.IsWhole) (arg12 : Memref sig .tc .vmem S4x256x704 .bf16) (h12 : arg12.IsWhole) (arg13 : Memref sig .tc .vmem S4x256x704 .bf16) (h13 : arg13.IsWhole) (arg14 : Memref sig .tc .vmem S1x1024 .f32) (h14 : arg14.IsWhole) (hc : cond0_0 i) (x0 x1 : Vec Ideal S256x1024 .f32) (x2 : Vec Ideal S1x1024 .f32) (x3 x4 : Vec Ideal S4x256x704 .bf16) (x5 x6 x7 : Vec Ideal S4x704x1024 .bf16) :
    out0_A_9 c i arg1 h1 arg2 h2 arg3 h3 arg4 h4 arg5 h5 arg6 h6 arg7 h7 arg8 h8 arg9 h9 arg10 h10 arg11 h11 arg12 h12 arg13 h13 arg14 h14 hc x0 x1 x2 x3 x4 x5 x6 x7 = k0_pay6 x0 := by
  unfold out0_A_9
  rw [View.read_writes_eq_canon _ _ _ (cover0_A_9 c i arg1 h1 arg2 h2 arg3 h3 arg4 h4 arg5 h5 arg6 h6 arg7 h7 arg8 h8 arg9 h9 arg10 h10 arg11 h11 arg12 h12 arg13 h13 arg14 h14 hc x0 x1 x2 x3 x4 x5 x6 x7)]
  unfold kernelRun0_A
  dsimp only
  (sl_unfold_words)
  rw [View.canon_unit_zero zero2]
  simp only [View.readAt_eq_ld, h1.read_unread, h2.read_unread, h3.read_unread, h4.read_unread, h5.read_unread, h6.read_unread, h7.read_unread, h8.read_unread, h14.read_unread, View.ld_unit_zero (S := S256x1024) zero2, View.ld_unit_zero (S := S1x1024) zero2,
    View.readCov_unit_zero (S := S1x1024) _ zero2, ld_part _ 0 ![0, 0, 0] rfl, ld_part _ 1 ![1, 0, 0] rfl, ld_part _ 2 ![2, 0, 0] rfl, ld_part _ 3 ![3, 0, 0] rfl, ld_wpart _ 0 ![0, 0, 0] rfl, ld_wpart _ 1 ![1, 0, 0] rfl, ld_wpart _ 2 ![2, 0, 0] rfl, ld_wpart _ 3 ![3, 0, 0] rfl]

theorem out_A_10 (c : Dev nD) (i : grid0.Coords) (arg1 : Memref sig .tc .vmem S256x1024 .f32) (h1 : arg1.IsWhole) (arg2 : Memref sig .tc .vmem S256x1024 .f32) (h2 : arg2.IsWhole) (arg3 : Memref sig .tc .vmem S1x1024 .f32) (h3 : arg3.IsWhole) (arg4 : Memref sig .tc .vmem S4x256x704 .bf16) (h4 : arg4.IsWhole) (arg5 : Memref sig .tc .vmem S4x256x704 .bf16) (h5 : arg5.IsWhole) (arg6 : Memref sig .tc .vmem S4x704x1024 .bf16) (h6 : arg6.IsWhole) (arg7 : Memref sig .tc .vmem S4x704x1024 .bf16) (h7 : arg7.IsWhole) (arg8 : Memref sig .tc .vmem S4x704x1024 .bf16) (h8 : arg8.IsWhole) (arg9 : Memref sig .tc .vmem S256x1024 .f32) (h9 : arg9.IsWhole) (arg10 : Memref sig .tc .vmem S256x1024 .bf16) (h10 : arg10.IsWhole) (arg11 : Memref sig .tc .vmem S4x256x704 .bf16) (h11 : arg11.IsWhole) (arg12 : Memref sig .tc .vmem S4x256x704 .bf16) (h12 : arg12.IsWhole) (arg13 : Memref sig .tc .vmem S4x256x704 .bf16) (h13 : arg13.IsWhole) (arg14 : Memref sig .tc .vmem S1x1024 .f32) (h14 : arg14.IsWhole) (hc : cond0_0 i) (x0 x1 : Vec Ideal S256x1024 .f32) (x2 : Vec Ideal S1x1024 .f32) (x3 x4 : Vec Ideal S4x256x704 .bf16) (x5 x6 x7 : Vec Ideal S4x704x1024 .bf16) :
    out0_A_10 c i arg1 h1 arg2 h2 arg3 h3 arg4 h4 arg5 h5 arg6 h6 arg7 h7 arg8 h8 arg9 h9 arg10 h10 arg11 h11 arg12 h12 arg13 h13 arg14 h14 hc x0 x1 x2 x3 x4 x5 x6 x7 = joined fun j => dgP x0 (wpart x7 j) (part x3 j) (part x4 j) := by
  funext y
  unfold out0_A_10
  rw [View.read_writes_eq_canon _ _ _ (cover0_A_10 c i arg1 h1 arg2 h2 arg3 h3 arg4 h4 arg5 h5 arg6 h6 arg7 h7 arg8 h8 arg9 h9 arg10 h10 arg11 h11 arg12 h12 arg13 h13 arg14 h14 hc x0 x1 x2 x3 x4 x5 x6 x7)]
  unfold kernelRun0_A
  dsimp only
  (sl_unfold_words)
  simp only [View.readAt_eq_ld, h1.read_unread, h2.read_unread, h3.read_unread, h4.read_unread, h5.read_unread, h6.read_unread, h7.read_unread, h8.read_unread, h14.read_unread, View.ld_unit_zero (S := S256x1024) zero2, View.ld_unit_zero (S := S1x1024) zero2,
    View.readCov_unit_zero (S := S1x1024) _ zero2, ld_part _ 0 ![0, 0, 0] rfl, ld_part _ 1 ![1, 0, 0] rfl, ld_part _ 2 ![2, 0, 0] rfl, ld_part _ 3 ![3, 0, 0] rfl, ld_wpart _ 0 ![0, 0, 0] rfl, ld_wpart _ 1 ![1, 0, 0] rfl, ld_wpart _ 2 ![2, 0, 0] rfl, ld_wpart _ 3 ![3, 0, 0] rfl]
  canon_tiles x h
  · exact piece_eq (fun j => dgP x0 (wpart x7 j) (part x3 j) (part x4 j)) 3 y x (by omega) (by omega) (by omega)
  · exact piece_eq (fun j => dgP x0 (wpart x7 j) (part x3 j) (part x4 j)) 2 y x (by omega) (by omega) (by omega)
  · exact piece_eq (fun j => dgP x0 (wpart x7 j) (part x3 j) (part x4 j)) 1 y x (by omega) (by omega) (by omega)
  · exact piece_eq (fun j => dgP x0 (wpart x7 j) (part x3 j) (part x4 j)) 0 y x (by omega) (by omega) (by omega)

theorem out_A_11 (c : Dev nD) (i : grid0.Coords) (arg1 : Memref sig .tc .vmem S256x1024 .f32) (h1 : arg1.IsWhole) (arg2 : Memref sig .tc .vmem S256x1024 .f32) (h2 : arg2.IsWhole) (arg3 : Memref sig .tc .vmem S1x1024 .f32) (h3 : arg3.IsWhole) (arg4 : Memref sig .tc .vmem S4x256x704 .bf16) (h4 : arg4.IsWhole) (arg5 : Memref sig .tc .vmem S4x256x704 .bf16) (h5 : arg5.IsWhole) (arg6 : Memref sig .tc .vmem S4x704x1024 .bf16) (h6 : arg6.IsWhole) (arg7 : Memref sig .tc .vmem S4x704x1024 .bf16) (h7 : arg7.IsWhole) (arg8 : Memref sig .tc .vmem S4x704x1024 .bf16) (h8 : arg8.IsWhole) (arg9 : Memref sig .tc .vmem S256x1024 .f32) (h9 : arg9.IsWhole) (arg10 : Memref sig .tc .vmem S256x1024 .bf16) (h10 : arg10.IsWhole) (arg11 : Memref sig .tc .vmem S4x256x704 .bf16) (h11 : arg11.IsWhole) (arg12 : Memref sig .tc .vmem S4x256x704 .bf16) (h12 : arg12.IsWhole) (arg13 : Memref sig .tc .vmem S4x256x704 .bf16) (h13 : arg13.IsWhole) (arg14 : Memref sig .tc .vmem S1x1024 .f32) (h14 : arg14.IsWhole) (hc : cond0_0 i) (x0 x1 : Vec Ideal S256x1024 .f32) (x2 : Vec Ideal S1x1024 .f32) (x3 x4 : Vec Ideal S4x256x704 .bf16) (x5 x6 x7 : Vec Ideal S4x704x1024 .bf16) :
    out0_A_11 c i arg1 h1 arg2 h2 arg3 h3 arg4 h4 arg5 h5 arg6 h6 arg7 h7 arg8 h8 arg9 h9 arg10 h10 arg11 h11 arg12 h12 arg13 h13 arg14 h14 hc x0 x1 x2 x3 x4 x5 x6 x7 = joined fun j => duP x0 (wpart x7 j) (part x3 j) := by
  funext y
  unfold out0_A_11
  rw [View.read_writes_eq_canon _ _ _ (cover0_A_11 c i arg1 h1 arg2 h2 arg3 h3 arg4 h4 arg5 h5 arg6 h6 arg7 h7 arg8 h8 arg9 h9 arg10 h10 arg11 h11 arg12 h12 arg13 h13 arg14 h14 hc x0 x1 x2 x3 x4 x5 x6 x7)]
  unfold kernelRun0_A
  dsimp only
  (sl_unfold_words)
  simp only [View.readAt_eq_ld, h1.read_unread, h2.read_unread, h3.read_unread, h4.read_unread, h5.read_unread, h6.read_unread, h7.read_unread, h8.read_unread, h14.read_unread, View.ld_unit_zero (S := S256x1024) zero2, View.ld_unit_zero (S := S1x1024) zero2,
    View.readCov_unit_zero (S := S1x1024) _ zero2, ld_part _ 0 ![0, 0, 0] rfl, ld_part _ 1 ![1, 0, 0] rfl, ld_part _ 2 ![2, 0, 0] rfl, ld_part _ 3 ![3, 0, 0] rfl, ld_wpart _ 0 ![0, 0, 0] rfl, ld_wpart _ 1 ![1, 0, 0] rfl, ld_wpart _ 2 ![2, 0, 0] rfl, ld_wpart _ 3 ![3, 0, 0] rfl]
  canon_tiles x h
  · exact piece_eq (fun j => duP x0 (wpart x7 j) (part x3 j)) 3 y x (by omega) (by omega) (by omega)
  · exact piece_eq (fun j => duP x0 (wpart x7 j) (part x3 j)) 2 y x (by omega) (by omega) (by omega)
  · exact piece_eq (fun j => duP x0 (wpart x7 j) (part x3 j)) 1 y x (by omega) (by omega) (by omega)
  · exact piece_eq (fun j => duP x0 (wpart x7 j) (part x3 j)) 0 y x (by omega) (by omega) (by omega)

theorem out_A_12 (c : Dev nD) (i : grid0.Coords) (arg1 : Memref sig .tc .vmem S256x1024 .f32) (h1 : arg1.IsWhole) (arg2 : Memref sig .tc .vmem S256x1024 .f32) (h2 : arg2.IsWhole) (arg3 : Memref sig .tc .vmem S1x1024 .f32) (h3 : arg3.IsWhole) (arg4 : Memref sig .tc .vmem S4x256x704 .bf16) (h4 : arg4.IsWhole) (arg5 : Memref sig .tc .vmem S4x256x704 .bf16) (h5 : arg5.IsWhole) (arg6 : Memref sig .tc .vmem S4x704x1024 .bf16) (h6 : arg6.IsWhole) (arg7 : Memref sig .tc .vmem S4x704x1024 .bf16) (h7 : arg7.IsWhole) (arg8 : Memref sig .tc .vmem S4x704x1024 .bf16) (h8 : arg8.IsWhole) (arg9 : Memref sig .tc .vmem S256x1024 .f32) (h9 : arg9.IsWhole) (arg10 : Memref sig .tc .vmem S256x1024 .bf16) (h10 : arg10.IsWhole) (arg11 : Memref sig .tc .vmem S4x256x704 .bf16) (h11 : arg11.IsWhole) (arg12 : Memref sig .tc .vmem S4x256x704 .bf16) (h12 : arg12.IsWhole) (arg13 : Memref sig .tc .vmem S4x256x704 .bf16) (h13 : arg13.IsWhole) (arg14 : Memref sig .tc .vmem S1x1024 .f32) (h14 : arg14.IsWhole) (hc : cond0_0 i) (x0 x1 : Vec Ideal S256x1024 .f32) (x2 : Vec Ideal S1x1024 .f32) (x3 x4 : Vec Ideal S4x256x704 .bf16) (x5 x6 x7 : Vec Ideal S4x704x1024 .bf16) :
    out0_A_12 c i arg1 h1 arg2 h2 arg3 h3 arg4 h4 arg5 h5 arg6 h6 arg7 h7 arg8 h8 arg9 h9 arg10 h10 arg11 h11 arg12 h12 arg13 h13 arg14 h14 hc x0 x1 x2 x3 x4 x5 x6 x7 = joined fun j => hP (part x3 j) (part x4 j) := by
  funext y
  unfold out0_A_12
  rw [View.read_writes_eq_canon _ _ _ (cover0_A_12 c i arg1 h1 arg2 h2 arg3 h3 arg4 h4 arg5 h5 arg6 h6 arg7 h7 arg8 h8 arg9 h9 arg10 h10 arg11 h11 arg12 h12 arg13 h13 arg14 h14 hc x0 x1 x2 x3 x4 x5 x6 x7)]
  unfold kernelRun0_A
  dsimp only
  (sl_unfold_words)
  simp only [View.readAt_eq_ld, h1.read_unread, h2.read_unread, h3.read_unread, h4.read_unread, h5.read_unread, h6.read_unread, h7.read_unread, h8.read_unread, h14.read_unread, View.ld_unit_zero (S := S256x1024) zero2, View.ld_unit_zero (S := S1x1024) zero2,
    View.readCov_unit_zero (S := S1x1024) _ zero2, ld_part _ 0 ![0, 0, 0] rfl, ld_part _ 1 ![1, 0, 0] rfl, ld_part _ 2 ![2, 0, 0] rfl, ld_part _ 3 ![3, 0, 0] rfl, ld_wpart _ 0 ![0, 0, 0] rfl, ld_wpart _ 1 ![1, 0, 0] rfl, ld_wpart _ 2 ![2, 0, 0] rfl, ld_wpart _ 3 ![3, 0, 0] rfl]
  canon_tiles x h
  · exact piece_eq (fun j => hP (part x3 j) (part x4 j)) 3 y x (by omega) (by omega) (by omega)
  · exact piece_eq (fun j => hP (part x3 j) (part x4 j)) 2 y x (by omega) (by omega) (by omega)
  · exact piece_eq (fun j => hP (part x3 j) (part x4 j)) 1 y x (by omega) (by omega) (by omega)
  · exact piece_eq (fun j => hP (part x3 j) (part x4 j)) 0 y x (by omega) (by omega) (by omega)

theorem out_A_13 (c : Dev nD) (i : grid0.Coords) (arg1 : Memref sig .tc .vmem S256x1024 .f32) (h1 : arg1.IsWhole) (arg2 : Memref sig .tc .vmem S256x1024 .f32) (h2 : arg2.IsWhole) (arg3 : Memref sig .tc .vmem S1x1024 .f32) (h3 : arg3.IsWhole) (arg4 : Memref sig .tc .vmem S4x256x704 .bf16) (h4 : arg4.IsWhole) (arg5 : Memref sig .tc .vmem S4x256x704 .bf16) (h5 : arg5.IsWhole) (arg6 : Memref sig .tc .vmem S4x704x1024 .bf16) (h6 : arg6.IsWhole) (arg7 : Memref sig .tc .vmem S4x704x1024 .bf16) (h7 : arg7.IsWhole) (arg8 : Memref sig .tc .vmem S4x704x1024 .bf16) (h8 : arg8.IsWhole) (arg9 : Memref sig .tc .vmem S256x1024 .f32) (h9 : arg9.IsWhole) (arg10 : Memref sig .tc .vmem S256x1024 .bf16) (h10 : arg10.IsWhole) (arg11 : Memref sig .tc .vmem S4x256x704 .bf16) (h11 : arg11.IsWhole) (arg12 : Memref sig .tc .vmem S4x256x704 .bf16) (h12 : arg12.IsWhole) (arg13 : Memref sig .tc .vmem S4x256x704 .bf16) (h13 : arg13.IsWhole) (arg14 : Memref sig .tc .vmem S1x1024 .f32) (h14 : arg14.IsWhole) (hc : cond0_0 i) (x0 x1 : Vec Ideal S256x1024 .f32) (x2 : Vec Ideal S1x1024 .f32) (x3 x4 : Vec Ideal S4x256x704 .bf16) (x5 x6 x7 : Vec Ideal S4x704x1024 .bf16) :
    out0_A_13 c i arg1 h1 arg2 h2 arg3 h3 arg4 h4 arg5 h5 arg6 h6 arg7 h7 arg8 h8 arg9 h9 arg10 h10 arg11 h11 arg12 h12 arg13 h13 arg14 h14 hc x0 x1 x2 x3 x4 x5 x6 x7 = dnwP x1 (accP x0 x3 x4 x5 x6 x7) (k0_pay5 (F := Ideal)) := by
  unfold out0_A_13
  rw [View.read_writes_eq_canon _ _ _ (cover0_A_13 c i arg1 h1 arg2 h2 arg3 h3 arg4 h4 arg5 h5 arg6 h6 arg7 h7 arg8 h8 arg9 h9 arg10 h10 arg11 h11 arg12 h12 arg13 h13 arg14 h14 hc x0 x1 x2 x3 x4 x5 x6 x7)]
  unfold kernelRun0_A
  dsimp only
  (sl_unfold_words)
  rw [View.canon_cons_unit_zero zero2]
  simp only [View.readAt_eq_ld, h1.read_unread, h2.read_unread, h3.read_unread, h4.read_unread, h5.read_unread, h6.read_unread, h7.read_unread, h8.read_unread, h14.read_unread, View.ld_unit_zero (S := S256x1024) zero2, View.ld_unit_zero (S := S1x1024) zero2,
    View.readCov_unit_zero (S := S1x1024) _ zero2, ld_part _ 0 ![0, 0, 0] rfl, ld_part _ 1 ![1, 0, 0] rfl, ld_part _ 2 ![2, 0, 0] rfl, ld_part _ 3 ![3, 0, 0] rfl, ld_wpart _ 0 ![0, 0, 0] rfl, ld_wpart _ 1 ![1, 0, 0] rfl, ld_wpart _ 2 ![2, 0, 0] rfl, ld_wpart _ 3 ![3, 0, 0] rfl]
  rw [step0, step1, step2, step3]
  rfl

/-! ## What a point of kind B leaves -/

theorem out_B_8 (c : Dev nD) (i : grid0.Coords) (arg1 : Memref sig .tc .vmem S256x1024 .f32) (h1 : arg1.IsWhole) (arg2 : Memref sig .tc .vmem S256x1024 .f32) (h2 : arg2.IsWhole) (arg3 : Memref sig .tc .vmem S1x1024 .f32) (h3 : arg3.IsWhole) (arg4 : Memref sig .tc .vmem S4x256x704 .bf16) (h4 : arg4.IsWhole) (arg5 : Memref sig .tc .vmem S4x256x704 .bf16) (h5 : arg5.IsWhole) (arg6 : Memref sig .tc .vmem S4x704x1024 .bf16) (h6 : arg6.IsWhole) (arg7 : Memref sig .tc .vmem S4x704x1024 .bf16) (h7 : arg7.IsWhole) (arg8 : Memref sig .tc .vmem S4x704x1024 .bf16) (h8 : arg8.IsWhole) (arg9 : Memref sig .tc .vmem S256x1024 .f32) (h9 : arg9.IsWhole) (arg10 : Memref sig .tc .vmem S256x1024 .bf16) (h10 : arg10.IsWhole) (arg11 : Memref sig .tc .vmem S4x256x704 .bf16) (h11 : arg11.IsWhole) (arg12 : Memref sig .tc .vmem S4x256x704 .bf16) (h12 : arg12.IsWhole) (arg13 : Memref sig .tc .vmem S4x256x704 .bf16) (h13 : arg13.IsWhole) (arg14 : Memref sig .tc .vmem S1x1024 .f32) (h14 : arg14.IsWhole) (hc : ¬cond0_0 i) (x0 x1 : Vec Ideal S256x1024 .f32) (x2 : Vec Ideal S1x1024 .f32) (x3 x4 : Vec Ideal S4x256x704 .bf16) (x5 x6 x7 : Vec Ideal S4x704x1024 .bf16) (s : Vec Ideal S1x1024 .f32) :
    out0_B_8 c i arg1 h1 arg2 h2 arg3 h3 arg4 h4 arg5 h5 arg6 h6 arg7 h7 arg8 h8 arg9 h9 arg10 h10 arg11 h11 arg12 h12 arg13 h13 arg14 h14 hc x0 x1 x2 x3 x4 x5 x6 x7 s = dxP x0 x1 x2 (accP x0 x3 x4 x5 x6 x7) := by
  unfold out0_B_8
  rw [View.read_writes_eq_canon _ _ _ (cover0_B_8 c i arg1 h1 arg2 h2 arg3 h3 arg4 h4 arg5 h5 arg6 h6 arg7 h7 arg8 h8 arg9 h9 arg10 h10 arg11 h11 arg12 h12 arg13 h13 arg14 h14 hc x0 x1 x2 x3 x4 x5 x6 x7 s)]
  unfold kernelRun0_B
  dsimp only
  (sl_unfold_words)
  rw [View.canon_unit_zero zero2]
  simp only [View.readAt_eq_ld, h1.read_unread, h2.read_unread, h3.read_unread, h4.read_unread, h5.read_unread, h6.read_unread, h7.read_unread, h8.read_unread, h14.read_unread, View.ld_unit_zero (S := S256x1024) zero2, View.ld_unit_zero (S := S1x1024) zero2,
    View.readCov_unit_zero (S := S1x1024) _ zero2, ld_part _ 0 ![0, 0, 0] rfl, ld_part _ 1 ![1, 0, 0] rfl, ld_part _ 2 ![2, 0, 0] rfl, ld_part _ 3 ![3, 0, 0] rfl, ld_wpart _ 0 ![0, 0, 0] rfl, ld_wpart _ 1 ![1, 0, 0] rfl, ld_wpart _ 2 ![2, 0, 0] rfl, ld_wpart _ 3 ![3, 0, 0] rfl]
  rw [step0, step1, step2, step3]
  rfl

theorem out_B_9 (c : Dev nD) (i : grid0.Coords) (arg1 : Memref sig .tc .vmem S256x1024 .f32) (h1 : arg1.IsWhole) (arg2 : Memref sig .tc .vmem S256x1024 .f32) (h2 : arg2.IsWhole) (arg3 : Memref sig .tc .vmem S1x1024 .f32) (h3 : arg3.IsWhole) (arg4 : Memref sig .tc .vmem S4x256x704 .bf16) (h4 : arg4.IsWhole) (arg5 : Memref sig .tc .vmem S4x256x704 .bf16) (h5 : arg5.IsWhole) (arg6 : Memref sig .tc .vmem S4x704x1024 .bf16) (h6 : arg6.IsWhole) (arg7 : Memref sig .tc .vmem S4x704x1024 .bf16) (h7 : arg7.IsWhole) (arg8 : Memref sig .tc .vmem S4x704x1024 .bf16) (h8 : arg8.IsWhole) (arg9 : Memref sig .tc .vmem S256x1024 .f32) (h9 : arg9.IsWhole) (arg10 : Memref sig .tc .vmem S256x1024 .bf16) (h10 : arg10.IsWhole) (arg11 : Memref sig .tc .vmem S4x256x704 .bf16) (h11 : arg11.IsWhole) (arg12 : Memref sig .tc .vmem S4x256x704 .bf16) (h12 : arg12.IsWhole) (arg13 : Memref sig .tc .vmem S4x256x704 .bf16) (h13 : arg13.IsWhole) (arg14 : Memref sig .tc .vmem S1x1024 .f32) (h14 : arg14.IsWhole) (hc : ¬cond0_0 i) (x0 x1 : Vec Ideal S256x1024 .f32) (x2 : Vec Ideal S1x1024 .f32) (x3 x4 : Vec Ideal S4x256x704 .bf16) (x5 x6 x7 : Vec Ideal S4x704x1024 .bf16) (s : Vec Ideal S1x1024 .f32) :
    out0_B_9 c i arg1 h1 arg2 h2 arg3 h3 arg4 h4 arg5 h5 arg6 h6 arg7 h7 arg8 h8 arg9 h9 arg10 h10 arg11 h11 arg12 h12 arg13 h13 arg14 h14 hc x0 x1 x2 x3 x4 x5 x6 x7 s = k0_pay6 x0 := by
  unfold out0_B_9
  rw [View.read_writes_eq_canon _ _ _ (cover0_B_9 c i arg1 h1 arg2 h2 arg3 h3 arg4 h4 arg5 h5 arg6 h6 arg7 h7 arg8 h8 arg9 h9 arg10 h10 arg11 h11 arg12 h12 arg13 h13 arg14 h14 hc x0 x1 x2 x3 x4 x5 x6 x7 s)]
  unfold kernelRun0_B
  dsimp only
  (sl_unfold_words)
  rw [View.canon_unit_zero zero2]
  simp only [View.readAt_eq_ld, h1.read_unread, h2.read_unread, h3.read_unread, h4.read_unread, h5.read_unread, h6.read_unread, h7.read_unread, h8.read_unread, h14.read_unread, View.ld_unit_zero (S := S256x1024) zero2, View.ld_unit_zero (S := S1x1024) zero2,
    View.readCov_unit_zero (S := S1x1024) _ zero2, ld_part _ 0 ![0, 0, 0] rfl, ld_part _ 1 ![1, 0, 0] rfl, ld_part _ 2 ![2, 0, 0] rfl, ld_part _ 3 ![3, 0, 0] rfl, ld_wpart _ 0 ![0, 0, 0] rfl, ld_wpart _ 1 ![1, 0, 0] rfl, ld_wpart _ 2 ![2, 0, 0] rfl, ld_wpart _ 3 ![3, 0, 0] rfl]

theorem out_B_10 (c : Dev nD) (i : grid0.Coords) (arg1 : Memref sig .tc .vmem S256x1024 .f32) (h1 : arg1.IsWhole) (arg2 : Memref sig .tc .vmem S256x1024 .f32) (h2 : arg2.IsWhole) (arg3 : Memref sig .tc .vmem S1x1024 .f32) (h3 : arg3.IsWhole) (arg4 : Memref sig .tc .vmem S4x256x704 .bf16) (h4 : arg4.IsWhole) (arg5 : Memref sig .tc .vmem S4x256x704 .bf16) (h5 : arg5.IsWhole) (arg6 : Memref sig .tc .vmem S4x704x1024 .bf16) (h6 : arg6.IsWhole) (arg7 : Memref sig .tc .vmem S4x704x1024 .bf16) (h7 : arg7.IsWhole) (arg8 : Memref sig .tc .vmem S4x704x1024 .bf16) (h8 : arg8.IsWhole) (arg9 : Memref sig .tc .vmem S256x1024 .f32) (h9 : arg9.IsWhole) (arg10 : Memref sig .tc .vmem S256x1024 .bf16) (h10 : arg10.IsWhole) (arg11 : Memref sig .tc .vmem S4x256x704 .bf16) (h11 : arg11.IsWhole) (arg12 : Memref sig .tc .vmem S4x256x704 .bf16) (h12 : arg12.IsWhole) (arg13 : Memref sig .tc .vmem S4x256x704 .bf16) (h13 : arg13.IsWhole) (arg14 : Memref sig .tc .vmem S1x1024 .f32) (h14 : arg14.IsWhole) (hc : ¬cond0_0 i) (x0 x1 : Vec Ideal S256x1024 .f32) (x2 : Vec Ideal S1x1024 .f32) (x3 x4 : Vec Ideal S4x256x704 .bf16) (x5 x6 x7 : Vec Ideal S4x704x1024 .bf16) (s : Vec Ideal S1x1024 .f32) :
    out0_B_10 c i arg1 h1 arg2 h2 arg3 h3 arg4 h4 arg5 h5 arg6 h6 arg7 h7 arg8 h8 arg9 h9 arg10 h10 arg11 h11 arg12 h12 arg13 h13 arg14 h14 hc x0 x1 x2 x3 x4 x5 x6 x7 s = joined fun j => dgP x0 (wpart x7 j) (part x3 j) (part x4 j) := by
  funext y
  unfold out0_B_10
  rw [View.read_writes_eq_canon _ _ _ (cover0_B_10 c i arg1 h1 arg2 h2 arg3 h3 arg4 h4 arg5 h5 arg6 h6 arg7 h7 arg8 h8 arg9 h9 arg10 h10 arg11 h11 arg12 h12 arg13 h13 arg14 h14 hc x0 x1 x2 x3 x4 x5 x6 x7 s)]
  unfold kernelRun0_B
  dsimp only
  (sl_unfold_words)
  simp only [View.readAt_eq_ld, h1.read_unread, h2.read_unread, h3.read_unread, h4.read_unread, h5.read_unread, h6.read_unread, h7.read_unread, h8.read_unread, h14.read_unread, View.ld_unit_zero (S := S256x1024) zero2, View.ld_unit_zero (S := S1x1024) zero2,
    View.readCov_unit_zero (S := S1x1024) _ zero2, ld_part _ 0 ![0, 0, 0] rfl, ld_part _ 1 ![1, 0, 0] rfl, ld_part _ 2 ![2, 0, 0] rfl, ld_part _ 3 ![3, 0, 0] rfl, ld_wpart _ 0 ![0, 0, 0] rfl, ld_wpart _ 1 ![1, 0, 0] rfl, ld_wpart _ 2 ![2, 0, 0] rfl, ld_wpart _ 3 ![3, 0, 0] rfl]
  canon_tiles x h
  · exact piece_eq (fun j => dgP x0 (wpart x7 j) (part x3 j) (part x4 j)) 3 y x (by omega) (by omega) (by omega)
  · exact piece_eq (fun j => dgP x0 (wpart x7 j) (part x3 j) (part x4 j)) 2 y x (by omega) (by omega) (by omega)
  · exact piece_eq (fun j => dgP x0 (wpart x7 j) (part x3 j) (part x4 j)) 1 y x (by omega) (by omega) (by omega)
  · exact piece_eq (fun j => dgP x0 (wpart x7 j) (part x3 j) (part x4 j)) 0 y x (by omega) (by omega) (by omega)

theorem out_B_11 (c : Dev nD) (i : grid0.Coords) (arg1 : Memref sig .tc .vmem S256x1024 .f32) (h1 : arg1.IsWhole) (arg2 : Memref sig .tc .vmem S256x1024 .f32) (h2 : arg2.IsWhole) (arg3 : Memref sig .tc .vmem S1x1024 .f32) (h3 : arg3.IsWhole) (arg4 : Memref sig .tc .vmem S4x256x704 .bf16) (h4 : arg4.IsWhole) (arg5 : Memref sig .tc .vmem S4x256x704 .bf16) (h5 : arg5.IsWhole) (arg6 : Memref sig .tc .vmem S4x704x1024 .bf16) (h6 : arg6.IsWhole) (arg7 : Memref sig .tc .vmem S4x704x1024 .bf16) (h7 : arg7.IsWhole) (arg8 : Memref sig .tc .vmem S4x704x1024 .bf16) (h8 : arg8.IsWhole) (arg9 : Memref sig .tc .vmem S256x1024 .f32) (h9 : arg9.IsWhole) (arg10 : Memref sig .tc .vmem S256x1024 .bf16) (h10 : arg10.IsWhole) (arg11 : Memref sig .tc .vmem S4x256x704 .bf16) (h11 : arg11.IsWhole) (arg12 : Memref sig .tc .vmem S4x256x704 .bf16) (h12 : arg12.IsWhole) (arg13 : Memref sig .tc .vmem S4x256x704 .bf16) (h13 : arg13.IsWhole) (arg14 : Memref sig .tc .vmem S1x1024 .f32) (h14 : arg14.IsWhole) (hc : ¬cond0_0 i) (x0 x1 : Vec Ideal S256x1024 .f32) (x2 : Vec Ideal S1x1024 .f32) (x3 x4 : Vec Ideal S4x256x704 .bf16) (x5 x6 x7 : Vec Ideal S4x704x1024 .bf16) (s : Vec Ideal S1x1024 .f32) :
    out0_B_11 c i arg1 h1 arg2 h2 arg3 h3 arg4 h4 arg5 h5 arg6 h6 arg7 h7 arg8 h8 arg9 h9 arg10 h10 arg11 h11 arg12 h12 arg13 h13 arg14 h14 hc x0 x1 x2 x3 x4 x5 x6 x7 s = joined fun j => duP x0 (wpart x7 j) (part x3 j) := by
  funext y
  unfold out0_B_11
  rw [View.read_writes_eq_canon _ _ _ (cover0_B_11 c i arg1 h1 arg2 h2 arg3 h3 arg4 h4 arg5 h5 arg6 h6 arg7 h7 arg8 h8 arg9 h9 arg10 h10 arg11 h11 arg12 h12 arg13 h13 arg14 h14 hc x0 x1 x2 x3 x4 x5 x6 x7 s)]
  unfold kernelRun0_B
  dsimp only
  (sl_unfold_words)
  simp only [View.readAt_eq_ld, h1.read_unread, h2.read_unread, h3.read_unread, h4.read_unread, h5.read_unread, h6.read_unread, h7.read_unread, h8.read_unread, h14.read_unread, View.ld_unit_zero (S := S256x1024) zero2, View.ld_unit_zero (S := S1x1024) zero2,
    View.readCov_unit_zero (S := S1x1024) _ zero2, ld_part _ 0 ![0, 0, 0] rfl, ld_part _ 1 ![1, 0, 0] rfl, ld_part _ 2 ![2, 0, 0] rfl, ld_part _ 3 ![3, 0, 0] rfl, ld_wpart _ 0 ![0, 0, 0] rfl, ld_wpart _ 1 ![1, 0, 0] rfl, ld_wpart _ 2 ![2, 0, 0] rfl, ld_wpart _ 3 ![3, 0, 0] rfl]
  canon_tiles x h
  · exact piece_eq (fun j => duP x0 (wpart x7 j) (part x3 j)) 3 y x (by omega) (by omega) (by omega)
  · exact piece_eq (fun j => duP x0 (wpart x7 j) (part x3 j)) 2 y x (by omega) (by omega) (by omega)
  · exact piece_eq (fun j => duP x0 (wpart x7 j) (part x3 j)) 1 y x (by omega) (by omega) (by omega)
  · exact piece_eq (fun j => duP x0 (wpart x7 j) (part x3 j)) 0 y x (by omega) (by omega) (by omega)

theorem out_B_12 (c : Dev nD) (i : grid0.Coords) (arg1 : Memref sig .tc .vmem S256x1024 .f32) (h1 : arg1.IsWhole) (arg2 : Memref sig .tc .vmem S256x1024 .f32) (h2 : arg2.IsWhole) (arg3 : Memref sig .tc .vmem S1x1024 .f32) (h3 : arg3.IsWhole) (arg4 : Memref sig .tc .vmem S4x256x704 .bf16) (h4 : arg4.IsWhole) (arg5 : Memref sig .tc .vmem S4x256x704 .bf16) (h5 : arg5.IsWhole) (arg6 : Memref sig .tc .vmem S4x704x1024 .bf16) (h6 : arg6.IsWhole) (arg7 : Memref sig .tc .vmem S4x704x1024 .bf16) (h7 : arg7.IsWhole) (arg8 : Memref sig .tc .vmem S4x704x1024 .bf16) (h8 : arg8.IsWhole) (arg9 : Memref sig .tc .vmem S256x1024 .f32) (h9 : arg9.IsWhole) (arg10 : Memref sig .tc .vmem S256x1024 .bf16) (h10 : arg10.IsWhole) (arg11 : Memref sig .tc .vmem S4x256x704 .bf16) (h11 : arg11.IsWhole) (arg12 : Memref sig .tc .vmem S4x256x704 .bf16) (h12 : arg12.IsWhole) (arg13 : Memref sig .tc .vmem S4x256x704 .bf16) (h13 : arg13.IsWhole) (arg14 : Memref sig .tc .vmem S1x1024 .f32) (h14 : arg14.IsWhole) (hc : ¬cond0_0 i) (x0 x1 : Vec Ideal S256x1024 .f32) (x2 : Vec Ideal S1x1024 .f32) (x3 x4 : Vec Ideal S4x256x704 .bf16) (x5 x6 x7 : Vec Ideal S4x704x1024 .bf16) (s : Vec Ideal S1x1024 .f32) :
    out0_B_12 c i arg1 h1 arg2 h2 arg3 h3 arg4 h4 arg5 h5 arg6 h6 arg7 h7 arg8 h8 arg9 h9 arg10 h10 arg11 h11 arg12 h12 arg13 h13 arg14 h14 hc x0 x1 x2 x3 x4 x5 x6 x7 s = joined fun j => hP (part x3 j) (part x4 j) := by
  funext y
  unfold out0_B_12
  rw [View.read_writes_eq_canon _ _ _ (cover0_B_12 c i arg1 h1 arg2 h2 arg3 h3 arg4 h4 arg5 h5 arg6 h6 arg7 h7 arg8 h8 arg9 h9 arg10 h10 arg11 h11 arg12 h12 arg13 h13 arg14 h14 hc x0 x1 x2 x3 x4 x5 x6 x7 s)]
  unfold kernelRun0_B
  dsimp only
  (sl_unfold_words)
  simp only [View.readAt_eq_ld, h1.read_unread, h2.read_unread, h3.read_unread, h4.read_unread, h5.read_unread, h6.read_unread, h7.read_unread, h8.read_unread, h14.read_unread, View.ld_unit_zero (S := S256x1024) zero2, View.ld_unit_zero (S := S1x1024) zero2,
    View.readCov_unit_zero (S := S1x1024) _ zero2, ld_part _ 0 ![0, 0, 0] rfl, ld_part _ 1 ![1, 0, 0] rfl, ld_part _ 2 ![2, 0, 0] rfl, ld_part _ 3 ![3, 0, 0] rfl, ld_wpart _ 0 ![0, 0, 0] rfl, ld_wpart _ 1 ![1, 0, 0] rfl, ld_wpart _ 2 ![2, 0, 0] rfl, ld_wpart _ 3 ![3, 0, 0] rfl]
  canon_tiles x h
  · exact piece_eq (fun j => hP (part x3 j) (part x4 j)) 3 y x (by omega) (by omega) (by omega)
  · exact piece_eq (fun j => hP (part x3 j) (part x4 j)) 2 y x (by omega) (by omega) (by omega)
  · exact piece_eq (fun j => hP (part x3 j) (part x4 j)) 1 y x (by omega) (by omega) (by omega)
  · exact piece_eq (fun j => hP (part x3 j) (part x4 j)) 0 y x (by omega) (by omega) (by omega)

theorem out_B_13 (c : Dev nD) (i : grid0.Coords) (arg1 : Memref sig .tc .vmem S256x1024 .f32) (h1 : arg1.IsWhole) (arg2 : Memref sig .tc .vmem S256x1024 .f32) (h2 : arg2.IsWhole) (arg3 : Memref sig .tc .vmem S1x1024 .f32) (h3 : arg3.IsWhole) (arg4 : Memref sig .tc .vmem S4x256x704 .bf16) (h4 : arg4.IsWhole) (arg5 : Memref sig .tc .vmem S4x256x704 .bf16) (h5 : arg5.IsWhole) (arg6 : Memref sig .tc .vmem S4x704x1024 .bf16) (h6 : arg6.IsWhole) (arg7 : Memref sig .tc .vmem S4x704x1024 .bf16) (h7 : arg7.IsWhole) (arg8 : Memref sig .tc .vmem S4x704x1024 .bf16) (h8 : arg8.IsWhole) (arg9 : Memref sig .tc .vmem S256x1024 .f32) (h9 : arg9.IsWhole) (arg10 : Memref sig .tc .vmem S256x1024 .bf16) (h10 : arg10.IsWhole) (arg11 : Memref sig .tc .vmem S4x256x704 .bf16) (h11 : arg11.IsWhole) (arg12 : Memref sig .tc .vmem S4x256x704 .bf16) (h12 : arg12.IsWhole) (arg13 : Memref sig .tc .vmem S4x256x704 .bf16) (h13 : arg13.IsWhole) (arg14 : Memref sig .tc .vmem S1x1024 .f32) (h14 : arg14.IsWhole) (hc : ¬cond0_0 i) (x0 x1 : Vec Ideal S256x1024 .f32) (x2 : Vec Ideal S1x1024 .f32) (x3 x4 : Vec Ideal S4x256x704 .bf16) (x5 x6 x7 : Vec Ideal S4x704x1024 .bf16) (s : Vec Ideal S1x1024 .f32) :
    out0_B_13 c i arg1 h1 arg2 h2 arg3 h3 arg4 h4 arg5 h5 arg6 h6 arg7 h7 arg8 h8 arg9 h9 arg10 h10 arg11 h11 arg12 h12 arg13 h13 arg14 h14 hc x0 x1 x2 x3 x4 x5 x6 x7 s = dnwP x1 (accP x0 x3 x4 x5 x6 x7) s := by
  unfold out0_B_13
  rw [View.read_writes_eq_canon _ _ _ (cover0_B_13 c i arg1 h1 arg2 h2 arg3 h3 arg4 h4 arg5 h5 arg6 h6 arg7 h7 arg8 h8 arg9 h9 arg10 h10 arg11 h11 arg12 h12 arg13 h13 arg14 h14 hc x0 x1 x2 x3 x4 x5 x6 x7 s)]
  unfold kernelRun0_B
  dsimp only
  (sl_unfold_words)
  rw [View.canon_unit_zero zero2]
  simp only [View.readAt_eq_ld, h1.read_unread, h2.read_unread, h3.read_unread, h4.read_unread, h5.read_unread, h6.read_unread, h7.read_unread, h8.read_unread, h14.read_unread, View.ld_unit_zero (S := S256x1024) zero2, View.ld_unit_zero (S := S1x1024) zero2,
    View.readCov_unit_zero (S := S1x1024) _ zero2, ld_part _ 0 ![0, 0, 0] rfl, ld_part _ 1 ![1, 0, 0] rfl, ld_part _ 2 ![2, 0, 0] rfl, ld_part _ 3 ![3, 0, 0] rfl, ld_wpart _ 0 ![0, 0, 0] rfl, ld_wpart _ 1 ![1, 0, 0] rfl, ld_wpart _ 2 ![2, 0, 0] rfl, ld_wpart _ 3 ![3, 0, 0] rfl]
  rw [step0, step1, step2, step3]
  rfl

end Cert.Proof.FfnPoint

end
-- ==== Proof.FfnBlock.lean ====
/-
  A point's payloads at blocks that hold the arguments' real values: they hold the specification's.
-/
module

public import proofs.«01_k».proof.Proof.FfnPoint
public import proofs.«01_k».proof.Proof.FfnSpec
public import Idealize.ShloMosaic.Lib.Pointwise

@[expose] public section

set_option maxRecDepth 16384

noncomputable section

namespace Cert.Proof.FfnBlock

open Idealize.ShloMosaic Idealize.ShloMosaic.Tactic Cert.Kernel2Ideal Cert.Kernel2Ideal.Gen
open Cert.Proof.FfnSpec (Args)
open Cert.Proof.FfnPoint
open scoped BigOperators

/-! ## The payloads at an index -/

theorem pay5_ix (d : Fin 1024) : k0_pay5 (F := Ideal) (ix2 0 d) = 0 := by
  pointwise [k0_pay5]

theorem pay6_ix (x0 : Blk1) (r : Fin 256) (d : Fin 1024) : k0_pay6 (F := Ideal) x0 (ix2 r d) = Ideal.ofBits .f32 0x3F000000#32 * x0 (ix2 r d) := by
  pointwise [k0_pay6]

theorem pay7_ix (r : Fin 256) (d : Fin 1024) : k0_pay7 (F := Ideal) (ix2 r d) = 0 := by
  pointwise [k0_pay7]

theorem pay8_ix (x0 : Blk1) (w : Wts1) (r : Fin 256) (f : Fin 704) :
    k0_pay8 (F := Ideal) x0 w (ix2 r f) = ∑ d : Fin 1024, k0_pay6 (F := Ideal) x0 (ix2 r d) * w (ix3 0 f d) := by
  pointwise [k0_pay8]

theorem pay9_ix (g : Wide1) (r : Fin 256) (f : Fin 704) : k0_pay9 (F := Ideal) g (ix2 r f) = g (ix3 0 r f) := by
  pointwise [k0_pay9]

theorem pay10_ix (u : Wide1) (r : Fin 256) (f : Fin 704) : k0_pay10 (F := Ideal) u (ix2 r f) = u (ix3 0 r f) := by
  pointwise [k0_pay10]

theorem pay11_ix (g : Wide1) (r : Fin 256) (f : Fin 704) : k0_pay11 (F := Ideal) g (ix2 r f) = Ideal.div 1 (1 + Ideal.exp (0 - g (ix3 0 r f))) := by
  rw [← pay9_ix g r f]
  pointwise [k0_pay11]

theorem pay12_ix (g : Wide1) (r : Fin 256) (f : Fin 704) : k0_pay12 (F := Ideal) g (ix2 r f) = g (ix3 0 r f) * k0_pay11 (F := Ideal) g (ix2 r f) := by
  rw [← pay9_ix g r f]
  pointwise [k0_pay12]

theorem pay13_ix (x0 : Blk1) (w : Wts1) (g u : Wide1) (r : Fin 256) (f : Fin 704) : k0_pay13 (F := Ideal) x0 w g u (ix2 r f)
    = k0_pay8 (F := Ideal) x0 w (ix2 r f) * u (ix3 0 r f)
      * (k0_pay11 (F := Ideal) g (ix2 r f) * (1 + g (ix3 0 r f) * (1 - k0_pay11 (F := Ideal) g (ix2 r f)))) := by
  rw [← pay9_ix g r f, ← pay10_ix u r f]
  pointwise [k0_pay13]

theorem dgP_ix (x0 : Blk1) (w : Wts1) (g u : Wide1) (r : Fin 256) (f : Fin 704) : dgP x0 w g u (ix3 0 r f) = k0_pay13 (F := Ideal) x0 w g u (ix2 r f) := by
  pointwise [dgP, k0_pay18, k0_pay14]

theorem duP_ix (x0 : Blk1) (w : Wts1) (g : Wide1) (r : Fin 256) (f : Fin 704) :
    duP x0 w g (ix3 0 r f) = k0_pay8 (F := Ideal) x0 w (ix2 r f) * k0_pay12 (F := Ideal) g (ix2 r f) := by
  pointwise [duP, k0_pay19, k0_pay15]

theorem hP_ix (g u : Wide1) (r : Fin 256) (f : Fin 704) : hP g u (ix3 0 r f) = k0_pay12 (F := Ideal) g (ix2 r f) * u (ix3 0 r f) := by
  rw [← pay10_ix u r f]
  pointwise [hP, k0_pay17]

theorem stepP_ix (acc x0 : Blk1) (w : Wts1) (g u : Wide1) (wg wu : Wts1) (r : Fin 256) (d : Fin 1024) : stepP acc x0 w g u wg wu (ix2 r d)
    = acc (ix2 r d) + ∑ f : Fin 704, k0_pay13 (F := Ideal) x0 w g u (ix2 r f) * wg (ix3 0 f d)
      + ∑ f : Fin 704, (k0_pay8 (F := Ideal) x0 w (ix2 r f) * k0_pay12 (F := Ideal) g (ix2 r f)) * wu (ix3 0 f d) := by
  pointwise [stepP, k0_pay20, k0_pay14, k0_pay15]

theorem pay1_ix (x1 : Blk1) (r : Fin 256) (z : Fin 1) : k0_pay1 (F := Ideal) (k0_pay58 (F := Ideal) x1) (k0_pay59 (F := Ideal)) (ix2 r z)
    = Ideal.rsqrt (Ideal.div (∑ d : Fin 1024, x1 (ix2 r d) * x1 (ix2 r d)) (Ideal.ofBits .f32 0x44800000#32) + Ideal.ofBits .f32 0x358637BD#32) := by
  pointwise [k0_pay1, k0_pay58, k0_pay59]

theorem pay2_ix (x1 : Blk1) (a b : FVec Ideal S256x1 .f32) (r : Fin 256) (d : Fin 1024) :
    k0_pay2 (F := Ideal) x1 a b (ix2 r d) = x1 (ix2 r d) * k0_pay1 (F := Ideal) a b (ix2 r 0) := by
  pointwise [k0_pay2]

theorem pay3_ix (x0 acc x1 : Blk1) (a b : FVec Ideal S256x1 .f32) (x2 : Vec Ideal S1x1024 .f32) (r : Fin 256) (d : Fin 1024) :
    k0_pay3 (F := Ideal) x0 acc x1 a b x2 (ix2 r d)
    = x0 (ix2 r d) + k0_pay1 (F := Ideal) a b (ix2 r 0) * (acc (ix2 r d) * x2 (ix2 0 d)
      - k0_pay2 (F := Ideal) x1 a b (ix2 r d) * Ideal.div (∑ e : Fin 1024, acc (ix2 r e) * x2 (ix2 0 e) * k0_pay2 (F := Ideal) x1 a b (ix2 r e)) (Ideal.ofBits .f32 0x44800000#32)) := by
  pointwise [k0_pay3]

theorem pay4_ix (acc x1 : Blk1) (a b : FVec Ideal S256x1 .f32) (s : Vec Ideal S1x1024 .f32) (d : Fin 1024) :
    k0_pay4 (F := Ideal) acc x1 a b s (ix2 0 d) = s (ix2 0 d) + ∑ r : Fin 256, acc (ix2 r d) * k0_pay2 (F := Ideal) x1 a b (ix2 r d) := by
  pointwise [k0_pay4]

/-! ## Their values -/

/-- Blocks that hold the arguments' values at the tokens `T`, and the two projections'. -/
structure Holds (A : Args) (T : Fin 256 → Fin 8192) (x0 x1 : Blk1) (x2 : Vec Ideal S1x1024 .f32) (x3 x4 : Wide4) (x5 x6 x7 : Wts4) : Prop where
  dy : ∀ r d, x0 (ix2 r d) = (A.dy (T r) d : EReal)
  x : ∀ r d, x1 (ix2 r d) = (A.x (T r) d : EReal)
  nw : ∀ d, x2 (ix2 0 d) = (A.nw d : EReal)
  g : ∀ j r f, x3 (ix3 j r f) = (FfnSpec.g A (T r) j f : EReal)
  u : ∀ j r f, x4 (ix3 j r f) = (FfnSpec.u A (T r) j f : EReal)
  wg : ∀ j f d, x5 (ix3 j f d) = (A.wg j f d : EReal)
  wu : ∀ j f d, x6 (ix3 j f d) = (A.wu j f d : EReal)
  wd : ∀ j f d, x7 (ix3 j f d) = (A.wd j f d : EReal)

section
variable {A : Args} {T : Fin 256 → Fin 8192} {x0 x1 : Blk1} {x2 : Vec Ideal S1x1024 .f32} {x3 x4 : Wide4} {x5 x6 x7 : Wts4}
  (H : Holds A T x0 x1 x2 x3 x4 x5 x6 x7)
include H

theorem gpart (j : Fin 4) (r : Fin 256) (f : Fin 704) : part x3 j (ix3 0 r f) = (FfnSpec.g A (T r) j f : EReal) := H.g j r f
theorem upart (j : Fin 4) (r : Fin 256) (f : Fin 704) : part x4 j (ix3 0 r f) = (FfnSpec.u A (T r) j f : EReal) := H.u j r f
theorem wgpart (j : Fin 4) (f : Fin 704) (d : Fin 1024) : wpart x5 j (ix3 0 f d) = (A.wg j f d : EReal) := H.wg j f d
theorem wupart (j : Fin 4) (f : Fin 704) (d : Fin 1024) : wpart x6 j (ix3 0 f d) = (A.wu j f d : EReal) := H.wu j f d
theorem wdpart (j : Fin 4) (f : Fin 704) (d : Fin 1024) : wpart x7 j (ix3 0 f d) = (A.wd j f d : EReal) := H.wd j f d

theorem dyh_val (r : Fin 256) (d : Fin 1024) : k0_pay6 (F := Ideal) x0 (ix2 r d) = (FfnSpec.dyh A (T r) d : EReal) := by
  rw [pay6_ix, H.dy, FfnSpec.lit_half, ← EReal.coe_mul]
  rfl

theorem dh_val (j : Fin 4) (r : Fin 256) (f : Fin 704) : k0_pay8 (F := Ideal) x0 (wpart x7 j) (ix2 r f) = (FfnSpec.dh A (T r) j f : EReal) := by
  rw [pay8_ix]
  simp only [dyh_val H, wdpart H, ← EReal.coe_mul, FfnSpec.coe_sum]
  rfl

theorem sg_val (j : Fin 4) (r : Fin 256) (f : Fin 704) : k0_pay11 (F := Ideal) (part x3 j) (ix2 r f) = (FfnSpec.sg A (T r) j f : EReal) := by
  rw [pay11_ix, gpart H, zero_sub, FfnSpec.sig_real]
  rfl

theorem si_val (j : Fin 4) (r : Fin 256) (f : Fin 704) : k0_pay12 (F := Ideal) (part x3 j) (ix2 r f) = (FfnSpec.si A (T r) j f : EReal) := by
  rw [pay12_ix, sg_val H, gpart H, ← EReal.coe_mul]
  rfl

theorem dg_val (j : Fin 4) (r : Fin 256) (f : Fin 704) :
    k0_pay13 (F := Ideal) x0 (wpart x7 j) (part x3 j) (part x4 j) (ix2 r f) = (FfnSpec.dg A (T r) j f : EReal) := by
  rw [pay13_ix, dh_val H, sg_val H, gpart H, upart H, ← EReal.coe_one]
  simp only [← EReal.coe_mul, ← EReal.coe_sub, ← EReal.coe_add]
  rfl

theorem dgP_val (j : Fin 4) (r : Fin 256) (f : Fin 704) : dgP x0 (wpart x7 j) (part x3 j) (part x4 j) (ix3 0 r f) = (FfnSpec.dg A (T r) j f : EReal) := by
  rw [dgP_ix, dg_val H]

theorem duP_val (j : Fin 4) (r : Fin 256) (f : Fin 704) : duP x0 (wpart x7 j) (part x3 j) (ix3 0 r f) = (FfnSpec.du A (T r) j f : EReal) := by
  rw [duP_ix, dh_val H, si_val H, ← EReal.coe_mul]
  rfl

theorem hP_val (j : Fin 4) (r : Fin 256) (f : Fin 704) : hP (part x3 j) (part x4 j) (ix3 0 r f) = (FfnSpec.h A (T r) j f : EReal) := by
  rw [hP_ix, si_val H, upart H, ← EReal.coe_mul]
  rfl

theorem step_val (j : Fin 4) (acc : Blk1) (r : Fin 256) (d : Fin 1024) (a : ℝ) (ha : acc (ix2 r d) = (a : EReal)) :
    stepAt x0 x3 x4 x5 x6 x7 j acc (ix2 r d)
    = ((a + ((∑ f, FfnSpec.dg A (T r) j f * A.wg j f d) + ∑ f, FfnSpec.du A (T r) j f * A.wu j f d) : ℝ) : EReal) := by
  unfold stepAt
  rw [stepP_ix, ha]
  simp only [dg_val H, dh_val H, si_val H, wgpart H, wupart H, ← EReal.coe_mul, FfnSpec.coe_sum, ← EReal.coe_add]
  rw [add_assoc]
  rfl

theorem acc_val (r : Fin 256) (d : Fin 1024) : accP x0 x3 x4 x5 x6 x7 (ix2 r d) = (FfnSpec.dxn A (T r) d : EReal) := by
  have e0 := step_val H 0 (k0_pay7 (F := Ideal)) r d 0 (pay7_ix r d)
  have e3 := step_val H 3 _ r d _ (step_val H 2 _ r d _ (step_val H 1 _ r d _ e0))
  unfold accP
  rw [e3]
  unfold FfnSpec.dxn
  rw [Fin.sum_univ_four, zero_add]

theorem rstd_val (r : Fin 256) (z : Fin 1) : k0_pay1 (F := Ideal) (k0_pay58 (F := Ideal) x1) (k0_pay59 (F := Ideal)) (ix2 r z) = (FfnSpec.rstd A (T r) : EReal) := by
  rw [pay1_ix]
  simp only [H.x, ← EReal.coe_mul, FfnSpec.coe_sum]
  rw [FfnSpec.lit_1024, FfnSpec.lit_eps, FfnSpec.div_1024, ← EReal.coe_add]
  exact FfnSpec.rsqrt_ms A (T r)

theorem xhat_val (r : Fin 256) (d : Fin 1024) : k0_pay2 (F := Ideal) x1 (k0_pay58 (F := Ideal) x1) (k0_pay59 (F := Ideal)) (ix2 r d) = (FfnSpec.xhat A (T r) d : EReal) := by
  rw [pay2_ix, rstd_val H, H.x, ← EReal.coe_mul]
  rfl

theorem dx_val (r : Fin 256) (d : Fin 1024) : dxP x0 x1 x2 (accP x0 x3 x4 x5 x6 x7) (ix2 r d) = (FfnSpec.dx A (T r) d : EReal) := by
  unfold dxP
  rw [pay3_ix, FfnSpec.lit_1024]
  simp only [acc_val H, xhat_val H, rstd_val H, H.dy, H.nw, ← EReal.coe_mul, FfnSpec.coe_sum]
  rw [FfnSpec.div_1024]
  simp only [← EReal.coe_mul, ← EReal.coe_sub, ← EReal.coe_add]
  rfl

theorem dnw_val (s : Vec Ideal S1x1024 .f32) (d : Fin 1024) (a : ℝ) (ha : s (ix2 0 d) = (a : EReal)) :
    dnwP x1 (accP x0 x3 x4 x5 x6 x7) s (ix2 0 d) = ((a + ∑ r, FfnSpec.dxn A (T r) d * FfnSpec.xhat A (T r) d : ℝ) : EReal) := by
  unfold dnwP
  rw [pay4_ix, ha]
  simp only [acc_val H, xhat_val H, ← EReal.coe_mul, FfnSpec.coe_sum, ← EReal.coe_add]

end

end Cert.Proof.FfnBlock

end
-- ==== Proof.FfnRun.lean ====
/-
  The kernel's run at the ideal numbers: the arrays it ends with hold the specification's values.
-/
module

public import proofs.«01_k».proof.Proof.FfnBlock
public import proofs.«01_k».proof.Proof.FfnRef

@[expose] public section

set_option maxRecDepth 16384

noncomputable section

namespace Cert.Proof.FfnRun

open Idealize.ShloMosaic Idealize.ShloMosaic.TcCoe Idealize.ShloMosaic.Tactic Cert.Kernel2Ideal Cert.Kernel2Ideal.Gen
open Idealize.SL.Sem
open Idealize.ShloMosaic.Pipeline (Dat)
open Cert.Proof.FfnSpec (Args)
open Cert.Proof.FfnPoint
open Cert.Proof.FfnRef (rows wide one)
open scoped BigOperators

variable (m : (ℓ : Loc nD τ sig) → Buf (Elt Ideal) ℓ) (ρ : Dev nD → PrngReg) (c : Dev nD)

/-! ## The arrays the host hands the kernel -/

abbrev arg0 : S8192x1024.Idx → EReal := m ((c.tc : Thread nD τ).loc main_arg0)
abbrev arg1 : S8192x1024.Idx → EReal := m ((c.tc : Thread nD τ).loc main_arg1)
abbrev arg2 : S1x1024.Idx → EReal := m ((c.tc : Thread nD τ).loc main_arg2)
abbrev arg3 : S4x704x1024.Idx → EReal := m ((c.tc : Thread nD τ).loc main_arg3)
abbrev arg4 : S4x704x1024.Idx → EReal := m ((c.tc : Thread nD τ).loc main_arg4)
abbrev arg5 : S4x704x1024.Idx → EReal := m ((c.tc : Thread nD τ).loc main_arg5)

/-- The normalized rows. -/
def xnV (a1 : FVec Ideal S8192x1024 .f32) (a2 : FVec Ideal S1x1024 .f32) : FVec Ideal S8192x1024 .f32 :=
  mulf (mulf a1 (broadcastInDim S8192x1024 ![0, 1] bcast_S8192x1_S8192x1024_0_1 (Host.rsqrt (addf (Host.divf (broadcastInDim S8192x1 ![0] bcast_S8192_S8192x1_0 (Host.reduceAdd (mulf a1 a1) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))))))
    (broadcastInDim S8192x1024 ![0, 1] bcast_S1x1024_S8192x1024_0_1 a2)

theorem xnV_eq (a1 : FVec Ideal S8192x1024 .f32) (a2 : FVec Ideal S1x1024 .f32) : xnV a1 a2 = FfnRef.byNw (FfnRef.xhatV a1) a2 := rfl

/-- A projection of them, in four parts. -/
def projV (w : FVec Ideal S4x704x1024 .f32) (v : FVec Ideal S8192x1024 .f32) : FVec Ideal S4x8192x704 .bf16 :=
  truncf .bf16 (transpose S4x8192x704 [0, 2, 1] (Host.dotGeneral dot_S4x704x1024_S8192x1024_S4x704x8192_2_1_01_0_n_n none w v) transposes_S4x704x8192_S4x8192x704_0_2_1) bitsLt_bf16_f32

theorem projV_ix (w : FVec Ideal S4x704x1024 .f32) (v : FVec Ideal S8192x1024 .f32) (j : Fin 4) (t : Fin 8192) (f : Fin 704) :
    projV w v (ix3 j t f) = ∑ d : Fin 1024, w (ix3 j f d) * v (ix2 t d) := by
  pointwise [projV]

theorem V_arg0 : V m c main_arg0 = arg0 m c := by
  unfold_abbrev_sides
  after_results
theorem V_arg1 : V m c main_arg1 = arg1 m c := by
  unfold_abbrev_sides
  after_results
theorem V_arg2 : V m c main_arg2 = arg2 m c := by
  unfold_abbrev_sides
  after_results
theorem V_g : V m c main_v14 = projV (arg3 m c) (xnV (arg1 m c) (arg2 m c)) := by
  unfold_abbrev_sides
  after_results
  rfl
theorem V_u : V m c main_v17 = projV (arg4 m c) (xnV (arg1 m c) (arg2 m c)) := by
  unfold_abbrev_sides
  after_results
  rfl
theorem V_wg : V m c main_v18 = truncf (F := Ideal) .bf16 (arg3 m c) bitsLt_bf16_f32 := by
  unfold_abbrev_sides
  after_results
theorem V_wu : V m c main_v19 = truncf (F := Ideal) .bf16 (arg4 m c) bitsLt_bf16_f32 := by
  unfold_abbrev_sides
  after_results
theorem V_wd : V m c main_v20 = truncf (F := Ideal) .bf16 (arg5 m c) bitsLt_bf16_f32 := by
  unfold_abbrev_sides
  after_results

/-! ## The blocks a point reads -/

/-- The token at a row of a point's block. -/
def tok (n : ℕ) (r : Fin 256) : Fin 8192 := ⟨(256 * n + r.val) % 8192, Nat.mod_lt _ (by decide)⟩

theorem tok_val (t : Fin cfg0.N) (r : Fin 256) : (tok t.val r).val = 256 * t.val + r.val := by
  have ht : t.val < 32 := Nat.lt_of_lt_of_eq t.isLt N_0
  show (256 * t.val + r.val) % 8192 = _
  omega

theorem read0 (t : Fin cfg0.N) (r : Fin 256) (d : Fin 1024) : iblk m c 0 t (ix2 r d) = V m c main_arg0 (ix2 (tok t.val r) d) := by
  have x : ∀ t : Fin cfg0.N, win0_0.index t = ![t.val, 0] := by decide +kernel
  have h := tok_val t r
  blk_ext [iblk, x t, h]

theorem read1 (t : Fin cfg0.N) (r : Fin 256) (d : Fin 1024) : iblk m c 1 t (ix2 r d) = V m c main_arg1 (ix2 (tok t.val r) d) := by
  have x : ∀ t : Fin cfg0.N, win0_1.index t = ![t.val, 0] := by decide +kernel
  have h := tok_val t r
  blk_ext [iblk, x t, h]

theorem read2 (t : Fin cfg0.N) (d : Fin 1024) : iblk m c 2 t (ix2 0 d) = V m c main_arg2 (ix2 0 d) := by
  have x : ∀ t : Fin cfg0.N, win0_2.index t = ![0, 0] := by decide +kernel
  blk_ext [iblk, x t]

theorem read3 (t : Fin cfg0.N) (j : Fin 4) (r : Fin 256) (f : Fin 704) : iblk m c 3 t (ix3 j r f) = V m c main_v14 (ix3 j (tok t.val r) f) := by
  have x : ∀ t : Fin cfg0.N, win0_3.index t = ![0, t.val, 0] := by decide +kernel
  have h := tok_val t r
  blk_ext [iblk, x t, h]

theorem read4 (t : Fin cfg0.N) (j : Fin 4) (r : Fin 256) (f : Fin 704) : iblk m c 4 t (ix3 j r f) = V m c main_v17 (ix3 j (tok t.val r) f) := by
  have x : ∀ t : Fin cfg0.N, win0_4.index t = ![0, t.val, 0] := by decide +kernel
  have h := tok_val t r
  blk_ext [iblk, x t, h]

theorem read5 (t : Fin cfg0.N) (j : Fin 4) (f : Fin 704) (d : Fin 1024) : iblk m c 5 t (ix3 j f d) = V m c main_v18 (ix3 j f d) := by
  have x : ∀ t : Fin cfg0.N, win0_5.index t = ![0, 0, 0] := by decide +kernel
  blk_ext [iblk, x t]

theorem read6 (t : Fin cfg0.N) (j : Fin 4) (f : Fin 704) (d : Fin 1024) : iblk m c 6 t (ix3 j f d) = V m c main_v19 (ix3 j f d) := by
  have x : ∀ t : Fin cfg0.N, win0_6.index t = ![0, 0, 0] := by decide +kernel
  blk_ext [iblk, x t]

theorem read7 (t : Fin cfg0.N) (j : Fin 4) (f : Fin 704) (d : Fin 1024) : iblk m c 7 t (ix3 j f d) = V m c main_v20 (ix3 j f d) := by
  have x : ∀ t : Fin cfg0.N, win0_7.index t = ![0, 0, 0] := by decide +kernel
  blk_ext [iblk, x t]

section
variable {A : Args} (H : FfnRef.Holds A (arg0 m c) (arg1 m c) (arg2 m c) (arg3 m c) (arg4 m c) (arg5 m c))
include H

theorem holds (t : Fin cfg0.N) :
    FfnBlock.Holds A (tok t.val) (iblk m c 0 t) (iblk m c 1 t) (iblk m c 2 t) (iblk m c 3 t) (iblk m c 4 t) (iblk m c 5 t) (iblk m c 6 t) (iblk m c 7 t) where
  dy r d := by rw [read0, V_arg0]; exact H.dy _ _
  x r d := by rw [read1, V_arg1]; exact H.x _ _
  nw d := by rw [read2, V_arg2]; exact H.nw _
  g j r f := by
    rw [read3, V_g, projV_ix, xnV_eq]
    refine Eq.trans ?_ (FfnSpec.coe_sum _ _)
    refine Finset.sum_congr rfl fun d _ => ?_
    rw [FfnRef.xn_val H, H.wg, mul_comm, ← EReal.coe_mul]
  u j r f := by
    rw [read4, V_u, projV_ix, xnV_eq]
    refine Eq.trans ?_ (FfnSpec.coe_sum _ _)
    refine Finset.sum_congr rfl fun d _ => ?_
    rw [FfnRef.xn_val H, H.wu, mul_comm, ← EReal.coe_mul]
  wg j f d := by rw [read5, V_wg]; exact H.wg _ _ _
  wu j f d := by rw [read6, V_wu]; exact H.wu _ _ _
  wd j f d := by rw [read7, V_wd]; exact H.wd _ _ _

end

/-! ## What the points leave -/

theorem left8 (t : Fin cfg0.N) : (outsAt0 m c t.val t.isLt).1
    = dxP (iblk m c 0 t) (iblk m c 1 t) (iblk m c 2 t) (accP (iblk m c 0 t) (iblk m c 3 t) (iblk m c 4 t) (iblk m c 5 t) (iblk m c 6 t) (iblk m c 7 t)) := by
  by_cases h0 : t.val % 32 = 0
  · rw [outsAt0_A m c t h0]
    dsimp only
    rw [out_A_8]
  · rw [outsAt0_B m c t h0]
    dsimp only
    rw [out_B_8]

theorem left9 (t : Fin cfg0.N) : (outsAt0 m c t.val t.isLt).2.1 = k0_pay6 (F := Ideal) (iblk m c 0 t) := by
  by_cases h0 : t.val % 32 = 0
  · rw [outsAt0_A m c t h0]
    dsimp only
    rw [out_A_9]
  · rw [outsAt0_B m c t h0]
    dsimp only
    rw [out_B_9]

theorem left10 (t : Fin cfg0.N) : (outsAt0 m c t.val t.isLt).2.2.1
    = joined fun j => dgP (iblk m c 0 t) (wpart (iblk m c 7 t) j) (part (iblk m c 3 t) j) (part (iblk m c 4 t) j) := by
  by_cases h0 : t.val % 32 = 0
  · rw [outsAt0_A m c t h0]
    dsimp only
    rw [out_A_10]
  · rw [outsAt0_B m c t h0]
    dsimp only
    rw [out_B_10]

theorem left11 (t : Fin cfg0.N) : (outsAt0 m c t.val t.isLt).2.2.2.1
    = joined fun j => duP (iblk m c 0 t) (wpart (iblk m c 7 t) j) (part (iblk m c 3 t) j) := by
  by_cases h0 : t.val % 32 = 0
  · rw [outsAt0_A m c t h0]
    dsimp only
    rw [out_A_11]
  · rw [outsAt0_B m c t h0]
    dsimp only
    rw [out_B_11]

theorem left12 (t : Fin cfg0.N) : (outsAt0 m c t.val t.isLt).2.2.2.2.1 = joined fun j => hP (part (iblk m c 3 t) j) (part (iblk m c 4 t) j) := by
  by_cases h0 : t.val % 32 = 0
  · rw [outsAt0_A m c t h0]
    dsimp only
    rw [out_A_12]
  · rw [outsAt0_B m c t h0]
    dsimp only
    rw [out_B_12]

theorem left13_first (t : Fin cfg0.N) (h0 : t.val % 32 = 0) : (outsAt0 m c t.val t.isLt).2.2.2.2.2
    = dnwP (iblk m c 1 t) (accP (iblk m c 0 t) (iblk m c 3 t) (iblk m c 4 t) (iblk m c 5 t) (iblk m c 6 t) (iblk m c 7 t)) (k0_pay5 (F := Ideal)) := by
  rw [outsAt0_A m c t h0]
  dsimp only
  rw [out_A_13]

theorem left13_next (t : Fin cfg0.N) (h0 : ¬t.val % 32 = 0) : (outsAt0 m c t.val t.isLt).2.2.2.2.2
    = dnwP (iblk m c 1 t) (accP (iblk m c 0 t) (iblk m c 3 t) (iblk m c 4 t) (iblk m c 5 t) (iblk m c 6 t) (iblk m c 7 t))
      (outsAt0 m c (t.val - 1) (Nat.lt_of_le_of_lt (Nat.sub_le _ _) t.isLt)).2.2.2.2.2 := by
  rw [outsAt0_B m c t h0]
  dsimp only
  rw [out_B_13]

end Cert.Proof.FfnRun

end
-- ==== Proof.FfnArrays.lean ====
/-
  The six arrays of the kernel's run, and the claims of the pair.
-/
module

public import proofs.«01_k».proof.Proof.FfnRun
public import proofs.«01_k».proof.Proof.Finite
public import proofs.«01_k».proof.Proof.Gen.Kernel2.Frame
public import proofs.«01_k».proof.Proof.Gen.Kernel2Ideal.Value
public import proofs.«01_k».proof.Proof.Gen.Pre_all_finite2
public import proofs.«01_k».proof.Defs
public import Idealize.ShloMosaic.Adequacy
public import Idealize.ShloMosaic.Init
public import Idealize.ShloMosaic.Lib.Quiescent
public import Idealize.ShloMosaic.Lib.Claim

@[expose] public section

set_option maxRecDepth 16384

noncomputable section

namespace Cert.Proof.FfnArrays

open Idealize.ShloMosaic Idealize.ShloMosaic.TcCoe Idealize.ShloMosaic.Tactic Cert.Kernel2Ideal Cert.Kernel2Ideal.Gen
open Idealize.SL.Sem
open Idealize.ShloMosaic.Pipeline (Dat)
open Cert.Proof.FfnSpec (Args)
open Cert.Proof.FfnPoint Cert.Proof.FfnRun
open Cert.Proof.FfnRef (rows wide one)
open scoped BigOperators

variable (m : (ℓ : Loc nD τ sig) → Buf (Elt Ideal) ℓ) (ρ : Dev nD → PrngReg) (c : Dev nD)

section
variable {A : Args} (H : FfnRef.Holds A (arg0 m c) (arg1 m c) (arg2 m c) (arg3 m c) (arg4 m c) (arg5 m c))
include H

/-! ## The arrays written block by block -/

theorem arr8 : (dats m 0 c).arrAt 8 cfg0.N = rows (FfnSpec.dx A) := by
  refine (dats m 0 c).arrAt_eq_of_covers 8 _ (by decide +kernel) fun t hf y => ?_
  have x : ∀ t : Fin cfg0.N, win0_8.index t = ![t.val, 0] := by decide +kernel
  have hy : y = ix2 (n0 := 256) (n1 := 1024) (y 0) (y 1) := eq_ix2 y
  generalize y 0 = r at hy
  generalize y 1 = d at hy
  subst hy
  change Fin 256 at r
  change Fin 1024 at d
  have h := tok_val t r
  blk_simp
  rw [after0_8, left8]
  refine (FfnBlock.dx_val (holds m c H t) r d).trans ?_
  show rows (FfnSpec.dx A) (ix2 (tok t.val r) d) = _
  refine congrArg (rows (FfnSpec.dx A)) ?_
  blk_ext [x t, h]

theorem arr9 : (dats m 0 c).arrAt 9 cfg0.N = rows (FfnSpec.dyh A) := by
  refine (dats m 0 c).arrAt_eq_of_covers 9 _ (by decide +kernel) fun t hf y => ?_
  have x : ∀ t : Fin cfg0.N, win0_9.index t = ![t.val, 0] := by decide +kernel
  have hy : y = ix2 (n0 := 256) (n1 := 1024) (y 0) (y 1) := eq_ix2 y
  generalize y 0 = r at hy
  generalize y 1 = d at hy
  subst hy
  change Fin 256 at r
  change Fin 1024 at d
  have h := tok_val t r
  blk_simp
  rw [after0_9, left9]
  refine (FfnBlock.dyh_val (holds m c H t) r d).trans ?_
  show rows (FfnSpec.dyh A) (ix2 (tok t.val r) d) = _
  refine congrArg (rows (FfnSpec.dyh A)) ?_
  blk_ext [x t, h]

theorem arr10 : (dats m 0 c).arrAt 10 cfg0.N = wide (FfnSpec.dg A) := by
  refine (dats m 0 c).arrAt_eq_of_covers 10 _ (by decide +kernel) fun t hf y => ?_
  have x : ∀ t : Fin cfg0.N, win0_10.index t = ![0, t.val, 0] := by decide +kernel
  have hy : y = ix3 (n0 := 4) (n1 := 256) (n2 := 704) (y 0) (y 1) (y 2) := eq_ix3 y
  generalize y 0 = j at hy
  generalize y 1 = r at hy
  generalize y 2 = f at hy
  subst hy
  change Fin 4 at j
  change Fin 256 at r
  change Fin 704 at f
  have h := tok_val t r
  blk_simp
  rw [after0_10, left10]
  refine (FfnBlock.dgP_val (holds m c H t) j r f).trans ?_
  show wide (FfnSpec.dg A) (ix3 j (tok t.val r) f) = _
  refine congrArg (wide (FfnSpec.dg A)) ?_
  blk_ext [x t, h]

theorem arr11 : (dats m 0 c).arrAt 11 cfg0.N = wide (FfnSpec.du A) := by
  refine (dats m 0 c).arrAt_eq_of_covers 11 _ (by decide +kernel) fun t hf y => ?_
  have x : ∀ t : Fin cfg0.N, win0_11.index t = ![0, t.val, 0] := by decide +kernel
  have hy : y = ix3 (n0 := 4) (n1 := 256) (n2 := 704) (y 0) (y 1) (y 2) := eq_ix3 y
  generalize y 0 = j at hy
  generalize y 1 = r at hy
  generalize y 2 = f at hy
  subst hy
  change Fin 4 at j
  change Fin 256 at r
  change Fin 704 at f
  have h := tok_val t r
  blk_simp
  rw [after0_11, left11]
  refine (FfnBlock.duP_val (holds m c H t) j r f).trans ?_
  show wide (FfnSpec.du A) (ix3 j (tok t.val r) f) = _
  refine congrArg (wide (FfnSpec.du A)) ?_
  blk_ext [x t, h]

theorem arr12 : (dats m 0 c).arrAt 12 cfg0.N = wide (FfnSpec.h A) := by
  refine (dats m 0 c).arrAt_eq_of_covers 12 _ (by decide +kernel) fun t hf y => ?_
  have x : ∀ t : Fin cfg0.N, win0_12.index t = ![0, t.val, 0] := by decide +kernel
  have hy : y = ix3 (n0 := 4) (n1 := 256) (n2 := 704) (y 0) (y 1) (y 2) := eq_ix3 y
  generalize y 0 = j at hy
  generalize y 1 = r at hy
  generalize y 2 = f at hy
  subst hy
  change Fin 4 at j
  change Fin 256 at r
  change Fin 704 at f
  have h := tok_val t r
  blk_simp
  rw [after0_12, left12]
  refine (FfnBlock.hP_val (holds m c H t) j r f).trans ?_
  show wide (FfnSpec.h A) (ix3 j (tok t.val r) f) = _
  refine congrArg (wide (FfnSpec.h A)) ?_
  blk_ext [x t, h]

/-! ## The array accumulated over the points -/

/-- One token's term of the weight's gradient. -/
abbrev term (A : Args) (d : Fin 1024) (t : Fin 8192) : ℝ := FfnSpec.dxn A t d * FfnSpec.xhat A t d

/-- The terms of the first `n` blocks. -/
def upTo (A : Args) (d : Fin 1024) (n : ℕ) : ℝ := ∑ s ∈ Finset.range n, ∑ r : Fin 256, term A d (tok s r)

omit H in
theorem upTo_all (d : Fin 1024) : upTo A d 32 = FfnSpec.dnw A d := by
  unfold upTo FfnSpec.dnw
  rw [Finset.sum_range fun s => ∑ r : Fin 256, term A d (tok s r), ← Fintype.sum_prod_type' (f := fun (s : Fin 32) (r : Fin 256) => term A d (tok s.val r))]
  refine Fintype.sum_equiv (finProdFinEquiv (m := 32) (n := 256)) _ _ fun p => ?_
  refine congrArg (term A d) (Fin.ext ?_)
  show (256 * p.1.val + p.2.val) % 8192 = p.2.val + 256 * p.1.val
  have h1 := p.1.isLt
  have h2 := p.2.isLt
  omega

theorem sum_at (d : Fin 1024) : ∀ (n : ℕ) (hn : n < cfg0.N), (outsAt0 m c n hn).2.2.2.2.2 (ix2 0 d) = (upTo A d (n + 1) : EReal)
  | 0, hn => by
    have e := left13_first m c ⟨0, hn⟩ rfl
    refine (congrFun e _).trans ((FfnBlock.dnw_val (holds m c H ⟨0, hn⟩) _ d 0 (FfnBlock.pay5_ix d)).trans ?_)
    unfold upTo
    rw [Finset.sum_range_one, zero_add]
  | n + 1, hn => by
    have hn' : n + 1 < 32 := Nat.lt_of_lt_of_eq hn N_0
    have e := left13_next m c ⟨n + 1, hn⟩ (by show ¬(n + 1) % 32 = 0; omega)
    refine (congrFun e _).trans ((FfnBlock.dnw_val (holds m c H ⟨n + 1, hn⟩) _ d _ (sum_at d n (Nat.lt_of_succ_lt hn))).trans ?_)
    show ((upTo A d (n + 1) + ∑ r : Fin 256, term A d (tok (n + 1) r) : ℝ) : EReal) = _
    unfold upTo
    rw [Finset.sum_range_succ _ (n + 1)]

theorem arr13 : (dats m 0 c).arrAt 13 cfg0.N = one (FfnSpec.dnw A) := by
  refine (dats m 0 c).arrAt_eq_of_covers 13 _ (by decide +kernel) fun t hf y => ?_
  have x : ∀ t : Fin cfg0.N, win0_13.index t = ![0, 0] := by decide +kernel
  have fl : ∀ t : Fin cfg0.N, (cfg0.win 13).flush t = true → t.val + 1 = 32 := by decide +kernel
  have hy : y = ix2 (n0 := 1) (n1 := 1024) 0 (y 1) := by
    refine (eq_ix2 y).trans (congrArg (fun z : Fin 1 => ix2 (n0 := 1) (n1 := 1024) z (y 1)) ?_)
    exact Subsingleton.elim (α := Fin 1) _ _
  generalize y 1 = d at hy
  subst hy
  change Fin 1024 at d
  blk_simp
  rw [after0_13]
  refine (sum_at m c H d t.val t.isLt).trans ?_
  rw [fl t hf, upTo_all]
  show one (FfnSpec.dnw A) (ix2 0 d) = _
  refine congrArg (one (FfnSpec.dnw A)) ?_
  blk_ext [x t]

end

/-! ## The run -/

theorem run_values (A : Dev nD → Args)
    (H : ∀ c, FfnRef.Holds (A c) (arg0 m c) (arg1 m c) (arg2 m c) (arg3 m c) (arg4 m c) (arg5 m c)) :
    θ_run defs (onTc (τ := τ) (main (F := Ideal))) ⟨m, fun _ => 0, ρ⟩ fun r => ∀ c : Dev nD,
      r.2.mem ((c.tc : Thread nD τ).loc main_v21_0) = rows (FfnSpec.dx (A c))
      ∧ r.2.mem ((c.tc : Thread nD τ).loc main_v21_1) = rows (FfnSpec.dyh (A c))
      ∧ r.2.mem ((c.tc : Thread nD τ).loc main_v21_2) = wide (FfnSpec.dg (A c))
      ∧ r.2.mem ((c.tc : Thread nD τ).loc main_v21_3) = wide (FfnSpec.du (A c))
      ∧ r.2.mem ((c.tc : Thread nD τ).loc main_v21_4) = wide (FfnSpec.h (A c))
      ∧ r.2.mem ((c.tc : Thread nD τ).loc main_v21_5) = one (FfnSpec.dnw (A c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ?_) (Cert.Kernel2Ideal.Value.run_blocks (F := Ideal) m ρ)
  obtain ⟨e8, e9, e10, e11, e12, e13, keep⟩ := h c
  exact ⟨e8.trans (arr8 m c (H c)), e9.trans (arr9 m c (H c)), e10.trans (arr10 m c (H c)), e11.trans (arr11 m c (H c)),
    e12.trans (arr12 m c (H c)), e13.trans (arr13 m c (H c)), keep⟩

/-! ## The precondition -/

/-- The real numbers a device's arguments hold. -/
def argsOf (c : Dev nD) : Args where
  dy t d := EReal.toReal (arg0 m c (ix2 t d))
  x t d := EReal.toReal (arg1 m c (ix2 t d))
  nw d := EReal.toReal (arg2 m c (ix2 0 d))
  wg j f d := EReal.toReal (arg3 m c (ix3 j f d))
  wu j f d := EReal.toReal (arg4 m c (ix3 j f d))
  wd j f d := EReal.toReal (arg5 m c (ix3 j f d))

theorem real_of {x : EReal} (h : Finite.Fin' x) : x = (EReal.toReal x : EReal) := by
  obtain ⟨r, rfl⟩ := h
  rfl

instance : Subsingleton Cert.Pre_all_finite2.S_.Idx := ⟨fun a b => funext fun i => i.elim0⟩

/-- Of finite arguments they are the arguments. -/
theorem holds_args (hpre : Cert.Pre_Kernel2Ideal_all_finite2 m) (c : Dev nD) :
    FfnRef.Holds (argsOf m c) (arg0 m c) (arg1 m c) (arg2 m c) (arg3 m c) (arg4 m c) (arg5 m c) := by
  have h0 := congrFun (hpre c) (fun i => i.elim0)
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨fun t d => real_of (Finite.of_olt _ (Host.reduce_andi_all _ _ _ _ _ e0 (ix2 t d))),
    fun t d => real_of (Finite.of_olt _ (Host.reduce_andi_all _ _ _ _ _ e1 (ix2 t d))),
    fun d => real_of (Finite.of_olt _ (Host.reduce_andi_all _ _ _ _ _ e2 (ix2 0 d))),
    fun j f d => real_of (Finite.of_olt _ (Host.reduce_andi_all _ _ _ _ _ e3 (ix3 j f d))),
    fun j f d => real_of (Finite.of_olt _ (Host.reduce_andi_all _ _ _ _ _ e4 (ix3 j f d))),
    fun j f d => real_of (Finite.of_olt _ (Host.reduce_andi_all _ _ _ _ _ e5 (ix3 j f d)))⟩

/-! ## The claims -/

/-- The kernel, at the chip's own numbers, runs, leaves its arguments alone and its semaphores at zero. -/
theorem kernel_frame : Cert.quiescent_Kernel2 := fun m ρ _ => Cert.Kernel2.Gen.frame m ρ

/-- The same of the kernel at the ideal numbers. -/
theorem ideal_frame : Cert.quiescent_Kernel2Ideal := fun m ρ _ => Cert.Kernel2Ideal.Gen.frame m ρ

/-- The same of the reference. -/
theorem reference_frame : Cert.quiescent_Reference2Ideal := fun m ρ _ =>
  (θ_run Cert.Reference2Ideal.defs _ _).mono (fun r h => ⟨fun c => (h c).2.2.2.2.2.2, sem_eq_zero_of_no_sems (by decide) r.2⟩)
    (Cert.Reference2Ideal.Value.run (F := Ideal) m ρ)

/-- From finite arguments the kernel and the reference end with the same six results. -/
theorem same_results : Cert.algebraic_Kernel2Ideal_Reference2Ideal_pre_all_finite2 := by
  intro m ρ m' ρ' hpre agree
  refine ⟨fun c => rows (FfnSpec.dx (argsOf m c)), fun c => rows (FfnSpec.dyh (argsOf m c)), fun c => wide (FfnSpec.dg (argsOf m c)),
    fun c => wide (FfnSpec.du (argsOf m c)), fun c => wide (FfnSpec.h (argsOf m c)), fun c => one (FfnSpec.dnw (argsOf m c)),
    run_values m ρ (argsOf m) (holds_args m hpre), FfnRef.run_values m' ρ' (argsOf m) fun c => ?_⟩
  obtain ⟨a0, a1, a2, a3, a4, a5⟩ := agree c
  have h := holds_args m hpre c
  exact ⟨fun t d => (congrFun a0 _).trans (h.dy t d), fun t d => (congrFun a1 _).trans (h.x t d), fun d => (congrFun a2 _).trans (h.nw d),
    fun j f d => (congrFun a3 _).trans (h.wg j f d), fun j f d => (congrFun a4 _).trans (h.wu j f d), fun j f d => (congrFun a5 _).trans (h.wd j f d)⟩

end Cert.Proof.FfnArrays

end
-- ==== Proof.GateArrays.lean ====
/-
  A point's payloads at blocks that hold the arguments' real values, the three arrays of the kernel's run, and the claims
  of the pair.
-/
module

public import proofs.«01_k».proof.Proof.GatePoint
public import proofs.«01_k».proof.Proof.GateRef
public import proofs.«01_k».proof.Proof.FfnArrays
public import proofs.«01_k».proof.Proof.Gen.Kernel8.Frame
public import proofs.«01_k».proof.Proof.Gen.Pre_all_finite8
public import Idealize.ShloMosaic.Lib.Pointwise

@[expose] public section

set_option maxRecDepth 16384

noncomputable section

namespace Cert.Proof.GateArrays

open Idealize.ShloMosaic Idealize.ShloMosaic.TcCoe Idealize.ShloMosaic.Tactic Cert.Kernel8Ideal Cert.Kernel8Ideal.Gen
open Idealize.SL.Sem
open Idealize.ShloMosaic.Pipeline (Dat)
open Cert.Proof.GateSpec (Args hd lane colOf hd_colOf lane_colOf)
open Cert.Proof.GatePoint
open Cert.Proof.GateRef (rows one)
open Cert.Proof.FfnArrays (real_of)
open scoped BigOperators

/-! ## The payloads at an index -/

theorem pay1_ix (d : Fin 128) : k0_pay1 (F := Ideal) (ix2 0 d) = 0 := by
  pointwise [k0_pay1]

theorem pay2_ix (d : Fin 128) : k0_pay2 (F := Ideal) (ix2 0 d) = 0 := by
  pointwise [k0_pay2]

theorem pay3_ix (a b : Head) (r : Fin 512) (d : Fin 128) : k0_pay3 (F := Ideal) a b (ix2 r d) = a (ix2 r d) + b (ix2 r d) := by
  pointwise [k0_pay3]

theorem pay4_ix (a b : Head) (r : Fin 512) (k : Fin 1) : k0_pay4 (F := Ideal) a b (ix2 r k)
    = Ideal.rsqrt (Ideal.div (∑ d : Fin 128, k0_pay3 (F := Ideal) a b (ix2 r d) * k0_pay3 (F := Ideal) a b (ix2 r d)) (Ideal.ofBits .f32 0x43000000#32) + Ideal.ofBits .f32 0x358637BD#32) := by
  pointwise [k0_pay4]

theorem pay5_ix (z : Head) (r : Fin 512) (d : Fin 128) : k0_pay5 (F := Ideal) z (ix2 r d) = Ideal.div 1 (1 + Ideal.exp (0 - z (ix2 r d))) := by
  pointwise [k0_pay5]

theorem dzP_ix (a b z d : Head) (w : Wt) (r : Fin 512) (e : Fin 128) : dzP a b z d w (ix2 r e)
    = d (ix2 r e) * (k0_pay3 (F := Ideal) a b (ix2 r e) * k0_pay4 (F := Ideal) a b (ix2 r 0) * w (ix2 0 e))
      * (k0_pay5 (F := Ideal) z (ix2 r e) * (1 + z (ix2 r e) * (1 - k0_pay5 (F := Ideal) z (ix2 r e)))) := by
  pointwise [dzP, k0_pay6, k0_pay7]

theorem pay8_ix (z d s : Head) (r : Fin 512) (e : Fin 128) : k0_pay8 (F := Ideal) z d s (ix2 r e) = d (ix2 r e) * (z (ix2 r e) * s (ix2 r e)) := by
  pointwise [k0_pay8]

theorem pay9_ix (o : Head) (q : FVec Ideal S512x1 .f32) (r : Fin 512) (e : Fin 128) : k0_pay9 (F := Ideal) o q (ix2 r e) = o (ix2 r e) * q (ix2 r 0) := by
  pointwise [k0_pay9]

theorem pay10_ix (o z d s : Head) (q : FVec Ideal S512x1 .f32) (w : Wt) (r : Fin 512) (e : Fin 128) : k0_pay10 (F := Ideal) o z d q s w (ix2 r e)
    = q (ix2 r 0) * (k0_pay8 (F := Ideal) z d s (ix2 r e) * w (ix2 0 e)
      - k0_pay9 (F := Ideal) o q (ix2 r e) * Ideal.div (∑ f : Fin 128, k0_pay8 (F := Ideal) z d s (ix2 r f) * w (ix2 0 f) * k0_pay9 (F := Ideal) o q (ix2 r f)) (Ideal.ofBits .f32 0x43000000#32)) := by
  pointwise [k0_pay10]

theorem pay11_ix (a : Wt) (o z d s : Head) (q : FVec Ideal S512x1 .f32) (e : Fin 128) : k0_pay11 (F := Ideal) a o z d q s (ix2 0 e)
    = a (ix2 0 e) + ∑ r : Fin 512, k0_pay8 (F := Ideal) z d s (ix2 r e) * k0_pay9 (F := Ideal) o q (ix2 r e) := by
  pointwise [k0_pay11]

theorem lastP_ix (s old : Wt) (e : Fin 128) : lastP s old (ix2 0 e) = old (ix2 0 e) + s (ix2 0 e) := by
  pointwise [lastP]

/-! ## Their values -/

/-- Blocks that hold the arguments' values at the tokens `T`. -/
structure Holds (A : Args) (T : Fin 512 → Fin 8192) (x0 x1 x2 x3 : Blk) (x4 : Wt) : Prop where
  dy : ∀ r C, x0 (ix2 r C) = (A.dy (T r) (hd C) (lane C) : EReal)
  xf : ∀ r C, x1 (ix2 r C) = (A.xf (T r) (hd C) (lane C) : EReal)
  xb : ∀ r C, x2 (ix2 r C) = (A.xb (T r) (hd C) (lane C) : EReal)
  z : ∀ r C, x3 (ix2 r C) = (A.z (T r) (hd C) (lane C) : EReal)
  w : ∀ d, x4 (ix2 0 d) = (A.w d : EReal)

section
variable {A : Args} {T : Fin 512 → Fin 8192} {x0 x1 x2 x3 : Blk} {x4 : Wt} (H : Holds A T x0 x1 x2 x3 x4)
include H

theorem dypart (j : Fin 4) (r : Fin 512) (d : Fin 128) : part x0 j (ix2 r d) = (A.dy (T r) j d : EReal) := by
  refine (H.dy r (colOf j d)).trans ?_
  rw [hd_colOf, lane_colOf]

theorem zpart (j : Fin 4) (r : Fin 512) (d : Fin 128) : part x3 j (ix2 r d) = (A.z (T r) j d : EReal) := by
  refine (H.z r (colOf j d)).trans ?_
  rw [hd_colOf, lane_colOf]

theorem o_val (j : Fin 4) (r : Fin 512) (d : Fin 128) : k0_pay3 (F := Ideal) (part x1 j) (part x2 j) (ix2 r d) = (GateSpec.x A (T r) j d : EReal) := by
  have e1 : part x1 j (ix2 r d) = (A.xf (T r) j d : EReal) := by
    refine (H.xf r (colOf j d)).trans ?_
    rw [hd_colOf, lane_colOf]
  have e2 : part x2 j (ix2 r d) = (A.xb (T r) j d : EReal) := by
    refine (H.xb r (colOf j d)).trans ?_
    rw [hd_colOf, lane_colOf]
  rw [pay3_ix, e1, e2, ← EReal.coe_add]
  rfl

theorem rstd_val (j : Fin 4) (r : Fin 512) (k : Fin 1) : k0_pay4 (F := Ideal) (part x1 j) (part x2 j) (ix2 r k) = (GateSpec.rstd A (T r) j : EReal) := by
  rw [pay4_ix]
  simp only [o_val H, ← EReal.coe_mul, FfnSpec.coe_sum]
  rw [GateSpec.lit_128, FfnSpec.lit_eps, GateSpec.div_128, ← EReal.coe_add]
  exact GateSpec.rsqrt_ms A (T r) j

theorem sg_val (j : Fin 4) (r : Fin 512) (d : Fin 128) : k0_pay5 (F := Ideal) (part x3 j) (ix2 r d) = (GateSpec.sg A (T r) j d : EReal) := by
  rw [pay5_ix, zpart H, zero_sub, FfnSpec.sig_real]
  rfl

theorem dn_val (j : Fin 4) (r : Fin 512) (d : Fin 128) :
    k0_pay8 (F := Ideal) (part x3 j) (part x0 j) (k0_pay5 (F := Ideal) (part x3 j)) (ix2 r d) = (GateSpec.dn A (T r) j d : EReal) := by
  rw [pay8_ix, sg_val H, zpart H, dypart H]
  simp only [← EReal.coe_mul]
  rfl

theorem xhat_val (j : Fin 4) (r : Fin 512) (d : Fin 128) :
    k0_pay9 (F := Ideal) (k0_pay3 (F := Ideal) (part x1 j) (part x2 j)) (k0_pay4 (F := Ideal) (part x1 j) (part x2 j)) (ix2 r d) = (GateSpec.xhat A (T r) j d : EReal) := by
  rw [pay9_ix, rstd_val H, o_val H, ← EReal.coe_mul]
  rfl

theorem dz_val (j : Fin 4) (r : Fin 512) (d : Fin 128) : dzAt x0 x1 x2 x3 x4 j (ix2 r d) = (GateSpec.dz A (T r) j d : EReal) := by
  unfold dzAt
  rw [dzP_ix, rstd_val H, o_val H, sg_val H, zpart H, dypart H, H.w, ← EReal.coe_one]
  simp only [← EReal.coe_mul, ← EReal.coe_sub, ← EReal.coe_add]
  rfl

theorem dx_val (j : Fin 4) (r : Fin 512) (d : Fin 128) : dxAt x0 x1 x2 x3 x4 j (ix2 r d) = (GateSpec.dx A (T r) j d : EReal) := by
  unfold dxAt dxP
  rw [pay10_ix, GateSpec.lit_128]
  simp only [dn_val H, xhat_val H, rstd_val H, H.w, ← EReal.coe_mul, FfnSpec.coe_sum]
  rw [GateSpec.div_128]
  simp only [← EReal.coe_mul, ← EReal.coe_sub]
  rfl

theorem sum_val (j : Fin 4) (s : Wt) (d : Fin 128) (a : ℝ) (ha : s (ix2 0 d) = (a : EReal)) :
    sumAt x0 x1 x2 x3 j s (ix2 0 d) = ((a + ∑ r, GateSpec.dn A (T r) j d * GateSpec.xhat A (T r) j d : ℝ) : EReal) := by
  unfold sumAt sumP
  rw [pay11_ix, ha]
  simp only [dn_val H, xhat_val H, ← EReal.coe_mul, FfnSpec.coe_sum, ← EReal.coe_add]

theorem dw_val (old : Wt) (d : Fin 128) (a : ℝ) (ha : old (ix2 0 d) = (a : EReal)) :
    dwP x0 x1 x2 x3 old (ix2 0 d) = ((a + ∑ j, ∑ r, GateSpec.dn A (T r) j d * GateSpec.xhat A (T r) j d : ℝ) : EReal) := by
  have e0 := sum_val H 0 (k0_pay2 (F := Ideal)) d 0 (pay2_ix d)
  have e3 := sum_val H 3 _ d _ (sum_val H 2 _ d _ (sum_val H 1 _ d _ e0))
  unfold dwP
  rw [lastP_ix, ha, e3, ← EReal.coe_add, Fin.sum_univ_four, zero_add]

end

variable (m : (ℓ : Loc nD τ sig) → Buf (Elt Ideal) ℓ) (ρ : Dev nD → PrngReg) (c : Dev nD)

/-! ## The blocks a point reads -/

abbrev arg0 : S8192x512.Idx → EReal := m ((c.tc : Thread nD τ).loc main_arg0)
abbrev arg1 : S8192x512.Idx → EReal := m ((c.tc : Thread nD τ).loc main_arg1)
abbrev arg2 : S8192x512.Idx → EReal := m ((c.tc : Thread nD τ).loc main_arg2)
abbrev arg3 : S8192x512.Idx → EReal := m ((c.tc : Thread nD τ).loc main_arg3)
abbrev arg4 : S1x128.Idx → EReal := m ((c.tc : Thread nD τ).loc main_arg4)

/-- The token at a row of a point's block. -/
def tok (n : ℕ) (r : Fin 512) : Fin 8192 := ⟨(512 * n + r.val) % 8192, Nat.mod_lt _ (by decide)⟩

theorem tok_val (t : Fin cfg0.N) (r : Fin 512) : (tok t.val r).val = 512 * t.val + r.val := by
  have ht : t.val < 16 := Nat.lt_of_lt_of_eq t.isLt N_0
  show (512 * t.val + r.val) % 8192 = _
  omega

theorem read0 (t : Fin cfg0.N) (r C : Fin 512) : iblk m c 0 t (ix2 r C) = V m c main_arg0 (ix2 (tok t.val r) C) := by
  have x : ∀ t : Fin cfg0.N, win0_0.index t = ![t.val, 0] := by decide +kernel
  have h := tok_val t r
  blk_ext [iblk, x t, h]

theorem read1 (t : Fin cfg0.N) (r C : Fin 512) : iblk m c 1 t (ix2 r C) = V m c main_arg1 (ix2 (tok t.val r) C) := by
  have x : ∀ t : Fin cfg0.N, win0_1.index t = ![t.val, 0] := by decide +kernel
  have h := tok_val t r
  blk_ext [iblk, x t, h]

theorem read2 (t : Fin cfg0.N) (r C : Fin 512) : iblk m c 2 t (ix2 r C) = V m c main_arg2 (ix2 (tok t.val r) C) := by
  have x : ∀ t : Fin cfg0.N, win0_2.index t = ![t.val, 0] := by decide +kernel
  have h := tok_val t r
  blk_ext [iblk, x t, h]

theorem read3 (t : Fin cfg0.N) (r C : Fin 512) : iblk m c 3 t (ix2 r C) = V m c main_arg3 (ix2 (tok t.val r) C) := by
  have x : ∀ t : Fin cfg0.N, win0_3.index t = ![t.val, 0] := by decide +kernel
  have h := tok_val t r
  blk_ext [iblk, x t, h]

theorem read4 (t : Fin cfg0.N) (d : Fin 128) : iblk m c 4 t (ix2 0 d) = V m c main_arg4 (ix2 0 d) := by
  have x : ∀ t : Fin cfg0.N, win0_4.index t = ![0, 0] := by decide +kernel
  blk_ext [iblk, x t]

/-! ## What the points leave -/

theorem left5 (t : Fin cfg0.N) : (outsAt0 m c t.val t.isLt).1
    = joined fun j => dxAt (iblk m c 0 t) (iblk m c 1 t) (iblk m c 2 t) (iblk m c 3 t) (iblk m c 4 t) j := by
  by_cases h0 : t.val % 16 = 0
  · rw [outsAt0_A m c t h0]
    dsimp only
    rw [out_A_5]
  · rw [outsAt0_B m c t h0]
    dsimp only
    rw [out_B_5]

theorem left6 (t : Fin cfg0.N) : (outsAt0 m c t.val t.isLt).2.1
    = joined fun j => dzAt (iblk m c 0 t) (iblk m c 1 t) (iblk m c 2 t) (iblk m c 3 t) (iblk m c 4 t) j := by
  by_cases h0 : t.val % 16 = 0
  · rw [outsAt0_A m c t h0]
    dsimp only
    rw [out_A_6]
  · rw [outsAt0_B m c t h0]
    dsimp only
    rw [out_B_6]

theorem left7_first (t : Fin cfg0.N) (h0 : t.val % 16 = 0) : (outsAt0 m c t.val t.isLt).2.2
    = dwP (iblk m c 0 t) (iblk m c 1 t) (iblk m c 2 t) (iblk m c 3 t) (k0_pay1 (F := Ideal)) := by
  rw [outsAt0_A m c t h0]
  dsimp only
  rw [out_A_7]

theorem left7_next (t : Fin cfg0.N) (h0 : ¬t.val % 16 = 0) : (outsAt0 m c t.val t.isLt).2.2
    = dwP (iblk m c 0 t) (iblk m c 1 t) (iblk m c 2 t) (iblk m c 3 t)
      (outsAt0 m c (t.val - 1) (Nat.lt_of_le_of_lt (Nat.sub_le _ _) t.isLt)).2.2 := by
  rw [outsAt0_B m c t h0]
  dsimp only
  rw [out_B_7]

section
variable {A : Args} (H : GateRef.Holds A (arg0 m c) (arg1 m c) (arg2 m c) (arg3 m c) (arg4 m c))
include H

theorem holds (t : Fin cfg0.N) : Holds A (tok t.val) (iblk m c 0 t) (iblk m c 1 t) (iblk m c 2 t) (iblk m c 3 t) (iblk m c 4 t) where
  dy r C := (read0 m c t r C).trans (H.dy _ _)
  xf r C := (read1 m c t r C).trans (H.xf _ _)
  xb r C := (read2 m c t r C).trans (H.xb _ _)
  z r C := (read3 m c t r C).trans (H.z _ _)
  w d := (read4 m c t d).trans (H.w _)

/-! ## The arrays written block by block -/

theorem arr5 : (dats m 0 c).arrAt 5 cfg0.N = rows (GateSpec.dx A) := by
  refine (dats m 0 c).arrAt_eq_of_covers 5 _ (by decide +kernel) fun t hf y => ?_
  have x : ∀ t : Fin cfg0.N, win0_5.index t = ![t.val, 0] := by decide +kernel
  have hy : y = ix2 (n0 := 512) (n1 := 512) (y 0) (y 1) := eq_ix2 y
  generalize y 0 = r at hy
  generalize y 1 = C at hy
  subst hy
  change Fin 512 at r
  change Fin 512 at C
  have h := tok_val t r
  blk_simp
  rw [after0_5, left5]
  refine (dx_val (holds m c H t) (hd C) r (lane C)).trans ?_
  show rows (GateSpec.dx A) (ix2 (tok t.val r) C) = _
  refine congrArg (rows (GateSpec.dx A)) ?_
  blk_ext [x t, h]

theorem arr6 : (dats m 0 c).arrAt 6 cfg0.N = rows (GateSpec.dz A) := by
  refine (dats m 0 c).arrAt_eq_of_covers 6 _ (by decide +kernel) fun t hf y => ?_
  have x : ∀ t : Fin cfg0.N, win0_6.index t = ![t.val, 0] := by decide +kernel
  have hy : y = ix2 (n0 := 512) (n1 := 512) (y 0) (y 1) := eq_ix2 y
  generalize y 0 = r at hy
  generalize y 1 = C at hy
  subst hy
  change Fin 512 at r
  change Fin 512 at C
  have h := tok_val t r
  blk_simp
  rw [after0_6, left6]
  refine (dz_val (holds m c H t) (hd C) r (lane C)).trans ?_
  show rows (GateSpec.dz A) (ix2 (tok t.val r) C) = _
  refine congrArg (rows (GateSpec.dz A)) ?_
  blk_ext [x t, h]

/-! ## The array accumulated over the points -/

/-- One row's term of the weight's gradient. -/
abbrev term (A : Args) (d : Fin 128) (h : Fin 4) (t : Fin 8192) : ℝ := GateSpec.dn A t h d * GateSpec.xhat A t h d

/-- The terms of the first `n` blocks. -/
def upTo (A : Args) (d : Fin 128) (n : ℕ) : ℝ := ∑ s ∈ Finset.range n, ∑ h, ∑ r : Fin 512, term A d h (tok s r)

omit H in
theorem upTo_all (d : Fin 128) : upTo A d 16 = GateSpec.dw A d := by
  unfold upTo GateSpec.dw
  rw [Finset.sum_comm, Finset.sum_comm (s := Finset.univ (α := Fin 8192))]
  refine Finset.sum_congr rfl fun h _ => ?_
  rw [Finset.sum_range fun s => ∑ r : Fin 512, term A d h (tok s r), ← Fintype.sum_prod_type' (f := fun (s : Fin 16) (r : Fin 512) => term A d h (tok s.val r))]
  refine Fintype.sum_equiv (finProdFinEquiv (m := 16) (n := 512)) _ _ fun p => ?_
  refine congrArg (term A d h) (Fin.ext ?_)
  show (512 * p.1.val + p.2.val) % 8192 = p.2.val + 512 * p.1.val
  have h1 := p.1.isLt
  have h2 := p.2.isLt
  omega

theorem sum_at (d : Fin 128) : ∀ (n : ℕ) (hn : n < cfg0.N), (outsAt0 m c n hn).2.2 (ix2 0 d) = (upTo A d (n + 1) : EReal)
  | 0, hn => by
    have e := left7_first m c ⟨0, hn⟩ rfl
    refine (congrFun e _).trans ((dw_val (holds m c H ⟨0, hn⟩) _ d 0 (pay1_ix d)).trans ?_)
    unfold upTo
    rw [Finset.sum_range_one, zero_add]
  | n + 1, hn => by
    have hn' : n + 1 < 16 := Nat.lt_of_lt_of_eq hn N_0
    have e := left7_next m c ⟨n + 1, hn⟩ (by show ¬(n + 1) % 16 = 0; omega)
    refine (congrFun e _).trans ((dw_val (holds m c H ⟨n + 1, hn⟩) _ d _ (sum_at d n (Nat.lt_of_succ_lt hn))).trans ?_)
    show ((upTo A d (n + 1) + ∑ h, ∑ r : Fin 512, term A d h (tok (n + 1) r) : ℝ) : EReal) = _
    unfold upTo
    rw [Finset.sum_range_succ _ (n + 1)]

theorem arr7 : (dats m 0 c).arrAt 7 cfg0.N = one (GateSpec.dw A) := by
  refine (dats m 0 c).arrAt_eq_of_covers 7 _ (by decide +kernel) fun t hf y => ?_
  have x : ∀ t : Fin cfg0.N, win0_7.index t = ![0, 0] := by decide +kernel
  have fl : ∀ t : Fin cfg0.N, (cfg0.win 7).flush t = true → t.val + 1 = 16 := by decide +kernel
  have hy : y = ix2 (n0 := 1) (n1 := 128) 0 (y 1) := by
    refine (eq_ix2 y).trans (congrArg (fun z : Fin 1 => ix2 (n0 := 1) (n1 := 128) z (y 1)) ?_)
    exact Subsingleton.elim (α := Fin 1) _ _
  generalize y 1 = d at hy
  subst hy
  change Fin 128 at d
  blk_simp
  rw [after0_7]
  refine (sum_at m c H d t.val t.isLt).trans ?_
  rw [fl t hf, upTo_all]
  show one (GateSpec.dw A) (ix2 0 d) = _
  refine congrArg (one (GateSpec.dw A)) ?_
  blk_ext [x t]

end

/-! ## The run -/

theorem run_values (A : Dev nD → Args) (H : ∀ c, GateRef.Holds (A c) (arg0 m c) (arg1 m c) (arg2 m c) (arg3 m c) (arg4 m c)) :
    θ_run defs (onTc (τ := τ) (main (F := Ideal))) ⟨m, fun _ => 0, ρ⟩ fun r => ∀ c : Dev nD,
      r.2.mem ((c.tc : Thread nD τ).loc main_v0_0) = rows (GateSpec.dx (A c))
      ∧ r.2.mem ((c.tc : Thread nD τ).loc main_v0_1) = rows (GateSpec.dz (A c))
      ∧ r.2.mem ((c.tc : Thread nD τ).loc main_v0_2) = one (GateSpec.dw (A c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Cert.Kernel8Ideal.Value.run_blocks (F := Ideal) m ρ)
  obtain ⟨e5, e6, e7, keep⟩ := h c
  exact ⟨e5.trans (arr5 m c (H c)), e6.trans (arr6 m c (H c)), e7.trans (arr7 m c (H c)), keep⟩

/-! ## The precondition -/

/-- The real numbers a device's arguments hold. -/
def argsOf (c : Dev nD) : Args where
  dy t h d := EReal.toReal (arg0 m c (ix2 t (colOf h d)))
  xf t h d := EReal.toReal (arg1 m c (ix2 t (colOf h d)))
  xb t h d := EReal.toReal (arg2 m c (ix2 t (colOf h d)))
  z t h d := EReal.toReal (arg3 m c (ix2 t (colOf h d)))
  w d := EReal.toReal (arg4 m c (ix2 0 d))

instance : Subsingleton Cert.Pre_all_finite8.S_.Idx := ⟨fun a b => funext fun i => i.elim0⟩

theorem colOf_hd (C : Fin 512) : colOf (hd C) (lane C) = C := Fin.ext (by show C.val / 128 * 128 + C.val % 128 = C.val; omega)

/-- The entries of an array of finite rows, by the heads' places. -/
theorem row_of (a : S8192x512.Idx → EReal) (h : ∀ y, Finite.Fin' (a y)) (t : Fin 8192) (C : Fin 512) :
    a (ix2 t C) = (EReal.toReal (a (ix2 t (colOf (hd C) (lane C)))) : EReal) := by
  rw [colOf_hd]
  exact real_of (h _)

/-- Of finite arguments they are the arguments. -/
theorem holds_args (hpre : Cert.Pre_Kernel8Ideal_all_finite8 m) (c : Dev nD) :
    GateRef.Holds (argsOf m c) (arg0 m c) (arg1 m c) (arg2 m c) (arg3 m c) (arg4 m c) := by
  have h0 := congrFun (hpre c) (fun i => i.elim0)
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨row_of _ fun y => Finite.of_olt _ (Host.reduce_andi_all _ _ _ _ _ e0 y),
    row_of _ fun y => Finite.of_olt _ (Host.reduce_andi_all _ _ _ _ _ e1 y),
    row_of _ fun y => Finite.of_olt _ (Host.reduce_andi_all _ _ _ _ _ e2 y),
    row_of _ fun y => Finite.of_olt _ (Host.reduce_andi_all _ _ _ _ _ e3 y),
    fun d => real_of (Finite.of_olt _ (Host.reduce_andi_all _ _ _ _ _ e4 (ix2 0 d)))⟩

/-! ## The claims -/

/-- The kernel, at the chip's own numbers, runs, leaves its arguments alone and its semaphores at zero. -/
theorem kernel_frame : Cert.quiescent_Kernel8 := fun m ρ _ => Cert.Kernel8.Gen.frame m ρ

/-- The same of the kernel at the ideal numbers. -/
theorem ideal_frame : Cert.quiescent_Kernel8Ideal := fun m ρ _ => Cert.Kernel8Ideal.Gen.frame m ρ

/-- The same of the reference. -/
theorem reference_frame : Cert.quiescent_Reference8Ideal := fun m ρ _ =>
  (θ_run Cert.Reference8Ideal.defs _ _).mono (fun r h => ⟨fun c => (h c).2.2.2, sem_eq_zero_of_no_sems (by decide) r.2⟩)
    (Cert.Reference8Ideal.Value.run (F := Ideal) m ρ)

/-- From finite arguments the kernel and the reference end with the same three results. -/
theorem same_results : Cert.algebraic_Kernel8Ideal_Reference8Ideal_pre_all_finite8 := by
  intro m ρ m' ρ' hpre agree
  refine ⟨fun c => rows (GateSpec.dx (argsOf m c)), fun c => rows (GateSpec.dz (argsOf m c)), fun c => one (GateSpec.dw (argsOf m c)),
    run_values m ρ (argsOf m) (holds_args m hpre), GateRef.run_values m' ρ' (argsOf m) fun c => ?_⟩
  obtain ⟨a0, a1, a2, a3, a4⟩ := agree c
  have h := holds_args m hpre c
  exact ⟨fun t C => (congrFun a0 _).trans (h.dy t C), fun t C => (congrFun a1 _).trans (h.xf t C), fun t C => (congrFun a2 _).trans (h.xb t C),
    fun t C => (congrFun a3 _).trans (h.z t C), fun d => (congrFun a4 _).trans (h.w d)⟩

end Cert.Proof.GateArrays

end
-- ==== Proof.GateFwd.lean ====
/-
  The delta rule's output norm and gate, forward: what a point stores, the whole array, the reference, and the claims. It is over
  the extended reals: nothing is asked of the arguments.
-/
module

public import proofs.«01_k».proof.Proof.GatePoint
public import proofs.«01_k».proof.Proof.GateRef
public import proofs.«01_k».proof.Proof.Gen.Kernel9Ideal.Value
public import proofs.«01_k».proof.Proof.Gen.Kernel9.Frame
public import proofs.«01_k».proof.Proof.Gen.Reference9Ideal.Run
public import proofs.«01_k».proof.Defs
public import Idealize.ShloMosaic.Adequacy
public import Idealize.ShloMosaic.Init
public import Idealize.ShloMosaic.Lib.Quiescent
public import Idealize.ShloMosaic.Lib.Claim
public import Idealize.ShloMosaic.Lib.Pipeline.ValueKit

@[expose] public section

set_option maxRecDepth 16384

noncomputable section

namespace Cert.Proof.GateFwd

open Idealize.ShloMosaic Idealize.ShloMosaic.TcCoe Idealize.ShloMosaic.Tactic Cert.Kernel9Ideal Cert.Kernel9Ideal.Gen
open Idealize.SL.Sem
open Idealize.ShloMosaic.Pipeline (Dat)
open Cert.Proof.GateSpec (hd lane colOf hd_colOf lane_colOf)
open Cert.Proof.GatePoint (zero2 Blk Wt Head part joined ld_part piece_eq)
open Cert.Proof.GateRef (split flat oV xhatV byW sgV rowsOf msV split_ix flat_ix byW_ix rowsOf_ix msV_ix sgV_ix)
open scoped BigOperators

/-! ## The gated rows -/

/-- One entry from a head's row, the gate there and the weight there: the row normed, weighted and gated. -/
def entry (o : Fin 128 → EReal) (z w : EReal) (d : Fin 128) : EReal :=
  o d * Ideal.rsqrt (Ideal.div (∑ e : Fin 128, o e * o e) (Ideal.ofBits .f32 0x43000000#32) + Ideal.ofBits .f32 0x358637BD#32) * w
    * (z * Ideal.div 1 (1 + Ideal.exp (-z)))

/-- The whole array: the heads of a token side by side. -/
def gated (a b z : S8192x512.Idx → EReal) (w : S1x128.Idx → EReal) (y : S8192x512.Idx) : EReal :=
  entry (fun e => a (ix2 (y 0) (colOf (hd (y 1)) e)) + b (ix2 (y 0) (colOf (hd (y 1)) e))) (z (ix2 (y 0) (y 1))) (w (ix2 0 (lane (y 1)))) (lane (y 1))

theorem colOf_hd (C : Fin 512) : colOf (hd C) (lane C) = C := Fin.ext (by show C.val / 128 * 128 + C.val % 128 = C.val; omega)

/-! ## What a point stores -/

theorem pay1_ix (a b z : Head) (w : Wt) (r : Fin 512) (d : Fin 128) : k0_pay1 (F := Ideal) a b z w (ix2 r d)
    = (a (ix2 r d) + b (ix2 r d)) * Ideal.rsqrt (Ideal.div (∑ e : Fin 128, (a (ix2 r e) + b (ix2 r e)) * (a (ix2 r e) + b (ix2 r e))) (Ideal.ofBits .f32 0x43000000#32) + Ideal.ofBits .f32 0x358637BD#32) * w (ix2 0 d)
      * (z (ix2 r d) * Ideal.div 1 (1 + Ideal.exp (0 - z (ix2 r d)))) := by
  pointwise [k0_pay1]

theorem head1 (a b z : Head) (w : Wt) : k0_pay4 (F := Ideal) (k0_pay2 a b) z (k0_pay3 a b) w = k0_pay1 (F := Ideal) a b z w := rfl
theorem head2 (a b z : Head) (w : Wt) : k0_pay6 (F := Ideal) z (k0_pay5 a b w) (Scalar.ofBits .f32 0x00000000#32) = k0_pay1 (F := Ideal) a b z w := rfl
theorem head3 (a b z : Head) (w : Wt) : k0_pay7 (F := Ideal) a b z w = k0_pay1 (F := Ideal) a b z w := rfl

def headAt (x0 x1 x2 : Blk) (x3 : Wt) (j : Fin 4) : S512x128.Idx → EReal := k0_pay1 (F := Ideal) (part x0 j) (part x1 j) (part x2 j) x3

theorem out_eq (x0 x1 x2 : Blk) (x3 : Wt) : out0_4 (F := Ideal) x0 x1 x2 x3 = joined (headAt x0 x1 x2 x3) := by
  funext y
  unfold out0_4
  simp only [View.ld_unit_zero (S := S1x128) zero2, ld_part _ 0 ![0, 0] rfl, ld_part _ 1 ![0, 128] rfl, ld_part _ 2 ![0, 256] rfl, ld_part _ 3 ![0, 384] rfl,
    head1, head2, head3]
  canon_tiles x h
  · exact piece_eq (headAt x0 x1 x2 x3) 3 y x (by omega) (by omega)
  · exact piece_eq (headAt x0 x1 x2 x3) 2 y x (by omega) (by omega)
  · exact piece_eq (headAt x0 x1 x2 x3) 1 y x (by omega) (by omega)
  · exact piece_eq (headAt x0 x1 x2 x3) 0 y x (by omega) (by omega)

theorem out_ix (x0 x1 x2 : Blk) (x3 : Wt) (r C : Fin 512) : out0_4 (F := Ideal) x0 x1 x2 x3 (ix2 r C)
    = entry (fun e => x0 (ix2 r (colOf (hd C) e)) + x1 (ix2 r (colOf (hd C) e))) (x2 (ix2 r C)) (x3 (ix2 0 (lane C))) (lane C) := by
  refine (congrFun (out_eq x0 x1 x2 x3) (ix2 r C)).trans ((pay1_ix (part x0 (hd C)) (part x1 (hd C)) (part x2 (hd C)) x3 r (lane C)).trans ?_)
  have ez : part x2 (hd C) (ix2 r (lane C)) = x2 (ix2 r C) := congrArg (fun K => x2 (ix2 r K)) (colOf_hd C)
  rw [ez, zero_sub]
  rfl

/-! ## The blocks a point reads, and the array -/

variable (m : (ℓ : Loc nD τ sig) → Buf (Elt Ideal) ℓ) (ρ : Dev nD → PrngReg) (c : Dev nD)

abbrev arg0 : S8192x512.Idx → EReal := m ((c.tc : Thread nD τ).loc main_arg0)
abbrev arg1 : S8192x512.Idx → EReal := m ((c.tc : Thread nD τ).loc main_arg1)
abbrev arg2 : S8192x512.Idx → EReal := m ((c.tc : Thread nD τ).loc main_arg2)
abbrev arg3 : S1x128.Idx → EReal := m ((c.tc : Thread nD τ).loc main_arg3)

/-- The token at a row of a point's block. -/
def tok (n : ℕ) (r : Fin 512) : Fin 8192 := ⟨(512 * n + r.val) % 8192, Nat.mod_lt _ (by decide)⟩

theorem tok_val (t : Fin cfg0.N) (r : Fin 512) : (tok t.val r).val = 512 * t.val + r.val := by
  have ht : t.val < 16 := Nat.lt_of_lt_of_eq t.isLt N_0
  show (512 * t.val + r.val) % 8192 = _
  omega

theorem read0 (t : Fin cfg0.N) (r C : Fin 512) : iblk m c 0 t (ix2 r C) = V m c main_arg0 (ix2 (tok t.val r) C) := by
  have x : ∀ t : Fin cfg0.N, win0_0.index t = ![t.val, 0] := by decide +kernel
  have h := tok_val t r
  blk_ext [iblk, x t, h]

theorem read1 (t : Fin cfg0.N) (r C : Fin 512) : iblk m c 1 t (ix2 r C) = V m c main_arg1 (ix2 (tok t.val r) C) := by
  have x : ∀ t : Fin cfg0.N, win0_1.index t = ![t.val, 0] := by decide +kernel
  have h := tok_val t r
  blk_ext [iblk, x t, h]

theorem read2 (t : Fin cfg0.N) (r C : Fin 512) : iblk m c 2 t (ix2 r C) = V m c main_arg2 (ix2 (tok t.val r) C) := by
  have x : ∀ t : Fin cfg0.N, win0_2.index t = ![t.val, 0] := by decide +kernel
  have h := tok_val t r
  blk_ext [iblk, x t, h]

theorem read3 (t : Fin cfg0.N) (d : Fin 128) : iblk m c 3 t (ix2 0 d) = V m c main_arg3 (ix2 0 d) := by
  have x : ∀ t : Fin cfg0.N, win0_3.index t = ![0, 0] := by decide +kernel
  blk_ext [iblk, x t]

theorem out_at (t : Fin cfg0.N) (r C : Fin 512) : out0_4 (F := Ideal) (iblk m c 0 t) (iblk m c 1 t) (iblk m c 2 t) (iblk m c 3 t) (ix2 r C)
    = gated (arg0 m c) (arg1 m c) (arg2 m c) (arg3 m c) (ix2 (tok t.val r) C) := by
  refine (out_ix (iblk m c 0 t) (iblk m c 1 t) (iblk m c 2 t) (iblk m c 3 t) r C).trans ?_
  rw [read2, read3, funext fun e => congrArg₂ (fun a b : EReal => a + b) (read0 m c t r (colOf (hd C) e)) (read1 m c t r (colOf (hd C) e))]
  rfl

theorem arr : (dats m 0 c).arrAt 4 cfg0.N = gated (arg0 m c) (arg1 m c) (arg2 m c) (arg3 m c) := by
  refine (dats m 0 c).arrAt_eq_of_covers 4 _ (by decide +kernel) fun t hf y => ?_
  have x : ∀ t : Fin cfg0.N, win0_4.index t = ![t.val, 0] := by decide +kernel
  have hy : y = ix2 (n0 := 512) (n1 := 512) (y 0) (y 1) := eq_ix2 y
  generalize y 0 = r at hy
  generalize y 1 = C at hy
  subst hy
  change Fin 512 at r
  change Fin 512 at C
  have h := tok_val t r
  blk_simp
  rw [after0_4]
  refine (out_at m c t r C).trans ?_
  refine congrArg (gated (arg0 m c) (arg1 m c) (arg2 m c) (arg3 m c)) ?_
  blk_ext [x t, h]

theorem run_values : θ_run defs (onTc (τ := τ) (main (F := Ideal))) ⟨m, fun _ => 0, ρ⟩ fun r => ∀ c : Dev nD,
    r.2.mem ((c.tc : Thread nD τ).loc main_v0) = gated (arg0 m c) (arg1 m c) (arg2 m c) (arg3 m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run defs _ _).mono (fun _ h c => ⟨(h c).1.trans (arr m c), (h c).2⟩) (Cert.Kernel9Ideal.Value.run_blocks (F := Ideal) m ρ)

/-! ## The reference -/

/-- The reference, by the stages of the gradient's. -/
def refV (a b z : GateRef.Rows) (w : GateRef.Wt) : GateRef.Rows :=
  flat (mulf (byW (xhatV (oV a b)) w) (mulf (split z) (sgV (split z))))

theorem ref_eq (a b z : GateRef.Rows) (w : GateRef.Wt) : refV a b z w = gated a b z w := by
  have eo : ∀ t h d, oV a b (ix3 t h d) = a (ix2 t (colOf h d)) + b (ix2 t (colOf h d)) := fun t h d => split_ix (addf a b) t h d
  funext y
  have hy : y = ix2 (n0 := 8192) (n1 := 512) (y 0) (y 1) := eq_ix2 y
  generalize y 0 = t at hy
  generalize y 1 = C at hy
  subst hy
  change Fin 8192 at t
  change Fin 512 at C
  refine (flat_ix _ t C).trans ?_
  show byW (xhatV (oV a b)) w (ix3 t (hd C) (lane C)) * (split z (ix3 t (hd C) (lane C)) * sgV (split z) (ix3 t (hd C) (lane C))) = _
  rw [byW_ix, sgV_ix, split_ix, colOf_hd]
  show oV a b (ix3 t (hd C) (lane C)) * rowsOf (Host.rsqrt (msV (oV a b))) (ix3 t (hd C) (lane C)) * _ * _ = _
  rw [rowsOf_ix]
  show _ * Ideal.rsqrt (msV (oV a b) (ix3 t (hd C) 0)) * _ * _ = _
  rw [msV_ix]
  simp only [eo]
  rfl

theorem ref_values (m' : (ℓ : Loc Cert.Reference9Ideal.nD Cert.Reference9Ideal.τ Cert.Reference9Ideal.sig) → Buf (Elt Ideal) ℓ) (ρ' : Dev Cert.Reference9Ideal.nD → PrngReg) :
    θ_run Cert.Reference9Ideal.defs (onTc (τ := Cert.Reference9Ideal.τ) (Cert.Reference9Ideal.main (F := Ideal))) ⟨m', fun _ => 0, ρ'⟩ fun r => ∀ c : Dev Cert.Reference9Ideal.nD,
      r.2.mem ((c.tc : Thread Cert.Reference9Ideal.nD Cert.Reference9Ideal.τ).loc Cert.Reference9Ideal.main_v19)
        = gated (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg2)) (m' ((c.tc : Thread Cert.Reference9Ideal.nD Cert.Reference9Ideal.τ).loc Cert.Reference9Ideal.main_arg3))
      ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3) :=
  (θ_run Cert.Reference9Ideal.defs _ _).mono (fun _ h c => ⟨(h c).1.trans (ref_eq _ _ _ _), (h c).2⟩) (Cert.Reference9Ideal.Value.run (F := Ideal) m' ρ')

/-! ## The claims -/

/-- The kernel, at the chip's own numbers, runs, leaves its arguments alone and its semaphores at zero. -/
theorem kernel_frame : Cert.quiescent_Kernel9 := fun m ρ _ => Cert.Kernel9.Gen.frame m ρ

/-- The same of the kernel at the ideal numbers. -/
theorem ideal_frame : Cert.quiescent_Kernel9Ideal := fun m ρ _ => Cert.Kernel9Ideal.Gen.frame m ρ

/-- The same of the reference. -/
theorem reference_frame : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- The kernel and the reference end with the same gated rows. -/
theorem same_result : Cert.algebraic_Kernel9Ideal_Reference9Ideal := by
  intro m ρ m' ρ' _ agree
  refine ⟨fun c => gated (arg0 m c) (arg1 m c) (arg2 m c) (arg3 m c), run_values m ρ,
    (θ_run Cert.Reference9Ideal.defs _ _).mono (fun r h c => ⟨(h c).1.trans ?_, (h c).2⟩) (ref_values m' ρ')⟩
  obtain ⟨e0, e1, e2, e3⟩ := agree c
  rw [e0, e1, e2, e3]

end Cert.Proof.GateFwd

end
-- ==== Proof.MixOut.lean ====
/-
  The mixer's output projection: what a point stores, the whole array, the reference, and the claims. The rows it adds to come
  through a ring of slots the kernel fills itself: a slot read back is the block of rows landed in it. It is over the extended
  reals: nothing is asked of the arguments.
-/
module

public import proofs.«01_k».proof.Proof.Gen.Kernel10Ideal.Value
public import proofs.«01_k».proof.Proof.Gen.Kernel10.Frame
public import proofs.«01_k».proof.Proof.Gen.Reference10Ideal.Run
public import proofs.«01_k».proof.Defs
public import Idealize.ShloMosaic.Adequacy
public import Idealize.ShloMosaic.Init
public import Idealize.ShloMosaic.Lib.Quiescent
public import Idealize.ShloMosaic.Lib.Claim
public import Idealize.ShloMosaic.Lib.Pipeline.ValueKit

@[expose] public section

set_option maxRecDepth 16384

noncomputable section

namespace Cert.Proof.MixOut

open Idealize.ShloMosaic Idealize.ShloMosaic.TcCoe Idealize.ShloMosaic.Tactic
open Idealize.SL.Sem
open Idealize.ShloMosaic.Pipeline (Dat)
open scoped BigOperators

/-! ## The projection -/

/-- A row of the weight, among those of the first direction and those of the second. -/
def top (d : Fin 512) : Fin 1024 := Fin.castAdd 512 d
def bottom (d : Fin 512) : Fin 1024 := Fin.natAdd 512 d

section
open Cert.Reference10Ideal Cert.Reference10Ideal.Gen

/-- A row of each direction's outputs times its half of the weight, added to an entry. -/
def entry (x : EReal) (a b : Fin 512 → EReal) (w : Fin 1024 → EReal) : EReal :=
  x + ∑ d : Fin 512, a d * w (top d) + ∑ d : Fin 512, b d * w (bottom d)

def mixed (x : S8192x1024.Idx → EReal) (a b : S8192x512.Idx → EReal) (w : S1024x1024.Idx → EReal) (y : S8192x1024.Idx) : EReal :=
  entry (x (ix2 (y 0) (y 1))) (fun d => a (ix2 (y 0) d)) (fun d => b (ix2 (y 0) d)) (fun e => w (ix2 e (y 1)))

/-! ## The reference -/

abbrev besideV (a b : FVec Ideal S8192x512 .f32) : FVec Ideal S8192x1024 .f32 :=
  concatenate S8192x1024 1 [⟨S8192x512, a⟩, ⟨S8192x512, b⟩] concatenates_S8192x512_S8192x512_S8192x1024_d1

theorem beside_top (a b : FVec Ideal S8192x512 .f32) (t : Fin 8192) (d : Fin 512) : besideV a b (ix2 t (top d)) = a (ix2 t d) :=
  concatenate_pair_apply_left 1 a b _ (ix2 t (top d)) rfl (ix2 t d) (fun k => by match k with | ⟨0, _⟩ => rfl | ⟨1, _⟩ => rfl)

theorem beside_bottom (a b : FVec Ideal S8192x512 .f32) (t : Fin 8192) (d : Fin 512) : besideV a b (ix2 t (bottom d)) = b (ix2 t d) :=
  concatenate_pair_apply_right 1 a b _ (ix2 t (bottom d)) rfl rfl (ix2 t d) (fun k hk => by match k with | ⟨0, _⟩ => rfl | ⟨1, _⟩ => exact absurd rfl hk)
    (Nat.add_comm d.val 512)

theorem ref_eq (x : FVec Ideal S8192x1024 .f32) (a b : FVec Ideal S8192x512 .f32) (w : FVec Ideal S1024x1024 .f32) :
    addf x (Host.dotGeneral dot_S8192x1024_S1024x1024_S8192x1024_1_0_0_1_n_n none (besideV a b) w) = mixed x a b w := by
  have e : ∀ (v : FVec Ideal S8192x1024 .f32) (t : Fin 8192) (f : Fin 1024),
      addf x (Host.dotGeneral dot_S8192x1024_S1024x1024_S8192x1024_1_0_0_1_n_n none v w) (ix2 t f) = x (ix2 t f) + ∑ e : Fin 1024, v (ix2 t e) * w (ix2 e f) := by
    intro v t f
    pointwise
  funext y
  rw [eq_ix2 y]
  refine (e _ (y 0) (y 1)).trans ?_
  refine (congrArg (x (ix2 (y 0) (y 1)) + ·) (Fin.sum_univ_add (a := 512) (b := 512) fun e : Fin 1024 => besideV a b (ix2 (y 0) e) * w (ix2 e (y 1)))).trans ?_
  refine (add_assoc _ _ _).symm.trans ?_
  refine congrArg₂ (· + ·) (congrArg (x (ix2 (y 0) (y 1)) + ·) (Finset.sum_congr rfl fun d _ => ?_)) (Finset.sum_congr rfl fun d _ => ?_)
  · exact congrArg (· * w (ix2 (top d) (y 1))) (beside_top a b (y 0) d)
  · exact congrArg (· * w (ix2 (bottom d) (y 1))) (beside_bottom a b (y 0) d)

end

/-! ## What a point stores -/

open Cert.Kernel10Ideal Cert.Kernel10Ideal.Gen

theorem zero2 : (![0, 0] : Fin 2 → ℕ) = fun _ => 0 := by
  funext k
  match k with
  | ⟨0, _⟩ => rfl
  | ⟨1, _⟩ => rfl

/-- The store, of the rows read from the slot. -/
def stored (x : FVec Ideal S512x1024 .f32) (x0 : Vec Ideal S512x512 .bf16) (x1 : Vec Ideal S512x512 .f32) (x2 : Vec Ideal S1024x1024 .bf16) (y : S512x1024.Idx) : EReal :=
  entry (x (ix2 (y 0) (y 1))) (fun d => x0 (ix2 (y 0) d)) (fun d => x1 (ix2 (y 0) d)) (fun e => x2 (ix2 e (y 1)))

theorem pay_ix (v : Vec Ideal S1x512x1024 .f32) (x0 : Vec Ideal S512x512 .bf16) (x1 : Vec Ideal S512x512 .f32) (wt wb : Vec Ideal S512x1024 .bf16) (r : Fin 512) (f : Fin 1024) :
    k0_pay1 (F := Ideal) v x0 wt x1 wb (ix2 r f)
    = v (ix3 0 r f) + ∑ d : Fin 512, x0 (ix2 r d) * wt (ix2 d f) + ∑ d : Fin 512, x1 (ix2 r d) * wb (ix2 d f) := by
  pointwise [k0_pay1]

theorem ld_top (w : Vec Ideal S1024x1024 .bf16) (d : Fin 512) (f : Fin 1024) :
    View.ld w (Rect.unit (s := S1024x1024) ![0, 0] ![512, 1024] inb_S1024x1024_S512x1024_0_0) (ix2 d f) = w (ix2 (top d) f) := by
  refine View.ld_unit_apply_of w _ _ _ _ (ix2 (top d) f) fun b => ?_
  match b with
  | ⟨0, _⟩ => exact (Nat.zero_add _).symm
  | ⟨1, _⟩ => exact (Nat.zero_add _).symm

theorem ld_bottom (w : Vec Ideal S1024x1024 .bf16) (d : Fin 512) (f : Fin 1024) :
    View.ld w (Rect.unit (s := S1024x1024) ![512, 0] ![512, 1024] inb_S1024x1024_S512x1024_512_0) (ix2 d f) = w (ix2 (bottom d) f) := by
  refine View.ld_unit_apply_of w _ _ _ _ (ix2 (bottom d) f) fun b => ?_
  match b with
  | ⟨0, _⟩ => rfl
  | ⟨1, _⟩ => exact (Nat.zero_add _).symm

/-- A slot of the ring read back is the block landed in it. -/
theorem landed_ix (s : Fin 3) (off : Fin 3 → ℕ) (inb) (ho : off = ![s.val, 0, 0]) (f) (g : FVec Ideal S512x1024 .f32) (r : Fin 512) (d : Fin 1024) :
    View.readAt (Elt Ideal) (View.whole cc0_scratch0) (Rect.unit (s := S3x512x1024) off ![1, 512, 1024] inb).toLoadRect
      ((rslot0_0 s).view.writes (Elt Ideal) f [⟨Rect.whole S512x1024, g⟩]) (ix3 0 r d) = g (ix2 r d) := by
  subst ho
  have hc : S1x512x1024.ShapeCasts S512x1024 := by decide
  have e : shapeCast S512x1024 (View.readAt (Elt Ideal) (View.whole cc0_scratch0) (Rect.unit (s := S3x512x1024) ![s.val, 0, 0] ![1, 512, 1024] inb).toLoadRect
      ((rslot0_0 s).view.writes (Elt Ideal) f [⟨Rect.whole S512x1024, g⟩])) hc = g :=
    View.read_writes_whole (rslot0_0 s).view f g
  refine Eq.trans ?_ (congrFun e (ix2 r d))
  generalize View.readAt (Elt Ideal) (View.whole cc0_scratch0) (Rect.unit (s := S3x512x1024) ![s.val, 0, 0] ![1, 512, 1024] inb).toLoadRect
      ((rslot0_0 s).view.writes (Elt Ideal) f [⟨Rect.whole S512x1024, g⟩]) = v
  change FVec Ideal S1x512x1024 .f32 at v
  have q : ∀ u : FVec Ideal S1x512x1024 .f32, shapeCast S512x1024 u hc (ix2 r d) = u (ix3 0 r d) := fun u => by pointwise
  exact (q v).symm

theorem point_eq (s : Fin 3) (off : Fin 3 → ℕ) (inb) (ho : off = ![s.val, 0, 0]) (f) (g : FVec Ideal S512x1024 .f32)
    (x0 : Vec Ideal S512x512 .bf16) (x1 : Vec Ideal S512x512 .f32) (x2 : Vec Ideal S1024x1024 .bf16) :
    k0_pay1 (F := Ideal) (View.readAt (Elt Ideal) (View.whole cc0_scratch0) (Rect.unit (s := S3x512x1024) off ![1, 512, 1024] inb).toLoadRect
        ((rslot0_0 s).view.writes (Elt Ideal) f [⟨Rect.whole S512x1024, g⟩]))
      x0 (View.ld x2 (Rect.unit (s := S1024x1024) ![0, 0] ![512, 1024] inb_S1024x1024_S512x1024_0_0)) x1
      (View.ld x2 (Rect.unit (s := S1024x1024) ![512, 0] ![512, 1024] inb_S1024x1024_S512x1024_512_0)) = stored g x0 x1 x2 := by
  funext y
  rw [eq_ix2 y]
  refine (pay_ix _ _ _ _ _ (y 0) (y 1)).trans ?_
  refine congrArg₂ (· + ·) (congrArg₂ (· + ·) (landed_ix s off inb ho f g (y 0) (y 1)) (Finset.sum_congr rfl fun d _ => ?_)) (Finset.sum_congr rfl fun d _ => ?_)
  · exact congrArg (x0 (ix2 (y 0) d) * ·) (ld_top x2 d (y 1))
  · exact congrArg (x1 (ix2 (y 0) d) * ·) (ld_bottom x2 d (y 1))

section
variable (c : Dev nD) (t : Fin cfg0.N) (arg1 : Memref sig .tc .vmem S512x512 .bf16) (h1 : arg1.IsWhole) (arg2 : Memref sig .tc .vmem S512x512 .f32) (h2 : arg2.IsWhole)
  (arg3 : Memref sig .tc .vmem S1024x1024 .bf16) (h3 : arg3.IsWhole) (arg5 : Memref sig .tc .vmem S512x1024 .f32) (h5 : arg5.IsWhole)
  (x0 : Vec Ideal S512x512 .bf16) (x1 : Vec Ideal S512x512 .f32) (x2 : Vec Ideal S1024x1024 .bf16) (fh0 : HbBuf0 (F := Ideal) c hbM0_0)

/-- The block of rows a point's slot holds. -/
abbrev rows : FVec Ideal S512x1024 .f32 := (srcB0_0 (Ring.bk 16 t.val)).view.read (Elt Ideal) fh0

theorem out_A (hc0 : cond0_0 (grid0.coords t)) (hc1 : cond0_1 (grid0.coords t)) :
    out0_A_3 (F := Ideal) c t arg1 h1 arg2 h2 arg3 h3 arg5 h5 hc0 hc1 x0 x1 x2 fh0 = stored (rows c t fh0) x0 x1 x2 := by
  unfold out0_A_3
  rw [View.read_writes_eq_canon _ _ _ (cover0_A_3 c t arg1 h1 arg2 h2 arg3 h3 arg5 h5 hc0 hc1 x0 x1 x2 fh0)]
  unfold kernelRun0_A
  dsimp only
  (sl_unfold_words)
  rw [View.canon_unit_zero zero2]
  simp only [View.readAt_eq_ld, h1.read_unread, h2.read_unread, h3.read_unread, View.ld_unit_zero (S := S512x512) zero2]
  exact point_eq (Ring.sl 3 t.val) _ _ (coff0_0_13 t) _ _ x0 x1 x2

theorem out_B (hc0 : ¬cond0_0 (grid0.coords t)) (hc1 : cond0_1 (grid0.coords t)) :
    out0_B_3 (F := Ideal) c t arg1 h1 arg2 h2 arg3 h3 arg5 h5 hc0 hc1 x0 x1 x2 fh0 = stored (rows c t fh0) x0 x1 x2 := by
  unfold out0_B_3
  rw [View.read_writes_eq_canon _ _ _ (cover0_B_3 c t arg1 h1 arg2 h2 arg3 h3 arg5 h5 hc0 hc1 x0 x1 x2 fh0)]
  unfold kernelRun0_B
  dsimp only
  (sl_unfold_words)
  rw [View.canon_unit_zero zero2]
  simp only [View.readAt_eq_ld, h1.read_unread, h2.read_unread, h3.read_unread, View.ld_unit_zero (S := S512x512) zero2]
  exact point_eq (Ring.sl 3 t.val) _ _ (coff0_0_13 t) _ _ x0 x1 x2

theorem out_C (hc0 : ¬cond0_0 (grid0.coords t)) (hc1 : ¬cond0_1 (grid0.coords t)) :
    out0_C_3 (F := Ideal) c t arg1 h1 arg2 h2 arg3 h3 arg5 h5 hc0 hc1 x0 x1 x2 fh0 = stored (rows c t fh0) x0 x1 x2 := by
  unfold out0_C_3
  rw [View.read_writes_eq_canon _ _ _ (cover0_C_3 c t arg1 h1 arg2 h2 arg3 h3 arg5 h5 hc0 hc1 x0 x1 x2 fh0)]
  unfold kernelRun0_C
  dsimp only
  (sl_unfold_words)
  rw [View.canon_unit_zero zero2]
  simp only [View.readAt_eq_ld, h1.read_unread, h2.read_unread, h3.read_unread, View.ld_unit_zero (S := S512x512) zero2]
  exact point_eq (Ring.sl 3 t.val) _ _ (coff0_0_13 t) _ _ x0 x1 x2

end

/-! ## The blocks a point reads, and the array -/

variable (m : (ℓ : Loc nD τ sig) → Buf (Elt Ideal) ℓ) (ρ : Dev nD → PrngReg) (c : Dev nD)

abbrev argX : S8192x1024.Idx → EReal := m ((c.tc : Thread nD τ).loc main_arg0)
abbrev argA : S8192x512.Idx → EReal := m ((c.tc : Thread nD τ).loc main_arg1)
abbrev argB : S8192x512.Idx → EReal := m ((c.tc : Thread nD τ).loc main_arg2)
abbrev argW : S1024x1024.Idx → EReal := m ((c.tc : Thread nD τ).loc main_arg3)

theorem V_a : V m c main_v0 = truncf (F := Ideal) .bf16 (argA m c) bitsLt_bf16_f32 := by
  unfold_abbrev_sides
  after_results
theorem V_w : V m c main_v1 = truncf (F := Ideal) .bf16 (argW m c) bitsLt_bf16_f32 := by
  unfold_abbrev_sides
  after_results

/-- The token at a row of a point's block. -/
def tok (n : ℕ) (r : Fin 512) : Fin 8192 := ⟨(512 * n + r.val) % 8192, Nat.mod_lt _ (by decide)⟩

theorem tok_val (t : Fin cfg0.N) (r : Fin 512) : (tok t.val r).val = 512 * t.val + r.val := by
  have ht : t.val < 16 := Nat.lt_of_lt_of_eq t.isLt N_0
  show (512 * t.val + r.val) % 8192 = _
  omega

theorem bk_val (t : Fin cfg0.N) : (Ring.bk 16 t.val).val = t.val := by
  have ht : t.val < 16 := Nat.lt_of_lt_of_eq t.isLt N_0
  exact Nat.mod_eq_of_lt ht

theorem read_x (t : Fin cfg0.N) (r : Fin 512) (d : Fin 1024) : rows c t (V m c main_arg0) (ix2 r d) = argX m c (ix2 (tok t.val r) d) := by
  rw [V_main_arg0]
  show argX m c ((Rect.unit (s := S8192x1024) ![512 * (Ring.bk 16 t.val).val, 0] S512x1024.size (inb_src0_0 (Ring.bk 16 t.val))).emb (ix2 r d)) = _
  refine congrArg (argX m c) (funext fun a => Fin.ext ?_)
  have hb := bk_val t
  have h := tok_val t r
  match a with
  | ⟨0, _⟩ => show 512 * (Ring.bk 16 t.val).val + 1 * r.val = (tok t.val r).val; omega
  | ⟨1, _⟩ => show 0 + 1 * d.val = d.val; omega

theorem read_a (t : Fin cfg0.N) (r d : Fin 512) : iblk m c 0 t (ix2 r d) = argA m c (ix2 (tok t.val r) d) := by
  have x : ∀ t : Fin cfg0.N, win0_0.index t = ![t.val, 0] := by decide +kernel
  have h := tok_val t r
  have e : iblk m c 0 t (ix2 r d) = V m c main_v0 (ix2 (tok t.val r) d) := by
    blk_ext [iblk, x t, h]
  rw [e, V_a]
  rfl

theorem read_b (t : Fin cfg0.N) (r d : Fin 512) : iblk m c 1 t (ix2 r d) = argB m c (ix2 (tok t.val r) d) := by
  have x : ∀ t : Fin cfg0.N, win0_1.index t = ![t.val, 0] := by decide +kernel
  have h := tok_val t r
  have e : iblk m c 1 t (ix2 r d) = V m c main_arg2 (ix2 (tok t.val r) d) := by
    blk_ext [iblk, x t, h]
  rw [e, V_main_arg2]

theorem read_w (t : Fin cfg0.N) (e f : Fin 1024) : iblk m c 2 t (ix2 e f) = argW m c (ix2 e f) := by
  have x : ∀ t : Fin cfg0.N, win0_2.index t = ![0, 0] := by decide +kernel
  have h : iblk m c 2 t (ix2 e f) = V m c main_v1 (ix2 e f) := by
    blk_ext [iblk, x t]
  rw [h, V_w]
  rfl

theorem stored_at (t : Fin cfg0.N) (r : Fin 512) (f : Fin 1024) :
    stored (rows c t (V m c main_arg0)) (iblk m c 0 t) (iblk m c 1 t) (iblk m c 2 t) (ix2 r f)
    = mixed (argX m c) (argA m c) (argB m c) (argW m c) (ix2 (tok t.val r) f) := by
  show entry (rows c t (V m c main_arg0) (ix2 r f)) (fun d => iblk m c 0 t (ix2 r d)) (fun d => iblk m c 1 t (ix2 r d)) (fun e => iblk m c 2 t (ix2 e f)) = _
  rw [read_x m c t r f, funext fun d => read_a m c t r d, funext fun d => read_b m c t r d, funext fun e => read_w m c t e f]
  rfl

theorem after_eq (t : Fin cfg0.N) : outsAt0 m c t.val t.isLt = stored (rows c t (V m c main_arg0)) (iblk m c 0 t) (iblk m c 1 t) (iblk m c 2 t) := by
  by_cases h0 : t.val % 16 = 0
  · have h1 : t.val < 14 := by
      have ht : t.val < 16 := Nat.lt_of_lt_of_eq t.isLt N_0
      omega
    exact (outsAt0_A m c t h0 h1).trans (out_A ..)
  · by_cases h1 : t.val < 14
    · exact (outsAt0_B m c t h0 h1).trans (out_B ..)
    · exact (outsAt0_C m c t h0 h1).trans (out_C ..)

theorem arr : (dats m 0 c).arrAt 3 cfg0.N = mixed (argX m c) (argA m c) (argB m c) (argW m c) := by
  refine (dats m 0 c).arrAt_eq_of_covers 3 _ (by decide +kernel) fun t hf y => ?_
  have x : ∀ t : Fin cfg0.N, win0_3.index t = ![t.val, 0] := by decide +kernel
  have hy : y = ix2 (n0 := 512) (n1 := 1024) (y 0) (y 1) := eq_ix2 y
  generalize y 0 = r at hy
  generalize y 1 = f at hy
  subst hy
  change Fin 512 at r
  change Fin 1024 at f
  have h := tok_val t r
  blk_simp
  rw [after0_3, after_eq]
  refine (stored_at m c t r f).trans ?_
  refine congrArg (mixed (argX m c) (argA m c) (argB m c) (argW m c)) ?_
  blk_ext [x t, h]

theorem run_values : θ_run defs (onTc (τ := τ) (main (F := Ideal))) ⟨m, fun _ => 0, ρ⟩ fun r => ∀ c : Dev nD,
    r.2.mem ((c.tc : Thread nD τ).loc main_v2) = mixed (argX m c) (argA m c) (argB m c) (argW m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run defs _ _).mono (fun _ h c => ⟨(h c).1.trans (arr m c), (h c).2⟩) (Cert.Kernel10Ideal.Value.run_blocks (F := Ideal) m ρ)

/-! ## The claims -/

/-- The kernel, at the chip's own numbers, runs, leaves its arguments alone and its semaphores at zero. -/
theorem kernel_frame : Cert.quiescent_Kernel10 := fun m ρ _ => Cert.Kernel10.Gen.frame m ρ

/-- The same of the kernel at the ideal numbers. -/
theorem ideal_frame : Cert.quiescent_Kernel10Ideal := fun m ρ _ => Cert.Kernel10Ideal.Gen.frame m ρ

/-- The same of the reference. -/
theorem reference_frame : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

/-- The kernel and the reference end with the same rows. -/
theorem same_result : Cert.algebraic_Kernel10Ideal_Reference10Ideal := by
  intro m ρ m' ρ' _ agree
  refine ⟨fun c => mixed (argX m c) (argA m c) (argB m c) (argW m c), run_values m ρ,
    (θ_run Cert.Reference10Ideal.defs _ _).mono (fun r h c => ⟨(h c).1.trans ((ref_eq _ _ _ _).trans ?_), (h c).2⟩) (Cert.Reference10Ideal.Value.run (F := Ideal) m' ρ')⟩
  obtain ⟨e0, e1, e2, e3⟩ := agree c
  rw [e0, e1, e2, e3]

end Cert.Proof.MixOut

end
-- ==== Proof.GatesGrad.lean ====
/-
  The partial gradient of the gates' columns of the combined projection's weight, sixteen and those after them to 128 lanes, from four
  sums over quarters of the tokens.
-/
module

public import proofs.«01_k».proof.Proof.Gen.Kernel11Ideal.Value
public import proofs.«01_k».proof.Proof.Gen.Reference11Ideal.Run
public import proofs.«01_k».proof.Proof.Gen.Kernel11.Frame
public import proofs.«01_k».proof.Proof.Quarters
public import proofs.«01_k».proof.Defs
public import Idealize.ShloMosaic.Adequacy
public import Idealize.ShloMosaic.Init
public import Idealize.ShloMosaic.Lib.Quiescent
public import Idealize.ShloMosaic.Lib.Claim
public import Idealize.ShloMosaic.Lib.Pipeline.ValueKit

@[expose] public section

set_option maxRecDepth 16384

noncomputable section

namespace Cert.Proof.GatesGrad

open Idealize.ShloMosaic Idealize.ShloMosaic.TcCoe Idealize.ShloMosaic.Tactic Cert.Kernel11Ideal Cert.Kernel11Ideal.Gen
open Idealize.SL.Sem
open Idealize.ShloMosaic.Pipeline (Dat)
open Cert.Proof.Quarters (zero2 zero3 upTo upTo_one upTo_succ upTo_all)

variable (m : (ℓ : Loc nD τ sig) → Buf (Elt Ideal) ℓ) (ρ : Dev nD → PrngReg) (c : Dev nD)

/-! ## What a point leaves -/

section
variable (i : grid0.Coords) (arg1 : Memref sig .tc .vmem S2048x128 .bf16) (h1 : arg1.IsWhole) (arg2 : Memref sig .tc .vmem S2048x1024 .bf16) (h2 : arg2.IsWhole)
  (arg3 : Memref sig .tc .vmem S1x128x1024 .bf16) (h3 : arg3.IsWhole) (arg4 : Memref sig .tc .vmem S128x1024 .f32) (h4 : arg4.IsWhole)
  (x0 : Vec Ideal S2048x128 .bf16) (x1 : Vec Ideal S2048x1024 .bf16) (s : Vec Ideal S128x1024 .f32)

/-- The first point leaves its own sum in the accumulator. -/
theorem first_sum (hc0 : cond0_0 i) (hc1 : ¬cond0_1 i) :
    sout0_A_0 c i arg1 h1 arg2 h2 arg3 h3 arg4 h4 hc0 hc1 x0 x1 = k0_pay2 k0_pay1 x0 x1 := by
  unfold sout0_A_0
  rw [View.read_writes_eq_canon _ _ _ (scover0_A_0 c i arg1 h1 arg2 h2 arg3 h3 arg4 h4 hc0 hc1 x0 x1)]
  unfold kernelRun0_A
  dsimp only
  (sl_unfold_words)
  rw [View.canon_cons_unit_zero zero2]
  simp only [View.readCov_unit_zero (S := S128x1024) _ zero2, View.readAt_eq_ld, h1.read_unread, h2.read_unread, View.ld_unit_zero (S := S2048x128) zero2, View.ld_unit_zero (S := S2048x1024) zero2]

/-- A later point adds its own. -/
theorem next_sum (hc0 : ¬cond0_0 i) (hc1 : ¬cond0_1 i) :
    sout0_B_0 c i arg1 h1 arg2 h2 arg3 h3 arg4 h4 hc0 hc1 x0 x1 s = k0_pay2 s x0 x1 := by
  unfold sout0_B_0
  rw [View.read_writes_eq_canon _ _ _ (scover0_B_0 c i arg1 h1 arg2 h2 arg3 h3 arg4 h4 hc0 hc1 x0 x1 s)]
  unfold kernelRun0_B
  dsimp only
  (sl_unfold_words)
  rw [View.canon_unit_zero zero2]
  simp only [View.readAt_eq_ld, h1.read_unread, h2.read_unread, h4.read_unread, View.ld_unit_zero (S := S2048x128) zero2, View.ld_unit_zero (S := S2048x1024) zero2, View.ld_unit_zero (S := S128x1024) zero2]

/-- The last point adds its own too, and writes the total out. -/
theorem last_out (hc0 : ¬cond0_0 i) (hc1 : cond0_1 i) :
    out0_C_2 c i arg1 h1 arg2 h2 arg3 h3 arg4 h4 hc0 hc1 x0 x1 s = k0_pay3 (k0_pay2 s x0 x1) := by
  unfold out0_C_2
  rw [View.read_writes_eq_canon _ _ _ (cover0_C_2 c i arg1 h1 arg2 h2 arg3 h3 arg4 h4 hc0 hc1 x0 x1 s)]
  unfold kernelRun0_C
  dsimp only
  (sl_unfold_words)
  rw [View.canon_unit_zero zero3]
  simp only [View.readCov_unit_zero (S := S128x1024) _ zero2, View.readAt_eq_ld, h1.read_unread, h2.read_unread, h4.read_unread, View.ld_unit_zero (S := S2048x128) zero2, View.ld_unit_zero (S := S2048x1024) zero2, View.ld_unit_zero (S := S128x1024) zero2]

theorem pay2_ix (f : Fin 128) (d : Fin 1024) : k0_pay2 s x0 x1 (ix2 f d) = s (ix2 f d) + ∑ k : Fin 2048, x0 (ix2 k f) * x1 (ix2 k d) := by
  pointwise [k0_pay2]

theorem pay1_ix (f : Fin 128) (d : Fin 1024) : k0_pay1 (F := Ideal) (ix2 f d) = 0 := by
  pointwise [k0_pay1]

theorem pay3_ix (f : Fin 128) (d : Fin 1024) : k0_pay3 s (ix3 0 f d) = s (ix2 f d) := by
  pointwise [k0_pay3]

end

/-! ## The blocks a point reads -/

abbrev argA : S8192x128.Idx → EReal := m ((c.tc : Thread nD τ).loc main_arg0)
abbrev argB : S8192x1024.Idx → EReal := m ((c.tc : Thread nD τ).loc main_arg1)

theorem V_a : V m c main_v0 = truncf (F := Ideal) .bf16 (argA m c) bitsLt_bf16_f32 := by
  unfold_abbrev_sides
  after_results

theorem V_b : V m c main_v1 = truncf (F := Ideal) .bf16 (argB m c) bitsLt_bf16_f32 := by
  unfold_abbrev_sides
  after_results

theorem read_a (t : Fin cfg0.N) (k : Fin 2048) (f : Fin 128) : iblk m c 0 t (ix2 k f) = argA m c (ix2 (Quarters.tok t.val k) f) := by
  have x : ∀ t : Fin cfg0.N, win0_0.index t = ![t.val % 4, 0] := by decide +kernel
  have ht : t.val < 4 := Nat.lt_of_lt_of_eq t.isLt N_0
  have h := Quarters.tok_val t.val ht k
  have e1 : iblk m c 0 t (ix2 k f) = V m c main_v0 (ix2 (Quarters.tok t.val k) f) := by
    blk_ext [iblk, x t, h]
  rw [e1, V_a]
  rfl

theorem read_b (t : Fin cfg0.N) (k : Fin 2048) (d : Fin 1024) : iblk m c 1 t (ix2 k d) = argB m c (ix2 (Quarters.tok t.val k) d) := by
  have x : ∀ t : Fin cfg0.N, win0_1.index t = ![t.val % 4, 0] := by decide +kernel
  have ht : t.val < 4 := Nat.lt_of_lt_of_eq t.isLt N_0
  have h := Quarters.tok_val t.val ht k
  have e1 : iblk m c 1 t (ix2 k d) = V m c main_v1 (ix2 (Quarters.tok t.val k) d) := by
    blk_ext [iblk, x t, h]
  rw [e1, V_b]
  rfl

/-- The terms of one entry of the gradient, token by token. -/
def term (a : S8192x128.Idx → EReal) (b : S8192x1024.Idx → EReal) (f : Fin 128) (d : Fin 1024) (k : Fin 8192) : EReal := a (ix2 k f) * b (ix2 k d)

/-- The gradient: each entry is a sum over all the tokens. -/
def grad (a : S8192x128.Idx → EReal) (b : S8192x1024.Idx → EReal) (y : S1x128x1024.Idx) : EReal := ∑ k, term a b (y 1) (y 2) k

theorem pay2_at (t : Fin cfg0.N) (s : Vec Ideal S128x1024 .f32) (f : Fin 128) (d : Fin 1024) :
    k0_pay2 s (iblk m c 0 t) (iblk m c 1 t) (ix2 f d) = s (ix2 f d) + ∑ k : Fin 2048, term (argA m c) (argB m c) f d (Quarters.tok t.val k) := by
  rw [pay2_ix]
  simp only [read_a, read_b]
  rfl

/-! ## The whole array -/

theorem sum_at (f : Fin 128) (d : Fin 1024) : ∀ (n : ℕ) (hn : n < cfg0.N) (_ : n < 3),
    (outsAt0 m c n hn).2 (ix2 f d) = upTo (term (argA m c) (argB m c) f d) (n + 1)
  | 0, hn, _ => by
    have e := outsAt0_A m c ⟨0, hn⟩ rfl (by show ¬0 % 4 = 3; decide)
    rw [e]
    dsimp only
    rw [first_sum]
    refine (pay2_at m c ⟨0, hn⟩ _ f d).trans ?_
    rw [pay1_ix, zero_add, upTo_one]
  | n + 1, hn, h3 => by
    have e := outsAt0_B m c ⟨n + 1, hn⟩ (by show ¬(n + 1) % 4 = 0; omega) (by show ¬(n + 1) % 4 = 3; omega)
    rw [e]
    dsimp only
    rw [next_sum]
    refine (pay2_at m c ⟨n + 1, hn⟩ _ f d).trans ?_
    refine (congrArg (· + _) (sum_at f d n (Nat.lt_of_succ_lt hn) (Nat.lt_of_succ_lt h3))).trans ?_
    rw [upTo_succ _ (n + 1)]

theorem out_at (t : Fin cfg0.N) (h : t.val = 3) (f : Fin 128) (d : Fin 1024) :
    (outsAt0 m c t.val t.isLt).1 (ix3 0 f d) = ∑ k, term (argA m c) (argB m c) f d k := by
  have e := outsAt0_C m c t (by omega) (by omega)
  rw [e]
  dsimp only
  rw [last_out, pay3_ix]
  refine (pay2_at m c t _ f d).trans ?_
  refine (congrArg (· + _) (sum_at m c f d (t.val - 1) _ (by omega))).trans ?_
  rw [h, ← upTo_all]
  exact (upTo_succ _ 3).symm

theorem arr : (dats m 0 c).arrAt 2 cfg0.N = grad (argA m c) (argB m c) := by
  refine (dats m 0 c).arrAt_eq_of_covers 2 _ (by decide +kernel) fun t hf y => ?_
  have x : ∀ t : Fin cfg0.N, win0_2.index t = ![0, 0, 0] := by decide +kernel
  have fl : ∀ t : Fin cfg0.N, (cfg0.win 2).flush t = true → t.val = 3 := by decide +kernel
  have hy : y = ix3 (n0 := 1) (n1 := 128) (n2 := 1024) 0 (y 1) (y 2) := by
    refine (eq_ix3 y).trans (congrArg (fun z : Fin 1 => ix3 (n0 := 1) (n1 := 128) (n2 := 1024) z (y 1) (y 2)) ?_)
    exact Subsingleton.elim (α := Fin 1) _ _
  generalize y 1 = f at hy
  generalize y 2 = d at hy
  subst hy
  change Fin 128 at f
  change Fin 1024 at d
  blk_simp
  rw [after0_2]
  refine (out_at m c t (fl t hf) f d).trans ?_
  show grad (argA m c) (argB m c) (ix3 0 f d) = _
  refine congrArg (grad (argA m c) (argB m c)) ?_
  blk_ext [x t]

/-! ## The runs -/

theorem run_values : θ_run defs (onTc (τ := τ) (main (F := Ideal))) ⟨m, fun _ => 0, ρ⟩ fun r => ∀ c : Dev nD,
    r.2.mem ((c.tc : Thread nD τ).loc main_v2) = grad (argA m c) (argB m c)
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun _ h c => ⟨(h c).1.trans ((Cert.Kernel11Ideal.Value.final2 m c).symm.trans (arr m c)), (h c).2⟩) (Cert.Kernel11Ideal.Value.run m ρ)

theorem ref_ix (a : FVec Ideal Cert.Reference11Ideal.S8192x128 .f32) (b : FVec Ideal Cert.Reference11Ideal.S8192x1024 .f32) :
    broadcastInDim Cert.Reference11Ideal.S1x128x1024 ![1, 2] Cert.Reference11Ideal.Gen.bcast_S128x1024_S1x128x1024_1_2 (truncf (F := Ideal) .bf16
      (transpose Cert.Reference11Ideal.S128x1024 [1, 0] (transpose Cert.Reference11Ideal.S1024x128 [1, 0]
        (Host.dotGeneral (F := Ideal) Cert.Reference11Ideal.dot_S8192x128_S8192x1024_S128x1024_0_0_1_1_n_n none a b)
        Cert.Reference11Ideal.Gen.transposes_S128x1024_S1024x128_1_0) Cert.Reference11Ideal.Gen.transposes_S1024x128_S128x1024_1_0) Cert.Reference11Ideal.Gen.bitsLt_bf16_f32)
    = grad a b := by
  funext y
  rw [eq_ix3 y]
  pointwise
  rfl

theorem ref_values (m' : (ℓ : Loc Cert.Reference11Ideal.nD Cert.Reference11Ideal.τ Cert.Reference11Ideal.sig) → Buf (Elt Ideal) ℓ) (ρ' : Dev Cert.Reference11Ideal.nD → PrngReg)
    (agree : ∀ c : Dev nD, m' ((c.tc : Thread Cert.Reference11Ideal.nD Cert.Reference11Ideal.τ).loc Cert.Reference11Ideal.main_arg0) = m ((c.tc : Thread nD τ).loc main_arg0)
      ∧ m' ((c.tc : Thread Cert.Reference11Ideal.nD Cert.Reference11Ideal.τ).loc Cert.Reference11Ideal.main_arg1) = m ((c.tc : Thread nD τ).loc main_arg1)) :
    θ_run Cert.Reference11Ideal.defs (onTc (τ := Cert.Reference11Ideal.τ) (Cert.Reference11Ideal.main (F := Ideal))) ⟨m', fun _ => 0, ρ'⟩ fun r => ∀ c : Dev Cert.Reference11Ideal.nD,
      r.2.mem ((c.tc : Thread Cert.Reference11Ideal.nD Cert.Reference11Ideal.τ).loc Cert.Reference11Ideal.main_v7) = grad (argA m c) (argB m c)
      ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1) :=
  (θ_run Cert.Reference11Ideal.defs _ _).mono (fun _ h c => ⟨(h c).1.trans ((ref_ix _ _).trans (congrArg₂ grad (agree c).1 (agree c).2)), (h c).2⟩)
    (Cert.Reference11Ideal.Value.run (F := Ideal) m' ρ')

/-! ## The claims -/

/-- The kernel, at the chip's own numbers, runs, leaves its arguments alone and its semaphores at zero. -/
theorem kernel_frame : Cert.quiescent_Kernel11 := fun m ρ _ => Cert.Kernel11.Gen.frame m ρ

/-- The same of the kernel at the ideal numbers. -/
theorem ideal_frame : Cert.quiescent_Kernel11Ideal := fun m ρ _ => Cert.Kernel11Ideal.Gen.frame m ρ

/-- The same of the reference. -/
theorem reference_frame : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

/-- The kernel and the reference end with the same gradient. -/
theorem same_gradient : Cert.algebraic_Kernel11Ideal_Reference11Ideal := fun m ρ m' ρ' _ agree =>
  ⟨fun c => grad (argA m c) (argB m c), run_values m ρ, ref_values m m' ρ' agree⟩

end Cert.Proof.GatesGrad

end
-- ==== Proof.lean ====
/-
  The claims, assembled.  The kernel's frame at the chip's own numbers is `KernelFrame.frame`; at the ideal numbers it comes from the
  run of `Run`, whose result arrays `Arrays` reads; the reference's run and its arrays are `RefRun` and `RefArrays`.  Both sides are the
  same gradients of the specification (`Spec`), which is the equality claimed.  The feed-forward block's pair is `FfnArrays`, the
  weight gradients' `WeightGrad`, the pair of the call with the loss `HeadArrays`,
  the mixer's projection's `MixIn`, the gradients of the mixer's two weights' `InGrad`, `GatesGrad` and `OutGrad`,
  the gradient of the delta rule's norm and gate `GateArrays`, the norm and gate themselves `GateFwd`, the output projection's `MixOut`.
-/
module

public import proofs.«01_k».proof.Defs
public import proofs.«01_k».proof.Proof.Gen.Kernel
public import proofs.«01_k».proof.Proof.KernelFrame
public import proofs.«01_k».proof.Proof.Gen.KernelIdeal
public import proofs.«01_k».proof.Proof.Run
public import proofs.«01_k».proof.Proof.Arrays
public import proofs.«01_k».proof.Proof.Gen.ReferenceIdeal
public import proofs.«01_k».proof.Proof.RefRun
public import proofs.«01_k».proof.Proof.RefArrays
public import proofs.«01_k».proof.Proof.Gen.Pre_all_finite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Pre_all_finite2
public import proofs.«01_k».proof.Proof.Gen.Kernel3
public import proofs.«01_k».proof.Proof.Gen.Kernel3Ideal
public import proofs.«01_k».proof.Proof.Gen.Reference3Ideal
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Gen.Pre_all_finite8
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Value
public import proofs.«01_k».proof.Proof.Gen.Reference11Ideal
public import proofs.«01_k».proof.Proof.Gen.Reference11Ideal.Run
public import proofs.«01_k».proof.Proof.WeightGrad
public import proofs.«01_k».proof.Proof.HeadArrays
public import proofs.«01_k».proof.Proof.MixIn
public import proofs.«01_k».proof.Proof.InGrad
public import proofs.«01_k».proof.Proof.OutGrad
public import proofs.«01_k».proof.Proof.GateArrays
public import proofs.«01_k».proof.Proof.GateFwd
public import proofs.«01_k».proof.Proof.MixOut
public import proofs.«01_k».proof.Proof.GatesGrad
public import proofs.«01_k».proof.Proof.FfnArrays
public import proofs.«01_k».proof.Proof.Finite
public import proofs.«01_k».proof.Proof.RefSide
public import Idealize.ShloMosaic.Adequacy
public import Idealize.ShloMosaic.Init
public import Idealize.ShloMosaic.Lib.Quiescent

@[expose] public section

noncomputable section

namespace Cert.Proof

open Idealize.ShloMosaic Idealize.SL.Sem

/-- The kernel, at the chip's own numbers, runs, leaves its arguments alone and its semaphores at zero. -/
theorem kernel_frame : Cert.quiescent_Kernel := fun m ρ _ => KernelFrame.frame m ρ

/-- The same of the kernel at the ideal numbers. -/
theorem ideal_frame : Cert.quiescent_KernelIdeal := fun m ρ _ =>
  θ_run_and (Cert.KernelIdeal.Gen.frame_of m ρ (Run.dats m) (Run.A_eq m) (Run.run_main m ρ))
    ((θ_run Cert.KernelIdeal.defs _ _).mono (fun _ h => h.2) (Run.run_quiescent m ρ))

/-- The same of the reference, which has no semaphore. -/
theorem reference_frame : Cert.quiescent_ReferenceIdeal := fun m ρ _ =>
  (θ_run Cert.ReferenceIdeal.defs _ _).mono
    (fun r h => ⟨fun c => (h c).2.2.2.2.2.2.2.2.2.2, sem_eq_zero_of_no_sems (by decide) r.2⟩)
    (Cert.ReferenceIdeal.Value.run (F := Ideal) m ρ)

open Cert.Proof.Arrays Cert.Proof.Loads in
/-- From finite arguments the kernel and the reference end with the same ten gradients. -/
theorem same_gradients : Cert.algebraic_KernelIdeal_ReferenceIdeal_pre_all_finite := by
  intro m ρ m' ρ' hpre hagree
  refine ⟨fun c => whole4 (argsOf m c) Spec.dvn false, fun c => whole4 (argsOf m c) Spec.dvn true, fun c => whole4 (argsOf m c) Spec.dw false, fun c => whole4 (argsOf m c) Spec.dw true, fun c => whole4 (argsOf m c) (fun T _ => Spec.dqg T) false, fun c => whole4 (argsOf m c) (fun T _ => Spec.dqg T) true, fun c => whole4 (argsOf m c) Spec.dkd false, fun c => whole4 (argsOf m c) Spec.dkd true, fun c => whole3 (argsOf m c) Spec.dgl false, fun c => whole3 (argsOf m c) Spec.dgl true,
    Arrays.run_values m ρ, ?_⟩
  exact RefArrays.run_values (argsOf m) (fun c => Finite.tameArgs _ (hpre c)) m' ρ' hagree

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Pre_all_finite.Gen.facts, Cert.Pre_all_finite2.Gen.facts, Cert.Pre_all_finite8.Gen.facts,
  kernel_frame, ideal_frame, fun m ρ _ => ideal_frame m ρ trivial, reference_frame, fun m ρ _ => reference_frame m ρ trivial,
  FfnArrays.kernel_frame, FfnArrays.ideal_frame, fun m ρ _ => FfnArrays.ideal_frame m ρ trivial,
  FfnArrays.reference_frame, fun m ρ _ => FfnArrays.reference_frame m ρ trivial,
  WeightGrad.kernel_frame, WeightGrad.ideal_frame, WeightGrad.reference_frame,
  HeadArrays.kernel_frame, HeadArrays.ideal_frame, HeadArrays.reference_frame,
  MixIn.kernel_frame, MixIn.ideal_frame, MixIn.reference_frame,
  InGrad.kernel_frame, InGrad.ideal_frame, InGrad.reference_frame,
  OutGrad.kernel_frame, OutGrad.ideal_frame, OutGrad.reference_frame,
  GateArrays.kernel_frame, GateArrays.ideal_frame, fun m ρ _ => GateArrays.ideal_frame m ρ trivial,
  GateArrays.reference_frame, fun m ρ _ => GateArrays.reference_frame m ρ trivial,
  GateFwd.kernel_frame, GateFwd.ideal_frame, GateFwd.reference_frame,
  MixOut.kernel_frame, MixOut.ideal_frame, MixOut.reference_frame,
  GatesGrad.kernel_frame, GatesGrad.ideal_frame, GatesGrad.reference_frame, trivial, same_gradients,
  trivial, FfnArrays.same_results, trivial, WeightGrad.same_gradient, trivial, HeadArrays.same_results,
  trivial, MixIn.same_results, trivial, InGrad.same_gradient, trivial, OutGrad.same_gradient, trivial, GateArrays.same_results,
  trivial, GateFwd.same_result, trivial, MixOut.same_result, trivial, GatesGrad.same_gradient⟩

end Cert.Proof

end
